-- ==== Defs.lean ====
def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInReferenceIdeal (m : (ℓ : Loc Cert.StepInReferenceIdeal.nD Cert.StepInReferenceIdeal.τ Cert.StepInReferenceIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutReferenceIdeal (m : (ℓ : Loc Cert.StepOutReferenceIdeal.nD Cert.StepOutReferenceIdeal.τ Cert.StepOutReferenceIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallReferenceIdeal (m : (ℓ : Loc Cert.StepSmallReferenceIdeal.nD Cert.StepSmallReferenceIdeal.τ Cert.StepSmallReferenceIdeal.sig) → Buf (Elt Ideal) ℓ) : Prop :=
  True

def Pre_FoldHeads (m : (ℓ : Loc Cert.FoldHeads.nD Cert.FoldHeads.τ Cert.FoldHeads.sig) → Buf (Elt Bits) ℓ) : Prop :=
  True

def Pre_FoldHeadsIdeal (m : (ℓ : Loc Cert.FoldHeadsIdeal.nD Cert.FoldHeadsIdeal.τ Cert.FoldHeadsIdeal.sig) → Buf (Elt Ideal) ℓ) : Prop :=
  True

def Pre_FoldHeadsReferenceIdeal (m : (ℓ : Loc Cert.FoldHeadsReferenceIdeal.nD Cert.FoldHeadsReferenceIdeal.τ Cert.FoldHeadsReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineIdeal_finite_lse [hPre_finite_lse : Cert.Pre_finite_lse.Facts] (m : (ℓ : Loc Cert.CombineIdeal.nD Cert.CombineIdeal.τ Cert.CombineIdeal.sig) → Buf (Elt Ideal) ℓ) : Prop :=
  ∀ c : Dev Cert.CombineIdeal.nD,
    (Cert.Pre_finite_lse.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)) (m ((c.tc : Thread Cert.CombineIdeal.nD Cert.CombineIdeal.τ).loc Cert.CombineIdeal.main_arg7)) (m ((c.tc : Thread Cert.CombineIdeal.nD Cert.CombineIdeal.τ).loc Cert.CombineIdeal.main_arg8)) (m ((c.tc : Thread Cert.CombineIdeal.nD Cert.CombineIdeal.τ).loc Cert.CombineIdeal.main_arg9)) (m ((c.tc : Thread Cert.CombineIdeal.nD Cert.CombineIdeal.τ).loc Cert.CombineIdeal.main_arg10)) (m ((c.tc : Thread Cert.CombineIdeal.nD Cert.CombineIdeal.τ).loc Cert.CombineIdeal.main_arg11)) (m ((c.tc : Thread Cert.CombineIdeal.nD Cert.CombineIdeal.τ).loc Cert.CombineIdeal.main_arg12)) (m ((c.tc : Thread Cert.CombineIdeal.nD Cert.CombineIdeal.τ).loc Cert.CombineIdeal.main_arg13))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_finite_lse [hPre_finite_lse : Cert.Pre_finite_lse.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_finite_lse.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4)) (m ((c.tc : Thread Cert.CombineReferenceIdeal.nD Cert.CombineReferenceIdeal.τ).loc Cert.CombineReferenceIdeal.main_arg5)) (m ((c.tc : Thread Cert.CombineReferenceIdeal.nD Cert.CombineReferenceIdeal.τ).loc Cert.CombineReferenceIdeal.main_arg6)) (m ((c.tc : Thread Cert.CombineReferenceIdeal.nD Cert.CombineReferenceIdeal.τ).loc Cert.CombineReferenceIdeal.main_arg7)) (m ((c.tc : Thread Cert.CombineReferenceIdeal.nD Cert.CombineReferenceIdeal.τ).loc Cert.CombineReferenceIdeal.main_arg8)) (m ((c.tc : Thread Cert.CombineReferenceIdeal.nD Cert.CombineReferenceIdeal.τ).loc Cert.CombineReferenceIdeal.main_arg9)) (m ((c.tc : Thread Cert.CombineReferenceIdeal.nD Cert.CombineReferenceIdeal.τ).loc Cert.CombineReferenceIdeal.main_arg10)) (m ((c.tc : Thread Cert.CombineReferenceIdeal.nD Cert.CombineReferenceIdeal.τ).loc Cert.CombineReferenceIdeal.main_arg11)) (m ((c.tc : Thread Cert.CombineReferenceIdeal.nD Cert.CombineReferenceIdeal.τ).loc Cert.CombineReferenceIdeal.main_arg12)) (m ((c.tc : Thread Cert.CombineReferenceIdeal.nD Cert.CombineReferenceIdeal.τ).loc Cert.CombineReferenceIdeal.main_arg13))) = (fun _ => 1#1)

def Pre_TotalLoss (m : (ℓ : Loc Cert.TotalLoss.nD Cert.TotalLoss.τ Cert.TotalLoss.sig) → Buf (Elt Bits) ℓ) : Prop :=
  True

def Pre_TotalLossIdeal (m : (ℓ : Loc Cert.TotalLossIdeal.nD Cert.TotalLossIdeal.τ Cert.TotalLossIdeal.sig) → Buf (Elt Ideal) ℓ) : Prop :=
  True

def Pre_TotalLossReferenceIdeal (m : (ℓ : Loc Cert.TotalLossReferenceIdeal.nD Cert.TotalLossReferenceIdeal.τ Cert.TotalLossReferenceIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInReferenceIdeal (m : (ℓ : Loc Cert.WgradInReferenceIdeal.nD Cert.WgradInReferenceIdeal.τ Cert.WgradInReferenceIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutReferenceIdeal (m : (ℓ : Loc Cert.WgradOutReferenceIdeal.nD Cert.WgradOutReferenceIdeal.τ Cert.WgradOutReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_heads [hPre_finite_heads : Cert.Pre_finite_heads.Facts] (m : (ℓ : Loc Cert.TailIdeal.nD Cert.TailIdeal.τ Cert.TailIdeal.sig) → Buf (Elt Ideal) ℓ) : Prop :=
  ∀ c : Dev Cert.TailIdeal.nD,
    (Cert.Pre_finite_heads.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14)) (m ((c.tc : Thread Cert.TailIdeal.nD Cert.TailIdeal.τ).loc Cert.TailIdeal.main_arg15)) (m ((c.tc : Thread Cert.TailIdeal.nD Cert.TailIdeal.τ).loc Cert.TailIdeal.main_arg16)) (m ((c.tc : Thread Cert.TailIdeal.nD Cert.TailIdeal.τ).loc Cert.TailIdeal.main_arg17)) (m ((c.tc : Thread Cert.TailIdeal.nD Cert.TailIdeal.τ).loc Cert.TailIdeal.main_arg18)) (m ((c.tc : Thread Cert.TailIdeal.nD Cert.TailIdeal.τ).loc Cert.TailIdeal.main_arg19))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_finite_heads [hPre_finite_heads : Cert.Pre_finite_heads.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite_heads.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11)) (m ((c.tc : Thread Cert.TailReferenceIdeal.nD Cert.TailReferenceIdeal.τ).loc Cert.TailReferenceIdeal.main_arg12)) (m ((c.tc : Thread Cert.TailReferenceIdeal.nD Cert.TailReferenceIdeal.τ).loc Cert.TailReferenceIdeal.main_arg13)) (m ((c.tc : Thread Cert.TailReferenceIdeal.nD Cert.TailReferenceIdeal.τ).loc Cert.TailReferenceIdeal.main_arg14)) (m ((c.tc : Thread Cert.TailReferenceIdeal.nD Cert.TailReferenceIdeal.τ).loc Cert.TailReferenceIdeal.main_arg15)) (m ((c.tc : Thread Cert.TailReferenceIdeal.nD Cert.TailReferenceIdeal.τ).loc Cert.TailReferenceIdeal.main_arg16)) (m ((c.tc : Thread Cert.TailReferenceIdeal.nD Cert.TailReferenceIdeal.τ).loc Cert.TailReferenceIdeal.main_arg17)) (m ((c.tc : Thread Cert.TailReferenceIdeal.nD Cert.TailReferenceIdeal.τ).loc Cert.TailReferenceIdeal.main_arg18)) (m ((c.tc : Thread Cert.TailReferenceIdeal.nD Cert.TailReferenceIdeal.τ).loc Cert.TailReferenceIdeal.main_arg19))) = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_bucket_tables [hPre_bucket_tables : Cert.Pre_bucket_tables.Facts] (m : (ℓ : Loc Cert.BiasIdeal.nD Cert.BiasIdeal.τ Cert.BiasIdeal.sig) → Buf (Elt Ideal) ℓ) : Prop :=
  ∀ c : Dev Cert.BiasIdeal.nD,
    (Cert.Pre_bucket_tables.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1))).1 = (fun _ => 1#1)
    ∧ (Cert.Pre_bucket_tables.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1))).2 = (fun _ => 1#1)

def Pre_BiasReferenceIdeal (m : (ℓ : Loc Cert.BiasReferenceIdeal.nD Cert.BiasReferenceIdeal.τ Cert.BiasReferenceIdeal.sig) → Buf (Elt Ideal) ℓ) : Prop :=
  True

def Pre_BiasReferenceIdeal_bucket_tables [hPre_bucket_tables : Cert.Pre_bucket_tables.Facts] (m : (ℓ : Loc Cert.BiasReferenceIdeal.nD Cert.BiasReferenceIdeal.τ Cert.BiasReferenceIdeal.sig) → Buf (Elt Ideal) ℓ) : Prop :=
  ∀ c : Dev Cert.BiasReferenceIdeal.nD,
    (Cert.Pre_bucket_tables.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1))).1 = (fun _ => 1#1)
    ∧ (Cert.Pre_bucket_tables.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_raw [hPre_finite_raw : Cert.Pre_finite_raw.Facts] (m : (ℓ : Loc Cert.ProjIdeal.nD Cert.ProjIdeal.τ Cert.ProjIdeal.sig) → Buf (Elt Ideal) ℓ) : Prop :=
  ∀ c : Dev Cert.ProjIdeal.nD,
    (Cert.Pre_finite_raw.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_raw [hPre_finite_raw : Cert.Pre_finite_raw.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_raw.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3))) = (fun _ => 1#1)

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1Ideal_band_tables [hPre_band_tables : Cert.Pre_band_tables.Facts] (m : (ℓ : Loc Cert.Attn1Ideal.nD Cert.Attn1Ideal.τ Cert.Attn1Ideal.sig) → Buf (Elt Ideal) ℓ) : Prop :=
  ∀ c : Dev Cert.Attn1Ideal.nD,
    (Cert.Pre_band_tables.fn (F := Ideal) (m ((c.tc : Thread Cert.Attn1Ideal.nD Cert.Attn1Ideal.τ).loc Cert.Attn1Ideal.main_arg0)) (m ((c.tc : Thread Cert.Attn1Ideal.nD Cert.Attn1Ideal.τ).loc Cert.Attn1Ideal.main_arg1)) (m ((c.tc : Thread Cert.Attn1Ideal.nD Cert.Attn1Ideal.τ).loc Cert.Attn1Ideal.main_arg2)) (m ((c.tc : Thread Cert.Attn1Ideal.nD Cert.Attn1Ideal.τ).loc Cert.Attn1Ideal.main_arg3))) = (fun _ => 1#1)

def Pre_Attn1ReferenceIdeal (m : (ℓ : Loc Cert.Attn1ReferenceIdeal.nD Cert.Attn1ReferenceIdeal.τ Cert.Attn1ReferenceIdeal.sig) → Buf (Elt Ideal) ℓ) : Prop :=
  True

def Pre_Attn1ReferenceIdeal_band_tables [hPre_band_tables : Cert.Pre_band_tables.Facts] (m : (ℓ : Loc Cert.Attn1ReferenceIdeal.nD Cert.Attn1ReferenceIdeal.τ Cert.Attn1ReferenceIdeal.sig) → Buf (Elt Ideal) ℓ) : Prop :=
  ∀ c : Dev Cert.Attn1ReferenceIdeal.nD,
    (Cert.Pre_band_tables.fn (F := Ideal) (m ((c.tc : Thread Cert.Attn1ReferenceIdeal.nD Cert.Attn1ReferenceIdeal.τ).loc Cert.Attn1ReferenceIdeal.main_arg0)) (m ((c.tc : Thread Cert.Attn1ReferenceIdeal.nD Cert.Attn1ReferenceIdeal.τ).loc Cert.Attn1ReferenceIdeal.main_arg1)) (m ((c.tc : Thread Cert.Attn1ReferenceIdeal.nD Cert.Attn1ReferenceIdeal.τ).loc Cert.Attn1ReferenceIdeal.main_arg2)) (m ((c.tc : Thread Cert.Attn1ReferenceIdeal.nD Cert.Attn1ReferenceIdeal.τ).loc Cert.Attn1ReferenceIdeal.main_arg3))) = (fun _ => 1#1)

def Pre_Attn4 (m : (ℓ : Loc Cert.Attn4.nD Cert.Attn4.τ Cert.Attn4.sig) → Buf (Elt Bits) ℓ) : Prop :=
  True

def Pre_Attn4Ideal (m : (ℓ : Loc Cert.Attn4Ideal.nD Cert.Attn4Ideal.τ Cert.Attn4Ideal.sig) → Buf (Elt Ideal) ℓ) : Prop :=
  True

def Pre_Attn4Ideal_band_tables_d4 [hPre_band_tables_d4 : Cert.Pre_band_tables_d4.Facts] (m : (ℓ : Loc Cert.Attn4Ideal.nD Cert.Attn4Ideal.τ Cert.Attn4Ideal.sig) → Buf (Elt Ideal) ℓ) : Prop :=
  ∀ c : Dev Cert.Attn4Ideal.nD,
    (Cert.Pre_band_tables_d4.fn (F := Ideal) (m ((c.tc : Thread Cert.Attn4Ideal.nD Cert.Attn4Ideal.τ).loc Cert.Attn4Ideal.main_arg0)) (m ((c.tc : Thread Cert.Attn4Ideal.nD Cert.Attn4Ideal.τ).loc Cert.Attn4Ideal.main_arg1)) (m ((c.tc : Thread Cert.Attn4Ideal.nD Cert.Attn4Ideal.τ).loc Cert.Attn4Ideal.main_arg2)) (m ((c.tc : Thread Cert.Attn4Ideal.nD Cert.Attn4Ideal.τ).loc Cert.Attn4Ideal.main_arg3))) = (fun _ => 1#1)

def Pre_Attn4ReferenceIdeal (m : (ℓ : Loc Cert.Attn4ReferenceIdeal.nD Cert.Attn4ReferenceIdeal.τ Cert.Attn4ReferenceIdeal.sig) → Buf (Elt Ideal) ℓ) : Prop :=
  True

def Pre_Attn4ReferenceIdeal_band_tables_d4 [hPre_band_tables_d4 : Cert.Pre_band_tables_d4.Facts] (m : (ℓ : Loc Cert.Attn4ReferenceIdeal.nD Cert.Attn4ReferenceIdeal.τ Cert.Attn4ReferenceIdeal.sig) → Buf (Elt Ideal) ℓ) : Prop :=
  ∀ c : Dev Cert.Attn4ReferenceIdeal.nD,
    (Cert.Pre_band_tables_d4.fn (F := Ideal) (m ((c.tc : Thread Cert.Attn4ReferenceIdeal.nD Cert.Attn4ReferenceIdeal.τ).loc Cert.Attn4ReferenceIdeal.main_arg0)) (m ((c.tc : Thread Cert.Attn4ReferenceIdeal.nD Cert.Attn4ReferenceIdeal.τ).loc Cert.Attn4ReferenceIdeal.main_arg1)) (m ((c.tc : Thread Cert.Attn4ReferenceIdeal.nD Cert.Attn4ReferenceIdeal.τ).loc Cert.Attn4ReferenceIdeal.main_arg2)) (m ((c.tc : Thread Cert.Attn4ReferenceIdeal.nD Cert.Attn4ReferenceIdeal.τ).loc Cert.Attn4ReferenceIdeal.main_arg3))) = (fun _ => 1#1)

def Pre_Attn16 (m : (ℓ : Loc Cert.Attn16.nD Cert.Attn16.τ Cert.Attn16.sig) → Buf (Elt Bits) ℓ) : Prop :=
  True

def Pre_Attn16Ideal (m : (ℓ : Loc Cert.Attn16Ideal.nD Cert.Attn16Ideal.τ Cert.Attn16Ideal.sig) → Buf (Elt Ideal) ℓ) : Prop :=
  True

def Pre_Attn16Ideal_band_tables_d16 [hPre_band_tables_d16 : Cert.Pre_band_tables_d16.Facts] (m : (ℓ : Loc Cert.Attn16Ideal.nD Cert.Attn16Ideal.τ Cert.Attn16Ideal.sig) → Buf (Elt Ideal) ℓ) : Prop :=
  ∀ c : Dev Cert.Attn16Ideal.nD,
    (Cert.Pre_band_tables_d16.fn (F := Ideal) (m ((c.tc : Thread Cert.Attn16Ideal.nD Cert.Attn16Ideal.τ).loc Cert.Attn16Ideal.main_arg0)) (m ((c.tc : Thread Cert.Attn16Ideal.nD Cert.Attn16Ideal.τ).loc Cert.Attn16Ideal.main_arg1)) (m ((c.tc : Thread Cert.Attn16Ideal.nD Cert.Attn16Ideal.τ).loc Cert.Attn16Ideal.main_arg2)) (m ((c.tc : Thread Cert.Attn16Ideal.nD Cert.Attn16Ideal.τ).loc Cert.Attn16Ideal.main_arg3))) = (fun _ => 1#1)

def Pre_Attn16ReferenceIdeal (m : (ℓ : Loc Cert.Attn16ReferenceIdeal.nD Cert.Attn16ReferenceIdeal.τ Cert.Attn16ReferenceIdeal.sig) → Buf (Elt Ideal) ℓ) : Prop :=
  True

def Pre_Attn16ReferenceIdeal_band_tables_d16 [hPre_band_tables_d16 : Cert.Pre_band_tables_d16.Facts] (m : (ℓ : Loc Cert.Attn16ReferenceIdeal.nD Cert.Attn16ReferenceIdeal.τ Cert.Attn16ReferenceIdeal.sig) → Buf (Elt Ideal) ℓ) : Prop :=
  ∀ c : Dev Cert.Attn16ReferenceIdeal.nD,
    (Cert.Pre_band_tables_d16.fn (F := Ideal) (m ((c.tc : Thread Cert.Attn16ReferenceIdeal.nD Cert.Attn16ReferenceIdeal.τ).loc Cert.Attn16ReferenceIdeal.main_arg0)) (m ((c.tc : Thread Cert.Attn16ReferenceIdeal.nD Cert.Attn16ReferenceIdeal.τ).loc Cert.Attn16ReferenceIdeal.main_arg1)) (m ((c.tc : Thread Cert.Attn16ReferenceIdeal.nD Cert.Attn16ReferenceIdeal.τ).loc Cert.Attn16ReferenceIdeal.main_arg2)) (m ((c.tc : Thread Cert.Attn16ReferenceIdeal.nD Cert.Attn16ReferenceIdeal.τ).loc Cert.Attn16ReferenceIdeal.main_arg3))) = (fun _ => 1#1)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInReferenceIdeal [hStepInReferenceIdeal : Cert.StepInReferenceIdeal.Facts] : Prop :=
  ∀ (m : (ℓ : Loc Cert.StepInReferenceIdeal.nD Cert.StepInReferenceIdeal.τ Cert.StepInReferenceIdeal.sig) → Buf (Elt Ideal) ℓ) (g : Dev Cert.StepInReferenceIdeal.nD → PrngReg), Pre_StepInReferenceIdeal m →
    θ_run (Cert.StepInReferenceIdeal.defs (F := Ideal)) (onTc (τ := Cert.StepInReferenceIdeal.τ) (Cert.StepInReferenceIdeal.main (F := Ideal))) ⟨m, fun _ => 0, g⟩ (fun r => (∀ c : Dev Cert.StepInReferenceIdeal.nD,
      r.2.mem ((c.tc : Thread Cert.StepInReferenceIdeal.nD Cert.StepInReferenceIdeal.τ).loc Cert.StepInReferenceIdeal.main_arg0) = m ((c.tc : Thread Cert.StepInReferenceIdeal.nD Cert.StepInReferenceIdeal.τ).loc Cert.StepInReferenceIdeal.main_arg0)
      ∧ r.2.mem ((c.tc : Thread Cert.StepInReferenceIdeal.nD Cert.StepInReferenceIdeal.τ).loc Cert.StepInReferenceIdeal.main_arg1) = m ((c.tc : Thread Cert.StepInReferenceIdeal.nD Cert.StepInReferenceIdeal.τ).loc Cert.StepInReferenceIdeal.main_arg1)
      ∧ r.2.mem ((c.tc : Thread Cert.StepInReferenceIdeal.nD Cert.StepInReferenceIdeal.τ).loc Cert.StepInReferenceIdeal.main_arg2) = m ((c.tc : Thread Cert.StepInReferenceIdeal.nD Cert.StepInReferenceIdeal.τ).loc Cert.StepInReferenceIdeal.main_arg2)
      ∧ r.2.mem ((c.tc : Thread Cert.StepInReferenceIdeal.nD Cert.StepInReferenceIdeal.τ).loc Cert.StepInReferenceIdeal.main_arg3) = m ((c.tc : Thread Cert.StepInReferenceIdeal.nD Cert.StepInReferenceIdeal.τ).loc Cert.StepInReferenceIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_StepSmallReferenceIdeal [hStepSmallReferenceIdeal : Cert.StepSmallReferenceIdeal.Facts] : Prop :=
  ∀ (m : (ℓ : Loc Cert.StepSmallReferenceIdeal.nD Cert.StepSmallReferenceIdeal.τ Cert.StepSmallReferenceIdeal.sig) → Buf (Elt Ideal) ℓ) (g : Dev Cert.StepSmallReferenceIdeal.nD → PrngReg), Pre_StepSmallReferenceIdeal m →
    θ_run (Cert.StepSmallReferenceIdeal.defs (F := Ideal)) (onTc (τ := Cert.StepSmallReferenceIdeal.τ) (Cert.StepSmallReferenceIdeal.main (F := Ideal))) ⟨m, fun _ => 0, g⟩ (fun r => (∀ c : Dev Cert.StepSmallReferenceIdeal.nD,
      r.2.mem ((c.tc : Thread Cert.StepSmallReferenceIdeal.nD Cert.StepSmallReferenceIdeal.τ).loc Cert.StepSmallReferenceIdeal.main_arg0) = m ((c.tc : Thread Cert.StepSmallReferenceIdeal.nD Cert.StepSmallReferenceIdeal.τ).loc Cert.StepSmallReferenceIdeal.main_arg0)
      ∧ r.2.mem ((c.tc : Thread Cert.StepSmallReferenceIdeal.nD Cert.StepSmallReferenceIdeal.τ).loc Cert.StepSmallReferenceIdeal.main_arg1) = m ((c.tc : Thread Cert.StepSmallReferenceIdeal.nD Cert.StepSmallReferenceIdeal.τ).loc Cert.StepSmallReferenceIdeal.main_arg1)
      ∧ r.2.mem ((c.tc : Thread Cert.StepSmallReferenceIdeal.nD Cert.StepSmallReferenceIdeal.τ).loc Cert.StepSmallReferenceIdeal.main_arg2) = m ((c.tc : Thread Cert.StepSmallReferenceIdeal.nD Cert.StepSmallReferenceIdeal.τ).loc Cert.StepSmallReferenceIdeal.main_arg2)
      ∧ r.2.mem ((c.tc : Thread Cert.StepSmallReferenceIdeal.nD Cert.StepSmallReferenceIdeal.τ).loc Cert.StepSmallReferenceIdeal.main_arg3) = m ((c.tc : Thread Cert.StepSmallReferenceIdeal.nD Cert.StepSmallReferenceIdeal.τ).loc Cert.StepSmallReferenceIdeal.main_arg3))
      ∧ r.2.sem = fun _ => 0)

def quiescent_FoldHeads [hFoldHeads : Cert.FoldHeads.Facts] : Prop :=
  ∀ (m : (ℓ : Loc Cert.FoldHeads.nD Cert.FoldHeads.τ Cert.FoldHeads.sig) → Buf (Elt Bits) ℓ) (g : Dev Cert.FoldHeads.nD → PrngReg), Pre_FoldHeads m →
    θ_run (Cert.FoldHeads.defs (F := Bits)) (onTc (τ := Cert.FoldHeads.τ) (Cert.FoldHeads.main (F := Bits))) ⟨m, fun _ => 0, g⟩ (fun r => (∀ c : Dev Cert.FoldHeads.nD,
      r.2.mem ((c.tc : Thread Cert.FoldHeads.nD Cert.FoldHeads.τ).loc Cert.FoldHeads.main_arg0) = m ((c.tc : Thread Cert.FoldHeads.nD Cert.FoldHeads.τ).loc Cert.FoldHeads.main_arg0))
      ∧ r.2.sem = fun _ => 0)

def quiescent_FoldHeadsIdeal [hFoldHeadsIdeal : Cert.FoldHeadsIdeal.Facts] : Prop :=
  ∀ (m : (ℓ : Loc Cert.FoldHeadsIdeal.nD Cert.FoldHeadsIdeal.τ Cert.FoldHeadsIdeal.sig) → Buf (Elt Ideal) ℓ) (g : Dev Cert.FoldHeadsIdeal.nD → PrngReg), Pre_FoldHeadsIdeal m →
    θ_run (Cert.FoldHeadsIdeal.defs (F := Ideal)) (onTc (τ := Cert.FoldHeadsIdeal.τ) (Cert.FoldHeadsIdeal.main (F := Ideal))) ⟨m, fun _ => 0, g⟩ (fun r => (∀ c : Dev Cert.FoldHeadsIdeal.nD,
      r.2.mem ((c.tc : Thread Cert.FoldHeadsIdeal.nD Cert.FoldHeadsIdeal.τ).loc Cert.FoldHeadsIdeal.main_arg0) = m ((c.tc : Thread Cert.FoldHeadsIdeal.nD Cert.FoldHeadsIdeal.τ).loc Cert.FoldHeadsIdeal.main_arg0))
      ∧ r.2.sem = fun _ => 0)

def quiescent_FoldHeadsReferenceIdeal [hFoldHeadsReferenceIdeal : Cert.FoldHeadsReferenceIdeal.Facts] : Prop :=
  ∀ (m : (ℓ : Loc Cert.FoldHeadsReferenceIdeal.nD Cert.FoldHeadsReferenceIdeal.τ Cert.FoldHeadsReferenceIdeal.sig) → Buf (Elt Ideal) ℓ) (g : Dev Cert.FoldHeadsReferenceIdeal.nD → PrngReg), Pre_FoldHeadsReferenceIdeal m →
    θ_run (Cert.FoldHeadsReferenceIdeal.defs (F := Ideal)) (onTc (τ := Cert.FoldHeadsReferenceIdeal.τ) (Cert.FoldHeadsReferenceIdeal.main (F := Ideal))) ⟨m, fun _ => 0, g⟩ (fun r => (∀ c : Dev Cert.FoldHeadsReferenceIdeal.nD,
      r.2.mem ((c.tc : Thread Cert.FoldHeadsReferenceIdeal.nD Cert.FoldHeadsReferenceIdeal.τ).loc Cert.FoldHeadsReferenceIdeal.main_arg0) = m ((c.tc : Thread Cert.FoldHeadsReferenceIdeal.nD Cert.FoldHeadsReferenceIdeal.τ).loc Cert.FoldHeadsReferenceIdeal.main_arg0))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9)
      ∧ r.2.mem ((c.tc : Thread Cert.Combine.nD Cert.Combine.τ).loc Cert.Combine.main_arg10) = m ((c.tc : Thread Cert.Combine.nD Cert.Combine.τ).loc Cert.Combine.main_arg10)
      ∧ r.2.mem ((c.tc : Thread Cert.Combine.nD Cert.Combine.τ).loc Cert.Combine.main_arg11) = m ((c.tc : Thread Cert.Combine.nD Cert.Combine.τ).loc Cert.Combine.main_arg11)
      ∧ r.2.mem ((c.tc : Thread Cert.Combine.nD Cert.Combine.τ).loc Cert.Combine.main_arg12) = m ((c.tc : Thread Cert.Combine.nD Cert.Combine.τ).loc Cert.Combine.main_arg12)
      ∧ r.2.mem ((c.tc : Thread Cert.Combine.nD Cert.Combine.τ).loc Cert.Combine.main_arg13) = m ((c.tc : Thread Cert.Combine.nD Cert.Combine.τ).loc Cert.Combine.main_arg13))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
      ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10)
      ∧ r.2.mem ((c.tc : Thread Cert.CombineIdeal.nD Cert.CombineIdeal.τ).loc Cert.CombineIdeal.main_arg11) = m ((c.tc : Thread Cert.CombineIdeal.nD Cert.CombineIdeal.τ).loc Cert.CombineIdeal.main_arg11)
      ∧ r.2.mem ((c.tc : Thread Cert.CombineIdeal.nD Cert.CombineIdeal.τ).loc Cert.CombineIdeal.main_arg12) = m ((c.tc : Thread Cert.CombineIdeal.nD Cert.CombineIdeal.τ).loc Cert.CombineIdeal.main_arg12)
      ∧ r.2.mem ((c.tc : Thread Cert.CombineIdeal.nD Cert.CombineIdeal.τ).loc Cert.CombineIdeal.main_arg13) = m ((c.tc : Thread Cert.CombineIdeal.nD Cert.CombineIdeal.τ).loc Cert.CombineIdeal.main_arg13))
      ∧ r.2.sem = fun _ => 0)

def quiescent_CombineIdeal_pre_finite_lse [hCombineIdeal : Cert.CombineIdeal.Facts] [hPre_finite_lse : Cert.Pre_finite_lse.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_finite_lse m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
      ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10)
      ∧ r.2.mem ((c.tc : Thread Cert.CombineIdeal.nD Cert.CombineIdeal.τ).loc Cert.CombineIdeal.main_arg11) = m ((c.tc : Thread Cert.CombineIdeal.nD Cert.CombineIdeal.τ).loc Cert.CombineIdeal.main_arg11)
      ∧ r.2.mem ((c.tc : Thread Cert.CombineIdeal.nD Cert.CombineIdeal.τ).loc Cert.CombineIdeal.main_arg12) = m ((c.tc : Thread Cert.CombineIdeal.nD Cert.CombineIdeal.τ).loc Cert.CombineIdeal.main_arg12)
      ∧ r.2.mem ((c.tc : Thread Cert.CombineIdeal.nD Cert.CombineIdeal.τ).loc Cert.CombineIdeal.main_arg13) = m ((c.tc : Thread Cert.CombineIdeal.nD Cert.CombineIdeal.τ).loc Cert.CombineIdeal.main_arg13))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8)
      ∧ r.2.mem ((c.tc : Thread Cert.CombineReferenceIdeal.nD Cert.CombineReferenceIdeal.τ).loc Cert.CombineReferenceIdeal.main_arg9) = m ((c.tc : Thread Cert.CombineReferenceIdeal.nD Cert.CombineReferenceIdeal.τ).loc Cert.CombineReferenceIdeal.main_arg9)
      ∧ r.2.mem ((c.tc : Thread Cert.CombineReferenceIdeal.nD Cert.CombineReferenceIdeal.τ).loc Cert.CombineReferenceIdeal.main_arg10) = m ((c.tc : Thread Cert.CombineReferenceIdeal.nD Cert.CombineReferenceIdeal.τ).loc Cert.CombineReferenceIdeal.main_arg10)
      ∧ r.2.mem ((c.tc : Thread Cert.CombineReferenceIdeal.nD Cert.CombineReferenceIdeal.τ).loc Cert.CombineReferenceIdeal.main_arg11) = m ((c.tc : Thread Cert.CombineReferenceIdeal.nD Cert.CombineReferenceIdeal.τ).loc Cert.CombineReferenceIdeal.main_arg11)
      ∧ r.2.mem ((c.tc : Thread Cert.CombineReferenceIdeal.nD Cert.CombineReferenceIdeal.τ).loc Cert.CombineReferenceIdeal.main_arg12) = m ((c.tc : Thread Cert.CombineReferenceIdeal.nD Cert.CombineReferenceIdeal.τ).loc Cert.CombineReferenceIdeal.main_arg12)
      ∧ r.2.mem ((c.tc : Thread Cert.CombineReferenceIdeal.nD Cert.CombineReferenceIdeal.τ).loc Cert.CombineReferenceIdeal.main_arg13) = m ((c.tc : Thread Cert.CombineReferenceIdeal.nD Cert.CombineReferenceIdeal.τ).loc Cert.CombineReferenceIdeal.main_arg13))
      ∧ r.2.sem = fun _ => 0)

def quiescent_CombineReferenceIdeal_pre_finite_lse [hCombineReferenceIdeal : Cert.CombineReferenceIdeal.Facts] [hPre_finite_lse : Cert.Pre_finite_lse.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_finite_lse m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8)
      ∧ r.2.mem ((c.tc : Thread Cert.CombineReferenceIdeal.nD Cert.CombineReferenceIdeal.τ).loc Cert.CombineReferenceIdeal.main_arg9) = m ((c.tc : Thread Cert.CombineReferenceIdeal.nD Cert.CombineReferenceIdeal.τ).loc Cert.CombineReferenceIdeal.main_arg9)
      ∧ r.2.mem ((c.tc : Thread Cert.CombineReferenceIdeal.nD Cert.CombineReferenceIdeal.τ).loc Cert.CombineReferenceIdeal.main_arg10) = m ((c.tc : Thread Cert.CombineReferenceIdeal.nD Cert.CombineReferenceIdeal.τ).loc Cert.CombineReferenceIdeal.main_arg10)
      ∧ r.2.mem ((c.tc : Thread Cert.CombineReferenceIdeal.nD Cert.CombineReferenceIdeal.τ).loc Cert.CombineReferenceIdeal.main_arg11) = m ((c.tc : Thread Cert.CombineReferenceIdeal.nD Cert.CombineReferenceIdeal.τ).loc Cert.CombineReferenceIdeal.main_arg11)
      ∧ r.2.mem ((c.tc : Thread Cert.CombineReferenceIdeal.nD Cert.CombineReferenceIdeal.τ).loc Cert.CombineReferenceIdeal.main_arg12) = m ((c.tc : Thread Cert.CombineReferenceIdeal.nD Cert.CombineReferenceIdeal.τ).loc Cert.CombineReferenceIdeal.main_arg12)
      ∧ r.2.mem ((c.tc : Thread Cert.CombineReferenceIdeal.nD Cert.CombineReferenceIdeal.τ).loc Cert.CombineReferenceIdeal.main_arg13) = m ((c.tc : Thread Cert.CombineReferenceIdeal.nD Cert.CombineReferenceIdeal.τ).loc Cert.CombineReferenceIdeal.main_arg13))
      ∧ r.2.sem = fun _ => 0)

def quiescent_TotalLoss [hTotalLoss : Cert.TotalLoss.Facts] : Prop :=
  ∀ (m : (ℓ : Loc Cert.TotalLoss.nD Cert.TotalLoss.τ Cert.TotalLoss.sig) → Buf (Elt Bits) ℓ) (g : Dev Cert.TotalLoss.nD → PrngReg), Pre_TotalLoss m →
    θ_run (Cert.TotalLoss.defs (F := Bits)) (onTc (τ := Cert.TotalLoss.τ) (Cert.TotalLoss.main (F := Bits))) ⟨m, fun _ => 0, g⟩ (fun r => (∀ c : Dev Cert.TotalLoss.nD,
      r.2.mem ((c.tc : Thread Cert.TotalLoss.nD Cert.TotalLoss.τ).loc Cert.TotalLoss.main_arg0) = m ((c.tc : Thread Cert.TotalLoss.nD Cert.TotalLoss.τ).loc Cert.TotalLoss.main_arg0))
      ∧ r.2.sem = fun _ => 0)

def quiescent_TotalLossIdeal [hTotalLossIdeal : Cert.TotalLossIdeal.Facts] : Prop :=
  ∀ (m : (ℓ : Loc Cert.TotalLossIdeal.nD Cert.TotalLossIdeal.τ Cert.TotalLossIdeal.sig) → Buf (Elt Ideal) ℓ) (g : Dev Cert.TotalLossIdeal.nD → PrngReg), Pre_TotalLossIdeal m →
    θ_run (Cert.TotalLossIdeal.defs (F := Ideal)) (onTc (τ := Cert.TotalLossIdeal.τ) (Cert.TotalLossIdeal.main (F := Ideal))) ⟨m, fun _ => 0, g⟩ (fun r => (∀ c : Dev Cert.TotalLossIdeal.nD,
      r.2.mem ((c.tc : Thread Cert.TotalLossIdeal.nD Cert.TotalLossIdeal.τ).loc Cert.TotalLossIdeal.main_arg0) = m ((c.tc : Thread Cert.TotalLossIdeal.nD Cert.TotalLossIdeal.τ).loc Cert.TotalLossIdeal.main_arg0))
      ∧ r.2.sem = fun _ => 0)

def quiescent_TotalLossReferenceIdeal [hTotalLossReferenceIdeal : Cert.TotalLossReferenceIdeal.Facts] : Prop :=
  ∀ (m : (ℓ : Loc Cert.TotalLossReferenceIdeal.nD Cert.TotalLossReferenceIdeal.τ Cert.TotalLossReferenceIdeal.sig) → Buf (Elt Ideal) ℓ) (g : Dev Cert.TotalLossReferenceIdeal.nD → PrngReg), Pre_TotalLossReferenceIdeal m →
    θ_run (Cert.TotalLossReferenceIdeal.defs (F := Ideal)) (onTc (τ := Cert.TotalLossReferenceIdeal.τ) (Cert.TotalLossReferenceIdeal.main (F := Ideal))) ⟨m, fun _ => 0, g⟩ (fun r => (∀ c : Dev Cert.TotalLossReferenceIdeal.nD,
      r.2.mem ((c.tc : Thread Cert.TotalLossReferenceIdeal.nD Cert.TotalLossReferenceIdeal.τ).loc Cert.TotalLossReferenceIdeal.main_arg0) = m ((c.tc : Thread Cert.TotalLossReferenceIdeal.nD Cert.TotalLossReferenceIdeal.τ).loc Cert.TotalLossReferenceIdeal.main_arg0))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ r.2.sem = fun _ => 0)

def quiescent_WgradInReferenceIdeal [hWgradInReferenceIdeal : Cert.WgradInReferenceIdeal.Facts] : Prop :=
  ∀ (m : (ℓ : Loc Cert.WgradInReferenceIdeal.nD Cert.WgradInReferenceIdeal.τ Cert.WgradInReferenceIdeal.sig) → Buf (Elt Ideal) ℓ) (g : Dev Cert.WgradInReferenceIdeal.nD → PrngReg), Pre_WgradInReferenceIdeal m →
    θ_run (Cert.WgradInReferenceIdeal.defs (F := Ideal)) (onTc (τ := Cert.WgradInReferenceIdeal.τ) (Cert.WgradInReferenceIdeal.main (F := Ideal))) ⟨m, fun _ => 0, g⟩ (fun r => (∀ c : Dev Cert.WgradInReferenceIdeal.nD,
      r.2.mem ((c.tc : Thread Cert.WgradInReferenceIdeal.nD Cert.WgradInReferenceIdeal.τ).loc Cert.WgradInReferenceIdeal.main_arg0) = m ((c.tc : Thread Cert.WgradInReferenceIdeal.nD Cert.WgradInReferenceIdeal.τ).loc Cert.WgradInReferenceIdeal.main_arg0)
      ∧ r.2.mem ((c.tc : Thread Cert.WgradInReferenceIdeal.nD Cert.WgradInReferenceIdeal.τ).loc Cert.WgradInReferenceIdeal.main_arg1) = m ((c.tc : Thread Cert.WgradInReferenceIdeal.nD Cert.WgradInReferenceIdeal.τ).loc Cert.WgradInReferenceIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutReferenceIdeal [hWgradOutReferenceIdeal : Cert.WgradOutReferenceIdeal.Facts] : Prop :=
  ∀ (m : (ℓ : Loc Cert.WgradOutReferenceIdeal.nD Cert.WgradOutReferenceIdeal.τ Cert.WgradOutReferenceIdeal.sig) → Buf (Elt Ideal) ℓ) (g : Dev Cert.WgradOutReferenceIdeal.nD → PrngReg), Pre_WgradOutReferenceIdeal m →
    θ_run (Cert.WgradOutReferenceIdeal.defs (F := Ideal)) (onTc (τ := Cert.WgradOutReferenceIdeal.τ) (Cert.WgradOutReferenceIdeal.main (F := Ideal))) ⟨m, fun _ => 0, g⟩ (fun r => (∀ c : Dev Cert.WgradOutReferenceIdeal.nD,
      r.2.mem ((c.tc : Thread Cert.WgradOutReferenceIdeal.nD Cert.WgradOutReferenceIdeal.τ).loc Cert.WgradOutReferenceIdeal.main_arg0) = m ((c.tc : Thread Cert.WgradOutReferenceIdeal.nD Cert.WgradOutReferenceIdeal.τ).loc Cert.WgradOutReferenceIdeal.main_arg0)
      ∧ r.2.mem ((c.tc : Thread Cert.WgradOutReferenceIdeal.nD Cert.WgradOutReferenceIdeal.τ).loc Cert.WgradOutReferenceIdeal.main_arg1) = m ((c.tc : Thread Cert.WgradOutReferenceIdeal.nD Cert.WgradOutReferenceIdeal.τ).loc Cert.WgradOutReferenceIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18)
      ∧ r.2.mem ((c.tc : Thread Cert.Tail.nD Cert.Tail.τ).loc Cert.Tail.main_arg19) = m ((c.tc : Thread Cert.Tail.nD Cert.Tail.τ).loc Cert.Tail.main_arg19))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
      ∧ r.2.mem ((c.tc : Thread Cert.TailIdeal.nD Cert.TailIdeal.τ).loc Cert.TailIdeal.main_arg19) = m ((c.tc : Thread Cert.TailIdeal.nD Cert.TailIdeal.τ).loc Cert.TailIdeal.main_arg19))
      ∧ r.2.sem = fun _ => 0)

def quiescent_TailIdeal_pre_finite_heads [hTailIdeal : Cert.TailIdeal.Facts] [hPre_finite_heads : Cert.Pre_finite_heads.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_heads m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
      ∧ r.2.mem ((c.tc : Thread Cert.TailIdeal.nD Cert.TailIdeal.τ).loc Cert.TailIdeal.main_arg19) = m ((c.tc : Thread Cert.TailIdeal.nD Cert.TailIdeal.τ).loc Cert.TailIdeal.main_arg19))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17)
      ∧ r.2.mem ((c.tc : Thread Cert.TailReferenceIdeal.nD Cert.TailReferenceIdeal.τ).loc Cert.TailReferenceIdeal.main_arg18) = m ((c.tc : Thread Cert.TailReferenceIdeal.nD Cert.TailReferenceIdeal.τ).loc Cert.TailReferenceIdeal.main_arg18)
      ∧ r.2.mem ((c.tc : Thread Cert.TailReferenceIdeal.nD Cert.TailReferenceIdeal.τ).loc Cert.TailReferenceIdeal.main_arg19) = m ((c.tc : Thread Cert.TailReferenceIdeal.nD Cert.TailReferenceIdeal.τ).loc Cert.TailReferenceIdeal.main_arg19))
      ∧ r.2.sem = fun _ => 0)

def quiescent_TailReferenceIdeal_pre_finite_heads [hTailReferenceIdeal : Cert.TailReferenceIdeal.Facts] [hPre_finite_heads : Cert.Pre_finite_heads.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_finite_heads m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17)
      ∧ r.2.mem ((c.tc : Thread Cert.TailReferenceIdeal.nD Cert.TailReferenceIdeal.τ).loc Cert.TailReferenceIdeal.main_arg18) = m ((c.tc : Thread Cert.TailReferenceIdeal.nD Cert.TailReferenceIdeal.τ).loc Cert.TailReferenceIdeal.main_arg18)
      ∧ r.2.mem ((c.tc : Thread Cert.TailReferenceIdeal.nD Cert.TailReferenceIdeal.τ).loc Cert.TailReferenceIdeal.main_arg19) = m ((c.tc : Thread Cert.TailReferenceIdeal.nD Cert.TailReferenceIdeal.τ).loc Cert.TailReferenceIdeal.main_arg19))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasIdeal_pre_bucket_tables [hBiasIdeal : Cert.BiasIdeal.Facts] [hPre_bucket_tables : Cert.Pre_bucket_tables.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_bucket_tables m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1))
      ∧ r.2.sem = fun _ => 0)

def quiescent_BiasReferenceIdeal_pre_bucket_tables [hBiasReferenceIdeal : Cert.BiasReferenceIdeal.Facts] [hPre_bucket_tables : Cert.Pre_bucket_tables.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal_bucket_tables m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjIdeal_pre_finite_raw [hProjIdeal : Cert.ProjIdeal.Facts] [hPre_finite_raw : Cert.Pre_finite_raw.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_raw m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_ProjReferenceIdeal_pre_finite_raw [hProjReferenceIdeal : Cert.ProjReferenceIdeal.Facts] [hPre_finite_raw : Cert.Pre_finite_raw.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_raw m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0)
      ∧ r.2.mem ((c.tc : Thread Cert.Attn1.nD Cert.Attn1.τ).loc Cert.Attn1.main_arg1) = m ((c.tc : Thread Cert.Attn1.nD Cert.Attn1.τ).loc Cert.Attn1.main_arg1)
      ∧ r.2.mem ((c.tc : Thread Cert.Attn1.nD Cert.Attn1.τ).loc Cert.Attn1.main_arg2) = m ((c.tc : Thread Cert.Attn1.nD Cert.Attn1.τ).loc Cert.Attn1.main_arg2)
      ∧ r.2.mem ((c.tc : Thread Cert.Attn1.nD Cert.Attn1.τ).loc Cert.Attn1.main_arg3) = m ((c.tc : Thread Cert.Attn1.nD Cert.Attn1.τ).loc Cert.Attn1.main_arg3))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
      ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3))
      ∧ r.2.sem = fun _ => 0)

def quiescent_Attn1Ideal_pre_band_tables [hAttn1Ideal : Cert.Attn1Ideal.Facts] [hPre_band_tables : Cert.Pre_band_tables.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal_band_tables m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
      ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3))
      ∧ r.2.sem = fun _ => 0)

def quiescent_Attn1ReferenceIdeal [hAttn1ReferenceIdeal : Cert.Attn1ReferenceIdeal.Facts] : Prop :=
  ∀ (m : (ℓ : Loc Cert.Attn1ReferenceIdeal.nD Cert.Attn1ReferenceIdeal.τ Cert.Attn1ReferenceIdeal.sig) → Buf (Elt Ideal) ℓ) (g : Dev Cert.Attn1ReferenceIdeal.nD → PrngReg), Pre_Attn1ReferenceIdeal m →
    θ_run (Cert.Attn1ReferenceIdeal.defs (F := Ideal)) (onTc (τ := Cert.Attn1ReferenceIdeal.τ) (Cert.Attn1ReferenceIdeal.main (F := Ideal))) ⟨m, fun _ => 0, g⟩ (fun r => (∀ c : Dev Cert.Attn1ReferenceIdeal.nD,
      r.2.mem ((c.tc : Thread Cert.Attn1ReferenceIdeal.nD Cert.Attn1ReferenceIdeal.τ).loc Cert.Attn1ReferenceIdeal.main_arg0) = m ((c.tc : Thread Cert.Attn1ReferenceIdeal.nD Cert.Attn1ReferenceIdeal.τ).loc Cert.Attn1ReferenceIdeal.main_arg0)
      ∧ r.2.mem ((c.tc : Thread Cert.Attn1ReferenceIdeal.nD Cert.Attn1ReferenceIdeal.τ).loc Cert.Attn1ReferenceIdeal.main_arg1) = m ((c.tc : Thread Cert.Attn1ReferenceIdeal.nD Cert.Attn1ReferenceIdeal.τ).loc Cert.Attn1ReferenceIdeal.main_arg1)
      ∧ r.2.mem ((c.tc : Thread Cert.Attn1ReferenceIdeal.nD Cert.Attn1ReferenceIdeal.τ).loc Cert.Attn1ReferenceIdeal.main_arg2) = m ((c.tc : Thread Cert.Attn1ReferenceIdeal.nD Cert.Attn1ReferenceIdeal.τ).loc Cert.Attn1ReferenceIdeal.main_arg2)
      ∧ r.2.mem ((c.tc : Thread Cert.Attn1ReferenceIdeal.nD Cert.Attn1ReferenceIdeal.τ).loc Cert.Attn1ReferenceIdeal.main_arg3) = m ((c.tc : Thread Cert.Attn1ReferenceIdeal.nD Cert.Attn1ReferenceIdeal.τ).loc Cert.Attn1ReferenceIdeal.main_arg3))
      ∧ r.2.sem = fun _ => 0)

def quiescent_Attn1ReferenceIdeal_pre_band_tables [hAttn1ReferenceIdeal : Cert.Attn1ReferenceIdeal.Facts] [hPre_band_tables : Cert.Pre_band_tables.Facts] : Prop :=
  ∀ (m : (ℓ : Loc Cert.Attn1ReferenceIdeal.nD Cert.Attn1ReferenceIdeal.τ Cert.Attn1ReferenceIdeal.sig) → Buf (Elt Ideal) ℓ) (g : Dev Cert.Attn1ReferenceIdeal.nD → PrngReg), Pre_Attn1ReferenceIdeal_band_tables m →
    θ_run (Cert.Attn1ReferenceIdeal.defs (F := Ideal)) (onTc (τ := Cert.Attn1ReferenceIdeal.τ) (Cert.Attn1ReferenceIdeal.main (F := Ideal))) ⟨m, fun _ => 0, g⟩ (fun r => (∀ c : Dev Cert.Attn1ReferenceIdeal.nD,
      r.2.mem ((c.tc : Thread Cert.Attn1ReferenceIdeal.nD Cert.Attn1ReferenceIdeal.τ).loc Cert.Attn1ReferenceIdeal.main_arg0) = m ((c.tc : Thread Cert.Attn1ReferenceIdeal.nD Cert.Attn1ReferenceIdeal.τ).loc Cert.Attn1ReferenceIdeal.main_arg0)
      ∧ r.2.mem ((c.tc : Thread Cert.Attn1ReferenceIdeal.nD Cert.Attn1ReferenceIdeal.τ).loc Cert.Attn1ReferenceIdeal.main_arg1) = m ((c.tc : Thread Cert.Attn1ReferenceIdeal.nD Cert.Attn1ReferenceIdeal.τ).loc Cert.Attn1ReferenceIdeal.main_arg1)
      ∧ r.2.mem ((c.tc : Thread Cert.Attn1ReferenceIdeal.nD Cert.Attn1ReferenceIdeal.τ).loc Cert.Attn1ReferenceIdeal.main_arg2) = m ((c.tc : Thread Cert.Attn1ReferenceIdeal.nD Cert.Attn1ReferenceIdeal.τ).loc Cert.Attn1ReferenceIdeal.main_arg2)
      ∧ r.2.mem ((c.tc : Thread Cert.Attn1ReferenceIdeal.nD Cert.Attn1ReferenceIdeal.τ).loc Cert.Attn1ReferenceIdeal.main_arg3) = m ((c.tc : Thread Cert.Attn1ReferenceIdeal.nD Cert.Attn1ReferenceIdeal.τ).loc Cert.Attn1ReferenceIdeal.main_arg3))
      ∧ r.2.sem = fun _ => 0)

def quiescent_Attn4 [hAttn4 : Cert.Attn4.Facts] : Prop :=
  ∀ (m : (ℓ : Loc Cert.Attn4.nD Cert.Attn4.τ Cert.Attn4.sig) → Buf (Elt Bits) ℓ) (g : Dev Cert.Attn4.nD → PrngReg), Pre_Attn4 m →
    θ_run (Cert.Attn4.defs (F := Bits)) (onTc (τ := Cert.Attn4.τ) (Cert.Attn4.main (F := Bits))) ⟨m, fun _ => 0, g⟩ (fun r => (∀ c : Dev Cert.Attn4.nD,
      r.2.mem ((c.tc : Thread Cert.Attn4.nD Cert.Attn4.τ).loc Cert.Attn4.main_arg0) = m ((c.tc : Thread Cert.Attn4.nD Cert.Attn4.τ).loc Cert.Attn4.main_arg0)
      ∧ r.2.mem ((c.tc : Thread Cert.Attn4.nD Cert.Attn4.τ).loc Cert.Attn4.main_arg1) = m ((c.tc : Thread Cert.Attn4.nD Cert.Attn4.τ).loc Cert.Attn4.main_arg1)
      ∧ r.2.mem ((c.tc : Thread Cert.Attn4.nD Cert.Attn4.τ).loc Cert.Attn4.main_arg2) = m ((c.tc : Thread Cert.Attn4.nD Cert.Attn4.τ).loc Cert.Attn4.main_arg2)
      ∧ r.2.mem ((c.tc : Thread Cert.Attn4.nD Cert.Attn4.τ).loc Cert.Attn4.main_arg3) = m ((c.tc : Thread Cert.Attn4.nD Cert.Attn4.τ).loc Cert.Attn4.main_arg3))
      ∧ r.2.sem = fun _ => 0)

def quiescent_Attn4Ideal [hAttn4Ideal : Cert.Attn4Ideal.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
      ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
      ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
      ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3))
      ∧ r.2.sem = fun _ => 0)

def quiescent_Attn4Ideal_pre_band_tables_d4 [hAttn4Ideal : Cert.Attn4Ideal.Facts] [hPre_band_tables_d4 : Cert.Pre_band_tables_d4.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal_band_tables_d4 m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
      ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
      ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
      ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3))
      ∧ r.2.sem = fun _ => 0)

def quiescent_Attn4ReferenceIdeal [hAttn4ReferenceIdeal : Cert.Attn4ReferenceIdeal.Facts] : Prop :=
  ∀ (m : (ℓ : Loc Cert.Attn4ReferenceIdeal.nD Cert.Attn4ReferenceIdeal.τ Cert.Attn4ReferenceIdeal.sig) → Buf (Elt Ideal) ℓ) (g : Dev Cert.Attn4ReferenceIdeal.nD → PrngReg), Pre_Attn4ReferenceIdeal m →
    θ_run (Cert.Attn4ReferenceIdeal.defs (F := Ideal)) (onTc (τ := Cert.Attn4ReferenceIdeal.τ) (Cert.Attn4ReferenceIdeal.main (F := Ideal))) ⟨m, fun _ => 0, g⟩ (fun r => (∀ c : Dev Cert.Attn4ReferenceIdeal.nD,
      r.2.mem ((c.tc : Thread Cert.Attn4ReferenceIdeal.nD Cert.Attn4ReferenceIdeal.τ).loc Cert.Attn4ReferenceIdeal.main_arg0) = m ((c.tc : Thread Cert.Attn4ReferenceIdeal.nD Cert.Attn4ReferenceIdeal.τ).loc Cert.Attn4ReferenceIdeal.main_arg0)
      ∧ r.2.mem ((c.tc : Thread Cert.Attn4ReferenceIdeal.nD Cert.Attn4ReferenceIdeal.τ).loc Cert.Attn4ReferenceIdeal.main_arg1) = m ((c.tc : Thread Cert.Attn4ReferenceIdeal.nD Cert.Attn4ReferenceIdeal.τ).loc Cert.Attn4ReferenceIdeal.main_arg1)
      ∧ r.2.mem ((c.tc : Thread Cert.Attn4ReferenceIdeal.nD Cert.Attn4ReferenceIdeal.τ).loc Cert.Attn4ReferenceIdeal.main_arg2) = m ((c.tc : Thread Cert.Attn4ReferenceIdeal.nD Cert.Attn4ReferenceIdeal.τ).loc Cert.Attn4ReferenceIdeal.main_arg2)
      ∧ r.2.mem ((c.tc : Thread Cert.Attn4ReferenceIdeal.nD Cert.Attn4ReferenceIdeal.τ).loc Cert.Attn4ReferenceIdeal.main_arg3) = m ((c.tc : Thread Cert.Attn4ReferenceIdeal.nD Cert.Attn4ReferenceIdeal.τ).loc Cert.Attn4ReferenceIdeal.main_arg3))
      ∧ r.2.sem = fun _ => 0)

def quiescent_Attn4ReferenceIdeal_pre_band_tables_d4 [hAttn4ReferenceIdeal : Cert.Attn4ReferenceIdeal.Facts] [hPre_band_tables_d4 : Cert.Pre_band_tables_d4.Facts] : Prop :=
  ∀ (m : (ℓ : Loc Cert.Attn4ReferenceIdeal.nD Cert.Attn4ReferenceIdeal.τ Cert.Attn4ReferenceIdeal.sig) → Buf (Elt Ideal) ℓ) (g : Dev Cert.Attn4ReferenceIdeal.nD → PrngReg), Pre_Attn4ReferenceIdeal_band_tables_d4 m →
    θ_run (Cert.Attn4ReferenceIdeal.defs (F := Ideal)) (onTc (τ := Cert.Attn4ReferenceIdeal.τ) (Cert.Attn4ReferenceIdeal.main (F := Ideal))) ⟨m, fun _ => 0, g⟩ (fun r => (∀ c : Dev Cert.Attn4ReferenceIdeal.nD,
      r.2.mem ((c.tc : Thread Cert.Attn4ReferenceIdeal.nD Cert.Attn4ReferenceIdeal.τ).loc Cert.Attn4ReferenceIdeal.main_arg0) = m ((c.tc : Thread Cert.Attn4ReferenceIdeal.nD Cert.Attn4ReferenceIdeal.τ).loc Cert.Attn4ReferenceIdeal.main_arg0)
      ∧ r.2.mem ((c.tc : Thread Cert.Attn4ReferenceIdeal.nD Cert.Attn4ReferenceIdeal.τ).loc Cert.Attn4ReferenceIdeal.main_arg1) = m ((c.tc : Thread Cert.Attn4ReferenceIdeal.nD Cert.Attn4ReferenceIdeal.τ).loc Cert.Attn4ReferenceIdeal.main_arg1)
      ∧ r.2.mem ((c.tc : Thread Cert.Attn4ReferenceIdeal.nD Cert.Attn4ReferenceIdeal.τ).loc Cert.Attn4ReferenceIdeal.main_arg2) = m ((c.tc : Thread Cert.Attn4ReferenceIdeal.nD Cert.Attn4ReferenceIdeal.τ).loc Cert.Attn4ReferenceIdeal.main_arg2)
      ∧ r.2.mem ((c.tc : Thread Cert.Attn4ReferenceIdeal.nD Cert.Attn4ReferenceIdeal.τ).loc Cert.Attn4ReferenceIdeal.main_arg3) = m ((c.tc : Thread Cert.Attn4ReferenceIdeal.nD Cert.Attn4ReferenceIdeal.τ).loc Cert.Attn4ReferenceIdeal.main_arg3))
      ∧ r.2.sem = fun _ => 0)

def quiescent_Attn16 [hAttn16 : Cert.Attn16.Facts] : Prop :=
  ∀ (m : (ℓ : Loc Cert.Attn16.nD Cert.Attn16.τ Cert.Attn16.sig) → Buf (Elt Bits) ℓ) (g : Dev Cert.Attn16.nD → PrngReg), Pre_Attn16 m →
    θ_run (Cert.Attn16.defs (F := Bits)) (onTc (τ := Cert.Attn16.τ) (Cert.Attn16.main (F := Bits))) ⟨m, fun _ => 0, g⟩ (fun r => (∀ c : Dev Cert.Attn16.nD,
      r.2.mem ((c.tc : Thread Cert.Attn16.nD Cert.Attn16.τ).loc Cert.Attn16.main_arg0) = m ((c.tc : Thread Cert.Attn16.nD Cert.Attn16.τ).loc Cert.Attn16.main_arg0)
      ∧ r.2.mem ((c.tc : Thread Cert.Attn16.nD Cert.Attn16.τ).loc Cert.Attn16.main_arg1) = m ((c.tc : Thread Cert.Attn16.nD Cert.Attn16.τ).loc Cert.Attn16.main_arg1)
      ∧ r.2.mem ((c.tc : Thread Cert.Attn16.nD Cert.Attn16.τ).loc Cert.Attn16.main_arg2) = m ((c.tc : Thread Cert.Attn16.nD Cert.Attn16.τ).loc Cert.Attn16.main_arg2)
      ∧ r.2.mem ((c.tc : Thread Cert.Attn16.nD Cert.Attn16.τ).loc Cert.Attn16.main_arg3) = m ((c.tc : Thread Cert.Attn16.nD Cert.Attn16.τ).loc Cert.Attn16.main_arg3))
      ∧ r.2.sem = fun _ => 0)

def quiescent_Attn16Ideal [hAttn16Ideal : Cert.Attn16Ideal.Facts] : Prop :=
  ∀ (m : (ℓ : Loc Cert.Attn16Ideal.nD Cert.Attn16Ideal.τ Cert.Attn16Ideal.sig) → Buf (Elt Ideal) ℓ) (g : Dev Cert.Attn16Ideal.nD → PrngReg), Pre_Attn16Ideal m →
    θ_run (Cert.Attn16Ideal.defs (F := Ideal)) (onTc (τ := Cert.Attn16Ideal.τ) (Cert.Attn16Ideal.main (F := Ideal))) ⟨m, fun _ => 0, g⟩ (fun r => (∀ c : Dev Cert.Attn16Ideal.nD,
      r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0)
      ∧ r.2.mem ((c.tc : Thread Cert.Attn16Ideal.nD Cert.Attn16Ideal.τ).loc Cert.Attn16Ideal.main_arg1) = m ((c.tc : Thread Cert.Attn16Ideal.nD Cert.Attn16Ideal.τ).loc Cert.Attn16Ideal.main_arg1)
      ∧ r.2.mem ((c.tc : Thread Cert.Attn16Ideal.nD Cert.Attn16Ideal.τ).loc Cert.Attn16Ideal.main_arg2) = m ((c.tc : Thread Cert.Attn16Ideal.nD Cert.Attn16Ideal.τ).loc Cert.Attn16Ideal.main_arg2)
      ∧ r.2.mem ((c.tc : Thread Cert.Attn16Ideal.nD Cert.Attn16Ideal.τ).loc Cert.Attn16Ideal.main_arg3) = m ((c.tc : Thread Cert.Attn16Ideal.nD Cert.Attn16Ideal.τ).loc Cert.Attn16Ideal.main_arg3))
      ∧ r.2.sem = fun _ => 0)

def quiescent_Attn16Ideal_pre_band_tables_d16 [hAttn16Ideal : Cert.Attn16Ideal.Facts] [hPre_band_tables_d16 : Cert.Pre_band_tables_d16.Facts] : Prop :=
  ∀ (m : (ℓ : Loc Cert.Attn16Ideal.nD Cert.Attn16Ideal.τ Cert.Attn16Ideal.sig) → Buf (Elt Ideal) ℓ) (g : Dev Cert.Attn16Ideal.nD → PrngReg), Pre_Attn16Ideal_band_tables_d16 m →
    θ_run (Cert.Attn16Ideal.defs (F := Ideal)) (onTc (τ := Cert.Attn16Ideal.τ) (Cert.Attn16Ideal.main (F := Ideal))) ⟨m, fun _ => 0, g⟩ (fun r => (∀ c : Dev Cert.Attn16Ideal.nD,
      r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0)
      ∧ r.2.mem ((c.tc : Thread Cert.Attn16Ideal.nD Cert.Attn16Ideal.τ).loc Cert.Attn16Ideal.main_arg1) = m ((c.tc : Thread Cert.Attn16Ideal.nD Cert.Attn16Ideal.τ).loc Cert.Attn16Ideal.main_arg1)
      ∧ r.2.mem ((c.tc : Thread Cert.Attn16Ideal.nD Cert.Attn16Ideal.τ).loc Cert.Attn16Ideal.main_arg2) = m ((c.tc : Thread Cert.Attn16Ideal.nD Cert.Attn16Ideal.τ).loc Cert.Attn16Ideal.main_arg2)
      ∧ r.2.mem ((c.tc : Thread Cert.Attn16Ideal.nD Cert.Attn16Ideal.τ).loc Cert.Attn16Ideal.main_arg3) = m ((c.tc : Thread Cert.Attn16Ideal.nD Cert.Attn16Ideal.τ).loc Cert.Attn16Ideal.main_arg3))
      ∧ r.2.sem = fun _ => 0)

def quiescent_Attn16ReferenceIdeal [hAttn16ReferenceIdeal : Cert.Attn16ReferenceIdeal.Facts] : Prop :=
  ∀ (m : (ℓ : Loc Cert.Attn16ReferenceIdeal.nD Cert.Attn16ReferenceIdeal.τ Cert.Attn16ReferenceIdeal.sig) → Buf (Elt Ideal) ℓ) (g : Dev Cert.Attn16ReferenceIdeal.nD → PrngReg), Pre_Attn16ReferenceIdeal m →
    θ_run (Cert.Attn16ReferenceIdeal.defs (F := Ideal)) (onTc (τ := Cert.Attn16ReferenceIdeal.τ) (Cert.Attn16ReferenceIdeal.main (F := Ideal))) ⟨m, fun _ => 0, g⟩ (fun r => (∀ c : Dev Cert.Attn16ReferenceIdeal.nD,
      r.2.mem ((c.tc : Thread Cert.Attn16ReferenceIdeal.nD Cert.Attn16ReferenceIdeal.τ).loc Cert.Attn16ReferenceIdeal.main_arg0) = m ((c.tc : Thread Cert.Attn16ReferenceIdeal.nD Cert.Attn16ReferenceIdeal.τ).loc Cert.Attn16ReferenceIdeal.main_arg0)
      ∧ r.2.mem ((c.tc : Thread Cert.Attn16ReferenceIdeal.nD Cert.Attn16ReferenceIdeal.τ).loc Cert.Attn16ReferenceIdeal.main_arg1) = m ((c.tc : Thread Cert.Attn16ReferenceIdeal.nD Cert.Attn16ReferenceIdeal.τ).loc Cert.Attn16ReferenceIdeal.main_arg1)
      ∧ r.2.mem ((c.tc : Thread Cert.Attn16ReferenceIdeal.nD Cert.Attn16ReferenceIdeal.τ).loc Cert.Attn16ReferenceIdeal.main_arg2) = m ((c.tc : Thread Cert.Attn16ReferenceIdeal.nD Cert.Attn16ReferenceIdeal.τ).loc Cert.Attn16ReferenceIdeal.main_arg2)
      ∧ r.2.mem ((c.tc : Thread Cert.Attn16ReferenceIdeal.nD Cert.Attn16ReferenceIdeal.τ).loc Cert.Attn16ReferenceIdeal.main_arg3) = m ((c.tc : Thread Cert.Attn16ReferenceIdeal.nD Cert.Attn16ReferenceIdeal.τ).loc Cert.Attn16ReferenceIdeal.main_arg3))
      ∧ r.2.sem = fun _ => 0)

def quiescent_Attn16ReferenceIdeal_pre_band_tables_d16 [hAttn16ReferenceIdeal : Cert.Attn16ReferenceIdeal.Facts] [hPre_band_tables_d16 : Cert.Pre_band_tables_d16.Facts] : Prop :=
  ∀ (m : (ℓ : Loc Cert.Attn16ReferenceIdeal.nD Cert.Attn16ReferenceIdeal.τ Cert.Attn16ReferenceIdeal.sig) → Buf (Elt Ideal) ℓ) (g : Dev Cert.Attn16ReferenceIdeal.nD → PrngReg), Pre_Attn16ReferenceIdeal_band_tables_d16 m →
    θ_run (Cert.Attn16ReferenceIdeal.defs (F := Ideal)) (onTc (τ := Cert.Attn16ReferenceIdeal.τ) (Cert.Attn16ReferenceIdeal.main (F := Ideal))) ⟨m, fun _ => 0, g⟩ (fun r => (∀ c : Dev Cert.Attn16ReferenceIdeal.nD,
      r.2.mem ((c.tc : Thread Cert.Attn16ReferenceIdeal.nD Cert.Attn16ReferenceIdeal.τ).loc Cert.Attn16ReferenceIdeal.main_arg0) = m ((c.tc : Thread Cert.Attn16ReferenceIdeal.nD Cert.Attn16ReferenceIdeal.τ).loc Cert.Attn16ReferenceIdeal.main_arg0)
      ∧ r.2.mem ((c.tc : Thread Cert.Attn16ReferenceIdeal.nD Cert.Attn16ReferenceIdeal.τ).loc Cert.Attn16ReferenceIdeal.main_arg1) = m ((c.tc : Thread Cert.Attn16ReferenceIdeal.nD Cert.Attn16ReferenceIdeal.τ).loc Cert.Attn16ReferenceIdeal.main_arg1)
      ∧ r.2.mem ((c.tc : Thread Cert.Attn16ReferenceIdeal.nD Cert.Attn16ReferenceIdeal.τ).loc Cert.Attn16ReferenceIdeal.main_arg2) = m ((c.tc : Thread Cert.Attn16ReferenceIdeal.nD Cert.Attn16ReferenceIdeal.τ).loc Cert.Attn16ReferenceIdeal.main_arg2)
      ∧ r.2.mem ((c.tc : Thread Cert.Attn16ReferenceIdeal.nD Cert.Attn16ReferenceIdeal.τ).loc Cert.Attn16ReferenceIdeal.main_arg3) = m ((c.tc : Thread Cert.Attn16ReferenceIdeal.nD Cert.Attn16ReferenceIdeal.τ).loc Cert.Attn16ReferenceIdeal.main_arg3))
      ∧ r.2.sem = fun _ => 0)

def preserves_StepIn_StepInIdeal : Prop :=
  True

def algebraic_StepInIdeal_StepInReferenceIdeal [hStepInIdeal : Cert.StepInIdeal.Facts] [hStepInReferenceIdeal : Cert.StepInReferenceIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInReferenceIdeal.nD Cert.StepInReferenceIdeal.τ Cert.StepInReferenceIdeal.sig) → Buf (Elt Ideal) ℓ) (g' : Dev Cert.StepInReferenceIdeal.nD → PrngReg), Pre_StepInIdeal m →
    (∀ c : Dev Cert.StepInIdeal.nD,
      m' ((c.tc : Thread Cert.StepInReferenceIdeal.nD Cert.StepInReferenceIdeal.τ).loc Cert.StepInReferenceIdeal.main_arg0) = m ((c.tc : Thread Cert.StepInIdeal.nD Cert.StepInIdeal.τ).loc Cert.StepInIdeal.main_arg0)
      ∧ m' ((c.tc : Thread Cert.StepInReferenceIdeal.nD Cert.StepInReferenceIdeal.τ).loc Cert.StepInReferenceIdeal.main_arg1) = m ((c.tc : Thread Cert.StepInIdeal.nD Cert.StepInIdeal.τ).loc Cert.StepInIdeal.main_arg1)
      ∧ m' ((c.tc : Thread Cert.StepInReferenceIdeal.nD Cert.StepInReferenceIdeal.τ).loc Cert.StepInReferenceIdeal.main_arg2) = m ((c.tc : Thread Cert.StepInIdeal.nD Cert.StepInIdeal.τ).loc Cert.StepInIdeal.main_arg2)
      ∧ m' ((c.tc : Thread Cert.StepInReferenceIdeal.nD Cert.StepInReferenceIdeal.τ).loc Cert.StepInReferenceIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v0_0)) (v1 : (c : Dev Cert.StepInIdeal.nD) → Buf (Elt Ideal) ((c.tc : Thread Cert.StepInIdeal.nD Cert.StepInIdeal.τ).loc Cert.StepInIdeal.main_v0_1)) (v2 : (c : Dev Cert.StepInIdeal.nD) → Buf (Elt Ideal) ((c.tc : Thread Cert.StepInIdeal.nD Cert.StepInIdeal.τ).loc Cert.StepInIdeal.main_v0_2)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v0_0) = v0 c
          ∧ r.2.mem ((c.tc : Thread Cert.StepInIdeal.nD Cert.StepInIdeal.τ).loc Cert.StepInIdeal.main_v0_1) = v1 c
          ∧ r.2.mem ((c.tc : Thread Cert.StepInIdeal.nD Cert.StepInIdeal.τ).loc Cert.StepInIdeal.main_v0_2) = v2 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInReferenceIdeal.defs (F := Ideal)) (onTc (τ := Cert.StepInReferenceIdeal.τ) (Cert.StepInReferenceIdeal.main (F := Ideal))) ⟨m', fun _ => 0, g'⟩ (fun r => ∀ c : Dev Cert.StepInReferenceIdeal.nD,
          r.2.mem ((c.tc : Thread Cert.StepInReferenceIdeal.nD Cert.StepInReferenceIdeal.τ).loc Cert.StepInReferenceIdeal.main_v23) = v0 c
          ∧ r.2.mem ((c.tc : Thread Cert.StepInReferenceIdeal.nD Cert.StepInReferenceIdeal.τ).loc Cert.StepInReferenceIdeal.main_v4) = v1 c
          ∧ r.2.mem ((c.tc : Thread Cert.StepInReferenceIdeal.nD Cert.StepInReferenceIdeal.τ).loc Cert.StepInReferenceIdeal.main_v10) = v2 c
          ∧ r.2.mem ((c.tc : Thread Cert.StepInReferenceIdeal.nD Cert.StepInReferenceIdeal.τ).loc Cert.StepInReferenceIdeal.main_arg0) = m' ((c.tc : Thread Cert.StepInReferenceIdeal.nD Cert.StepInReferenceIdeal.τ).loc Cert.StepInReferenceIdeal.main_arg0)
          ∧ r.2.mem ((c.tc : Thread Cert.StepInReferenceIdeal.nD Cert.StepInReferenceIdeal.τ).loc Cert.StepInReferenceIdeal.main_arg1) = m' ((c.tc : Thread Cert.StepInReferenceIdeal.nD Cert.StepInReferenceIdeal.τ).loc Cert.StepInReferenceIdeal.main_arg1)
          ∧ r.2.mem ((c.tc : Thread Cert.StepInReferenceIdeal.nD Cert.StepInReferenceIdeal.τ).loc Cert.StepInReferenceIdeal.main_arg2) = m' ((c.tc : Thread Cert.StepInReferenceIdeal.nD Cert.StepInReferenceIdeal.τ).loc Cert.StepInReferenceIdeal.main_arg2)
          ∧ r.2.mem ((c.tc : Thread Cert.StepInReferenceIdeal.nD Cert.StepInReferenceIdeal.τ).loc Cert.StepInReferenceIdeal.main_arg3) = m' ((c.tc : Thread Cert.StepInReferenceIdeal.nD Cert.StepInReferenceIdeal.τ).loc Cert.StepInReferenceIdeal.main_arg3))

def preserves_StepOut_StepOutIdeal : Prop :=
  True

def algebraic_StepOutIdeal_StepOutReferenceIdeal [hStepOutIdeal : Cert.StepOutIdeal.Facts] [hStepOutReferenceIdeal : Cert.StepOutReferenceIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutIdeal m →
    (∀ c : Dev Cert.StepOutIdeal.nD,
      m' ((c.tc : Thread Cert.StepOutReferenceIdeal.nD Cert.StepOutReferenceIdeal.τ).loc Cert.StepOutReferenceIdeal.main_arg0) = m ((c.tc : Thread Cert.StepOutIdeal.nD Cert.StepOutIdeal.τ).loc Cert.StepOutIdeal.main_arg0)
      ∧ m' ((c.tc : Thread Cert.StepOutReferenceIdeal.nD Cert.StepOutReferenceIdeal.τ).loc Cert.StepOutReferenceIdeal.main_arg1) = m ((c.tc : Thread Cert.StepOutIdeal.nD Cert.StepOutIdeal.τ).loc Cert.StepOutIdeal.main_arg1)
      ∧ m' ((c.tc : Thread Cert.StepOutReferenceIdeal.nD Cert.StepOutReferenceIdeal.τ).loc Cert.StepOutReferenceIdeal.main_arg2) = m ((c.tc : Thread Cert.StepOutIdeal.nD Cert.StepOutIdeal.τ).loc Cert.StepOutIdeal.main_arg2)
      ∧ m' ((c.tc : Thread Cert.StepOutReferenceIdeal.nD Cert.StepOutReferenceIdeal.τ).loc Cert.StepOutReferenceIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v23) = v0 c
          ∧ r.2.mem ((c.tc : Thread Cert.StepOutReferenceIdeal.nD Cert.StepOutReferenceIdeal.τ).loc Cert.StepOutReferenceIdeal.main_v4) = v1 c
          ∧ r.2.mem ((c.tc : Thread Cert.StepOutReferenceIdeal.nD Cert.StepOutReferenceIdeal.τ).loc Cert.StepOutReferenceIdeal.main_v10) = v2 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3))

def preserves_StepSmall_StepSmallIdeal : Prop :=
  True

def algebraic_StepSmallIdeal_StepSmallReferenceIdeal [hStepSmallIdeal : Cert.StepSmallIdeal.Facts] [hStepSmallReferenceIdeal : Cert.StepSmallReferenceIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallReferenceIdeal.nD Cert.StepSmallReferenceIdeal.τ Cert.StepSmallReferenceIdeal.sig) → Buf (Elt Ideal) ℓ) (g' : Dev Cert.StepSmallReferenceIdeal.nD → PrngReg), Pre_StepSmallIdeal m →
    (∀ c : Dev Cert.StepSmallIdeal.nD,
      m' ((c.tc : Thread Cert.StepSmallReferenceIdeal.nD Cert.StepSmallReferenceIdeal.τ).loc Cert.StepSmallReferenceIdeal.main_arg0) = m ((c.tc : Thread Cert.StepSmallIdeal.nD Cert.StepSmallIdeal.τ).loc Cert.StepSmallIdeal.main_arg0)
      ∧ m' ((c.tc : Thread Cert.StepSmallReferenceIdeal.nD Cert.StepSmallReferenceIdeal.τ).loc Cert.StepSmallReferenceIdeal.main_arg1) = m ((c.tc : Thread Cert.StepSmallIdeal.nD Cert.StepSmallIdeal.τ).loc Cert.StepSmallIdeal.main_arg1)
      ∧ m' ((c.tc : Thread Cert.StepSmallReferenceIdeal.nD Cert.StepSmallReferenceIdeal.τ).loc Cert.StepSmallReferenceIdeal.main_arg2) = m ((c.tc : Thread Cert.StepSmallIdeal.nD Cert.StepSmallIdeal.τ).loc Cert.StepSmallIdeal.main_arg2)
      ∧ m' ((c.tc : Thread Cert.StepSmallReferenceIdeal.nD Cert.StepSmallReferenceIdeal.τ).loc Cert.StepSmallReferenceIdeal.main_arg3) = m ((c.tc : Thread Cert.StepSmallIdeal.nD Cert.StepSmallIdeal.τ).loc Cert.StepSmallIdeal.main_arg3)) →
    ∃ (v0 : (c : Dev Cert.StepSmallIdeal.nD) → Buf (Elt Ideal) ((c.tc : Thread Cert.StepSmallIdeal.nD Cert.StepSmallIdeal.τ).loc Cert.StepSmallIdeal.main_v0_0)) (v1 : (c : Dev Cert.StepSmallIdeal.nD) → Buf (Elt Ideal) ((c.tc : Thread Cert.StepSmallIdeal.nD Cert.StepSmallIdeal.τ).loc Cert.StepSmallIdeal.main_v0_1)) (v2 : (c : Dev Cert.StepSmallIdeal.nD) → Buf (Elt Ideal) ((c.tc : Thread Cert.StepSmallIdeal.nD Cert.StepSmallIdeal.τ).loc Cert.StepSmallIdeal.main_v0_2)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v0_0) = v0 c
          ∧ r.2.mem ((c.tc : Thread Cert.StepSmallIdeal.nD Cert.StepSmallIdeal.τ).loc Cert.StepSmallIdeal.main_v0_1) = v1 c
          ∧ r.2.mem ((c.tc : Thread Cert.StepSmallIdeal.nD Cert.StepSmallIdeal.τ).loc Cert.StepSmallIdeal.main_v0_2) = v2 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ θ_run (Cert.StepSmallReferenceIdeal.defs (F := Ideal)) (onTc (τ := Cert.StepSmallReferenceIdeal.τ) (Cert.StepSmallReferenceIdeal.main (F := Ideal))) ⟨m', fun _ => 0, g'⟩ (fun r => ∀ c : Dev Cert.StepSmallReferenceIdeal.nD,
          r.2.mem ((c.tc : Thread Cert.StepSmallReferenceIdeal.nD Cert.StepSmallReferenceIdeal.τ).loc Cert.StepSmallReferenceIdeal.main_v23) = v0 c
          ∧ r.2.mem ((c.tc : Thread Cert.StepSmallReferenceIdeal.nD Cert.StepSmallReferenceIdeal.τ).loc Cert.StepSmallReferenceIdeal.main_v4) = v1 c
          ∧ r.2.mem ((c.tc : Thread Cert.StepSmallReferenceIdeal.nD Cert.StepSmallReferenceIdeal.τ).loc Cert.StepSmallReferenceIdeal.main_v10) = v2 c
          ∧ r.2.mem ((c.tc : Thread Cert.StepSmallReferenceIdeal.nD Cert.StepSmallReferenceIdeal.τ).loc Cert.StepSmallReferenceIdeal.main_arg0) = m' ((c.tc : Thread Cert.StepSmallReferenceIdeal.nD Cert.StepSmallReferenceIdeal.τ).loc Cert.StepSmallReferenceIdeal.main_arg0)
          ∧ r.2.mem ((c.tc : Thread Cert.StepSmallReferenceIdeal.nD Cert.StepSmallReferenceIdeal.τ).loc Cert.StepSmallReferenceIdeal.main_arg1) = m' ((c.tc : Thread Cert.StepSmallReferenceIdeal.nD Cert.StepSmallReferenceIdeal.τ).loc Cert.StepSmallReferenceIdeal.main_arg1)
          ∧ r.2.mem ((c.tc : Thread Cert.StepSmallReferenceIdeal.nD Cert.StepSmallReferenceIdeal.τ).loc Cert.StepSmallReferenceIdeal.main_arg2) = m' ((c.tc : Thread Cert.StepSmallReferenceIdeal.nD Cert.StepSmallReferenceIdeal.τ).loc Cert.StepSmallReferenceIdeal.main_arg2)
          ∧ r.2.mem ((c.tc : Thread Cert.StepSmallReferenceIdeal.nD Cert.StepSmallReferenceIdeal.τ).loc Cert.StepSmallReferenceIdeal.main_arg3) = m' ((c.tc : Thread Cert.StepSmallReferenceIdeal.nD Cert.StepSmallReferenceIdeal.τ).loc Cert.StepSmallReferenceIdeal.main_arg3))

def preserves_FoldHeads_FoldHeadsIdeal : Prop :=
  True

def algebraic_FoldHeadsIdeal_FoldHeadsReferenceIdeal [hFoldHeadsIdeal : Cert.FoldHeadsIdeal.Facts] [hFoldHeadsReferenceIdeal : Cert.FoldHeadsReferenceIdeal.Facts] : Prop :=
  ∀ (m : (ℓ : Loc Cert.FoldHeadsIdeal.nD Cert.FoldHeadsIdeal.τ Cert.FoldHeadsIdeal.sig) → Buf (Elt Ideal) ℓ) (g : Dev Cert.FoldHeadsIdeal.nD → PrngReg)
    (m' : (ℓ : Loc Cert.FoldHeadsReferenceIdeal.nD Cert.FoldHeadsReferenceIdeal.τ Cert.FoldHeadsReferenceIdeal.sig) → Buf (Elt Ideal) ℓ) (g' : Dev Cert.FoldHeadsReferenceIdeal.nD → PrngReg), Pre_FoldHeadsIdeal m →
    (∀ c : Dev Cert.FoldHeadsIdeal.nD,
      m' ((c.tc : Thread Cert.FoldHeadsReferenceIdeal.nD Cert.FoldHeadsReferenceIdeal.τ).loc Cert.FoldHeadsReferenceIdeal.main_arg0) = m ((c.tc : Thread Cert.FoldHeadsIdeal.nD Cert.FoldHeadsIdeal.τ).loc Cert.FoldHeadsIdeal.main_arg0)) →
    ∃ (v0 : (c : Dev Cert.FoldHeadsIdeal.nD) → Buf (Elt Ideal) ((c.tc : Thread Cert.FoldHeadsIdeal.nD Cert.FoldHeadsIdeal.τ).loc Cert.FoldHeadsIdeal.main_v0)),
      θ_run (Cert.FoldHeadsIdeal.defs (F := Ideal)) (onTc (τ := Cert.FoldHeadsIdeal.τ) (Cert.FoldHeadsIdeal.main (F := Ideal))) ⟨m, fun _ => 0, g⟩ (fun r => ∀ c : Dev Cert.FoldHeadsIdeal.nD,
          r.2.mem ((c.tc : Thread Cert.FoldHeadsIdeal.nD Cert.FoldHeadsIdeal.τ).loc Cert.FoldHeadsIdeal.main_v0) = v0 c
          ∧ r.2.mem ((c.tc : Thread Cert.FoldHeadsIdeal.nD Cert.FoldHeadsIdeal.τ).loc Cert.FoldHeadsIdeal.main_arg0) = m ((c.tc : Thread Cert.FoldHeadsIdeal.nD Cert.FoldHeadsIdeal.τ).loc Cert.FoldHeadsIdeal.main_arg0))
      ∧ θ_run (Cert.FoldHeadsReferenceIdeal.defs (F := Ideal)) (onTc (τ := Cert.FoldHeadsReferenceIdeal.τ) (Cert.FoldHeadsReferenceIdeal.main (F := Ideal))) ⟨m', fun _ => 0, g'⟩ (fun r => ∀ c : Dev Cert.FoldHeadsReferenceIdeal.nD,
          r.2.mem ((c.tc : Thread Cert.FoldHeadsReferenceIdeal.nD Cert.FoldHeadsReferenceIdeal.τ).loc Cert.FoldHeadsReferenceIdeal.main_v12) = v0 c
          ∧ r.2.mem ((c.tc : Thread Cert.FoldHeadsReferenceIdeal.nD Cert.FoldHeadsReferenceIdeal.τ).loc Cert.FoldHeadsReferenceIdeal.main_arg0) = m' ((c.tc : Thread Cert.FoldHeadsReferenceIdeal.nD Cert.FoldHeadsReferenceIdeal.τ).loc Cert.FoldHeadsReferenceIdeal.main_arg0))

def preserves_Combine_CombineIdeal : Prop :=
  True

def algebraic_CombineIdeal_CombineReferenceIdeal_pre_finite_lse [hCombineIdeal : Cert.CombineIdeal.Facts] [hCombineReferenceIdeal : Cert.CombineReferenceIdeal.Facts] [hPre_finite_lse : Cert.Pre_finite_lse.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal_finite_lse m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)
      ∧ m' ((c.tc : Thread Cert.CombineReferenceIdeal.nD Cert.CombineReferenceIdeal.τ).loc Cert.CombineReferenceIdeal.main_arg9) = m ((c.tc : Thread Cert.CombineIdeal.nD Cert.CombineIdeal.τ).loc Cert.CombineIdeal.main_arg9)
      ∧ m' ((c.tc : Thread Cert.CombineReferenceIdeal.nD Cert.CombineReferenceIdeal.τ).loc Cert.CombineReferenceIdeal.main_arg10) = m ((c.tc : Thread Cert.CombineIdeal.nD Cert.CombineIdeal.τ).loc Cert.CombineIdeal.main_arg10)
      ∧ m' ((c.tc : Thread Cert.CombineReferenceIdeal.nD Cert.CombineReferenceIdeal.τ).loc Cert.CombineReferenceIdeal.main_arg11) = m ((c.tc : Thread Cert.CombineIdeal.nD Cert.CombineIdeal.τ).loc Cert.CombineIdeal.main_arg11)
      ∧ m' ((c.tc : Thread Cert.CombineReferenceIdeal.nD Cert.CombineReferenceIdeal.τ).loc Cert.CombineReferenceIdeal.main_arg12) = m ((c.tc : Thread Cert.CombineIdeal.nD Cert.CombineIdeal.τ).loc Cert.CombineIdeal.main_arg12)
      ∧ m' ((c.tc : Thread Cert.CombineReferenceIdeal.nD Cert.CombineReferenceIdeal.τ).loc Cert.CombineReferenceIdeal.main_arg13) = m ((c.tc : Thread Cert.CombineIdeal.nD Cert.CombineIdeal.τ).loc Cert.CombineIdeal.main_arg13)) →
    ∃ (v0 : (c : Dev Cert.CombineIdeal.nD) → Buf (Elt Ideal) ((c.tc : Thread Cert.CombineIdeal.nD Cert.CombineIdeal.τ).loc Cert.CombineIdeal.main_v0_8)) (v1 : (c : Dev Cert.CombineIdeal.nD) → Buf (Elt Ideal) ((c.tc : Thread Cert.CombineIdeal.nD Cert.CombineIdeal.τ).loc Cert.CombineIdeal.main_v0_9)) (v2 : (c : Dev Cert.CombineIdeal.nD) → Buf (Elt Ideal) ((c.tc : Thread Cert.CombineIdeal.nD Cert.CombineIdeal.τ).loc Cert.CombineIdeal.main_v0_10)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_8) = v0 c
          ∧ r.2.mem ((c.tc : Thread Cert.CombineIdeal.nD Cert.CombineIdeal.τ).loc Cert.CombineIdeal.main_v0_9) = v1 c
          ∧ r.2.mem ((c.tc : Thread Cert.CombineIdeal.nD Cert.CombineIdeal.τ).loc Cert.CombineIdeal.main_v0_10) = v2 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
          ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10)
          ∧ r.2.mem ((c.tc : Thread Cert.CombineIdeal.nD Cert.CombineIdeal.τ).loc Cert.CombineIdeal.main_arg11) = m ((c.tc : Thread Cert.CombineIdeal.nD Cert.CombineIdeal.τ).loc Cert.CombineIdeal.main_arg11)
          ∧ r.2.mem ((c.tc : Thread Cert.CombineIdeal.nD Cert.CombineIdeal.τ).loc Cert.CombineIdeal.main_arg12) = m ((c.tc : Thread Cert.CombineIdeal.nD Cert.CombineIdeal.τ).loc Cert.CombineIdeal.main_arg12)
          ∧ r.2.mem ((c.tc : Thread Cert.CombineIdeal.nD Cert.CombineIdeal.τ).loc Cert.CombineIdeal.main_arg13) = m ((c.tc : Thread Cert.CombineIdeal.nD Cert.CombineIdeal.τ).loc Cert.CombineIdeal.main_arg13))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v95) = v0 c
          ∧ r.2.mem ((c.tc : Thread Cert.CombineReferenceIdeal.nD Cert.CombineReferenceIdeal.τ).loc Cert.CombineReferenceIdeal.main_v80) = v1 c
          ∧ r.2.mem ((c.tc : Thread Cert.CombineReferenceIdeal.nD Cert.CombineReferenceIdeal.τ).loc Cert.CombineReferenceIdeal.main_v94) = v2 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8)
          ∧ r.2.mem ((c.tc : Thread Cert.CombineReferenceIdeal.nD Cert.CombineReferenceIdeal.τ).loc Cert.CombineReferenceIdeal.main_arg9) = m' ((c.tc : Thread Cert.CombineReferenceIdeal.nD Cert.CombineReferenceIdeal.τ).loc Cert.CombineReferenceIdeal.main_arg9)
          ∧ r.2.mem ((c.tc : Thread Cert.CombineReferenceIdeal.nD Cert.CombineReferenceIdeal.τ).loc Cert.CombineReferenceIdeal.main_arg10) = m' ((c.tc : Thread Cert.CombineReferenceIdeal.nD Cert.CombineReferenceIdeal.τ).loc Cert.CombineReferenceIdeal.main_arg10)
          ∧ r.2.mem ((c.tc : Thread Cert.CombineReferenceIdeal.nD Cert.CombineReferenceIdeal.τ).loc Cert.CombineReferenceIdeal.main_arg11) = m' ((c.tc : Thread Cert.CombineReferenceIdeal.nD Cert.CombineReferenceIdeal.τ).loc Cert.CombineReferenceIdeal.main_arg11)
          ∧ r.2.mem ((c.tc : Thread Cert.CombineReferenceIdeal.nD Cert.CombineReferenceIdeal.τ).loc Cert.CombineReferenceIdeal.main_arg12) = m' ((c.tc : Thread Cert.CombineReferenceIdeal.nD Cert.CombineReferenceIdeal.τ).loc Cert.CombineReferenceIdeal.main_arg12)
          ∧ r.2.mem ((c.tc : Thread Cert.CombineReferenceIdeal.nD Cert.CombineReferenceIdeal.τ).loc Cert.CombineReferenceIdeal.main_arg13) = m' ((c.tc : Thread Cert.CombineReferenceIdeal.nD Cert.CombineReferenceIdeal.τ).loc Cert.CombineReferenceIdeal.main_arg13))

def preserves_TotalLoss_TotalLossIdeal : Prop :=
  True

def algebraic_TotalLossIdeal_TotalLossReferenceIdeal [hTotalLossIdeal : Cert.TotalLossIdeal.Facts] [hTotalLossReferenceIdeal : Cert.TotalLossReferenceIdeal.Facts] : Prop :=
  ∀ (m : (ℓ : Loc Cert.TotalLossIdeal.nD Cert.TotalLossIdeal.τ Cert.TotalLossIdeal.sig) → Buf (Elt Ideal) ℓ) (g : Dev Cert.TotalLossIdeal.nD → PrngReg)
    (m' : (ℓ : Loc Cert.TotalLossReferenceIdeal.nD Cert.TotalLossReferenceIdeal.τ Cert.TotalLossReferenceIdeal.sig) → Buf (Elt Ideal) ℓ) (g' : Dev Cert.TotalLossReferenceIdeal.nD → PrngReg), Pre_TotalLossIdeal m →
    (∀ c : Dev Cert.TotalLossIdeal.nD,
      m ((c.tc : Thread Cert.TotalLossIdeal.nD Cert.TotalLossIdeal.τ).loc Cert.TotalLossIdeal.main_arg0) = Layout.block ⟨2, ![1, 128]⟩ ⟨2, ![8, 128]⟩ 0 8 c (m' (((0 : Dev Cert.TotalLossReferenceIdeal.nD).tc : Thread Cert.TotalLossReferenceIdeal.nD Cert.TotalLossReferenceIdeal.τ).loc Cert.TotalLossReferenceIdeal.main_arg0))) →
    ∃ (v0 : Buf (Elt Ideal) (((0 : Dev Cert.TotalLossReferenceIdeal.nD).tc : Thread Cert.TotalLossReferenceIdeal.nD Cert.TotalLossReferenceIdeal.τ).loc Cert.TotalLossReferenceIdeal.main_v2)),
      θ_run (Cert.TotalLossIdeal.defs (F := Ideal)) (onTc (τ := Cert.TotalLossIdeal.τ) (Cert.TotalLossIdeal.main (F := Ideal))) ⟨m, fun _ => 0, g⟩ (fun r => ∀ c : Dev Cert.TotalLossIdeal.nD,
          r.2.mem ((c.tc : Thread Cert.TotalLossIdeal.nD Cert.TotalLossIdeal.τ).loc Cert.TotalLossIdeal.main_v3) = v0
          ∧ r.2.mem ((c.tc : Thread Cert.TotalLossIdeal.nD Cert.TotalLossIdeal.τ).loc Cert.TotalLossIdeal.main_arg0) = m ((c.tc : Thread Cert.TotalLossIdeal.nD Cert.TotalLossIdeal.τ).loc Cert.TotalLossIdeal.main_arg0))
      ∧ θ_run (Cert.TotalLossReferenceIdeal.defs (F := Ideal)) (onTc (τ := Cert.TotalLossReferenceIdeal.τ) (Cert.TotalLossReferenceIdeal.main (F := Ideal))) ⟨m', fun _ => 0, g'⟩ (fun r =>
          r.2.mem (((0 : Dev Cert.TotalLossReferenceIdeal.nD).tc : Thread Cert.TotalLossReferenceIdeal.nD Cert.TotalLossReferenceIdeal.τ).loc Cert.TotalLossReferenceIdeal.main_v2) = v0
          ∧ r.2.mem (((0 : Dev Cert.TotalLossReferenceIdeal.nD).tc : Thread Cert.TotalLossReferenceIdeal.nD Cert.TotalLossReferenceIdeal.τ).loc Cert.TotalLossReferenceIdeal.main_arg0) = m' (((0 : Dev Cert.TotalLossReferenceIdeal.nD).tc : Thread Cert.TotalLossReferenceIdeal.nD Cert.TotalLossReferenceIdeal.τ).loc Cert.TotalLossReferenceIdeal.main_arg0))

def preserves_WgradIn_WgradInIdeal : Prop :=
  True

def algebraic_WgradInIdeal_WgradInReferenceIdeal [hWgradInIdeal : Cert.WgradInIdeal.Facts] [hWgradInReferenceIdeal : Cert.WgradInReferenceIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInReferenceIdeal.nD Cert.WgradInReferenceIdeal.τ Cert.WgradInReferenceIdeal.sig) → Buf (Elt Ideal) ℓ) (g' : Dev Cert.WgradInReferenceIdeal.nD → PrngReg), Pre_WgradInIdeal m →
    (∀ c : Dev Cert.WgradInIdeal.nD,
      m' ((c.tc : Thread Cert.WgradInReferenceIdeal.nD Cert.WgradInReferenceIdeal.τ).loc Cert.WgradInReferenceIdeal.main_arg0) = m ((c.tc : Thread Cert.WgradInIdeal.nD Cert.WgradInIdeal.τ).loc Cert.WgradInIdeal.main_arg0)
      ∧ m' ((c.tc : Thread Cert.WgradInReferenceIdeal.nD Cert.WgradInReferenceIdeal.τ).loc Cert.WgradInReferenceIdeal.main_arg1) = m ((c.tc : Thread Cert.WgradInIdeal.nD Cert.WgradInIdeal.τ).loc Cert.WgradInIdeal.main_arg1)) →
    ∃ (v0 : (c : Dev Cert.WgradInIdeal.nD) → Buf (Elt Ideal) ((c.tc : Thread Cert.WgradInIdeal.nD Cert.WgradInIdeal.τ).loc Cert.WgradInIdeal.main_v0)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v0) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ θ_run (Cert.WgradInReferenceIdeal.defs (F := Ideal)) (onTc (τ := Cert.WgradInReferenceIdeal.τ) (Cert.WgradInReferenceIdeal.main (F := Ideal))) ⟨m', fun _ => 0, g'⟩ (fun r => ∀ c : Dev Cert.WgradInReferenceIdeal.nD,
          r.2.mem ((c.tc : Thread Cert.WgradInReferenceIdeal.nD Cert.WgradInReferenceIdeal.τ).loc Cert.WgradInReferenceIdeal.main_v3) = v0 c
          ∧ r.2.mem ((c.tc : Thread Cert.WgradInReferenceIdeal.nD Cert.WgradInReferenceIdeal.τ).loc Cert.WgradInReferenceIdeal.main_arg0) = m' ((c.tc : Thread Cert.WgradInReferenceIdeal.nD Cert.WgradInReferenceIdeal.τ).loc Cert.WgradInReferenceIdeal.main_arg0)
          ∧ r.2.mem ((c.tc : Thread Cert.WgradInReferenceIdeal.nD Cert.WgradInReferenceIdeal.τ).loc Cert.WgradInReferenceIdeal.main_arg1) = m' ((c.tc : Thread Cert.WgradInReferenceIdeal.nD Cert.WgradInReferenceIdeal.τ).loc Cert.WgradInReferenceIdeal.main_arg1))

def preserves_WgradOut_WgradOutIdeal : Prop :=
  True

def algebraic_WgradOutIdeal_WgradOutReferenceIdeal [hWgradOutIdeal : Cert.WgradOutIdeal.Facts] [hWgradOutReferenceIdeal : Cert.WgradOutReferenceIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutReferenceIdeal.nD Cert.WgradOutReferenceIdeal.τ Cert.WgradOutReferenceIdeal.sig) → Buf (Elt Ideal) ℓ) (g' : Dev Cert.WgradOutReferenceIdeal.nD → PrngReg), Pre_WgradOutIdeal m →
    (∀ c : Dev Cert.WgradOutIdeal.nD,
      m' ((c.tc : Thread Cert.WgradOutReferenceIdeal.nD Cert.WgradOutReferenceIdeal.τ).loc Cert.WgradOutReferenceIdeal.main_arg0) = m ((c.tc : Thread Cert.WgradOutIdeal.nD Cert.WgradOutIdeal.τ).loc Cert.WgradOutIdeal.main_arg0)
      ∧ m' ((c.tc : Thread Cert.WgradOutReferenceIdeal.nD Cert.WgradOutReferenceIdeal.τ).loc Cert.WgradOutReferenceIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v0)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v0) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutReferenceIdeal.defs (F := Ideal)) (onTc (τ := Cert.WgradOutReferenceIdeal.τ) (Cert.WgradOutReferenceIdeal.main (F := Ideal))) ⟨m', fun _ => 0, g'⟩ (fun r => ∀ c : Dev Cert.WgradOutReferenceIdeal.nD,
          r.2.mem ((c.tc : Thread Cert.WgradOutReferenceIdeal.nD Cert.WgradOutReferenceIdeal.τ).loc Cert.WgradOutReferenceIdeal.main_v3) = v0 c
          ∧ r.2.mem ((c.tc : Thread Cert.WgradOutReferenceIdeal.nD Cert.WgradOutReferenceIdeal.τ).loc Cert.WgradOutReferenceIdeal.main_arg0) = m' ((c.tc : Thread Cert.WgradOutReferenceIdeal.nD Cert.WgradOutReferenceIdeal.τ).loc Cert.WgradOutReferenceIdeal.main_arg0)
          ∧ r.2.mem ((c.tc : Thread Cert.WgradOutReferenceIdeal.nD Cert.WgradOutReferenceIdeal.τ).loc Cert.WgradOutReferenceIdeal.main_arg1) = m' ((c.tc : Thread Cert.WgradOutReferenceIdeal.nD Cert.WgradOutReferenceIdeal.τ).loc Cert.WgradOutReferenceIdeal.main_arg1))

def preserves_Tail_TailIdeal : Prop :=
  True

def algebraic_TailIdeal_TailReferenceIdeal_pre_finite_heads [hTailIdeal : Cert.TailIdeal.Facts] [hTailReferenceIdeal : Cert.TailReferenceIdeal.Facts] [hPre_finite_heads : Cert.Pre_finite_heads.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_finite_heads m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)
      ∧ m' ((c.tc : Thread Cert.TailReferenceIdeal.nD Cert.TailReferenceIdeal.τ).loc Cert.TailReferenceIdeal.main_arg17) = m ((c.tc : Thread Cert.TailIdeal.nD Cert.TailIdeal.τ).loc Cert.TailIdeal.main_arg17)
      ∧ m' ((c.tc : Thread Cert.TailReferenceIdeal.nD Cert.TailReferenceIdeal.τ).loc Cert.TailReferenceIdeal.main_arg18) = m ((c.tc : Thread Cert.TailIdeal.nD Cert.TailIdeal.τ).loc Cert.TailIdeal.main_arg18)
      ∧ m' ((c.tc : Thread Cert.TailReferenceIdeal.nD Cert.TailReferenceIdeal.τ).loc Cert.TailReferenceIdeal.main_arg19) = m ((c.tc : Thread Cert.TailIdeal.nD Cert.TailIdeal.τ).loc Cert.TailIdeal.main_arg19)) →
    ∃ (v0 : (c : Dev Cert.TailIdeal.nD) → Buf (Elt Ideal) ((c.tc : Thread Cert.TailIdeal.nD Cert.TailIdeal.τ).loc Cert.TailIdeal.main_v8_0)) (v1 : (c : Dev Cert.TailIdeal.nD) → Buf (Elt Ideal) ((c.tc : Thread Cert.TailIdeal.nD Cert.TailIdeal.τ).loc Cert.TailIdeal.main_v8_2)) (v2 : (c : Dev Cert.TailIdeal.nD) → Buf (Elt Ideal) ((c.tc : Thread Cert.TailIdeal.nD Cert.TailIdeal.τ).loc Cert.TailIdeal.main_v8_3)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v8_0) = v0 c
          ∧ r.2.mem ((c.tc : Thread Cert.TailIdeal.nD Cert.TailIdeal.τ).loc Cert.TailIdeal.main_v8_2) = v1 c
          ∧ r.2.mem ((c.tc : Thread Cert.TailIdeal.nD Cert.TailIdeal.τ).loc Cert.TailIdeal.main_v8_3) = v2 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
          ∧ r.2.mem ((c.tc : Thread Cert.TailIdeal.nD Cert.TailIdeal.τ).loc Cert.TailIdeal.main_arg19) = m ((c.tc : Thread Cert.TailIdeal.nD Cert.TailIdeal.τ).loc Cert.TailIdeal.main_arg19))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v148) = v0 c
          ∧ r.2.mem ((c.tc : Thread Cert.TailReferenceIdeal.nD Cert.TailReferenceIdeal.τ).loc Cert.TailReferenceIdeal.main_v131) = v1 c
          ∧ r.2.mem ((c.tc : Thread Cert.TailReferenceIdeal.nD Cert.TailReferenceIdeal.τ).loc Cert.TailReferenceIdeal.main_v149) = v2 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16)
          ∧ r.2.mem ((c.tc : Thread Cert.TailReferenceIdeal.nD Cert.TailReferenceIdeal.τ).loc Cert.TailReferenceIdeal.main_arg17) = m' ((c.tc : Thread Cert.TailReferenceIdeal.nD Cert.TailReferenceIdeal.τ).loc Cert.TailReferenceIdeal.main_arg17)
          ∧ r.2.mem ((c.tc : Thread Cert.TailReferenceIdeal.nD Cert.TailReferenceIdeal.τ).loc Cert.TailReferenceIdeal.main_arg18) = m' ((c.tc : Thread Cert.TailReferenceIdeal.nD Cert.TailReferenceIdeal.τ).loc Cert.TailReferenceIdeal.main_arg18)
          ∧ r.2.mem ((c.tc : Thread Cert.TailReferenceIdeal.nD Cert.TailReferenceIdeal.τ).loc Cert.TailReferenceIdeal.main_arg19) = m' ((c.tc : Thread Cert.TailReferenceIdeal.nD Cert.TailReferenceIdeal.τ).loc Cert.TailReferenceIdeal.main_arg19))

def preserves_Bias_BiasIdeal : Prop :=
  True

def algebraic_BiasIdeal_BiasReferenceIdeal_pre_bucket_tables [hBiasIdeal : Cert.BiasIdeal.Facts] [hBiasReferenceIdeal : Cert.BiasReferenceIdeal.Facts] [hPre_bucket_tables : Cert.Pre_bucket_tables.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal_bucket_tables m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)
      ∧ m' ((c.tc : Thread Cert.BiasReferenceIdeal.nD Cert.BiasReferenceIdeal.τ).loc Cert.BiasReferenceIdeal.main_arg1) = m ((c.tc : Thread Cert.BiasIdeal.nD Cert.BiasIdeal.τ).loc Cert.BiasIdeal.main_arg1)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v153) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0)
          ∧ r.2.mem ((c.tc : Thread Cert.BiasReferenceIdeal.nD Cert.BiasReferenceIdeal.τ).loc Cert.BiasReferenceIdeal.main_arg1) = m' ((c.tc : Thread Cert.BiasReferenceIdeal.nD Cert.BiasReferenceIdeal.τ).loc Cert.BiasReferenceIdeal.main_arg1))

def preserves_Proj_ProjIdeal : Prop :=
  True

def algebraic_ProjIdeal_ProjReferenceIdeal_pre_finite_raw [hProjIdeal : Cert.ProjIdeal.Facts] [hProjReferenceIdeal : Cert.ProjReferenceIdeal.Facts] [hPre_finite_raw : Cert.Pre_finite_raw.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_raw m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v8_0)) (v1 : (c : Dev Cert.ProjIdeal.nD) → Buf (Elt Ideal) ((c.tc : Thread Cert.ProjIdeal.nD Cert.ProjIdeal.τ).loc Cert.ProjIdeal.main_v8_1)) (v2 : (c : Dev Cert.ProjIdeal.nD) → Buf (Elt Ideal) ((c.tc : Thread Cert.ProjIdeal.nD Cert.ProjIdeal.τ).loc Cert.ProjIdeal.main_v8_2)) (v3 : (c : Dev Cert.ProjIdeal.nD) → Buf (Elt Ideal) ((c.tc : Thread Cert.ProjIdeal.nD Cert.ProjIdeal.τ).loc Cert.ProjIdeal.main_v8_3)) (v4 : (c : Dev Cert.ProjIdeal.nD) → Buf (Elt Ideal) ((c.tc : Thread Cert.ProjIdeal.nD Cert.ProjIdeal.τ).loc Cert.ProjIdeal.main_v8_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8_0) = v0 c
          ∧ r.2.mem ((c.tc : Thread Cert.ProjIdeal.nD Cert.ProjIdeal.τ).loc Cert.ProjIdeal.main_v8_1) = v1 c
          ∧ r.2.mem ((c.tc : Thread Cert.ProjIdeal.nD Cert.ProjIdeal.τ).loc Cert.ProjIdeal.main_v8_2) = v2 c
          ∧ r.2.mem ((c.tc : Thread Cert.ProjIdeal.nD Cert.ProjIdeal.τ).loc Cert.ProjIdeal.main_v8_3) = v3 c
          ∧ r.2.mem ((c.tc : Thread Cert.ProjIdeal.nD Cert.ProjIdeal.τ).loc Cert.ProjIdeal.main_v8_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v12) = v0 c
          ∧ r.2.mem ((c.tc : Thread Cert.ProjReferenceIdeal.nD Cert.ProjReferenceIdeal.τ).loc Cert.ProjReferenceIdeal.main_v41) = v1 c
          ∧ r.2.mem ((c.tc : Thread Cert.ProjReferenceIdeal.nD Cert.ProjReferenceIdeal.τ).loc Cert.ProjReferenceIdeal.main_v42) = v2 c
          ∧ r.2.mem ((c.tc : Thread Cert.ProjReferenceIdeal.nD Cert.ProjReferenceIdeal.τ).loc Cert.ProjReferenceIdeal.main_v43) = v3 c
          ∧ r.2.mem ((c.tc : Thread Cert.ProjReferenceIdeal.nD Cert.ProjReferenceIdeal.τ).loc Cert.ProjReferenceIdeal.main_v45) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Attn1_Attn1Ideal : Prop :=
  True

def algebraic_Attn1Ideal_Attn1ReferenceIdeal_pre_band_tables [hAttn1Ideal : Cert.Attn1Ideal.Facts] [hAttn1ReferenceIdeal : Cert.Attn1ReferenceIdeal.Facts] [hPre_band_tables : Cert.Pre_band_tables.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Attn1ReferenceIdeal.nD Cert.Attn1ReferenceIdeal.τ Cert.Attn1ReferenceIdeal.sig) → Buf (Elt Ideal) ℓ) (g' : Dev Cert.Attn1ReferenceIdeal.nD → PrngReg), Pre_Attn1Ideal_band_tables m →
    (∀ c : Dev Cert.Attn1Ideal.nD,
      m' ((c.tc : Thread Cert.Attn1ReferenceIdeal.nD Cert.Attn1ReferenceIdeal.τ).loc Cert.Attn1ReferenceIdeal.main_arg0) = m ((c.tc : Thread Cert.Attn1Ideal.nD Cert.Attn1Ideal.τ).loc Cert.Attn1Ideal.main_arg0)
      ∧ m' ((c.tc : Thread Cert.Attn1ReferenceIdeal.nD Cert.Attn1ReferenceIdeal.τ).loc Cert.Attn1ReferenceIdeal.main_arg1) = m ((c.tc : Thread Cert.Attn1Ideal.nD Cert.Attn1Ideal.τ).loc Cert.Attn1Ideal.main_arg1)
      ∧ m' ((c.tc : Thread Cert.Attn1ReferenceIdeal.nD Cert.Attn1ReferenceIdeal.τ).loc Cert.Attn1ReferenceIdeal.main_arg2) = m ((c.tc : Thread Cert.Attn1Ideal.nD Cert.Attn1Ideal.τ).loc Cert.Attn1Ideal.main_arg2)
      ∧ m' ((c.tc : Thread Cert.Attn1ReferenceIdeal.nD Cert.Attn1ReferenceIdeal.τ).loc Cert.Attn1ReferenceIdeal.main_arg3) = m ((c.tc : Thread Cert.Attn1Ideal.nD Cert.Attn1Ideal.τ).loc Cert.Attn1Ideal.main_arg3)) →
    ∃ (v0 : (c : Dev Cert.Attn1Ideal.nD) → Buf (Elt Ideal) ((c.tc : Thread Cert.Attn1Ideal.nD Cert.Attn1Ideal.τ).loc Cert.Attn1Ideal.main_v0_0)) (v1 : (c : Dev Cert.Attn1Ideal.nD) → Buf (Elt Ideal) ((c.tc : Thread Cert.Attn1Ideal.nD Cert.Attn1Ideal.τ).loc Cert.Attn1Ideal.main_v0_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v0_0) = v0 c
          ∧ r.2.mem ((c.tc : Thread Cert.Attn1Ideal.nD Cert.Attn1Ideal.τ).loc Cert.Attn1Ideal.main_v0_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
          ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
          ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
          ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3))
      ∧ θ_run (Cert.Attn1ReferenceIdeal.defs (F := Ideal)) (onTc (τ := Cert.Attn1ReferenceIdeal.τ) (Cert.Attn1ReferenceIdeal.main (F := Ideal))) ⟨m', fun _ => 0, g'⟩ (fun r => ∀ c : Dev Cert.Attn1ReferenceIdeal.nD,
          r.2.mem ((c.tc : Thread Cert.Attn1ReferenceIdeal.nD Cert.Attn1ReferenceIdeal.τ).loc Cert.Attn1ReferenceIdeal.main_v74) = v0 c
          ∧ r.2.mem ((c.tc : Thread Cert.Attn1ReferenceIdeal.nD Cert.Attn1ReferenceIdeal.τ).loc Cert.Attn1ReferenceIdeal.main_v76) = v1 c
          ∧ r.2.mem ((c.tc : Thread Cert.Attn1ReferenceIdeal.nD Cert.Attn1ReferenceIdeal.τ).loc Cert.Attn1ReferenceIdeal.main_arg0) = m' ((c.tc : Thread Cert.Attn1ReferenceIdeal.nD Cert.Attn1ReferenceIdeal.τ).loc Cert.Attn1ReferenceIdeal.main_arg0)
          ∧ r.2.mem ((c.tc : Thread Cert.Attn1ReferenceIdeal.nD Cert.Attn1ReferenceIdeal.τ).loc Cert.Attn1ReferenceIdeal.main_arg1) = m' ((c.tc : Thread Cert.Attn1ReferenceIdeal.nD Cert.Attn1ReferenceIdeal.τ).loc Cert.Attn1ReferenceIdeal.main_arg1)
          ∧ r.2.mem ((c.tc : Thread Cert.Attn1ReferenceIdeal.nD Cert.Attn1ReferenceIdeal.τ).loc Cert.Attn1ReferenceIdeal.main_arg2) = m' ((c.tc : Thread Cert.Attn1ReferenceIdeal.nD Cert.Attn1ReferenceIdeal.τ).loc Cert.Attn1ReferenceIdeal.main_arg2)
          ∧ r.2.mem ((c.tc : Thread Cert.Attn1ReferenceIdeal.nD Cert.Attn1ReferenceIdeal.τ).loc Cert.Attn1ReferenceIdeal.main_arg3) = m' ((c.tc : Thread Cert.Attn1ReferenceIdeal.nD Cert.Attn1ReferenceIdeal.τ).loc Cert.Attn1ReferenceIdeal.main_arg3))

def preserves_Attn4_Attn4Ideal : Prop :=
  True

def algebraic_Attn4Ideal_Attn4ReferenceIdeal_pre_band_tables_d4 [hAttn4Ideal : Cert.Attn4Ideal.Facts] [hAttn4ReferenceIdeal : Cert.Attn4ReferenceIdeal.Facts] [hPre_band_tables_d4 : Cert.Pre_band_tables_d4.Facts] : Prop :=
  ∀ (m : (ℓ : Loc Cert.Attn4Ideal.nD Cert.Attn4Ideal.τ Cert.Attn4Ideal.sig) → Buf (Elt Ideal) ℓ) (g : Dev Cert.Attn4Ideal.nD → PrngReg)
    (m' : (ℓ : Loc Cert.Attn4ReferenceIdeal.nD Cert.Attn4ReferenceIdeal.τ Cert.Attn4ReferenceIdeal.sig) → Buf (Elt Ideal) ℓ) (g' : Dev Cert.Attn4ReferenceIdeal.nD → PrngReg), Pre_Attn4Ideal_band_tables_d4 m →
    (∀ c : Dev Cert.Attn4Ideal.nD,
      m' ((c.tc : Thread Cert.Attn4ReferenceIdeal.nD Cert.Attn4ReferenceIdeal.τ).loc Cert.Attn4ReferenceIdeal.main_arg0) = m ((c.tc : Thread Cert.Attn4Ideal.nD Cert.Attn4Ideal.τ).loc Cert.Attn4Ideal.main_arg0)
      ∧ m' ((c.tc : Thread Cert.Attn4ReferenceIdeal.nD Cert.Attn4ReferenceIdeal.τ).loc Cert.Attn4ReferenceIdeal.main_arg1) = m ((c.tc : Thread Cert.Attn4Ideal.nD Cert.Attn4Ideal.τ).loc Cert.Attn4Ideal.main_arg1)
      ∧ m' ((c.tc : Thread Cert.Attn4ReferenceIdeal.nD Cert.Attn4ReferenceIdeal.τ).loc Cert.Attn4ReferenceIdeal.main_arg2) = m ((c.tc : Thread Cert.Attn4Ideal.nD Cert.Attn4Ideal.τ).loc Cert.Attn4Ideal.main_arg2)
      ∧ m' ((c.tc : Thread Cert.Attn4ReferenceIdeal.nD Cert.Attn4ReferenceIdeal.τ).loc Cert.Attn4ReferenceIdeal.main_arg3) = m ((c.tc : Thread Cert.Attn4Ideal.nD Cert.Attn4Ideal.τ).loc Cert.Attn4Ideal.main_arg3)) →
    ∃ (v0 : (c : Dev Cert.Attn4Ideal.nD) → Buf (Elt Ideal) ((c.tc : Thread Cert.Attn4Ideal.nD Cert.Attn4Ideal.τ).loc Cert.Attn4Ideal.main_v0_0)) (v1 : (c : Dev Cert.Attn4Ideal.nD) → Buf (Elt Ideal) ((c.tc : Thread Cert.Attn4Ideal.nD Cert.Attn4Ideal.τ).loc Cert.Attn4Ideal.main_v0_1)),
      θ_run (Cert.Attn4Ideal.defs (F := Ideal)) (onTc (τ := Cert.Attn4Ideal.τ) (Cert.Attn4Ideal.main (F := Ideal))) ⟨m, fun _ => 0, g⟩ (fun r => ∀ c : Dev Cert.Attn4Ideal.nD,
          r.2.mem ((c.tc : Thread Cert.Attn4Ideal.nD Cert.Attn4Ideal.τ).loc Cert.Attn4Ideal.main_v0_0) = v0 c
          ∧ r.2.mem ((c.tc : Thread Cert.Attn4Ideal.nD Cert.Attn4Ideal.τ).loc Cert.Attn4Ideal.main_v0_1) = v1 c
          ∧ r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
          ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
          ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
          ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3))
      ∧ θ_run (Cert.Attn4ReferenceIdeal.defs (F := Ideal)) (onTc (τ := Cert.Attn4ReferenceIdeal.τ) (Cert.Attn4ReferenceIdeal.main (F := Ideal))) ⟨m', fun _ => 0, g'⟩ (fun r => ∀ c : Dev Cert.Attn4ReferenceIdeal.nD,
          r.2.mem ((c.tc : Thread Cert.Attn4ReferenceIdeal.nD Cert.Attn4ReferenceIdeal.τ).loc Cert.Attn4ReferenceIdeal.main_v75) = v0 c
          ∧ r.2.mem ((c.tc : Thread Cert.Attn4ReferenceIdeal.nD Cert.Attn4ReferenceIdeal.τ).loc Cert.Attn4ReferenceIdeal.main_v77) = v1 c
          ∧ r.2.mem ((c.tc : Thread Cert.Attn4ReferenceIdeal.nD Cert.Attn4ReferenceIdeal.τ).loc Cert.Attn4ReferenceIdeal.main_arg0) = m' ((c.tc : Thread Cert.Attn4ReferenceIdeal.nD Cert.Attn4ReferenceIdeal.τ).loc Cert.Attn4ReferenceIdeal.main_arg0)
          ∧ r.2.mem ((c.tc : Thread Cert.Attn4ReferenceIdeal.nD Cert.Attn4ReferenceIdeal.τ).loc Cert.Attn4ReferenceIdeal.main_arg1) = m' ((c.tc : Thread Cert.Attn4ReferenceIdeal.nD Cert.Attn4ReferenceIdeal.τ).loc Cert.Attn4ReferenceIdeal.main_arg1)
          ∧ r.2.mem ((c.tc : Thread Cert.Attn4ReferenceIdeal.nD Cert.Attn4ReferenceIdeal.τ).loc Cert.Attn4ReferenceIdeal.main_arg2) = m' ((c.tc : Thread Cert.Attn4ReferenceIdeal.nD Cert.Attn4ReferenceIdeal.τ).loc Cert.Attn4ReferenceIdeal.main_arg2)
          ∧ r.2.mem ((c.tc : Thread Cert.Attn4ReferenceIdeal.nD Cert.Attn4ReferenceIdeal.τ).loc Cert.Attn4ReferenceIdeal.main_arg3) = m' ((c.tc : Thread Cert.Attn4ReferenceIdeal.nD Cert.Attn4ReferenceIdeal.τ).loc Cert.Attn4ReferenceIdeal.main_arg3))

def preserves_Attn16_Attn16Ideal : Prop :=
  True

def algebraic_Attn16Ideal_Attn16ReferenceIdeal_pre_band_tables_d16 [hAttn16Ideal : Cert.Attn16Ideal.Facts] [hAttn16ReferenceIdeal : Cert.Attn16ReferenceIdeal.Facts] [hPre_band_tables_d16 : Cert.Pre_band_tables_d16.Facts] : Prop :=
  ∀ (m : (ℓ : Loc Cert.Attn16Ideal.nD Cert.Attn16Ideal.τ Cert.Attn16Ideal.sig) → Buf (Elt Ideal) ℓ) (g : Dev Cert.Attn16Ideal.nD → PrngReg)
    (m' : (ℓ : Loc Cert.Attn16ReferenceIdeal.nD Cert.Attn16ReferenceIdeal.τ Cert.Attn16ReferenceIdeal.sig) → Buf (Elt Ideal) ℓ) (g' : Dev Cert.Attn16ReferenceIdeal.nD → PrngReg), Pre_Attn16Ideal_band_tables_d16 m →
    (∀ c : Dev Cert.Attn16Ideal.nD,
      m' ((c.tc : Thread Cert.Attn16ReferenceIdeal.nD Cert.Attn16ReferenceIdeal.τ).loc Cert.Attn16ReferenceIdeal.main_arg0) = m ((c.tc : Thread Cert.Attn16Ideal.nD Cert.Attn16Ideal.τ).loc Cert.Attn16Ideal.main_arg0)
      ∧ m' ((c.tc : Thread Cert.Attn16ReferenceIdeal.nD Cert.Attn16ReferenceIdeal.τ).loc Cert.Attn16ReferenceIdeal.main_arg1) = m ((c.tc : Thread Cert.Attn16Ideal.nD Cert.Attn16Ideal.τ).loc Cert.Attn16Ideal.main_arg1)
      ∧ m' ((c.tc : Thread Cert.Attn16ReferenceIdeal.nD Cert.Attn16ReferenceIdeal.τ).loc Cert.Attn16ReferenceIdeal.main_arg2) = m ((c.tc : Thread Cert.Attn16Ideal.nD Cert.Attn16Ideal.τ).loc Cert.Attn16Ideal.main_arg2)
      ∧ m' ((c.tc : Thread Cert.Attn16ReferenceIdeal.nD Cert.Attn16ReferenceIdeal.τ).loc Cert.Attn16ReferenceIdeal.main_arg3) = m ((c.tc : Thread Cert.Attn16Ideal.nD Cert.Attn16Ideal.τ).loc Cert.Attn16Ideal.main_arg3)) →
    ∃ (v0 : (c : Dev Cert.Attn16Ideal.nD) → Buf (Elt Ideal) ((c.tc : Thread Cert.Attn16Ideal.nD Cert.Attn16Ideal.τ).loc Cert.Attn16Ideal.main_v0_0)) (v1 : (c : Dev Cert.Attn16Ideal.nD) → Buf (Elt Ideal) ((c.tc : Thread Cert.Attn16Ideal.nD Cert.Attn16Ideal.τ).loc Cert.Attn16Ideal.main_v0_1)),
      θ_run (Cert.Attn16Ideal.defs (F := Ideal)) (onTc (τ := Cert.Attn16Ideal.τ) (Cert.Attn16Ideal.main (F := Ideal))) ⟨m, fun _ => 0, g⟩ (fun r => ∀ c : Dev Cert.Attn16Ideal.nD,
          r.2.mem ((c.tc : Thread Cert.Attn16Ideal.nD Cert.Attn16Ideal.τ).loc Cert.Attn16Ideal.main_v0_0) = v0 c
          ∧ r.2.mem ((c.tc : Thread Cert.Attn16Ideal.nD Cert.Attn16Ideal.τ).loc Cert.Attn16Ideal.main_v0_1) = v1 c
          ∧ r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0)
          ∧ r.2.mem ((c.tc : Thread Cert.Attn16Ideal.nD Cert.Attn16Ideal.τ).loc Cert.Attn16Ideal.main_arg1) = m ((c.tc : Thread Cert.Attn16Ideal.nD Cert.Attn16Ideal.τ).loc Cert.Attn16Ideal.main_arg1)
          ∧ r.2.mem ((c.tc : Thread Cert.Attn16Ideal.nD Cert.Attn16Ideal.τ).loc Cert.Attn16Ideal.main_arg2) = m ((c.tc : Thread Cert.Attn16Ideal.nD Cert.Attn16Ideal.τ).loc Cert.Attn16Ideal.main_arg2)
          ∧ r.2.mem ((c.tc : Thread Cert.Attn16Ideal.nD Cert.Attn16Ideal.τ).loc Cert.Attn16Ideal.main_arg3) = m ((c.tc : Thread Cert.Attn16Ideal.nD Cert.Attn16Ideal.τ).loc Cert.Attn16Ideal.main_arg3))
      ∧ θ_run (Cert.Attn16ReferenceIdeal.defs (F := Ideal)) (onTc (τ := Cert.Attn16ReferenceIdeal.τ) (Cert.Attn16ReferenceIdeal.main (F := Ideal))) ⟨m', fun _ => 0, g'⟩ (fun r => ∀ c : Dev Cert.Attn16ReferenceIdeal.nD,
          r.2.mem ((c.tc : Thread Cert.Attn16ReferenceIdeal.nD Cert.Attn16ReferenceIdeal.τ).loc Cert.Attn16ReferenceIdeal.main_v75) = v0 c
          ∧ r.2.mem ((c.tc : Thread Cert.Attn16ReferenceIdeal.nD Cert.Attn16ReferenceIdeal.τ).loc Cert.Attn16ReferenceIdeal.main_v77) = v1 c
          ∧ r.2.mem ((c.tc : Thread Cert.Attn16ReferenceIdeal.nD Cert.Attn16ReferenceIdeal.τ).loc Cert.Attn16ReferenceIdeal.main_arg0) = m' ((c.tc : Thread Cert.Attn16ReferenceIdeal.nD Cert.Attn16ReferenceIdeal.τ).loc Cert.Attn16ReferenceIdeal.main_arg0)
          ∧ r.2.mem ((c.tc : Thread Cert.Attn16ReferenceIdeal.nD Cert.Attn16ReferenceIdeal.τ).loc Cert.Attn16ReferenceIdeal.main_arg1) = m' ((c.tc : Thread Cert.Attn16ReferenceIdeal.nD Cert.Attn16ReferenceIdeal.τ).loc Cert.Attn16ReferenceIdeal.main_arg1)
          ∧ r.2.mem ((c.tc : Thread Cert.Attn16ReferenceIdeal.nD Cert.Attn16ReferenceIdeal.τ).loc Cert.Attn16ReferenceIdeal.main_arg2) = m' ((c.tc : Thread Cert.Attn16ReferenceIdeal.nD Cert.Attn16ReferenceIdeal.τ).loc Cert.Attn16ReferenceIdeal.main_arg2)
          ∧ r.2.mem ((c.tc : Thread Cert.Attn16ReferenceIdeal.nD Cert.Attn16ReferenceIdeal.τ).loc Cert.Attn16ReferenceIdeal.main_arg3) = m' ((c.tc : Thread Cert.Attn16ReferenceIdeal.nD Cert.Attn16ReferenceIdeal.τ).loc Cert.Attn16ReferenceIdeal.main_arg3))

def Claim : Prop :=
  ∃ (hStepIn : Cert.StepIn.Facts) (hStepInIdeal : Cert.StepInIdeal.Facts) (hStepInReferenceIdeal : Cert.StepInReferenceIdeal.Facts) (hStepOut : Cert.StepOut.Facts) (hStepOutIdeal : Cert.StepOutIdeal.Facts) (hStepOutReferenceIdeal : Cert.StepOutReferenceIdeal.Facts) (hStepSmall : Cert.StepSmall.Facts) (hStepSmallIdeal : Cert.StepSmallIdeal.Facts) (hStepSmallReferenceIdeal : Cert.StepSmallReferenceIdeal.Facts) (hFoldHeads : Cert.FoldHeads.Facts) (hFoldHeadsIdeal : Cert.FoldHeadsIdeal.Facts) (hFoldHeadsReferenceIdeal : Cert.FoldHeadsReferenceIdeal.Facts) (hCombine : Cert.Combine.Facts) (hCombineIdeal : Cert.CombineIdeal.Facts) (hCombineReferenceIdeal : Cert.CombineReferenceIdeal.Facts) (hTotalLoss : Cert.TotalLoss.Facts) (hTotalLossIdeal : Cert.TotalLossIdeal.Facts) (hTotalLossReferenceIdeal : Cert.TotalLossReferenceIdeal.Facts) (hWgradIn : Cert.WgradIn.Facts) (hWgradInIdeal : Cert.WgradInIdeal.Facts) (hWgradInReferenceIdeal : Cert.WgradInReferenceIdeal.Facts) (hWgradOut : Cert.WgradOut.Facts) (hWgradOutIdeal : Cert.WgradOutIdeal.Facts) (hWgradOutReferenceIdeal : Cert.WgradOutReferenceIdeal.Facts) (hTail : Cert.Tail.Facts) (hTailIdeal : Cert.TailIdeal.Facts) (hTailReferenceIdeal : Cert.TailReferenceIdeal.Facts) (hBias : Cert.Bias.Facts) (hBiasIdeal : Cert.BiasIdeal.Facts) (hBiasReferenceIdeal : Cert.BiasReferenceIdeal.Facts) (hProj : Cert.Proj.Facts) (hProjIdeal : Cert.ProjIdeal.Facts) (hProjReferenceIdeal : Cert.ProjReferenceIdeal.Facts) (hAttn1 : Cert.Attn1.Facts) (hAttn1Ideal : Cert.Attn1Ideal.Facts) (hAttn1ReferenceIdeal : Cert.Attn1ReferenceIdeal.Facts) (hAttn4 : Cert.Attn4.Facts) (hAttn4Ideal : Cert.Attn4Ideal.Facts) (hAttn4ReferenceIdeal : Cert.Attn4ReferenceIdeal.Facts) (hAttn16 : Cert.Attn16.Facts) (hAttn16Ideal : Cert.Attn16Ideal.Facts) (hAttn16ReferenceIdeal : Cert.Attn16ReferenceIdeal.Facts) (hPre_finite_lse : Cert.Pre_finite_lse.Facts) (hPre_finite_heads : Cert.Pre_finite_heads.Facts) (hPre_bucket_tables : Cert.Pre_bucket_tables.Facts) (hPre_finite_raw : Cert.Pre_finite_raw.Facts) (hPre_band_tables : Cert.Pre_band_tables.Facts) (hPre_band_tables_d4 : Cert.Pre_band_tables_d4.Facts) (hPre_band_tables_d16 : Cert.Pre_band_tables_d16.Facts),
    quiescent_StepIn (hStepIn := hStepIn)
    ∧ quiescent_StepInIdeal (hStepInIdeal := hStepInIdeal)
    ∧ quiescent_StepInReferenceIdeal (hStepInReferenceIdeal := hStepInReferenceIdeal)
    ∧ quiescent_StepOut (hStepOut := hStepOut)
    ∧ quiescent_StepOutIdeal (hStepOutIdeal := hStepOutIdeal)
    ∧ quiescent_StepOutReferenceIdeal (hStepOutReferenceIdeal := hStepOutReferenceIdeal)
    ∧ quiescent_StepSmall (hStepSmall := hStepSmall)
    ∧ quiescent_StepSmallIdeal (hStepSmallIdeal := hStepSmallIdeal)
    ∧ quiescent_StepSmallReferenceIdeal (hStepSmallReferenceIdeal := hStepSmallReferenceIdeal)
    ∧ quiescent_FoldHeads (hFoldHeads := hFoldHeads)
    ∧ quiescent_FoldHeadsIdeal (hFoldHeadsIdeal := hFoldHeadsIdeal)
    ∧ quiescent_FoldHeadsReferenceIdeal (hFoldHeadsReferenceIdeal := hFoldHeadsReferenceIdeal)
    ∧ quiescent_Combine (hCombine := hCombine)
    ∧ quiescent_CombineIdeal (hCombineIdeal := hCombineIdeal)
    ∧ quiescent_CombineIdeal_pre_finite_lse (hCombineIdeal := hCombineIdeal) (hPre_finite_lse := hPre_finite_lse)
    ∧ quiescent_CombineReferenceIdeal (hCombineReferenceIdeal := hCombineReferenceIdeal)
    ∧ quiescent_CombineReferenceIdeal_pre_finite_lse (hCombineReferenceIdeal := hCombineReferenceIdeal) (hPre_finite_lse := hPre_finite_lse)
    ∧ quiescent_TotalLoss (hTotalLoss := hTotalLoss)
    ∧ quiescent_TotalLossIdeal (hTotalLossIdeal := hTotalLossIdeal)
    ∧ quiescent_TotalLossReferenceIdeal (hTotalLossReferenceIdeal := hTotalLossReferenceIdeal)
    ∧ quiescent_WgradIn (hWgradIn := hWgradIn)
    ∧ quiescent_WgradInIdeal (hWgradInIdeal := hWgradInIdeal)
    ∧ quiescent_WgradInReferenceIdeal (hWgradInReferenceIdeal := hWgradInReferenceIdeal)
    ∧ quiescent_WgradOut (hWgradOut := hWgradOut)
    ∧ quiescent_WgradOutIdeal (hWgradOutIdeal := hWgradOutIdeal)
    ∧ quiescent_WgradOutReferenceIdeal (hWgradOutReferenceIdeal := hWgradOutReferenceIdeal)
    ∧ quiescent_Tail (hTail := hTail)
    ∧ quiescent_TailIdeal (hTailIdeal := hTailIdeal)
    ∧ quiescent_TailIdeal_pre_finite_heads (hTailIdeal := hTailIdeal) (hPre_finite_heads := hPre_finite_heads)
    ∧ quiescent_TailReferenceIdeal (hTailReferenceIdeal := hTailReferenceIdeal)
    ∧ quiescent_TailReferenceIdeal_pre_finite_heads (hTailReferenceIdeal := hTailReferenceIdeal) (hPre_finite_heads := hPre_finite_heads)
    ∧ quiescent_Bias (hBias := hBias)
    ∧ quiescent_BiasIdeal (hBiasIdeal := hBiasIdeal)
    ∧ quiescent_BiasIdeal_pre_bucket_tables (hBiasIdeal := hBiasIdeal) (hPre_bucket_tables := hPre_bucket_tables)
    ∧ quiescent_BiasReferenceIdeal (hBiasReferenceIdeal := hBiasReferenceIdeal)
    ∧ quiescent_BiasReferenceIdeal_pre_bucket_tables (hBiasReferenceIdeal := hBiasReferenceIdeal) (hPre_bucket_tables := hPre_bucket_tables)
    ∧ quiescent_Proj (hProj := hProj)
    ∧ quiescent_ProjIdeal (hProjIdeal := hProjIdeal)
    ∧ quiescent_ProjIdeal_pre_finite_raw (hProjIdeal := hProjIdeal) (hPre_finite_raw := hPre_finite_raw)
    ∧ quiescent_ProjReferenceIdeal (hProjReferenceIdeal := hProjReferenceIdeal)
    ∧ quiescent_ProjReferenceIdeal_pre_finite_raw (hProjReferenceIdeal := hProjReferenceIdeal) (hPre_finite_raw := hPre_finite_raw)
    ∧ quiescent_Attn1 (hAttn1 := hAttn1)
    ∧ quiescent_Attn1Ideal (hAttn1Ideal := hAttn1Ideal)
    ∧ quiescent_Attn1Ideal_pre_band_tables (hAttn1Ideal := hAttn1Ideal) (hPre_band_tables := hPre_band_tables)
    ∧ quiescent_Attn1ReferenceIdeal (hAttn1ReferenceIdeal := hAttn1ReferenceIdeal)
    ∧ quiescent_Attn1ReferenceIdeal_pre_band_tables (hAttn1ReferenceIdeal := hAttn1ReferenceIdeal) (hPre_band_tables := hPre_band_tables)
    ∧ quiescent_Attn4 (hAttn4 := hAttn4)
    ∧ quiescent_Attn4Ideal (hAttn4Ideal := hAttn4Ideal)
    ∧ quiescent_Attn4Ideal_pre_band_tables_d4 (hAttn4Ideal := hAttn4Ideal) (hPre_band_tables_d4 := hPre_band_tables_d4)
    ∧ quiescent_Attn4ReferenceIdeal (hAttn4ReferenceIdeal := hAttn4ReferenceIdeal)
    ∧ quiescent_Attn4ReferenceIdeal_pre_band_tables_d4 (hAttn4ReferenceIdeal := hAttn4ReferenceIdeal) (hPre_band_tables_d4 := hPre_band_tables_d4)
    ∧ quiescent_Attn16 (hAttn16 := hAttn16)
    ∧ quiescent_Attn16Ideal (hAttn16Ideal := hAttn16Ideal)
    ∧ quiescent_Attn16Ideal_pre_band_tables_d16 (hAttn16Ideal := hAttn16Ideal) (hPre_band_tables_d16 := hPre_band_tables_d16)
    ∧ quiescent_Attn16ReferenceIdeal (hAttn16ReferenceIdeal := hAttn16ReferenceIdeal)
    ∧ quiescent_Attn16ReferenceIdeal_pre_band_tables_d16 (hAttn16ReferenceIdeal := hAttn16ReferenceIdeal) (hPre_band_tables_d16 := hPre_band_tables_d16)
    ∧ preserves_StepIn_StepInIdeal
    ∧ algebraic_StepInIdeal_StepInReferenceIdeal (hStepInIdeal := hStepInIdeal) (hStepInReferenceIdeal := hStepInReferenceIdeal)
    ∧ preserves_StepOut_StepOutIdeal
    ∧ algebraic_StepOutIdeal_StepOutReferenceIdeal (hStepOutIdeal := hStepOutIdeal) (hStepOutReferenceIdeal := hStepOutReferenceIdeal)
    ∧ preserves_StepSmall_StepSmallIdeal
    ∧ algebraic_StepSmallIdeal_StepSmallReferenceIdeal (hStepSmallIdeal := hStepSmallIdeal) (hStepSmallReferenceIdeal := hStepSmallReferenceIdeal)
    ∧ preserves_FoldHeads_FoldHeadsIdeal
    ∧ algebraic_FoldHeadsIdeal_FoldHeadsReferenceIdeal (hFoldHeadsIdeal := hFoldHeadsIdeal) (hFoldHeadsReferenceIdeal := hFoldHeadsReferenceIdeal)
    ∧ preserves_Combine_CombineIdeal
    ∧ algebraic_CombineIdeal_CombineReferenceIdeal_pre_finite_lse (hCombineIdeal := hCombineIdeal) (hCombineReferenceIdeal := hCombineReferenceIdeal) (hPre_finite_lse := hPre_finite_lse)
    ∧ preserves_TotalLoss_TotalLossIdeal
    ∧ algebraic_TotalLossIdeal_TotalLossReferenceIdeal (hTotalLossIdeal := hTotalLossIdeal) (hTotalLossReferenceIdeal := hTotalLossReferenceIdeal)
    ∧ preserves_WgradIn_WgradInIdeal
    ∧ algebraic_WgradInIdeal_WgradInReferenceIdeal (hWgradInIdeal := hWgradInIdeal) (hWgradInReferenceIdeal := hWgradInReferenceIdeal)
    ∧ preserves_WgradOut_WgradOutIdeal
    ∧ algebraic_WgradOutIdeal_WgradOutReferenceIdeal (hWgradOutIdeal := hWgradOutIdeal) (hWgradOutReferenceIdeal := hWgradOutReferenceIdeal)
    ∧ preserves_Tail_TailIdeal
    ∧ algebraic_TailIdeal_TailReferenceIdeal_pre_finite_heads (hTailIdeal := hTailIdeal) (hTailReferenceIdeal := hTailReferenceIdeal) (hPre_finite_heads := hPre_finite_heads)
    ∧ preserves_Bias_BiasIdeal
    ∧ algebraic_BiasIdeal_BiasReferenceIdeal_pre_bucket_tables (hBiasIdeal := hBiasIdeal) (hBiasReferenceIdeal := hBiasReferenceIdeal) (hPre_bucket_tables := hPre_bucket_tables)
    ∧ preserves_Proj_ProjIdeal
    ∧ algebraic_ProjIdeal_ProjReferenceIdeal_pre_finite_raw (hProjIdeal := hProjIdeal) (hProjReferenceIdeal := hProjReferenceIdeal) (hPre_finite_raw := hPre_finite_raw)
    ∧ preserves_Attn1_Attn1Ideal
    ∧ algebraic_Attn1Ideal_Attn1ReferenceIdeal_pre_band_tables (hAttn1Ideal := hAttn1Ideal) (hAttn1ReferenceIdeal := hAttn1ReferenceIdeal) (hPre_band_tables := hPre_band_tables)
    ∧ preserves_Attn4_Attn4Ideal
    ∧ algebraic_Attn4Ideal_Attn4ReferenceIdeal_pre_band_tables_d4 (hAttn4Ideal := hAttn4Ideal) (hAttn4ReferenceIdeal := hAttn4ReferenceIdeal) (hPre_band_tables_d4 := hPre_band_tables_d4)
    ∧ preserves_Attn16_Attn16Ideal
    ∧ algebraic_Attn16Ideal_Attn16ReferenceIdeal_pre_band_tables_d16 (hAttn16Ideal := hAttn16Ideal) (hAttn16ReferenceIdeal := hAttn16ReferenceIdeal) (hPre_band_tables_d16 := hPre_band_tables_d16)
-- ==== Pre_band_tables.lean ====
abbrev S1x16384x1024 : Shape := ⟨3, ![1, 16384, 1024]⟩
abbrev S1x16384x512 : Shape := ⟨3, ![1, 16384, 512]⟩
abbrev S3x4x256x256 : Shape := ⟨4, ![3, 4, 256, 256]⟩
abbrev S32x8 : Shape := ⟨2, ![32, 8]⟩
abbrev S256 : Shape := ⟨1, ![256]⟩
abbrev S1x1x256 : Shape := ⟨3, ![1, 1, 256]⟩
abbrev S3 : Shape := ⟨1, ![3]⟩
abbrev S3x1x1 : Shape := ⟨3, ![3, 1, 1]⟩
abbrev S_ : Shape := ⟨0, ![]⟩
abbrev S3x1x256 : Shape := ⟨3, ![3, 1, 256]⟩
abbrev S128 : Shape := ⟨1, ![128]⟩
abbrev S1x128x1 : Shape := ⟨3, ![1, 128, 1]⟩
abbrev S3x128x256 : Shape := ⟨3, ![3, 128, 256]⟩
abbrev S3x128x256x1 : Shape := ⟨4, ![3, 128, 256, 1]⟩
abbrev S3x128x256x8 : Shape := ⟨4, ![3, 128, 256, 8]⟩
abbrev S3x8x128x256 : Shape := ⟨4, ![3, 8, 128, 256]⟩

class Facts : Prop where
  bcast_S256_S1x1x256_2 : S256.BroadcastsInDim S1x1x256 (![2] : Fin 1 → Fin S1x1x256.rank)
  bcast_S3_S3x1x1_0 : S3.BroadcastsInDim S3x1x1 (![0] : Fin 1 → Fin S3x1x1.rank)
  bcast_S_S3x1x1 : S_.BroadcastsInDim S3x1x1 (![] : Fin 0 → Fin S3x1x1.rank)
  bcast_S1x1x256_S3x1x256_0_1_2 : S1x1x256.BroadcastsInDim S3x1x256 (![0, 1, 2] : Fin 3 → Fin S3x1x256.rank)
  bcast_S3x1x1_S3x1x256_0_1_2 : S3x1x1.BroadcastsInDim S3x1x256 (![0, 1, 2] : Fin 3 → Fin S3x1x256.rank)
  bcast_S128_S1x128x1_1 : S128.BroadcastsInDim S1x128x1 (![1] : Fin 1 → Fin S1x128x1.rank)
  bcast_S3x1x256_S3x128x256_0_1_2 : S3x1x256.BroadcastsInDim S3x128x256 (![0, 1, 2] : Fin 3 → Fin S3x128x256.rank)
  bcast_S1x128x1_S3x128x256_0_1_2 : S1x128x1.BroadcastsInDim S3x128x256 (![0, 1, 2] : Fin 3 → Fin S3x128x256.rank)
  bcast_S_S3x128x256 : S_.BroadcastsInDim S3x128x256 (![] : Fin 0 → Fin S3x128x256.rank)
  bcast_S3x128x256_S3x128x256x1_0_1_2 : S3x128x256.BroadcastsInDim S3x128x256x1 (![0, 1, 2] : Fin 3 → Fin S3x128x256x1.rank)
  bcast_S3x128x256x1_S3x128x256x8_0_1_2_3 : S3x128x256x1.BroadcastsInDim S3x128x256x8 (![0, 1, 2, 3] : Fin 4 → Fin S3x128x256x8.rank)
  bcast_S_S3x128x256x8 : S_.BroadcastsInDim S3x128x256x8 (![] : Fin 0 → Fin S3x128x256x8.rank)
  transposes_S3x128x256x8_S3x8x128x256_0_3_1_2 : S3x128x256x8.Transposes [0, 3, 1, 2] S3x8x128x256
  shapeCasts_S3x8x128x256_S3x4x256x256 : S3x8x128x256.ShapeCasts S3x4x256x256
  gather_S32x8_S3x128x256x1_S3x128x256x8_3_0_n_n_0_3_18_wf : GatherDims.WF S32x8 S3x128x256x1 S3x128x256x8 [3] [0] [] [0] [] 3 ![1, 8]

variable [Facts]

def gather_S32x8_S3x128x256x1_S3x128x256x8_3_0_n_n_0_3_18 : GatherDims S32x8 S3x128x256x1 S3x128x256x8 where
  offsetDims := [3]
  collapsedSliceDims := [0]
  operandBatchingDims := []
  startIndicesBatchingDims := []
  startIndexMap := [0]
  indexVectorDim := 3
  sliceSizes := ![1, 8]
  wf := gather_S32x8_S3x128x256x1_S3x128x256x8_3_0_n_n_0_3_18_wf
def fn_clip {F : FTy → Type} [FloatOps F] (arg0 : IVec S3x128x256 32) (arg1 : IVec S_ 32) (arg2 : IVec S_ 32) : IVec S3x128x256 32 :=
  let v0 : IVec S_ 32 := id arg1
  let v1 : IVec S3x128x256 32 := broadcastInDim S3x128x256 ![] bcast_S_S3x128x256 v0
  let v2 : IVec S3x128x256 32 := maxsi v1 arg0
  let v3 : IVec S_ 32 := id arg2
  let v4 : IVec S3x128x256 32 := broadcastInDim S3x128x256 ![] bcast_S_S3x128x256 v3
  let v5 : IVec S3x128x256 32 := minsi v4 v2
  v5

def fn_where {F : FTy → Type} [FloatOps F] (arg0 : IVec S3x128x256 1) (arg1 : IVec S_ 32) (arg2 : IVec S_ 32) : IVec S3x128x256 32 :=
  let v0 : IVec S3x128x256 32 := broadcastInDim S3x128x256 ![] bcast_S_S3x128x256 arg1
  let v1 : IVec S3x128x256 32 := broadcastInDim S3x128x256 ![] bcast_S_S3x128x256 arg2
  let v2 : IVec S3x128x256 32 := select arg0 v0 v1
  v2

def fn_where_0 {F : FTy → Type} [FloatOps F] (arg0 : IVec S3x128x256 1) (arg1 : IVec S3x128x256 32) (arg2 : IVec S3x128x256 32) : IVec S3x128x256 32 :=
  let v0 : IVec S3x128x256 32 := select arg0 arg1 arg2
  v0

def fn_where_1 {F : FTy → Type} [FloatOps F] (arg0 : IVec S3x128x256x1 1) (arg1 : FVec F S3x128x256x8 .f32) (arg2 : FVec F S_ .f32) : FVec F S3x128x256x8 .f32 :=
  let v0 : FVec F S_ .f32 := id arg2
  let v1 : IVec S3x128x256x8 1 := broadcastInDim S3x128x256x8 ![0, 1, 2, 3] bcast_S3x128x256x1_S3x128x256x8_0_1_2_3 arg0
  let v2 : FVec F S3x128x256x8 .f32 := broadcastInDim S3x128x256x8 ![] bcast_S_S3x128x256x8 v0
  let v3 : FVec F S3x128x256x8 .f32 := select v1 arg1 v2
  v3

def fn_part3 {F : FTy → Type} [FloatOps F] (main_arg2 : FVec F S3x4x256x256 .f32) (main_v45 : FVec F S3x128x256x8 .f32) (main_v54 : IVec S3x1x256 32) (main_v55 : IVec S128 32) : IVec S3x4x256x256 1 :=
  let main_v56 : IVec S1x128x1 32 := broadcastInDim S1x128x1 ![1] bcast_S128_S1x128x1_1 main_v55
  let main_v57 : IVec S3x128x256 32 := broadcastInDim S3x128x256 ![0, 1, 2] bcast_S3x1x256_S3x128x256_0_1_2 main_v54
  let main_v58 : IVec S3x128x256 32 := broadcastInDim S3x128x256 ![0, 1, 2] bcast_S1x128x1_S3x128x256_0_1_2 main_v56
  let main_v59 : IVec S3x128x256 32 := subi main_v57 main_v58
  let main_v60 : IVec S3x128x256 32 := absi main_v59
  let main_c_14 : IVec S_ 32 := constantI S_ 32 64#32
  let main_v61 : IVec S3x128x256 32 := broadcastInDim S3x128x256 ![] bcast_S_S3x128x256 main_c_14
  let main_v62 : IVec S3x128x256 1 := cmpi .sle main_v60 main_v61
  let main_v63 : IVec S3x128x256x1 1 := broadcastInDim S3x128x256x1 ![0, 1, 2] bcast_S3x128x256_S3x128x256x1_0_1_2 main_v62
  let main_cst_15 : FVec F S_ .f32 := constant S_ .f32 0xFF800000#32
  let main_v64 : FVec F S3x128x256x8 .f32 := fn_where_1 (F := F) main_v63 main_v45 main_cst_15
  let main_v65 : FVec F S3x8x128x256 .f32 := (transpose S3x8x128x256 [0, 3, 1, 2] · transposes_S3x128x256x8_S3x8x128x256_0_3_1_2) main_v64
  let main_v66 : FVec F S3x4x256x256 .f32 := shapeCast S3x4x256x256 main_v65 shapeCasts_S3x8x128x256_S3x4x256x256
  let main_v67 : IVec S3x4x256x256 1 := cmpf .oeq main_arg2 main_v66
  main_v67

def fn_part2 {F : FTy → Type} [FloatOps F] (main_arg2 : FVec F S3x4x256x256 .f32) (main_arg3 : FVec F S32x8 .f32) (main_v17 : IVec S3x128x256 32) (main_v18 : IVec S3x128x256 32) (main_v33 : IVec S3x128x256 32) (main_v34 : IVec S3x128x256 32) : IVec S3x4x256x256 1 :=
  let main_v35 : IVec S3x128x256 1 := cmpi .slt main_v18 main_v34
  let main_v36 : IVec S3x128x256 32 := fn_where_0 (F := F) main_v35 main_v18 main_v33
  let main_v37 : IVec S3x128x256 32 := id main_v17
  let main_v38 : IVec S3x128x256 32 := addi main_v37 main_v36
  let main_c_11 : IVec S_ 32 := constantI S_ 32 0#32
  let main_v39 : IVec S3x128x256 32 := broadcastInDim S3x128x256 ![] bcast_S_S3x128x256 main_c_11
  let main_v40 : IVec S3x128x256 1 := cmpi .slt main_v38 main_v39
  let main_c_12 : IVec S_ 32 := constantI S_ 32 32#32
  let main_v41 : IVec S3x128x256 32 := broadcastInDim S3x128x256 ![] bcast_S_S3x128x256 main_c_12
  let main_v42 : IVec S3x128x256 32 := addi main_v38 main_v41
  let main_v43 : IVec S3x128x256 32 := select main_v40 main_v42 main_v38
  let main_v44 : IVec S3x128x256x1 32 := broadcastInDim S3x128x256x1 ![0, 1, 2] bcast_S3x128x256_S3x128x256x1_0_1_2 main_v43
  let main_v45 : FVec F S3x128x256x8 .f32 := (fun x i => Host.gather gather_S32x8_S3x128x256x1_S3x128x256x8_3_0_n_n_0_3_18 x i) main_arg3 main_v44
  let main_v46 : IVec S256 32 := iotaInDim S256 32 0
  let main_v47 : IVec S1x1x256 32 := broadcastInDim S1x1x256 ![2] bcast_S256_S1x1x256_2 main_v46
  let main_v48 : IVec S3 32 := iotaInDim S3 32 0
  let main_v49 : IVec S3x1x1 32 := broadcastInDim S3x1x1 ![0] bcast_S3_S3x1x1_0 main_v48
  let main_c_13 : IVec S_ 32 := constantI S_ 32 64#32
  let main_v50 : IVec S3x1x1 32 := broadcastInDim S3x1x1 ![] bcast_S_S3x1x1 main_c_13
  let main_v51 : IVec S3x1x1 32 := muli main_v50 main_v49
  let main_v52 : IVec S3x1x256 32 := broadcastInDim S3x1x256 ![0, 1, 2] bcast_S1x1x256_S3x1x256_0_1_2 main_v47
  let main_v53 : IVec S3x1x256 32 := broadcastInDim S3x1x256 ![0, 1, 2] bcast_S3x1x1_S3x1x256_0_1_2 main_v51
  let main_v54 : IVec S3x1x256 32 := subi main_v52 main_v53
  let main_v55 : IVec S128 32 := iotaInDim S128 32 0
  fn_part3 (F := F) main_arg2 main_v45 main_v54 main_v55

def fn_part1 {F : FTy → Type} [FloatOps F] (main_arg2 : FVec F S3x4x256x256 .f32) (main_arg3 : FVec F S32x8 .f32) (main_v14 : IVec S3x128x256 32) (main_v17 : IVec S3x128x256 32) : IVec S3x4x256x256 1 :=
  let main_v18 : IVec S3x128x256 32 := absi main_v14
  let main_c_5 : IVec S_ 32 := constantI S_ 32 1#32
  let main_v19 : IVec S3x128x256 32 := broadcastInDim S3x128x256 ![] bcast_S_S3x128x256 main_c_5
  let main_v20 : IVec S3x128x256 32 := maxsi main_v18 main_v19
  let main_v21 : FVec F S3x128x256 .f32 := sitofp .f32 main_v20
  let main_cst : FVec F S_ .f32 := constant S_ .f32 0x41000000#32
  let main_v22 : FVec F S3x128x256 .f32 := broadcastInDim S3x128x256 ![] bcast_S_S3x128x256 main_cst
  let main_v23 : FVec F S3x128x256 .f32 := Host.divf main_v21 main_v22
  let main_v24 : FVec F S3x128x256 .f32 := Host.log main_v23
  let main_cst_6 : FVec F S_ .f32 := constant S_ .f32 0x409B43D5#32
  let main_v25 : FVec F S3x128x256 .f32 := broadcastInDim S3x128x256 ![] bcast_S_S3x128x256 main_cst_6
  let main_v26 : FVec F S3x128x256 .f32 := Host.divf main_v24 main_v25
  let main_cst_7 : FVec F S_ .f32 := constant S_ .f32 0x41000000#32
  let main_v27 : FVec F S3x128x256 .f32 := broadcastInDim S3x128x256 ![] bcast_S_S3x128x256 main_cst_7
  let main_v28 : FVec F S3x128x256 .f32 := mulf main_v26 main_v27
  let main_v29 : IVec S3x128x256 32 := fptosi 32 main_v28
  let main_c_8 : IVec S_ 32 := constantI S_ 32 8#32
  let main_v30 : IVec S3x128x256 32 := broadcastInDim S3x128x256 ![] bcast_S_S3x128x256 main_c_8
  let main_v31 : IVec S3x128x256 32 := addi main_v30 main_v29
  let main_c_9 : IVec S_ 32 := constantI S_ 32 15#32
  let main_v32 : IVec S3x128x256 32 := broadcastInDim S3x128x256 ![] bcast_S_S3x128x256 main_c_9
  let main_v33 : IVec S3x128x256 32 := minsi main_v31 main_v32
  let main_c_10 : IVec S_ 32 := constantI S_ 32 8#32
  let main_v34 : IVec S3x128x256 32 := broadcastInDim S3x128x256 ![] bcast_S_S3x128x256 main_c_10
  fn_part2 (F := F) main_arg2 main_arg3 main_v17 main_v18 main_v33 main_v34

def fn {F : FTy → Type} [FloatOps F] (main_arg0 : FVec F S1x16384x1024 .bf16) (main_arg1 : FVec F S1x16384x512 .bf16) (main_arg2 : FVec F S3x4x256x256 .f32) (main_arg3 : FVec F S32x8 .f32) : IVec S3x4x256x256 1 :=
  let main_v0 : IVec S256 32 := iotaInDim S256 32 0
  let main_v1 : IVec S1x1x256 32 := broadcastInDim S1x1x256 ![2] bcast_S256_S1x1x256_2 main_v0
  let main_v2 : IVec S3 32 := iotaInDim S3 32 0
  let main_v3 : IVec S3x1x1 32 := broadcastInDim S3x1x1 ![0] bcast_S3_S3x1x1_0 main_v2
  let main_c : IVec S_ 32 := constantI S_ 32 64#32
  let main_v4 : IVec S3x1x1 32 := broadcastInDim S3x1x1 ![] bcast_S_S3x1x1 main_c
  let main_v5 : IVec S3x1x1 32 := muli main_v4 main_v3
  let main_v6 : IVec S3x1x256 32 := broadcastInDim S3x1x256 ![0, 1, 2] bcast_S1x1x256_S3x1x256_0_1_2 main_v1
  let main_v7 : IVec S3x1x256 32 := broadcastInDim S3x1x256 ![0, 1, 2] bcast_S3x1x1_S3x1x256_0_1_2 main_v5
  let main_v8 : IVec S3x1x256 32 := subi main_v6 main_v7
  let main_v9 : IVec S128 32 := iotaInDim S128 32 0
  let main_v10 : IVec S1x128x1 32 := broadcastInDim S1x128x1 ![1] bcast_S128_S1x128x1_1 main_v9
  let main_v11 : IVec S3x128x256 32 := broadcastInDim S3x128x256 ![0, 1, 2] bcast_S3x1x256_S3x128x256_0_1_2 main_v8
  let main_v12 : IVec S3x128x256 32 := broadcastInDim S3x128x256 ![0, 1, 2] bcast_S1x128x1_S3x128x256_0_1_2 main_v10
  let main_v13 : IVec S3x128x256 32 := subi main_v11 main_v12
  let main_c_0 : IVec S_ 32 := constantI S_ 32 4294967232#32
  let main_c_1 : IVec S_ 32 := constantI S_ 32 64#32
  let main_v14 : IVec S3x128x256 32 := fn_clip (F := F) main_v13 main_c_0 main_c_1
  let main_c_2 : IVec S_ 32 := constantI S_ 32 0#32
  let main_v15 : IVec S3x128x256 32 := broadcastInDim S3x128x256 ![] bcast_S_S3x128x256 main_c_2
  let main_v16 : IVec S3x128x256 1 := cmpi .sgt main_v14 main_v15
  let main_c_3 : IVec S_ 32 := constantI S_ 32 16#32
  let main_c_4 : IVec S_ 32 := constantI S_ 32 0#32
  let main_v17 : IVec S3x128x256 32 := fn_where (F := F) main_v16 main_c_3 main_c_4
  fn_part1 (F := F) main_arg2 main_arg3 main_v14 main_v17
-- ==== Pre_band_tables_d16.lean ====
abbrev S16x1024x1024 : Shape := ⟨3, ![16, 1024, 1024]⟩
abbrev S16x1024x512 : Shape := ⟨3, ![16, 1024, 512]⟩
abbrev S3x4x256x256 : Shape := ⟨4, ![3, 4, 256, 256]⟩
abbrev S32x8 : Shape := ⟨2, ![32, 8]⟩
abbrev S256 : Shape := ⟨1, ![256]⟩
abbrev S1x1x256 : Shape := ⟨3, ![1, 1, 256]⟩
abbrev S3 : Shape := ⟨1, ![3]⟩
abbrev S3x1x1 : Shape := ⟨3, ![3, 1, 1]⟩
abbrev S_ : Shape := ⟨0, ![]⟩
abbrev S3x1x256 : Shape := ⟨3, ![3, 1, 256]⟩
abbrev S128 : Shape := ⟨1, ![128]⟩
abbrev S1x128x1 : Shape := ⟨3, ![1, 128, 1]⟩
abbrev S3x128x256 : Shape := ⟨3, ![3, 128, 256]⟩
abbrev S3x128x256x1 : Shape := ⟨4, ![3, 128, 256, 1]⟩
abbrev S3x128x256x8 : Shape := ⟨4, ![3, 128, 256, 8]⟩
abbrev S3x8x128x256 : Shape := ⟨4, ![3, 8, 128, 256]⟩

class Facts : Prop where
  bcast_S256_S1x1x256_2 : S256.BroadcastsInDim S1x1x256 (![2] : Fin 1 → Fin S1x1x256.rank)
  bcast_S3_S3x1x1_0 : S3.BroadcastsInDim S3x1x1 (![0] : Fin 1 → Fin S3x1x1.rank)
  bcast_S_S3x1x1 : S_.BroadcastsInDim S3x1x1 (![] : Fin 0 → Fin S3x1x1.rank)
  bcast_S1x1x256_S3x1x256_0_1_2 : S1x1x256.BroadcastsInDim S3x1x256 (![0, 1, 2] : Fin 3 → Fin S3x1x256.rank)
  bcast_S3x1x1_S3x1x256_0_1_2 : S3x1x1.BroadcastsInDim S3x1x256 (![0, 1, 2] : Fin 3 → Fin S3x1x256.rank)
  bcast_S128_S1x128x1_1 : S128.BroadcastsInDim S1x128x1 (![1] : Fin 1 → Fin S1x128x1.rank)
  bcast_S3x1x256_S3x128x256_0_1_2 : S3x1x256.BroadcastsInDim S3x128x256 (![0, 1, 2] : Fin 3 → Fin S3x128x256.rank)
  bcast_S1x128x1_S3x128x256_0_1_2 : S1x128x1.BroadcastsInDim S3x128x256 (![0, 1, 2] : Fin 3 → Fin S3x128x256.rank)
  bcast_S_S3x128x256 : S_.BroadcastsInDim S3x128x256 (![] : Fin 0 → Fin S3x128x256.rank)
  bcast_S3x128x256_S3x128x256x1_0_1_2 : S3x128x256.BroadcastsInDim S3x128x256x1 (![0, 1, 2] : Fin 3 → Fin S3x128x256x1.rank)
  bcast_S3x128x256x1_S3x128x256x8_0_1_2_3 : S3x128x256x1.BroadcastsInDim S3x128x256x8 (![0, 1, 2, 3] : Fin 4 → Fin S3x128x256x8.rank)
  bcast_S_S3x128x256x8 : S_.BroadcastsInDim S3x128x256x8 (![] : Fin 0 → Fin S3x128x256x8.rank)
  transposes_S3x128x256x8_S3x8x128x256_0_3_1_2 : S3x128x256x8.Transposes [0, 3, 1, 2] S3x8x128x256
  shapeCasts_S3x8x128x256_S3x4x256x256 : S3x8x128x256.ShapeCasts S3x4x256x256
  gather_S32x8_S3x128x256x1_S3x128x256x8_3_0_n_n_0_3_18_wf : GatherDims.WF S32x8 S3x128x256x1 S3x128x256x8 [3] [0] [] [0] [] 3 ![1, 8]

variable [Facts]

def gather_S32x8_S3x128x256x1_S3x128x256x8_3_0_n_n_0_3_18 : GatherDims S32x8 S3x128x256x1 S3x128x256x8 where
  offsetDims := [3]
  collapsedSliceDims := [0]
  operandBatchingDims := []
  startIndicesBatchingDims := []
  startIndexMap := [0]
  indexVectorDim := 3
  sliceSizes := ![1, 8]
  wf := gather_S32x8_S3x128x256x1_S3x128x256x8_3_0_n_n_0_3_18_wf
def fn_clip {F : FTy → Type} [FloatOps F] (arg0 : IVec S3x128x256 32) (arg1 : IVec S_ 32) (arg2 : IVec S_ 32) : IVec S3x128x256 32 :=
  let v0 : IVec S_ 32 := id arg1
  let v1 : IVec S3x128x256 32 := broadcastInDim S3x128x256 ![] bcast_S_S3x128x256 v0
  let v2 : IVec S3x128x256 32 := maxsi v1 arg0
  let v3 : IVec S_ 32 := id arg2
  let v4 : IVec S3x128x256 32 := broadcastInDim S3x128x256 ![] bcast_S_S3x128x256 v3
  let v5 : IVec S3x128x256 32 := minsi v4 v2
  v5

def fn_where {F : FTy → Type} [FloatOps F] (arg0 : IVec S3x128x256 1) (arg1 : IVec S_ 32) (arg2 : IVec S_ 32) : IVec S3x128x256 32 :=
  let v0 : IVec S3x128x256 32 := broadcastInDim S3x128x256 ![] bcast_S_S3x128x256 arg1
  let v1 : IVec S3x128x256 32 := broadcastInDim S3x128x256 ![] bcast_S_S3x128x256 arg2
  let v2 : IVec S3x128x256 32 := select arg0 v0 v1
  v2

def fn_where_0 {F : FTy → Type} [FloatOps F] (arg0 : IVec S3x128x256 1) (arg1 : IVec S3x128x256 32) (arg2 : IVec S3x128x256 32) : IVec S3x128x256 32 :=
  let v0 : IVec S3x128x256 32 := select arg0 arg1 arg2
  v0

def fn_where_1 {F : FTy → Type} [FloatOps F] (arg0 : IVec S3x128x256x1 1) (arg1 : FVec F S3x128x256x8 .f32) (arg2 : FVec F S_ .f32) : FVec F S3x128x256x8 .f32 :=
  let v0 : FVec F S_ .f32 := id arg2
  let v1 : IVec S3x128x256x8 1 := broadcastInDim S3x128x256x8 ![0, 1, 2, 3] bcast_S3x128x256x1_S3x128x256x8_0_1_2_3 arg0
  let v2 : FVec F S3x128x256x8 .f32 := broadcastInDim S3x128x256x8 ![] bcast_S_S3x128x256x8 v0
  let v3 : FVec F S3x128x256x8 .f32 := select v1 arg1 v2
  v3

def fn_part3 {F : FTy → Type} [FloatOps F] (main_arg2 : FVec F S3x4x256x256 .f32) (main_v47 : FVec F S3x128x256x8 .f32) (main_v53 : IVec S3x1x1 32) (main_v54 : IVec S3x1x256 32) : IVec S3x4x256x256 1 :=
  let main_v55 : IVec S3x1x256 32 := broadcastInDim S3x1x256 ![0, 1, 2] bcast_S3x1x1_S3x1x256_0_1_2 main_v53
  let main_v56 : IVec S3x1x256 32 := subi main_v54 main_v55
  let main_v57 : IVec S128 32 := iotaInDim S128 32 0
  let main_v58 : IVec S1x128x1 32 := broadcastInDim S1x128x1 ![1] bcast_S128_S1x128x1_1 main_v57
  let main_v59 : IVec S3x128x256 32 := broadcastInDim S3x128x256 ![0, 1, 2] bcast_S3x1x256_S3x128x256_0_1_2 main_v56
  let main_v60 : IVec S3x128x256 32 := broadcastInDim S3x128x256 ![0, 1, 2] bcast_S1x128x1_S3x128x256_0_1_2 main_v58
  let main_v61 : IVec S3x128x256 32 := subi main_v59 main_v60
  let main_v62 : IVec S3x128x256 32 := absi main_v61
  let main_c_15 : IVec S_ 32 := constantI S_ 32 64#32
  let main_v63 : IVec S3x128x256 32 := broadcastInDim S3x128x256 ![] bcast_S_S3x128x256 main_c_15
  let main_v64 : IVec S3x128x256 1 := cmpi .sle main_v62 main_v63
  let main_v65 : IVec S3x128x256x1 1 := broadcastInDim S3x128x256x1 ![0, 1, 2] bcast_S3x128x256_S3x128x256x1_0_1_2 main_v64
  let main_cst_16 : FVec F S_ .f32 := constant S_ .f32 0xFF800000#32
  let main_v66 : FVec F S3x128x256x8 .f32 := fn_where_1 (F := F) main_v65 main_v47 main_cst_16
  let main_v67 : FVec F S3x8x128x256 .f32 := (transpose S3x8x128x256 [0, 3, 1, 2] · transposes_S3x128x256x8_S3x8x128x256_0_3_1_2) main_v66
  let main_v68 : FVec F S3x4x256x256 .f32 := shapeCast S3x4x256x256 main_v67 shapeCasts_S3x8x128x256_S3x4x256x256
  let main_v69 : IVec S3x4x256x256 1 := cmpf .oeq main_arg2 main_v68
  main_v69

def fn_part2 {F : FTy → Type} [FloatOps F] (main_arg2 : FVec F S3x4x256x256 .f32) (main_arg3 : FVec F S32x8 .f32) (main_v19 : IVec S3x128x256 32) (main_v20 : IVec S3x128x256 32) (main_v33 : IVec S3x128x256 32) (main_v34 : IVec S3x128x256 32) : IVec S3x4x256x256 1 :=
  let main_v35 : IVec S3x128x256 32 := minsi main_v33 main_v34
  let main_c_11 : IVec S_ 32 := constantI S_ 32 8#32
  let main_v36 : IVec S3x128x256 32 := broadcastInDim S3x128x256 ![] bcast_S_S3x128x256 main_c_11
  let main_v37 : IVec S3x128x256 1 := cmpi .slt main_v20 main_v36
  let main_v38 : IVec S3x128x256 32 := fn_where_0 (F := F) main_v37 main_v20 main_v35
  let main_v39 : IVec S3x128x256 32 := id main_v19
  let main_v40 : IVec S3x128x256 32 := addi main_v39 main_v38
  let main_c_12 : IVec S_ 32 := constantI S_ 32 0#32
  let main_v41 : IVec S3x128x256 32 := broadcastInDim S3x128x256 ![] bcast_S_S3x128x256 main_c_12
  let main_v42 : IVec S3x128x256 1 := cmpi .slt main_v40 main_v41
  let main_c_13 : IVec S_ 32 := constantI S_ 32 32#32
  let main_v43 : IVec S3x128x256 32 := broadcastInDim S3x128x256 ![] bcast_S_S3x128x256 main_c_13
  let main_v44 : IVec S3x128x256 32 := addi main_v40 main_v43
  let main_v45 : IVec S3x128x256 32 := select main_v42 main_v44 main_v40
  let main_v46 : IVec S3x128x256x1 32 := broadcastInDim S3x128x256x1 ![0, 1, 2] bcast_S3x128x256_S3x128x256x1_0_1_2 main_v45
  let main_v47 : FVec F S3x128x256x8 .f32 := (fun x i => Host.gather gather_S32x8_S3x128x256x1_S3x128x256x8_3_0_n_n_0_3_18 x i) main_arg3 main_v46
  let main_v48 : IVec S256 32 := iotaInDim S256 32 0
  let main_v49 : IVec S1x1x256 32 := broadcastInDim S1x1x256 ![2] bcast_S256_S1x1x256_2 main_v48
  let main_v50 : IVec S3 32 := iotaInDim S3 32 0
  let main_v51 : IVec S3x1x1 32 := broadcastInDim S3x1x1 ![0] bcast_S3_S3x1x1_0 main_v50
  let main_c_14 : IVec S_ 32 := constantI S_ 32 64#32
  let main_v52 : IVec S3x1x1 32 := broadcastInDim S3x1x1 ![] bcast_S_S3x1x1 main_c_14
  let main_v53 : IVec S3x1x1 32 := muli main_v52 main_v51
  let main_v54 : IVec S3x1x256 32 := broadcastInDim S3x1x256 ![0, 1, 2] bcast_S1x1x256_S3x1x256_0_1_2 main_v49
  fn_part3 (F := F) main_arg2 main_v47 main_v53 main_v54

def fn_part1 {F : FTy → Type} [FloatOps F] (main_arg2 : FVec F S3x4x256x256 .f32) (main_arg3 : FVec F S32x8 .f32) (main_v16 : IVec S3x128x256 32) (main_v18 : IVec S3x128x256 1) : IVec S3x4x256x256 1 :=
  let main_c_4 : IVec S_ 32 := constantI S_ 32 16#32
  let main_c_5 : IVec S_ 32 := constantI S_ 32 0#32
  let main_v19 : IVec S3x128x256 32 := fn_where (F := F) main_v18 main_c_4 main_c_5
  let main_v20 : IVec S3x128x256 32 := absi main_v16
  let main_c_6 : IVec S_ 32 := constantI S_ 32 1#32
  let main_v21 : IVec S3x128x256 32 := broadcastInDim S3x128x256 ![] bcast_S_S3x128x256 main_c_6
  let main_v22 : IVec S3x128x256 32 := maxsi main_v20 main_v21
  let main_v23 : FVec F S3x128x256 .f32 := sitofp .f32 main_v22
  let main_cst : FVec F S_ .f32 := constant S_ .f32 0x41000000#32
  let main_v24 : FVec F S3x128x256 .f32 := broadcastInDim S3x128x256 ![] bcast_S_S3x128x256 main_cst
  let main_v25 : FVec F S3x128x256 .f32 := Host.divf main_v23 main_v24
  let main_v26 : FVec F S3x128x256 .f32 := Host.log main_v25
  let main_cst_7 : FVec F S_ .f32 := constant S_ .f32 0x409B43D5#32
  let main_v27 : FVec F S3x128x256 .f32 := broadcastInDim S3x128x256 ![] bcast_S_S3x128x256 main_cst_7
  let main_v28 : FVec F S3x128x256 .f32 := Host.divf main_v26 main_v27
  let main_cst_8 : FVec F S_ .f32 := constant S_ .f32 0x41000000#32
  let main_v29 : FVec F S3x128x256 .f32 := broadcastInDim S3x128x256 ![] bcast_S_S3x128x256 main_cst_8
  let main_v30 : FVec F S3x128x256 .f32 := mulf main_v28 main_v29
  let main_v31 : IVec S3x128x256 32 := fptosi 32 main_v30
  let main_c_9 : IVec S_ 32 := constantI S_ 32 8#32
  let main_v32 : IVec S3x128x256 32 := broadcastInDim S3x128x256 ![] bcast_S_S3x128x256 main_c_9
  let main_v33 : IVec S3x128x256 32 := addi main_v32 main_v31
  let main_c_10 : IVec S_ 32 := constantI S_ 32 15#32
  let main_v34 : IVec S3x128x256 32 := broadcastInDim S3x128x256 ![] bcast_S_S3x128x256 main_c_10
  fn_part2 (F := F) main_arg2 main_arg3 main_v19 main_v20 main_v33 main_v34

def fn {F : FTy → Type} [FloatOps F] (main_arg0 : FVec F S16x1024x1024 .bf16) (main_arg1 : FVec F S16x1024x512 .bf16) (main_arg2 : FVec F S3x4x256x256 .f32) (main_arg3 : FVec F S32x8 .f32) : IVec S3x4x256x256 1 :=
  let main_v0 : IVec S256 32 := iotaInDim S256 32 0
  let main_v1 : IVec S1x1x256 32 := broadcastInDim S1x1x256 ![2] bcast_S256_S1x1x256_2 main_v0
  let main_v2 : IVec S3 32 := iotaInDim S3 32 0
  let main_v3 : IVec S3x1x1 32 := broadcastInDim S3x1x1 ![0] bcast_S3_S3x1x1_0 main_v2
  let main_c : IVec S_ 32 := constantI S_ 32 64#32
  let main_v4 : IVec S3x1x1 32 := broadcastInDim S3x1x1 ![] bcast_S_S3x1x1 main_c
  let main_v5 : IVec S3x1x1 32 := muli main_v4 main_v3
  let main_v6 : IVec S3x1x256 32 := broadcastInDim S3x1x256 ![0, 1, 2] bcast_S1x1x256_S3x1x256_0_1_2 main_v1
  let main_v7 : IVec S3x1x256 32 := broadcastInDim S3x1x256 ![0, 1, 2] bcast_S3x1x1_S3x1x256_0_1_2 main_v5
  let main_v8 : IVec S3x1x256 32 := subi main_v6 main_v7
  let main_v9 : IVec S128 32 := iotaInDim S128 32 0
  let main_v10 : IVec S1x128x1 32 := broadcastInDim S1x128x1 ![1] bcast_S128_S1x128x1_1 main_v9
  let main_v11 : IVec S3x128x256 32 := broadcastInDim S3x128x256 ![0, 1, 2] bcast_S3x1x256_S3x128x256_0_1_2 main_v8
  let main_v12 : IVec S3x128x256 32 := broadcastInDim S3x128x256 ![0, 1, 2] bcast_S1x128x1_S3x128x256_0_1_2 main_v10
  let main_v13 : IVec S3x128x256 32 := subi main_v11 main_v12
  let main_c_0 : IVec S_ 32 := constantI S_ 32 4294967232#32
  let main_c_1 : IVec S_ 32 := constantI S_ 32 64#32
  let main_v14 : IVec S3x128x256 32 := fn_clip (F := F) main_v13 main_c_0 main_c_1
  let main_c_2 : IVec S_ 32 := constantI S_ 32 16#32
  let main_v15 : IVec S3x128x256 32 := broadcastInDim S3x128x256 ![] bcast_S_S3x128x256 main_c_2
  let main_v16 : IVec S3x128x256 32 := muli main_v14 main_v15
  let main_c_3 : IVec S_ 32 := constantI S_ 32 0#32
  let main_v17 : IVec S3x128x256 32 := broadcastInDim S3x128x256 ![] bcast_S_S3x128x256 main_c_3
  let main_v18 : IVec S3x128x256 1 := cmpi .sgt main_v16 main_v17
  fn_part1 (F := F) main_arg2 main_arg3 main_v16 main_v18
-- ==== Pre_band_tables_d4.lean ====
abbrev S4x4096x1024 : Shape := ⟨3, ![4, 4096, 1024]⟩
abbrev S4x4096x512 : Shape := ⟨3, ![4, 4096, 512]⟩
abbrev S3x4x256x256 : Shape := ⟨4, ![3, 4, 256, 256]⟩
abbrev S32x8 : Shape := ⟨2, ![32, 8]⟩
abbrev S256 : Shape := ⟨1, ![256]⟩
abbrev S1x1x256 : Shape := ⟨3, ![1, 1, 256]⟩
abbrev S3 : Shape := ⟨1, ![3]⟩
abbrev S3x1x1 : Shape := ⟨3, ![3, 1, 1]⟩
abbrev S_ : Shape := ⟨0, ![]⟩
abbrev S3x1x256 : Shape := ⟨3, ![3, 1, 256]⟩
abbrev S128 : Shape := ⟨1, ![128]⟩
abbrev S1x128x1 : Shape := ⟨3, ![1, 128, 1]⟩
abbrev S3x128x256 : Shape := ⟨3, ![3, 128, 256]⟩
abbrev S3x128x256x1 : Shape := ⟨4, ![3, 128, 256, 1]⟩
abbrev S3x128x256x8 : Shape := ⟨4, ![3, 128, 256, 8]⟩
abbrev S3x8x128x256 : Shape := ⟨4, ![3, 8, 128, 256]⟩

class Facts : Prop where
  bcast_S256_S1x1x256_2 : S256.BroadcastsInDim S1x1x256 (![2] : Fin 1 → Fin S1x1x256.rank)
  bcast_S3_S3x1x1_0 : S3.BroadcastsInDim S3x1x1 (![0] : Fin 1 → Fin S3x1x1.rank)
  bcast_S_S3x1x1 : S_.BroadcastsInDim S3x1x1 (![] : Fin 0 → Fin S3x1x1.rank)
  bcast_S1x1x256_S3x1x256_0_1_2 : S1x1x256.BroadcastsInDim S3x1x256 (![0, 1, 2] : Fin 3 → Fin S3x1x256.rank)
  bcast_S3x1x1_S3x1x256_0_1_2 : S3x1x1.BroadcastsInDim S3x1x256 (![0, 1, 2] : Fin 3 → Fin S3x1x256.rank)
  bcast_S128_S1x128x1_1 : S128.BroadcastsInDim S1x128x1 (![1] : Fin 1 → Fin S1x128x1.rank)
  bcast_S3x1x256_S3x128x256_0_1_2 : S3x1x256.BroadcastsInDim S3x128x256 (![0, 1, 2] : Fin 3 → Fin S3x128x256.rank)
  bcast_S1x128x1_S3x128x256_0_1_2 : S1x128x1.BroadcastsInDim S3x128x256 (![0, 1, 2] : Fin 3 → Fin S3x128x256.rank)
  bcast_S_S3x128x256 : S_.BroadcastsInDim S3x128x256 (![] : Fin 0 → Fin S3x128x256.rank)
  bcast_S3x128x256_S3x128x256x1_0_1_2 : S3x128x256.BroadcastsInDim S3x128x256x1 (![0, 1, 2] : Fin 3 → Fin S3x128x256x1.rank)
  bcast_S3x128x256x1_S3x128x256x8_0_1_2_3 : S3x128x256x1.BroadcastsInDim S3x128x256x8 (![0, 1, 2, 3] : Fin 4 → Fin S3x128x256x8.rank)
  bcast_S_S3x128x256x8 : S_.BroadcastsInDim S3x128x256x8 (![] : Fin 0 → Fin S3x128x256x8.rank)
  transposes_S3x128x256x8_S3x8x128x256_0_3_1_2 : S3x128x256x8.Transposes [0, 3, 1, 2] S3x8x128x256
  shapeCasts_S3x8x128x256_S3x4x256x256 : S3x8x128x256.ShapeCasts S3x4x256x256
  gather_S32x8_S3x128x256x1_S3x128x256x8_3_0_n_n_0_3_18_wf : GatherDims.WF S32x8 S3x128x256x1 S3x128x256x8 [3] [0] [] [0] [] 3 ![1, 8]

variable [Facts]

def gather_S32x8_S3x128x256x1_S3x128x256x8_3_0_n_n_0_3_18 : GatherDims S32x8 S3x128x256x1 S3x128x256x8 where
  offsetDims := [3]
  collapsedSliceDims := [0]
  operandBatchingDims := []
  startIndicesBatchingDims := []
  startIndexMap := [0]
  indexVectorDim := 3
  sliceSizes := ![1, 8]
  wf := gather_S32x8_S3x128x256x1_S3x128x256x8_3_0_n_n_0_3_18_wf
def fn_clip {F : FTy → Type} [FloatOps F] (arg0 : IVec S3x128x256 32) (arg1 : IVec S_ 32) (arg2 : IVec S_ 32) : IVec S3x128x256 32 :=
  let v0 : IVec S_ 32 := id arg1
  let v1 : IVec S3x128x256 32 := broadcastInDim S3x128x256 ![] bcast_S_S3x128x256 v0
  let v2 : IVec S3x128x256 32 := maxsi v1 arg0
  let v3 : IVec S_ 32 := id arg2
  let v4 : IVec S3x128x256 32 := broadcastInDim S3x128x256 ![] bcast_S_S3x128x256 v3
  let v5 : IVec S3x128x256 32 := minsi v4 v2
  v5

def fn_where {F : FTy → Type} [FloatOps F] (arg0 : IVec S3x128x256 1) (arg1 : IVec S_ 32) (arg2 : IVec S_ 32) : IVec S3x128x256 32 :=
  let v0 : IVec S3x128x256 32 := broadcastInDim S3x128x256 ![] bcast_S_S3x128x256 arg1
  let v1 : IVec S3x128x256 32 := broadcastInDim S3x128x256 ![] bcast_S_S3x128x256 arg2
  let v2 : IVec S3x128x256 32 := select arg0 v0 v1
  v2

def fn_where_0 {F : FTy → Type} [FloatOps F] (arg0 : IVec S3x128x256 1) (arg1 : IVec S3x128x256 32) (arg2 : IVec S3x128x256 32) : IVec S3x128x256 32 :=
  let v0 : IVec S3x128x256 32 := select arg0 arg1 arg2
  v0

def fn_where_1 {F : FTy → Type} [FloatOps F] (arg0 : IVec S3x128x256x1 1) (arg1 : FVec F S3x128x256x8 .f32) (arg2 : FVec F S_ .f32) : FVec F S3x128x256x8 .f32 :=
  let v0 : FVec F S_ .f32 := id arg2
  let v1 : IVec S3x128x256x8 1 := broadcastInDim S3x128x256x8 ![0, 1, 2, 3] bcast_S3x128x256x1_S3x128x256x8_0_1_2_3 arg0
  let v2 : FVec F S3x128x256x8 .f32 := broadcastInDim S3x128x256x8 ![] bcast_S_S3x128x256x8 v0
  let v3 : FVec F S3x128x256x8 .f32 := select v1 arg1 v2
  v3

def fn_part3 {F : FTy → Type} [FloatOps F] (main_arg2 : FVec F S3x4x256x256 .f32) (main_v47 : FVec F S3x128x256x8 .f32) (main_v53 : IVec S3x1x1 32) (main_v54 : IVec S3x1x256 32) : IVec S3x4x256x256 1 :=
  let main_v55 : IVec S3x1x256 32 := broadcastInDim S3x1x256 ![0, 1, 2] bcast_S3x1x1_S3x1x256_0_1_2 main_v53
  let main_v56 : IVec S3x1x256 32 := subi main_v54 main_v55
  let main_v57 : IVec S128 32 := iotaInDim S128 32 0
  let main_v58 : IVec S1x128x1 32 := broadcastInDim S1x128x1 ![1] bcast_S128_S1x128x1_1 main_v57
  let main_v59 : IVec S3x128x256 32 := broadcastInDim S3x128x256 ![0, 1, 2] bcast_S3x1x256_S3x128x256_0_1_2 main_v56
  let main_v60 : IVec S3x128x256 32 := broadcastInDim S3x128x256 ![0, 1, 2] bcast_S1x128x1_S3x128x256_0_1_2 main_v58
  let main_v61 : IVec S3x128x256 32 := subi main_v59 main_v60
  let main_v62 : IVec S3x128x256 32 := absi main_v61
  let main_c_15 : IVec S_ 32 := constantI S_ 32 64#32
  let main_v63 : IVec S3x128x256 32 := broadcastInDim S3x128x256 ![] bcast_S_S3x128x256 main_c_15
  let main_v64 : IVec S3x128x256 1 := cmpi .sle main_v62 main_v63
  let main_v65 : IVec S3x128x256x1 1 := broadcastInDim S3x128x256x1 ![0, 1, 2] bcast_S3x128x256_S3x128x256x1_0_1_2 main_v64
  let main_cst_16 : FVec F S_ .f32 := constant S_ .f32 0xFF800000#32
  let main_v66 : FVec F S3x128x256x8 .f32 := fn_where_1 (F := F) main_v65 main_v47 main_cst_16
  let main_v67 : FVec F S3x8x128x256 .f32 := (transpose S3x8x128x256 [0, 3, 1, 2] · transposes_S3x128x256x8_S3x8x128x256_0_3_1_2) main_v66
  let main_v68 : FVec F S3x4x256x256 .f32 := shapeCast S3x4x256x256 main_v67 shapeCasts_S3x8x128x256_S3x4x256x256
  let main_v69 : IVec S3x4x256x256 1 := cmpf .oeq main_arg2 main_v68
  main_v69

def fn_part2 {F : FTy → Type} [FloatOps F] (main_arg2 : FVec F S3x4x256x256 .f32) (main_arg3 : FVec F S32x8 .f32) (main_v19 : IVec S3x128x256 32) (main_v20 : IVec S3x128x256 32) (main_v33 : IVec S3x128x256 32) (main_v34 : IVec S3x128x256 32) : IVec S3x4x256x256 1 :=
  let main_v35 : IVec S3x128x256 32 := minsi main_v33 main_v34
  let main_c_11 : IVec S_ 32 := constantI S_ 32 8#32
  let main_v36 : IVec S3x128x256 32 := broadcastInDim S3x128x256 ![] bcast_S_S3x128x256 main_c_11
  let main_v37 : IVec S3x128x256 1 := cmpi .slt main_v20 main_v36
  let main_v38 : IVec S3x128x256 32 := fn_where_0 (F := F) main_v37 main_v20 main_v35
  let main_v39 : IVec S3x128x256 32 := id main_v19
  let main_v40 : IVec S3x128x256 32 := addi main_v39 main_v38
  let main_c_12 : IVec S_ 32 := constantI S_ 32 0#32
  let main_v41 : IVec S3x128x256 32 := broadcastInDim S3x128x256 ![] bcast_S_S3x128x256 main_c_12
  let main_v42 : IVec S3x128x256 1 := cmpi .slt main_v40 main_v41
  let main_c_13 : IVec S_ 32 := constantI S_ 32 32#32
  let main_v43 : IVec S3x128x256 32 := broadcastInDim S3x128x256 ![] bcast_S_S3x128x256 main_c_13
  let main_v44 : IVec S3x128x256 32 := addi main_v40 main_v43
  let main_v45 : IVec S3x128x256 32 := select main_v42 main_v44 main_v40
  let main_v46 : IVec S3x128x256x1 32 := broadcastInDim S3x128x256x1 ![0, 1, 2] bcast_S3x128x256_S3x128x256x1_0_1_2 main_v45
  let main_v47 : FVec F S3x128x256x8 .f32 := (fun x i => Host.gather gather_S32x8_S3x128x256x1_S3x128x256x8_3_0_n_n_0_3_18 x i) main_arg3 main_v46
  let main_v48 : IVec S256 32 := iotaInDim S256 32 0
  let main_v49 : IVec S1x1x256 32 := broadcastInDim S1x1x256 ![2] bcast_S256_S1x1x256_2 main_v48
  let main_v50 : IVec S3 32 := iotaInDim S3 32 0
  let main_v51 : IVec S3x1x1 32 := broadcastInDim S3x1x1 ![0] bcast_S3_S3x1x1_0 main_v50
  let main_c_14 : IVec S_ 32 := constantI S_ 32 64#32
  let main_v52 : IVec S3x1x1 32 := broadcastInDim S3x1x1 ![] bcast_S_S3x1x1 main_c_14
  let main_v53 : IVec S3x1x1 32 := muli main_v52 main_v51
  let main_v54 : IVec S3x1x256 32 := broadcastInDim S3x1x256 ![0, 1, 2] bcast_S1x1x256_S3x1x256_0_1_2 main_v49
  fn_part3 (F := F) main_arg2 main_v47 main_v53 main_v54

def fn_part1 {F : FTy → Type} [FloatOps F] (main_arg2 : FVec F S3x4x256x256 .f32) (main_arg3 : FVec F S32x8 .f32) (main_v16 : IVec S3x128x256 32) (main_v18 : IVec S3x128x256 1) : IVec S3x4x256x256 1 :=
  let main_c_4 : IVec S_ 32 := constantI S_ 32 16#32
  let main_c_5 : IVec S_ 32 := constantI S_ 32 0#32
  let main_v19 : IVec S3x128x256 32 := fn_where (F := F) main_v18 main_c_4 main_c_5
  let main_v20 : IVec S3x128x256 32 := absi main_v16
  let main_c_6 : IVec S_ 32 := constantI S_ 32 1#32
  let main_v21 : IVec S3x128x256 32 := broadcastInDim S3x128x256 ![] bcast_S_S3x128x256 main_c_6
  let main_v22 : IVec S3x128x256 32 := maxsi main_v20 main_v21
  let main_v23 : FVec F S3x128x256 .f32 := sitofp .f32 main_v22
  let main_cst : FVec F S_ .f32 := constant S_ .f32 0x41000000#32
  let main_v24 : FVec F S3x128x256 .f32 := broadcastInDim S3x128x256 ![] bcast_S_S3x128x256 main_cst
  let main_v25 : FVec F S3x128x256 .f32 := Host.divf main_v23 main_v24
  let main_v26 : FVec F S3x128x256 .f32 := Host.log main_v25
  let main_cst_7 : FVec F S_ .f32 := constant S_ .f32 0x409B43D5#32
  let main_v27 : FVec F S3x128x256 .f32 := broadcastInDim S3x128x256 ![] bcast_S_S3x128x256 main_cst_7
  let main_v28 : FVec F S3x128x256 .f32 := Host.divf main_v26 main_v27
  let main_cst_8 : FVec F S_ .f32 := constant S_ .f32 0x41000000#32
  let main_v29 : FVec F S3x128x256 .f32 := broadcastInDim S3x128x256 ![] bcast_S_S3x128x256 main_cst_8
  let main_v30 : FVec F S3x128x256 .f32 := mulf main_v28 main_v29
  let main_v31 : IVec S3x128x256 32 := fptosi 32 main_v30
  let main_c_9 : IVec S_ 32 := constantI S_ 32 8#32
  let main_v32 : IVec S3x128x256 32 := broadcastInDim S3x128x256 ![] bcast_S_S3x128x256 main_c_9
  let main_v33 : IVec S3x128x256 32 := addi main_v32 main_v31
  let main_c_10 : IVec S_ 32 := constantI S_ 32 15#32
  let main_v34 : IVec S3x128x256 32 := broadcastInDim S3x128x256 ![] bcast_S_S3x128x256 main_c_10
  fn_part2 (F := F) main_arg2 main_arg3 main_v19 main_v20 main_v33 main_v34

def fn {F : FTy → Type} [FloatOps F] (main_arg0 : FVec F S4x4096x1024 .bf16) (main_arg1 : FVec F S4x4096x512 .bf16) (main_arg2 : FVec F S3x4x256x256 .f32) (main_arg3 : FVec F S32x8 .f32) : IVec S3x4x256x256 1 :=
  let main_v0 : IVec S256 32 := iotaInDim S256 32 0
  let main_v1 : IVec S1x1x256 32 := broadcastInDim S1x1x256 ![2] bcast_S256_S1x1x256_2 main_v0
  let main_v2 : IVec S3 32 := iotaInDim S3 32 0
  let main_v3 : IVec S3x1x1 32 := broadcastInDim S3x1x1 ![0] bcast_S3_S3x1x1_0 main_v2
  let main_c : IVec S_ 32 := constantI S_ 32 64#32
  let main_v4 : IVec S3x1x1 32 := broadcastInDim S3x1x1 ![] bcast_S_S3x1x1 main_c
  let main_v5 : IVec S3x1x1 32 := muli main_v4 main_v3
  let main_v6 : IVec S3x1x256 32 := broadcastInDim S3x1x256 ![0, 1, 2] bcast_S1x1x256_S3x1x256_0_1_2 main_v1
  let main_v7 : IVec S3x1x256 32 := broadcastInDim S3x1x256 ![0, 1, 2] bcast_S3x1x1_S3x1x256_0_1_2 main_v5
  let main_v8 : IVec S3x1x256 32 := subi main_v6 main_v7
  let main_v9 : IVec S128 32 := iotaInDim S128 32 0
  let main_v10 : IVec S1x128x1 32 := broadcastInDim S1x128x1 ![1] bcast_S128_S1x128x1_1 main_v9
  let main_v11 : IVec S3x128x256 32 := broadcastInDim S3x128x256 ![0, 1, 2] bcast_S3x1x256_S3x128x256_0_1_2 main_v8
  let main_v12 : IVec S3x128x256 32 := broadcastInDim S3x128x256 ![0, 1, 2] bcast_S1x128x1_S3x128x256_0_1_2 main_v10
  let main_v13 : IVec S3x128x256 32 := subi main_v11 main_v12
  let main_c_0 : IVec S_ 32 := constantI S_ 32 4294967232#32
  let main_c_1 : IVec S_ 32 := constantI S_ 32 64#32
  let main_v14 : IVec S3x128x256 32 := fn_clip (F := F) main_v13 main_c_0 main_c_1
  let main_c_2 : IVec S_ 32 := constantI S_ 32 4#32
  let main_v15 : IVec S3x128x256 32 := broadcastInDim S3x128x256 ![] bcast_S_S3x128x256 main_c_2
  let main_v16 : IVec S3x128x256 32 := muli main_v14 main_v15
  let main_c_3 : IVec S_ 32 := constantI S_ 32 0#32
  let main_v17 : IVec S3x128x256 32 := broadcastInDim S3x128x256 ![] bcast_S_S3x128x256 main_c_3
  let main_v18 : IVec S3x128x256 1 := cmpi .sgt main_v16 main_v17
  fn_part1 (F := F) main_arg2 main_arg3 main_v16 main_v18
-- ==== Pre_bucket_tables.lean ====
abbrev S3x4x3x256x256 : Shape := ⟨5, ![3, 4, 3, 256, 256]⟩
abbrev S3x3x256x128 : Shape := ⟨4, ![3, 3, 256, 128]⟩
abbrev S3 : Shape := ⟨1, ![3]⟩
abbrev S256 : Shape := ⟨1, ![256]⟩
abbrev S1x256 : Shape := ⟨2, ![1, 256]⟩
abbrev S3x1 : Shape := ⟨2, ![3, 1]⟩
abbrev S_ : Shape := ⟨0, ![]⟩
abbrev S3x256 : Shape := ⟨2, ![3, 256]⟩
abbrev S3x1x1 : Shape := ⟨3, ![3, 1, 1]⟩
abbrev S1x3x256 : Shape := ⟨3, ![1, 3, 256]⟩
abbrev S3x3x256 : Shape := ⟨3, ![3, 3, 256]⟩
abbrev S3x256x1 : Shape := ⟨3, ![3, 256, 1]⟩
abbrev S3x3x256x1 : Shape := ⟨4, ![3, 3, 256, 1]⟩
abbrev S128 : Shape := ⟨1, ![128]⟩
abbrev S1x1x1x128 : Shape := ⟨4, ![1, 1, 1, 128]⟩
abbrev S1x3x256x1 : Shape := ⟨4, ![1, 3, 256, 1]⟩
abbrev S1x1x256 : Shape := ⟨3, ![1, 1, 256]⟩
abbrev S3x1x256 : Shape := ⟨3, ![3, 1, 256]⟩
abbrev S1x128x1 : Shape := ⟨3, ![1, 128, 1]⟩
abbrev S3x128x256 : Shape := ⟨3, ![3, 128, 256]⟩
abbrev S3x256x256 : Shape := ⟨3, ![3, 256, 256]⟩

class Facts : Prop where
  bcast_S256_S1x256_1 : S256.BroadcastsInDim S1x256 (![1] : Fin 1 → Fin S1x256.rank)
  bcast_S3_S3x1_0 : S3.BroadcastsInDim S3x1 (![0] : Fin 1 → Fin S3x1.rank)
  bcast_S_S3x1 : S_.BroadcastsInDim S3x1 (![] : Fin 0 → Fin S3x1.rank)
  bcast_S1x256_S3x256_0_1 : S1x256.BroadcastsInDim S3x256 (![0, 1] : Fin 2 → Fin S3x256.rank)
  bcast_S3x1_S3x256_0_1 : S3x1.BroadcastsInDim S3x256 (![0, 1] : Fin 2 → Fin S3x256.rank)
  bcast_S_S3x256 : S_.BroadcastsInDim S3x256 (![] : Fin 0 → Fin S3x256.rank)
  bcast_S3_S3x1x1_0 : S3.BroadcastsInDim S3x1x1 (![0] : Fin 1 → Fin S3x1x1.rank)
  bcast_S3x256_S1x3x256_1_2 : S3x256.BroadcastsInDim S1x3x256 (![1, 2] : Fin 2 → Fin S1x3x256.rank)
  bcast_S1x3x256_S3x3x256_0_1_2 : S1x3x256.BroadcastsInDim S3x3x256 (![0, 1, 2] : Fin 3 → Fin S3x3x256.rank)
  bcast_S3x1x1_S3x3x256_0_1_2 : S3x1x1.BroadcastsInDim S3x3x256 (![0, 1, 2] : Fin 3 → Fin S3x3x256.rank)
  bcast_S_S3x3x256 : S_.BroadcastsInDim S3x3x256 (![] : Fin 0 → Fin S3x3x256.rank)
  bcast_S3x256_S3x256x1_0_1 : S3x256.BroadcastsInDim S3x256x1 (![0, 1] : Fin 2 → Fin S3x256x1.rank)
  bcast_S3x3x256_S3x3x256x1_0_1_2 : S3x3x256.BroadcastsInDim S3x3x256x1 (![0, 1, 2] : Fin 3 → Fin S3x3x256x1.rank)
  bcast_S128_S1x1x1x128_3 : S128.BroadcastsInDim S1x1x1x128 (![3] : Fin 1 → Fin S1x1x1x128.rank)
  bcast_S3x3x256x1_S3x3x256x128_0_1_2_3 : S3x3x256x1.BroadcastsInDim S3x3x256x128 (![0, 1, 2, 3] : Fin 4 → Fin S3x3x256x128.rank)
  bcast_S1x1x1x128_S3x3x256x128_0_1_2_3 : S1x1x1x128.BroadcastsInDim S3x3x256x128 (![0, 1, 2, 3] : Fin 4 → Fin S3x3x256x128.rank)
  bcast_S3x256x1_S1x3x256x1_1_2_3 : S3x256x1.BroadcastsInDim S1x3x256x1 (![1, 2, 3] : Fin 3 → Fin S1x3x256x1.rank)
  bcast_S1x3x256x1_S3x3x256x128_0_1_2_3 : S1x3x256x1.BroadcastsInDim S3x3x256x128 (![0, 1, 2, 3] : Fin 4 → Fin S3x3x256x128.rank)
  bcast_S256_S1x1x256_2 : S256.BroadcastsInDim S1x1x256 (![2] : Fin 1 → Fin S1x1x256.rank)
  bcast_S_S3x1x1 : S_.BroadcastsInDim S3x1x1 (![] : Fin 0 → Fin S3x1x1.rank)
  bcast_S1x1x256_S3x1x256_0_1_2 : S1x1x256.BroadcastsInDim S3x1x256 (![0, 1, 2] : Fin 3 → Fin S3x1x256.rank)
  bcast_S3x1x1_S3x1x256_0_1_2 : S3x1x1.BroadcastsInDim S3x1x256 (![0, 1, 2] : Fin 3 → Fin S3x1x256.rank)
  bcast_S128_S1x128x1_1 : S128.BroadcastsInDim S1x128x1 (![1] : Fin 1 → Fin S1x128x1.rank)
  bcast_S3x1x256_S3x128x256_0_1_2 : S3x1x256.BroadcastsInDim S3x128x256 (![0, 1, 2] : Fin 3 → Fin S3x128x256.rank)
  bcast_S1x128x1_S3x128x256_0_1_2 : S1x128x1.BroadcastsInDim S3x128x256 (![0, 1, 2] : Fin 3 → Fin S3x128x256.rank)
  bcast_S_S3x128x256 : S_.BroadcastsInDim S3x128x256 (![] : Fin 0 → Fin S3x128x256.rank)
  concatenates_S3x128x256_S3x128x256_S3x256x256_d1 : Shape.Concatenates [S3x128x256, S3x128x256] S3x256x256 1
  bcast_S_S3x4x3x256x256 : S_.BroadcastsInDim S3x4x3x256x256 (![] : Fin 0 → Fin S3x4x3x256x256.rank)
  bcast_S3x256x256_S3x4x3x256x256_2_3_4 : S3x256x256.BroadcastsInDim S3x4x3x256x256 (![2, 3, 4] : Fin 3 → Fin S3x4x3x256x256.rank)

variable [Facts]

noncomputable abbrev lit0 : Fin 3 → BitVec 32 := fun
  | 0 => 1#32 | 1 => 4#32 | 2 => 16#32
  | _ => 0#32

def fn_clip {F : FTy → Type} [FloatOps F] (arg0 : IVec S3x256 32) (arg1 : IVec S_ 32) (arg2 : IVec S_ 32) : IVec S3x256 32 :=
  let v0 : IVec S_ 32 := id arg1
  let v1 : IVec S3x256 32 := broadcastInDim S3x256 ![] bcast_S_S3x256 v0
  let v2 : IVec S3x256 32 := maxsi v1 arg0
  let v3 : IVec S_ 32 := id arg2
  let v4 : IVec S3x256 32 := broadcastInDim S3x256 ![] bcast_S_S3x256 v3
  let v5 : IVec S3x256 32 := minsi v4 v2
  v5

def fn_where {F : FTy → Type} [FloatOps F] (arg0 : IVec S3x3x256 1) (arg1 : IVec S_ 32) (arg2 : IVec S_ 32) : IVec S3x3x256 32 :=
  let v0 : IVec S3x3x256 32 := broadcastInDim S3x3x256 ![] bcast_S_S3x3x256 arg1
  let v1 : IVec S3x3x256 32 := broadcastInDim S3x3x256 ![] bcast_S_S3x3x256 arg2
  let v2 : IVec S3x3x256 32 := select arg0 v0 v1
  v2

def fn_where_0 {F : FTy → Type} [FloatOps F] (arg0 : IVec S3x3x256 1) (arg1 : IVec S3x3x256 32) (arg2 : IVec S3x3x256 32) : IVec S3x3x256 32 :=
  let v0 : IVec S3x3x256 32 := select arg0 arg1 arg2
  v0

def fn_where_1 {F : FTy → Type} [FloatOps F] (arg0 : IVec S3x256x256 1) (arg1 : IVec S3x4x3x256x256 1) (arg2 : IVec S_ 1) : IVec S3x4x3x256x256 1 :=
  let v0 : IVec S3x4x3x256x256 1 := broadcastInDim S3x4x3x256x256 ![2, 3, 4] bcast_S3x256x256_S3x4x3x256x256_2_3_4 arg0
  let v1 : IVec S3x4x3x256x256 1 := broadcastInDim S3x4x3x256x256 ![] bcast_S_S3x4x3x256x256 arg2
  let v2 : IVec S3x4x3x256x256 1 := select v0 arg1 v1
  v2

def fn_part4 {F : FTy → Type} [FloatOps F] (main_arg0 : FVec F S3x4x3x256x256 .f32) (main_arg1 : FVec F S3x3x256x128 .f32) (main_v57 : IVec S3x3x256x128 1) (main_v75 : IVec S3x256x256 1) : IVec S3x3x256x128 1 × IVec S3x4x3x256x256 1 :=
  let main_v76 : FVec F S3x3x256x128 .f32 := uitofp .f32 main_v57
  let main_v77 : IVec S3x3x256x128 1 := cmpf .oeq main_arg1 main_v76
  let main_cst_18 : FVec F S_ .f32 := constant S_ .f32 0x00000000#32
  let main_v78 : FVec F S3x4x3x256x256 .f32 := broadcastInDim S3x4x3x256x256 ![] bcast_S_S3x4x3x256x256 main_cst_18
  let main_v79 : IVec S3x4x3x256x256 1 := cmpf .oeq main_arg0 main_v78
  let main_c_19 : IVec S_ 1 := constantI S_ 1 1#1
  let main_v80 : IVec S3x4x3x256x256 1 := fn_where_1 (F := F) main_v75 main_v79 main_c_19
  (main_v77, main_v80)

def fn_part3 {F : FTy → Type} [FloatOps F] (main_arg0 : FVec F S3x4x3x256x256 .f32) (main_arg1 : FVec F S3x3x256x128 .f32) (main_v48 : IVec S3x256x1 1) (main_v52 : IVec S3x3x256x128 32) (main_v53 : IVec S3x3x256x128 32) : IVec S3x3x256x128 1 × IVec S3x4x3x256x256 1 :=
  let main_v54 : IVec S3x3x256x128 1 := cmpi .eq main_v52 main_v53
  let main_v55 : IVec S1x3x256x1 1 := broadcastInDim S1x3x256x1 ![1, 2, 3] bcast_S3x256x1_S1x3x256x1_1_2_3 main_v48
  let main_v56 : IVec S3x3x256x128 1 := broadcastInDim S3x3x256x128 ![0, 1, 2, 3] bcast_S1x3x256x1_S3x3x256x128_0_1_2_3 main_v55
  let main_v57 : IVec S3x3x256x128 1 := andi main_v56 main_v54
  let main_v58 : IVec S256 32 := iotaInDim S256 32 0
  let main_v59 : IVec S1x1x256 32 := broadcastInDim S1x1x256 ![2] bcast_S256_S1x1x256_2 main_v58
  let main_v60 : IVec S3 32 := iotaInDim S3 32 0
  let main_v61 : IVec S3x1x1 32 := broadcastInDim S3x1x1 ![0] bcast_S3_S3x1x1_0 main_v60
  let main_c_16 : IVec S_ 32 := constantI S_ 32 64#32
  let main_v62 : IVec S3x1x1 32 := broadcastInDim S3x1x1 ![] bcast_S_S3x1x1 main_c_16
  let main_v63 : IVec S3x1x1 32 := muli main_v62 main_v61
  let main_v64 : IVec S3x1x256 32 := broadcastInDim S3x1x256 ![0, 1, 2] bcast_S1x1x256_S3x1x256_0_1_2 main_v59
  let main_v65 : IVec S3x1x256 32 := broadcastInDim S3x1x256 ![0, 1, 2] bcast_S3x1x1_S3x1x256_0_1_2 main_v63
  let main_v66 : IVec S3x1x256 32 := subi main_v64 main_v65
  let main_v67 : IVec S128 32 := iotaInDim S128 32 0
  let main_v68 : IVec S1x128x1 32 := broadcastInDim S1x128x1 ![1] bcast_S128_S1x128x1_1 main_v67
  let main_v69 : IVec S3x128x256 32 := broadcastInDim S3x128x256 ![0, 1, 2] bcast_S3x1x256_S3x128x256_0_1_2 main_v66
  let main_v70 : IVec S3x128x256 32 := broadcastInDim S3x128x256 ![0, 1, 2] bcast_S1x128x1_S3x128x256_0_1_2 main_v68
  let main_v71 : IVec S3x128x256 32 := subi main_v69 main_v70
  let main_v72 : IVec S3x128x256 32 := absi main_v71
  let main_c_17 : IVec S_ 32 := constantI S_ 32 64#32
  let main_v73 : IVec S3x128x256 32 := broadcastInDim S3x128x256 ![] bcast_S_S3x128x256 main_c_17
  let main_v74 : IVec S3x128x256 1 := cmpi .sgt main_v72 main_v73
  let main_v75 : IVec S3x256x256 1 := (fun a b => concatenate S3x256x256 1 [⟨S3x128x256, a⟩, ⟨S3x128x256, b⟩] concatenates_S3x128x256_S3x128x256_S3x256x256_d1) main_v74 main_v74
  fn_part4 (F := F) main_arg0 main_arg1 main_v57 main_v75

def fn_part2 {F : FTy → Type} [FloatOps F] (main_arg0 : FVec F S3x4x3x256x256 .f32) (main_arg1 : FVec F S3x3x256x128 .f32) (main_v14 : IVec S3x256 32) (main_v23 : IVec S3x3x256 32) (main_v24 : IVec S3x3x256 32) (main_v32 : FVec F S3x3x256 .f32) (main_v33 : FVec F S3x3x256 .f32) : IVec S3x3x256x128 1 × IVec S3x4x3x256x256 1 :=
  let main_v34 : FVec F S3x3x256 .f32 := mulf main_v32 main_v33
  let main_v35 : IVec S3x3x256 32 := fptosi 32 main_v34
  let main_c_12 : IVec S_ 32 := constantI S_ 32 8#32
  let main_v36 : IVec S3x3x256 32 := broadcastInDim S3x3x256 ![] bcast_S_S3x3x256 main_c_12
  let main_v37 : IVec S3x3x256 32 := addi main_v36 main_v35
  let main_c_13 : IVec S_ 32 := constantI S_ 32 15#32
  let main_v38 : IVec S3x3x256 32 := broadcastInDim S3x3x256 ![] bcast_S_S3x3x256 main_c_13
  let main_v39 : IVec S3x3x256 32 := minsi main_v37 main_v38
  let main_c_14 : IVec S_ 32 := constantI S_ 32 8#32
  let main_v40 : IVec S3x3x256 32 := broadcastInDim S3x3x256 ![] bcast_S_S3x3x256 main_c_14
  let main_v41 : IVec S3x3x256 1 := cmpi .slt main_v24 main_v40
  let main_v42 : IVec S3x3x256 32 := fn_where_0 (F := F) main_v41 main_v24 main_v39
  let main_v43 : IVec S3x3x256 32 := id main_v23
  let main_v44 : IVec S3x3x256 32 := addi main_v43 main_v42
  let main_v45 : IVec S3x256 32 := absi main_v14
  let main_c_15 : IVec S_ 32 := constantI S_ 32 64#32
  let main_v46 : IVec S3x256 32 := broadcastInDim S3x256 ![] bcast_S_S3x256 main_c_15
  let main_v47 : IVec S3x256 1 := cmpi .sle main_v45 main_v46
  let main_v48 : IVec S3x256x1 1 := broadcastInDim S3x256x1 ![0, 1] bcast_S3x256_S3x256x1_0_1 main_v47
  let main_v49 : IVec S3x3x256x1 32 := broadcastInDim S3x3x256x1 ![0, 1, 2] bcast_S3x3x256_S3x3x256x1_0_1_2 main_v44
  let main_v50 : IVec S128 32 := iotaInDim S128 32 0
  let main_v51 : IVec S1x1x1x128 32 := broadcastInDim S1x1x1x128 ![3] bcast_S128_S1x1x1x128_3 main_v50
  let main_v52 : IVec S3x3x256x128 32 := broadcastInDim S3x3x256x128 ![0, 1, 2, 3] bcast_S3x3x256x1_S3x3x256x128_0_1_2_3 main_v49
  let main_v53 : IVec S3x3x256x128 32 := broadcastInDim S3x3x256x128 ![0, 1, 2, 3] bcast_S1x1x1x128_S3x3x256x128_0_1_2_3 main_v51
  fn_part3 (F := F) main_arg0 main_arg1 main_v48 main_v52 main_v53

def fn_part1 {F : FTy → Type} [FloatOps F] (main_arg0 : FVec F S3x4x3x256x256 .f32) (main_arg1 : FVec F S3x3x256x128 .f32) (main_v14 : IVec S3x256 32) (main_v15 : IVec S3x256 32) (main_v16 : IVec S3x1x1 32) : IVec S3x3x256x128 1 × IVec S3x4x3x256x256 1 :=
  let main_v17 : IVec S1x3x256 32 := broadcastInDim S1x3x256 ![1, 2] bcast_S3x256_S1x3x256_1_2 main_v15
  let main_v18 : IVec S3x3x256 32 := broadcastInDim S3x3x256 ![0, 1, 2] bcast_S1x3x256_S3x3x256_0_1_2 main_v17
  let main_v19 : IVec S3x3x256 32 := broadcastInDim S3x3x256 ![0, 1, 2] bcast_S3x1x1_S3x3x256_0_1_2 main_v16
  let main_v20 : IVec S3x3x256 32 := muli main_v18 main_v19
  let main_c_6 : IVec S_ 32 := constantI S_ 32 0#32
  let main_v21 : IVec S3x3x256 32 := broadcastInDim S3x3x256 ![] bcast_S_S3x3x256 main_c_6
  let main_v22 : IVec S3x3x256 1 := cmpi .sgt main_v20 main_v21
  let main_c_7 : IVec S_ 32 := constantI S_ 32 16#32
  let main_c_8 : IVec S_ 32 := constantI S_ 32 0#32
  let main_v23 : IVec S3x3x256 32 := fn_where (F := F) main_v22 main_c_7 main_c_8
  let main_v24 : IVec S3x3x256 32 := absi main_v20
  let main_c_9 : IVec S_ 32 := constantI S_ 32 1#32
  let main_v25 : IVec S3x3x256 32 := broadcastInDim S3x3x256 ![] bcast_S_S3x3x256 main_c_9
  let main_v26 : IVec S3x3x256 32 := maxsi main_v24 main_v25
  let main_v27 : FVec F S3x3x256 .f32 := sitofp .f32 main_v26
  let main_cst : FVec F S_ .f32 := constant S_ .f32 0x41000000#32
  let main_v28 : FVec F S3x3x256 .f32 := broadcastInDim S3x3x256 ![] bcast_S_S3x3x256 main_cst
  let main_v29 : FVec F S3x3x256 .f32 := Host.divf main_v27 main_v28
  let main_v30 : FVec F S3x3x256 .f32 := Host.log main_v29
  let main_cst_10 : FVec F S_ .f32 := constant S_ .f32 0x409B43D5#32
  let main_v31 : FVec F S3x3x256 .f32 := broadcastInDim S3x3x256 ![] bcast_S_S3x3x256 main_cst_10
  let main_v32 : FVec F S3x3x256 .f32 := Host.divf main_v30 main_v31
  let main_cst_11 : FVec F S_ .f32 := constant S_ .f32 0x41000000#32
  let main_v33 : FVec F S3x3x256 .f32 := broadcastInDim S3x3x256 ![] bcast_S_S3x3x256 main_cst_11
  fn_part2 (F := F) main_arg0 main_arg1 main_v14 main_v23 main_v24 main_v32 main_v33

def fn {F : FTy → Type} [FloatOps F] (main_arg0 : FVec F S3x4x3x256x256 .f32) (main_arg1 : FVec F S3x3x256x128 .f32) : IVec S3x3x256x128 1 × IVec S3x4x3x256x256 1 :=
  let main_c : IVec S3 32 := fun i => lit0 (S3.rowMajor i)
  let main_v0 : IVec S256 32 := iotaInDim S256 32 0
  let main_v1 : IVec S1x256 32 := broadcastInDim S1x256 ![1] bcast_S256_S1x256_1 main_v0
  let main_v2 : IVec S3 32 := iotaInDim S3 32 0
  let main_v3 : IVec S3x1 32 := broadcastInDim S3x1 ![0] bcast_S3_S3x1_0 main_v2
  let main_c_0 : IVec S_ 32 := constantI S_ 32 64#32
  let main_v4 : IVec S3x1 32 := broadcastInDim S3x1 ![] bcast_S_S3x1 main_c_0
  let main_v5 : IVec S3x1 32 := muli main_v4 main_v3
  let main_v6 : IVec S3x256 32 := broadcastInDim S3x256 ![0, 1] bcast_S1x256_S3x256_0_1 main_v1
  let main_v7 : IVec S3x256 32 := broadcastInDim S3x256 ![0, 1] bcast_S3x1_S3x256_0_1 main_v5
  let main_v8 : IVec S3x256 32 := subi main_v6 main_v7
  let main_c_1 : IVec S_ 32 := constantI S_ 32 128#32
  let main_v9 : IVec S3x256 32 := broadcastInDim S3x256 ![] bcast_S_S3x256 main_c_1
  let main_v10 : IVec S3x256 32 := addi main_v8 main_v9
  let main_c_2 : IVec S_ 32 := constantI S_ 32 255#32
  let main_v11 : IVec S3x256 32 := broadcastInDim S3x256 ![] bcast_S_S3x256 main_c_2
  let main_v12 : IVec S3x256 32 := andi main_v10 main_v11
  let main_c_3 : IVec S_ 32 := constantI S_ 32 128#32
  let main_v13 : IVec S3x256 32 := broadcastInDim S3x256 ![] bcast_S_S3x256 main_c_3
  let main_v14 : IVec S3x256 32 := subi main_v12 main_v13
  let main_c_4 : IVec S_ 32 := constantI S_ 32 4294967232#32
  let main_c_5 : IVec S_ 32 := constantI S_ 32 64#32
  let main_v15 : IVec S3x256 32 := fn_clip (F := F) main_v14 main_c_4 main_c_5
  let main_v16 : IVec S3x1x1 32 := broadcastInDim S3x1x1 ![0] bcast_S3_S3x1x1_0 main_c
  fn_part1 (F := F) main_arg0 main_arg1 main_v14 main_v15 main_v16
-- ==== Pre_finite_heads.lean ====
abbrev S16384x512 : Shape := ⟨2, ![16384, 512]⟩
abbrev S16384x1024 : Shape := ⟨2, ![16384, 1024]⟩
abbrev S1x1024 : Shape := ⟨2, ![1, 1024]⟩
abbrev S16384x2048 : Shape := ⟨2, ![16384, 2048]⟩
abbrev S8x512 : Shape := ⟨2, ![8, 512]⟩
abbrev S4x1024x1024 : Shape := ⟨3, ![4, 1024, 1024]⟩
abbrev S_ : Shape := ⟨0, ![]⟩

class Facts : Prop where
  bitsLt_bf16_f32 : FTy.bits .bf16 < FTy.bits .f32
  concatenates_S16384x512_S16384x512_S16384x1024_d1 : Shape.Concatenates [S16384x512, S16384x512] S16384x1024 1
  bcast_S_S16384x1024 : S_.BroadcastsInDim S16384x1024 (![] : Fin 0 → Fin S16384x1024.rank)
  bcast_S_S1x1024 : S_.BroadcastsInDim S1x1024 (![] : Fin 0 → Fin S1x1024.rank)
  bcast_S1x1024_S16384x1024_0_1 : S1x1024.BroadcastsInDim S16384x1024 (![0, 1] : Fin 2 → Fin S16384x1024.rank)

variable [Facts]

def fn {F : FTy → Type} [FloatOps F] (main_arg0 : FVec F S16384x512 .bf16) (main_arg1 : FVec F S16384x512 .bf16) (main_arg2 : FVec F S16384x512 .bf16) (main_arg3 : FVec F S16384x512 .f32) (main_arg4 : FVec F S16384x512 .f32) (main_arg5 : FVec F S16384x512 .f32) (main_arg6 : FVec F S16384x512 .f32) (main_arg7 : FVec F S16384x512 .f32) (main_arg8 : FVec F S16384x512 .f32) (main_arg9 : FVec F S16384x1024 .bf16) (main_arg10 : FVec F S1x1024 .f32) (main_arg11 : FVec F S16384x512 .bf16) (main_arg12 : FVec F S16384x1024 .bf16) (main_arg13 : FVec F S16384x512 .f32) (main_arg14 : FVec F S16384x2048 .bf16) (main_arg15 : FVec F S8x512 .f32) (main_arg16 : FVec F S4x1024x1024 .bf16) (main_arg17 : FVec F S16384x1024 .f32) (main_arg18 : FVec F S1x1024 .f32) (main_arg19 : FVec F S16384x1024 .f32) : IVec S16384x1024 1 :=
  let main_v0 : FVec F S16384x512 .f32 := (extf .f32 · bitsLt_bf16_f32) main_arg0
  let main_v1 : FVec F S16384x512 .f32 := (extf .f32 · bitsLt_bf16_f32) main_arg1
  let main_v2 : FVec F S16384x512 .f32 := addf main_v0 main_v1
  let main_v3 : FVec F S16384x512 .f32 := (extf .f32 · bitsLt_bf16_f32) main_arg2
  let main_v4 : FVec F S16384x512 .f32 := addf main_v2 main_v3
  let main_v5 : FVec F S16384x512 .f32 := addf main_arg3 main_arg4
  let main_v6 : FVec F S16384x512 .f32 := addf main_v5 main_arg5
  let main_v7 : FVec F S16384x1024 .f32 := (fun a b => concatenate S16384x1024 1 [⟨S16384x512, a⟩, ⟨S16384x512, b⟩] concatenates_S16384x512_S16384x512_S16384x1024_d1) main_v4 main_v6
  let main_v8 : FVec F S16384x1024 .f32 := Host.absf main_v7
  let main_cst : FVec F S_ .f32 := constant S_ .f32 0x7F800000#32
  let main_v9 : FVec F S16384x1024 .f32 := broadcastInDim S16384x1024 ![] bcast_S_S16384x1024 main_cst
  let main_v10 : IVec S16384x1024 1 := cmpf .olt main_v8 main_v9
  let main_v11 : FVec F S16384x1024 .f32 := (extf .f32 · bitsLt_bf16_f32) main_arg9
  let main_v12 : FVec F S16384x1024 .f32 := Host.absf main_v11
  let main_cst_0 : FVec F S_ .f32 := constant S_ .f32 0x7F800000#32
  let main_v13 : FVec F S16384x1024 .f32 := broadcastInDim S16384x1024 ![] bcast_S_S16384x1024 main_cst_0
  let main_v14 : IVec S16384x1024 1 := cmpf .olt main_v12 main_v13
  let main_v15 : IVec S16384x1024 1 := andi main_v10 main_v14
  let main_v16 : FVec F S1x1024 .f32 := Host.absf main_arg10
  let main_cst_1 : FVec F S_ .f32 := constant S_ .f32 0x7F800000#32
  let main_v17 : FVec F S1x1024 .f32 := broadcastInDim S1x1024 ![] bcast_S_S1x1024 main_cst_1
  let main_v18 : IVec S1x1024 1 := cmpf .olt main_v16 main_v17
  let main_v19 : IVec S16384x1024 1 := broadcastInDim S16384x1024 ![0, 1] bcast_S1x1024_S16384x1024_0_1 main_v18
  let main_v20 : IVec S16384x1024 1 := andi main_v15 main_v19
  main_v20
-- ==== Pre_finite_lse.lean ====
abbrev S16384x512 : Shape := ⟨2, ![16384, 512]⟩
abbrev S16384x2048 : Shape := ⟨2, ![16384, 2048]⟩
abbrev S16384x1024 : Shape := ⟨2, ![16384, 1024]⟩
abbrev S1024x1024 : Shape := ⟨2, ![1024, 1024]⟩
abbrev S8x512 : Shape := ⟨2, ![8, 512]⟩
abbrev S1x512 : Shape := ⟨2, ![1, 512]⟩
abbrev S256x256 : Shape := ⟨2, ![256, 256]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .bf16) (main_arg1 : FVec F S16384x512 .bf16) (main_arg2 : FVec F S16384x512 .bf16) (main_arg3 : FVec F S16384x512 .f32) (main_arg4 : FVec F S16384x512 .f32) (main_arg5 : FVec F S16384x512 .f32) (main_arg6 : FVec F S16384x2048 .bf16) (main_arg7 : FVec F S16384x1024 .bf16) (main_arg8 : FVec F S16384x1024 .f32) (main_arg9 : FVec F S16384x1024 .f32) (main_arg10 : FVec F S1024x1024 .bf16) (main_arg11 : FVec F S8x512 .f32) (main_arg12 : FVec F S1x512 .f32) (main_arg13 : FVec F S256x256 .bf16) : IVec S16384x512 1 :=
  let main_v0 : FVec F S16384x512 .f32 := Host.absf main_arg3
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg4
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : IVec S16384x512 1 := andi main_v2 main_v5
  let main_v7 : FVec F S16384x512 .f32 := Host.absf main_arg5
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  let main_v10 : IVec S16384x512 1 := andi main_v6 main_v9
  main_v10
-- ==== Pre_finite_raw.lean ====
abbrev S16384x1024 : Shape := ⟨2, ![16384, 1024]⟩
abbrev S1x1024 : Shape := ⟨2, ![1, 1024]⟩
abbrev S4x1024x1024 : Shape := ⟨3, ![4, 1024, 1024]⟩
abbrev S_ : Shape := ⟨0, ![]⟩
abbrev S16384 : Shape := ⟨1, ![16384]⟩
abbrev S16384x1 : Shape := ⟨2, ![16384, 1]⟩
abbrev S1x1024x1024 : Shape := ⟨3, ![1, 1024, 1024]⟩
abbrev S1024x1024 : Shape := ⟨2, ![1024, 1024]⟩

class Facts : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bitsLt_bf16_f32 : FTy.bits .bf16 < FTy.bits .f32
  slices_S4x1024x1024_S1x1024x1024_2_0_0 : S4x1024x1024.Slices ![2, 0, 0] S1x1024x1024
  shapeCasts_S1x1024x1024_S1024x1024 : S1x1024x1024.ShapeCasts S1024x1024
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def fn {F : FTy → Type} [FloatOps F] (main_arg0 : FVec F S16384x1024 .f32) (main_arg1 : FVec F S1x1024 .f32) (main_arg2 : FVec F S4x1024x1024 .bf16) (main_arg3 : FVec F S1x1024 .f32) : IVec S16384x1024 1 :=
  let main_v0 : FVec F S16384x1024 .f32 := mulf main_arg0 main_arg0
  let main_cst : FVec F S_ .f32 := constant S_ .f32 0x00000000#32
  let main_v1 : FVec F S16384 .f32 := (fun x v => Host.reduceAdd x v reducesTo_S16384x1024_S16384_d1 h_S_) main_v0 main_cst
  let main_v2 : FVec F S16384x1 .f32 := broadcastInDim S16384x1 ![0] bcast_S16384_S16384x1_0 main_v1
  let main_cst_0 : FVec F S_ .f32 := constant S_ .f32 0x44800000#32
  let main_v3 : FVec F S16384x1 .f32 := broadcastInDim S16384x1 ![] bcast_S_S16384x1 main_cst_0
  let main_v4 : FVec F S16384x1 .f32 := Host.divf main_v2 main_v3
  let main_cst_1 : FVec F S_ .f32 := constant S_ .f32 0x358637BD#32
  let main_v5 : FVec F S16384x1 .f32 := broadcastInDim S16384x1 ![] bcast_S_S16384x1 main_cst_1
  let main_v6 : FVec F S16384x1 .f32 := addf main_v4 main_v5
  let main_v7 : FVec F S16384x1 .f32 := Host.rsqrt main_v6
  let main_v8 : FVec F S16384x1024 .f32 := broadcastInDim S16384x1024 ![0, 1] bcast_S16384x1_S16384x1024_0_1 main_v7
  let main_v9 : FVec F S16384x1024 .f32 := mulf main_arg0 main_v8
  let main_v10 : FVec F S16384x1024 .f32 := broadcastInDim S16384x1024 ![0, 1] bcast_S1x1024_S16384x1024_0_1 main_arg1
  let main_v11 : FVec F S16384x1024 .f32 := mulf main_v9 main_v10
  let main_v12 : FVec F S16384x1024 .bf16 := (truncf .bf16 · bitsLt_bf16_f32) main_v11
  let main_v13 : FVec F S1x1024x1024 .bf16 := (extractStridedSlice S1x1024x1024 ![2, 0, 0] · slices_S4x1024x1024_S1x1024x1024_2_0_0) main_arg2
  let main_v14 : FVec F S1024x1024 .bf16 := shapeCast S1024x1024 main_v13 shapeCasts_S1x1024x1024_S1024x1024
  let main_v15 : FVec F S16384x1024 .f32 := (fun l r => Host.dotGeneral dot_S16384x1024_S1024x1024_S16384x1024_1_0_0_1_n_n none l r) main_v12 main_v14
  let main_v16 : FVec F S16384x1024 .f32 := Host.absf main_v15
  let main_cst_2 : FVec F S_ .f32 := constant S_ .f32 0x7F800000#32
  let main_v17 : FVec F S16384x1024 .f32 := broadcastInDim S16384x1024 ![] bcast_S_S16384x1024 main_cst_2
  let main_v18 : IVec S16384x1024 1 := cmpf .olt main_v16 main_v17
  main_v18
-- ==== StepIn.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepInReferenceIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== StepSmall.lean ====
abbrev S32x128 : Shape := ⟨2, ![32, 128]⟩

abbrev nBuf : Space → Nat
  | .hbm => 7
  | .vmem => 7
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSmallReferenceIdeal.lean ====
abbrev S32x128 : Shape := ⟨2, ![32, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S32x128, .f32⟩
  | .hbm, ⟨7, _⟩ => ⟨S_, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S_, .f32⟩
  | .hbm, ⟨12, _⟩ => ⟨S32x128, .f32⟩
  | .hbm, ⟨13, _⟩ => ⟨S32x128, .f32⟩
  | .hbm, ⟨14, _⟩ => ⟨S32x128, .f32⟩
  | .hbm, ⟨15, _⟩ => ⟨S_, .f32⟩
  | .hbm, ⟨16, _⟩ => ⟨S32x128, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S32x128, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .f32⟩
  | .hbm, ⟨25, _⟩ => ⟨S32x128, .f32⟩
  | .hbm, ⟨26, _⟩ => ⟨S_, .f32⟩
  | .hbm, ⟨27, _⟩ => ⟨S32x128, .f32⟩
  | .hbm, ⟨28, _⟩ => ⟨S32x128, .f32⟩
  | .hbm, ⟨29, _⟩ => ⟨S32x128, .f32⟩
  | .hbm, ⟨30, _⟩ => ⟨S_, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S_, .f32⟩
  | .hbm, ⟨35, _⟩ => ⟨S32x128, .f32⟩
  | .hbm, ⟨36, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FoldHeads.lean ====
abbrev S8x128 : Shape := ⟨2, ![8, 128]⟩
abbrev S2x128 : Shape := ⟨2, ![2, 128]⟩
abbrev S1x128 : Shape := ⟨2, ![1, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x128, .f32⟩
  | .hbm, ⟨1, _⟩ => ⟨S2x128, .f32⟩
  | .local _ .vmem, ⟨0, _⟩ => ⟨S8x128, .f32⟩
  | .local _ .vmem, ⟨1, _⟩ => ⟨S2x128, .f32⟩
  | _, _ => ⟨S8x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== FoldHeadsReferenceIdeal.lean ====
abbrev S8x128 : Shape := ⟨2, ![8, 128]⟩
abbrev S2x8x64 : Shape := ⟨3, ![2, 8, 64]⟩
abbrev S1x8x64 : Shape := ⟨3, ![1, 8, 64]⟩
abbrev S8x64 : Shape := ⟨2, ![8, 64]⟩
abbrev S_ : Shape := ⟨0, ![]⟩
abbrev S64 : Shape := ⟨1, ![64]⟩
abbrev S1x64 : Shape := ⟨2, ![1, 64]⟩
abbrev S2x64 : Shape := ⟨2, ![2, 64]⟩
abbrev S1x2x1x64 : Shape := ⟨4, ![1, 2, 1, 64]⟩
abbrev S1x2x2x64 : Shape := ⟨4, ![1, 2, 2, 64]⟩
abbrev S2x128 : Shape := ⟨2, ![2, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S2x8x64, .f32⟩
  | .hbm, ⟨2, _⟩ => ⟨S1x8x64, .f32⟩
  | .hbm, ⟨3, _⟩ => ⟨S8x64, .f32⟩
  | .hbm, ⟨4, _⟩ => ⟨S1x8x64, .f32⟩
  | .hbm, ⟨5, _⟩ => ⟨S8x64, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S2x64, .f32⟩
  | .hbm, ⟨13, _⟩ => ⟨S1x2x1x64, .f32⟩
  | .hbm, ⟨14, _⟩ => ⟨S1x2x2x64, .f32⟩
  | .hbm, ⟨15, _⟩ => ⟨S2x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Combine.lean ====
abbrev S16384x512 : Shape := ⟨2, ![16384, 512]⟩
abbrev S16384x2048 : Shape := ⟨2, ![16384, 2048]⟩
abbrev S16384x1024 : Shape := ⟨2, ![16384, 1024]⟩
abbrev S1024x1024 : Shape := ⟨2, ![1024, 1024]⟩
abbrev S8x512 : Shape := ⟨2, ![8, 512]⟩
abbrev S1x512 : Shape := ⟨2, ![1, 512]⟩
abbrev S256x256 : Shape := ⟨2, ![256, 256]⟩
abbrev S1x128 : Shape := ⟨2, ![1, 128]⟩
abbrev S256x512 : Shape := ⟨2, ![256, 512]⟩
abbrev S256x2048 : Shape := ⟨2, ![256, 2048]⟩
abbrev S16x2048 : Shape := ⟨2, ![16, 2048]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩
abbrev S512 : Shape := ⟨1, ![512]⟩

abbrev nBuf : Space → Nat
  | .hbm => 25
  | .vmem => 47
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x2048, .bf16⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S1024x1024, .bf16⟩
  | .hbm, ⟨11, _⟩ => ⟨S8x512, .f32⟩
  | .hbm, ⟨12, _⟩ => ⟨S1x512, .f32⟩
  | .hbm, ⟨13, _⟩ => ⟨S256x256, .bf16⟩
  | .hbm, ⟨14, _⟩ => ⟨S16384x1024, .bf16⟩
  | .hbm, ⟨15, _⟩ => ⟨S16384x1024, .f32⟩
  | .hbm, ⟨16, _⟩ => ⟨S16384x512, .f32⟩
  | .hbm, ⟨17, _⟩ => ⟨S16384x512, .f32⟩
  | .hbm, ⟨18, _⟩ => ⟨S16384x512, .bf16⟩
  | .hbm, ⟨19, _⟩ => ⟨S16384x512, .bf16⟩
  | .hbm, ⟨20, _⟩ => ⟨S16384x1024, .bf16⟩
  | .hbm, ⟨21, _⟩ => ⟨S16384x512, .f32⟩
  | .hbm, ⟨22, _⟩ => ⟨S1x128, .f32⟩
  | .hbm, ⟨23, _⟩ => ⟨S1x512, .f32⟩
  | .hbm, ⟨24, _⟩ => ⟨S8x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x2048, .bf16⟩
  | .local _ .vmem, ⟨13, _⟩ => ⟨S256x2048, .bf16⟩
  | .local _ .vmem, ⟨14, _⟩ => ⟨S16x2048, .bf16⟩
  | .local _ .vmem, ⟨15, _⟩ => ⟨S16x2048, .bf16⟩
  | .local _ .vmem, ⟨16, _⟩ => ⟨S16x2048, .bf16⟩
  | .local _ .vmem, ⟨17, _⟩ => ⟨S16x2048, .bf16⟩
  | .local _ .vmem, ⟨18, _⟩ => ⟨S256x512, .bf16⟩
  | .local _ .vmem, ⟨19, _⟩ => ⟨S256x512, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1024x1024, .bf16⟩
  | .local _ .vmem, ⟨25, _⟩ => ⟨S8x512, .f32⟩
  | .local _ .vmem, ⟨26, _⟩ => ⟨S1x512, .f32⟩
  | .local _ .vmem, ⟨27, _⟩ => ⟨S256x256, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .f32⟩
  | .local _ .vmem, ⟨31, _⟩ => ⟨S256x1024, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .bf16⟩
  | .local _ .vmem, ⟨37, _⟩ => ⟨S256x512, .bf16⟩
  | .local _ .vmem, ⟨38, _⟩ => ⟨S256x512, .bf16⟩
  | .local _ .vmem, ⟨39, _⟩ => ⟨S256x512, .bf16⟩
  | .local _ .vmem, ⟨40, _⟩ => ⟨S256x1024, .bf16⟩
  | .local _ .vmem, ⟨41, _⟩ => ⟨S256x1024, .bf16⟩
  | .local _ .vmem, ⟨42, _⟩ => ⟨S256x512, .f32⟩
  | .local _ .vmem, ⟨43, _⟩ => ⟨S256x512, .f32⟩
  | .local _ .vmem, ⟨44, _⟩ => ⟨S1x128, .f32⟩
  | .local _ .vmem, ⟨45, _⟩ => ⟨S1x512, .f32⟩
  | .local _ .vmem, ⟨46, _⟩ => ⟨S8x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg25_0 : Ref sig .tc := ⟨.vmem, 45, rfl⟩
abbrev cc0_stg26_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem25_0 : DmaSem sig := 45
abbrev cc0_sem26_0 : DmaSem sig := 46

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== CombineReferenceIdeal.lean ====
abbrev S16384x512 : Shape := ⟨2, ![16384, 512]⟩
abbrev S16384x2048 : Shape := ⟨2, ![16384, 2048]⟩
abbrev S16384x1024 : Shape := ⟨2, ![16384, 1024]⟩
abbrev S1024x1024 : Shape := ⟨2, ![1024, 1024]⟩
abbrev S8x512 : Shape := ⟨2, ![8, 512]⟩
abbrev S1x512 : Shape := ⟨2, ![1, 512]⟩
abbrev S256x256 : Shape := ⟨2, ![256, 256]⟩
abbrev S_ : Shape := ⟨0, ![]⟩
abbrev S16386x512 : Shape := ⟨2, ![16386, 512]⟩
abbrev S1x16384x512 : Shape := ⟨3, ![1, 16384, 512]⟩
abbrev S3x16384x512 : Shape := ⟨3, ![3, 16384, 512]⟩
abbrev S16384 : Shape := ⟨1, ![16384]⟩
abbrev S512 : Shape := ⟨1, ![512]⟩
abbrev S1x128 : Shape := ⟨2, ![1, 128]⟩

abbrev nBuf : Space → Nat
  | .hbm => 148
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .f32⟩
  | 4 => ⟨S16384x512, .f32⟩
  | 5 => ⟨S16384x512, .f32⟩
  | 6 => ⟨S16384x2048, .bf16⟩
  | 7 => ⟨S16384x1024, .bf16⟩
  | 8 => ⟨S16384x1024, .f32⟩
  | 9 => ⟨S16384x1024, .f32⟩
  | 10 => ⟨S1024x1024, .bf16⟩
  | 11 => ⟨S8x512, .f32⟩
  | 12 => ⟨S1x512, .f32⟩
  | 13 => ⟨S256x256, .bf16⟩
  | 14 => ⟨S16384x2048, .f32⟩
  | 15 => ⟨S16384x512, .f32⟩
  | 16 => ⟨S16384x512, .f32⟩
  | 17 => ⟨S16384x512, .f32⟩
  | 18 => ⟨S16384x512, .f32⟩
  | 19 => ⟨S16384x1024, .f32⟩
  | 20 => ⟨S16384x512, .f32⟩
  | 21 => ⟨S16384x512, .f32⟩
  | 22 => ⟨S_, .i32⟩
  | 23 => ⟨S_, .f32⟩
  | 24 => ⟨S16386x512, .f32⟩
  | 25 => ⟨S1x512, .f32⟩
  | 26 => ⟨S16384x512, .f32⟩
  | 27 => ⟨S16384x512, .f32⟩
  | 28 => ⟨S16384x512, .f32⟩
  | 29 => ⟨S1x512, .f32⟩
  | 30 => ⟨S16384x512, .f32⟩
  | 31 => ⟨S16384x512, .f32⟩
  | 32 => ⟨S16384x512, .f32⟩
  | 33 => ⟨S16384x512, .f32⟩
  | 34 => ⟨S1x512, .f32⟩
  | 35 => ⟨S16384x512, .f32⟩
  | 36 => ⟨S16384x512, .f32⟩
  | 37 => ⟨S16384x512, .f32⟩
  | 38 => ⟨S16384x512, .f32⟩
  | 39 => ⟨S16384x512, .f32⟩
  | 40 => ⟨S16384x512, .f32⟩
  | 41 => ⟨S16384x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S16384x512, .f32⟩
  | 52 => ⟨S1x16384x512, .f32⟩
  | 53 => ⟨S1x16384x512, .f32⟩
  | 54 => ⟨S1x16384x512, .f32⟩
  | 55 => ⟨S3x16384x512, .f32⟩
  | 56 => ⟨S16384x512, .f32⟩
  | 57 => ⟨S16384x512, .f32⟩
  | 58 => ⟨S16384x512, .f32⟩
  | 59 => ⟨S1x16384x512, .f32⟩
  | 60 => ⟨S1x16384x512, .f32⟩
  | 61 => ⟨S1x16384x512, .f32⟩
  | 62 => ⟨S3x16384x512, .f32⟩
  | 63 => ⟨S_, .f32⟩
  | 64 => ⟨S16384x512, .f32⟩
  | 65 => ⟨S_, .f32⟩
  | 66 => ⟨S16384x512, .f32⟩
  | 67 => ⟨S16384x512, .f32⟩
  | 68 => ⟨S1x16384x512, .f32⟩
  | 69 => ⟨S3x16384x512, .f32⟩
  | 70 => ⟨S3x16384x512, .f32⟩
  | 71 => ⟨S3x16384x512, .f32⟩
  | 72 => ⟨S_, .f32⟩
  | 73 => ⟨S16384x512, .f32⟩
  | 74 => ⟨S1x16384x512, .f32⟩
  | 75 => ⟨S3x16384x512, .f32⟩
  | 76 => ⟨S3x16384x512, .f32⟩
  | 77 => ⟨S3x16384x512, .f32⟩
  | 78 => ⟨S_, .f32⟩
  | 79 => ⟨S16384x512, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S16384x512, .f32⟩
  | 89 => ⟨S16384x512, .f32⟩
  | 90 => ⟨S16384x1024, .f32⟩
  | 91 => ⟨S_, .f32⟩
  | 92 => ⟨S16384x512, .f32⟩
  | 93 => ⟨S1024x1024, .f32⟩
  | 94 => ⟨S16384x1024, .f32⟩
  | 95 => ⟨S16384x1024, .f32⟩
  | 96 => ⟨S16384x1024, .f32⟩
  | 97 => ⟨S16384x1024, .f32⟩
  | 98 => ⟨S_, .f32⟩
  | 99 => ⟨S16384x1024, .f32⟩
  | 100 => ⟨S16384x1024, .f32⟩
  | 101 => ⟨S_, .f32⟩
  | 102 => ⟨S16384, .f32⟩
  | 103 => ⟨S_, .f32⟩
  | 104 => ⟨S16384, .f32⟩
  | 105 => ⟨S16384, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S16384, .f32⟩
  | 114 => ⟨S_, .f32⟩
  | 115 => ⟨S16384, .f32⟩
  | 116 => ⟨S16384, .f32⟩
  | 117 => ⟨S16384x1024, .f32⟩
  | 118 => ⟨S16384x1024, .f32⟩
  | 119 => ⟨S16384x1024, .f32⟩
  | 120 => ⟨S16384x512, .f32⟩
  | 121 => ⟨S16384x512, .f32⟩
  | 122 => ⟨S16384x512, .f32⟩
  | 123 => ⟨S16384x512, .f32⟩
  | 124 => ⟨S_, .f32⟩
  | 125 => ⟨S512, .f32⟩
  | 126 => ⟨S1x512, .f32⟩
  | 127 => ⟨S16384x512, .f32⟩
  | _ => ⟨S16384x512, .bf16⟩

abbrev hbmTy0_1 (i : Nat) : BufTy := match i % 128 with
  | 0 => ⟨S_, .f32⟩
  | 1 => ⟨S512, .f32⟩
  | 2 => ⟨S1x512, .f32⟩
  | 3 => ⟨S_, .f32⟩
  | 4 => ⟨S8x512, .f32⟩
  | 5 => ⟨S16384x512, .f32⟩
  | 6 => ⟨S_, .f32⟩
  | 7 => ⟨S512, .f32⟩
  | 8 => ⟨S1x512, .f32⟩
  | 9 => ⟨S_, .f32⟩
  | 10 => ⟨S8x512, .f32⟩
  | 11 => ⟨S8x512, .f32⟩
  | 12 => ⟨S16384x512, .f32⟩
  | 13 => ⟨S_, .f32⟩
  | 14 => ⟨S512, .f32⟩
  | 15 => ⟨S1x512, .f32⟩
  | 16 => ⟨S_, .f32⟩
  | 17 => ⟨S8x512, .f32⟩
  | 18 => ⟨S8x512, .f32⟩
  | 19 => ⟨S1x128, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst : Ref sig .tc := ⟨.hbm, 63, rfl⟩
abbrev main_v39 : Ref sig .tc := ⟨.hbm, 64, rfl⟩
abbrev main_cst_0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_1 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_2 : Ref sig .tc := ⟨.hbm, 78, rfl⟩
abbrev main_v51 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_3 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_4 : Ref sig .tc := ⟨.hbm, 98, rfl⟩
abbrev main_v61 : Ref sig .tc := ⟨.hbm, 99, rfl⟩
abbrev main_v62 : Ref sig .tc := ⟨.hbm, 100, rfl⟩
abbrev main_cst_5 : Ref sig .tc := ⟨.hbm, 101, rfl⟩
abbrev main_v63 : Ref sig .tc := ⟨.hbm, 102, rfl⟩
abbrev main_cst_6 : Ref sig .tc := ⟨.hbm, 103, rfl⟩
abbrev main_v64 : Ref sig .tc := ⟨.hbm, 104, rfl⟩
abbrev main_v65 : Ref sig .tc := ⟨.hbm, 105, rfl⟩
abbrev main_cst_7 : Ref sig .tc := ⟨.hbm, 106, rfl⟩
abbrev main_v66 : Ref sig .tc := ⟨.hbm, 107, rfl⟩
abbrev main_cst_8 : Ref sig .tc := ⟨.hbm, 108, rfl⟩
abbrev main_v67 : Ref sig .tc := ⟨.hbm, 109, rfl⟩
abbrev main_cst_9 : Ref sig .tc := ⟨.hbm, 110, rfl⟩
abbrev main_cst_10 : Ref sig .tc := ⟨.hbm, 111, rfl⟩
abbrev main_v68 : Ref sig .tc := ⟨.hbm, 112, rfl⟩
abbrev main_v69 : Ref sig .tc := ⟨.hbm, 113, rfl⟩
abbrev main_cst_11 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_12 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_13 : Ref sig .tc := ⟨.hbm, 128, rfl⟩
abbrev main_v82 : Ref sig .tc := ⟨.hbm, 129, rfl⟩
abbrev main_v83 : Ref sig .tc := ⟨.hbm, 130, rfl⟩
abbrev main_cst_14 : Ref sig .tc := ⟨.hbm, 131, rfl⟩
abbrev main_v84 : Ref sig .tc := ⟨.hbm, 132, rfl⟩
abbrev main_v85 : Ref sig .tc := ⟨.hbm, 133, rfl⟩
abbrev main_cst_15 : Ref sig .tc := ⟨.hbm, 134, rfl⟩
abbrev main_v86 : Ref sig .tc := ⟨.hbm, 135, rfl⟩
abbrev main_v87 : Ref sig .tc := ⟨.hbm, 136, rfl⟩
abbrev main_cst_16 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_17 : Ref sig .tc := ⟨.hbm, 141, rfl⟩
abbrev main_v91 : Ref sig .tc := ⟨.hbm, 142, rfl⟩
abbrev main_v92 : Ref sig .tc := ⟨.hbm, 143, rfl⟩
abbrev main_cst_18 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== TotalLoss.lean ====
abbrev S1x128 : Shape := ⟨2, ![1, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S1x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== TotalLossReferenceIdeal.lean ====
abbrev S8x128 : Shape := ⟨2, ![8, 128]⟩
abbrev S8x1 : Shape := ⟨2, ![8, 1]⟩
abbrev S8 : Shape := ⟨1, ![8]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x1, .f32⟩
  | .hbm, ⟨2, _⟩ => ⟨S8, .f32⟩
  | .hbm, ⟨3, _⟩ => ⟨S_, .f32⟩
  | .hbm, ⟨4, _⟩ => ⟨S_, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WgradIn.lean ====
abbrev S16384x1024 : Shape := ⟨2, ![16384, 1024]⟩
abbrev S16384x4096 : Shape := ⟨2, ![16384, 4096]⟩
abbrev S4x2x512x1024 : Shape := ⟨4, ![4, 2, 512, 1024]⟩
abbrev S512x1024 : Shape := ⟨2, ![512, 1024]⟩
abbrev S1x2x512x1024 : Shape := ⟨4, ![1, 2, 512, 1024]⟩
abbrev S1024x1024 : Shape := ⟨2, ![1024, 1024]⟩
abbrev S2x512x1024 : Shape := ⟨3, ![2, 512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x2x512x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2x512x1024, .bf16⟩
  | .local _ .vmem, ⟨5, _⟩ => ⟨S1x2x512x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradInReferenceIdeal.lean ====
abbrev S16384x1024 : Shape := ⟨2, ![16384, 1024]⟩
abbrev S16384x4096 : Shape := ⟨2, ![16384, 4096]⟩
abbrev S1024x4096 : Shape := ⟨2, ![1024, 4096]⟩
abbrev S2x512x4x1024 : Shape := ⟨4, ![2, 512, 4, 1024]⟩
abbrev S4x2x512x1024 : Shape := ⟨4, ![4, 2, 512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x4096, .f32⟩
  | .hbm, ⟨3, _⟩ => ⟨S1024x4096, .bf16⟩
  | .hbm, ⟨4, _⟩ => ⟨S2x512x4x1024, .bf16⟩
  | .hbm, ⟨5, _⟩ => ⟨S4x2x512x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WgradOut.lean ====
abbrev S16384x1024 : Shape := ⟨2, ![16384, 1024]⟩
abbrev S4x2x128x1024 : Shape := ⟨4, ![4, 2, 128, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S4x2x128x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x2x128x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v12 : BitVec 1 := Scalar.cmpi .eq arg1 c31_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== WgradOutReferenceIdeal.lean ====
abbrev S16384x1024 : Shape := ⟨2, ![16384, 1024]⟩
abbrev S1024x1024 : Shape := ⟨2, ![1024, 1024]⟩
abbrev S4x2x128x1024 : Shape := ⟨4, ![4, 2, 128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .bf16⟩
  | .hbm, ⟨3, _⟩ => ⟨S1024x1024, .f32⟩
  | .hbm, ⟨4, _⟩ => ⟨S1024x1024, .bf16⟩
  | .hbm, ⟨5, _⟩ => ⟨S4x2x128x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Tail.lean ====
abbrev S16384x512 : Shape := ⟨2, ![16384, 512]⟩
abbrev S16384x1024 : Shape := ⟨2, ![16384, 1024]⟩
abbrev S1x1024 : Shape := ⟨2, ![1, 1024]⟩
abbrev S16384x2048 : Shape := ⟨2, ![16384, 2048]⟩
abbrev S8x512 : Shape := ⟨2, ![8, 512]⟩
abbrev S4x1024x1024 : Shape := ⟨3, ![4, 1024, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16384x4096 : Shape := ⟨2, ![16384, 4096]⟩
abbrev S256x512 : Shape := ⟨2, ![256, 512]⟩
abbrev S256x1024 : Shape := ⟨2, ![256, 1024]⟩
abbrev S256x2048 : Shape := ⟨2, ![256, 2048]⟩
abbrev S256x4096 : Shape := ⟨2, ![256, 4096]⟩
abbrev S1x512 : Shape := ⟨2, ![1, 512]⟩
abbrev S1024 : Shape := ⟨1, ![1024]⟩
abbrev S1x1024x1024 : Shape := ⟨3, ![1, 1024, 1024]⟩
abbrev S1024x1024 : Shape := ⟨2, ![1024, 1024]⟩

abbrev nBuf : Space → Nat
  | .hbm => 49
  | .vmem => 47
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x1024, .bf16⟩
  | .hbm, ⟨10, _⟩ => ⟨S1x1024, .f32⟩
  | .hbm, ⟨11, _⟩ => ⟨S16384x512, .bf16⟩
  | .hbm, ⟨12, _⟩ => ⟨S16384x1024, .bf16⟩
  | .hbm, ⟨13, _⟩ => ⟨S16384x512, .f32⟩
  | .hbm, ⟨14, _⟩ => ⟨S16384x2048, .bf16⟩
  | .hbm, ⟨15, _⟩ => ⟨S8x512, .f32⟩
  | .hbm, ⟨16, _⟩ => ⟨S4x1024x1024, .bf16⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S256, .i32⟩
  | .hbm, ⟨21, _⟩ => ⟨S_, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S256, .i1⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S256x1, .i32⟩
  | .hbm, ⟨40, _⟩ => ⟨S1x256, .i32⟩
  | .hbm, ⟨41, _⟩ => ⟨S256x256, .i32⟩
  | .hbm, ⟨42, _⟩ => ⟨S256x256, .i32⟩
  | .hbm, ⟨43, _⟩ => ⟨S256x256, .i1⟩
  | .hbm, ⟨44, _⟩ => ⟨S256x256, .bf16⟩
  | .hbm, ⟨45, _⟩ => ⟨S16384x1024, .f32⟩
  | .hbm, ⟨46, _⟩ => ⟨S16384x4096, .bf16⟩
  | .hbm, ⟨47, _⟩ => ⟨S1x1024, .f32⟩
  | .hbm, ⟨48, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S256x512, .bf16⟩
  | .local _ .vmem, ⟨22, _⟩ => ⟨S256x512, .bf16⟩
  | .local _ .vmem, ⟨23, _⟩ => ⟨S256x1024, .bf16⟩
  | .local _ .vmem, ⟨24, _⟩ => ⟨S256x1024, .bf16⟩
  | .local _ .vmem, ⟨25, _⟩ => ⟨S256x512, .f32⟩
  | .local _ .vmem, ⟨26, _⟩ => ⟨S256x512, .f32⟩
  | .local _ .vmem, ⟨27, _⟩ => ⟨S8x512, .f32⟩
  | .local _ .vmem, ⟨28, _⟩ => ⟨S8x512, .f32⟩
  | .local _ .vmem, ⟨29, _⟩ => ⟨S8x512, .f32⟩
  | .local _ .vmem, ⟨30, _⟩ => ⟨S8x512, .f32⟩
  | .local _ .vmem, ⟨31, _⟩ => ⟨S256x2048, .bf16⟩
  | .local _ .vmem, ⟨32, _⟩ => ⟨S256x2048, .bf16⟩
  | .local _ .vmem, ⟨33, _⟩ => ⟨S8x512, .f32⟩
  | .local _ .vmem, ⟨34, _⟩ => ⟨S4x1024x1024, .bf16⟩
  | .local _ .vmem, ⟨35, _⟩ => ⟨S256x1024, .f32⟩
  | .local _ .vmem, ⟨36, _⟩ => ⟨S256x1024, .f32⟩
  | .local _ .vmem, ⟨37, _⟩ => ⟨S1x1024, .f32⟩
  | .local _ .vmem, ⟨38, _⟩ => ⟨S256x1024, .f32⟩
  | .local _ .vmem, ⟨39, _⟩ => ⟨S256x1024, .f32⟩
  | .local _ .vmem, ⟨40, _⟩ => ⟨S256x256, .bf16⟩
  | .local _ .vmem, ⟨41, _⟩ => ⟨S256x1024, .f32⟩
  | .local _ .vmem, ⟨42, _⟩ => ⟨S256x1024, .f32⟩
  | .local _ .vmem, ⟨43, _⟩ => ⟨S256x4096, .bf16⟩
  | .local _ .vmem, ⟨44, _⟩ => ⟨S256x4096, .bf16⟩
  | .local _ .vmem, ⟨45, _⟩ => ⟨S1x1024, .f32⟩
  | .local _ .vmem, ⟨46, _⟩ => ⟨S1x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8_0 : Ref sig .tc := ⟨.hbm, 45, rfl⟩
abbrev main_v8_1 : Ref sig .tc := ⟨.hbm, 46, rfl⟩
abbrev main_v8_2 : Ref sig .tc := ⟨.hbm, 47, rfl⟩
abbrev main_v8_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg26_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem18_0 : DmaSem sig := 34
abbrev cc0_sem19_0 : DmaSem sig := 35
abbrev cc0_sem19_1 : DmaSem sig := 36
abbrev cc0_sem20_0 : DmaSem sig := 37
abbrev cc0_sem21_0 : DmaSem sig := 38
abbrev cc0_sem21_1 : DmaSem sig := 39
abbrev cc0_sem22_0 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem26_0 : DmaSem sig := 46

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S256x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x4096 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== TailReferenceIdeal.lean ====
abbrev S16384x512 : Shape := ⟨2, ![16384, 512]⟩
abbrev S16384x1024 : Shape := ⟨2, ![16384, 1024]⟩
abbrev S1x1024 : Shape := ⟨2, ![1, 1024]⟩
abbrev S16384x2048 : Shape := ⟨2, ![16384, 2048]⟩
abbrev S8x512 : Shape := ⟨2, ![8, 512]⟩
abbrev S4x1024x1024 : Shape := ⟨3, ![4, 1024, 1024]⟩
abbrev S_ : Shape := ⟨0, ![]⟩
abbrev S1x512 : Shape := ⟨2, ![1, 512]⟩
abbrev S16386x512 : Shape := ⟨2, ![16386, 512]⟩
abbrev S16384x16x64 : Shape := ⟨3, ![16384, 16, 64]⟩
abbrev S16x64 : Shape := ⟨2, ![16, 64]⟩
abbrev S16384x16 : Shape := ⟨2, ![16384, 16]⟩
abbrev S16384x16x1 : Shape := ⟨3, ![16384, 16, 1]⟩
abbrev S1x16x64 : Shape := ⟨3, ![1, 16, 64]⟩
abbrev S16384x4096 : Shape := ⟨2, ![16384, 4096]⟩
abbrev S1x1024x1024 : Shape := ⟨3, ![1, 1024, 1024]⟩
abbrev S1024x1024 : Shape := ⟨2, ![1024, 1024]⟩
abbrev S1024x4096 : Shape := ⟨2, ![1024, 4096]⟩
abbrev S16384 : Shape := ⟨1, ![16384]⟩
abbrev S16384x1 : Shape := ⟨2, ![16384, 1]⟩
abbrev S1024 : Shape := ⟨1, ![1024]⟩

abbrev nBuf : Space → Nat
  | .hbm => 194
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .f32⟩
  | 4 => ⟨S16384x512, .f32⟩
  | 5 => ⟨S16384x512, .f32⟩
  | 6 => ⟨S16384x512, .f32⟩
  | 7 => ⟨S16384x512, .f32⟩
  | 8 => ⟨S16384x512, .f32⟩
  | 9 => ⟨S16384x1024, .bf16⟩
  | 10 => ⟨S1x1024, .f32⟩
  | 11 => ⟨S16384x512, .bf16⟩
  | 12 => ⟨S16384x1024, .bf16⟩
  | 13 => ⟨S16384x512, .f32⟩
  | 14 => ⟨S16384x2048, .bf16⟩
  | 15 => ⟨S8x512, .f32⟩
  | 16 => ⟨S4x1024x1024, .bf16⟩
  | 17 => ⟨S16384x1024, .f32⟩
  | 18 => ⟨S1x1024, .f32⟩
  | 19 => ⟨S16384x1024, .f32⟩
  | 20 => ⟨S16384x2048, .f32⟩
  | 21 => ⟨S16384x512, .f32⟩
  | 22 => ⟨S16384x512, .f32⟩
  | 23 => ⟨S16384x512, .f32⟩
  | 24 => ⟨S16384x512, .f32⟩
  | 25 => ⟨S_, .f32⟩
  | 26 => ⟨S1x512, .f32⟩
  | 27 => ⟨S16384x512, .f32⟩
  | 28 => ⟨S16386x512, .f32⟩
  | 29 => ⟨S_, .f32⟩
  | 30 => ⟨S1x512, .f32⟩
  | 31 => ⟨S_, .f32⟩
  | 32 => ⟨S1x512, .f32⟩
  | 33 => ⟨S1x512, .f32⟩
  | 34 => ⟨S16384x512, .f32⟩
  | 35 => ⟨S16384x512, .f32⟩
  | 36 => ⟨S16384x512, .f32⟩
  | 37 => ⟨S1x512, .f32⟩
  | 38 => ⟨S16384x512, .f32⟩
  | 39 => ⟨S16384x512, .f32⟩
  | 40 => ⟨S16384x512, .f32⟩
  | 41 => ⟨S16384x512, .f32⟩
  | 42 => ⟨S1x512, .f32⟩
  | 43 => ⟨S16384x512, .f32⟩
  | 44 => ⟨S16384x512, .f32⟩
  | 45 => ⟨S16384x512, .f32⟩
  | 46 => ⟨S16384x512, .f32⟩
  | 47 => ⟨S16384x512, .f32⟩
  | 48 => ⟨S16384x512, .f32⟩
  | 49 => ⟨S16384x512, .f32⟩
  | 50 => ⟨S16384x512, .f32⟩
  | 51 => ⟨S_, .f32⟩
  | 52 => ⟨S16386x512, .f32⟩
  | 53 => ⟨S16384x512, .f32⟩
  | 54 => ⟨S16384x512, .f32⟩
  | 55 => ⟨S_, .f32⟩
  | 56 => ⟨S16386x512, .f32⟩
  | 57 => ⟨S16386x512, .f32⟩
  | 58 => ⟨S16384x512, .f32⟩
  | 59 => ⟨S16384x512, .f32⟩
  | 60 => ⟨S_, .f32⟩
  | 61 => ⟨S16386x512, .f32⟩
  | 62 => ⟨S16386x512, .f32⟩
  | 63 => ⟨S1x512, .f32⟩
  | 64 => ⟨S16384x512, .f32⟩
  | 65 => ⟨S1x512, .f32⟩
  | 66 => ⟨S16384x512, .f32⟩
  | 67 => ⟨S16384x512, .f32⟩
  | 68 => ⟨S16384x512, .f32⟩
  | 69 => ⟨S16384x512, .f32⟩
  | 70 => ⟨S16384x512, .f32⟩
  | 71 => ⟨S16384x512, .f32⟩
  | 72 => ⟨S16384x512, .f32⟩
  | 73 => ⟨S_, .f32⟩
  | 74 => ⟨S16384x512, .f32⟩
  | 75 => ⟨S16384x512, .f32⟩
  | 76 => ⟨S16384x512, .f32⟩
  | 77 => ⟨S16384x512, .f32⟩
  | 78 => ⟨S16384x1024, .f32⟩
  | 79 => ⟨S16384x16x64, .f32⟩
  | 80 => ⟨S16384x1024, .f32⟩
  | 81 => ⟨S16384x16x64, .f32⟩
  | 82 => ⟨S16x64, .f32⟩
  | 83 => ⟨S16384x16x64, .f32⟩
  | 84 => ⟨S_, .f32⟩
  | 85 => ⟨S16384x16, .f32⟩
  | 86 => ⟨S16384x16x1, .f32⟩
  | 87 => ⟨S_, .f32⟩
  | 88 => ⟨S16384x16x1, .f32⟩
  | 89 => ⟨S16384x16x1, .f32⟩
  | 90 => ⟨S_, .f32⟩
  | 91 => ⟨S16384x16x1, .f32⟩
  | 92 => ⟨S16384x16x1, .f32⟩
  | 93 => ⟨S16384x16x1, .f32⟩
  | 94 => ⟨S16384x16x1, .f32⟩
  | 95 => ⟨S_, .f32⟩
  | 96 => ⟨S16384x16x1, .f32⟩
  | 97 => ⟨S16384x16x1, .f32⟩
  | 98 => ⟨S16384x16x64, .f32⟩
  | 99 => ⟨S16384x16x64, .f32⟩
  | 100 => ⟨S1x16x64, .f32⟩
  | 101 => ⟨S16384x16x64, .f32⟩
  | 102 => ⟨S16384x16x64, .f32⟩
  | 103 => ⟨S16384x16x64, .f32⟩
  | 104 => ⟨S_, .f32⟩
  | 105 => ⟨S16x64, .f32⟩
  | 106 => ⟨S1x16x64, .f32⟩
  | 107 => ⟨S16384x16x64, .f32⟩
  | 108 => ⟨S16384x16x64, .f32⟩
  | 109 => ⟨S_, .f32⟩
  | 110 => ⟨S16x64, .f32⟩
  | 111 => ⟨S16384x16x64, .f32⟩
  | 112 => ⟨S_, .f32⟩
  | 113 => ⟨S16384x16, .f32⟩
  | 114 => ⟨S16384x16x1, .f32⟩
  | 115 => ⟨S16384x16x64, .f32⟩
  | 116 => ⟨S16384x16x64, .f32⟩
  | 117 => ⟨S16384x16x1, .f32⟩
  | 118 => ⟨S_, .f32⟩
  | 119 => ⟨S16384x16x1, .f32⟩
  | 120 => ⟨S16384x16x1, .f32⟩
  | 121 => ⟨S_, .f32⟩
  | 122 => ⟨S16384x16, .f32⟩
  | 123 => ⟨S16384x16x64, .f32⟩
  | 124 => ⟨S16384x16x64, .f32⟩
  | 125 => ⟨S16384x16x64, .f32⟩
  | 126 => ⟨S16384x16x64, .f32⟩
  | 127 => ⟨S16384x16x64, .f32⟩
  | _ => ⟨S16384x512, .bf16⟩

abbrev hbmTy0_1 (i : Nat) : BufTy := match i % 128 with
  | 0 => ⟨S16384x512, .bf16⟩
  | 1 => ⟨S16384x512, .f32⟩
  | 2 => ⟨S16384x512, .bf16⟩
  | 3 => ⟨S16384x512, .f32⟩
  | 4 => ⟨S16384x1024, .f32⟩
  | 5 => ⟨S16384x512, .f32⟩
  | 6 => ⟨S16384x512, .f32⟩
  | 7 => ⟨S16384x512, .f32⟩
  | 8 => ⟨S16384x4096, .f32⟩
  | 9 => ⟨S16384x4096, .bf16⟩
  | 10 => ⟨S16384x4096, .f32⟩
  | 11 => ⟨S1x1024x1024, .bf16⟩
  | 12 => ⟨S1024x1024, .bf16⟩
  | 13 => ⟨S1x1024x1024, .bf16⟩
  | 14 => ⟨S1024x1024, .bf16⟩
  | 15 => ⟨S1x1024x1024, .bf16⟩
  | 16 => ⟨S1024x1024, .bf16⟩
  | 17 => ⟨S1x1024x1024, .bf16⟩
  | 18 => ⟨S1024x1024, .bf16⟩
  | 19 => ⟨S1024x4096, .bf16⟩
  | 20 => ⟨S1024x4096, .f32⟩
  | 21 => ⟨S16384x1024, .f32⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x1, .f32⟩
  | 33 => ⟨S16384x1, .f32⟩
  | 34 => ⟨S_, .f32⟩
  | 35 => ⟨S16384x1, .f32⟩
  | 36 => ⟨S16384x1, .f32⟩
  | 37 => ⟨S16384x1024, .f32⟩
  | 38 => ⟨S16384x1024, .f32⟩
  | 39 => ⟨S16384x1024, .f32⟩
  | 40 => ⟨S16384x1024, .f32⟩
  | 41 => ⟨S16384x1024, .f32⟩
  | 42 => ⟨S_, .f32⟩
  | 43 => ⟨S1024, .f32⟩
  | 44 => ⟨S1x1024, .f32⟩
  | 45 => ⟨S16384x1024, .f32⟩
  | 46 => ⟨S16384x1024, .f32⟩
  | 47 => ⟨S16384x1024, .f32⟩
  | 48 => ⟨S_, .f32⟩
  | 49 => ⟨S16384, .f32⟩
  | 50 => ⟨S16384x1, .f32⟩
  | 51 => ⟨S16384x1024, .f32⟩
  | 52 => ⟨S16384x1024, .f32⟩
  | 53 => ⟨S16384x1, .f32⟩
  | 54 => ⟨S_, .f32⟩
  | 55 => ⟨S16384x1, .f32⟩
  | 56 => ⟨S16384x1, .f32⟩
  | 57 => ⟨S_, .f32⟩
  | 58 => ⟨S16384, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S1x1024, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_v60 : Ref sig .tc := ⟨.hbm, 89, rfl⟩
abbrev main_cst_8 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_13 : Ref sig .tc := ⟨.hbm, 118, rfl⟩
abbrev main_v84 : Ref sig .tc := ⟨.hbm, 119, rfl⟩
abbrev main_v85 : Ref sig .tc := ⟨.hbm, 120, rfl⟩
abbrev main_cst_14 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_15 : Ref sig .tc := ⟨.hbm, 151, rfl⟩
abbrev main_v115 : Ref sig .tc := ⟨.hbm, 152, rfl⟩
abbrev main_v116 : Ref sig .tc := ⟨.hbm, 153, rfl⟩
abbrev main_cst_16 : Ref sig .tc := ⟨.hbm, 154, rfl⟩
abbrev main_v117 : Ref sig .tc := ⟨.hbm, 155, rfl⟩
abbrev main_v118 : Ref sig .tc := ⟨.hbm, 156, rfl⟩
abbrev main_cst_17 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_18 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_19 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_20 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_21 : Ref sig .tc := ⟨.hbm, 182, rfl⟩
abbrev main_v140 : Ref sig .tc := ⟨.hbm, 183, rfl⟩
abbrev main_v141 : Ref sig .tc := ⟨.hbm, 184, rfl⟩
abbrev main_cst_22 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩

abbrev nD : Nat := 1
abbrev τ : Topo := Topo.v7x

variable {F : FTy → Type} [FloatOps F]
-- ==== Bias.lean ====
abbrev S3x4x3x256x256 : Shape := ⟨5, ![3, 4, 3, 256, 256]⟩
abbrev S3x3x256x128 : Shape := ⟨4, ![3, 3, 256, 128]⟩
abbrev S8x128 : Shape := ⟨2, ![8, 128]⟩
abbrev S1x4x1x256x256 : Shape := ⟨5, ![1, 4, 1, 256, 256]⟩
abbrev S1x1x256x128 : Shape := ⟨4, ![1, 1, 256, 128]⟩
abbrev S256x256 : Shape := ⟨2, ![256, 256]⟩
abbrev S8x256 : Shape := ⟨2, ![8, 256]⟩
abbrev S1x1x1x256x256 : Shape := ⟨5, ![1, 1, 1, 256, 256]⟩
abbrev S128x256 : Shape := ⟨2, ![128, 256]⟩
abbrev S256 : Shape := ⟨1, ![256]⟩
abbrev S1x256 : Shape := ⟨2, ![1, 256]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S3x4x3x256x256, .f32⟩
  | .hbm, ⟨1, _⟩ => ⟨S3x3x256x128, .f32⟩
  | .hbm, ⟨2, _⟩ => ⟨S8x128, .f32⟩
  | .local _ .vmem, ⟨0, _⟩ => ⟨S1x4x1x256x256, .f32⟩
  | .local _ .vmem, ⟨1, _⟩ => ⟨S1x4x1x256x256, .f32⟩
  | .local _ .vmem, ⟨2, _⟩ => ⟨S1x1x256x128, .f32⟩
  | .local _ .vmem, ⟨3, _⟩ => ⟨S1x1x256x128, .f32⟩
  | .local _ .vmem, ⟨4, _⟩ => ⟨S8x128, .f32⟩
  | _, _ => ⟨S3x4x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![3, 3], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== BiasReferenceIdeal.lean ====
abbrev S3x4x3x256x256 : Shape := ⟨5, ![3, 4, 3, 256, 256]⟩
abbrev S3x3x256x128 : Shape := ⟨4, ![3, 3, 256, 128]⟩
abbrev S256 : Shape := ⟨1, ![256]⟩
abbrev S1x1x256 : Shape := ⟨3, ![1, 1, 256]⟩
abbrev S3 : Shape := ⟨1, ![3]⟩
abbrev S3x1x1 : Shape := ⟨3, ![3, 1, 1]⟩
abbrev S_ : Shape := ⟨0, ![]⟩
abbrev S3x1x256 : Shape := ⟨3, ![3, 1, 256]⟩
abbrev S128 : Shape := ⟨1, ![128]⟩
abbrev S1x128x1 : Shape := ⟨3, ![1, 128, 1]⟩
abbrev S3x128x256 : Shape := ⟨3, ![3, 128, 256]⟩
abbrev S32x8 : Shape := ⟨2, ![32, 8]⟩
abbrev S3x128x256x1 : Shape := ⟨4, ![3, 128, 256, 1]⟩
abbrev S3x128x256x8 : Shape := ⟨4, ![3, 128, 256, 8]⟩
abbrev S1x4x3x256x256 : Shape := ⟨5, ![1, 4, 3, 256, 256]⟩
abbrev S4x3x256x256 : Shape := ⟨4, ![4, 3, 256, 256]⟩
abbrev S4x3x2x128x256 : Shape := ⟨5, ![4, 3, 2, 128, 256]⟩
abbrev S3x128x256x4x2 : Shape := ⟨5, ![3, 128, 256, 4, 2]⟩
abbrev S8x32 : Shape := ⟨2, ![8, 32]⟩
abbrev S8x128 : Shape := ⟨2, ![8, 128]⟩

abbrev nBuf : Space → Nat
  | .hbm => 254
  | .vmem => 0
  | .smem => 0
  | _ => 0

abbrev hbmTy0_0 (i : Nat) : BufTy := match i % 128 with
  | 0 => ⟨S3x4x3x256x256, .f32⟩
  | 1 => ⟨S3x3x256x128, .f32⟩
  | 2 => ⟨S256, .i32⟩
  | 3 => ⟨S1x1x256, .i32⟩
  | 4 => ⟨S3, .i32⟩
  | 5 => ⟨S3x1x1, .i32⟩
  | 6 => ⟨S_, .i32⟩
  | 7 => ⟨S3x1x1, .i32⟩
  | 8 => ⟨S3x1x1, .i32⟩
  | 9 => ⟨S3x1x256, .i32⟩
  | 10 => ⟨S3x1x256, .i32⟩
  | 11 => ⟨S3x1x256, .i32⟩
  | 12 => ⟨S128, .i32⟩
  | 13 => ⟨S1x128x1, .i32⟩
  | 14 => ⟨S3x128x256, .i32⟩
  | 15 => ⟨S3x128x256, .i32⟩
  | 16 => ⟨S3x128x256, .i32⟩
  | 17 => ⟨S3x128x256, .i32⟩
  | 18 => ⟨S_, .i32⟩
  | 19 => ⟨S3x128x256, .i32⟩
  | 20 => ⟨S3x128x256, .i1⟩
  | 21 => ⟨S_, .f32⟩
  | 22 => ⟨S32x8, .f32⟩
  | 23 => ⟨S_, .i32⟩
  | 24 => ⟨S_, .i32⟩
  | 25 => ⟨S_, .i32⟩
  | 26 => ⟨S3x128x256, .i32⟩
  | 27 => ⟨S3x128x256, .i32⟩
  | 28 => ⟨S_, .i32⟩
  | 29 => ⟨S3x128x256, .i32⟩
  | 30 => ⟨S3x128x256, .i32⟩
  | 31 => ⟨S_, .i32⟩
  | 32 => ⟨S3x128x256, .i32⟩
  | 33 => ⟨S3x128x256, .i32⟩
  | 34 => ⟨S_, .i32⟩
  | 35 => ⟨S3x128x256, .i32⟩
  | 36 => ⟨S3x128x256, .i1⟩
  | 37 => ⟨S_, .i32⟩
  | 38 => ⟨S_, .i32⟩
  | 39 => ⟨S3x128x256, .i32⟩
  | 40 => ⟨S3x128x256, .i32⟩
  | 41 => ⟨S3x128x256, .i32⟩
  | 42 => ⟨S3x128x256, .i32⟩
  | 43 => ⟨S_, .i32⟩
  | 44 => ⟨S3x128x256, .i32⟩
  | 45 => ⟨S3x128x256, .i32⟩
  | 46 => ⟨S3x128x256, .f32⟩
  | 47 => ⟨S_, .f32⟩
  | 48 => ⟨S3x128x256, .f32⟩
  | 49 => ⟨S3x128x256, .f32⟩
  | 50 => ⟨S3x128x256, .f32⟩
  | 51 => ⟨S_, .f32⟩
  | 52 => ⟨S3x128x256, .f32⟩
  | 53 => ⟨S3x128x256, .f32⟩
  | 54 => ⟨S_, .f32⟩
  | 55 => ⟨S3x128x256, .f32⟩
  | 56 => ⟨S3x128x256, .f32⟩
  | 57 => ⟨S3x128x256, .i32⟩
  | 58 => ⟨S_, .i32⟩
  | 59 => ⟨S3x128x256, .i32⟩
  | 60 => ⟨S3x128x256, .i32⟩
  | 61 => ⟨S_, .i32⟩
  | 62 => ⟨S3x128x256, .i32⟩
  | 63 => ⟨S3x128x256, .i32⟩
  | 64 => ⟨S_, .i32⟩
  | 65 => ⟨S3x128x256, .i32⟩
  | 66 => ⟨S3x128x256, .i1⟩
  | 67 => ⟨S3x128x256, .i32⟩
  | 68 => ⟨S3x128x256, .i32⟩
  | 69 => ⟨S3x128x256, .i32⟩
  | 70 => ⟨S3x128x256x1, .i1⟩
  | 71 => ⟨S_, .i32⟩
  | 72 => ⟨S3x128x256, .i32⟩
  | 73 => ⟨S3x128x256, .i1⟩
  | 74 => ⟨S_, .i32⟩
  | 75 => ⟨S3x128x256, .i32⟩
  | 76 => ⟨S3x128x256, .i32⟩
  | 77 => ⟨S3x128x256, .i32⟩
  | 78 => ⟨S3x128x256x1, .i32⟩
  | 79 => ⟨S3x128x256x8, .f32⟩
  | 80 => ⟨S_, .f32⟩
  | 81 => ⟨S_, .f32⟩
  | 82 => ⟨S3x128x256x8, .i1⟩
  | 83 => ⟨S3x128x256x8, .f32⟩
  | 84 => ⟨S3x128x256x8, .f32⟩
  | 85 => ⟨S_, .f32⟩
  | 86 => ⟨S3x128x256x8, .f32⟩
  | 87 => ⟨S_, .i32⟩
  | 88 => ⟨S_, .i32⟩
  | 89 => ⟨S_, .i32⟩
  | 90 => ⟨S3x128x256, .i32⟩
  | 91 => ⟨S3x128x256, .i32⟩
  | 92 => ⟨S_, .i32⟩
  | 93 => ⟨S3x128x256, .i32⟩
  | 94 => ⟨S3x128x256, .i32⟩
  | 95 => ⟨S_, .i32⟩
  | 96 => ⟨S3x128x256, .i32⟩
  | 97 => ⟨S3x128x256, .i32⟩
  | 98 => ⟨S_, .i32⟩
  | 99 => ⟨S3x128x256, .i32⟩
  | 100 => ⟨S3x128x256, .i1⟩
  | 101 => ⟨S_, .i32⟩
  | 102 => ⟨S_, .i32⟩
  | 103 => ⟨S3x128x256, .i32⟩
  | 104 => ⟨S3x128x256, .i32⟩
  | 105 => ⟨S3x128x256, .i32⟩
  | 106 => ⟨S3x128x256, .i32⟩
  | 107 => ⟨S_, .i32⟩
  | 108 => ⟨S3x128x256, .i32⟩
  | 109 => ⟨S3x128x256, .i32⟩
  | 110 => ⟨S3x128x256, .f32⟩
  | 111 => ⟨S_, .f32⟩
  | 112 => ⟨S3x128x256, .f32⟩
  | 113 => ⟨S3x128x256, .f32⟩
  | 114 => ⟨S3x128x256, .f32⟩
  | 115 => ⟨S_, .f32⟩
  | 116 => ⟨S3x128x256, .f32⟩
  | 117 => ⟨S3x128x256, .f32⟩
  | 118 => ⟨S_, .f32⟩
  | 119 => ⟨S3x128x256, .f32⟩
  | 120 => ⟨S3x128x256, .f32⟩
  | 121 => ⟨S3x128x256, .i32⟩
  | 122 => ⟨S_, .i32⟩
  | 123 => ⟨S3x128x256, .i32⟩
  | 124 => ⟨S3x128x256, .i32⟩
  | 125 => ⟨S_, .i32⟩
  | 126 => ⟨S3x128x256, .i32⟩
  | 127 => ⟨S3x128x256, .i32⟩
  | _ => ⟨S3x4x3x256x256, .f32⟩

abbrev hbmTy0_1 (i : Nat) : BufTy := match i % 128 with
  | 0 => ⟨S_, .i32⟩
  | 1 => ⟨S3x128x256, .i32⟩
  | 2 => ⟨S3x128x256, .i1⟩
  | 3 => ⟨S3x128x256, .i32⟩
  | 4 => ⟨S3x128x256, .i32⟩
  | 5 => ⟨S3x128x256, .i32⟩
  | 6 => ⟨S3x128x256x1, .i1⟩
  | 7 => ⟨S_, .i32⟩
  | 8 => ⟨S3x128x256, .i32⟩
  | 9 => ⟨S3x128x256, .i1⟩
  | 10 => ⟨S_, .i32⟩
  | 11 => ⟨S3x128x256, .i32⟩
  | 12 => ⟨S3x128x256, .i32⟩
  | 13 => ⟨S3x128x256, .i32⟩
  | 14 => ⟨S3x128x256x1, .i32⟩
  | 15 => ⟨S3x128x256x8, .f32⟩
  | 16 => ⟨S_, .f32⟩
  | 17 => ⟨S_, .f32⟩
  | 18 => ⟨S3x128x256x8, .i1⟩
  | 19 => ⟨S3x128x256x8, .f32⟩
  | 20 => ⟨S3x128x256x8, .f32⟩
  | 21 => ⟨S_, .f32⟩
  | 22 => ⟨S3x128x256x8, .f32⟩
  | 23 => ⟨S_, .i32⟩
  | 24 => ⟨S_, .i32⟩
  | 25 => ⟨S_, .i32⟩
  | 26 => ⟨S3x128x256, .i32⟩
  | 27 => ⟨S3x128x256, .i32⟩
  | 28 => ⟨S_, .i32⟩
  | 29 => ⟨S3x128x256, .i32⟩
  | 30 => ⟨S3x128x256, .i32⟩
  | 31 => ⟨S_, .i32⟩
  | 32 => ⟨S3x128x256, .i32⟩
  | 33 => ⟨S3x128x256, .i32⟩
  | 34 => ⟨S_, .i32⟩
  | 35 => ⟨S3x128x256, .i32⟩
  | 36 => ⟨S3x128x256, .i1⟩
  | 37 => ⟨S_, .i32⟩
  | 38 => ⟨S_, .i32⟩
  | 39 => ⟨S3x128x256, .i32⟩
  | 40 => ⟨S3x128x256, .i32⟩
  | 41 => ⟨S3x128x256, .i32⟩
  | 42 => ⟨S3x128x256, .i32⟩
  | 43 => ⟨S_, .i32⟩
  | 44 => ⟨S3x128x256, .i32⟩
  | 45 => ⟨S3x128x256, .i32⟩
  | 46 => ⟨S3x128x256, .f32⟩
  | 47 => ⟨S_, .f32⟩
  | 48 => ⟨S3x128x256, .f32⟩
  | 49 => ⟨S3x128x256, .f32⟩
  | 50 => ⟨S3x128x256, .f32⟩
  | 51 => ⟨S_, .f32⟩
  | 52 => ⟨S3x128x256, .f32⟩
  | 53 => ⟨S3x128x256, .f32⟩
  | 54 => ⟨S_, .f32⟩
  | 55 => ⟨S3x128x256, .f32⟩
  | 56 => ⟨S3x128x256, .f32⟩
  | 57 => ⟨S3x128x256, .i32⟩
  | 58 => ⟨S_, .i32⟩
  | 59 => ⟨S3x128x256, .i32⟩
  | 60 => ⟨S3x128x256, .i32⟩
  | 61 => ⟨S_, .i32⟩
  | 62 => ⟨S3x128x256, .i32⟩
  | 63 => ⟨S3x128x256, .i32⟩
  | 64 => ⟨S_, .i32⟩
  | 65 => ⟨S3x128x256, .i32⟩
  | 66 => ⟨S3x128x256, .i1⟩
  | 67 => ⟨S3x128x256, .i32⟩
  | 68 => ⟨S3x128x256, .i32⟩
  | 69 => ⟨S3x128x256, .i32⟩
  | 70 => ⟨S3x128x256x1, .i1⟩
  | 71 => ⟨S_, .i32⟩
  | 72 => ⟨S3x128x256, .i32⟩
  | 73 => ⟨S3x128x256, .i1⟩
  | 74 => ⟨S_, .i32⟩
  | 75 => ⟨S3x128x256, .i32⟩
  | 76 => ⟨S3x128x256, .i32⟩
  | 77 => ⟨S3x128x256, .i32⟩
  | 78 => ⟨S3x128x256x1, .i32⟩
  | 79 => ⟨S3x128x256x8, .f32⟩
  | 80 => ⟨S_, .f32⟩
  | 81 => ⟨S_, .f32⟩
  | 82 => ⟨S3x128x256x8, .i1⟩
  | 83 => ⟨S3x128x256x8, .f32⟩
  | 84 => ⟨S3x128x256x8, .f32⟩
  | 85 => ⟨S_, .f32⟩
  | 86 => ⟨S3x128x256x8, .f32⟩
  | 87 => ⟨S1x4x3x256x256, .f32⟩
  | 88 => ⟨S4x3x256x256, .f32⟩
  | 89 => ⟨S4x3x2x128x256, .f32⟩
  | 90 => ⟨S3x128x256x4x2, .f32⟩
  | 91 => ⟨S3x128x256x8, .f32⟩
  | 92 => ⟨S1x4x3x256x256, .f32⟩
  | 93 => ⟨S4x3x256x256, .f32⟩
  | 94 => ⟨S4x3x2x128x256, .f32⟩
  | 95 => ⟨S3x128x256x4x2, .f32⟩
  | 96 => ⟨S3x128x256x8, .f32⟩
  | 97 => ⟨S1x4x3x256x256, .f32⟩
  | 98 => ⟨S4x3x256x256, .f32⟩
  | 99 => ⟨S4x3x2x128x256, .f32⟩
  | 100 => ⟨S3x128x256x4x2, .f32⟩
  | 101 => ⟨S3x128x256x8, .f32⟩
  | 102 => ⟨S_, .f32⟩
  | 103 => ⟨S3x128x256x8, .f32⟩
  | 104 => ⟨S3x128x256x8, .f32⟩
  | 105 => ⟨S_, .f32⟩
  | 106 => ⟨S32x8, .f32⟩
  | 107 => ⟨S32x8, .f32⟩
  | 108 => ⟨S_, .f32⟩
  | 109 => ⟨S3x128x256x8, .f32⟩
  | 110 => ⟨S3x128x256x8, .f32⟩
  | 111 => ⟨S_, .f32⟩
  | 112 => ⟨S32x8, .f32⟩
  | 113 => ⟨S32x8, .f32⟩
  | 114 => ⟨S32x8, .f32⟩
  | 115 => ⟨S_, .f32⟩
  | 116 => ⟨S3x128x256x8, .f32⟩
  | 117 => ⟨S3x128x256x8, .f32⟩
  | 118 => ⟨S_, .f32⟩
  | 119 => ⟨S32x8, .f32⟩
  | 120 => ⟨S32x8, .f32⟩
  | 121 => ⟨S32x8, .f32⟩
  | 122 => ⟨S8x32, .f32⟩
  | 123 => ⟨S_, .i32⟩
  | 124 => ⟨S_, .f32⟩
  | 125 => ⟨S8x128, .f32⟩
  | _ => ⟨S3x4x3x256x256, .f32⟩

abbrev hbmTy (i : Nat) : BufTy := match i / 128 with
  | 0 => hbmTy0_0 i
  | 1 => hbmTy0_1 i
  | _ => ⟨S3x4x3x256x256, .f32⟩

abbrev bufTy : (tb : Table) → Fin (tcTables nBuf tb) → BufTy
  | .hbm, ⟨i, _⟩ => hbmTy i
  | _, _ => ⟨S3x4x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_c_1 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_c_6 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_11 : Ref sig .tc := ⟨.hbm, 58, rfl⟩
abbrev main_v36 : Ref sig .tc := ⟨.hbm, 59, rfl⟩
abbrev main_v37 : Ref sig .tc := ⟨.hbm, 60, rfl⟩
abbrev main_c_12 : Ref sig .tc := ⟨.hbm, 61, rfl⟩
abbrev main_v38 : Ref sig .tc := ⟨.hbm, 62, rfl⟩
abbrev main_v39 : Ref sig .tc := ⟨.hbm, 63, rfl⟩
abbrev main_c_13 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_14 : Ref sig .tc := ⟨.hbm, 71, rfl⟩
abbrev main_v46 : Ref sig .tc := ⟨.hbm, 72, rfl⟩
abbrev main_v47 : Ref sig .tc := ⟨.hbm, 73, rfl⟩
abbrev main_c_15 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_16 : Ref sig .tc := ⟨.hbm, 80, rfl⟩
abbrev main_call3_v0 : Ref sig .tc := ⟨.hbm, 81, rfl⟩
abbrev main_v53_1 : Ref sig .tc := ⟨.hbm, 82, rfl⟩
abbrev main_call3_v2 : Ref sig .tc := ⟨.hbm, 83, rfl⟩
abbrev main_v53_0 : Ref sig .tc := ⟨.hbm, 84, rfl⟩
abbrev main_call3_cst : Ref sig .tc := ⟨.hbm, 85, rfl⟩
abbrev main_v53_2 : Ref sig .tc := ⟨.hbm, 86, rfl⟩
abbrev main_c_17 : Ref sig .tc := ⟨.hbm, 87, rfl⟩
abbrev main_c_18 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v54 : Ref sig .tc := ⟨.hbm, 94, rfl⟩
abbrev main_c_19 : Ref sig .tc := ⟨.hbm, 95, rfl⟩
abbrev main_v55 : Ref sig .tc := ⟨.hbm, 96, rfl⟩
abbrev main_v56 : Ref sig .tc := ⟨.hbm, 97, rfl⟩
abbrev main_c_20 : Ref sig .tc := ⟨.hbm, 98, rfl⟩
abbrev main_v57 : Ref sig .tc := ⟨.hbm, 99, rfl⟩
abbrev main_v58 : Ref sig .tc := ⟨.hbm, 100, rfl⟩
abbrev main_c_21 : Ref sig .tc := ⟨.hbm, 101, rfl⟩
abbrev main_c_22 : Ref sig .tc := ⟨.hbm, 102, rfl⟩
abbrev main_call5_v0 : Ref sig .tc := ⟨.hbm, 103, rfl⟩
abbrev main_call5_v1 : Ref sig .tc := ⟨.hbm, 104, rfl⟩
abbrev main_v59 : Ref sig .tc := ⟨.hbm, 105, rfl⟩
abbrev main_v60 : Ref sig .tc := ⟨.hbm, 106, rfl⟩
abbrev main_c_23 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_24 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_25 : Ref sig .tc := ⟨.hbm, 115, rfl⟩
abbrev main_v67 : Ref sig .tc := ⟨.hbm, 116, rfl⟩
abbrev main_v68 : Ref sig .tc := ⟨.hbm, 117, rfl⟩
abbrev main_cst_26 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_27 : Ref sig .tc := ⟨.hbm, 122, rfl⟩
abbrev main_v72 : Ref sig .tc := ⟨.hbm, 123, rfl⟩
abbrev main_v73 : Ref sig .tc := ⟨.hbm, 124, rfl⟩
abbrev main_c_28 : Ref sig .tc := ⟨.hbm, 125, rfl⟩
abbrev main_v74 : Ref sig .tc := ⟨.hbm, 126, rfl⟩
abbrev main_v75 : Ref sig .tc := ⟨.hbm, 127, rfl⟩
abbrev main_c_29 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_30 : Ref sig .tc := ⟨.hbm, 135, rfl⟩
abbrev main_v82 : Ref sig .tc := ⟨.hbm, 136, rfl⟩
abbrev main_v83 : Ref sig .tc := ⟨.hbm, 137, rfl⟩
abbrev main_c_31 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_32 : Ref sig .tc := ⟨.hbm, 144, rfl⟩
abbrev main_call7_v0 : Ref sig .tc := ⟨.hbm, 145, rfl⟩
abbrev main_v89_1 : Ref sig .tc := ⟨.hbm, 146, rfl⟩
abbrev main_call7_v2 : Ref sig .tc := ⟨.hbm, 147, rfl⟩
abbrev main_v89_0 : Ref sig .tc := ⟨.hbm, 148, rfl⟩
abbrev main_call7_cst : Ref sig .tc := ⟨.hbm, 149, rfl⟩
abbrev main_v89_2 : Ref sig .tc := ⟨.hbm, 150, rfl⟩
abbrev main_c_33 : Ref sig .tc := ⟨.hbm, 151, rfl⟩
abbrev main_c_34 : Ref sig .tc := ⟨.hbm, 152, rfl⟩
abbrev main_call8_v0 : Ref sig .tc := ⟨.hbm, 153, rfl⟩
abbrev main_call8_v1 : Ref sig .tc := ⟨.hbm, 154, rfl⟩
abbrev main_call8_v2 : Ref sig .tc := ⟨.hbm, 155, rfl⟩
abbrev main_call8_v3 : Ref sig .tc := ⟨.hbm, 156, rfl⟩
abbrev main_call8_v4 : Ref sig .tc := ⟨.hbm, 157, rfl⟩
abbrev main_v90 : Ref sig .tc := ⟨.hbm, 158, rfl⟩
abbrev main_c_35 : Ref sig .tc := ⟨.hbm, 159, rfl⟩
abbrev main_v91 : Ref sig .tc := ⟨.hbm, 160, rfl⟩
abbrev main_v92 : Ref sig .tc := ⟨.hbm, 161, rfl⟩
abbrev main_c_36 : Ref sig .tc := ⟨.hbm, 162, rfl⟩
abbrev main_v93 : Ref sig .tc := ⟨.hbm, 163, rfl⟩
abbrev main_v94 : Ref sig .tc := ⟨.hbm, 164, rfl⟩
abbrev main_c_37 : Ref sig .tc := ⟨.hbm, 165, rfl⟩
abbrev main_c_38 : Ref sig .tc := ⟨.hbm, 166, rfl⟩
abbrev main_call9_v0 : Ref sig .tc := ⟨.hbm, 167, rfl⟩
abbrev main_call9_v1 : Ref sig .tc := ⟨.hbm, 168, rfl⟩
abbrev main_v95 : Ref sig .tc := ⟨.hbm, 169, rfl⟩
abbrev main_v96 : Ref sig .tc := ⟨.hbm, 170, rfl⟩
abbrev main_c_39 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_cst_40 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_cst_41 : Ref sig .tc := ⟨.hbm, 179, rfl⟩
abbrev main_v103 : Ref sig .tc := ⟨.hbm, 180, rfl⟩
abbrev main_v104 : Ref sig .tc := ⟨.hbm, 181, rfl⟩
abbrev main_cst_42 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_c_43 : Ref sig .tc := ⟨.hbm, 186, rfl⟩
abbrev main_v108 : Ref sig .tc := ⟨.hbm, 187, rfl⟩
abbrev main_v109 : Ref sig .tc := ⟨.hbm, 188, rfl⟩
abbrev main_c_44 : Ref sig .tc := ⟨.hbm, 189, rfl⟩
abbrev main_v110 : Ref sig .tc := ⟨.hbm, 190, rfl⟩
abbrev main_v111 : Ref sig .tc := ⟨.hbm, 191, rfl⟩
abbrev main_c_45 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_c_46 : Ref sig .tc := ⟨.hbm, 199, rfl⟩
abbrev main_v118 : Ref sig .tc := ⟨.hbm, 200, rfl⟩
abbrev main_v119 : Ref sig .tc := ⟨.hbm, 201, rfl⟩
abbrev main_c_47 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_48 : Ref sig .tc := ⟨.hbm, 208, rfl⟩
abbrev main_call11_v0 : Ref sig .tc := ⟨.hbm, 209, rfl⟩
abbrev main_v125_1 : Ref sig .tc := ⟨.hbm, 210, rfl⟩
abbrev main_call11_v2 : Ref sig .tc := ⟨.hbm, 211, rfl⟩
abbrev main_v125_0 : Ref sig .tc := ⟨.hbm, 212, rfl⟩
abbrev main_call11_cst : Ref sig .tc := ⟨.hbm, 213, rfl⟩
abbrev main_v125_2 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_call12_cst : Ref sig .tc := ⟨.hbm, 230, rfl⟩
abbrev main_call12_v0 : Ref sig .tc := ⟨.hbm, 231, rfl⟩
abbrev main_v141 : Ref sig .tc := ⟨.hbm, 232, rfl⟩
abbrev main_cst_49 : Ref sig .tc := ⟨.hbm, 233, rfl⟩
abbrev main_v142 : Ref sig .tc := ⟨.hbm, 234, rfl⟩
abbrev main_v143 : Ref sig .tc := ⟨.hbm, 235, rfl⟩
abbrev main_call13_cst : Ref sig .tc := ⟨.hbm, 236, rfl⟩
abbrev main_call13_v0 : Ref sig .tc := ⟨.hbm, 237, rfl⟩
abbrev main_v144 : Ref sig .tc := ⟨.hbm, 238, rfl⟩
abbrev main_cst_50 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_call14_cst : Ref sig .tc := ⟨.hbm, 243, rfl⟩
abbrev main_call14_v0 : Ref sig .tc := ⟨.hbm, 244, rfl⟩
abbrev main_v148 : Ref sig .tc := ⟨.hbm, 245, rfl⟩
abbrev main_cst_51 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_c_52 : Ref sig .tc := ⟨.hbm, 251, rfl⟩
abbrev main_call15_v0 : Ref sig .tc := ⟨.hbm, 252, rfl⟩
abbrev main_v153 : Ref sig .tc := ⟨.hbm, 253, rfl⟩

abbrev nD : Nat := 1
abbrev τ : Topo := Topo.v7x

variable {F : FTy → Type} [FloatOps F]
-- ==== Proj.lean ====
abbrev S16384x1024 : Shape := ⟨2, ![16384, 1024]⟩
abbrev S1x1024 : Shape := ⟨2, ![1, 1024]⟩
abbrev S4x1024x1024 : Shape := ⟨3, ![4, 1024, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16384x2048 : Shape := ⟨2, ![16384, 2048]⟩
abbrev S256x1024 : Shape := ⟨2, ![256, 1024]⟩
abbrev S256x2048 : Shape := ⟨2, ![256, 2048]⟩
abbrev S1x1024x1024 : Shape := ⟨3, ![1, 1024, 1024]⟩
abbrev S1024x1024 : Shape := ⟨2, ![1024, 1024]⟩

abbrev nBuf : Space → Nat
  | .hbm => 34
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x1024, .bf16⟩
  | .hbm, ⟨3, _⟩ => ⟨S1x1024, .f32⟩
  | .hbm, ⟨4, _⟩ => ⟨S256, .i32⟩
  | .hbm, ⟨5, _⟩ => ⟨S_, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S1x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x256, .bf16⟩
  | .hbm, ⟨29, _⟩ => ⟨S16384x1024, .bf16⟩
  | .hbm, ⟨30, _⟩ => ⟨S16384x2048, .bf16⟩
  | .hbm, ⟨31, _⟩ => ⟨S16384x1024, .bf16⟩
  | .hbm, ⟨32, _⟩ => ⟨S16384x1024, .bf16⟩
  | .hbm, ⟨33, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S1x1024, .f32⟩
  | .local _ .vmem, ⟨5, _⟩ => ⟨S256x256, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8_0 : Ref sig .tc := ⟨.hbm, 29, rfl⟩
abbrev main_v8_1 : Ref sig .tc := ⟨.hbm, 30, rfl⟩
abbrev main_v8_2 : Ref sig .tc := ⟨.hbm, 31, rfl⟩
abbrev main_v8_3 : Ref sig .tc := ⟨.hbm, 32, rfl⟩
abbrev main_v8_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjReferenceIdeal.lean ====
abbrev S16384x1024 : Shape := ⟨2, ![16384, 1024]⟩
abbrev S1x1024 : Shape := ⟨2, ![1, 1024]⟩
abbrev S4x1024x1024 : Shape := ⟨3, ![4, 1024, 1024]⟩
abbrev S_ : Shape := ⟨0, ![]⟩
abbrev S16384 : Shape := ⟨1, ![16384]⟩
abbrev S16384x1 : Shape := ⟨2, ![16384, 1]⟩
abbrev S1x1024x1024 : Shape := ⟨3, ![1, 1024, 1024]⟩
abbrev S1024x1024 : Shape := ⟨2, ![1024, 1024]⟩
abbrev S1024x4096 : Shape := ⟨2, ![1024, 4096]⟩
abbrev S16384x4096 : Shape := ⟨2, ![16384, 4096]⟩
abbrev S16384x16x64 : Shape := ⟨3, ![16384, 16, 64]⟩
abbrev S16384x16 : Shape := ⟨2, ![16384, 16]⟩
abbrev S16384x16x1 : Shape := ⟨3, ![16384, 16, 1]⟩
abbrev S16x64 : Shape := ⟨2, ![16, 64]⟩
abbrev S1x16x64 : Shape := ⟨3, ![1, 16, 64]⟩
abbrev S16384x2048 : Shape := ⟨2, ![16384, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x1024, .bf16⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S1x1024x1024, .bf16⟩
  | .hbm, ⟨21, _⟩ => ⟨S1024x1024, .bf16⟩
  | .hbm, ⟨22, _⟩ => ⟨S1x1024x1024, .bf16⟩
  | .hbm, ⟨23, _⟩ => ⟨S1024x1024, .bf16⟩
  | .hbm, ⟨24, _⟩ => ⟨S1x1024x1024, .bf16⟩
  | .hbm, ⟨25, _⟩ => ⟨S1024x1024, .bf16⟩
  | .hbm, ⟨26, _⟩ => ⟨S1x1024x1024, .bf16⟩
  | .hbm, ⟨27, _⟩ => ⟨S1024x1024, .bf16⟩
  | .hbm, ⟨28, _⟩ => ⟨S1024x4096, .bf16⟩
  | .hbm, ⟨29, _⟩ => ⟨S16384x4096, .f32⟩
  | .hbm, ⟨30, _⟩ => ⟨S16384x1024, .f32⟩
  | .hbm, ⟨31, _⟩ => ⟨S16384x16x64, .f32⟩
  | .hbm, ⟨32, _⟩ => ⟨S16384x16x64, .f32⟩
  | .hbm, ⟨33, _⟩ => ⟨S_, .f32⟩
  | .hbm, ⟨34, _⟩ => ⟨S16384x16, .f32⟩
  | .hbm, ⟨35, _⟩ => ⟨S16384x16x1, .f32⟩
  | .hbm, ⟨36, _⟩ => ⟨S_, .f32⟩
  | .hbm, ⟨37, _⟩ => ⟨S16384x16x1, .f32⟩
  | .hbm, ⟨38, _⟩ => ⟨S16384x16x1, .f32⟩
  | .hbm, ⟨39, _⟩ => ⟨S_, .f32⟩
  | .hbm, ⟨40, _⟩ => ⟨S16384x16x1, .f32⟩
  | .hbm, ⟨41, _⟩ => ⟨S16384x16x1, .f32⟩
  | .hbm, ⟨42, _⟩ => ⟨S16384x16x1, .f32⟩
  | .hbm, ⟨43, _⟩ => ⟨S16384x16x64, .f32⟩
  | .hbm, ⟨44, _⟩ => ⟨S16384x16x64, .f32⟩
  | .hbm, ⟨45, _⟩ => ⟨S16x64, .f32⟩
  | .hbm, ⟨46, _⟩ => ⟨S1x16x64, .f32⟩
  | .hbm, ⟨47, _⟩ => ⟨S16384x16x64, .f32⟩
  | .hbm, ⟨48, _⟩ => ⟨S16384x16x64, .f32⟩
  | .hbm, ⟨49, _⟩ => ⟨S16384x1024, .f32⟩
  | .hbm, ⟨50, _⟩ => ⟨S16384x2048, .f32⟩
  | .hbm, ⟨51, _⟩ => ⟨S16384x2048, .bf16⟩
  | .hbm, ⟨52, _⟩ => ⟨S16384x1024, .bf16⟩
  | .hbm, ⟨53, _⟩ => ⟨S16384x1024, .bf16⟩
  | .hbm, ⟨54, _⟩ => ⟨S16384x1024, .f32⟩
  | .hbm, ⟨55, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Attn1.lean ====
abbrev S1x16384x1024 : Shape := ⟨3, ![1, 16384, 1024]⟩
abbrev S1x16384x512 : Shape := ⟨3, ![1, 16384, 512]⟩
abbrev S3x4x256x256 : Shape := ⟨4, ![3, 4, 256, 256]⟩
abbrev S32x8 : Shape := ⟨2, ![32, 8]⟩
abbrev S1x1024x128 : Shape := ⟨3, ![1, 1024, 128]⟩
abbrev S1x16384x128 : Shape := ⟨3, ![1, 16384, 128]⟩
abbrev S3x1x256x256 : Shape := ⟨4, ![3, 1, 256, 256]⟩
abbrev S128x128 : Shape := ⟨2, ![128, 128]⟩
abbrev S1x128x128 : Shape := ⟨3, ![1, 128, 128]⟩
abbrev S256x128 : Shape := ⟨2, ![256, 128]⟩
abbrev S1x256x128 : Shape := ⟨3, ![1, 256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S1x16384x1024, .bf16⟩
  | .hbm, ⟨1, _⟩ => ⟨S1x16384x512, .bf16⟩
  | .hbm, ⟨2, _⟩ => ⟨S3x4x256x256, .f32⟩
  | .hbm, ⟨3, _⟩ => ⟨S32x8, .f32⟩
  | .hbm, ⟨4, _⟩ => ⟨S1x16384x512, .bf16⟩
  | .hbm, ⟨5, _⟩ => ⟨S1x16384x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S3x1x256x256, .f32⟩
  | .local _ .vmem, ⟨7, _⟩ => ⟨S3x1x256x256, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .f32⟩
  | .local _ .vmem, ⟨11, _⟩ => ⟨S1x1024x128, .f32⟩
  | _, _ => ⟨S1x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 4, 16], ![false, false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  v6
def k0_mult2 (i : grid0.Coords) (k0_t1 : Fin k0_t1_loop.trips) : BitVec 32 :=
  let c16128_i32 : BitVec 32 := 16128#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c16128_i32 v10
  v11
def k0_off1 (k0_t1 : Fin k0_t1_loop.trips) : Fin 3 → Nat :=
  let c0 : Index := 0#32
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  let v7 : BitVec 32 := v6
  let v17 : Index := Scalar.indexCast v7
  let c0_8 : Index := 0#32
  ![0, v17.toNat, 0]
def k0_off2 (i : grid0.Coords) (k0_t1 : Fin k0_t1_loop.trips) : Fin 3 → Nat :=
  let c0_9 : Index := 0#32
  let c16128_i32 : BitVec 32 := 16128#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c16128_i32 v10
  let v12 : BitVec 32 := v11
  let v24 : Index := Scalar.indexCast v12
  let c0_10 : Index := 0#32
  ![0, v24.toNat, 0]
def k0_off3 (i : grid0.Coords) (k0_t1 : Fin k0_t1_loop.trips) : Fin 4 → Nat :=
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c0_i32_5 : BitVec 32 := 0#32
  let v13 : BitVec 1 := Scalar.cmpi .eq v5 c0_i32_5
  let c0_i32_7 : BitVec 32 := 0#32
  let c127_i32 : BitVec 32 := 127#32
  let v14 : BitVec 1 := Scalar.cmpi .eq v5 c127_i32
  let c2_i32 : BitVec 32 := 2#32
  let c1_i32_6 : BitVec 32 := 1#32
  let v15 : BitVec 32 := Scalar.select v14 c2_i32 c1_i32_6
  let v16 : BitVec 32 := Scalar.select v13 c0_i32_7 v15
  let v31 : Index := Scalar.indexCast v16
  let c0_14 : Index := 0#32
  let c0_15 : Index := 0#32
  let c0_16 : Index := 0#32
  ![v31.toNat, 0, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Attn1Ideal.lean ====
abbrev S1x16384x1024 : Shape := ⟨3, ![1, 16384, 1024]⟩
abbrev S1x16384x512 : Shape := ⟨3, ![1, 16384, 512]⟩
abbrev S3x4x256x256 : Shape := ⟨4, ![3, 4, 256, 256]⟩
abbrev S32x8 : Shape := ⟨2, ![32, 8]⟩
abbrev S1x1024x128 : Shape := ⟨3, ![1, 1024, 128]⟩
abbrev S1x16384x128 : Shape := ⟨3, ![1, 16384, 128]⟩
abbrev S3x1x256x256 : Shape := ⟨4, ![3, 1, 256, 256]⟩
abbrev S128x128 : Shape := ⟨2, ![128, 128]⟩
abbrev S1x128x128 : Shape := ⟨3, ![1, 128, 128]⟩
abbrev S256x128 : Shape := ⟨2, ![256, 128]⟩
abbrev S1x256x128 : Shape := ⟨3, ![1, 256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S1x16384x1024, .bf16⟩
  | .hbm, ⟨1, _⟩ => ⟨S1x16384x512, .bf16⟩
  | .hbm, ⟨2, _⟩ => ⟨S3x4x256x256, .f32⟩
  | .hbm, ⟨3, _⟩ => ⟨S32x8, .f32⟩
  | .hbm, ⟨4, _⟩ => ⟨S1x16384x512, .bf16⟩
  | .hbm, ⟨5, _⟩ => ⟨S1x16384x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S3x1x256x256, .f32⟩
  | .local _ .vmem, ⟨7, _⟩ => ⟨S3x1x256x256, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .f32⟩
  | .local _ .vmem, ⟨11, _⟩ => ⟨S1x1024x128, .f32⟩
  | _, _ => ⟨S1x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 4, 16], ![false, false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  v6
def k0_mult2 (i : grid0.Coords) (k0_t1 : Fin k0_t1_loop.trips) : BitVec 32 :=
  let c16128_i32 : BitVec 32 := 16128#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c16128_i32 v10
  v11
def k0_off1 (k0_t1 : Fin k0_t1_loop.trips) : Fin 3 → Nat :=
  let c0 : Index := 0#32
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  let v7 : BitVec 32 := v6
  let v17 : Index := Scalar.indexCast v7
  let c0_8 : Index := 0#32
  ![0, v17.toNat, 0]
def k0_off2 (i : grid0.Coords) (k0_t1 : Fin k0_t1_loop.trips) : Fin 3 → Nat :=
  let c0_9 : Index := 0#32
  let c16128_i32 : BitVec 32 := 16128#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c16128_i32 v10
  let v12 : BitVec 32 := v11
  let v24 : Index := Scalar.indexCast v12
  let c0_10 : Index := 0#32
  ![0, v24.toNat, 0]
def k0_off3 (i : grid0.Coords) (k0_t1 : Fin k0_t1_loop.trips) : Fin 4 → Nat :=
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c0_i32_5 : BitVec 32 := 0#32
  let v13 : BitVec 1 := Scalar.cmpi .eq v5 c0_i32_5
  let c0_i32_7 : BitVec 32 := 0#32
  let c127_i32 : BitVec 32 := 127#32
  let v14 : BitVec 1 := Scalar.cmpi .eq v5 c127_i32
  let c2_i32 : BitVec 32 := 2#32
  let c1_i32_6 : BitVec 32 := 1#32
  let v15 : BitVec 32 := Scalar.select v14 c2_i32 c1_i32_6
  let v16 : BitVec 32 := Scalar.select v13 c0_i32_7 v15
  let v31 : Index := Scalar.indexCast v16
  let c0_14 : Index := 0#32
  let c0_15 : Index := 0#32
  let c0_16 : Index := 0#32
  ![v31.toNat, 0, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Attn1ReferenceIdeal.lean ====
abbrev S1x16384x1024 : Shape := ⟨3, ![1, 16384, 1024]⟩
abbrev S1x16384x512 : Shape := ⟨3, ![1, 16384, 512]⟩
abbrev S3x4x256x256 : Shape := ⟨4, ![3, 4, 256, 256]⟩
abbrev S32x8 : Shape := ⟨2, ![32, 8]⟩
abbrev S1x16384x8x64 : Shape := ⟨4, ![1, 16384, 8, 64]⟩
abbrev S1x8x16384x64 : Shape := ⟨4, ![1, 8, 16384, 64]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S16384x16384x1 : Shape := ⟨3, ![16384, 16384, 1]⟩
abbrev S16384x16384x8 : Shape := ⟨3, ![16384, 16384, 8]⟩
abbrev S8x16384x16384 : Shape := ⟨3, ![8, 16384, 16384]⟩
abbrev S1x8x16384x16384 : Shape := ⟨4, ![1, 8, 16384, 16384]⟩
abbrev S1x1x16384x16384 : Shape := ⟨4, ![1, 1, 16384, 16384]⟩
abbrev S1x8x16384 : Shape := ⟨3, ![1, 8, 16384]⟩
abbrev S1x8x16384x1 : Shape := ⟨4, ![1, 8, 16384, 1]⟩

abbrev nBuf : Space → Nat
  | .hbm => 110
  | .vmem => 0
  | .smem => 0
  | _ => 0

abbrev bufTy : (tb : Table) → Fin (tcTables nBuf tb) → BufTy
  | .hbm, ⟨0, _⟩ => ⟨S1x16384x1024, .bf16⟩
  | .hbm, ⟨1, _⟩ => ⟨S1x16384x512, .bf16⟩
  | .hbm, ⟨2, _⟩ => ⟨S3x4x256x256, .f32⟩
  | .hbm, ⟨3, _⟩ => ⟨S32x8, .f32⟩
  | .hbm, ⟨4, _⟩ => ⟨S1x16384x512, .bf16⟩
  | .hbm, ⟨5, _⟩ => ⟨S1x16384x8x64, .bf16⟩
  | .hbm, ⟨6, _⟩ => ⟨S1x8x16384x64, .bf16⟩
  | .hbm, ⟨7, _⟩ => ⟨S1x16384x512, .bf16⟩
  | .hbm, ⟨8, _⟩ => ⟨S1x16384x8x64, .bf16⟩
  | .hbm, ⟨9, _⟩ => ⟨S1x8x16384x64, .bf16⟩
  | .hbm, ⟨10, _⟩ => ⟨S1x16384x8x64, .bf16⟩
  | .hbm, ⟨11, _⟩ => ⟨S1x8x16384x64, .bf16⟩
  | .hbm, ⟨12, _⟩ => ⟨S16384, .i32⟩
  | .hbm, ⟨13, _⟩ => ⟨S1x16384, .i32⟩
  | .hbm, ⟨14, _⟩ => ⟨S16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S16384x16384, .i32⟩
  | .hbm, ⟨23, _⟩ => ⟨S16384x16384, .i32⟩
  | .hbm, ⟨24, _⟩ => ⟨S_, .i32⟩
  | .hbm, ⟨25, _⟩ => ⟨S16384x16384, .i32⟩
  | .hbm, ⟨26, _⟩ => ⟨S16384x16384, .i32⟩
  | .hbm, ⟨27, _⟩ => ⟨S_, .i32⟩
  | .hbm, ⟨28, _⟩ => ⟨S16384x16384, .i32⟩
  | .hbm, ⟨29, _⟩ => ⟨S16384x16384, .i32⟩
  | .hbm, ⟨30, _⟩ => ⟨S_, .i32⟩
  | .hbm, ⟨31, _⟩ => ⟨S16384x16384, .i32⟩
  | .hbm, ⟨32, _⟩ => ⟨S16384x16384, .i1⟩
  | .hbm, ⟨33, _⟩ => ⟨S_, .i32⟩
  | .hbm, ⟨34, _⟩ => ⟨S_, .i32⟩
  | .hbm, ⟨35, _⟩ => ⟨S16384x16384, .i32⟩
  | .hbm, ⟨36, _⟩ => ⟨S16384x16384, .i32⟩
  | .hbm, ⟨37, _⟩ => ⟨S16384x16384, .i32⟩
  | .hbm, ⟨38, _⟩ => ⟨S16384x16384, .i32⟩
  | .hbm, ⟨39, _⟩ => ⟨S_, .i32⟩
  | .hbm, ⟨40, _⟩ => ⟨S16384x16384, .i32⟩
  | .hbm, ⟨41, _⟩ => ⟨S16384x16384, .i32⟩
  | .hbm, ⟨42, _⟩ => ⟨S16384x16384, .f32⟩
  | .hbm, ⟨43, _⟩ => ⟨S_, .f32⟩
  | .hbm, ⟨44, _⟩ => ⟨S16384x16384, .f32⟩
  | .hbm, ⟨45, _⟩ => ⟨S16384x16384, .f32⟩
  | .hbm, ⟨46, _⟩ => ⟨S16384x16384, .f32⟩
  | .hbm, ⟨47, _⟩ => ⟨S_, .f32⟩
  | .hbm, ⟨48, _⟩ => ⟨S16384x16384, .f32⟩
  | .hbm, ⟨49, _⟩ => ⟨S16384x16384, .f32⟩
  | .hbm, ⟨50, _⟩ => ⟨S_, .f32⟩
  | .hbm, ⟨51, _⟩ => ⟨S16384x16384, .f32⟩
  | .hbm, ⟨52, _⟩ => ⟨S16384x16384, .f32⟩
  | .hbm, ⟨53, _⟩ => ⟨S16384x16384, .i32⟩
  | .hbm, ⟨54, _⟩ => ⟨S_, .i32⟩
  | .hbm, ⟨55, _⟩ => ⟨S16384x16384, .i32⟩
  | .hbm, ⟨56, _⟩ => ⟨S16384x16384, .i32⟩
  | .hbm, ⟨57, _⟩ => ⟨S_, .i32⟩
  | .hbm, ⟨58, _⟩ => ⟨S16384x16384, .i32⟩
  | .hbm, ⟨59, _⟩ => ⟨S16384x16384, .i32⟩
  | .hbm, ⟨60, _⟩ => ⟨S_, .i32⟩
  | .hbm, ⟨61, _⟩ => ⟨S16384x16384, .i32⟩
  | .hbm, ⟨62, _⟩ => ⟨S16384x16384, .i1⟩
  | .hbm, ⟨63, _⟩ => ⟨S16384x16384, .i32⟩
  | .hbm, ⟨64, _⟩ => ⟨S16384x16384, .i32⟩
  | .hbm, ⟨65, _⟩ => ⟨S16384x16384, .i32⟩
  | .hbm, ⟨66, _⟩ => ⟨S_, .i32⟩
  | .hbm, ⟨67, _⟩ => ⟨S16384x16384, .i32⟩
  | .hbm, ⟨68, _⟩ => ⟨S16384x16384, .i1⟩
  | .hbm, ⟨69, _⟩ => ⟨S_, .i32⟩
  | .hbm, ⟨70, _⟩ => ⟨S16384x16384, .i32⟩
  | .hbm, ⟨71, _⟩ => ⟨S16384x16384, .i32⟩
  | .hbm, ⟨72, _⟩ => ⟨S16384x16384, .i32⟩
  | .hbm, ⟨73, _⟩ => ⟨S16384x16384x1, .i32⟩
  | .hbm, ⟨74, _⟩ => ⟨S16384x16384x8, .f32⟩
  | .hbm, ⟨75, _⟩ => ⟨S8x16384x16384, .f32⟩
  | .hbm, ⟨76, _⟩ => ⟨S1x8x16384x16384, .f32⟩
  | .hbm, ⟨77, _⟩ => ⟨S16384x16384, .i32⟩
  | .hbm, ⟨78, _⟩ => ⟨S_, .i32⟩
  | .hbm, ⟨79, _⟩ => ⟨S16384x16384, .i32⟩
  | .hbm, ⟨80, _⟩ => ⟨S16384x16384, .i1⟩
  | .hbm, ⟨81, _⟩ => ⟨S1x1x16384x16384, .i1⟩
  | .hbm, ⟨82, _⟩ => ⟨S1x8x16384x16384, .f32⟩
  | .hbm, ⟨83, _⟩ => ⟨S1x8x16384x16384, .f32⟩
  | .hbm, ⟨84, _⟩ => ⟨S_, .f32⟩
  | .hbm, ⟨85, _⟩ => ⟨S_, .f32⟩
  | .hbm, ⟨86, _⟩ => ⟨S1x8x16384x16384, .i1⟩
  | .hbm, ⟨87, _⟩ => ⟨S1x8x16384x16384, .f32⟩
  | .hbm, ⟨88, _⟩ => ⟨S1x8x16384x16384, .f32⟩
  | .hbm, ⟨89, _⟩ => ⟨S_, .f32⟩
  | .hbm, ⟨90, _⟩ => ⟨S1x8x16384, .f32⟩
  | .hbm, ⟨91, _⟩ => ⟨S1x8x16384x1, .f32⟩
  | .hbm, ⟨92, _⟩ => ⟨S1x8x16384x16384, .f32⟩
  | .hbm, ⟨93, _⟩ => ⟨S1x8x16384x16384, .f32⟩
  | .hbm, ⟨94, _⟩ => ⟨S1x8x16384x16384, .f32⟩
  | .hbm, ⟨95, _⟩ => ⟨S_, .f32⟩
  | .hbm, ⟨96, _⟩ => ⟨S1x8x16384, .f32⟩
  | .hbm, ⟨97, _⟩ => ⟨S1x8x16384x1, .f32⟩
  | .hbm, ⟨98, _⟩ => ⟨S1x8x16384x64, .f32⟩
  | .hbm, ⟨99, _⟩ => ⟨S1x8x16384x64, .f32⟩
  | .hbm, ⟨100, _⟩ => ⟨S1x8x16384x64, .f32⟩
  | .hbm, ⟨101, _⟩ => ⟨S1x8x16384x64, .f32⟩
  | .hbm, ⟨102, _⟩ => ⟨S1x8x16384x1, .f32⟩
  | .hbm, ⟨103, _⟩ => ⟨S1x8x16384x1, .f32⟩
  | .hbm, ⟨104, _⟩ => ⟨S1x8x16384x64, .f32⟩
  | .hbm, ⟨105, _⟩ => ⟨S1x16384x8x64, .f32⟩
  | .hbm, ⟨106, _⟩ => ⟨S1x16384x512, .f32⟩
  | .hbm, ⟨107, _⟩ => ⟨S1x16384x512, .bf16⟩
  | .hbm, ⟨108, _⟩ => ⟨S1x16384x8x64, .f32⟩
  | .hbm, ⟨109, _⟩ => ⟨S1x16384x512, .f32⟩
  | _, _ => ⟨S1x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== Attn4.lean ====
abbrev S4x4096x1024 : Shape := ⟨3, ![4, 4096, 1024]⟩
abbrev S4x4096x512 : Shape := ⟨3, ![4, 4096, 512]⟩
abbrev S3x4x256x256 : Shape := ⟨4, ![3, 4, 256, 256]⟩
abbrev S32x8 : Shape := ⟨2, ![32, 8]⟩
abbrev S1x1024x128 : Shape := ⟨3, ![1, 1024, 128]⟩
abbrev S1x4096x128 : Shape := ⟨3, ![1, 4096, 128]⟩
abbrev S3x1x256x256 : Shape := ⟨4, ![3, 1, 256, 256]⟩
abbrev S128x128 : Shape := ⟨2, ![128, 128]⟩
abbrev S1x128x128 : Shape := ⟨3, ![1, 128, 128]⟩
abbrev S256x128 : Shape := ⟨2, ![256, 128]⟩
abbrev S1x256x128 : Shape := ⟨3, ![1, 256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S3x4x256x256, .f32⟩
  | .hbm, ⟨3, _⟩ => ⟨S32x8, .f32⟩
  | .hbm, ⟨4, _⟩ => ⟨S4x4096x512, .bf16⟩
  | .hbm, ⟨5, _⟩ => ⟨S4x4096x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S3x1x256x256, .f32⟩
  | .local _ .vmem, ⟨7, _⟩ => ⟨S3x1x256x256, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .f32⟩
  | .local _ .vmem, ⟨11, _⟩ => ⟨S1x1024x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  v6
def k0_mult2 (i : grid0.Coords) (k0_t1 : Fin k0_t1_loop.trips) : BitVec 32 :=
  let c3840_i32 : BitVec 32 := 3840#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c3840_i32 v10
  v11
def k0_off1 (k0_t1 : Fin k0_t1_loop.trips) : Fin 3 → Nat :=
  let c0 : Index := 0#32
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  let v7 : BitVec 32 := v6
  let v17 : Index := Scalar.indexCast v7
  let c0_8 : Index := 0#32
  ![0, v17.toNat, 0]
def k0_off2 (i : grid0.Coords) (k0_t1 : Fin k0_t1_loop.trips) : Fin 3 → Nat :=
  let c0_9 : Index := 0#32
  let c3840_i32 : BitVec 32 := 3840#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c3840_i32 v10
  let v12 : BitVec 32 := v11
  let v24 : Index := Scalar.indexCast v12
  let c0_10 : Index := 0#32
  ![0, v24.toNat, 0]
def k0_off3 (i : grid0.Coords) (k0_t1 : Fin k0_t1_loop.trips) : Fin 4 → Nat :=
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c0_i32_5 : BitVec 32 := 0#32
  let v13 : BitVec 1 := Scalar.cmpi .eq v5 c0_i32_5
  let c0_i32_7 : BitVec 32 := 0#32
  let c31_i32 : BitVec 32 := 31#32
  let v14 : BitVec 1 := Scalar.cmpi .eq v5 c31_i32
  let c2_i32 : BitVec 32 := 2#32
  let c1_i32_6 : BitVec 32 := 1#32
  let v15 : BitVec 32 := Scalar.select v14 c2_i32 c1_i32_6
  let v16 : BitVec 32 := Scalar.select v13 c0_i32_7 v15
  let v31 : Index := Scalar.indexCast v16
  let c0_14 : Index := 0#32
  let c0_15 : Index := 0#32
  let c0_16 : Index := 0#32
  ![v31.toNat, 0, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Attn4Ideal.lean ====
abbrev S4x4096x1024 : Shape := ⟨3, ![4, 4096, 1024]⟩
abbrev S4x4096x512 : Shape := ⟨3, ![4, 4096, 512]⟩
abbrev S3x4x256x256 : Shape := ⟨4, ![3, 4, 256, 256]⟩
abbrev S32x8 : Shape := ⟨2, ![32, 8]⟩
abbrev S1x1024x128 : Shape := ⟨3, ![1, 1024, 128]⟩
abbrev S1x4096x128 : Shape := ⟨3, ![1, 4096, 128]⟩
abbrev S3x1x256x256 : Shape := ⟨4, ![3, 1, 256, 256]⟩
abbrev S128x128 : Shape := ⟨2, ![128, 128]⟩
abbrev S1x128x128 : Shape := ⟨3, ![1, 128, 128]⟩
abbrev S256x128 : Shape := ⟨2, ![256, 128]⟩
abbrev S1x256x128 : Shape := ⟨3, ![1, 256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S3x4x256x256, .f32⟩
  | .hbm, ⟨3, _⟩ => ⟨S32x8, .f32⟩
  | .hbm, ⟨4, _⟩ => ⟨S4x4096x512, .bf16⟩
  | .hbm, ⟨5, _⟩ => ⟨S4x4096x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S3x1x256x256, .f32⟩
  | .local _ .vmem, ⟨7, _⟩ => ⟨S3x1x256x256, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .f32⟩
  | .local _ .vmem, ⟨11, _⟩ => ⟨S1x1024x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  v6
def k0_mult2 (i : grid0.Coords) (k0_t1 : Fin k0_t1_loop.trips) : BitVec 32 :=
  let c3840_i32 : BitVec 32 := 3840#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c3840_i32 v10
  v11
def k0_off1 (k0_t1 : Fin k0_t1_loop.trips) : Fin 3 → Nat :=
  let c0 : Index := 0#32
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  let v7 : BitVec 32 := v6
  let v17 : Index := Scalar.indexCast v7
  let c0_8 : Index := 0#32
  ![0, v17.toNat, 0]
def k0_off2 (i : grid0.Coords) (k0_t1 : Fin k0_t1_loop.trips) : Fin 3 → Nat :=
  let c0_9 : Index := 0#32
  let c3840_i32 : BitVec 32 := 3840#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c3840_i32 v10
  let v12 : BitVec 32 := v11
  let v24 : Index := Scalar.indexCast v12
  let c0_10 : Index := 0#32
  ![0, v24.toNat, 0]
def k0_off3 (i : grid0.Coords) (k0_t1 : Fin k0_t1_loop.trips) : Fin 4 → Nat :=
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c0_i32_5 : BitVec 32 := 0#32
  let v13 : BitVec 1 := Scalar.cmpi .eq v5 c0_i32_5
  let c0_i32_7 : BitVec 32 := 0#32
  let c31_i32 : BitVec 32 := 31#32
  let v14 : BitVec 1 := Scalar.cmpi .eq v5 c31_i32
  let c2_i32 : BitVec 32 := 2#32
  let c1_i32_6 : BitVec 32 := 1#32
  let v15 : BitVec 32 := Scalar.select v14 c2_i32 c1_i32_6
  let v16 : BitVec 32 := Scalar.select v13 c0_i32_7 v15
  let v31 : Index := Scalar.indexCast v16
  let c0_14 : Index := 0#32
  let c0_15 : Index := 0#32
  let c0_16 : Index := 0#32
  ![v31.toNat, 0, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Attn4ReferenceIdeal.lean ====
abbrev S4x4096x1024 : Shape := ⟨3, ![4, 4096, 1024]⟩
abbrev S4x4096x512 : Shape := ⟨3, ![4, 4096, 512]⟩
abbrev S3x4x256x256 : Shape := ⟨4, ![3, 4, 256, 256]⟩
abbrev S32x8 : Shape := ⟨2, ![32, 8]⟩
abbrev S4x4096x8x64 : Shape := ⟨4, ![4, 4096, 8, 64]⟩
abbrev S4x8x4096x64 : Shape := ⟨4, ![4, 8, 4096, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S4x8x4096x4096 : Shape := ⟨4, ![4, 8, 4096, 4096]⟩
abbrev S1x1x4096x4096 : Shape := ⟨4, ![1, 1, 4096, 4096]⟩
abbrev S1x8x4096x4096 : Shape := ⟨4, ![1, 8, 4096, 4096]⟩
abbrev S4x8x4096 : Shape := ⟨3, ![4, 8, 4096]⟩
abbrev S4x8x4096x1 : Shape := ⟨4, ![4, 8, 4096, 1]⟩

abbrev nBuf : Space → Nat
  | .hbm => 111
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S3x4x256x256, .f32⟩
  | .hbm, ⟨3, _⟩ => ⟨S32x8, .f32⟩
  | .hbm, ⟨4, _⟩ => ⟨S4x4096x512, .bf16⟩
  | .hbm, ⟨5, _⟩ => ⟨S4x4096x8x64, .bf16⟩
  | .hbm, ⟨6, _⟩ => ⟨S4x8x4096x64, .bf16⟩
  | .hbm, ⟨7, _⟩ => ⟨S4x4096x512, .bf16⟩
  | .hbm, ⟨8, _⟩ => ⟨S4x4096x8x64, .bf16⟩
  | .hbm, ⟨9, _⟩ => ⟨S4x8x4096x64, .bf16⟩
  | .hbm, ⟨10, _⟩ => ⟨S4x4096x8x64, .bf16⟩
  | .hbm, ⟨11, _⟩ => ⟨S4x8x4096x64, .bf16⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i1⟩
  | .hbm, ⟨33, _⟩ => ⟨S_, .i32⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .i32⟩
  | .hbm, ⟨54, _⟩ => ⟨S_, .i32⟩
  | .hbm, ⟨55, _⟩ => ⟨S4096x4096, .i32⟩
  | .hbm, ⟨56, _⟩ => ⟨S4096x4096, .i32⟩
  | .hbm, ⟨57, _⟩ => ⟨S_, .i32⟩
  | .hbm, ⟨58, _⟩ => ⟨S4096x4096, .i32⟩
  | .hbm, ⟨59, _⟩ => ⟨S4096x4096, .i32⟩
  | .hbm, ⟨60, _⟩ => ⟨S_, .i32⟩
  | .hbm, ⟨61, _⟩ => ⟨S4096x4096, .i32⟩
  | .hbm, ⟨62, _⟩ => ⟨S4096x4096, .i1⟩
  | .hbm, ⟨63, _⟩ => ⟨S4096x4096, .i32⟩
  | .hbm, ⟨64, _⟩ => ⟨S4096x4096, .i32⟩
  | .hbm, ⟨65, _⟩ => ⟨S4096x4096, .i32⟩
  | .hbm, ⟨66, _⟩ => ⟨S_, .i32⟩
  | .hbm, ⟨67, _⟩ => ⟨S4096x4096, .i32⟩
  | .hbm, ⟨68, _⟩ => ⟨S4096x4096, .i1⟩
  | .hbm, ⟨69, _⟩ => ⟨S_, .i32⟩
  | .hbm, ⟨70, _⟩ => ⟨S4096x4096, .i32⟩
  | .hbm, ⟨71, _⟩ => ⟨S4096x4096, .i32⟩
  | .hbm, ⟨72, _⟩ => ⟨S4096x4096, .i32⟩
  | .hbm, ⟨73, _⟩ => ⟨S4096x4096x1, .i32⟩
  | .hbm, ⟨74, _⟩ => ⟨S4096x4096x8, .f32⟩
  | .hbm, ⟨75, _⟩ => ⟨S8x4096x4096, .f32⟩
  | .hbm, ⟨76, _⟩ => ⟨S4x8x4096x4096, .f32⟩
  | .hbm, ⟨77, _⟩ => ⟨S4096x4096, .i32⟩
  | .hbm, ⟨78, _⟩ => ⟨S_, .i32⟩
  | .hbm, ⟨79, _⟩ => ⟨S4096x4096, .i32⟩
  | .hbm, ⟨80, _⟩ => ⟨S4096x4096, .i1⟩
  | .hbm, ⟨81, _⟩ => ⟨S1x1x4096x4096, .i1⟩
  | .hbm, ⟨82, _⟩ => ⟨S1x8x4096x4096, .f32⟩
  | .hbm, ⟨83, _⟩ => ⟨S4x8x4096x4096, .f32⟩
  | .hbm, ⟨84, _⟩ => ⟨S4x8x4096x4096, .f32⟩
  | .hbm, ⟨85, _⟩ => ⟨S_, .f32⟩
  | .hbm, ⟨86, _⟩ => ⟨S_, .f32⟩
  | .hbm, ⟨87, _⟩ => ⟨S4x8x4096x4096, .i1⟩
  | .hbm, ⟨88, _⟩ => ⟨S4x8x4096x4096, .f32⟩
  | .hbm, ⟨89, _⟩ => ⟨S4x8x4096x4096, .f32⟩
  | .hbm, ⟨90, _⟩ => ⟨S_, .f32⟩
  | .hbm, ⟨91, _⟩ => ⟨S4x8x4096, .f32⟩
  | .hbm, ⟨92, _⟩ => ⟨S4x8x4096x1, .f32⟩
  | .hbm, ⟨93, _⟩ => ⟨S4x8x4096x4096, .f32⟩
  | .hbm, ⟨94, _⟩ => ⟨S4x8x4096x4096, .f32⟩
  | .hbm, ⟨95, _⟩ => ⟨S4x8x4096x4096, .f32⟩
  | .hbm, ⟨96, _⟩ => ⟨S_, .f32⟩
  | .hbm, ⟨97, _⟩ => ⟨S4x8x4096, .f32⟩
  | .hbm, ⟨98, _⟩ => ⟨S4x8x4096x1, .f32⟩
  | .hbm, ⟨99, _⟩ => ⟨S4x8x4096x64, .f32⟩
  | .hbm, ⟨100, _⟩ => ⟨S4x8x4096x64, .f32⟩
  | .hbm, ⟨101, _⟩ => ⟨S4x8x4096x64, .f32⟩
  | .hbm, ⟨102, _⟩ => ⟨S4x8x4096x64, .f32⟩
  | .hbm, ⟨103, _⟩ => ⟨S4x8x4096x1, .f32⟩
  | .hbm, ⟨104, _⟩ => ⟨S4x8x4096x1, .f32⟩
  | .hbm, ⟨105, _⟩ => ⟨S4x8x4096x64, .f32⟩
  | .hbm, ⟨106, _⟩ => ⟨S4x4096x8x64, .f32⟩
  | .hbm, ⟨107, _⟩ => ⟨S4x4096x512, .f32⟩
  | .hbm, ⟨108, _⟩ => ⟨S4x4096x512, .bf16⟩
  | .hbm, ⟨109, _⟩ => ⟨S4x4096x8x64, .f32⟩
  | .hbm, ⟨110, _⟩ => ⟨S4x4096x512, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== Attn16.lean ====
abbrev S16x1024x1024 : Shape := ⟨3, ![16, 1024, 1024]⟩
abbrev S16x1024x512 : Shape := ⟨3, ![16, 1024, 512]⟩
abbrev S3x4x256x256 : Shape := ⟨4, ![3, 4, 256, 256]⟩
abbrev S32x8 : Shape := ⟨2, ![32, 8]⟩
abbrev S1x1024x128 : Shape := ⟨3, ![1, 1024, 128]⟩
abbrev S3x1x256x256 : Shape := ⟨4, ![3, 1, 256, 256]⟩
abbrev S128x128 : Shape := ⟨2, ![128, 128]⟩
abbrev S1x128x128 : Shape := ⟨3, ![1, 128, 128]⟩
abbrev S256x128 : Shape := ⟨2, ![256, 128]⟩
abbrev S1x256x128 : Shape := ⟨3, ![1, 256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x512, .bf16⟩
  | .hbm, ⟨2, _⟩ => ⟨S3x4x256x256, .f32⟩
  | .hbm, ⟨3, _⟩ => ⟨S32x8, .f32⟩
  | .hbm, ⟨4, _⟩ => ⟨S16x1024x512, .bf16⟩
  | .hbm, ⟨5, _⟩ => ⟨S16x1024x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S3x1x256x256, .f32⟩
  | .local _ .vmem, ⟨7, _⟩ => ⟨S3x1x256x256, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .f32⟩
  | .local _ .vmem, ⟨11, _⟩ => ⟨S1x1024x128, .f32⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 1], ![false, false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  v6
def k0_mult2 (i : grid0.Coords) (k0_t1 : Fin k0_t1_loop.trips) : BitVec 32 :=
  let c768_i32 : BitVec 32 := 768#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c768_i32 v10
  v11
def k0_off1 (k0_t1 : Fin k0_t1_loop.trips) : Fin 3 → Nat :=
  let c0 : Index := 0#32
  let c0_i32 : BitVec 32 := 0#32
  let c1_i32 : BitVec 32 := 1#32
  let arg9 : BitVec 32 := Scf.iv c0_i32 c1_i32 k0_t1
  let c128_i32 : BitVec 32 := 128#32
  let v6 : BitVec 32 := Scalar.muli arg9 c128_i32
  let v7 : BitVec 32 := v6
  let v17 : Index := Scalar.indexCast v7
  let c0_8 : Index := 0#32
  ![0, v17.toNat, 0]
def k0_off2 (i : grid0.Coords) (k0_t1 : Fin k0_t1_loop.trips) : Fin 3 → Nat :=
  let c0_9 : Index := 0#32
  let c768_i32 : BitVec 32 := 768#32
  let c0_i32_4 : BitVec 32 := 0#32
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c128_i32_2 : BitVec 32 := 128#32
  let v8 : BitVec 32 := Scalar.muli v5 c128_i32_2
  let c64_i32_3 : BitVec 32 := 64#32
  let v9 : BitVec 32 := Scalar.subi v8 c64_i32_3
  let v10 : BitVec 32 := Scalar.maxsi c0_i32_4 v9
  let v11 : BitVec 32 := Scalar.minsi c768_i32 v10
  let v12 : BitVec 32 := v11
  let v24 : Index := Scalar.indexCast v12
  let c0_10 : Index := 0#32
  ![0, v24.toNat, 0]
def k0_off3 (i : grid0.Coords) (k0_t1 : Fin k0_t1_loop.trips) : Fin 4 → Nat :=
  let arg2 : BitVec 32 := BitVec.ofNat 32 (i 2).val
  let c8_i32_1 : BitVec 32 := 8#32
  let v4 : BitVec 32 := Scalar.muli arg2 c8_i32_1
  let c0_i32 : BitVec 32 := 0#32
  let c1_i32 : BitVec 32 := 1#32
  let arg9 : BitVec 32 := Scf.iv c0_i32 c1_i32 k0_t1
  let v5 : BitVec 32 := Scalar.addi v4 arg9
  let c0_i32_5 : BitVec 32 := 0#32
  let v13 : BitVec 1 := Scalar.cmpi .eq v5 c0_i32_5
  let c0_i32_7 : BitVec 32 := 0#32
  let c7_i32 : BitVec 32 := 7#32
  let v14 : BitVec 1 := Scalar.cmpi .eq v5 c7_i32
  let c2_i32 : BitVec 32 := 2#32
  let c1_i32_6 : BitVec 32 := 1#32
  let v15 : BitVec 32 := Scalar.select v14 c2_i32 c1_i32_6
  let v16 : BitVec 32 := Scalar.select v13 c0_i32_7 v15
  let v31 : Index := Scalar.indexCast v16
  let c0_14 : Index := 0#32
  let c0_15 : Index := 0#32
  let c0_16 : Index := 0#32
  ![v31.toNat, 0, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Attn16ReferenceIdeal.lean ====
abbrev S16x1024x1024 : Shape := ⟨3, ![16, 1024, 1024]⟩
abbrev S16x1024x512 : Shape := ⟨3, ![16, 1024, 512]⟩
abbrev S3x4x256x256 : Shape := ⟨4, ![3, 4, 256, 256]⟩
abbrev S32x8 : Shape := ⟨2, ![32, 8]⟩
abbrev S16x1024x8x64 : Shape := ⟨4, ![16, 1024, 8, 64]⟩
abbrev S16x8x1024x64 : Shape := ⟨4, ![16, 8, 1024, 64]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S1024x1024x1 : Shape := ⟨3, ![1024, 1024, 1]⟩
abbrev S1024x1024x8 : Shape := ⟨3, ![1024, 1024, 8]⟩
abbrev S8x1024x1024 : Shape := ⟨3, ![8, 1024, 1024]⟩
abbrev S16x8x1024x1024 : Shape := ⟨4, ![16, 8, 1024, 1024]⟩
abbrev S1x1x1024x1024 : Shape := ⟨4, ![1, 1, 1024, 1024]⟩
abbrev S1x8x1024x1024 : Shape := ⟨4, ![1, 8, 1024, 1024]⟩
abbrev S16x8x1024 : Shape := ⟨3, ![16, 8, 1024]⟩
abbrev S16x8x1024x1 : Shape := ⟨4, ![16, 8, 1024, 1]⟩

abbrev nBuf : Space → Nat
  | .hbm => 111
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x512, .bf16⟩
  | .hbm, ⟨2, _⟩ => ⟨S3x4x256x256, .f32⟩
  | .hbm, ⟨3, _⟩ => ⟨S32x8, .f32⟩
  | .hbm, ⟨4, _⟩ => ⟨S16x1024x512, .bf16⟩
  | .hbm, ⟨5, _⟩ => ⟨S16x1024x8x64, .bf16⟩
  | .hbm, ⟨6, _⟩ => ⟨S16x8x1024x64, .bf16⟩
  | .hbm, ⟨7, _⟩ => ⟨S16x1024x512, .bf16⟩
  | .hbm, ⟨8, _⟩ => ⟨S16x1024x8x64, .bf16⟩
  | .hbm, ⟨9, _⟩ => ⟨S16x8x1024x64, .bf16⟩
  | .hbm, ⟨10, _⟩ => ⟨S16x1024x8x64, .bf16⟩
  | .hbm, ⟨11, _⟩ => ⟨S16x8x1024x64, .bf16⟩
  | .hbm, ⟨12, _⟩ => ⟨S1024, .i32⟩
  | .hbm, ⟨13, _⟩ => ⟨S1x1024, .i32⟩
  | .hbm, ⟨14, _⟩ => ⟨S1024, .i32⟩
  | .hbm, ⟨15, _⟩ => ⟨S1024x1, .i32⟩
  | .hbm, ⟨16, _⟩ => ⟨S1024x1024, .i32⟩
  | .hbm, ⟨17, _⟩ => ⟨S1024x1024, .i32⟩
  | .hbm, ⟨18, _⟩ => ⟨S1024x1024, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i32⟩
  | .hbm, ⟨27, _⟩ => ⟨S_, .i32⟩
  | .hbm, ⟨28, _⟩ => ⟨S1024x1024, .i32⟩
  | .hbm, ⟨29, _⟩ => ⟨S1024x1024, .i32⟩
  | .hbm, ⟨30, _⟩ => ⟨S_, .i32⟩
  | .hbm, ⟨31, _⟩ => ⟨S1024x1024, .i32⟩
  | .hbm, ⟨32, _⟩ => ⟨S1024x1024, .i1⟩
  | .hbm, ⟨33, _⟩ => ⟨S_, .i32⟩
  | .hbm, ⟨34, _⟩ => ⟨S_, .i32⟩
  | .hbm, ⟨35, _⟩ => ⟨S1024x1024, .i32⟩
  | .hbm, ⟨36, _⟩ => ⟨S1024x1024, .i32⟩
  | .hbm, ⟨37, _⟩ => ⟨S1024x1024, .i32⟩
  | .hbm, ⟨38, _⟩ => ⟨S1024x1024, .i32⟩
  | .hbm, ⟨39, _⟩ => ⟨S_, .i32⟩
  | .hbm, ⟨40, _⟩ => ⟨S1024x1024, .i32⟩
  | .hbm, ⟨41, _⟩ => ⟨S1024x1024, .i32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S_, .f32⟩
  | .hbm, ⟨51, _⟩ => ⟨S1024x1024, .f32⟩
  | .hbm, ⟨52, _⟩ => ⟨S1024x1024, .f32⟩
  | .hbm, ⟨53, _⟩ => ⟨S1024x1024, .i32⟩
  | .hbm, ⟨54, _⟩ => ⟨S_, .i32⟩
  | .hbm, ⟨55, _⟩ => ⟨S1024x1024, .i32⟩
  | .hbm, ⟨56, _⟩ => ⟨S1024x1024, .i32⟩
  | .hbm, ⟨57, _⟩ => ⟨S_, .i32⟩
  | .hbm, ⟨58, _⟩ => ⟨S1024x1024, .i32⟩
  | .hbm, ⟨59, _⟩ => ⟨S1024x1024, .i32⟩
  | .hbm, ⟨60, _⟩ => ⟨S_, .i32⟩
  | .hbm, ⟨61, _⟩ => ⟨S1024x1024, .i32⟩
  | .hbm, ⟨62, _⟩ => ⟨S1024x1024, .i1⟩
  | .hbm, ⟨63, _⟩ => ⟨S1024x1024, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i32⟩
  | .hbm, ⟨72, _⟩ => ⟨S1024x1024, .i32⟩
  | .hbm, ⟨73, _⟩ => ⟨S1024x1024x1, .i32⟩
  | .hbm, ⟨74, _⟩ => ⟨S1024x1024x8, .f32⟩
  | .hbm, ⟨75, _⟩ => ⟨S8x1024x1024, .f32⟩
  | .hbm, ⟨76, _⟩ => ⟨S16x8x1024x1024, .f32⟩
  | .hbm, ⟨77, _⟩ => ⟨S1024x1024, .i32⟩
  | .hbm, ⟨78, _⟩ => ⟨S_, .i32⟩
  | .hbm, ⟨79, _⟩ => ⟨S1024x1024, .i32⟩
  | .hbm, ⟨80, _⟩ => ⟨S1024x1024, .i1⟩
  | .hbm, ⟨81, _⟩ => ⟨S1x1x1024x1024, .i1⟩
  | .hbm, ⟨82, _⟩ => ⟨S1x8x1024x1024, .f32⟩
  | .hbm, ⟨83, _⟩ => ⟨S16x8x1024x1024, .f32⟩
  | .hbm, ⟨84, _⟩ => ⟨S16x8x1024x1024, .f32⟩
  | .hbm, ⟨85, _⟩ => ⟨S_, .f32⟩
  | .hbm, ⟨86, _⟩ => ⟨S_, .f32⟩
  | .hbm, ⟨87, _⟩ => ⟨S16x8x1024x1024, .i1⟩
  | .hbm, ⟨88, _⟩ => ⟨S16x8x1024x1024, .f32⟩
  | .hbm, ⟨89, _⟩ => ⟨S16x8x1024x1024, .f32⟩
  | .hbm, ⟨90, _⟩ => ⟨S_, .f32⟩
  | .hbm, ⟨91, _⟩ => ⟨S16x8x1024, .f32⟩
  | .hbm, ⟨92, _⟩ => ⟨S16x8x1024x1, .f32⟩
  | .hbm, ⟨93, _⟩ => ⟨S16x8x1024x1024, .f32⟩
  | .hbm, ⟨94, _⟩ => ⟨S16x8x1024x1024, .f32⟩
  | .hbm, ⟨95, _⟩ => ⟨S16x8x1024x1024, .f32⟩
  | .hbm, ⟨96, _⟩ => ⟨S_, .f32⟩
  | .hbm, ⟨97, _⟩ => ⟨S16x8x1024, .f32⟩
  | .hbm, ⟨98, _⟩ => ⟨S16x8x1024x1, .f32⟩
  | .hbm, ⟨99, _⟩ => ⟨S16x8x1024x64, .f32⟩
  | .hbm, ⟨100, _⟩ => ⟨S16x8x1024x64, .f32⟩
  | .hbm, ⟨101, _⟩ => ⟨S16x8x1024x64, .f32⟩
  | .hbm, ⟨102, _⟩ => ⟨S16x8x1024x64, .f32⟩
  | .hbm, ⟨103, _⟩ => ⟨S16x8x1024x1, .f32⟩
  | .hbm, ⟨104, _⟩ => ⟨S16x8x1024x1, .f32⟩
  | .hbm, ⟨105, _⟩ => ⟨S16x8x1024x64, .f32⟩
  | .hbm, ⟨106, _⟩ => ⟨S16x1024x8x64, .f32⟩
  | .hbm, ⟨107, _⟩ => ⟨S16x1024x512, .f32⟩
  | .hbm, ⟨108, _⟩ => ⟨S16x1024x512, .bf16⟩
  | .hbm, ⟨109, _⟩ => ⟨S16x1024x8x64, .f32⟩
  | .hbm, ⟨110, _⟩ => ⟨S16x1024x512, .f32⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== Proof.StepIn.lean ====
/- The AdamW step of the input projection: the three frames, `preserves`, and the value claim. The kernel's three results are the step's
   formula at each entry (the block of rows an entry lies in does not matter), and so are the reference's. -/
module

public import proofs.«01_k».proof.Defs
public import proofs.«01_k».proof.Proof.Gen.StepIn
public import proofs.«01_k».proof.Proof.Gen.StepInIdeal.Value
public import proofs.«01_k».proof.Proof.Gen.StepInReferenceIdeal.Run
public import Idealize.ShloMosaic.Lib.Claim

@[expose] public section

noncomputable section

namespace Cert.Proof.StepInClaims

open Idealize.ShloMosaic Idealize.SL.Sem

/-- The two prints of the kernel have the same body table: they agree label by label, and there is one label. -/
theorem defs_eq : Cert.StepIn.defs (F := Bits) = Cert.StepInIdeal.defs (F := Bits) := by
  refine congrArg (Pipeline.defs Cert.StepInIdeal.pcfgs) ?_
  funext p l a
  cases p
  · match l, a with
    | ⟨0, _⟩, _ => rfl
  all_goals rfl

/-- The kernel at the machine's floats: one frame serves both instances. -/
theorem frame_kernel : Cert.quiescent_StepIn := fun m ρ _ => by
  have h := Cert.StepInIdeal.Gen.frame (F := Bits) m ρ
  rw [← defs_eq] at h
  exact h

/-- The kernel at the extended reals. -/
theorem frame_ideal : Cert.quiescent_StepInIdeal := fun m ρ _ => Cert.StepInIdeal.Gen.frame m ρ

/-- The reference declares no semaphore, and its run leaves its arguments as they were. -/
theorem frame_reference : Cert.quiescent_StepInReferenceIdeal := fun m ρ _ =>
  (θ_run Cert.StepInReferenceIdeal.defs _ _).mono (fun r h => ⟨fun c => (h c).2.2.2,
      Idealize.ShloMosaic.sem_eq_zero_of_no_sems (by decide) r.2⟩)
    (Cert.StepInReferenceIdeal.Value.run (F := Ideal) m ρ)

/-- Nothing was rewritten between the kernel and its idealization. -/
theorem preserves : Cert.preserves_StepIn_StepInIdeal := trivial

/-- The kernel's update, first moment and second moment are the reference's. -/
theorem algebraic : Cert.algebraic_StepInIdeal_StepInReferenceIdeal := by
  intro m ρ m' ρ' _ hagree
  refine ⟨_, _, _, Cert.StepInIdeal.Value.run (F := Ideal) m ρ, ?_⟩
  refine (θ_run Cert.StepInReferenceIdeal.defs _ _).mono (fun r h c => ?_)
    (Cert.StepInReferenceIdeal.Value.run (F := Ideal) m' ρ')
  obtain ⟨h0, h1, h2, h3⟩ := h c
  obtain ⟨a0, a1, a2, a3⟩ := hagree c
  refine ⟨h0.trans ?_, h1.trans ?_, h2.trans ?_, h3⟩
  · rw [a0, a1, a2, a3]; rfl
  · rw [a1, a2]; rfl
  · rw [a1, a3]; rfl

end Cert.Proof.StepInClaims

end
-- ==== Proof.StepOut.lean ====
/- The AdamW step of the output projection: the three frames, `preserves`, and the value claim. The kernel's three results are the step's
   formula at each entry (the block of rows an entry lies in does not matter), and so are the reference's. -/
module

public import proofs.«01_k».proof.Defs
public import proofs.«01_k».proof.Proof.Gen.StepOut
public import proofs.«01_k».proof.Proof.Gen.StepOutIdeal.Value
public import proofs.«01_k».proof.Proof.Gen.StepOutReferenceIdeal.Run
public import Idealize.ShloMosaic.Lib.Claim

@[expose] public section

noncomputable section

namespace Cert.Proof.StepOutClaims

open Idealize.ShloMosaic Idealize.SL.Sem

/-- The two prints of the kernel have the same body table: they agree label by label, and there is one label. -/
theorem defs_eq : Cert.StepOut.defs (F := Bits) = Cert.StepOutIdeal.defs (F := Bits) := by
  refine congrArg (Pipeline.defs Cert.StepOutIdeal.pcfgs) ?_
  funext p l a
  cases p
  · match l, a with
    | ⟨0, _⟩, _ => rfl
  all_goals rfl

/-- The kernel at the machine's floats: one frame serves both instances. -/
theorem frame_kernel : Cert.quiescent_StepOut := fun m ρ _ => by
  have h := Cert.StepOutIdeal.Gen.frame (F := Bits) m ρ
  rw [← defs_eq] at h
  exact h

/-- The kernel at the extended reals. -/
theorem frame_ideal : Cert.quiescent_StepOutIdeal := fun m ρ _ => Cert.StepOutIdeal.Gen.frame m ρ

/-- The reference declares no semaphore, and its run leaves its arguments as they were. -/
theorem frame_reference : Cert.quiescent_StepOutReferenceIdeal := fun m ρ _ =>
  (θ_run Cert.StepOutReferenceIdeal.defs _ _).mono (fun r h => ⟨fun c => (h c).2.2.2,
      Idealize.ShloMosaic.sem_eq_zero_of_no_sems (by decide) r.2⟩)
    (Cert.StepOutReferenceIdeal.Value.run (F := Ideal) m ρ)

/-- Nothing was rewritten between the kernel and its idealization. -/
theorem preserves : Cert.preserves_StepOut_StepOutIdeal := trivial

/-- The kernel's update, first moment and second moment are the reference's. -/
theorem algebraic : Cert.algebraic_StepOutIdeal_StepOutReferenceIdeal := by
  intro m ρ m' ρ' _ hagree
  refine ⟨_, _, _, Cert.StepOutIdeal.Value.run (F := Ideal) m ρ, ?_⟩
  refine (θ_run Cert.StepOutReferenceIdeal.defs _ _).mono (fun r h c => ?_)
    (Cert.StepOutReferenceIdeal.Value.run (F := Ideal) m' ρ')
  obtain ⟨h0, h1, h2, h3⟩ := h c
  obtain ⟨a0, a1, a2, a3⟩ := hagree c
  refine ⟨h0.trans ?_, h1.trans ?_, h2.trans ?_, h3⟩
  · rw [a0, a1, a2, a3]; rfl
  · rw [a1, a2]; rfl
  · rw [a1, a3]; rfl

end Cert.Proof.StepOutClaims

end
-- ==== Proof.StepSmall.lean ====
/- The AdamW step of the small parameters, packed in one array: the three frames, `preserves`, and the value claim. The kernel's three results are the step's
   formula at each entry (the block of rows an entry lies in does not matter), and so are the reference's. -/
module

public import proofs.«01_k».proof.Defs
public import proofs.«01_k».proof.Proof.Gen.StepSmall
public import proofs.«01_k».proof.Proof.Gen.StepSmallIdeal.Value
public import proofs.«01_k».proof.Proof.Gen.StepSmallReferenceIdeal.Run
public import Idealize.ShloMosaic.Lib.Claim

@[expose] public section

noncomputable section

namespace Cert.Proof.StepSmallClaims

open Idealize.ShloMosaic Idealize.SL.Sem

/-- The two prints of the kernel have the same body table: they agree label by label, and there is one label. -/
theorem defs_eq : Cert.StepSmall.defs (F := Bits) = Cert.StepSmallIdeal.defs (F := Bits) := by
  refine congrArg (Pipeline.defs Cert.StepSmallIdeal.pcfgs) ?_
  funext p l a
  cases p
  · match l, a with
    | ⟨0, _⟩, _ => rfl
  all_goals rfl

/-- The kernel at the machine's floats: one frame serves both instances. -/
theorem frame_kernel : Cert.quiescent_StepSmall := fun m ρ _ => by
  have h := Cert.StepSmallIdeal.Gen.frame (F := Bits) m ρ
  rw [← defs_eq] at h
  exact h

/-- The kernel at the extended reals. -/
theorem frame_ideal : Cert.quiescent_StepSmallIdeal := fun m ρ _ => Cert.StepSmallIdeal.Gen.frame m ρ

/-- The reference declares no semaphore, and its run leaves its arguments as they were. -/
theorem frame_reference : Cert.quiescent_StepSmallReferenceIdeal := fun m ρ _ =>
  (θ_run Cert.StepSmallReferenceIdeal.defs _ _).mono (fun r h => ⟨fun c => (h c).2.2.2,
      Idealize.ShloMosaic.sem_eq_zero_of_no_sems (by decide) r.2⟩)
    (Cert.StepSmallReferenceIdeal.Value.run (F := Ideal) m ρ)

/-- Nothing was rewritten between the kernel and its idealization. -/
theorem preserves : Cert.preserves_StepSmall_StepSmallIdeal := trivial

/-- The kernel's update, first moment and second moment are the reference's. -/
theorem algebraic : Cert.algebraic_StepSmallIdeal_StepSmallReferenceIdeal := by
  intro m ρ m' ρ' _ hagree
  refine ⟨_, _, _, Cert.StepSmallIdeal.Value.run (F := Ideal) m ρ, ?_⟩
  refine (θ_run Cert.StepSmallReferenceIdeal.defs _ _).mono (fun r h c => ?_)
    (Cert.StepSmallReferenceIdeal.Value.run (F := Ideal) m' ρ')
  obtain ⟨h0, h1, h2, h3⟩ := h c
  obtain ⟨a0, a1, a2, a3⟩ := hagree c
  refine ⟨h0.trans ?_, h1.trans ?_, h2.trans ?_, h3⟩
  · rw [a0, a1, a2, a3]; rfl
  · rw [a1, a2]; rfl
  · rw [a1, a3]; rfl

end Cert.Proof.StepSmallClaims

end
-- ==== Proof.FoldHeads.lean ====
/- The sum over the heads of the q and k norm weights' gradients: the three frames, `preserves`, and the value claim. A row of
   the kernel's array holds two heads side by side; it adds four rows and then the two halves, the reference adds the eight heads. -/
module

public import proofs.«01_k».proof.Defs
public import proofs.«01_k».proof.Proof.Gen.FoldHeads
public import proofs.«01_k».proof.Proof.Gen.FoldHeadsIdeal.Value
public import proofs.«01_k».proof.Proof.Gen.FoldHeadsReferenceIdeal.Run
public import Idealize.ShloMosaic.Lib.Claim
public import Idealize.ShloMosaic.Lib.Pointwise
public import Idealize.ShloMosaic.Lib.ValueIdx

@[expose] public section

noncomputable section

namespace Cert.Proof.FoldHeadsClaims

open Idealize.ShloMosaic Idealize.SL.Sem

/-- The two prints of the kernel have the same body table: they agree label by label, and there is one label. -/
theorem defs_eq : Cert.FoldHeads.defs (F := Bits) = Cert.FoldHeadsIdeal.defs (F := Bits) := by
  refine congrArg (Pipeline.defs Cert.FoldHeadsIdeal.pcfgs) ?_
  funext p l a
  cases p
  · match l, a with
    | ⟨0, _⟩, _ => rfl
  all_goals rfl

/-- The kernel at the machine's floats: one frame serves both instances. -/
theorem frame_kernel : Cert.quiescent_FoldHeads := fun m ρ _ => by
  have h := Cert.FoldHeadsIdeal.Gen.frame (F := Bits) m ρ
  rw [← defs_eq] at h
  exact h

/-- The kernel at the extended reals. -/
theorem frame_ideal : Cert.quiescent_FoldHeadsIdeal := fun m ρ _ => Cert.FoldHeadsIdeal.Gen.frame m ρ

/-- The reference declares no semaphore, and its run leaves its arguments as they were. -/
theorem frame_reference : Cert.quiescent_FoldHeadsReferenceIdeal := fun m ρ _ =>
  (θ_run Cert.FoldHeadsReferenceIdeal.defs _ _).mono (fun r h => ⟨fun c => (h c).2,
      Idealize.ShloMosaic.sem_eq_zero_of_no_sems (by decide) r.2⟩)
    (Cert.FoldHeadsReferenceIdeal.Value.run (F := Ideal) m ρ)

/-- Nothing was rewritten between the kernel and its idealization. -/
theorem preserves : Cert.preserves_FoldHeads_FoldHeadsIdeal := trivial

/-- The sum over the eight heads of `a`, entry by entry: head `k` of row pair `r` is in row `4 r + k / 2`, from lane `64 (k % 2)` on. -/
def headSum (a : Vec Ideal Cert.FoldHeadsIdeal.S8x128 .f32) (r : Fin 2) (d : Fin 64) : EReal :=
  ∑ k : Fin 8, (a (ix2 ⟨4 * r.val + k.val / 2, by omega⟩ ⟨64 * (k.val % 2) + d.val, by omega⟩) : EReal)

open Cert.FoldHeadsIdeal in
/-- Each lane of the kernel's row `r` holds the sum over the heads. -/
theorem kernel_at (a : Vec Ideal S8x128 .f32) (r : Fin 2) (l : Fin 128) :
    Cert.FoldHeadsIdeal.Value.G1 (F := Ideal) a (ix2 r l) = headSum a r ⟨l.val % 64, Nat.mod_lt _ (by decide)⟩ := by
  unfold Cert.FoldHeadsIdeal.Value.G1 Cert.FoldHeadsIdeal.Gen.k0_pay1
  pointwise
  have hr := r.isLt
  unfold headSum
  rw [Fin.sum_univ_eight]
  rcases Nat.lt_or_ge l.val 64 with hl | hl
  · have e : ∀ p, (⟨(l.val + 128 - 64) % 128, p⟩ : Fin 128) = ⟨64 + l.val % 64, by omega⟩ := fun p => Fin.ext (by show (l.val + 128 - 64) % 128 = 64 + l.val % 64; omega)
    have e' : l = ⟨l.val % 64, by omega⟩ := Fin.ext (by show l.val = l.val % 64; omega)
    generalize_proofs at *
    simp only [e]
    generalize l.val % 64 = d at *
    subst e'
    rcases (by omega : r.val = 0 ∨ r.val = 1) with h | h <;> simp [h] <;> abel
  · have e : ∀ p, (⟨(l.val + 128 - 64) % 128, p⟩ : Fin 128) = ⟨l.val % 64, by omega⟩ := fun p => Fin.ext (by show (l.val + 128 - 64) % 128 = l.val % 64; omega)
    have e' : l = ⟨64 + l.val % 64, by omega⟩ := Fin.ext (by show l.val = 64 + l.val % 64; omega)
    generalize_proofs at *
    simp only [e]
    generalize l.val % 64 = d at *
    subst e'
    rcases (by omega : r.val = 0 ∨ r.val = 1) with h | h <;> simp [h] <;> abel

open Cert.FoldHeadsReferenceIdeal Cert.FoldHeadsReferenceIdeal.Facts₀ in
/-- The eight heads of row pair `r`, summed by the host: the sum over the heads. -/
theorem sum_at (a : Vec Ideal S8x128 .f32) (r : Fin 2) (d : Fin 64) (h : S2x8x64.Slices ![r.val, 0, 0] S1x8x64) :
    Host.reduceAdd (F := Ideal) (φ := .f32) (shapeCast S8x64 (extractStridedSlice S1x8x64 ![r.val, 0, 0] (shapeCast S2x8x64 a shapeCasts_S8x128_S2x8x64) h)
      shapeCasts_S1x8x64_S8x64) (constant S_ .f32 0x00000000#32) reducesTo_S8x64_S64_d0 h_S_ (ix1 d) = headSum a r d := by
  pointwise
  refine Finset.sum_congr rfl fun k _ => congrArg a ?_
  congr 1 <;> exact Fin.ext (by simp <;> omega)

open Cert.FoldHeadsReferenceIdeal Cert.FoldHeadsReferenceIdeal.Facts₀ in
/-- Two rows of 64 lanes, stacked and repeated once along the lanes, at an entry. -/
theorem rows_at (x0 x1 : Vec Ideal S64 .f32) (r : Fin 2) (l : Fin 128) :
    shapeCast S2x128 (broadcastInDim S1x2x2x64 ![0, 1, 2, 3] bcast_S1x2x1x64_S1x2x2x64_0_1_2_3 (shapeCast S1x2x1x64
      (concatenate S2x64 0 [⟨S1x64, broadcastInDim S1x64 ![1] bcast_S64_S1x64_1 x0⟩, ⟨S1x64, broadcastInDim S1x64 ![1] bcast_S64_S1x64_1 x1⟩]
        concatenates_S1x64_S1x64_S2x64_d0) shapeCasts_S2x64_S1x2x1x64)) shapeCasts_S1x2x2x64_S2x128 (ix2 r l)
      = if r.val < 1 then x0 (ix1 ⟨l.val % 64, Nat.mod_lt _ (by decide)⟩) else x1 (ix1 ⟨l.val % 64, Nat.mod_lt _ (by decide)⟩) := by
  pointwise
  rfl

/-- Both programs leave the same two rows: the sums over the heads. -/
theorem algebraic : Cert.algebraic_FoldHeadsIdeal_FoldHeadsReferenceIdeal := by
  intro m ρ m' ρ' _ hagree
  refine ⟨_, Cert.FoldHeadsIdeal.Value.run (F := Ideal) m ρ, ?_⟩
  refine (θ_run Cert.FoldHeadsReferenceIdeal.defs _ _).mono (fun r h c => ?_)
    (Cert.FoldHeadsReferenceIdeal.Value.run (F := Ideal) m' ρ')
  obtain ⟨h0, h3⟩ := h c
  refine ⟨h0.trans ?_, h3⟩
  rw [hagree c]
  funext y
  idx_vars y
  refine (rows_at _ _ y0 y1).trans (Eq.trans ?_ (kernel_at _ y0 y1).symm)
  match y0 with
  | 0 => exact sum_at _ 0 _ _
  | 1 => exact sum_at _ 1 _ _

end Cert.Proof.FoldHeadsClaims

end
-- ==== Proof.CombineRunA.lean ====
module

public import proofs.«01_k».proof.Proof.Gen.CombineIdeal.Frame.Runs

@[expose] public section

set_option maxRecDepth 16384

noncomputable section

namespace Cert.Proof.CombineRun

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body run whole at the first grid point, where the three accumulators are reset: the pieces its stores
    leave in each output block, with the triple that says so. -/
def runA (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x2048 .bf16) (harg7 : arg7.IsWhole) (arg8 : Memref sig .tc .vmem S16x2048 .bf16) (harg8 : arg8.IsWhole) (arg9 : Memref sig .tc .vmem S16x2048 .bf16) (harg9 : arg9.IsWhole) (arg10 : Memref sig .tc .vmem S256x512 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1024x1024 .bf16) (harg13 : arg13.IsWhole) (arg14 : Memref sig .tc .vmem S8x512 .f32) (harg14 : arg14.IsWhole) (arg15 : Memref sig .tc .vmem S1x512 .f32) (harg15 : arg15.IsWhole) (arg16 : Memref sig .tc .vmem S256x256 .bf16) (harg16 : arg16.IsWhole) (arg17 : Memref sig .tc .vmem S256x1024 .bf16) (harg17 : arg17.IsWhole) (arg18 : Memref sig .tc .vmem S256x1024 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x512 .bf16) (harg21 : arg21.IsWhole) (arg22 : Memref sig .tc .vmem S256x512 .bf16) (harg22 : arg22.IsWhole) (arg23 : Memref sig .tc .vmem S256x1024 .bf16) (harg23 : arg23.IsWhole) (arg24 : Memref sig .tc .vmem S256x512 .f32) (harg24 : arg24.IsWhole) (arg25 : Memref sig .tc .vmem S1x128 .f32) (harg25 : arg25.IsWhole) (arg26 : Memref sig .tc .vmem S1x512 .f32) (harg26 : arg26.IsWhole) (arg27 : Memref sig .tc .vmem S8x512 .f32) (harg27 : arg27.IsWhole) (hc0 : cond0_0 i)
    (x0 : Vec F S256x512 .bf16) (x1 : Vec F S256x512 .bf16) (x2 : Vec F S256x512 .bf16) (x3 : Vec F S256x512 .f32) (x4 : Vec F S256x512 .f32) (x5 : Vec F S256x512 .f32) (x6 : Vec F S256x2048 .bf16) (x7 : Vec F S16x2048 .bf16) (x8 : Vec F S16x2048 .bf16) (x9 : Vec F S256x512 .bf16) (x10 : Vec F S256x1024 .f32) (x11 : Vec F S256x1024 .f32) (x12 : Vec F S1024x1024 .bf16) (x13 : Vec F S8x512 .f32) (x14 : Vec F S1x512 .f32) (x15 : Vec F S256x256 .bf16) :
    Σ' (L16 : List (View.Piece (Elt F) S256x1024 .bf16)), Σ' (L17 : List (View.Piece (Elt F) S256x1024 .f32)), Σ' (L18 : List (View.Piece (Elt F) S256x512 .f32)), Σ' (L19 : List (View.Piece (Elt F) S256x512 .f32)), Σ' (L20 : List (View.Piece (Elt F) S256x512 .bf16)), Σ' (L21 : List (View.Piece (Elt F) S256x512 .bf16)), Σ' (L22 : List (View.Piece (Elt F) S256x1024 .bf16)), Σ' (L23 : List (View.Piece (Elt F) S256x512 .f32)), Σ' (L24 : List (View.Piece (Elt F) S1x128 .f32)), Σ' (L25 : List (View.Piece (Elt F) S1x512 .f32)), { L26 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26)) -∗ K ⟨⟩))
          ⊢ wp frame (wpE (defs₀ (F := F)) Variants.none c none) E (cc0_combine i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, fun E K => ?run⟩
  case run =>
    simp only [cc0_combine_eq_skeleton]; unfold cc0_combine_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

end Cert.Proof.CombineRun

end
-- ==== Proof.CombineFrame.lean ====
module

public import proofs.«01_k».proof.Proof.CombineRunB
public import Idealize.ShloMosaic.Lib.Claim

@[expose] public section

set_option maxRecDepth 16384

noncomputable section

namespace Cert.Proof.CombineRun

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run, on that point's blocks. -/
def atA (c : Dev nD) (t : Fin cfg0.N) (h : t.val % 64 = 0) :=
  runA c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t)
    (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t)
    (ms0_18 t) (hs0_18 t) (ms0_19 t) (hs0_19 t)
    (ms0_20 t) (hs0_20 t) (ms0_21 t) (hs0_21 t) (ms0_22 t) (hs0_22 t) (ms0_23 t) (hs0_23 t)
    (ms0_24 t) (hs0_24 t) (ms0_25 t) (hs0_25 t) (ms0_26 t) (hs0_26 t)
    ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- A later point's run, on that point's blocks and over what the accumulators held. -/
def atB (c : Dev nD) (t : Fin cfg0.N) (h : ¬t.val % 64 = 0) (a : Vec F S1x128 .f32) (b : Vec F S1x512 .f32) (d : Vec F S8x512 .f32) :=
  runB c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t)
    (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t)
    (ms0_18 t) (hs0_18 t) (ms0_19 t) (hs0_19 t)
    (ms0_20 t) (hs0_20 t) (ms0_21 t) (hs0_21 t) (ms0_22 t) (hs0_22 t) (ms0_23 t) (hs0_23 t)
    (ms0_24 t) (hs0_24 t) (ms0_25 t) (hs0_25 t) (ms0_26 t) (hs0_26 t)
    (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) a b d

/-- The eleven output blocks. -/
abbrev Outs (F : FTy → Type) := Vec F S256x1024 .bf16 × Vec F S256x1024 .f32 × Vec F S256x512 .f32 × Vec F S256x512 .f32 × Vec F S256x512 .bf16 × Vec F S256x512 .bf16 × Vec F S256x1024 .bf16 × Vec F S256x512 .f32 × Vec F S1x128 .f32 × Vec F S1x512 .f32 × Vec F S8x512 .f32

theorem coverA_16 (c : Dev nD) (t : Fin cfg0.N) (h : t.val % 64 = 0) (y : S256x1024.Idx) :
    ∃ pc ∈ (atA m c t h).1, y ∈ pc.1.set :=
  View.cover_of_tiledL (atA m c t h).1 S256x1024.size (by sl_kernel_rfl) y

theorem coverA_17 (c : Dev nD) (t : Fin cfg0.N) (h : t.val % 64 = 0) (y : S256x1024.Idx) :
    ∃ pc ∈ (atA m c t h).2.1, y ∈ pc.1.set :=
  View.cover_of_tiledL (atA m c t h).2.1 S256x1024.size (by sl_kernel_rfl) y

theorem coverA_18 (c : Dev nD) (t : Fin cfg0.N) (h : t.val % 64 = 0) (y : S256x512.Idx) :
    ∃ pc ∈ (atA m c t h).2.2.1, y ∈ pc.1.set :=
  View.cover_of_tiledL (atA m c t h).2.2.1 S256x512.size (by sl_kernel_rfl) y

theorem coverA_19 (c : Dev nD) (t : Fin cfg0.N) (h : t.val % 64 = 0) (y : S256x512.Idx) :
    ∃ pc ∈ (atA m c t h).2.2.2.1, y ∈ pc.1.set :=
  View.cover_of_tiledL (atA m c t h).2.2.2.1 S256x512.size (by sl_kernel_rfl) y

theorem coverA_20 (c : Dev nD) (t : Fin cfg0.N) (h : t.val % 64 = 0) (y : S256x512.Idx) :
    ∃ pc ∈ (atA m c t h).2.2.2.2.1, y ∈ pc.1.set :=
  View.cover_of_tiledL (atA m c t h).2.2.2.2.1 S256x512.size (by sl_kernel_rfl) y

theorem coverA_21 (c : Dev nD) (t : Fin cfg0.N) (h : t.val % 64 = 0) (y : S256x512.Idx) :
    ∃ pc ∈ (atA m c t h).2.2.2.2.2.1, y ∈ pc.1.set :=
  View.cover_of_tiledL (atA m c t h).2.2.2.2.2.1 S256x512.size (by sl_kernel_rfl) y

theorem coverA_22 (c : Dev nD) (t : Fin cfg0.N) (h : t.val % 64 = 0) (y : S256x1024.Idx) :
    ∃ pc ∈ (atA m c t h).2.2.2.2.2.2.1, y ∈ pc.1.set :=
  View.cover_of_tiledL (atA m c t h).2.2.2.2.2.2.1 S256x512.size (by sl_kernel_rfl) y

theorem coverA_23 (c : Dev nD) (t : Fin cfg0.N) (h : t.val % 64 = 0) (y : S256x512.Idx) :
    ∃ pc ∈ (atA m c t h).2.2.2.2.2.2.2.1, y ∈ pc.1.set :=
  View.cover_of_tiledL (atA m c t h).2.2.2.2.2.2.2.1 S256x512.size (by sl_kernel_rfl) y

theorem coverA_24 (c : Dev nD) (t : Fin cfg0.N) (h : t.val % 64 = 0) (y : S1x128.Idx) :
    ∃ pc ∈ (atA m c t h).2.2.2.2.2.2.2.2.1, y ∈ pc.1.set :=
  View.cover_of_tiledL (atA m c t h).2.2.2.2.2.2.2.2.1 S1x128.size (by sl_kernel_rfl) y

theorem coverA_25 (c : Dev nD) (t : Fin cfg0.N) (h : t.val % 64 = 0) (y : S1x512.Idx) :
    ∃ pc ∈ (atA m c t h).2.2.2.2.2.2.2.2.2.1, y ∈ pc.1.set :=
  View.cover_of_tiledL (atA m c t h).2.2.2.2.2.2.2.2.2.1 S1x512.size (by sl_kernel_rfl) y

theorem coverA_26 (c : Dev nD) (t : Fin cfg0.N) (h : t.val % 64 = 0) (y : S8x512.Idx) :
    ∃ pc ∈ (atA m c t h).2.2.2.2.2.2.2.2.2.2.1, y ∈ pc.1.set :=
  View.cover_of_tiledBy (atA m c t h).2.2.2.2.2.2.2.2.2.2.1 ![1, 512] (by sl_kernel_rfl) y

/-- What the first point leaves in the output blocks. -/
def outsA (c : Dev nD) (t : Fin cfg0.N) (h : t.val % 64 = 0) : Outs F :=
  (VO0_16.read (Elt F) (VO0_16.writes (Elt F) VO0_16.junk (atA m c t h).1),
   VO0_17.read (Elt F) (VO0_17.writes (Elt F) VO0_17.junk (atA m c t h).2.1),
   VO0_18.read (Elt F) (VO0_18.writes (Elt F) VO0_18.junk (atA m c t h).2.2.1),
   VO0_19.read (Elt F) (VO0_19.writes (Elt F) VO0_19.junk (atA m c t h).2.2.2.1),
   VO0_20.read (Elt F) (VO0_20.writes (Elt F) VO0_20.junk (atA m c t h).2.2.2.2.1),
   VO0_21.read (Elt F) (VO0_21.writes (Elt F) VO0_21.junk (atA m c t h).2.2.2.2.2.1),
   VO0_22.read (Elt F) (VO0_22.writes (Elt F) VO0_22.junk (atA m c t h).2.2.2.2.2.2.1),
   VO0_23.read (Elt F) (VO0_23.writes (Elt F) VO0_23.junk (atA m c t h).2.2.2.2.2.2.2.1),
   VO0_24.read (Elt F) (VO0_24.writes (Elt F) VO0_24.junk (atA m c t h).2.2.2.2.2.2.2.2.1),
   VO0_25.read (Elt F) (VO0_25.writes (Elt F) VO0_25.junk (atA m c t h).2.2.2.2.2.2.2.2.2.1),
   VO0_26.read (Elt F) (VO0_26.writes (Elt F) VO0_26.junk (atA m c t h).2.2.2.2.2.2.2.2.2.2.1))

theorem coverB_16 (c : Dev nD) (t : Fin cfg0.N) (h : ¬t.val % 64 = 0) (a : Vec F S1x128 .f32) (b : Vec F S1x512 .f32) (d : Vec F S8x512 .f32) (y : S256x1024.Idx) :
    ∃ pc ∈ (atB m c t h a b d).1, y ∈ pc.1.set :=
  View.cover_of_tiledL (atB m c t h a b d).1 S256x1024.size (by sl_kernel_rfl) y

theorem coverB_17 (c : Dev nD) (t : Fin cfg0.N) (h : ¬t.val % 64 = 0) (a : Vec F S1x128 .f32) (b : Vec F S1x512 .f32) (d : Vec F S8x512 .f32) (y : S256x1024.Idx) :
    ∃ pc ∈ (atB m c t h a b d).2.1, y ∈ pc.1.set :=
  View.cover_of_tiledL (atB m c t h a b d).2.1 S256x1024.size (by sl_kernel_rfl) y

theorem coverB_18 (c : Dev nD) (t : Fin cfg0.N) (h : ¬t.val % 64 = 0) (a : Vec F S1x128 .f32) (b : Vec F S1x512 .f32) (d : Vec F S8x512 .f32) (y : S256x512.Idx) :
    ∃ pc ∈ (atB m c t h a b d).2.2.1, y ∈ pc.1.set :=
  View.cover_of_tiledL (atB m c t h a b d).2.2.1 S256x512.size (by sl_kernel_rfl) y

theorem coverB_19 (c : Dev nD) (t : Fin cfg0.N) (h : ¬t.val % 64 = 0) (a : Vec F S1x128 .f32) (b : Vec F S1x512 .f32) (d : Vec F S8x512 .f32) (y : S256x512.Idx) :
    ∃ pc ∈ (atB m c t h a b d).2.2.2.1, y ∈ pc.1.set :=
  View.cover_of_tiledL (atB m c t h a b d).2.2.2.1 S256x512.size (by sl_kernel_rfl) y

theorem coverB_20 (c : Dev nD) (t : Fin cfg0.N) (h : ¬t.val % 64 = 0) (a : Vec F S1x128 .f32) (b : Vec F S1x512 .f32) (d : Vec F S8x512 .f32) (y : S256x512.Idx) :
    ∃ pc ∈ (atB m c t h a b d).2.2.2.2.1, y ∈ pc.1.set :=
  View.cover_of_tiledL (atB m c t h a b d).2.2.2.2.1 S256x512.size (by sl_kernel_rfl) y

theorem coverB_21 (c : Dev nD) (t : Fin cfg0.N) (h : ¬t.val % 64 = 0) (a : Vec F S1x128 .f32) (b : Vec F S1x512 .f32) (d : Vec F S8x512 .f32) (y : S256x512.Idx) :
    ∃ pc ∈ (atB m c t h a b d).2.2.2.2.2.1, y ∈ pc.1.set :=
  View.cover_of_tiledL (atB m c t h a b d).2.2.2.2.2.1 S256x512.size (by sl_kernel_rfl) y

theorem coverB_22 (c : Dev nD) (t : Fin cfg0.N) (h : ¬t.val % 64 = 0) (a : Vec F S1x128 .f32) (b : Vec F S1x512 .f32) (d : Vec F S8x512 .f32) (y : S256x1024.Idx) :
    ∃ pc ∈ (atB m c t h a b d).2.2.2.2.2.2.1, y ∈ pc.1.set :=
  View.cover_of_tiledL (atB m c t h a b d).2.2.2.2.2.2.1 S256x512.size (by sl_kernel_rfl) y

theorem coverB_23 (c : Dev nD) (t : Fin cfg0.N) (h : ¬t.val % 64 = 0) (a : Vec F S1x128 .f32) (b : Vec F S1x512 .f32) (d : Vec F S8x512 .f32) (y : S256x512.Idx) :
    ∃ pc ∈ (atB m c t h a b d).2.2.2.2.2.2.2.1, y ∈ pc.1.set :=
  View.cover_of_tiledL (atB m c t h a b d).2.2.2.2.2.2.2.1 S256x512.size (by sl_kernel_rfl) y

theorem coverB_24 (c : Dev nD) (t : Fin cfg0.N) (h : ¬t.val % 64 = 0) (a : Vec F S1x128 .f32) (b : Vec F S1x512 .f32) (d : Vec F S8x512 .f32) (y : S1x128.Idx) :
    ∃ pc ∈ (atB m c t h a b d).2.2.2.2.2.2.2.2.1, y ∈ pc.1.set :=
  View.cover_of_tiledL (atB m c t h a b d).2.2.2.2.2.2.2.2.1 S1x128.size (by sl_kernel_rfl) y

theorem coverB_25 (c : Dev nD) (t : Fin cfg0.N) (h : ¬t.val % 64 = 0) (a : Vec F S1x128 .f32) (b : Vec F S1x512 .f32) (d : Vec F S8x512 .f32) (y : S1x512.Idx) :
    ∃ pc ∈ (atB m c t h a b d).2.2.2.2.2.2.2.2.2.1, y ∈ pc.1.set :=
  View.cover_of_tiledL (atB m c t h a b d).2.2.2.2.2.2.2.2.2.1 S1x512.size (by sl_kernel_rfl) y

/-- What a later point leaves in the output blocks. -/
def outsB (c : Dev nD) (t : Fin cfg0.N) (h : ¬t.val % 64 = 0) (a : Vec F S1x128 .f32) (b : Vec F S1x512 .f32) (d : Vec F S8x512 .f32) : Outs F :=
  (VO0_16.read (Elt F) (VO0_16.writes (Elt F) VO0_16.junk (atB m c t h a b d).1),
   VO0_17.read (Elt F) (VO0_17.writes (Elt F) VO0_17.junk (atB m c t h a b d).2.1),
   VO0_18.read (Elt F) (VO0_18.writes (Elt F) VO0_18.junk (atB m c t h a b d).2.2.1),
   VO0_19.read (Elt F) (VO0_19.writes (Elt F) VO0_19.junk (atB m c t h a b d).2.2.2.1),
   VO0_20.read (Elt F) (VO0_20.writes (Elt F) VO0_20.junk (atB m c t h a b d).2.2.2.2.1),
   VO0_21.read (Elt F) (VO0_21.writes (Elt F) VO0_21.junk (atB m c t h a b d).2.2.2.2.2.1),
   VO0_22.read (Elt F) (VO0_22.writes (Elt F) VO0_22.junk (atB m c t h a b d).2.2.2.2.2.2.1),
   VO0_23.read (Elt F) (VO0_23.writes (Elt F) VO0_23.junk (atB m c t h a b d).2.2.2.2.2.2.2.1),
   VO0_24.read (Elt F) (VO0_24.writes (Elt F) VO0_24.junk (atB m c t h a b d).2.2.2.2.2.2.2.2.1),
   VO0_25.read (Elt F) (VO0_25.writes (Elt F) VO0_25.junk (atB m c t h a b d).2.2.2.2.2.2.2.2.2.1),
   (ms0_26 t).view.read (Elt F) ((ms0_26 t).view.writes (Elt F) ((hs0_26 t).unread d) (atB m c t h a b d).2.2.2.2.2.2.2.2.2.2.1))

/-- What the output blocks hold after point `n`. -/
def outsAt (c : Dev nD) : (n : ℕ) → n < cfg0.N → Outs F
  | 0, hn => outsA m c ⟨0, hn⟩ (Nat.zero_mod _)
  | n + 1, hn =>
    if h : (n + 1) % 64 = 0 then outsA m c ⟨n + 1, hn⟩ h
    else outsB m c ⟨n + 1, hn⟩ h (outsAt c n (Nat.lt_of_succ_lt hn)).2.2.2.2.2.2.2.2.1
      (outsAt c n (Nat.lt_of_succ_lt hn)).2.2.2.2.2.2.2.2.2.1 (outsAt c n (Nat.lt_of_succ_lt hn)).2.2.2.2.2.2.2.2.2.2

theorem outsAt_A (c : Dev nD) (t : Fin cfg0.N) (h : t.val % 64 = 0) : outsAt m c t.val t.isLt = outsA m c t h := by
  obtain ⟨n, hn⟩ := t
  cases n with
  | zero => exact rfl
  | succ n => exact dif_pos h

theorem outsAt_B (c : Dev nD) (t : Fin cfg0.N) (h : ¬t.val % 64 = 0) :
    outsAt m c t.val t.isLt = outsB m c t h (outsAt m c (t.val - 1) (Nat.lt_of_le_of_lt (Nat.sub_le _ _) t.isLt)).2.2.2.2.2.2.2.2.1
      (outsAt m c (t.val - 1) (Nat.lt_of_le_of_lt (Nat.sub_le _ _) t.isLt)).2.2.2.2.2.2.2.2.2.1
      (outsAt m c (t.val - 1) (Nat.lt_of_le_of_lt (Nat.sub_le _ _) t.isLt)).2.2.2.2.2.2.2.2.2.2 := by
  obtain ⟨n, hn⟩ := t
  cases n with
  | zero => exact absurd (Nat.zero_mod _) h
  | succ n => exact dif_neg h

/-- The data of the one pipeline on core `c`: the arrays as the region finds them, and what each window's buffer holds
    after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).1
    | ⟨17, _⟩ => (outsAt m c t.val t.isLt).2.1
    | ⟨18, _⟩ => (outsAt m c t.val t.isLt).2.2.1
    | ⟨19, _⟩ => (outsAt m c t.val t.isLt).2.2.2.1
    | ⟨20, _⟩ => (outsAt m c t.val t.isLt).2.2.2.2.1
    | ⟨21, _⟩ => (outsAt m c t.val t.isLt).2.2.2.2.2.1
    | ⟨22, _⟩ => (outsAt m c t.val t.isLt).2.2.2.2.2.2.1
    | ⟨23, _⟩ => (outsAt m c t.val t.isLt).2.2.2.2.2.2.2.1
    | ⟨24, _⟩ => (outsAt m c t.val t.isLt).2.2.2.2.2.2.2.2.1
    | ⟨25, _⟩ => (outsAt m c t.val t.isLt).2.2.2.2.2.2.2.2.2.1
    | ⟨26, _⟩ => (outsAt m c t.val t.isLt).2.2.2.2.2.2.2.2.2.2
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt m c t.val t.isLt).1 := by dsimp only [dats]
theorem after0_17 (c : Dev nD) (t : Fin cfg0.N) : (dats m 0 c).after 17 t = (outsAt m c t.val t.isLt).2.1 := by dsimp only [dats]
theorem after0_18 (c : Dev nD) (t : Fin cfg0.N) : (dats m 0 c).after 18 t = (outsAt m c t.val t.isLt).2.2.1 := by dsimp only [dats]
theorem after0_19 (c : Dev nD) (t : Fin cfg0.N) : (dats m 0 c).after 19 t = (outsAt m c t.val t.isLt).2.2.2.1 := by dsimp only [dats]
theorem after0_20 (c : Dev nD) (t : Fin cfg0.N) : (dats m 0 c).after 20 t = (outsAt m c t.val t.isLt).2.2.2.2.1 := by dsimp only [dats]
theorem after0_21 (c : Dev nD) (t : Fin cfg0.N) : (dats m 0 c).after 21 t = (outsAt m c t.val t.isLt).2.2.2.2.2.1 := by dsimp only [dats]
theorem after0_22 (c : Dev nD) (t : Fin cfg0.N) : (dats m 0 c).after 22 t = (outsAt m c t.val t.isLt).2.2.2.2.2.2.1 := by dsimp only [dats]
theorem after0_23 (c : Dev nD) (t : Fin cfg0.N) : (dats m 0 c).after 23 t = (outsAt m c t.val t.isLt).2.2.2.2.2.2.2.1 := by dsimp only [dats]
theorem after0_24 (c : Dev nD) (t : Fin cfg0.N) : (dats m 0 c).after 24 t = (outsAt m c t.val t.isLt).2.2.2.2.2.2.2.2.1 := by dsimp only [dats]
theorem after0_25 (c : Dev nD) (t : Fin cfg0.N) : (dats m 0 c).after 25 t = (outsAt m c t.val t.isLt).2.2.2.2.2.2.2.2.2.1 := by dsimp only [dats]
theorem after0_26 (c : Dev nD) (t : Fin cfg0.N) : (dats m 0 c).after 26 t = (outsAt m c t.val t.isLt).2.2.2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- At a later point accumulator 24 still holds what the point before left. -/
theorem held_24 (c : Dev nD) (t : Fin cfg0.N) (h0 : ¬t.val % 64 = 0) (d) :
    (dats m 0 c).before 24 t d = (outsAt m c (t.val - 1) (Nat.lt_of_le_of_lt (Nat.sub_le _ _) t.isLt)).2.2.2.2.2.2.2.2.1 := by
  have hN : t.val < 64 := lt_of_lt_of_eq t.isLt (show cfg0.N = 64 from N_0)
  rw [Dat.before_out_kept _ 24 rfl t (by omega) (Bool.eq_false_iff.mpr fun h => by have := (flush0_24 _).mp h; dsimp only at this; omega)
    (fun _ => rfl) (fun _ _ => rfl)]
  dsimp only [dats]

/-- At a later point accumulator 25 still holds what the point before left. -/
theorem held_25 (c : Dev nD) (t : Fin cfg0.N) (h0 : ¬t.val % 64 = 0) (d) :
    (dats m 0 c).before 25 t d = (outsAt m c (t.val - 1) (Nat.lt_of_le_of_lt (Nat.sub_le _ _) t.isLt)).2.2.2.2.2.2.2.2.2.1 := by
  have hN : t.val < 64 := lt_of_lt_of_eq t.isLt (show cfg0.N = 64 from N_0)
  rw [Dat.before_out_kept _ 25 rfl t (by omega) (Bool.eq_false_iff.mpr fun h => by have := (flush0_25 _).mp h; dsimp only at this; omega)
    (fun _ => rfl) (fun _ _ => rfl)]
  dsimp only [dats]

/-- At a later point accumulator 26 still holds what the point before left. -/
theorem held_26 (c : Dev nD) (t : Fin cfg0.N) (h0 : ¬t.val % 64 = 0) (d) :
    (dats m 0 c).before 26 t d = (outsAt m c (t.val - 1) (Nat.lt_of_le_of_lt (Nat.sub_le _ _) t.isLt)).2.2.2.2.2.2.2.2.2.2 := by
  have hN : t.val < 64 := lt_of_lt_of_eq t.isLt (show cfg0.N = 64 from N_0)
  rw [Dat.before_out_kept _ 26 rfl t (by omega) (Bool.eq_false_iff.mpr fun h => by have := (flush0_26 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 16000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  have hN : t.val < 64 := lt_of_lt_of_eq t.isLt (show cfg0.N = 64 from N_0)
  by_cases h0 : t.val % 64 = 0
  · rw [outsAt_A m c t h0]
    unfold outsA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((atA m c t h0).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (coverA_16 m c t h0)
    isplitl [H17]
    · unfold owns; iexists _; isplitr
      swap; · iexact H17
      ipureintro; exact View.read_writes_of_cover _ _ _ _ _ (coverA_17 m c t h0)
    isplitl [H18]
    · unfold owns; iexists _; isplitr
      swap; · iexact H18
      ipureintro; exact View.read_writes_of_cover _ _ _ _ _ (coverA_18 m c t h0)
    isplitl [H19]
    · unfold owns; iexists _; isplitr
      swap; · iexact H19
      ipureintro; exact View.read_writes_of_cover _ _ _ _ _ (coverA_19 m c t h0)
    isplitl [H20]
    · unfold owns; iexists _; isplitr
      swap; · iexact H20
      ipureintro; exact View.read_writes_of_cover _ _ _ _ _ (coverA_20 m c t h0)
    isplitl [H21]
    · unfold owns; iexists _; isplitr
      swap; · iexact H21
      ipureintro; exact View.read_writes_of_cover _ _ _ _ _ (coverA_21 m c t h0)
    isplitl [H22]
    · unfold owns; iexists _; isplitr
      swap; · iexact H22
      ipureintro; exact View.read_writes_of_cover _ _ _ _ _ (coverA_22 m c t h0)
    isplitl [H23]
    · unfold owns; iexists _; isplitr
      swap; · iexact H23
      ipureintro; exact View.read_writes_of_cover _ _ _ _ _ (coverA_23 m c t h0)
    isplitl [H24]
    · unfold owns; iexists _; isplitr
      swap; · iexact H24
      ipureintro; exact View.read_writes_of_cover _ _ _ _ _ (coverA_24 m c t h0)
    isplitl [H25]
    · unfold owns; iexists _; isplitr
      swap; · iexact H25
      ipureintro; exact View.read_writes_of_cover _ _ _ _ _ (coverA_25 m c t h0)
    unfold owns; iexists _; isplitr
    swap; · iexact H26
    ipureintro; exact View.read_writes_of_cover _ _ _ _ _ (coverA_26 m c t h0)
  · simp only [held_24 m c t h0, held_25 m c t h0, held_26 m c t h0]
    rw [outsAt_B m c t h0]
    unfold outsB; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((atB m c t h0 _ _ _).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexact H24
    isplitl [H25]; · iexact H25
    isplitl [H26]; · iexact H26
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, H26⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (coverB_16 m c t h0 _ _ _)
    isplitl [H17]
    · unfold owns; iexists _; isplitr
      swap; · iexact H17
      ipureintro; exact View.read_writes_of_cover _ _ _ _ _ (coverB_17 m c t h0 _ _ _)
    isplitl [H18]
    · unfold owns; iexists _; isplitr
      swap; · iexact H18
      ipureintro; exact View.read_writes_of_cover _ _ _ _ _ (coverB_18 m c t h0 _ _ _)
    isplitl [H19]
    · unfold owns; iexists _; isplitr
      swap; · iexact H19
      ipureintro; exact View.read_writes_of_cover _ _ _ _ _ (coverB_19 m c t h0 _ _ _)
    isplitl [H20]
    · unfold owns; iexists _; isplitr
      swap; · iexact H20
      ipureintro; exact View.read_writes_of_cover _ _ _ _ _ (coverB_20 m c t h0 _ _ _)
    isplitl [H21]
    · unfold owns; iexists _; isplitr
      swap; · iexact H21
      ipureintro; exact View.read_writes_of_cover _ _ _ _ _ (coverB_21 m c t h0 _ _ _)
    isplitl [H22]
    · unfold owns; iexists _; isplitr
      swap; · iexact H22
      ipureintro; exact View.read_writes_of_cover _ _ _ _ _ (coverB_22 m c t h0 _ _ _)
    isplitl [H23]
    · unfold owns; iexists _; isplitr
      swap; · iexact H23
      ipureintro; exact View.read_writes_of_cover _ _ _ _ _ (coverB_23 m c t h0 _ _ _)
    isplitl [H24]
    · unfold owns; iexists _; isplitr
      swap; · iexact H24
      ipureintro; exact View.read_writes_of_cover _ _ _ _ _ (coverB_24 m c t h0 _ _ _)
    isplitl [H25]
    · unfold owns; iexists _; isplitr
      swap; · iexact H25
      ipureintro; exact View.read_writes_of_cover _ _ _ _ _ (coverB_25 m c t h0 _ _ _)
    unfold owns; iexists _; isplitr
    swap; · iexact H26
    ipureintro; rfl

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every fair execution ends, with the arrays the library computes from the data and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame of the program, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Proof.CombineRun

end
-- ==== Proof.CombineSpec.lean ====
module

public import Idealize.ShloMosaic.Lib.Pointwise

@[expose] public section

noncomputable section

namespace Cert.Proof.CombineSpec

open Idealize.ShloMosaic

/-- A matrix of extended reals, indexed as the printed arrays are. -/
abbrev Arr (a b : ℕ) := (⟨2, ![a, b]⟩ : Shape).Idx → EReal

/-- The arrays the call reads: the three branches' outputs and log-sum-exps, the convolution's projections, the
    attention gate, the residual input, the target, the output weights, the taps and the bias. -/
structure Args where
  (o1 o4 o16 l1 l4 l16 : Arr 16384 512)
  cg : Arr 16384 2048
  vz : Arr 16384 1024
  (x tgt : Arr 16384 1024)
  w : Arr 1024 1024
  cw : Arr 8 512
  cb : Arr 1 512

variable (A : Args)

/-- The convolution's input at padded row `p`: zero on the two padding rows, else row `p - 1`. -/
def tap (p : ℕ) (j : Fin 512) : EReal :=
  if h : 0 < p ∧ p ≤ 16384 then
    A.cg (ix2 ⟨p - 1, by omega⟩ ⟨1024 + j.val, by omega⟩) * A.cg (ix2 ⟨p - 1, by omega⟩ ⟨j.val, by omega⟩)
  else 0

/-- The three-tap convolution with its bias. -/
def zb (s : Fin 16384) (j : Fin 512) : EReal :=
  A.cw (ix2 0 j) * tap A s.val j + A.cw (ix2 1 j) * tap A (s.val + 1) j + A.cw (ix2 2 j) * tap A (s.val + 2) j + A.cb (ix2 0 j)

/-- `x` times its logistic. -/
def sil (x : EReal) : EReal := x * Ideal.div 1 (1 + Ideal.exp (-x))

def zc (s : Fin 16384) (j : Fin 512) : EReal := A.cg (ix2 s ⟨1536 + j.val, by omega⟩)
def gb (s : Fin 16384) (j : Fin 512) : EReal := A.cg (ix2 s ⟨512 + j.val, by omega⟩)

/-- The convolution branch. -/
def yc (s : Fin 16384) (j : Fin 512) : EReal := gb A s j * zb A s j * sil (zc A s j)

/-- The largest of the three log-sum-exps. -/
def top (s : Fin 16384) (j : Fin 512) : EReal := max (max (A.l1 (ix2 s j)) (A.l4 (ix2 s j))) (A.l16 (ix2 s j))

def e1 (s : Fin 16384) (j : Fin 512) : EReal := Ideal.exp (A.l1 (ix2 s j) - top A s j)
def e4 (s : Fin 16384) (j : Fin 512) : EReal := Ideal.exp (A.l4 (ix2 s j) - top A s j)
def e16 (s : Fin 16384) (j : Fin 512) : EReal := Ideal.exp (A.l16 (ix2 s j) - top A s j)

/-- The three branches mixed by the softmax of their log-sum-exps. -/
def oo (s : Fin 16384) (j : Fin 512) : EReal :=
  Ideal.div (e1 A s j * A.o1 (ix2 s j) + e4 A s j * A.o4 (ix2 s j) + e16 A s j * A.o16 (ix2 s j))
    (e1 A s j + e4 A s j + e16 A s j)

/-- The attention branch. -/
def ya (s : Fin 16384) (j : Fin 512) : EReal := oo A s j * sil (A.vz (ix2 s ⟨512 + j.val, by omega⟩))

/-- The two branches side by side. -/
def yy (s : Fin 16384) (k : Fin 1024) : EReal :=
  if h : k.val < 512 then yc A s ⟨k.val, h⟩ else ya A s ⟨k.val - 512, by omega⟩

/-- The block's output less the target. -/
def diff (s : Fin 16384) (d : Fin 1024) : EReal :=
  A.x (ix2 s d) + (∑ k : Fin 1024, yy A s k * A.w (ix2 k d)) - A.tgt (ix2 s d)

/-- The gradient of the loss in the convolution branch, before the bias and the taps. -/
def dz (s : Fin 16384) (j : Fin 512) : EReal :=
  (∑ d : Fin 1024, diff A s d * Ideal.ofBits .f32 0x3A800000#32 * A.w (ix2 ⟨j.val, by omega⟩ d)) * sil (zc A s j) * gb A s j

/-- The loss. -/
def loss : EReal := ∑ s : Fin 16384, Ideal.ofBits .f32 0x3A000000#32 * ∑ d : Fin 1024, diff A s d * diff A s d

/-- The bias's gradient. -/
def gradB (j : Fin 512) : EReal := ∑ s : Fin 16384, dz A s j

/-- Tap `k`'s gradient. -/
def gradW (k : ℕ) (j : Fin 512) : EReal := ∑ s : Fin 16384, dz A s j * tap A (s.val + k) j

end Cert.Proof.CombineSpec

end
-- ==== Proof.CombineTile.lean ====
module

public import proofs.«01_k».proof.Proof.CombineFrame
public import proofs.«01_k».proof.Proof.CombineSpec
public import Idealize.ShloMosaic.Lib.Pipeline.ValueKit
public import Idealize.ShloMosaic.Lib.Pipeline.ReadBack

@[expose] public section

set_option maxRecDepth 16384

noncomputable section

namespace Cert.Proof.CombineRun

open Cert.CombineIdeal Cert.CombineIdeal.Gen
open Idealize.ShloMosaic Idealize.ShloMosaic.TcCoe

variable {F : FTy → Type} [FloatOps F]
variable (m : (ℓ : Loc nD τ sig) → Buf (Elt F) ℓ)

/-! ## The body's arrays at a point, from that point's blocks -/

variable (c : Dev nD) (t : Fin cfg0.N)

/-- The convolution's first factor. -/
def uT : Vec F S256x512 .bf16 := View.ld (iblk m c 6 t) (Rect.unit ![0, 0] ![256, 512] inb_S256x2048_S256x512_0_0)
/-- Its second factor. -/
def gcT : Vec F S256x512 .bf16 := View.ld (iblk m c 6 t) (Rect.unit ![0, 1024] ![256, 512] inb_S256x2048_S256x512_0_1024)
/-- The convolution's gate. -/
def gbT : FVec F S256x512 .f32 := k0_pay8 (View.ld (iblk m c 6 t) (Rect.unit ![0, 512] ![256, 512] inb_S256x2048_S256x512_0_512))
/-- The attention gate's argument of the convolution branch. -/
def zcT : FVec F S256x512 .f32 := k0_pay9 (View.ld (iblk m c 6 t) (Rect.unit ![0, 1536] ![256, 512] inb_S256x2048_S256x512_0_1536))
/-- The convolution's input at the tile's rows. -/
def midT : FVec F S256x512 .f32 := k0_pay10 (uT m c t) (gcT m c t)
/-- The row after the tile, zero at the last point. -/
def nextT : FVec F S1x512 .f32 :=
  k0_pay11 (grid0.coords t) (View.ld (iblk m c 8 t) (Rect.unit ![0, 0] ![1, 512] inb_S16x2048_S1x512_0_0)) (View.ld (iblk m c 8 t) (Rect.unit ![0, 1024] ![1, 512] inb_S16x2048_S1x512_0_1024))
/-- The row before the tile, zero at the first point, on every row. -/
def prevT : FVec F S256x512 .f32 :=
  k0_pay14 (grid0.coords t) (View.ld (iblk m c 7 t) (Rect.unit ![15, 0] ![1, 512] inb_S16x2048_S1x512_15_0)) (View.ld (iblk m c 7 t) (Rect.unit ![15, 1024] ![1, 512] inb_S16x2048_S1x512_15_1024))
/-- The input one row up. -/
def upT : FVec F S256x512 .f32 := k0_pay15 k0_pay12 (k0_pay13 (uT m c t) (gcT m c t)) (prevT m c t)
/-- The input one row down. -/
def dnT : FVec F S256x512 .f32 := k0_pay16 (midT m c t) (nextT m c t) (iota Kind.tc S256x512 32 [0] iota_S256x512_d0_w32)
/-- The convolution branch. -/
def ycT : FVec F S256x512 .f32 :=
  k0_pay20 (gbT m c t) (zcT m c t) (midT m c t) (nextT m c t) (iota Kind.tc S256x512 32 [0] iota_S256x512_d0_w32) k0_pay12
    (k0_pay13 (uT m c t) (gcT m c t)) (prevT m c t)
    (View.ld (iblk m c 13 t) (Rect.unit ![0, 0] ![1, 512] inb_S8x512_S1x512_0_0)) (View.ld (iblk m c 13 t) (Rect.unit ![1, 0] ![1, 512] inb_S8x512_S1x512_1_0))
    (View.ld (iblk m c 13 t) (Rect.unit ![2, 0] ![1, 512] inb_S8x512_S1x512_2_0)) (iblk m c 14 t)
/-- The block's output. -/
def outT : FVec F S256x1024 .f32 :=
  k0_pay33 (ycT m c t) (k0_pay22 (iblk m c 3 t) (iblk m c 4 t) (iblk m c 5 t)) (k0_pay23 (iblk m c 3 t) (iblk m c 4 t) (iblk m c 5 t))
    (k0_pay24 (iblk m c 3 t) (iblk m c 4 t) (iblk m c 5 t)) (iblk m c 0 t) (iblk m c 1 t) (iblk m c 2 t) (iblk m c 9 t) (iblk m c 10 t) (iblk m c 12 t)
/-- The gradient in the convolution branch. -/
def dzT : FVec F S256x512 .f32 := k0_pay47 (gbT m c t) (k0_pay19 (zcT m c t)) (k0_pay38 (outT m c t) (iblk m c 11 t) (iblk m c 12 t))

end Cert.Proof.CombineRun

end
-- ==== Proof.CombineTaps.lean ====
module

public import proofs.«01_k».proof.Proof.CombineTile
public import Idealize.ShloMosaic.Lib.WritesUnit

@[expose] public section

set_option maxRecDepth 16384

noncomputable section

namespace Cert.Proof.CombineRun

open Cert.CombineIdeal Cert.CombineIdeal.Gen
open Idealize.ShloMosaic Idealize.ShloMosaic.TcCoe

variable {F : FTy → Type} [FloatOps F]
variable (m : (ℓ : Loc nD τ sig) → Buf (Elt F) ℓ) (c : Dev nD) (t : Fin cfg0.N)

/-! ## What the body leaves in the three accumulators -/

theorem lossA (h : t.val % 64 = 0) :
    (outsA m c t h).2.2.2.2.2.2.2.2.1 = k0_pay35 (outT m c t) (iblk m c 11 t) k0_pay5 := by
  unfold outsA atA runA
  frame_out
  rfl

theorem biasA (h : t.val % 64 = 0) : (outsA m c t h).2.2.2.2.2.2.2.2.2.1 = k0_pay1 (dzT m c t) k0_pay6 := by
  unfold outsA atA runA
  frame_out
  rfl

theorem lossB (h : ¬t.val % 64 = 0) (a : Vec F S1x128 .f32) (b : Vec F S1x512 .f32) (d : Vec F S8x512 .f32) :
    (outsB m c t h a b d).2.2.2.2.2.2.2.2.1 = k0_pay35 (outT m c t) (iblk m c 11 t) a := by
  unfold outsB atB runB
  frame_out
  rfl

theorem biasB (h : ¬t.val % 64 = 0) (a : Vec F S1x128 .f32) (b : Vec F S1x512 .f32) (d : Vec F S8x512 .f32) :
    (outsB m c t h a b d).2.2.2.2.2.2.2.2.2.1 = k0_pay1 (dzT m c t) b := by
  unfold outsB atB runB
  frame_out
  rfl

/-- Row 0 of a block of taps. -/
def row0 (d : Vec F S8x512 .f32) : Vec F S1x512 .f32 := View.ld d (Rect.unit ![0, 0] ![1, 512] inb_S8x512_S1x512_0_0)

theorem row0_at (d : Vec F S8x512 .f32) (j : Fin 512) : row0 d (ix2 0 j) = d (ix2 0 j) := by
  unfold row0
  pointwise

/-- Row 1 of a block of taps. -/
def row1 (d : Vec F S8x512 .f32) : Vec F S1x512 .f32 := View.ld d (Rect.unit ![1, 0] ![1, 512] inb_S8x512_S1x512_1_0)

theorem row1_at (d : Vec F S8x512 .f32) (j : Fin 512) : row1 d (ix2 0 j) = d (ix2 1 j) := by
  unfold row1
  pointwise

/-- Row 2 of a block of taps. -/
def row2 (d : Vec F S8x512 .f32) : Vec F S1x512 .f32 := View.ld d (Rect.unit ![2, 0] ![1, 512] inb_S8x512_S1x512_2_0)

theorem row2_at (d : Vec F S8x512 .f32) (j : Fin 512) : row2 d (ix2 0 j) = d (ix2 2 j) := by
  unfold row2
  pointwise

theorem tapsA (h : t.val % 64 = 0) :
    (outsA m c t h).2.2.2.2.2.2.2.2.2.2 = View.canon
      [⟨Rect.unit ![2, 0] ![1, 512] inb_S8x512_S1x512_2_0,
          k0_pay4 (dnT m c t) (dzT m c t) (row2 k0_pay7)⟩,
        ⟨Rect.unit ![1, 0] ![1, 512] inb_S8x512_S1x512_1_0,
          k0_pay3 (midT m c t) (dzT m c t) (row1 k0_pay7)⟩,
        ⟨Rect.unit ![0, 0] ![1, 512] inb_S8x512_S1x512_0_0,
          k0_pay2 (upT m c t) (dzT m c t) (row0 k0_pay7)⟩,
        ⟨Rect.unit ![0, 0] ![8, 512] inb_S8x512_S8x512_0_0, k0_pay7⟩] := by
  unfold outsA atA runA
  frame_open
  simp (disch := decide) only [↓ View.readCov_skip, ↓ View.readCov_cons_toLoadRect, ↓ View.readCov_fill]
  frame_out
  rfl

theorem tapsB (h : ¬t.val % 64 = 0) (a : Vec F S1x128 .f32) (b : Vec F S1x512 .f32) (d : Vec F S8x512 .f32) :
    (outsB m c t h a b d).2.2.2.2.2.2.2.2.2.2 = View.read (Elt F) (ms0_26 t).view ((ms0_26 t).view.writes (Elt F) ((hs0_26 t).unread d)
      [⟨Rect.unit ![2, 0] ![1, 512] inb_S8x512_S1x512_2_0,
          k0_pay4 (dnT m c t) (dzT m c t) (row2 d)⟩,
        ⟨Rect.unit ![1, 0] ![1, 512] inb_S8x512_S1x512_1_0,
          k0_pay3 (midT m c t) (dzT m c t) (row1 d)⟩,
        ⟨Rect.unit ![0, 0] ![1, 512] inb_S8x512_S1x512_0_0,
          k0_pay2 (upT m c t) (dzT m c t) (row0 d)⟩]) := by
  unfold outsB atB runB
  frame_out
  rfl

/-- A held block, stored over on its first three rows, element by element. -/
theorem held_rows {sig : RefSig} {κ : Kind} {sp : Space} (v : View sig κ sp S8x512 .f32) (f : v.ty.Contents (Elt F))
    (w0 w1 w2 : Vec F S1x512 .f32) (L : List (View.Piece (Elt F) S8x512 .f32)) (k : Fin 8) (j : Fin 512) :
    View.read (Elt F) v (v.writes (Elt F) f
      (⟨Rect.unit ![2, 0] ![1, 512] inb_S8x512_S1x512_2_0, w2⟩ :: ⟨Rect.unit ![1, 0] ![1, 512] inb_S8x512_S1x512_1_0, w1⟩ ::
        ⟨Rect.unit ![0, 0] ![1, 512] inb_S8x512_S1x512_0_0, w0⟩ :: L)) (ix2 k j)
      = if k.val = 2 then w2 (ix2 0 j) else if k.val = 1 then w1 (ix2 0 j) else if k.val = 0 then w0 (ix2 0 j)
        else View.read (Elt F) v (v.writes (Elt F) f L) (ix2 k j) := by
  by_cases h2 : k.val = 2
  · rw [if_pos h2]
    exact View.read_writes_cons_rows_of_mem v f _ w2 _ (ix2 k j) (ix2 0 j) rfl h2 rfl
  rw [if_neg h2]
  refine (View.read_writes_cons_rows_of_not_mem v f _ w2 _ (ix2 k j) rfl rfl (by show k.val < 2 ∨ 2 + 1 ≤ k.val; omega)).trans ?_
  by_cases h1 : k.val = 1
  · rw [if_pos h1]
    exact View.read_writes_cons_rows_of_mem v f _ w1 _ (ix2 k j) (ix2 0 j) rfl h1 rfl
  rw [if_neg h1]
  refine (View.read_writes_cons_rows_of_not_mem v f _ w1 _ (ix2 k j) rfl rfl (by show k.val < 1 ∨ 1 + 1 ≤ k.val; omega)).trans ?_
  by_cases h0 : k.val = 0
  · rw [if_pos h0]
    exact View.read_writes_cons_rows_of_mem v f _ w0 _ (ix2 k j) (ix2 0 j) rfl h0 rfl
  rw [if_neg h0]
  exact View.read_writes_cons_rows_of_not_mem v f _ w0 _ (ix2 k j) rfl rfl (by show k.val < 0 ∨ 0 + 1 ≤ k.val; omega)

/-- A block filled once, then stored over on its first three rows, element by element. -/
theorem filled_rows {sig : RefSig} {κ : Kind} {sp : Space} (v : View sig κ sp S8x512 .f32) (f : v.ty.Contents (Elt F))
    (z : Vec F S8x512 .f32) (w0 w1 w2 : Vec F S1x512 .f32) (k : Fin 8) (j : Fin 512) :
    View.canon (Val := Elt F) (s := S8x512) (e := .f32)
      [⟨Rect.unit ![2, 0] ![1, 512] inb_S8x512_S1x512_2_0, w2⟩, ⟨Rect.unit ![1, 0] ![1, 512] inb_S8x512_S1x512_1_0, w1⟩,
        ⟨Rect.unit ![0, 0] ![1, 512] inb_S8x512_S1x512_0_0, w0⟩, ⟨Rect.unit ![0, 0] ![8, 512] inb_S8x512_S8x512_0_0, z⟩] (ix2 k j)
      = if k.val = 2 then w2 (ix2 0 j) else if k.val = 1 then w1 (ix2 0 j) else if k.val = 0 then w0 (ix2 0 j) else z (ix2 k j) := by
  have hm : (ix2 k j : S8x512.Idx) ∈ (Rect.unit (s := S8x512) ![0, 0] ![8, 512] inb_S8x512_S8x512_0_0).set := by
    rw [Rect.mem_set_unit]
    exact Fin.forall_fin_two.mpr ⟨⟨Nat.zero_le _, by have := k.isLt; show k.val < 0 + 8; omega⟩,
      ⟨Nat.zero_le _, by have := j.isLt; show j.val < 0 + 512; omega⟩⟩
  refine (View.read_writes_apply_eq_canon v f (ix2 k j) _
    ⟨⟨Rect.unit (s := S8x512) ![0, 0] ![8, 512] inb_S8x512_S8x512_0_0, z⟩,
      List.mem_cons_of_mem _ (List.mem_cons_of_mem _ (List.mem_cons_of_mem _ List.mem_cons_self)), hm⟩).symm.trans ?_
  refine (held_rows v f w0 w1 w2 _ k j).trans ?_
  have hz : View.read (Elt F) v (v.writes (Elt F) f [⟨Rect.unit (s := S8x512) ![0, 0] ![8, 512] inb_S8x512_S8x512_0_0, z⟩]) (ix2 k j)
      = z (ix2 k j) :=
    View.read_writes_cons_rows_of_mem v f _ z [] (ix2 k j) (ix2 k j) rfl (Nat.zero_add _).symm rfl
  rw [hz]

/-- Row `k` of the taps after a point that resets them. -/
theorem tapsA_at (h : t.val % 64 = 0) (k : Fin 8) (j : Fin 512) :
    (outsA m c t h).2.2.2.2.2.2.2.2.2.2 (ix2 k j)
      = if k.val = 2 then k0_pay4 (dnT m c t) (dzT m c t) (row2 k0_pay7) (ix2 0 j)
        else if k.val = 1 then k0_pay3 (midT m c t) (dzT m c t) (row1 k0_pay7) (ix2 0 j)
        else if k.val = 0 then k0_pay2 (upT m c t) (dzT m c t) (row0 k0_pay7) (ix2 0 j)
        else k0_pay7 (ix2 k j) := by
  rw [tapsA]
  exact filled_rows (ms0_26 t).view ((hs0_26 t).unread k0_pay7) k0_pay7 _ _ _ k j

/-- Row `k` of the taps after any other point. -/
theorem tapsB_at (h : ¬t.val % 64 = 0) (a : Vec F S1x128 .f32) (b : Vec F S1x512 .f32) (d : Vec F S8x512 .f32) (k : Fin 8) (j : Fin 512) :
    (outsB m c t h a b d).2.2.2.2.2.2.2.2.2.2 (ix2 k j)
      = if k.val = 2 then k0_pay4 (dnT m c t) (dzT m c t) (row2 d) (ix2 0 j)
        else if k.val = 1 then k0_pay3 (midT m c t) (dzT m c t) (row1 d) (ix2 0 j)
        else if k.val = 0 then k0_pay2 (upT m c t) (dzT m c t) (row0 d) (ix2 0 j)
        else d (ix2 k j) := by
  rw [tapsB, held_rows, View.writes_nil, (hs0_26 t).read_unread]

end Cert.Proof.CombineRun

end
-- ==== Proof.CombineRef.lean ====
module

public import proofs.«01_k».proof.Proof.Gen.CombineReferenceIdeal.Run
public import proofs.«01_k».proof.Proof.CombineSpec
public import Idealize.ShloMosaic.Lib.Tactic.CleanTypes

@[expose] public section

set_option maxRecDepth 16384

noncomputable section

namespace Cert.Proof.CombineRef

open Cert.CombineReferenceIdeal Cert.CombineReferenceIdeal.Gen Cert.CombineReferenceIdeal.Value
open Cert.Proof
open Idealize.ShloMosaic Idealize.ShloMosaic.TcCoe Idealize.SL.Sem

abbrev Mem := (ℓ : Loc nD τ sig) → Buf (Elt Ideal) ℓ
abbrev V2 := FVec Ideal S16384x512 .f32

variable (m : Mem) (c : Dev nD)

/-- The reference's arguments as matrices. -/
def args : CombineSpec.Args where
  o1 := m ((c.tc : Thread nD τ).loc main_arg0)
  o4 := m ((c.tc : Thread nD τ).loc main_arg1)
  o16 := m ((c.tc : Thread nD τ).loc main_arg2)
  l1 := m ((c.tc : Thread nD τ).loc main_arg3)
  l4 := m ((c.tc : Thread nD τ).loc main_arg4)
  l16 := m ((c.tc : Thread nD τ).loc main_arg5)
  cg := m ((c.tc : Thread nD τ).loc main_arg6)
  vz := m ((c.tc : Thread nD τ).loc main_arg7)
  x := m ((c.tc : Thread nD τ).loc main_arg8)
  tgt := m ((c.tc : Thread nD τ).loc main_arg9)
  w := m ((c.tc : Thread nD τ).loc main_arg10)
  cw := m ((c.tc : Thread nD τ).loc main_arg11)
  cb := m ((c.tc : Thread nD τ).loc main_arg12)

/-! ## The reference's arrays, stage by stage -/

variable (A : CombineSpec.Args)

def cgV : FVec Ideal S16384x2048 .f32 := extf .f32 (show FVec Ideal S16384x2048 .bf16 from A.cg) bitsLt_bf16_f32
def gbV : V2 := extractStridedSlice S16384x512 ![0, 512] (cgV A) slices_S16384x2048_S16384x512_0_512
def zcV : V2 := extractStridedSlice S16384x512 ![0, 1536] (cgV A) slices_S16384x2048_S16384x512_0_1536
def zaV : V2 := extractStridedSlice S16384x512 ![0, 512] (extf .f32 (show FVec Ideal S16384x1024 .bf16 from A.vz) bitsLt_bf16_f32) slices_S16384x1024_S16384x512_0_512
def tapV : FVec Ideal S16386x512 .f32 :=
  pad S16386x512 ![1, 0] ![1, 0] ![0, 0] (mulf (extractStridedSlice S16384x512 ![0, 1024] (cgV A) slices_S16384x2048_S16384x512_0_1024) (extractStridedSlice S16384x512 ![0, 0] (cgV A) slices_S16384x2048_S16384x512_0_0)) (sitofp .f32 (constantI S_ 32 0#32)) pads_S16384x512_S16386x512_110_000 h_S_
def t0V : V2 := extractStridedSlice S16384x512 ![0, 0] (tapV A) slices_S16386x512_S16384x512_0_0
def t1V : V2 := extractStridedSlice S16384x512 ![1, 0] (tapV A) slices_S16386x512_S16384x512_1_0
def t2V : V2 := extractStridedSlice S16384x512 ![2, 0] (tapV A) slices_S16386x512_S16384x512_2_0
def zbV : V2 :=
  addf (addf (addf (mulf (broadcastInDim S16384x512 ![0, 1] bcast_S1x512_S16384x512_0_1 (extractStridedSlice S1x512 ![0, 0] (show FVec Ideal S8x512 .f32 from A.cw) slices_S8x512_S1x512_0_0)) (t0V A))
    (mulf (broadcastInDim S16384x512 ![0, 1] bcast_S1x512_S16384x512_0_1 (extractStridedSlice S1x512 ![1, 0] (show FVec Ideal S8x512 .f32 from A.cw) slices_S8x512_S1x512_1_0)) (t1V A)))
    (mulf (broadcastInDim S16384x512 ![0, 1] bcast_S1x512_S16384x512_0_1 (extractStridedSlice S1x512 ![2, 0] (show FVec Ideal S8x512 .f32 from A.cw) slices_S8x512_S1x512_2_0)) (t2V A)))
    (broadcastInDim S16384x512 ![0, 1] bcast_S1x512_S16384x512_0_1 (show FVec Ideal S1x512 .f32 from A.cb))
def silV (x : V2) : V2 :=
  mulf x (Host.divf (broadcastInDim S16384x512 ![] bcast_S_S16384x512 (constant S_ .f32 0x3F800000#32))
    (addf (broadcastInDim S16384x512 ![] bcast_S_S16384x512 (constant S_ .f32 0x3F800000#32)) (Host.exp (Host.negf x))))
def ycV : V2 := mulf (mulf (gbV A) (zbV A)) (silV (zcV A))
def lift (x : V2) : FVec Ideal S1x16384x512 .f32 := broadcastInDim S1x16384x512 ![1, 2] bcast_S16384x512_S1x16384x512_1_2 x
def stack3 (x y z : V2) : FVec Ideal S3x16384x512 .f32 :=
  concatenate S3x16384x512 0 [⟨S1x16384x512, lift x⟩, ⟨S1x16384x512, lift y⟩, ⟨S1x16384x512, lift z⟩] concatenates_S1x16384x512_S1x16384x512_S1x16384x512_S3x16384x512_d0
def lseV : FVec Ideal S3x16384x512 .f32 := stack3 A.l1 A.l4 A.l16
def outV : FVec Ideal S3x16384x512 .f32 :=
  stack3 (extf .f32 (show FVec Ideal S16384x512 .bf16 from A.o1) bitsLt_bf16_f32) (extf .f32 (show FVec Ideal S16384x512 .bf16 from A.o4) bitsLt_bf16_f32)
    (extf .f32 (show FVec Ideal S16384x512 .bf16 from A.o16) bitsLt_bf16_f32)
def over3 (x : V2) : FVec Ideal S3x16384x512 .f32 := broadcastInDim S3x16384x512 ![0, 1, 2] bcast_S1x16384x512_S3x16384x512_0_1_2 (lift x)
def topV : V2 :=
  maximumf (broadcastInDim S16384x512 ![] bcast_S_S16384x512 (constant S_ .f32 0xFF800000#32))
    (Host.reduce FloatOps.maximumf (lseV A) (constant S_ .f32 0xFF800000#32) reducesTo_S3x16384x512_S16384x512_d0 h_S_)
def expV : FVec Ideal S3x16384x512 .f32 := Host.exp (subf (lseV A) (over3 (topV A)))
def denV : V2 := Host.reduceAdd (expV A) (constant S_ .f32 0x00000000#32) reducesTo_S3x16384x512_S16384x512_d0 h_S_
def ooV : V2 :=
  Host.reduceAdd (mulf (Host.divf (expV A) (over3 (denV A))) (outV A)) (constant S_ .f32 0x00000000#32) reducesTo_S3x16384x512_S16384x512_d0 h_S_
def yyV : FVec Ideal S16384x1024 .f32 :=
  concatenate S16384x1024 1 [⟨S16384x512, ycV A⟩, ⟨S16384x512, mulf (ooV A) (silV (zaV A))⟩] concatenates_S16384x512_S16384x512_S16384x1024_d1
def wV : FVec Ideal S1024x1024 .f32 := extf .f32 (show FVec Ideal S1024x1024 .bf16 from A.w) bitsLt_bf16_f32
def diffV : FVec Ideal S16384x1024 .f32 :=
  subf (addf (show FVec Ideal S16384x1024 .f32 from A.x) (Host.dotGeneral dot_S16384x1024_S1024x1024_S16384x1024_1_0_0_1_n_n none (yyV A) (wV A)))
    (show FVec Ideal S16384x1024 .f32 from A.tgt)
def lossV : FVec Ideal S1x128 .f32 :=
  broadcastInDim S1x128 ![] bcast_S_S1x128 (mulf (constant S_ .f32 0x3F000000#32) (Host.reduceAdd (Host.divf
    (Host.reduceAdd (mulf (diffV A) (diffV A)) (constant S_ .f32 0x00000000#32) reducesTo_S16384x1024_S16384_d1 h_S_)
    (broadcastInDim S16384 ![] bcast_S_S16384 (constant S_ .f32 0x44800000#32))) (constant S_ .f32 0x00000000#32) reducesTo_S16384_S_d0 h_S_))
def dyV : FVec Ideal S16384x1024 .f32 :=
  Host.dotGeneral dot_S16384x1024_S1024x1024_S16384x1024_1_1_0_0_n_n none
    (mulf (broadcastInDim S16384x1024 ![0] bcast_S16384_S16384x1024_0 (Host.divf
        (broadcastInDim S16384 ![] bcast_S_S16384 (mulf (constant S_ .f32 0x3F000000#32) (constant S_ .f32 0x3F800000#32)))
        (broadcastInDim S16384 ![] bcast_S_S16384 (constant S_ .f32 0x44800000#32))))
      (mulf (broadcastInDim S16384x1024 ![] bcast_S_S16384x1024 (constant S_ .f32 0x40000000#32)) (diffV A))) (wV A)
def dzV : V2 := mulf (gbV A) (mulf (extractStridedSlice S16384x512 ![0, 0] (dyV A) slices_S16384x1024_S16384x512_0_0) (silV (zcV A)))
def rowsV (x : V2) : FVec Ideal S1x512 .f32 :=
  shapeCast S1x512 (Host.reduceAdd x (constant S_ .f32 0x00000000#32) reducesTo_S16384x512_S512_d0 h_S_) shapeCasts_S512_S1x512
def gradBV : FVec Ideal S1x512 .f32 := rowsV (dzV A)
def gradWV : FVec Ideal S8x512 .f32 :=
  addf (addf (pad S8x512 ![2, 0] ![5, 0] ![0, 0] (rowsV (mulf (dzV A) (t2V A))) (constant S_ .f32 0x00000000#32) pads_S1x512_S8x512_250_000 h_S_)
    (pad S8x512 ![1, 0] ![6, 0] ![0, 0] (rowsV (mulf (dzV A) (t1V A))) (constant S_ .f32 0x00000000#32) pads_S1x512_S8x512_160_000 h_S_))
    (pad S8x512 ![0, 0] ![7, 0] ![0, 0] (rowsV (mulf (dzV A) (t0V A))) (constant S_ .f32 0x00000000#32) pads_S1x512_S8x512_070_000 h_S_)

/-! ## What the reference returns, in those terms -/

theorem res_loss : res_out0 (F := Ideal) m c = lossV (args m c) := rfl
theorem res_gradB : res_out1 (F := Ideal) m c = gradBV (args m c) := rfl
theorem res_gradW : res_out2 (F := Ideal) m c = gradWV (args m c) := rfl

end Cert.Proof.CombineRef

end
-- ==== Proof.CombineRefAt.lean ====
module

public import proofs.«01_k».proof.Proof.CombineRef

@[expose] public section

set_option maxRecDepth 16384

noncomputable section

namespace Cert.Proof.CombineRef

open Cert.CombineReferenceIdeal Cert.CombineReferenceIdeal.Gen
open Cert.Proof
open Idealize.ShloMosaic

variable (A : CombineSpec.Args)

theorem tapV_at (p : Fin 16386) (j : Fin 512) : tapV A (ix2 p j) = CombineSpec.tap A p.val j := by
  pointwise [tapV, cgV, CombineSpec.tap]
  refine dite_congr (propext (by omega)) (fun _ => rfl) fun _ => ?_
  show ((((0#32 : BitVec 32).toInt : ℤ) : ℝ) : EReal) = 0
  simp

theorem silV_at (x : V2) (s : Fin 16384) (j : Fin 512) : silV x (ix2 s j) = CombineSpec.sil (x (ix2 s j)) := by
  pointwise [silV, CombineSpec.sil]

theorem zbV_at (s : Fin 16384) (j : Fin 512) : zbV A (ix2 s j) = CombineSpec.zb A s j := by
  unfold zbV
  pointwise [t0V, t1V, t2V, tapV_at, CombineSpec.zb]
  simp only [Nat.add_comm]

theorem gbV_at (s : Fin 16384) (j : Fin 512) : gbV A (ix2 s j) = CombineSpec.gb A s j := by
  pointwise [gbV, cgV, CombineSpec.gb]

theorem zcV_at (s : Fin 16384) (j : Fin 512) : zcV A (ix2 s j) = CombineSpec.zc A s j := by
  pointwise [zcV, cgV, CombineSpec.zc]

theorem ycV_at (s : Fin 16384) (j : Fin 512) : ycV A (ix2 s j) = CombineSpec.yc A s j := by
  unfold ycV CombineSpec.yc
  pointwise [silV_at, gbV_at, zcV_at, zbV_at]

theorem stack3_at (x y z : V2) (k : Fin 3) (s : Fin 16384) (j : Fin 512) :
    stack3 x y z (ix3 k s j) = if k.val = 0 then x (ix2 s j) else if k.val = 1 then y (ix2 s j) else z (ix2 s j) := by
  pointwise [stack3, lift]
  split_ifs <;> first | rfl | omega

/-! ## The softmax over the three branches -/

/-- From −∞ the maximum over a leading axis of three is the largest of the three. -/
theorem max3 {a b : ℕ} (x : FVec Ideal ⟨3, ![3, a, b]⟩ .f32) (h : (⟨3, ![3, a, b]⟩ : Shape).ReducesTo [0] ⟨2, ![a, b]⟩)
    (hu : 0 < (⟨0, ![]⟩ : Shape).numel) (y : FVec Ideal ⟨2, ![a, b]⟩ .f32) (hy : ∀ i, y i = Ideal.ofBits .f32 0xFF800000#32) (s : Fin a) (j : Fin b) :
    maximumf y (Host.reduce FloatOps.maximumf x (constant (⟨0, ![]⟩ : Shape) .f32 0xFF800000#32) h hu) (ix2 s j)
      = max (max (x (ix3 0 s j)) (x (ix3 1 s j))) (x (ix3 2 s j)) := by
  have hb : Ideal.ofBits .f32 0xFF800000#32 = ⊥ := by simp [Ideal.ofBits, Ideal.ieee]
  pointwise
  have e : (Finset.univ : Finset (Fin 3)) = {0, 1, 2} := by decide
  rw [e, Finset.fold_insert (by decide), Finset.fold_insert (by decide), Finset.fold_singleton, hy, hb]
  simp only [bot_le, sup_of_le_right, sup_of_le_left, max_eq_left, max_eq_right, max_assoc]

theorem topV_max (s : Fin 16384) (j : Fin 512) :
    topV A (ix2 s j) = max (max (lseV A (ix3 0 s j)) (lseV A (ix3 1 s j))) (lseV A (ix3 2 s j)) := by
  unfold topV
  generalize lseV A = x
  exact max3 x _ _ _ (fun _ => rfl) s j

theorem topV_at (s : Fin 16384) (j : Fin 512) : topV A (ix2 s j) = CombineSpec.top A s j := by
  rw [topV_max]
  unfold lseV CombineSpec.top
  rw [stack3_at, stack3_at, stack3_at]
  simp

/-- The log-sum-exps are real numbers. -/
def Fin3 : Prop := ∀ s : Fin 16384, ∀ j : Fin 512, ∃ a b c : ℝ, A.l1 (ix2 s j) = ↑a ∧ A.l4 (ix2 s j) = ↑b ∧ A.l16 (ix2 s j) = ↑c

theorem expV_at (k : Fin 3) (s : Fin 16384) (j : Fin 512) : expV A (ix3 k s j) =
    if k.val = 0 then CombineSpec.e1 A s j else if k.val = 1 then CombineSpec.e4 A s j else CombineSpec.e16 A s j := by
  unfold expV
  pointwise [lseV, over3, lift, stack3_at, topV_at]
  split_ifs <;> rfl

theorem denV_at (s : Fin 16384) (j : Fin 512) : denV A (ix2 s j) = CombineSpec.e1 A s j + CombineSpec.e4 A s j + CombineSpec.e16 A s j := by
  unfold denV
  pointwise [expV_at]
  simp [Fin.sum_univ_three]

/-- With real log-sum-exps each weight is a positive real. -/
theorem exps_real {A : CombineSpec.Args} (hA : Fin3 A) (s : Fin 16384) (j : Fin 512) : ∃ a b c : ℝ, 0 < a ∧ 0 < b ∧ 0 < c ∧
    CombineSpec.e1 A s j = ↑a ∧ CombineSpec.e4 A s j = ↑b ∧ CombineSpec.e16 A s j = ↑c := by
  obtain ⟨a, b, c, ha, hb, hc⟩ := hA s j
  have ht : CombineSpec.top A s j = ↑(max (max a b) c) := by
    simp only [CombineSpec.top, ha, hb, hc]
    exact ((EReal.coe_strictMono.monotone.map_max).trans (congrArg (max · _) EReal.coe_strictMono.monotone.map_max)).symm
  refine ⟨Real.exp (a - max (max a b) c), Real.exp (b - max (max a b) c), Real.exp (c - max (max a b) c),
    Real.exp_pos _, Real.exp_pos _, Real.exp_pos _, ?_, ?_, ?_⟩
  · rw [CombineSpec.e1, ht, ha, ← EReal.coe_sub]; rfl
  · rw [CombineSpec.e4, ht, hb, ← EReal.coe_sub]; rfl
  · rw [CombineSpec.e16, ht, hc, ← EReal.coe_sub]; rfl

theorem mix (a b c : ℝ) (ha : 0 < a) (hb : 0 < b) (hc : 0 < c) (x y z : EReal) :
    Ideal.div ↑a (↑a + ↑b + ↑c) * x + Ideal.div ↑b (↑a + ↑b + ↑c) * y + Ideal.div ↑c (↑a + ↑b + ↑c) * z
      = Ideal.div (↑a * x + ↑b * y + ↑c * z) (↑a + ↑b + ↑c : EReal) := by
  have h : ((a : EReal) + ↑b + ↑c) = ((a + b + c : ℝ) : EReal) := by push_cast; rfl
  have hn : a + b + c ≠ 0 := by positivity
  have hp : (0 : EReal) ≤ ((1 / (a + b + c) : ℝ) : EReal) := by exact_mod_cast (by positivity)
  rw [h]
  simp only [Ideal.div_coe hn]
  rw [EReal.right_distrib_of_nonneg_of_ne_top hp (EReal.coe_ne_top _), EReal.right_distrib_of_nonneg_of_ne_top hp (EReal.coe_ne_top _)]
  simp only [mul_right_comm _ _ ((1 / (a + b + c) : ℝ) : EReal)]

theorem ooV_at (hA : Fin3 A) (s : Fin 16384) (j : Fin 512) : ooV A (ix2 s j) = CombineSpec.oo A s j := by
  unfold ooV
  pointwise [expV_at, over3, lift, denV_at, outV, stack3_at]
  obtain ⟨a, b, c, ha, hb, hc, h1, h4, h16⟩ := exps_real hA s j
  simp only [Fin.sum_univ_three, CombineSpec.oo, h1, h4, h16]
  exact mix a b c ha hb hc _ _ _

theorem diffV_at (hA : Fin3 A) (s : Fin 16384) (d : Fin 1024) : diffV A (ix2 s d) = CombineSpec.diff A s d := by
  unfold diffV
  pointwise [yyV, ycV_at, silV_at, ooV_at A hA, zaV, wV]
  unfold CombineSpec.diff CombineSpec.yy
  refine congrArg₂ (· - ·) (congrArg₂ (· + ·) rfl ?_) rfl
  rw [Fin.sum_univ_two_halves 512 512 rfl]
  refine congrArg₂ (· + ·) (Finset.sum_congr rfl fun k _ => ?_) (Finset.sum_congr rfl fun k _ => ?_)
  · rw [dif_pos k.isLt]
  · rw [dif_neg (by simp)]
    simp only [CombineSpec.ya, Nat.add_sub_cancel_left]

/-! ## The scalars -/

theorem w_half : Ideal.ofBits .f32 0x3F000000#32 = ((1 / 2 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_r1024 : Ideal.ofBits .f32 0x3A800000#32 = ((1 / 1024 : ℝ) : EReal) := by
  simp [Ideal.ofBits, Ideal.ieee, -EReal.coe_mul]; norm_num
theorem w_r2048 : Ideal.ofBits .f32 0x3A000000#32 = ((1 / 2048 : ℝ) : EReal) := by
  simp [Ideal.ofBits, Ideal.ieee, -EReal.coe_mul]; norm_num

/-- A nonnegative real distributes over a sum of extended reals. -/
theorem real_mul_sum {ι : Type*} (r : ℝ) (hr : 0 ≤ r) (u : Finset ι) (f : ι → EReal) : (r : EReal) * ∑ i ∈ u, f i = ∑ i ∈ u, (r : EReal) * f i := by
  classical
  induction u using Finset.induction_on with
  | empty => simp
  | insert a u ha ih =>
    rw [Finset.sum_insert ha, Finset.sum_insert ha, ← ih]
    exact EReal.left_distrib_of_nonneg_of_ne_top (by exact_mod_cast hr) (EReal.coe_ne_top _) _ _

theorem lossV_at (hA : Fin3 A) (l : Fin 128) : lossV A (ix2 0 l) = CombineSpec.loss A := by
  unfold lossV
  pointwise [diffV_at A hA]
  rw [w_half, w_1024, CombineSpec.loss, real_mul_sum _ (by norm_num)]
  refine Finset.sum_congr rfl fun s _ => ?_
  rw [Ideal.div_coe (by norm_num), w_r2048, mul_comm _ ((1 / 1024 : ℝ) : EReal), ← mul_assoc, ← EReal.coe_mul]
  norm_num

theorem dzV_at (hA : Fin3 A) (s : Fin 16384) (j : Fin 512) : dzV A (ix2 s j) = CombineSpec.dz A s j := by
  unfold dzV
  pointwise [dyV, diffV_at A hA, silV_at, zcV_at, gbV_at, wV]
  rw [CombineSpec.dz, mul_comm]
  refine congrArg₂ (· * ·) (congrArg₂ (· * ·) (Finset.sum_congr rfl fun d _ => congrArg₂ (· * ·) ?_ rfl) rfl) rfl
  rw [w_half, w_1024, w_two, w_r1024, Ideal.div_coe (by norm_num), ← mul_assoc, ← EReal.coe_mul, ← EReal.coe_mul, mul_comm]
  norm_num

theorem gradBV_at (hA : Fin3 A) (j : Fin 512) : gradBV A (ix2 0 j) = CombineSpec.gradB A j := by
  unfold gradBV
  pointwise [rowsV, dzV_at A hA]
  rfl

theorem gradWV_at (hA : Fin3 A) (k : Fin 8) (j : Fin 512) : gradWV A (ix2 k j) = if k.val < 3 then CombineSpec.gradW A k.val j else 0 := by
  unfold gradWV
  pointwise [rowsV, dzV_at A hA, t0V, t1V, t2V, tapV_at]
  fin_cases k <;> simp [CombineSpec.gradW, add_comm]

end Cert.Proof.CombineRef

end
-- ==== Proof.CombineTileAt.lean ====
module

public import proofs.«01_k».proof.Proof.CombineTile
public import proofs.«01_k».proof.Proof.CombineRefAt

@[expose] public section

set_option maxRecDepth 16384

noncomputable section

namespace Cert.Proof.CombineRun

open Cert.CombineIdeal Cert.CombineIdeal.Gen
open Idealize.ShloMosaic Idealize.ShloMosaic.TcCoe
open Cert.Proof

/-! ## The body's arrays at a point, element by element -/

variable (m : (ℓ : Loc nD τ sig) → Buf (Elt Ideal) ℓ) (c : Dev nD) (t : Fin cfg0.N)

/-- The call's arguments, as the specification reads them. -/
def kargs : CombineSpec.Args where
  o1 := m ((c : Thread nD τ).loc main_arg0)
  o4 := m ((c : Thread nD τ).loc main_arg1)
  o16 := m ((c : Thread nD τ).loc main_arg2)
  l1 := m ((c : Thread nD τ).loc main_arg3)
  l4 := m ((c : Thread nD τ).loc main_arg4)
  l16 := m ((c : Thread nD τ).loc main_arg5)
  cg := m ((c : Thread nD τ).loc main_arg6)
  vz := m ((c : Thread nD τ).loc main_arg7)
  x := m ((c : Thread nD τ).loc main_arg8)
  tgt := m ((c : Thread nD τ).loc main_arg9)
  w := m ((c : Thread nD τ).loc main_arg10)
  cw := m ((c : Thread nD τ).loc main_arg11)
  cb := m ((c : Thread nD τ).loc main_arg12)

theorem idxRow : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_9.index t = ![t.val, 1] ∧ win0_10.index t = ![t.val, 0] ∧ win0_11.index t = ![t.val, 0] := by
  decide +kernel

theorem idxHalo : ∀ t : Fin cfg0.N, win0_7.index t = ![16 * t.val - 1, 0] ∧ win0_8.index t = ![min (16 * (t.val + 1)) 1023, 0] := by
  decide +kernel

theorem idxWhole : ∀ t : Fin cfg0.N, win0_12.index t = ![0, 0] ∧ win0_13.index t = ![0, 0] ∧ win0_14.index t = ![0, 0] := by
  decide +kernel

theorem lt_t : t.val < 64 := t.isLt

/-- The sequence's row under the tile's row `r`. -/
def row (r : Fin 256) : Fin 16384 := ⟨256 * t.val + r.val, by have := lt_t t; omega⟩

theorem mid_at (r : Fin 256) (j : Fin 512) :
    midT m c t (ix2 r j) = CombineSpec.tap (kargs m c) ((row t r).val + 1) j := by
  have ht := lt_t t
  unfold midT k0_pay10 uT gcT CombineSpec.tap
  rw [dif_pos ⟨by omega, by have := (row t r).isLt; omega⟩]
  unfold row kargs
  pointwise
  blk_point [iblk, V, idxRow t]

theorem gb_at (r : Fin 256) (j : Fin 512) : gbT m c t (ix2 r j) = CombineSpec.gb (kargs m c) (row t r) j := by
  unfold gbT k0_pay8 CombineSpec.gb row kargs
  pointwise
  blk_point [iblk, V, idxRow t]

theorem zc_at (r : Fin 256) (j : Fin 512) : zcT m c t (ix2 r j) = CombineSpec.zc (kargs m c) (row t r) j := by
  unfold zcT k0_pay9 CombineSpec.zc row kargs
  pointwise
  blk_point [iblk, V, idxRow t]

/-- A choice on a counter being a given number. -/
theorem pick {α : Type} (n k : ℕ) (hn : n < 256) (hk : k < 256) (a b : α) :
    Scalar.select (IntOp.cmpi .eq (BitVec.ofNat 32 n) (BitVec.ofNat 32 k)) a b = if n = k then a else b := by
  have h : IntOp.cmpi .eq (BitVec.ofNat 32 n) (BitVec.ofNat 32 k) = BitVec.ofBool (decide (n = k)) := by
    show BitVec.ofBool (BitVec.ofNat 32 n == BitVec.ofNat 32 k) = _
    congr 1
    rw [beq_eq_decide, decide_eq_decide, ← BitVec.toNat_inj, BitVec.toNat_ofNat, BitVec.toNat_ofNat]
    omega
  rw [h]
  by_cases e : n = k
  · rw [if_pos e, decide_eq_true e]; rfl
  · rw [if_neg e, decide_eq_false e]; rfl

theorem coord : ∀ t : Fin cfg0.N, (grid0.coords t 0).val = t.val := by decide +kernel

theorem next_at (j : Fin 512) : nextT m c t (ix2 0 j) = CombineSpec.tap (kargs m c) (256 * t.val + 257) j := by
  have ht := lt_t t
  unfold nextT k0_pay11 CombineSpec.tap
  pointwise
  rw [coord]
  refine (pick t.val 63 (by omega) (by omega) _ _).trans ?_
  by_cases h : t.val = 63
  · rw [if_pos h, dif_neg (by omega)]
  · rw [if_neg h, dif_pos (by omega), mul_comm]
    unfold kargs
    blk_point [iblk, V, idxHalo t]

theorem prev_at (r : Fin 256) (j : Fin 512) : prevT m c t (ix2 r j) = CombineSpec.tap (kargs m c) (256 * t.val) j := by
  have ht := lt_t t
  unfold prevT k0_pay14 CombineSpec.tap
  pointwise
  rw [coord]
  refine (pick t.val 0 (by omega) (by omega) _ _).trans ?_
  by_cases h : t.val = 0
  · rw [if_pos h, dif_neg (by omega)]
  · rw [if_neg h, dif_pos (by omega), mul_comm]
    unfold kargs
    blk_point [iblk, V, idxHalo t]

theorem up_at (r : Fin 256) (j : Fin 512) : upT m c t (ix2 r j) = CombineSpec.tap (kargs m c) (row t r).val j := by
  have ht := lt_t t
  unfold upT k0_pay15 k0_pay12 k0_pay13
  rw [show k0_pay10 (uT m c t) (gcT m c t) = midT m c t from rfl]
  pointwise
  refine (pick r.val 0 (by omega) (by omega) _ _).trans ?_
  by_cases h : r.val = 0
  · rw [if_pos h, prev_at]
    congr 1
    show _ = 256 * t.val + r.val
    omega
  · rw [if_neg h, mid_at]
    congr 1
    show 256 * t.val + (r.val + 256 - 1) % 256 + 1 = 256 * t.val + r.val
    omega

theorem dn_at (r : Fin 256) (j : Fin 512) : dnT m c t (ix2 r j) = CombineSpec.tap (kargs m c) ((row t r).val + 2) j := by
  have ht := lt_t t
  unfold dnT k0_pay16
  pointwise
  refine (pick r.val 255 (by omega) (by omega) _ _).trans ?_
  by_cases h : r.val = 255
  · rw [if_pos h, next_at]
    congr 1
    show _ = 256 * t.val + r.val + 2
    omega
  · rw [if_neg h, mid_at]
    congr 1
    show 256 * t.val + (r.val + 256 - 255) % 256 + 1 = 256 * t.val + r.val + 2
    omega

theorem sil_at (x : FVec Ideal S256x512 .f32) (r : Fin 256) (j : Fin 512) :
    k0_pay19 x (ix2 r j) = CombineSpec.sil (x (ix2 r j)) := by
  unfold k0_pay19 k0_pay18 CombineSpec.sil
  pointwise
  rw [zero_sub]

theorem gate_at (x : Vec Ideal S256x512 .bf16) (r : Fin 256) (j : Fin 512) :
    k0_pay31 x (ix2 r j) = CombineSpec.sil (x (ix2 r j)) := by
  unfold k0_pay31 k0_pay30 k0_pay29 CombineSpec.sil
  pointwise
  rw [zero_sub]

theorem cw_at (k : Fin 8) (j : Fin 512) : iblk m c 13 t (ix2 k j) = (kargs m c).cw (ix2 k j) := by
  unfold kargs
  blk_point [iblk, V, idxWhole t]

theorem cb_at (j : Fin 512) : iblk m c 14 t (ix2 0 j) = (kargs m c).cb (ix2 0 j) := by
  unfold kargs
  blk_point [iblk, V, idxWhole t]

theorem yc_at (r : Fin 256) (j : Fin 512) : ycT m c t (ix2 r j) = CombineSpec.yc (kargs m c) (row t r) j := by
  unfold ycT k0_pay20 k0_pay17 CombineSpec.yc CombineSpec.zb
  rw [show k0_pay15 k0_pay12 (k0_pay13 (uT m c t) (gcT m c t)) (prevT m c t) = upT m c t from rfl,
    show k0_pay16 (midT m c t) (nextT m c t) (iota Kind.tc S256x512 32 [0] iota_S256x512_d0_w32) = dnT m c t from rfl]
  pointwise
  rw [gb_at, up_at, mid_at, dn_at, sil_at, zc_at, cb_at]
  exact congrArg (fun x => CombineSpec.gb (kargs m c) (row t r) j * (x + (kargs m c).cb (ix2 0 j)) * _)
    (by rw [← cw_at m c t 0 j, ← cw_at m c t 1 j, ← cw_at m c t 2 j])

/-- The attention branch of the tile. -/
def yaT : FVec Ideal S256x512 .f32 :=
  mulf (k0_pay28 (k0_pay22 (iblk m c 3 t) (iblk m c 4 t) (iblk m c 5 t)) (k0_pay23 (iblk m c 3 t) (iblk m c 4 t) (iblk m c 5 t))
    (k0_pay24 (iblk m c 3 t) (iblk m c 4 t) (iblk m c 5 t)) (iblk m c 0 t) (iblk m c 1 t) (iblk m c 2 t)) (k0_pay31 (iblk m c 9 t))

theorem ya_at (r : Fin 256) (j : Fin 512) : yaT m c t (ix2 r j) = CombineSpec.ya (kargs m c) (row t r) j := by
  unfold yaT k0_pay28 k0_pay26 k0_pay25 k0_pay22 k0_pay23 k0_pay24 k0_pay21 CombineSpec.ya CombineSpec.oo CombineSpec.e1 CombineSpec.e4
    CombineSpec.e16 CombineSpec.top
  pointwise
  rw [gate_at]
  unfold row kargs
  blk_point [iblk, V, idxRow t]

theorem w_at (k d : Fin 1024) : iblk m c 12 t (ix2 k d) = (kargs m c).w (ix2 k d) := by
  unfold kargs
  blk_point [iblk, V, idxWhole t]

theorem x_at (r : Fin 256) (d : Fin 1024) : iblk m c 10 t (ix2 r d) = (kargs m c).x (ix2 (row t r) d) := by
  unfold row kargs
  blk_point [iblk, V, idxRow t]

theorem tgt_at (r : Fin 256) (d : Fin 1024) : iblk m c 11 t (ix2 r d) = (kargs m c).tgt (ix2 (row t r) d) := by
  unfold row kargs
  blk_point [iblk, V, idxRow t]

theorem out_at (r : Fin 256) (d : Fin 1024) : outT m c t (ix2 r d)
    = (kargs m c).x (ix2 (row t r) d) + ∑ k : Fin 1024, CombineSpec.yy (kargs m c) (row t r) k * (kargs m c).w (ix2 k d) := by
  unfold outT k0_pay33 k0_pay32
  pointwise
  rw [x_at, Fin.sum_univ_two_halves 512 512 rfl]
  refine congrArg (_ + ·) (congrArg₂ (· + ·) ?_ ?_)
  · refine Finset.sum_congr rfl fun k _ => ?_
    rw [yc_at, w_at]
    refine congrArg (· * _) ?_
    unfold CombineSpec.yy
    rw [dif_pos (by show k.val < 512; omega)]
  · refine Finset.sum_congr rfl fun k _ => ?_
    rw [w_at]
    refine congrArg (· * _) ((ya_at m c t r k).trans ?_)
    unfold CombineSpec.yy
    rw [dif_neg (by show ¬(512 + k.val < 512); omega)]
    congr 1
    exact Fin.ext (by show k.val = 512 + k.val - 512; omega)

theorem diff_at (r : Fin 256) (d : Fin 1024) :
    k0_pay34 (outT m c t) (iblk m c 11 t) (ix2 r d) = CombineSpec.diff (kargs m c) (row t r) d := by
  unfold k0_pay34 CombineSpec.diff
  pointwise
  rw [out_at, tgt_at]

theorem dz_at (r : Fin 256) (j : Fin 512) : dzT m c t (ix2 r j) = CombineSpec.dz (kargs m c) (row t r) j := by
  unfold dzT k0_pay47 k0_pay38 k0_pay37 k0_pay36 CombineSpec.dz
  pointwise
  rw [sil_at, gb_at, zc_at]
  refine congrArg (· * _ * _) (Finset.sum_congr rfl fun d _ => ?_)
  rw [diff_at, w_at]

/-- What a point adds to the loss. -/
def lossTerm : EReal := ∑ r : Fin 256, Ideal.ofBits .f32 0x3A000000#32 *
  ∑ d : Fin 1024, CombineSpec.diff (kargs m c) (row t r) d * CombineSpec.diff (kargs m c) (row t r) d

/-- What a point adds to the bias's gradient. -/
def biasTerm (j : Fin 512) : EReal := ∑ r : Fin 256, CombineSpec.dz (kargs m c) (row t r) j

/-- What a point adds to tap `k`'s gradient. -/
def tapTerm (k : ℕ) (j : Fin 512) : EReal :=
  ∑ r : Fin 256, CombineSpec.dz (kargs m c) (row t r) j * CombineSpec.tap (kargs m c) ((row t r).val + k) j

theorem loss_at (a : Vec Ideal S1x128 .f32) (l : Fin 128) :
    k0_pay35 (outT m c t) (iblk m c 11 t) a (ix2 0 l) = a (ix2 0 l) + lossTerm m c t := by
  unfold k0_pay35 lossTerm
  pointwise
  simp only [diff_at, CombineRef.w_r2048]
  rw [CombineRef.real_mul_sum _ (by norm_num)]

theorem bias_at (b : Vec Ideal S1x512 .f32) (j : Fin 512) : k0_pay1 (dzT m c t) b (ix2 0 j) = b (ix2 0 j) + biasTerm m c t j := by
  unfold k0_pay1 biasTerm
  pointwise
  simp only [dz_at]

theorem tap0_at (b : Vec Ideal S1x512 .f32) (j : Fin 512) :
    k0_pay2 (upT m c t) (dzT m c t) b (ix2 0 j) = b (ix2 0 j) + tapTerm m c t 0 j := by
  unfold k0_pay2 tapTerm
  pointwise
  simp only [dz_at, up_at, Nat.add_zero]

theorem tap1_at (b : Vec Ideal S1x512 .f32) (j : Fin 512) :
    k0_pay3 (midT m c t) (dzT m c t) b (ix2 0 j) = b (ix2 0 j) + tapTerm m c t 1 j := by
  unfold k0_pay3 tapTerm
  pointwise
  simp only [dz_at, mid_at]

theorem tap2_at (b : Vec Ideal S1x512 .f32) (j : Fin 512) :
    k0_pay4 (dnT m c t) (dzT m c t) b (ix2 0 j) = b (ix2 0 j) + tapTerm m c t 2 j := by
  unfold k0_pay4 tapTerm
  pointwise
  simp only [dz_at, dn_at]

end Cert.Proof.CombineRun

end
-- ==== Proof.CombineValue.lean ====
module

public import proofs.«01_k».proof.Proof.CombineTaps
public import proofs.«01_k».proof.Proof.CombineTileAt

@[expose] public section

set_option maxRecDepth 16384

noncomputable section

namespace Cert.Proof.CombineRun

open Cert.CombineIdeal Cert.CombineIdeal.Gen
open Idealize.ShloMosaic Idealize.ShloMosaic.TcCoe Idealize.SL.Sem
open Cert.Proof

/-! ## The three accumulators after the last point -/

variable (m : (ℓ : Loc nD τ sig) → Buf (Elt Ideal) ℓ) (c : Dev nD)

/-- The last point. -/
def tLast : Fin cfg0.N := ⟨63, by decide⟩

theorem zero5 (i) : k0_pay5 (F := Ideal) i = 0 := by
  unfold k0_pay5
  pointwise

theorem zero6 (i) : k0_pay6 (F := Ideal) i = 0 := by
  unfold k0_pay6
  pointwise

theorem zero7 (i) : k0_pay7 (F := Ideal) i = 0 := by
  unfold k0_pay7
  pointwise

/-- A sum over the points of a sum over a tile's rows is the sum over the sequence. -/
theorem sum_rows (g : Fin 16384 → EReal) : ∑ t : Fin cfg0.N, ∑ r : Fin 256, g (row t r) = ∑ s : Fin 16384, g s := by
  refine Fin.sum_mul_add_congr (S := 64) (n := 256) (F := fun t r => g (row t r)) (f := g) fun t r hl => congrArg g (Fin.ext ?_)
  show 256 * t.val + r.val = t.val * 256 + r.val
  omega

theorem loss_last (l : Fin 128) : (outsAt m c tLast.val tLast.isLt).2.2.2.2.2.2.2.2.1 (ix2 0 l) = CombineSpec.loss (kargs m c) := by
  refine (Pipeline.eq_sum_fin_of_reset_step_apply_last (fun n h (l : Fin 128) => (outsAt m c n h).2.2.2.2.2.2.2.2.1 (ix2 0 l)) 64
    (fun _ => (0 : EReal)) (fun t _ => lossTerm m c t) (fun t h l => ?_) (fun t h l => ?_) (by decide) tLast rfl l).trans ?_
  · rw [outsAt_A m c t h, lossA, loss_at, zero5]
  · rw [outsAt_B m c t h, lossB, loss_at]
  · rw [zero_add]
    exact sum_rows fun s => Ideal.ofBits .f32 0x3A000000#32 * ∑ d : Fin 1024, CombineSpec.diff (kargs m c) s d * CombineSpec.diff (kargs m c) s d

theorem bias_last (j : Fin 512) : (outsAt m c tLast.val tLast.isLt).2.2.2.2.2.2.2.2.2.1 (ix2 0 j) = CombineSpec.gradB (kargs m c) j := by
  refine (Pipeline.eq_sum_fin_of_reset_step_apply_last (fun n h (j : Fin 512) => (outsAt m c n h).2.2.2.2.2.2.2.2.2.1 (ix2 0 j)) 64
    (fun _ => (0 : EReal)) (fun t j => biasTerm m c t j) (fun t h j => ?_) (fun t h j => ?_) (by decide) tLast rfl j).trans ?_
  · rw [outsAt_A m c t h, biasA, bias_at, zero6]
  · rw [outsAt_B m c t h, biasB, bias_at]
  · rw [zero_add]
    exact sum_rows fun s => CombineSpec.dz (kargs m c) s j

theorem taps_last (k : Fin 8) (j : Fin 512) : (outsAt m c tLast.val tLast.isLt).2.2.2.2.2.2.2.2.2.2 (ix2 k j)
    = if k.val < 3 then CombineSpec.gradW (kargs m c) k.val j else 0 := by
  refine (Pipeline.eq_sum_fin_of_reset_step_apply_last
    (fun n h (p : Fin 8 × Fin 512) => (outsAt m c n h).2.2.2.2.2.2.2.2.2.2 (ix2 p.1 p.2)) 64
    (fun _ => (0 : EReal)) (fun t p => if p.1.val < 3 then tapTerm m c t p.1.val p.2 else 0) (fun t h p => ?_) (fun t h p => ?_)
    (by decide) tLast rfl (k, j)).trans ?_
  · rw [outsAt_A m c t h, tapsA_at, tap0_at, tap1_at, tap2_at, row0_at, row1_at, row2_at]
    simp only [zero7]
    obtain ⟨k, j⟩ := p
    dsimp only
    by_cases h2 : k.val = 2
    · rw [if_pos h2, if_pos (by omega), h2]
    by_cases h1 : k.val = 1
    · rw [if_neg h2, if_pos h1, if_pos (by omega), h1]
    by_cases h0 : k.val = 0
    · rw [if_neg h2, if_neg h1, if_pos h0, if_pos (by omega), h0]
    · rw [if_neg h2, if_neg h1, if_neg h0, if_neg (by omega), zero_add]
  · rw [outsAt_B m c t h, tapsB_at, tap0_at, tap1_at, tap2_at, row0_at, row1_at, row2_at]
    obtain ⟨k, j⟩ := p
    dsimp only
    by_cases h2 : k.val = 2
    · obtain rfl : k = 2 := Fin.ext h2
      rw [if_pos h2, if_pos (by omega), h2]
    by_cases h1 : k.val = 1
    · obtain rfl : k = 1 := Fin.ext h1
      rw [if_neg h2, if_pos h1, if_pos (by omega), h1]
    by_cases h0 : k.val = 0
    · obtain rfl : k = 0 := Fin.ext h0
      rw [if_neg h2, if_neg h1, if_pos h0, if_pos (by omega), h0]
    · rw [if_neg h2, if_neg h1, if_neg h0, if_neg (by omega), add_zero]
  · rw [zero_add]
    by_cases h : k.val < 3
    · simp only [if_pos h]
      exact sum_rows fun s => CombineSpec.dz (kargs m c) s j * CombineSpec.tap (kargs m c) (s.val + k.val) j
    · simp only [if_neg h, Finset.sum_const_zero]

/-! ## The three arrays after the run -/

theorem final_loss : (dats m 0 c).arrAt 24 cfg0.N = fun _ => CombineSpec.loss (kargs m c) := by
  refine (dats m 0 c).arrAt_eq_of_after_last 24 tLast (by decide +kernel) _ fun j => ?_
  idx_vars j
  blk_simp [after0_24]
  obtain rfl : j0 = 0 := Subsingleton.elim _ _
  exact loss_last m c j1

theorem final_bias : (dats m 0 c).arrAt 25 cfg0.N = fun i => CombineSpec.gradB (kargs m c) (i 1) := by
  refine (dats m 0 c).arrAt_eq_of_after_last 25 tLast (by decide +kernel) _ fun j => ?_
  idx_vars j
  blk_simp [after0_25]
  obtain rfl : j0 = 0 := Subsingleton.elim _ _
  exact bias_last m c j1

theorem final_taps : (dats m 0 c).arrAt 26 cfg0.N = fun i => if (i 0).val < 3 then CombineSpec.gradW (kargs m c) (i 0).val (i 1) else 0 := by
  refine (dats m 0 c).arrAt_eq_of_after_last 26 tLast (by decide +kernel) _ fun j => ?_
  idx_vars j
  blk_simp [after0_26]
  exact taps_last m c j0 j1

/-- The call leaves the loss, the bias's gradient and the taps' gradient in its results, and its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v0_8) = (fun _ => CombineSpec.loss (kargs m c))
      ∧ r.2.mem ((c.tc : Thread nD τ).loc main_v0_9) = (fun i => CombineSpec.gradB (kargs m c) (i 1))
      ∧ r.2.mem ((c.tc : Thread nD τ).loc main_v0_10)
          = (fun i => if (i 0).val < 3 then CombineSpec.gradW (kargs m c) (i 0).val (i 1) else 0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ⟨?_, ?_, ?_, h.1 c⟩) (θ_run_and (unchanged m ρ) (run_main m ρ))
  · exact ((h.2 c).1 24).trans (final_loss m c)
  · exact ((h.2 c).1 25).trans (final_bias m c)
  · exact ((h.2 c).1 26).trans (final_taps m c)

end Cert.Proof.CombineRun

end
-- ==== Proof.CombineClaims.lean ====
/- One sequence's loss and convolution gradients: the three frames, `preserves`, and the value claim. -/
module

public import proofs.«01_k».proof.Defs
public import proofs.«01_k».proof.Proof.Gen.Combine
public import proofs.«01_k».proof.Proof.CombineValue
public import Idealize.ShloMosaic.Lib.Claim

@[expose] public section

noncomputable section

namespace Cert.Proof.CombineClaims

open Idealize.ShloMosaic Idealize.SL.Sem

/-- What the precondition's printed function needs of its shapes. -/
theorem pre_facts : Cert.Pre_finite_lse.Facts := ⟨by decide⟩

instance : Cert.Pre_finite_lse.Facts := pre_facts

set_option maxHeartbeats 16000000 in
/-- The two prints of the kernel have the same body table: they agree label by label, and there is one label. -/
theorem defs_eq : Cert.Combine.defs (F := Bits) = Cert.CombineIdeal.defs (F := Bits) := by
  refine congrArg (Pipeline.defs Cert.CombineIdeal.pcfgs) ?_
  funext p l a
  cases p
  · match l, a with
    | ⟨0, _⟩, _ => rfl
  all_goals rfl

set_option maxHeartbeats 16000000 in
/-- The kernel at the machine's floats: one frame serves both instances. -/
theorem frame_kernel : Cert.quiescent_Combine := fun m ρ _ => by
  have h := CombineRun.frame (F := Bits) m ρ
  rw [← defs_eq] at h
  exact h

/-- The kernel at the extended reals. -/
theorem frame_ideal : Cert.quiescent_CombineIdeal := fun m ρ _ => CombineRun.frame m ρ

theorem frame_ideal_pre : Cert.quiescent_CombineIdeal_pre_finite_lse := fun m ρ _ => CombineRun.frame m ρ

/-- The reference declares no semaphore, and its run leaves its arguments as they were. -/
theorem frame_reference : Cert.quiescent_CombineReferenceIdeal := fun m ρ _ =>
  (θ_run Cert.CombineReferenceIdeal.defs _ _).mono (fun r h => ⟨fun c => (h c).2.2.2,
      Idealize.ShloMosaic.sem_eq_zero_of_no_sems (by decide) r.2⟩)
    (Cert.CombineReferenceIdeal.Value.run (F := Ideal) m ρ)

theorem frame_reference_pre : Cert.quiescent_CombineReferenceIdeal_pre_finite_lse := fun m ρ _ => frame_reference m ρ trivial

/-- Nothing was rewritten between the kernel and its idealization. -/
theorem preserves : Cert.preserves_Combine_CombineIdeal := trivial

/-- A number whose absolute value is below `+∞` is real. -/
theorem real_of_abs (x : EReal) (h : max x (-x) < Ideal.ofBits .f32 0x7F800000#32) : ∃ a : ℝ, x = ↑a := by
  have hb : Ideal.ofBits .f32 0x7F800000#32 = ⊤ := by simp [Ideal.ofBits, Ideal.ieee]
  rw [hb] at h
  induction x with
  | bot => simp at h
  | top => simp at h
  | coe a => exact ⟨a, rfl⟩

theorem and_ofBool (p q r : Bool) (h : IntOp.andi (IntOp.andi (BitVec.ofBool p) (BitVec.ofBool q)) (BitVec.ofBool r) = 1#1) :
    p = true ∧ q = true ∧ r = true := by
  revert h
  cases p <;> cases q <;> cases r <;> decide

/-- The precondition makes the three log-sum-exps real. -/
theorem fin3 (m : (ℓ : Loc Cert.CombineIdeal.nD Cert.CombineIdeal.τ Cert.CombineIdeal.sig) → Buf (Elt Ideal) ℓ)
    (h : Cert.Pre_CombineIdeal_finite_lse m) (c : Dev Cert.CombineIdeal.nD) : CombineRef.Fin3 (CombineRun.kargs m c) := by
  intro s j
  have e := congrFun (h c) (ix2 s j)
  unfold Cert.Pre_finite_lse.fn at e
  pointwise at e
  obtain ⟨e1, e2, e3⟩ := and_ofBool _ _ _ e
  obtain ⟨a, ha⟩ := real_of_abs _ (of_decide_eq_true e1)
  obtain ⟨b, hb⟩ := real_of_abs _ (of_decide_eq_true e2)
  obtain ⟨d, hd⟩ := real_of_abs _ (of_decide_eq_true e3)
  exact ⟨a, b, d, ha, hb, hd⟩

/-- The kernel's loss and gradients are the reference's. -/
theorem algebraic : Cert.algebraic_CombineIdeal_CombineReferenceIdeal_pre_finite_lse := by
  intro m ρ m' ρ' hpre hagree
  refine ⟨_, _, _, CombineRun.run m ρ, ?_⟩
  refine (θ_run Cert.CombineReferenceIdeal.defs _ _).mono (fun r h c => ?_)
    (Cert.CombineReferenceIdeal.Value.run (F := Ideal) m' ρ')
  obtain ⟨h0, h1, h2, h3⟩ := h c
  have hA : CombineRef.args m' c = CombineRun.kargs m c := by
    obtain ⟨a0, a1, a2, a3, a4, a5, a6, a7, a8, a9, a10, a11, a12, _⟩ := hagree c
    unfold CombineRef.args CombineRun.kargs
    rw [a0, a1, a2, a3, a4, a5, a6, a7, a8, a9, a10, a11, a12]
  have hF := fin3 m hpre c
  refine ⟨(h0.trans (CombineRef.res_loss m' c)).trans ?_, (h1.trans (CombineRef.res_gradB m' c)).trans ?_,
    (h2.trans (CombineRef.res_gradW m' c)).trans ?_, h3⟩
  · rw [hA]
    funext i
    idx_vars i
    obtain rfl : i0 = 0 := Subsingleton.elim _ _
    exact CombineRef.lossV_at _ hF i1
  · rw [hA]
    funext i
    idx_vars i
    obtain rfl : i0 = 0 := Subsingleton.elim _ _
    exact CombineRef.gradBV_at _ hF i1
  · rw [hA]
    funext i
    idx_vars i
    exact CombineRef.gradWV_at _ hF i0 i1

end Cert.Proof.CombineClaims

end
-- ==== Proof.TotalLossRun.lean ====
/-
  The all-reduce of the loss, run at any float values: what its result buffer holds when every device is done.

  `@main` is one line of host operations (take one element of the operand and drop its two dimensions) and one
  all-reduce over the eight devices. The run is made of these two segments; the generated `Gen.Sites` supplies the
  all-reduce's ghost state, dues and levels, and this file joins them: the unscoped buffers travel whole, at the launch
  memory, then at what the line leaves, then at what the all-reduce leaves.
-/
module

public import proofs.«01_k».proof.Proof.Gen.TotalLossIdeal.Launch
public import Idealize.ShloMosaic.Lib.StableHlo.CollectiveRules
public import Idealize.ShloMosaic.Lib.Pipeline.Regions
public import Idealize.ShloMosaic.Lib.Pipeline.CollectiveSegs
public import Idealize.ShloMosaic.Lib.Pipeline.Kit
public import Idealize.ShloMosaic.Lib.Tactic

@[expose] public section

noncomputable section

namespace Cert.Proof.TotalLossRun

open Cert.TotalLossIdeal Cert.TotalLossIdeal.Gen
open Cert.TotalLossIdeal.Gen.Sites (L lv)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The staging component, which this program leaves unused, beside the all-reduce's. -/
abbrev Alg : Type := UR sig nD τ × Sites.UC

local notation "𝕄" => MT nD τ sig ℕ (Elt F) ℕ Alg ℕ

abbrev stagingEmb : Emb (UR sig nD τ) (MT nD τ sig ℕ (Elt F) ℕ Alg ℕ) := embL
abbrev siteEmb : Emb Sites.UC (MT nD τ sig ℕ (Elt F) ℕ Alg ℕ) := embR

variable (m : (ℓ : Loc nD τ sig) → Buf (Elt F) ℓ) (ρ : Dev nD → PrngReg)

/-- A device's buffers at launch. -/
abbrev atLaunch (c : Dev nD) : Valuation τ sig (Elt F) := fun b => m (c, b)

/-- A device's buffers when the all-reduce begins: its operand holds the device's loss. -/
abbrev atSum (c : Dev nD) : Valuation τ sig (Elt F) := StableHlo.after hostOps0 (atLaunch m c)

/-- A device's buffers at the end. -/
abbrev atEnd (c : Dev nD) : Valuation τ sig (Elt F) := (ar0 (F := F)).after₀ (atSum m) c

/-- There is no pipelined call, hence no choice to make for one. -/
abbrev noAdm : (p : Fin 0) → (pcfgs (F := F) p).Adm := fun p => p.elim0
abbrev noDat : (p : Fin 0) → (c : Dev nD) → Pipeline.Dat τ (Elt F) ℕ ℕ Alg ℕ (Pipeline.pin (pcfgs (F := F)) noAdm p) c :=
  fun p => p.elim0

/-- The record that the all-reduce's cells are under their invariants; it is persistent and rides to the end. -/
abbrev cellsKept : sProp 𝕄 := iprop(∃ κ, (AllReduce.Dat.once (ar0 (F := F)) (atSum m)).cellInvs (Sites.E0 siteEmb) κ)

/-- The line of host operations, over all unscoped buffers. -/
def lineSeg : Pipeline.HostSeg (Ix := ℕ) (Name := ℕ) (U := Alg) (Lvl := ℕ) (pcfgs (F := F)) defs₀ Variants.none L lv :=
  Pipeline.HostSeg.ofOps (pcfgs (F := F)) defs₀ Variants.none L lv (Pipeline.ucRefs τ sig) hostOps0
    (fun op hop => Pipeline.sub_ucRefs op (List.forall_iff_forall_mem.mp hostOps0_sub op hop))
    (by
      intro op hop
      simp only [hostOps0, List.mem_cons, List.not_mem_nil, or_false] at hop
      rcases hop with rfl | rfl <;> rfl)
    (atLaunch m) (Sites.Es siteEmb (atSum m) 0)

/-- The all-reduce. -/
def sumSeg : Pipeline.HostSeg (Ix := ℕ) (Name := ℕ) (U := Alg) (Lvl := ℕ) (pcfgs (F := F)) defs₀ Variants.none L lv :=
  Sites.seg0 siteEmb Variants.none (atSum m) (Sites.Rest0 (atSum m) fun _ => cellsKept m)

def segs : List (Pipeline.Seg (pcfgs (F := F)) noAdm (noDat (F := F)) 0 defs₀ Variants.none L lv) :=
  [.host (lineSeg m), .host (sumSeg m)]

theorem main_eq (c : Dev nD) : main (F := F) c = Pipeline.Seg.run (segs m) :=
  main_segs noAdm noDat 0 Variants.none L lv (lineSeg m) (sumSeg m) rfl rfl c

/-- What a device starts with: its buffers and the all-reduce's launch state. -/
abbrev start (c : Dev nD) : sProp 𝕄 :=
  iprop(StableHlo.held (c : Thread nD τ) (Pipeline.ucRefs τ sig) (atLaunch m c) ∗ Sites.Es siteEmb (atSum m) 0 c)

/-- What it ends with: its buffers and the all-reduce's cells past their use. -/
abbrev finish (c : Dev nD) : sProp 𝕄 :=
  iprop(StableHlo.held (c : Thread nD τ) (Pipeline.ucRefs τ sig) (atEnd m c) ∗ (cellsKept m ∗ Sites.Ghost0 siteEmb c))

theorem line_to_sum (c : Dev nD) : (lineSeg m).post c ⊢ (sumSeg m).pre c := by
  refine BIBase.Entails.trans ?_ (Sites.pre0 siteEmb Variants.none (atSum m) (fun _ => cellsKept m) c)
  show iprop(StableHlo.held (c : Thread nD τ) (Pipeline.ucRefs τ sig) (atSum m c) ∗ Sites.Es siteEmb (atSum m) 0 c) ⊢ _
  rw [Sites.Es_0]
  iintro ⟨Hh, HO, Hp, Hr⟩
  unfold Sites.rides0 AllReduce.Dat.rides
  icases Hr with ⟨#Hi, Hr⟩
  isplitl [Hh]; · iexact Hh
  isplitl
  · isplitl [HO]; · iexact HO
    isplitl [Hp]; · iexact Hp
    isplitr; · iexact Hi
    iexact Hr
  · iexact Hi

theorem sum_to_finish (c : Dev nD) :
    (sumSeg m).post c ⊢ iprop(finish m c ∗ ∃ W, owes (c.tc : Thread nD τ) (0 : CellTallies nD τ sig ℕ) W) := by
  refine (Sites.post0 siteEmb Variants.none (atSum m) (fun _ => cellsKept m) c).trans ?_
  iintro ⟨Hh, HE, Hg, Hi⟩
  ihave HO := (Sites.hE_last siteEmb (atSum m) c) $$ HE
  isplitr [HO]
  · isplitl [Hh]; · iexact Hh
    isplitl [Hi] <;> iassumption
  · iexact HO

/-- The launch funds the all-reduce; each device keeps its buffers. -/
theorem funded :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c)
          ∗ Sites.G siteEmb (atSum m) c)) ∗ levAts L lv)
      ⊢ (|={Set.univ}=> bigSep Finset.univ (start m) : sProp 𝕄) := by
  have hbufs (c : Dev nD) : (unscopedBufs c (fun b => m ((c : Thread nD τ).loc b)) : sProp 𝕄)
      = StableHlo.held (c : Thread nD τ) (Pipeline.ucRefs τ sig) (atLaunch m c) := Pipeline.unscopedBufs_held c (atLaunch m c)
  have hdealt (c : Dev nD) : iprop(unscopedBufs c (fun b => m ((c : Thread nD τ).loc b)) ∗ unscopedSems0 c
        ∗ owes (c : Thread nD τ) (Sites.O0 (F := F) c) ∅ ∗ Pipeline.launchCred (Sites.O0 (F := F)) c ∗ prngReg c (ρ c)
        ∗ Sites.G siteEmb (atSum m) c)
      ⊢ (iprop(StableHlo.held (c : Thread nD τ) (Pipeline.ucRefs τ sig) (atLaunch m c)
        ∗ (unscopedSems0 c ∗ owes (c : Thread nD τ) (Sites.O0 (F := F) c) ∅
          ∗ Pipeline.launchCred (Sites.O0 (F := F)) c ∗ prngReg c (ρ c) ∗ Sites.G siteEmb (atSum m) c)) : sProp 𝕄) := by
    rw [hbufs c]
  iintro ⟨H, HL⟩
  ihave H' := (show _ ⊢ iprop((bigSep Finset.univ fun c : Dev nD => StableHlo.held (c : Thread nD τ) (Pipeline.ucRefs τ sig) (atLaunch m c))
        ∗ bigSep Finset.univ fun c : Dev nD => iprop(unscopedSems0 c ∗ owes (c : Thread nD τ) (Sites.O0 (F := F) c) ∅
          ∗ Pipeline.launchCred (Sites.O0 (F := F)) c ∗ prngReg c (ρ c) ∗ Sites.G siteEmb (atSum m) c))
      from by rw [← bigSep_sep']; exact bigSep_mono fun c _ => hdealt c) $$ H
  icases H' with ⟨Hb, Hs⟩
  imod (Sites.hE0 siteEmb (atSum m) ρ) $$ [Hs HL] with HE
  · isplitl [Hs] <;> iassumption
  imodintro
  rw [bigSep_sep']
  isplitl [Hb] <;> iassumption

/-- The two buffers the claims read. -/
def shown : Finset (DevRef τ sig) := {Proc.devRef .tc main_v3, Proc.devRef .tc main_arg0}

omit [FloatOps F] in
theorem held_shown (c : Dev nD) (W : Valuation τ sig (Elt F)) :
    (StableHlo.held (c : Thread nD τ) shown W : sProp 𝕄)
      = iprop((((c : Thread nD τ).loc main_v3) ↦{fullShare} W main_v3) ∗ (((c : Thread nD τ).loc main_arg0) ↦{fullShare} W main_arg0)) := by
  unfold StableHlo.held shown
  rw [bigSep_eq_bigSepL_of_eq [Proc.devRef .tc main_v3, Proc.devRef .tc main_arg0] (by decide) (by decide)]
  rfl

theorem shown_sub : shown ⊆ Pipeline.ucRefs τ sig := by decide

-- the launch theorem's implicit arguments are found by unfolding plain definitions in a metavariable's type
set_option backward.isDefEq.respectTransparency.types false in
/-- Every execution ends; the result and the argument hold what the all-reduce leaves, and every counter is zero. -/
theorem run_end : θ_run defs (onTc (τ := τ) (main (F := F))) ⟨m, fun _ => 0, ρ⟩
    (fun r => (∀ c : Dev nD, r.2.mem ((c : Thread nD τ).loc main_v3) = atEnd m c main_v3
        ∧ r.2.mem ((c : Thread nD τ).loc main_arg0) = atEnd m c main_arg0) ∧ r.2.sem = fun _ => 0) :=
  Pipeline.θ_run_regions_kit_sems (pcfgs (F := F)) noAdm (noDat (F := F)) 0 cellOf_inj stagingEmb defs₀ Variants.none L lv m ρ main (segs m)
    (fun c Q => by rw [main_eq m c])
    (by simp only [segs, Pipeline.Seg.pipes_host, Pipeline.Seg.pipes_nil]; decide)
    (O₀ := Sites.O0 (F := F)) (hL := Sites.hL) (G := Sites.G siteEmb (atSum m))
    (u₀ := (initOf (Pipeline.cells (Pipeline.pin (pcfgs (F := F)) noAdm) cellOf_inj)
      (Pipeline.launchToks (Pipeline.pin (pcfgs (F := F)) noAdm) cellOf_inj), Sites.uC (U := Alg) (atSum m)))
    (hu₀ := by
      iintro Hu
      ihave H := (ownU_pair _ _) $$ Hu
      icases H with ⟨HP, HX⟩
      imodintro
      isplitl [HP]; · iexact HP
      rw [Sites.bigSep_G]; iexact HX)
    (T₀ := start m) (Tₙ := finish m)
    (hch := ⟨fun _ => Entails.rfl, line_to_sum m, sum_to_finish m⟩)
    (hinit := funded m ρ)
    (QY := fun c s => (s.mem ((c : Thread nD τ).loc main_v3) = atEnd m c main_v3 ∧ s.mem ((c : Thread nD τ).loc main_arg0) = atEnd m c main_arg0)
      ∧ s.sem ((ar0 (F := F)).barrierCell c) = 0 ∧ s.sem ((ar0 (F := F)).recvCell c) = 0 ∧ s.sem ((ar0 (F := F)).sendCell c) = 0)
    (hfin := fun c s' => by
      unfold finish
      rw [StableHlo.held_sub_split (c : Thread nD τ) shown_sub, held_shown]
      iintro ⟨⟨⟨⟨Hv, Ha⟩, -⟩, Hg⟩, HSI⟩
      icombine HSI Hv gives %hv
      icombine HSI Ha gives %ha
      imod ((AllReduce.Dat.once (ar0 (F := F)) (atSum m)).ghostAfter_read (Sites.E0 siteEmb) c (k := 0) le_rfl s') $$ [Hg HSI] with ⟨%hz, HSI⟩
      · isplitl [Hg] <;> iassumption
      imodintro
      isplitr
      · ipureintro; exact ⟨⟨Buf.eq_of_forall_mem_univ hv, Buf.eq_of_forall_mem_univ ha⟩, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.Proof.TotalLossRun

end
-- ==== Proof.TotalLoss.lean ====
/-
  The claims of the loss's all-reduce: every device ends with the sum of the eight devices' losses.
-/
module

public import proofs.«01_k».proof.Defs
public import proofs.«01_k».proof.Proof.TotalLossRun
public import proofs.«01_k».proof.Proof.Gen.TotalLoss
public import proofs.«01_k».proof.Proof.Gen.TotalLossReferenceIdeal.Run
public import Idealize.ShloMosaic.Lib.Claim
public import Idealize.ShloMosaic.Lib.Pointwise
public import Idealize.ShloMosaic.Lib.ValueIdx

@[expose] public section

noncomputable section

namespace Cert.Proof.TotalLossClaims

open Idealize.ShloMosaic Idealize.ShloMosaic.TcCoe Idealize.SL.Sem
open Cert.Proof.TotalLossRun

section Run
open Cert.TotalLossIdeal Cert.TotalLossIdeal.Gen

variable {F : FTy → Type} [FloatOps F] (m : (ℓ : Loc nD τ sig) → Buf (Elt F) ℓ)

theorem arg_not_slot : ∀ j : Fin 8, (Proc.devRef .tc main_arg0 : DevRef τ sig) ≠ Proc.devRef .tc (ar0_stage j) := by decide

omit [FloatOps F] in
/-- The argument is none of the buffers the all-reduce writes. -/
theorem arg_apart [FloatOps F] : (Proc.devRef .tc main_arg0 : DevRef τ sig) ∉ (ar0 (F := F)).foldBufs := fun h => by
  rcases Finset.mem_insert.mp h with h | h
  · exact absurd (show (Proc.devRef .tc main_arg0 : DevRef τ sig) = Proc.devRef .tc main_v3 from h) (by decide)
  · obtain ⟨j, hj⟩ := (ar0 (F := F)).mem_stageRefs.mp h
    exact arg_not_slot j hj

theorem end_arg (c : Dev nD) : atEnd m c main_arg0 = m ((c : Thread nD τ).loc main_arg0) := by
  refine ((ar0 (F := F)).after₀_of_notMem (atSum m) c arg_apart).trans ?_
  unfold atSum hostOps0
  after_results <;> rfl

/-- A device's loss: the one element of its row that the slice takes. -/
abbrev lossAt (c : Dev nD) : Elt F .f32 := (m ((c : Thread nD τ).loc main_arg0) : Vec F S1x128 .f32) (ix2 0 0)

theorem taken_at (a : Vec F S1x128 .f32) (i : S_.Idx) :
    shapeCast S_ (extractStridedSlice S1x1 ![0, 0] a slices_S1x128_S1x1_0_0) shapeCasts_S1x1_S_ i = a (ix2 0 0) := by
  pointwise

/-- What a device brings to the all-reduce. -/
theorem brought (c : Dev nD) (i : S_.Idx) : (atSum m c main_v2 : Vec F S_ .f32) i = lossAt m c := by
  have h : atSum m c main_v2 = shapeCast S_ (extractStridedSlice S1x1 ![0, 0] (m ((c : Thread nD τ).loc main_arg0)) slices_S1x128_S1x1_0_0) shapeCasts_S1x1_S_ := by
    unfold atSum hostOps0
    after_results <;> rfl
  rw [h]
  exact taken_at _ i

/-- All eight devices are one group, in their own order. -/
theorem peers (c : Dev nD) (j : Fin 8) : (ar0 (F := F)).peer c j = j := by
  fin_cases c <;> fin_cases j <;> rfl

/-- What the all-reduce leaves, as the fold of what the devices bring. -/
theorem end_fold (c : Dev nD) : (atEnd m c main_v3 : Vec F S_ .f32)
    = (ar0 (F := F)).foldGroup fun j => atSum m ((ar0 (F := F)).peer c j) main_v2 := by
  refine Eq.trans (b := (ar0 (F := F)).toResult ((ar0 (F := F)).foldGroup fun j => atSum m ((ar0 (F := F)).peer c j) main_v2)) ?_ ?_
  · exact (ar0 (F := F)).after₀_result (atSum m) c
  · generalize (ar0 (F := F)).foldGroup (fun j => atSum m ((ar0 (F := F)).peer c j) main_v2) = v
    rfl

/-- The left fold over the eight devices. -/
theorem fold_eight (v : Fin 8 → Vec Ideal S_ .f32) (i : S_.Idx) : (ar0 (F := Ideal)).foldGroup v i
    = ((((((((v 0 i : EReal) + v 1 i) + v 2 i) + v 3 i) + v 4 i) + v 5 i) + v 6 i) + v 7 i : EReal) := rfl

/-- What the all-reduce leaves: the losses added in the devices' order. -/
theorem end_sum (m : (ℓ : Loc nD τ sig) → Buf (Elt Ideal) ℓ) (c : Dev nD) (i : S_.Idx) :
    (atEnd m c main_v3 : Vec Ideal S_ .f32) i = ∑ d : Fin 8, (lossAt m d : EReal) := by
  have hv : (fun j => atSum m ((ar0 (F := Ideal)).peer c j) main_v2) = fun j => atSum m j main_v2 :=
    funext fun j => congrArg (fun d => atSum m d main_v2) (peers c j)
  rw [end_fold m c, hv, Fin.sum_univ_eight, ← brought m 0 i, ← brought m 1 i, ← brought m 2 i, ← brought m 3 i, ← brought m 4 i,
    ← brought m 5 i, ← brought m 6 i, ← brought m 7 i]
  exact fold_eight _ i

/-- Every execution ends with the argument kept and every counter at zero. -/
theorem kept (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)) ∧ r.2.sem = fun _ => 0) :=
  (θ_run defs _ _).mono (fun _ h => ⟨fun c => (h.1 c).2.trans (end_arg m c), h.2⟩) (run_end m ρ)

end Run

/-- The two prints of the kernel have the same body table: there is no label. -/
theorem defs_eq : Cert.TotalLoss.defs (F := Bits) = Cert.TotalLossIdeal.defs (F := Bits) := by
  refine congrArg (Pipeline.defs Cert.TotalLossIdeal.pcfgs) ?_
  funext p l a
  cases p
  all_goals rfl

/-- The kernel at the machine's floats: one run serves both instances. -/
theorem frame_kernel : Cert.quiescent_TotalLoss := fun m ρ _ => by
  have h := kept (F := Bits) m ρ
  rw [← defs_eq] at h
  exact h

/-- The kernel at the extended reals. -/
theorem frame_ideal : Cert.quiescent_TotalLossIdeal := fun m ρ _ => kept m ρ

/-- The reference declares no semaphore, and its run leaves its argument as it was. -/
theorem frame_reference : Cert.quiescent_TotalLossReferenceIdeal := fun m ρ _ =>
  (θ_run Cert.TotalLossReferenceIdeal.defs _ _).mono (fun r h => ⟨fun c => (h c).2,
      Idealize.ShloMosaic.sem_eq_zero_of_no_sems (by decide) r.2⟩)
    (Cert.TotalLossReferenceIdeal.Value.run (F := Ideal) m ρ)

/-- Nothing was rewritten between the kernel and its idealization. -/
theorem preserves : Cert.preserves_TotalLoss_TotalLossIdeal := trivial

open Cert.TotalLossReferenceIdeal Cert.TotalLossReferenceIdeal.Facts₀ in
/-- The reference's sum over the first column. -/
theorem column_sum (a : Vec Ideal S8x128 .f32) (i : S_.Idx) :
    Host.reduceAdd (F := Ideal) (φ := .f32) (shapeCast S8 (extractStridedSlice S8x1 ![0, 0] a slices_S8x128_S8x1_0_0) shapeCasts_S8x1_S8)
      (constant S_ .f32 0x00000000#32) reducesTo_S8_S_d0 h_S_ i = ∑ d : Fin 8, (a (ix2 d 0) : EReal) := by
  pointwise

/-- Every device ends with the reference's sum. -/
theorem algebraic : Cert.algebraic_TotalLossIdeal_TotalLossReferenceIdeal := by
  intro m ρ m' ρ' _ hagree
  refine ⟨_, ?_, (θ_run Cert.TotalLossReferenceIdeal.defs _ _).mono (fun r h => h 0)
    (Cert.TotalLossReferenceIdeal.Value.run (F := Ideal) m' ρ')⟩
  refine (θ_run Cert.TotalLossIdeal.defs _ _).mono (fun r h c => ⟨(h.1 c).1.trans ?_, (h.1 c).2.trans (end_arg m c)⟩)
    (run_end (F := Ideal) m ρ)
  funext i
  have hd : ∀ d : Fin 8, lossAt m d = (m' (((0 : Dev Cert.TotalLossReferenceIdeal.nD).tc : Thread Cert.TotalLossReferenceIdeal.nD Cert.TotalLossReferenceIdeal.τ).loc
      Cert.TotalLossReferenceIdeal.main_arg0) : Vec Ideal Cert.TotalLossReferenceIdeal.S8x128 .f32) (ix2 d 0) := fun d => by
    unfold lossAt
    rw [hagree d]
    rw [Layout.block_apply]
    refine congrArg (m' _) ?_
    funext k
    fin_cases k
    · exact Fin.ext ((Layout.Tiles.idx_val _ _ _ _).trans (by simp))
    · exact Fin.ext ((Layout.Tiles.idx_val _ _ _ _).trans (by simp))
  exact (end_sum m c i).trans ((Finset.sum_congr rfl fun d _ => hd d).trans (column_sum _ i).symm)

end Cert.Proof.TotalLossClaims

end
-- ==== Proof.WgradIn.lean ====
/- The gradient of the input projection's weights: the frames, `preserves`, and the value claim. The kernel walks the sequence in 32 blocks of 512 rows and adds
   each block's product to the accumulator; the sum over the blocks of the sums over their rows is the reference's sum over the sequence. -/
module

public import proofs.«01_k».proof.Defs
public import proofs.«01_k».proof.Proof.Gen.WgradIn
public import proofs.«01_k».proof.Proof.Gen.WgradInIdeal.Value
public import proofs.«01_k».proof.Proof.Gen.WgradInReferenceIdeal.Run
public import Idealize.ShloMosaic.Lib.Claim
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.Proof.WgradInClaims

open Idealize.ShloMosaic Idealize.ShloMosaic.TcCoe Idealize.SL.Sem
open Cert.WgradInIdeal Cert.WgradInIdeal.Gen Cert.WgradInIdeal.Value

section kernel

variable (m : (ℓ : Loc nD τ sig) → Buf (Elt Ideal) ℓ) (c : Dev nD)

/-- The activations. -/
def actH : FVec Ideal S16384x1024 .bf16 := m ((c : Thread nD τ).loc main_arg0)
/-- The projection's gradient. -/
def gradP : FVec Ideal S16384x4096 .bf16 := m ((c : Thread nD τ).loc main_arg1)

/-- The entry `(d, e)` of the product of the transposed activations with the gradient. -/
def prod (d : Fin 1024) (e : Fin 4096) : EReal := ∑ s : Fin 16384, actH m c (ix2 s d) * gradP m c (ix2 s e)

theorem idxIn : ∀ t : Fin cfg0.N, win0_0.index t = ![t.val % 32, 0] ∧ win0_1.index t = ![t.val % 32, t.val / 32] := by
  decide +kernel

/-- The block of activations a point reads. -/
def hT (t : Fin cfg0.N) : Vec Ideal S512x1024 .bf16 := iblk m c 0 t
/-- The block of the gradient it reads. -/
def pT (t : Fin cfg0.N) : Vec Ideal S512x1024 .bf16 := iblk m c 1 t

/-- What point `t` adds to the accumulator. -/
def part (t : Fin cfg0.N) (p : Fin 1024 × Fin 1024) : EReal := ∑ k : Fin 512, hT m c t (ix2 k p.1) * pT m c t (ix2 k p.2)

theorem pay1_at (i : S1024x1024.Idx) : k0_pay1 (F := Ideal) i = 0 := by
  unfold k0_pay1
  pointwise

theorem pay2_at (v : Vec Ideal S1024x1024 .f32) (x y : Vec Ideal S512x1024 .bf16) (d e : Fin 1024) :
    k0_pay2 v x y (ix2 d e) = v (ix2 d e) + ∑ k : Fin 512, x (ix2 k d) * y (ix2 k e) := by
  unfold k0_pay2
  pointwise

/-- The accumulator after the last of a column block's points. -/
theorem acc_last (t : Fin cfg0.N) (ht : t.val % 32 = 31) (d e : Fin 1024) :
    (outsAt0 m c t.val t.isLt).2 (ix2 d e)
      = ∑ s : Fin 32, part m c ⟨32 * (t.val / 32) + s.val, Pipeline.run_point_lt_of_flush t ht s⟩ (d, e) := by
  refine (Pipeline.eq_sum_fin_of_reset_step_apply_of_flush
    (fun n h (p : Fin 1024 × Fin 1024) => (outsAt0 m c n h).2 (ix2 p.1 p.2)) 32
    (fun _ => (0 : EReal)) (fun t p => part m c t p) (fun t h p => ?_) (fun t h p => ?_) t ht (d, e)).trans (zero_add _)
  · rw [outsAt0_A m c t h (by omega)]
    frame_out
    rw [pay2_at, pay1_at]
    rfl
  · by_cases h1 : t.val % 32 = 31
    · rw [outsAt0_C m c t h h1]
      frame_out
      rw [pay2_at, read_unread_whole]
      rfl
    · rw [outsAt0_B m c t h h1]
      frame_out
      rw [pay2_at, read_unread_whole]
      rfl

/-- The two blocks' entries in the arrays. -/
theorem hT_at (t : Fin cfg0.N) (k : Fin 512) (d : Fin 1024) :
    hT m c t (ix2 k d) = actH m c (ix2 ⟨t.val % 32 * 512 + k.val, by omega⟩ d) := by
  unfold hT actH
  blk_point [iblk, V, idxIn t]

theorem pT_at (t : Fin cfg0.N) (k : Fin 512) (e : Fin 1024) :
    pT m c t (ix2 k e) = gradP m c (ix2 ⟨t.val % 32 * 512 + k.val, by omega⟩
      ⟨t.val / 32 * 1024 + e.val, by have : t.val < 128 := t.isLt; omega⟩) := by
  unfold pT gradP
  blk_point [iblk, V, idxIn t]

/-- The blocks' products make the whole product. -/
theorem sum_parts (t : Fin cfg0.N) (ht : t.val % 32 = 31) (d e : Fin 1024) :
    ∑ s : Fin 32, part m c ⟨32 * (t.val / 32) + s.val, Pipeline.run_point_lt_of_flush t ht s⟩ (d, e)
      = prod m c d ⟨t.val / 32 * 1024 + e.val, by have : t.val < 128 := t.isLt; omega⟩ := by
  unfold part prod
  refine Fin.sum_mul_add_congr (S := 32) (n := 512)
    (F := fun s k => hT m c ⟨32 * (t.val / 32) + s.val, Pipeline.run_point_lt_of_flush t ht s⟩ (ix2 k d)
      * pT m c ⟨32 * (t.val / 32) + s.val, Pipeline.run_point_lt_of_flush t ht s⟩ (ix2 k e))
    (f := fun s => actH m c (ix2 s d) * gradP m c (ix2 s ⟨t.val / 32 * 1024 + e.val, by have : t.val < 128 := t.isLt; omega⟩))
    fun s k hl => ?_
  rw [hT_at, pT_at]
  have h1 : (32 * (t.val / 32) + s.val) % 32 = s.val := by omega
  have h2 : (32 * (t.val / 32) + s.val) / 32 = t.val / 32 := by omega
  simp only [h1, h2]

theorem pay3_at (v : Vec Ideal S1024x1024 .f32) (b : Fin 2) (r : Fin 512) (e : Fin 1024) :
    k0_pay3 v (ix4 0 b r e) = v (ix2 ⟨b.val * 512 + r.val, by omega⟩ e) := by
  unfold k0_pay3
  pointwise

/-- The block a column block's last point writes back. -/
theorem out_last (t : Fin cfg0.N) (ht : t.val % 32 = 31) (b : Fin 2) (r : Fin 512) (e : Fin 1024) :
    (outsAt0 m c t.val t.isLt).1 (ix4 0 b r e)
      = prod m c ⟨b.val * 512 + r.val, by omega⟩ ⟨t.val / 32 * 1024 + e.val, by have : t.val < 128 := t.isLt; omega⟩ := by
  have h := acc_last m c t ht ⟨b.val * 512 + r.val, by omega⟩ e
  rw [sum_parts m c t ht] at h
  rw [← h, outsAt0_C m c t (by omega) ht]
  frame_out
  rw [pay3_at]

/-- The result's entries. -/
theorem result_at (j : Fin 4) (b : Fin 2) (r : Fin 512) (e : Fin 1024) :
    G2 m c (ix4 j b r e) = prod m c ⟨b.val * 512 + r.val, by omega⟩ ⟨j.val * 1024 + e.val, by omega⟩ := by
  have ht : 32 * j.val + 31 < cfg0.N := by show 32 * j.val + 31 < 128; omega
  have h := out_last m c ⟨32 * j.val + 31, ht⟩ (by show (32 * j.val + 31) % 32 = 31; omega) b r e
  rw [outsAt0_sweep] at h
  have hp : pt2Of (ix4 j b r e) = 32 * j.val + 31 := by
    show 32 * (1 * (j.val / 1 - 0) + 1 * (b.val / 2 - 0) + 1 * (r.val / 512 - 0) + 1 * (e.val / 1024 - 0)) + 31 = _
    omega
  unfold G2
  rw [dif_pos (by rw [hp]; exact ht), fold0_congr m c _ _ (32 * j.val + 31) (by omega) hp]
  have hl : loc2Of (ix4 j b r e) = ix4 0 b r e := by
    funext a
    match a with
    | ⟨0, _⟩ => exact Fin.ext (Nat.mod_one _)
    | ⟨1, _⟩ => exact Fin.ext (Nat.mod_eq_of_lt b.isLt)
    | ⟨2, _⟩ => exact Fin.ext (Nat.mod_eq_of_lt r.isLt)
    | ⟨3, _⟩ => exact Fin.ext (Nat.mod_eq_of_lt e.isLt)
  rw [hl, h]
  have h2 : (32 * j.val + 31) / 32 = j.val := by omega
  simp only [h2]

end kernel

section claims

theorem defs_eq : Cert.WgradIn.defs (F := Bits) = Cert.WgradInIdeal.defs (F := Bits) := by
  refine congrArg (Pipeline.defs Cert.WgradInIdeal.pcfgs) ?_
  funext p l a
  cases p
  · match l, a with
    | ⟨0, _⟩, _ => rfl
  all_goals rfl

/-- The kernel at the machine's floats: one frame serves both instances. -/
theorem frame_kernel : Cert.quiescent_WgradIn := fun m ρ _ => by
  have h := Cert.WgradInIdeal.Gen.frame (F := Bits) m ρ
  rw [← defs_eq] at h
  exact h

/-- The kernel at the extended reals. -/
theorem frame_ideal : Cert.quiescent_WgradInIdeal := fun m ρ _ => Cert.WgradInIdeal.Gen.frame m ρ

/-- The reference declares no semaphore, and its run leaves its arguments as they were. -/
theorem frame_reference : Cert.quiescent_WgradInReferenceIdeal := fun m ρ _ =>
  (θ_run Cert.WgradInReferenceIdeal.defs _ _).mono (fun r h => ⟨fun c => (h c).2,
      Idealize.ShloMosaic.sem_eq_zero_of_no_sems (by decide) r.2⟩)
    (Cert.WgradInReferenceIdeal.Value.run (F := Ideal) m ρ)

/-- Nothing was rewritten between the kernel and its idealization. -/
theorem preserves : Cert.preserves_WgradIn_WgradInIdeal := trivial

/-- The reference's entries: its product, cut into the four column blocks and the two row blocks. -/
theorem ref_at (H : FVec Ideal S16384x1024 .bf16) (P : FVec Ideal S16384x4096 .bf16) (j : Fin 4) (b : Fin 2) (r : Fin 512) (e : Fin 1024) :
    transpose Cert.WgradInReferenceIdeal.S4x2x512x1024 [2, 0, 1, 3] (shapeCast _ (truncf .bf16 (Host.dotGeneral
        Cert.WgradInReferenceIdeal.dot_S16384x1024_S16384x4096_S1024x4096_0_0_1_1_n_n none H P) Cert.WgradInReferenceIdeal.Gen.bitsLt_bf16_f32)
        Cert.WgradInReferenceIdeal.Gen.shapeCasts_S1024x4096_S2x512x4x1024) Cert.WgradInReferenceIdeal.Gen.transposes_S2x512x4x1024_S4x2x512x1024_2_0_1_3 (ix4 j b r e)
      = ∑ s : Fin 16384, H (ix2 s ⟨b.val * 512 + r.val, by omega⟩) * P (ix2 s ⟨j.val * 1024 + e.val, by omega⟩) := by
  rw [transpose_apply _ _ _ (ix4 j b r e) (ix4 b r j e) (fun a => by fin_cases a <;> rfl)]
  pointwise

/-- The kernel's result is the reference's. -/
theorem algebraic : Cert.algebraic_WgradInIdeal_WgradInReferenceIdeal := by
  intro m ρ m' ρ' _ hagree
  refine ⟨_, Cert.WgradInIdeal.Value.run (F := Ideal) m ρ, ?_⟩
  refine (θ_run Cert.WgradInReferenceIdeal.defs _ _).mono (fun r h c => ?_)
    (Cert.WgradInReferenceIdeal.Value.run (F := Ideal) m' ρ')
  obtain ⟨h0, h1⟩ := h c
  obtain ⟨a0, a1⟩ := hagree c
  refine ⟨h0.trans ?_, h1⟩
  rw [a0, a1]
  funext i
  idx_vars i
  exact (ref_at _ _ i0 i1 i2 i3).trans (result_at m c i0 i1 i2 i3).symm

end claims

end Cert.Proof.WgradInClaims

end
-- ==== Proof.WgradOut.lean ====
/- The gradient of the output projection's weights: the frames, `preserves`, and the value claim. The kernel walks the sequence in 32 blocks of 512 rows and adds
   each block's product to the accumulator; the sum over the blocks of the sums over their rows is the reference's sum over the sequence. -/
module

public import proofs.«01_k».proof.Defs
public import proofs.«01_k».proof.Proof.Gen.WgradOut
public import proofs.«01_k».proof.Proof.Gen.WgradOutIdeal.Value
public import proofs.«01_k».proof.Proof.Gen.WgradOutReferenceIdeal.Run
public import Idealize.ShloMosaic.Lib.Claim
public import Idealize.ShloMosaic.Lib.Pointwise
public import Idealize.ShloMosaic.Lib.ValueIdx
public import Idealize.ShloMosaic.Lib.Pipeline.ValueKit
public import Idealize.ShloMosaic.Lib.Pipeline.ReadBack

@[expose] public section

set_option maxRecDepth 16384

noncomputable section

namespace Cert.Proof.WgradOutClaims

open Idealize.ShloMosaic Idealize.ShloMosaic.TcCoe Idealize.SL.Sem
open Cert.WgradOutIdeal Cert.WgradOutIdeal.Gen Cert.WgradOutIdeal.Value

section kernel

variable (m : (ℓ : Loc nD τ sig) → Buf (Elt Ideal) ℓ) (c : Dev nD)

/-- The activations. -/
def actY : FVec Ideal S16384x1024 .bf16 := m ((c : Thread nD τ).loc main_arg0)
/-- The output's gradient. -/
def gradO : FVec Ideal S16384x1024 .f32 := m ((c : Thread nD τ).loc main_arg1)

/-- The entry `(d, e)` of the product of the transposed activations with the gradient. -/
def prod (d : Fin 1024) (e : Fin 1024) : EReal := ∑ s : Fin 16384, actY m c (ix2 s d) * gradO m c (ix2 s e)

theorem idxIn : ∀ t : Fin cfg0.N, win0_0.index t = ![t.val % 32, 0] ∧ win0_1.index t = ![t.val % 32, 0] := by
  decide +kernel

/-- The block of activations a point reads. -/
def yT (t : Fin cfg0.N) : Vec Ideal S512x1024 .bf16 := iblk m c 0 t
/-- The block of the gradient it reads. -/
def oT (t : Fin cfg0.N) : Vec Ideal S512x1024 .f32 := iblk m c 1 t

/-- What point `t` adds to the accumulator. -/
def part (t : Fin cfg0.N) (p : Fin 1024 × Fin 1024) : EReal := ∑ k : Fin 512, yT m c t (ix2 k p.1) * oT m c t (ix2 k p.2)

theorem pay1_at (i : S1024x1024.Idx) : k0_pay1 (F := Ideal) i = 0 := by
  unfold k0_pay1
  pointwise

theorem pay2_at (v : Vec Ideal S1024x1024 .f32) (x : Vec Ideal S512x1024 .bf16) (y : Vec Ideal S512x1024 .f32) (d e : Fin 1024) :
    k0_pay2 v x y (ix2 d e) = v (ix2 d e) + ∑ k : Fin 512, x (ix2 k d) * y (ix2 k e) := by
  unfold k0_pay2
  pointwise

/-- The accumulator after the last of a column block's points. -/
theorem acc_last (t : Fin cfg0.N) (ht : t.val % 32 = 31) (d e : Fin 1024) :
    (outsAt0 m c t.val t.isLt).2 (ix2 d e)
      = ∑ s : Fin 32, part m c ⟨32 * (t.val / 32) + s.val, Pipeline.run_point_lt_of_flush t ht s⟩ (d, e) := by
  refine (Pipeline.eq_sum_fin_of_reset_step_apply_of_flush
    (fun n h (p : Fin 1024 × Fin 1024) => (outsAt0 m c n h).2 (ix2 p.1 p.2)) 32
    (fun _ => (0 : EReal)) (fun t p => part m c t p) (fun t h p => ?_) (fun t h p => ?_) t ht (d, e)).trans (zero_add _)
  · rw [outsAt0_A m c t h (by omega)]
    frame_out
    rw [pay2_at, pay1_at]
    rfl
  · by_cases h1 : t.val % 32 = 31
    · rw [outsAt0_C m c t h h1]
      frame_out
      rw [pay2_at, read_unread_whole]
      rfl
    · rw [outsAt0_B m c t h h1]
      frame_out
      rw [pay2_at, read_unread_whole]
      rfl

/-- The two blocks' entries in the arrays. -/
theorem yT_at (t : Fin cfg0.N) (k : Fin 512) (d : Fin 1024) :
    yT m c t (ix2 k d) = actY m c (ix2 ⟨t.val % 32 * 512 + k.val, by omega⟩ d) := by
  unfold yT actY
  blk_point [iblk, V, idxIn t]

theorem oT_at (t : Fin cfg0.N) (k : Fin 512) (e : Fin 1024) :
    oT m c t (ix2 k e) = gradO m c (ix2 ⟨t.val % 32 * 512 + k.val, by omega⟩ e) := by
  unfold oT gradO
  blk_point [iblk, V, idxIn t]

/-- The blocks' products make the whole product. -/
theorem sum_parts (t : Fin cfg0.N) (ht : t.val % 32 = 31) (d e : Fin 1024) :
    ∑ s : Fin 32, part m c ⟨32 * (t.val / 32) + s.val, Pipeline.run_point_lt_of_flush t ht s⟩ (d, e)
      = prod m c d e := by
  unfold part prod
  refine Fin.sum_mul_add_congr (S := 32) (n := 512)
    (F := fun s k => yT m c ⟨32 * (t.val / 32) + s.val, Pipeline.run_point_lt_of_flush t ht s⟩ (ix2 k d)
      * oT m c ⟨32 * (t.val / 32) + s.val, Pipeline.run_point_lt_of_flush t ht s⟩ (ix2 k e))
    (f := fun s => actY m c (ix2 s d) * gradO m c (ix2 s e))
    fun s k hl => ?_
  rw [yT_at, oT_at]
  have h1 : (32 * (t.val / 32) + s.val) % 32 = s.val := by omega
  simp only [h1]

theorem pay3_at (v : Vec Ideal S1024x1024 .f32) (j : Fin 4) (b : Fin 2) (r : Fin 128) (e : Fin 1024) :
    k0_pay3 v (ix4 j b r e) = v (ix2 ⟨j.val * 256 + b.val * 128 + r.val, by omega⟩ e) := by
  unfold k0_pay3
  pointwise

/-- The block a column block's last point writes back. -/
theorem out_last (t : Fin cfg0.N) (ht : t.val % 32 = 31) (j : Fin 4) (b : Fin 2) (r : Fin 128) (e : Fin 1024) :
    (outsAt0 m c t.val t.isLt).1 (ix4 j b r e)
      = prod m c ⟨j.val * 256 + b.val * 128 + r.val, by omega⟩ e := by
  have h := acc_last m c t ht ⟨j.val * 256 + b.val * 128 + r.val, by omega⟩ e
  rw [sum_parts m c t ht] at h
  rw [← h, outsAt0_C m c t (by omega) ht]
  frame_out
  rw [pay3_at]

/-- The result's entries. -/
theorem result_at (j : Fin 4) (b : Fin 2) (r : Fin 128) (e : Fin 1024) :
    G2 m c (ix4 j b r e) = prod m c ⟨j.val * 256 + b.val * 128 + r.val, by omega⟩ e := by
  have h := out_last m c ⟨31, by decide⟩ (by decide) j b r e
  rw [outsAt0_sweep] at h
  have hp : pt2Of (ix4 j b r e) = 31 := by
    show 32 * (1 * (j.val / 4 - 0) + 1 * (b.val / 2 - 0) + 1 * (r.val / 128 - 0) + 1 * (e.val / 1024 - 0)) + 31 = _
    omega
  unfold G2
  rw [dif_pos (by rw [hp]; decide), fold0_congr m c _ _ 31 (by decide) hp]
  have hl : loc2Of (ix4 j b r e) = ix4 j b r e := by
    funext a
    match a with
    | ⟨0, _⟩ => exact Fin.ext (Nat.mod_eq_of_lt j.isLt)
    | ⟨1, _⟩ => exact Fin.ext (Nat.mod_eq_of_lt b.isLt)
    | ⟨2, _⟩ => exact Fin.ext (Nat.mod_eq_of_lt r.isLt)
    | ⟨3, _⟩ => exact Fin.ext (Nat.mod_eq_of_lt e.isLt)
  rw [hl, h]

end kernel

section claims

theorem defs_eq : Cert.WgradOut.defs (F := Bits) = Cert.WgradOutIdeal.defs (F := Bits) := by
  refine congrArg (Pipeline.defs Cert.WgradOutIdeal.pcfgs) ?_
  funext p l a
  cases p
  · match l, a with
    | ⟨0, _⟩, _ => rfl
  all_goals rfl

/-- The kernel at the machine's floats: one frame serves both instances. -/
theorem frame_kernel : Cert.quiescent_WgradOut := fun m ρ _ => by
  have h := Cert.WgradOutIdeal.Gen.frame (F := Bits) m ρ
  rw [← defs_eq] at h
  exact h

/-- The kernel at the extended reals. -/
theorem frame_ideal : Cert.quiescent_WgradOutIdeal := fun m ρ _ => Cert.WgradOutIdeal.Gen.frame m ρ

/-- The reference declares no semaphore, and its run leaves its arguments as they were. -/
theorem frame_reference : Cert.quiescent_WgradOutReferenceIdeal := fun m ρ _ =>
  (θ_run Cert.WgradOutReferenceIdeal.defs _ _).mono (fun r h => ⟨fun c => (h c).2,
      Idealize.ShloMosaic.sem_eq_zero_of_no_sems (by decide) r.2⟩)
    (Cert.WgradOutReferenceIdeal.Value.run (F := Ideal) m ρ)

/-- Nothing was rewritten between the kernel and its idealization. -/
theorem preserves : Cert.preserves_WgradOut_WgradOutIdeal := trivial

/-- The reference's entries: its product, its rows cut in three levels of blocks. -/
theorem ref_at (Y : FVec Ideal S16384x1024 .bf16) (O : FVec Ideal S16384x1024 .f32) (j : Fin 4) (b : Fin 2) (r : Fin 128) (e : Fin 1024) :
    shapeCast _ (truncf .bf16 (Host.dotGeneral Cert.WgradOutReferenceIdeal.dot_S16384x1024_S16384x1024_S1024x1024_0_0_1_1_n_n none Y
        (truncf .bf16 O Cert.WgradOutReferenceIdeal.Gen.bitsLt_bf16_f32)) Cert.WgradOutReferenceIdeal.Gen.bitsLt_bf16_f32)
        Cert.WgradOutReferenceIdeal.Gen.shapeCasts_S1024x1024_S4x2x128x1024 (ix4 j b r e)
      = ∑ s : Fin 16384, Y (ix2 s ⟨j.val * 256 + b.val * 128 + r.val, by omega⟩) * O (ix2 s e) := by
  pointwise

/-- The kernel's result is the reference's. -/
theorem algebraic : Cert.algebraic_WgradOutIdeal_WgradOutReferenceIdeal := by
  intro m ρ m' ρ' _ hagree
  refine ⟨_, Cert.WgradOutIdeal.Value.run (F := Ideal) m ρ, ?_⟩
  refine (θ_run Cert.WgradOutReferenceIdeal.defs _ _).mono (fun r h c => ?_)
    (Cert.WgradOutReferenceIdeal.Value.run (F := Ideal) m' ρ')
  obtain ⟨h0, h1⟩ := h c
  obtain ⟨a0, a1⟩ := hagree c
  refine ⟨h0.trans ?_, h1⟩
  rw [a0, a1]
  funext i
  idx_vars i
  exact (ref_at _ _ i0 i1 i2 i3).trans (result_at m c i0 i1 i2 i3).symm

end claims

end Cert.Proof.WgradOutClaims

end
-- ==== Proof.TailRunA.lean ====
module

public import proofs.«01_k».proof.Proof.Gen.TailIdeal.Frame.Runs

@[expose] public section

set_option maxRecDepth 16384

noncomputable section

namespace Cert.Proof.TailRun

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body run whole at the first grid point, where the two accumulators are reset: the pieces its stores
    leave in each output block, with the triple that says so. -/
def runA (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S256x512 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S256x2048 .bf16) (harg17 : arg17.IsWhole) (arg18 : Memref sig .tc .vmem S8x512 .f32) (harg18 : arg18.IsWhole) (arg19 : Memref sig .tc .vmem S4x1024x1024 .bf16) (harg19 : arg19.IsWhole) (arg20 : Memref sig .tc .vmem S256x1024 .f32) (harg20 : arg20.IsWhole) (arg21 : Memref sig .tc .vmem S1x1024 .f32) (harg21 : arg21.IsWhole) (arg22 : Memref sig .tc .vmem S256x1024 .f32) (harg22 : arg22.IsWhole) (arg23 : Memref sig .tc .vmem S256x256 .bf16) (harg23 : arg23.IsWhole) (arg24 : Memref sig .tc .vmem S256x1024 .f32) (harg24 : arg24.IsWhole) (arg25 : Memref sig .tc .vmem S256x4096 .bf16) (harg25 : arg25.IsWhole) (arg26 : Memref sig .tc .vmem S1x1024 .f32) (harg26 : arg26.IsWhole) (arg27 : Memref sig .tc .vmem S1x1024 .f32) (harg27 : arg27.IsWhole) (hc0 : cond0_0 i)
    (x0 : Vec F S256x512 .bf16) (x1 : Vec F S256x512 .bf16) (x2 : Vec F S256x512 .bf16) (x3 : Vec F S256x512 .f32) (x4 : Vec F S256x512 .f32) (x5 : Vec F S256x512 .f32) (x6 : Vec F S256x512 .f32) (x7 : Vec F S256x512 .f32) (x8 : Vec F S256x512 .f32) (x9 : Vec F S256x1024 .bf16) (x10 : Vec F S1x1024 .f32) (x11 : Vec F S256x512 .bf16) (x12 : Vec F S256x1024 .bf16) (x13 : Vec F S256x512 .f32) (x14 : Vec F S8x512 .f32) (x15 : Vec F S8x512 .f32) (x16 : Vec F S256x2048 .bf16) (x17 : Vec F S8x512 .f32) (x18 : Vec F S4x1024x1024 .bf16) (x19 : Vec F S256x1024 .f32) (x20 : Vec F S1x1024 .f32) (x21 : Vec F S256x1024 .f32) (x22 : Vec F S256x256 .bf16) :
    Σ' (L23 : List (View.Piece (Elt F) S256x1024 .f32)), Σ' (L24 : List (View.Piece (Elt F) S256x4096 .bf16)), Σ' (L25 : List (View.Piece (Elt F) S1x1024 .f32)), { L26 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26)) -∗ K ⟨⟩))
          ⊢ wp frame (wpE (defs₀ (F := F)) Variants.none c none) E (cc0_bwd_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_bwd_tail_eq_skeleton]; unfold cc0_bwd_tail_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    isplitl [H24]; · iexists _; iexact H24
    isplitl [H25]; · iexists _; iexact H25
    iexists _; iexact H26

end Cert.Proof.TailRun

end
-- ==== Proof.TailRunB.lean ====
module

public import proofs.«01_k».proof.Proof.Gen.TailIdeal.Frame.Runs

@[expose] public section

set_option maxRecDepth 16384

noncomputable section

namespace Cert.Proof.TailRun

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body run whole at a later grid point, where the two accumulators continue from `xo25`, `xo26`: the pieces its stores
    leave in each output block, with the triple that says so. -/
def runB (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S256x512 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S256x2048 .bf16) (harg17 : arg17.IsWhole) (arg18 : Memref sig .tc .vmem S8x512 .f32) (harg18 : arg18.IsWhole) (arg19 : Memref sig .tc .vmem S4x1024x1024 .bf16) (harg19 : arg19.IsWhole) (arg20 : Memref sig .tc .vmem S256x1024 .f32) (harg20 : arg20.IsWhole) (arg21 : Memref sig .tc .vmem S1x1024 .f32) (harg21 : arg21.IsWhole) (arg22 : Memref sig .tc .vmem S256x1024 .f32) (harg22 : arg22.IsWhole) (arg23 : Memref sig .tc .vmem S256x256 .bf16) (harg23 : arg23.IsWhole) (arg24 : Memref sig .tc .vmem S256x1024 .f32) (harg24 : arg24.IsWhole) (arg25 : Memref sig .tc .vmem S256x4096 .bf16) (harg25 : arg25.IsWhole) (arg26 : Memref sig .tc .vmem S1x1024 .f32) (harg26 : arg26.IsWhole) (arg27 : Memref sig .tc .vmem S1x1024 .f32) (harg27 : arg27.IsWhole) (hc0 : ¬cond0_0 i)
    (x0 : Vec F S256x512 .bf16) (x1 : Vec F S256x512 .bf16) (x2 : Vec F S256x512 .bf16) (x3 : Vec F S256x512 .f32) (x4 : Vec F S256x512 .f32) (x5 : Vec F S256x512 .f32) (x6 : Vec F S256x512 .f32) (x7 : Vec F S256x512 .f32) (x8 : Vec F S256x512 .f32) (x9 : Vec F S256x1024 .bf16) (x10 : Vec F S1x1024 .f32) (x11 : Vec F S256x512 .bf16) (x12 : Vec F S256x1024 .bf16) (x13 : Vec F S256x512 .f32) (x14 : Vec F S8x512 .f32) (x15 : Vec F S8x512 .f32) (x16 : Vec F S256x2048 .bf16) (x17 : Vec F S8x512 .f32) (x18 : Vec F S4x1024x1024 .bf16) (x19 : Vec F S256x1024 .f32) (x20 : Vec F S1x1024 .f32) (x21 : Vec F S256x1024 .f32) (x22 : Vec F S256x256 .bf16) (xo25 : Vec F S1x1024 .f32) (xo26 : Vec F S1x1024 .f32) :
    Σ' (L23 : List (View.Piece (Elt F) S256x1024 .f32)), Σ' (L24 : List (View.Piece (Elt F) S256x4096 .bf16)), Σ' (L25 : List (View.Piece (Elt F) S1x1024 .f32)), { L26 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ owns (c : Thread nD τ) arg26 fullShare xo25 ∗ owns (c : Thread nD τ) arg27 fullShare xo26
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26)) -∗ K ⟨⟩))
          ⊢ wp frame (wpE (defs₀ (F := F)) Variants.none c none) E (cc0_bwd_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_bwd_tail_eq_skeleton]; unfold cc0_bwd_tail_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%f25, %hf25, H25⟩, ⟨%f26, %hf26, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg26.eq_unread hf25; obtain rfl := harg27.eq_unread hf26
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    isplitl [H24]; · iexists _; iexact H24
    isplitl [H25]; · iexists _; iexact H25
    iexists _; iexact H26

end Cert.Proof.TailRun

end
-- ==== Proof.TailFrame.lean ====
module

public import proofs.«01_k».proof.Proof.TailRunA
public import proofs.«01_k».proof.Proof.TailRunB
public import Idealize.ShloMosaic.Lib.Claim

@[expose] public section

set_option maxRecDepth 16384

noncomputable section

namespace Cert.Proof.TailRun

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run, on that point's blocks. -/
def atA (c : Dev nD) (t : Fin cfg0.N) (h : t.val % 64 = 0) :=
  runA c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t)
    (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t)
    (ms0_18 t) (hs0_18 t) (ms0_19 t) (hs0_19 t)
    (ms0_20 t) (hs0_20 t) (ms0_21 t) (hs0_21 t) (ms0_22 t) (hs0_22 t) (ms0_23 t) (hs0_23 t)
    (ms0_24 t) (hs0_24 t) (ms0_25 t) (hs0_25 t) (ms0_26 t) (hs0_26 t)
    ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-- A later point's run, on that point's blocks and over what the accumulators held. -/
def atB (c : Dev nD) (t : Fin cfg0.N) (h : ¬t.val % 64 = 0) (a : Vec F S1x1024 .f32) (b : Vec F S1x1024 .f32) :=
  runB c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t)
    (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t)
    (ms0_18 t) (hs0_18 t) (ms0_19 t) (hs0_19 t)
    (ms0_20 t) (hs0_20 t) (ms0_21 t) (hs0_21 t) (ms0_22 t) (hs0_22 t) (ms0_23 t) (hs0_23 t)
    (ms0_24 t) (hs0_24 t) (ms0_25 t) (hs0_25 t) (ms0_26 t) (hs0_26 t)
    (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) a b

/-- The four output blocks. -/
abbrev Outs (F : FTy → Type) := Vec F S256x1024 .f32 × Vec F S256x4096 .bf16 × Vec F S1x1024 .f32 × Vec F S1x1024 .f32

theorem coverA_23 (c : Dev nD) (t : Fin cfg0.N) (h : t.val % 64 = 0) (y : S256x1024.Idx) :
    ∃ pc ∈ (atA m c t h).1, y ∈ pc.1.set :=
  View.cover_of_tiledL (atA m c t h).1 S256x1024.size (by sl_kernel_rfl) y

theorem coverA_24 (c : Dev nD) (t : Fin cfg0.N) (h : t.val % 64 = 0) (y : S256x4096.Idx) :
    ∃ pc ∈ (atA m c t h).2.1, y ∈ pc.1.set :=
  View.cover_of_tiledBy (atA m c t h).2.1 ![256, 512] (by sl_kernel_rfl) y

theorem coverA_25 (c : Dev nD) (t : Fin cfg0.N) (h : t.val % 64 = 0) (y : S1x1024.Idx) :
    ∃ pc ∈ (atA m c t h).2.2.1, y ∈ pc.1.set :=
  View.cover_of_tiledL (atA m c t h).2.2.1 S1x1024.size (by sl_kernel_rfl) y

theorem coverA_26 (c : Dev nD) (t : Fin cfg0.N) (h : t.val % 64 = 0) (y : S1x1024.Idx) :
    ∃ pc ∈ (atA m c t h).2.2.2.1, y ∈ pc.1.set :=
  View.cover_of_tiledL (atA m c t h).2.2.2.1 S1x1024.size (by sl_kernel_rfl) y

/-- What the first point leaves in the output blocks. -/
def outsA (c : Dev nD) (t : Fin cfg0.N) (h : t.val % 64 = 0) : Outs F :=
  (VO0_23.read (Elt F) (VO0_23.writes (Elt F) VO0_23.junk (atA m c t h).1),
   VO0_24.read (Elt F) (VO0_24.writes (Elt F) VO0_24.junk (atA m c t h).2.1),
   VO0_25.read (Elt F) (VO0_25.writes (Elt F) VO0_25.junk (atA m c t h).2.2.1),
   VO0_26.read (Elt F) (VO0_26.writes (Elt F) VO0_26.junk (atA m c t h).2.2.2.1))

theorem coverB_23 (c : Dev nD) (t : Fin cfg0.N) (h : ¬t.val % 64 = 0) (a : Vec F S1x1024 .f32) (b : Vec F S1x1024 .f32) (y : S256x1024.Idx) :
    ∃ pc ∈ (atB m c t h a b).1, y ∈ pc.1.set :=
  View.cover_of_tiledL (atB m c t h a b).1 S256x1024.size (by sl_kernel_rfl) y

theorem coverB_24 (c : Dev nD) (t : Fin cfg0.N) (h : ¬t.val % 64 = 0) (a : Vec F S1x1024 .f32) (b : Vec F S1x1024 .f32) (y : S256x4096.Idx) :
    ∃ pc ∈ (atB m c t h a b).2.1, y ∈ pc.1.set :=
  View.cover_of_tiledBy (atB m c t h a b).2.1 ![256, 512] (by sl_kernel_rfl) y

theorem coverB_25 (c : Dev nD) (t : Fin cfg0.N) (h : ¬t.val % 64 = 0) (a : Vec F S1x1024 .f32) (b : Vec F S1x1024 .f32) (y : S1x1024.Idx) :
    ∃ pc ∈ (atB m c t h a b).2.2.1, y ∈ pc.1.set :=
  View.cover_of_tiledL (atB m c t h a b).2.2.1 S1x1024.size (by sl_kernel_rfl) y

theorem coverB_26 (c : Dev nD) (t : Fin cfg0.N) (h : ¬t.val % 64 = 0) (a : Vec F S1x1024 .f32) (b : Vec F S1x1024 .f32) (y : S1x1024.Idx) :
    ∃ pc ∈ (atB m c t h a b).2.2.2.1, y ∈ pc.1.set :=
  View.cover_of_tiledL (atB m c t h a b).2.2.2.1 S1x1024.size (by sl_kernel_rfl) y

/-- What a later point leaves in the output blocks. -/
def outsB (c : Dev nD) (t : Fin cfg0.N) (h : ¬t.val % 64 = 0) (a : Vec F S1x1024 .f32) (b : Vec F S1x1024 .f32) : Outs F :=
  (VO0_23.read (Elt F) (VO0_23.writes (Elt F) VO0_23.junk (atB m c t h a b).1),
   VO0_24.read (Elt F) (VO0_24.writes (Elt F) VO0_24.junk (atB m c t h a b).2.1),
   VO0_25.read (Elt F) (VO0_25.writes (Elt F) VO0_25.junk (atB m c t h a b).2.2.1),
   VO0_26.read (Elt F) (VO0_26.writes (Elt F) VO0_26.junk (atB m c t h a b).2.2.2.1))

/-- What the output blocks hold after point `n`. -/
def outsAt (c : Dev nD) : (n : ℕ) → n < cfg0.N → Outs F
  | 0, hn => outsA m c ⟨0, hn⟩ (Nat.zero_mod _)
  | n + 1, hn =>
    if h : (n + 1) % 64 = 0 then outsA m c ⟨n + 1, hn⟩ h
    else outsB m c ⟨n + 1, hn⟩ h (outsAt c n (Nat.lt_of_succ_lt hn)).2.2.1 (outsAt c n (Nat.lt_of_succ_lt hn)).2.2.2

theorem outsAt_A (c : Dev nD) (t : Fin cfg0.N) (h : t.val % 64 = 0) : outsAt m c t.val t.isLt = outsA m c t h := by
  obtain ⟨n, hn⟩ := t
  cases n with
  | zero => exact rfl
  | succ n => exact dif_pos h

theorem outsAt_B (c : Dev nD) (t : Fin cfg0.N) (h : ¬t.val % 64 = 0) :
    outsAt m c t.val t.isLt = outsB m c t h (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h
  | succ n => exact dif_neg h

/-- The data of the one pipeline on core `c`: the arrays as the region finds them, and what each window's buffer holds
    after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt m c t.val t.isLt).1
    | ⟨24, _⟩ => (outsAt m c t.val t.isLt).2.1
    | ⟨25, _⟩ => (outsAt m c t.val t.isLt).2.2.1
    | ⟨26, _⟩ => (outsAt m c t.val t.isLt).2.2.2
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (outsAt m c t.val t.isLt).1 := by dsimp only [dats]
theorem after0_24 (c : Dev nD) (t : Fin cfg0.N) : (dats m 0 c).after 24 t = (outsAt m c t.val t.isLt).2.1 := by dsimp only [dats]
theorem after0_25 (c : Dev nD) (t : Fin cfg0.N) : (dats m 0 c).after 25 t = (outsAt m c t.val t.isLt).2.2.1 := by dsimp only [dats]
theorem after0_26 (c : Dev nD) (t : Fin cfg0.N) : (dats m 0 c).after 26 t = (outsAt m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-- At a later point accumulator 25 still holds what the point before left. -/
theorem held_25 (c : Dev nD) (t : Fin cfg0.N) (h0 : ¬t.val % 64 = 0) (d) :
    (dats m 0 c).before 25 t d = (outsAt m c (t.val - 1) (Nat.lt_of_le_of_lt (Nat.sub_le _ _) t.isLt)).2.2.1 := by
  have hN : t.val < 64 := lt_of_lt_of_eq t.isLt (show cfg0.N = 64 from N_0)
  rw [Dat.before_out_kept _ 25 rfl t (by omega) (Bool.eq_false_iff.mpr fun h => by have := (flush0_25 _).mp h; dsimp only at this; omega)
    (fun _ => rfl) (fun _ _ => rfl)]
  dsimp only [dats]

/-- At a later point accumulator 26 still holds what the point before left. -/
theorem held_26 (c : Dev nD) (t : Fin cfg0.N) (h0 : ¬t.val % 64 = 0) (d) :
    (dats m 0 c).before 26 t d = (outsAt m c (t.val - 1) (Nat.lt_of_le_of_lt (Nat.sub_le _ _) t.isLt)).2.2.2 := by
  have hN : t.val < 64 := lt_of_lt_of_eq t.isLt (show cfg0.N = 64 from N_0)
  rw [Dat.before_out_kept _ 26 rfl t (by omega) (Bool.eq_false_iff.mpr fun h => by have := (flush0_26 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 16000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  have hN : t.val < 64 := lt_of_lt_of_eq t.isLt (show cfg0.N = 64 from N_0)
  by_cases h0 : t.val % 64 = 0
  · rw [outsAt_A m c t h0]
    unfold outsA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((atA m c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]
    · unfold owns; iexists _; isplitr
      swap; · iexact H23
      ipureintro; exact View.read_writes_of_cover _ _ _ _ _ (coverA_23 m c t h0)
    isplitl [H24]
    · unfold owns; iexists _; isplitr
      swap; · iexact H24
      ipureintro; exact View.read_writes_of_cover _ _ _ _ _ (coverA_24 m c t h0)
    isplitl [H25]
    · unfold owns; iexists _; isplitr
      swap; · iexact H25
      ipureintro; exact View.read_writes_of_cover _ _ _ _ _ (coverA_25 m c t h0)
    unfold owns; iexists _; isplitr
    swap; · iexact H26
    ipureintro; exact View.read_writes_of_cover _ _ _ _ _ (coverA_26 m c t h0)
  · simp only [held_25 m c t h0, held_26 m c t h0]
    rw [outsAt_B m c t h0]
    unfold outsB; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((atB m c t h0 _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexact H25
    isplitl [H26]; · iexact H26
    iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]
    · unfold owns; iexists _; isplitr
      swap; · iexact H23
      ipureintro; exact View.read_writes_of_cover _ _ _ _ _ (coverB_23 m c t h0 _ _)
    isplitl [H24]
    · unfold owns; iexists _; isplitr
      swap; · iexact H24
      ipureintro; exact View.read_writes_of_cover _ _ _ _ _ (coverB_24 m c t h0 _ _)
    isplitl [H25]
    · unfold owns; iexists _; isplitr
      swap; · iexact H25
      ipureintro; exact View.read_writes_of_cover _ _ _ _ _ (coverB_25 m c t h0 _ _)
    unfold owns; iexists _; isplitr
    swap; · iexact H26
    ipureintro; exact View.read_writes_of_cover _ _ _ _ _ (coverB_26 m c t h0 _ _)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every fair execution ends, with the arrays the library computes from the data and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- The frame of the program, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.Proof.TailRun

end
-- ==== Proof.TailSpec.lean ====
/- What the tail of the backward pass computes, element by element. -/
module

public import Idealize.ShloMosaic.Lib.Pointwise

@[expose] public section

noncomputable section

namespace Cert.Proof.TailSpec

open Idealize.ShloMosaic

/-- A matrix of extended reals, indexed as the printed arrays are. -/
abbrev Arr (a b : ℕ) := (⟨2, ![a, b]⟩ : Shape).Idx → EReal

/-- The arrays the call reads: the three branches' gradients of queries, keys and values; the queries and keys before
    their norm, with the norm's weights; the gradients of the attention gate, of the convolution's two outer factors and of
    the convolution; the convolution's factors, the taps, the input weights, the residual input, the input norm's weights
    and the gradient arriving at the block's output. -/
structure Args where
  (dq1 dq4 dq16 dk1 dk4 dk16 dv1 dv4 dv16 : Arr 16384 512)
  raw : Arr 16384 1024
  qkw : Arr 1 1024
  dza : Arr 16384 512
  dgbz : Arr 16384 1024
  dzc : Arr 16384 512
  cg : Arr 16384 2048
  cw : Arr 8 512
  w : (⟨3, ![4, 1024, 1024]⟩ : Shape).Idx → EReal
  x : Arr 16384 1024
  nw : Arr 1 1024
  dout : Arr 16384 1024

/-- The norms' small constant. -/
abbrev eps : EReal := Ideal.ofBits .f32 0x358637BD#32

variable (A : Args)

/-- The convolution's gradient at padded row `p`: zero on the two padding rows, else row `p - 1`. -/
def tap (p : ℕ) (j : Fin 512) : EReal :=
  if h : 0 < p ∧ p ≤ 16384 then A.dzc (ix2 ⟨p - 1, by omega⟩ j) else 0

/-- The gradient at the convolution's input. -/
def dt (s : Fin 16384) (j : Fin 512) : EReal :=
  A.cw (ix2 2 j) * tap A s.val j + A.cw (ix2 1 j) * tap A (s.val + 1) j + A.cw (ix2 0 j) * tap A (s.val + 2) j

/-- The gradient at the normed queries and keys, side by side. -/
def dqk (s : Fin 16384) (j : Fin 1024) : EReal :=
  if h : j.val < 512 then
    (A.dq1 (ix2 s ⟨j.val, h⟩) + A.dq4 (ix2 s ⟨j.val, h⟩) + A.dq16 (ix2 s ⟨j.val, h⟩)) * Ideal.ofBits .f32 0x3E000000#32
  else A.dk1 (ix2 s ⟨j.val - 512, by omega⟩) + A.dk4 (ix2 s ⟨j.val - 512, by omega⟩) + A.dk16 (ix2 s ⟨j.val - 512, by omega⟩)

/-- The same times the norm's weights. -/
def g (s : Fin 16384) (j : Fin 1024) : EReal := dqk A s j * A.qkw (ix2 0 j)

/-- The sum over the head that lane `j` belongs to, 64 lanes each. -/
def gsum (f : Fin 1024 → EReal) (j : Fin 1024) : EReal := ∑ d : Fin 64, f ⟨j.val / 64 * 64 + d.val, by omega⟩

/-- The reciprocal root of a head's mean square. -/
def rr (s : Fin 16384) (j : Fin 1024) : EReal :=
  Ideal.rsqrt (gsum (fun l => A.raw (ix2 s l) * A.raw (ix2 s l)) j * Ideal.ofBits .f32 0x3C800000#32 + eps)

/-- A head's mean of gradient times value. -/
def gm (s : Fin 16384) (j : Fin 1024) : EReal :=
  gsum (fun l => g A s l * A.raw (ix2 s l)) j * Ideal.ofBits .f32 0x3C800000#32

/-- The gradient at the queries and keys before their norm. -/
def draw (s : Fin 16384) (j : Fin 1024) : EReal :=
  rr A s j * g A s j - A.raw (ix2 s j) * (rr A s j * rr A s j * rr A s j) * gm A s j

/-- The gradient at the input projection: the convolution's four parts, queries and keys, values, the attention gate. -/
def proj (s : Fin 16384) (k : Fin 4096) : EReal :=
  if h0 : k.val < 512 then dt A s ⟨k.val, h0⟩ * A.cg (ix2 s ⟨1024 + k.val, by omega⟩)
  else if h1 : k.val < 1024 then A.dgbz (ix2 s ⟨k.val - 512, by omega⟩)
  else if h2 : k.val < 1536 then dt A s ⟨k.val - 1024, by omega⟩ * A.cg (ix2 s ⟨k.val - 1024, by omega⟩)
  else if h3 : k.val < 2048 then A.dgbz (ix2 s ⟨k.val - 1024, by omega⟩)
  else if h4 : k.val < 3072 then draw A s ⟨k.val - 2048, by omega⟩
  else if h5 : k.val < 3584 then
    A.dv1 (ix2 s ⟨k.val - 3072, by omega⟩) + A.dv4 (ix2 s ⟨k.val - 3072, by omega⟩) + A.dv16 (ix2 s ⟨k.val - 3072, by omega⟩)
  else A.dza (ix2 s ⟨k.val - 3584, by omega⟩)

/-- The gradient at the normed input: the projection's gradient times the weights transposed. -/
def dh (s : Fin 16384) (d : Fin 1024) : EReal :=
  ∑ b : Fin 4, ∑ k : Fin 1024, proj A s ⟨b.val * 1024 + k.val, by omega⟩ * A.w (ix3 b d k)

/-- The reciprocal root of the input row's mean square. -/
def r (s : Fin 16384) : EReal :=
  Ideal.rsqrt (Ideal.div (∑ d : Fin 1024, A.x (ix2 s d) * A.x (ix2 s d)) (Ideal.ofBits .f32 0x44800000#32) + eps)

def gh (s : Fin 16384) (d : Fin 1024) : EReal := dh A s d * A.nw (ix2 0 d)

/-- The row's mean of gradient times value. -/
def mg (s : Fin 16384) : EReal := Ideal.div (∑ d : Fin 1024, gh A s d * A.x (ix2 s d)) (Ideal.ofBits .f32 0x44800000#32)

/-- The gradient at the block's input. -/
def gx (s : Fin 16384) (d : Fin 1024) : EReal :=
  A.dout (ix2 s d) + r A s * gh A s d - A.x (ix2 s d) * (r A s * r A s * r A s) * mg A s

/-- The gradient of the input norm's weights. -/
def dnw (d : Fin 1024) : EReal := ∑ s : Fin 16384, dh A s d * A.x (ix2 s d) * r A s

/-- The gradient of the query and key norms' weights, before the fold over heads. -/
def dqkw (j : Fin 1024) : EReal := ∑ s : Fin 16384, dqk A s j * A.raw (ix2 s j) * rr A s j

/-! ## The derivative of a reciprocal root mean square, two ways -/

theorem half_eq : Ideal.ofBits .f32 0xBF000000#32 = ((-(1 / 2) : ℝ) : EReal) := by
  simp [Ideal.ofBits, Ideal.ieee, -EReal.coe_mul]; norm_num

theorem n64_eq : Ideal.ofBits .f32 0x42800000#32 = ((64 : ℝ) : EReal) := by
  simp [Ideal.ofBits, Ideal.ieee, -EReal.coe_mul]; norm_num

theorem n1024_eq : Ideal.ofBits .f32 0x44800000#32 = ((1024 : ℝ) : EReal) := by
  simp [Ideal.ofBits, Ideal.ieee, -EReal.coe_mul]; norm_num

theorem inv64_eq : Ideal.ofBits .f32 0x3C800000#32 = ((1 / 64 : ℝ) : EReal) := by
  simp [Ideal.ofBits, Ideal.ieee, -EReal.coe_mul]; norm_num

theorem eps_pos : 0 < eps := by
  unfold eps
  simp [Ideal.ofBits, Ideal.ieee, -EReal.coe_mul]

theorem div64 (x : EReal) : Ideal.div x (Ideal.ofBits .f32 0x42800000#32) = x * Ideal.ofBits .f32 0x3C800000#32 := by
  rw [n64_eq, inv64_eq, Ideal.div_coe (by norm_num)]

theorem sq_nonneg' (x : EReal) : 0 ≤ x * x := by
  induction x with
  | bot => simp
  | top => simp
  | coe a => rw [← EReal.coe_mul]; exact_mod_cast mul_self_nonneg a

theorem mean_pos (S : EReal) (n : ℝ) (hS : 0 ≤ S) (hn : 0 < n) : 0 < Ideal.div S (n : EReal) + eps := by
  rw [Ideal.div_coe (ne_of_gt hn)]
  refine lt_of_lt_of_le eps_pos (le_add_of_nonneg_left (mul_nonneg hS ?_))
  exact_mod_cast (by positivity : (0 : ℝ) ≤ 1 / n)

/-- A reciprocal root over its radicand is its cube. -/
theorem rsqrt_cube (v : EReal) (hv : 0 < v) :
    Ideal.div (Ideal.rsqrt v) v = Ideal.rsqrt v * Ideal.rsqrt v * Ideal.rsqrt v := by
  unfold Ideal.div
  rw [if_neg (ne_of_gt hv)]
  induction v with
  | bot => simp at hv
  | top => simp
  | coe a =>
    have ha : 0 < a := by exact_mod_cast hv
    have e : a⁻¹ = (Real.sqrt a)⁻¹ * (Real.sqrt a)⁻¹ := by rw [← mul_inv, Real.mul_self_sqrt ha.le]
    rw [Ideal.rsqrt_coe, if_neg (not_lt.mpr ha.le), if_neg (ne_of_gt ha), ← EReal.coe_inv, e, ← EReal.coe_mul, ← EReal.coe_mul,
      ← EReal.coe_mul, mul_assoc]

/-- Minus a half of a number, twice. -/
theorem half_twice (y : EReal) : ((-(1 / 2) : ℝ) : EReal) * y + ((-(1 / 2) : ℝ) : EReal) * y = -y := by
  induction y with
  | bot => rw [EReal.coe_mul_bot_of_neg (by norm_num)]; simp
  | top => rw [EReal.coe_mul_top_of_neg (by norm_num)]; simp
  | coe a => rw [← EReal.coe_mul, ← EReal.coe_add, ← EReal.coe_neg]; congr 1; ring

/-- The chain rule through the mean of squares. -/
theorem chain (x S v : EReal) (n : ℝ) (hn : n ≠ 0) (hv : 0 < v) :
    x * Ideal.div (S * (Ideal.ofBits .f32 0xBF000000#32 * Ideal.div (Ideal.rsqrt v) v)) (n : EReal)
        + Ideal.div (S * (Ideal.ofBits .f32 0xBF000000#32 * Ideal.div (Ideal.rsqrt v) v)) (n : EReal) * x
      = -(x * (Ideal.rsqrt v * Ideal.rsqrt v * Ideal.rsqrt v) * Ideal.div S (n : EReal)) := by
  rw [rsqrt_cube v hv, half_eq, Ideal.div_coe hn, Ideal.div_coe hn]
  generalize Ideal.rsqrt v * Ideal.rsqrt v * Ideal.rsqrt v = q
  generalize ((1 / n : ℝ) : EReal) = k
  rw [← half_twice (x * q * (S * k))]
  have e : ∀ h : EReal, S * (h * q) * k * x = h * (x * q * (S * k)) := fun h => by ac_rfl
  rw [mul_comm x, e]

end Cert.Proof.TailSpec

end
-- ==== Proof.TailTile.lean ====
/- The tail call's body at a point, from that point's blocks. -/
module

public import proofs.«01_k».proof.Proof.TailFrame
public import proofs.«01_k».proof.Proof.TailSpec
public import Idealize.ShloMosaic.Lib.Pipeline.ValueKit
public import Idealize.ShloMosaic.Lib.Pipeline.ReadBack

@[expose] public section

set_option maxRecDepth 16384

noncomputable section

namespace Cert.Proof.TailRun

open Cert.TailIdeal Cert.TailIdeal.Gen
open Idealize.ShloMosaic Idealize.ShloMosaic.TcCoe

variable {F : FTy → Type} [FloatOps F]
variable (m : (ℓ : Loc nD τ sig) → Buf (Elt F) ℓ)

/-! ## The body's arrays at a point, from that point's blocks -/

variable (c : Dev nD) (t : Fin cfg0.N)

/-- The queries' and keys' blocks and the block matrix of heads. -/
def rawB : Vec F S256x1024 .bf16 := iblk m c 9 t
def bT : Vec F S256x256 .bf16 := iblk m c 22 t
/-- The gradient at the convolution's input. -/
def dtT : FVec F S256x512 .f32 :=
  k0_pay4 (grid0.coords t) (iblk m c 13 t) (View.ld (iblk m c 14 t) (Rect.unit ![7, 0] ![1, 512] inb_S8x512_S1x512_7_0))
    (View.ld (iblk m c 15 t) (Rect.unit ![0, 0] ![1, 512] inb_S8x512_S1x512_0_0))
    (View.ld (iblk m c 17 t) (Rect.unit ![0, 0] ![1, 512] inb_S8x512_S1x512_0_0)) (View.ld (iblk m c 17 t) (Rect.unit ![1, 0] ![1, 512] inb_S8x512_S1x512_1_0))
    (View.ld (iblk m c 17 t) (Rect.unit ![2, 0] ![1, 512] inb_S8x512_S1x512_2_0))
/-- The queries' gradient, scaled. -/
def dqT : FVec F S256x512 .f32 := k0_pay7 (iblk m c 0 t) (iblk m c 1 t) (iblk m c 2 t)
def dk2T : FVec F S256x512 .f32 := k0_pay8 (iblk m c 3 t) (iblk m c 4 t)
/-- The keys' gradient. -/
def dkT : FVec F S256x512 .f32 := k0_pay9 (dk2T m c t) (iblk m c 5 t)
/-- Both, times the norm's weights. -/
def gT : FVec F S256x1024 .f32 := k0_pay10 (dqT m c t) (dk2T m c t) (iblk m c 5 t) (iblk m c 10 t)
/-- Queries and keys before their norm. -/
def rawT : FVec F S256x1024 .f32 := k0_pay11 (rawB m c t)
/-- The heads' reciprocal roots. -/
def rrT : FVec F S256x1024 .f32 :=
  k0_pay20 (k0_pay13 (rawB m c t)) (k0_pay14 (rawB m c t)) (k0_pay15 (rawB m c t) (bT m c t) (bT m c t)) (k0_pay16 (rawB m c t) (bT m c t) (bT m c t))
    (k0_pay17 (rawB m c t) (bT m c t)) (k0_pay18 (rawB m c t)) (k0_pay19 (bT m c t)) (constant S256x256 .f32 0x00000000#32) (bT m c t) (bT m c t)
/-- The gradient at queries and keys before their norm. -/
def drawT : FVec F S256x1024 .bf16 :=
  k0_pay27 (gT m c t) (rawT m c t) (rrT m c t) (k0_pay22 (gT m c t) (rawT m c t)) (k0_pay23 (gT m c t) (rawT m c t))
    (k0_pay24 (gT m c t) (rawT m c t) (bT m c t) (bT m c t)) (k0_pay25 (gT m c t) (rawT m c t) (bT m c t) (bT m c t))
    (bT m c t) (bT m c t) (bT m c t) (bT m c t)
/-- The pieces of the projection's gradient, the last stored first. -/
def projL : List (View.Piece (Elt F) S256x4096 .bf16) :=
  [⟨Rect.unit ![0, 3584] ![256, 512] inb_S256x4096_S256x512_0_3584, iblk m c 11 t⟩,
    ⟨Rect.unit ![0, 3072] ![256, 512] inb_S256x4096_S256x512_0_3072, k0_pay28 (iblk m c 6 t) (iblk m c 7 t) (iblk m c 8 t)⟩,
    ⟨Rect.unit ![0, 2048] ![256, 1024] inb_S256x4096_S256x1024_0_2048, drawT m c t⟩,
    ⟨Rect.unit ![0, 1536] ![256, 512] inb_S256x4096_S256x512_0_1536, View.ld (iblk m c 12 t) (Rect.unit ![0, 512] ![256, 512] inb_S256x1024_S256x512_0_512)⟩,
    ⟨Rect.unit ![0, 1024] ![256, 512] inb_S256x4096_S256x512_0_1024, k0_pay6 (dtT m c t) (View.ld (iblk m c 16 t) (Rect.unit ![0, 0] ![256, 512] inb_S256x2048_S256x512_0_0))⟩,
    ⟨Rect.unit ![0, 512] ![256, 512] inb_S256x4096_S256x512_0_512, View.ld (iblk m c 12 t) (Rect.unit ![0, 0] ![256, 512] inb_S256x1024_S256x512_0_0)⟩,
    ⟨Rect.unit ![0, 0] ![256, 512] inb_S256x4096_S256x512_0_0, k0_pay5 (dtT m c t) (View.ld (iblk m c 16 t) (Rect.unit ![0, 1024] ![256, 512] inb_S256x2048_S256x512_0_1024))⟩]

/-- The projection's gradient read back in four stretches of columns. -/
def projV : View sig .tc .vmem S256x4096 .bf16 := (ms0_24 t).view
def projR (r : Rect S256x4096) : r.shape.Idx → Elt F .bf16 := (projV t).readCov (projL m c t) r.toLoadRect
def proj0 : Vec F S256x1024 .bf16 := projR m c t (Rect.unit ![0, 0] ![256, 1024] inb_S256x4096_S256x1024_0_0)
def proj1 : Vec F S256x1024 .bf16 := projR m c t (Rect.unit ![0, 1024] ![256, 1024] inb_S256x4096_S256x1024_0_1024)
def proj2 : Vec F S256x1024 .bf16 := projR m c t (Rect.unit ![0, 2048] ![256, 1024] inb_S256x4096_S256x1024_0_2048)
def proj3 : Vec F S256x1024 .bf16 := projR m c t (Rect.unit ![0, 3072] ![256, 1024] inb_S256x4096_S256x1024_0_3072)
/-- The weights' four blocks. -/
def w0 : Vec F S1x1024x1024 .bf16 := View.ld (iblk m c 18 t) (Rect.unit ![0, 0, 0] ![1, 1024, 1024] inb_S4x1024x1024_S1x1024x1024_0_0_0)
def w1 : Vec F S1x1024x1024 .bf16 := View.ld (iblk m c 18 t) (Rect.unit ![1, 0, 0] ![1, 1024, 1024] inb_S4x1024x1024_S1x1024x1024_1_0_0)
def w2 : Vec F S1x1024x1024 .bf16 := View.ld (iblk m c 18 t) (Rect.unit ![2, 0, 0] ![1, 1024, 1024] inb_S4x1024x1024_S1x1024x1024_2_0_0)
def w3 : Vec F S1x1024x1024 .bf16 := View.ld (iblk m c 18 t) (Rect.unit ![3, 0, 0] ![1, 1024, 1024] inb_S4x1024x1024_S1x1024x1024_3_0_0)
/-- The first three stretches times their weights. -/
def dh3T : FVec F S256x1024 .f32 := k0_pay29 (proj0 m c t) (w0 m c t) (proj1 m c t) (w1 m c t) (proj2 m c t) (w2 m c t)
/-- The gradient at the block's input. -/
def gxT : FVec F S256x1024 .f32 :=
  k0_pay1 (iblk m c 19 t) (k0_pay34 (dh3T m c t) (proj3 m c t) (w3 m c t) (iblk m c 19 t) (iblk m c 20 t))
    (k0_pay35 (dh3T m c t) (proj3 m c t) (w3 m c t) (iblk m c 19 t) (iblk m c 20 t) (iblk m c 21 t)) (k0_pay36 (iblk m c 19 t))
/-- The two accumulators a step on. -/
def dnwT (a : Vec F S1x1024 .f32) : FVec F S1x1024 .f32 := k0_pay33 (dh3T m c t) (proj3 m c t) (w3 m c t) (iblk m c 19 t) a
def dqkwT (a : Vec F S1x1024 .f32) : FVec F S1x1024 .f32 := k0_pay26 (dqT m c t) (dkT m c t) (rawT m c t) (rrT m c t) a

/-! ## What the body leaves in the results -/

theorem gx_A (h : t.val % 64 = 0) : (outsA m c t h).1 = gxT m c t := by
  unfold outsA atA runA
  frame_out
  rfl

theorem dnw_A (h : t.val % 64 = 0) : (outsA m c t h).2.2.1 = dnwT m c t k0_pay2 := by
  unfold outsA atA runA
  frame_out
  rfl

theorem dqkw_A (h : t.val % 64 = 0) : (outsA m c t h).2.2.2 = dqkwT m c t k0_pay3 := by
  unfold outsA atA runA
  frame_out
  rfl

theorem gx_B (h : ¬t.val % 64 = 0) (a b : Vec F S1x1024 .f32) : (outsB m c t h a b).1 = gxT m c t := by
  unfold outsB atB runB
  frame_out
  rfl

theorem dnw_B (h : ¬t.val % 64 = 0) (a b : Vec F S1x1024 .f32) : (outsB m c t h a b).2.2.1 = dnwT m c t a := by
  unfold outsB atB runB
  frame_out
  rfl

theorem dqkw_B (h : ¬t.val % 64 = 0) (a b : Vec F S1x1024 .f32) : (outsB m c t h a b).2.2.2 = dqkwT m c t b := by
  unfold outsB atB runB
  frame_out
  rfl

end Cert.Proof.TailRun

end
-- ==== Proof.TailHeads.lean ====
/- The matrix of heads that the call's own lines build before its kernel. -/
module

public import proofs.«01_k».proof.Proof.TailTile
public import Idealize.ShloMosaic.Lib.Pointwise

@[expose] public section

set_option maxRecDepth 16384

noncomputable section

namespace Cert.Proof.TailRun

open Cert.TailIdeal Cert.TailIdeal.Gen
open Idealize.ShloMosaic Idealize.ShloMosaic.TcCoe

variable (m : (ℓ : Loc nD τ sig) → Buf (Elt Ideal) ℓ) (c : Dev nD)

/-- A number spread over 256 lanes. -/
def lanes (n : BitVec 32) : Vec Ideal S256 .i32 := broadcastInDim S256 ![] bcast_S_S256 (constantI S_ 32 n)

/-- The floor of a lane's number over 64, as the lines compute it. -/
def quot : Vec Ideal S256 .i32 :=
  select (andi (cmpi .ne (signi (iotaInDim S256 32 0)) (broadcastInDim S256 ![] bcast_S_S256 (signi (constantI S_ 32 64#32))))
      (cmpi .ne (Host.remsi (iotaInDim S256 32 0) (lanes 64#32)) (lanes 0#32)))
    (subi (Host.divsi (iotaInDim S256 32 0) (lanes 64#32)) (lanes 1#32)) (Host.divsi (iotaInDim S256 32 0) (lanes 64#32))

theorem quot_at : ∀ i : Fin 256, quot (ix1 i) = BitVec.ofNat 32 (i.val / 64) := by
  decide +kernel

/-- The matrix, from those floors. -/
def heads : FVec Ideal S256x256 .bf16 :=
  uitofp .bf16 (cmpi .eq
    (broadcastInDim S256x256 ![0, 1] bcast_S256x1_S256x256_0_1 (broadcastInDim S256x1 ![0] bcast_S256_S256x1_0 quot))
    (broadcastInDim S256x256 ![0, 1] bcast_S1x256_S256x256_0_1 (broadcastInDim S1x256 ![1] bcast_S256_S1x256_1 quot)))

theorem V_heads : V m c main_v7 = heads := by
  unfold V
  simp only [hostOps0, hostOps0_1, hostOps0_2, List.flatten_cons, List.flatten_nil, List.append_nil, List.cons_append, List.nil_append]
  after_results
  rfl

/-- One where two lanes are of one head, zero elsewhere. -/
theorem heads_at (i j : Fin 256) : heads (ix2 i j) = (if i.val / 64 = j.val / 64 then (1 : EReal) else (0 : EReal)) := by
  unfold heads
  pointwise
  rw [quot_at, quot_at]
  have h : IntOp.cmpi .eq (BitVec.ofNat 32 (i.val / 64)) (BitVec.ofNat 32 (j.val / 64)) = BitVec.ofBool (decide (i.val / 64 = j.val / 64)) := by
    show BitVec.ofBool (BitVec.ofNat 32 (i.val / 64) == BitVec.ofNat 32 (j.val / 64)) = _
    congr 1
    rw [beq_eq_decide, decide_eq_decide, ← BitVec.toNat_inj, BitVec.toNat_ofNat, BitVec.toNat_ofNat]
    omega
  rw [h]
  by_cases e : i.val / 64 = j.val / 64
  · rw [if_pos e, decide_eq_true e]
    show (((BitVec.ofBool true).toNat : ℝ) : EReal) = 1
    simp
  · rw [if_neg e, decide_eq_false e]
    show (((BitVec.ofBool false).toNat : ℝ) : EReal) = 0
    simp

/-- A row times the matrix is a sum over a head's 64 lanes. -/
theorem sum_heads (f : Fin 256 → EReal) (j : Fin 256) :
    (∑ k : Fin 256, f k * heads (ix2 k j)) = ∑ d : Fin 64, f ⟨j.val / 64 * 64 + d.val, by omega⟩ := by
  simp only [heads_at, mul_ite, mul_one, mul_zero]
  rw [← Finset.sum_filter]
  refine (Finset.sum_nbij (fun d : Fin 64 => (⟨j.val / 64 * 64 + d.val, by omega⟩ : Fin 256)) ?_ ?_ ?_ ?_).symm
  · intro d _
    simp only [Finset.mem_filter, Finset.mem_univ, true_and]
    omega
  · intro a _ b _ h
    have := congrArg Fin.val h
    simp only [] at this
    exact Fin.ext (by omega)
  · intro k hk
    simp only [Finset.coe_filter, Finset.mem_univ, true_and, Set.mem_setOf_eq] at hk
    exact ⟨⟨k.val % 64, Nat.mod_lt _ (by omega)⟩, by simp, Fin.ext (by show j.val / 64 * 64 + k.val % 64 = k.val; omega)⟩
  · intro d _
    rfl

end Cert.Proof.TailRun

end
-- ==== Proof.TailTileAt.lean ====
/- The tail call's body at a point, element by element. -/
module

public import proofs.«01_k».proof.Proof.TailHeads

@[expose] public section

set_option maxRecDepth 16384

noncomputable section

namespace Cert.Proof.TailRun

open Cert.TailIdeal Cert.TailIdeal.Gen
open Idealize.ShloMosaic Idealize.ShloMosaic.TcCoe
open Cert.Proof

variable (m : (ℓ : Loc nD τ sig) → Buf (Elt Ideal) ℓ) (c : Dev nD) (t : Fin cfg0.N)

/-- The call's arguments, as the specification reads them. -/
def kargs : TailSpec.Args where
  dq1 := m ((c : Thread nD τ).loc main_arg0)
  dq4 := m ((c : Thread nD τ).loc main_arg1)
  dq16 := m ((c : Thread nD τ).loc main_arg2)
  dk1 := m ((c : Thread nD τ).loc main_arg3)
  dk4 := m ((c : Thread nD τ).loc main_arg4)
  dk16 := m ((c : Thread nD τ).loc main_arg5)
  dv1 := m ((c : Thread nD τ).loc main_arg6)
  dv4 := m ((c : Thread nD τ).loc main_arg7)
  dv16 := m ((c : Thread nD τ).loc main_arg8)
  raw := m ((c : Thread nD τ).loc main_arg9)
  qkw := m ((c : Thread nD τ).loc main_arg10)
  dza := m ((c : Thread nD τ).loc main_arg11)
  dgbz := m ((c : Thread nD τ).loc main_arg12)
  dzc := m ((c : Thread nD τ).loc main_arg13)
  cg := m ((c : Thread nD τ).loc main_arg14)
  cw := m ((c : Thread nD τ).loc main_arg15)
  w := m ((c : Thread nD τ).loc main_arg16)
  x := m ((c : Thread nD τ).loc main_arg17)
  nw := m ((c : Thread nD τ).loc main_arg18)
  dout := m ((c : Thread nD τ).loc main_arg19)

theorem idxRow : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![t.val, 0] := by
  decide +kernel

theorem idxRow' : ∀ t : Fin cfg0.N, win0_11.index t = ![t.val, 0] ∧ win0_12.index t = ![t.val, 0] ∧ win0_13.index t = ![t.val, 0] ∧
    win0_16.index t = ![t.val, 0] ∧ win0_19.index t = ![t.val, 0] ∧ win0_21.index t = ![t.val, 0] := by
  decide +kernel

theorem idxHalo : ∀ t : Fin cfg0.N, win0_14.index t = ![32 * t.val - 1, 0] ∧ win0_15.index t = ![min (32 * (t.val + 1)) 2047, 0] := by
  decide +kernel

theorem idxWhole : ∀ t : Fin cfg0.N, win0_10.index t = ![0, 0] ∧ win0_17.index t = ![0, 0] ∧ win0_18.index t = ![0, 0, 0] ∧
    win0_20.index t = ![0, 0] ∧ win0_22.index t = ![0, 0] := by
  decide +kernel

theorem lt_t : t.val < 64 := t.isLt

/-- The sequence's row under the tile's row `r`. -/
def row (r : Fin 256) : Fin 16384 := ⟨256 * t.val + r.val, by have := lt_t t; omega⟩

/-! ## The blocks -/

theorem b0 (r : Fin 256) (j : Fin 512) : iblk m c 0 t (ix2 r j) = (kargs m c).dq1 (ix2 (row t r) j) := by
  unfold row kargs; blk_point [iblk, V_main_arg0 m c, idxRow t]
theorem b1 (r : Fin 256) (j : Fin 512) : iblk m c 1 t (ix2 r j) = (kargs m c).dq4 (ix2 (row t r) j) := by
  unfold row kargs; blk_point [iblk, V_main_arg1 m c, idxRow t]
theorem b2 (r : Fin 256) (j : Fin 512) : iblk m c 2 t (ix2 r j) = (kargs m c).dq16 (ix2 (row t r) j) := by
  unfold row kargs; blk_point [iblk, V_main_arg2 m c, idxRow t]
theorem b3 (r : Fin 256) (j : Fin 512) : iblk m c 3 t (ix2 r j) = (kargs m c).dk1 (ix2 (row t r) j) := by
  unfold row kargs; blk_point [iblk, V_main_arg3 m c, idxRow t]
theorem b4 (r : Fin 256) (j : Fin 512) : iblk m c 4 t (ix2 r j) = (kargs m c).dk4 (ix2 (row t r) j) := by
  unfold row kargs; blk_point [iblk, V_main_arg4 m c, idxRow t]
theorem b5 (r : Fin 256) (j : Fin 512) : iblk m c 5 t (ix2 r j) = (kargs m c).dk16 (ix2 (row t r) j) := by
  unfold row kargs; blk_point [iblk, V_main_arg5 m c, idxRow t]
theorem b6 (r : Fin 256) (j : Fin 512) : iblk m c 6 t (ix2 r j) = (kargs m c).dv1 (ix2 (row t r) j) := by
  unfold row kargs; blk_point [iblk, V_main_arg6 m c, idxRow t]
theorem b7 (r : Fin 256) (j : Fin 512) : iblk m c 7 t (ix2 r j) = (kargs m c).dv4 (ix2 (row t r) j) := by
  unfold row kargs; blk_point [iblk, V_main_arg7 m c, idxRow t]
theorem b8 (r : Fin 256) (j : Fin 512) : iblk m c 8 t (ix2 r j) = (kargs m c).dv16 (ix2 (row t r) j) := by
  unfold row kargs; blk_point [iblk, V_main_arg8 m c, idxRow t]
theorem b9 (r : Fin 256) (j : Fin 1024) : iblk m c 9 t (ix2 r j) = (kargs m c).raw (ix2 (row t r) j) := by
  unfold row kargs; blk_point [iblk, V_main_arg9 m c, idxRow t]
theorem b10 (j : Fin 1024) : iblk m c 10 t (ix2 0 j) = (kargs m c).qkw (ix2 0 j) := by
  unfold kargs; blk_point [iblk, V_main_arg10 m c, idxWhole t]
theorem b11 (r : Fin 256) (j : Fin 512) : iblk m c 11 t (ix2 r j) = (kargs m c).dza (ix2 (row t r) j) := by
  unfold row kargs; blk_point [iblk, V_main_arg11 m c, idxRow' t]
theorem b12 (r : Fin 256) (j : Fin 1024) : iblk m c 12 t (ix2 r j) = (kargs m c).dgbz (ix2 (row t r) j) := by
  unfold row kargs; blk_point [iblk, V_main_arg12 m c, idxRow' t]
theorem b13 (r : Fin 256) (j : Fin 512) : iblk m c 13 t (ix2 r j) = TailSpec.tap (kargs m c) ((row t r).val + 1) j := by
  unfold TailSpec.tap
  rw [dif_pos ⟨by omega, by have := (row t r).isLt; omega⟩]
  unfold row kargs; blk_point [iblk, V_main_arg13 m c, idxRow' t]
theorem b14 (j : Fin 512) (h : t.val ≠ 0) : iblk m c 14 t (ix2 7 j) = TailSpec.tap (kargs m c) (256 * t.val) j := by
  have ht := lt_t t
  unfold TailSpec.tap
  rw [dif_pos (by omega)]
  unfold kargs; blk_point [iblk, V_main_arg13 m c, idxHalo t]
theorem b15 (j : Fin 512) (h : t.val ≠ 63) : iblk m c 15 t (ix2 0 j) = TailSpec.tap (kargs m c) (256 * t.val + 257) j := by
  have ht := lt_t t
  unfold TailSpec.tap
  rw [dif_pos (by omega)]
  unfold kargs; blk_point [iblk, V_main_arg13 m c, idxHalo t]
theorem b16 (r : Fin 256) (j : Fin 2048) : iblk m c 16 t (ix2 r j) = (kargs m c).cg (ix2 (row t r) j) := by
  unfold row kargs; blk_point [iblk, V_main_arg14 m c, idxRow' t]
theorem b17 (k : Fin 8) (j : Fin 512) : iblk m c 17 t (ix2 k j) = (kargs m c).cw (ix2 k j) := by
  unfold kargs; blk_point [iblk, V_main_arg15 m c, idxWhole t]
theorem b18 (b : Fin 4) (i j : Fin 1024) : iblk m c 18 t (ix3 b i j) = (kargs m c).w (ix3 b i j) := by
  unfold kargs; blk_point [iblk, V_main_arg16 m c, idxWhole t]
theorem b19 (r : Fin 256) (j : Fin 1024) : iblk m c 19 t (ix2 r j) = (kargs m c).x (ix2 (row t r) j) := by
  unfold row kargs; blk_point [iblk, V_main_arg17 m c, idxRow' t]
theorem b20 (j : Fin 1024) : iblk m c 20 t (ix2 0 j) = (kargs m c).nw (ix2 0 j) := by
  unfold kargs; blk_point [iblk, V_main_arg18 m c, idxWhole t]
theorem b21 (r : Fin 256) (j : Fin 1024) : iblk m c 21 t (ix2 r j) = (kargs m c).dout (ix2 (row t r) j) := by
  unfold row kargs; blk_point [iblk, V_main_arg19 m c, idxRow' t]
theorem b22_of (X : Vec Ideal S256x256 .bf16) (hX : V m c main_v7 = X) (i j : Fin 256) : bT m c t (ix2 i j) = X (ix2 i j) := by
  unfold bT; blk_point [iblk, hX, idxWhole t]
theorem b22 (i j : Fin 256) : bT m c t (ix2 i j) = heads (ix2 i j) := b22_of m c t heads (V_heads m c) i j

/-! ## The convolution -/

/-- A choice on a counter being a given number. -/
theorem pick {α : Type} (n k : ℕ) (hn : n < 256) (hk : k < 256) (a b : α) :
    Scalar.select (IntOp.cmpi .eq (BitVec.ofNat 32 n) (BitVec.ofNat 32 k)) a b = if n = k then a else b := by
  have h : IntOp.cmpi .eq (BitVec.ofNat 32 n) (BitVec.ofNat 32 k) = BitVec.ofBool (decide (n = k)) := by
    show BitVec.ofBool (BitVec.ofNat 32 n == BitVec.ofNat 32 k) = _
    congr 1
    rw [beq_eq_decide, decide_eq_decide, ← BitVec.toNat_inj, BitVec.toNat_ofNat, BitVec.toNat_ofNat]
    omega
  rw [h]
  by_cases e : n = k
  · rw [if_pos e, decide_eq_true e]; rfl
  · rw [if_neg e, decide_eq_false e]; rfl

theorem coord : ∀ t : Fin cfg0.N, (grid0.coords t 0).val = t.val := by decide +kernel

/-- The row under a tile's row, the next tile's first row below the last. -/
theorem down_at (r : Fin 256) (j : Fin 512) :
    (if r.val = 255 then (if t.val = 63 then (0 : EReal) else iblk m c 15 t (ix2 0 j))
      else iblk m c 13 t (ix2 ⟨(r.val + 256 - 255) % 256, Nat.mod_lt _ (by omega)⟩ j)) = TailSpec.tap (kargs m c) ((row t r).val + 2) j := by
  have ht := lt_t t
  by_cases h : r.val = 255
  · rw [if_pos h]
    by_cases h' : t.val = 63
    · rw [if_pos h']
      unfold TailSpec.tap row
      rw [dif_neg (by simp only []; omega)]
    · rw [if_neg h', b15 m c t j h']
      congr 1
      show 256 * t.val + 257 = 256 * t.val + r.val + 2
      omega
  · rw [if_neg h, b13]
    congr 1
    show 256 * t.val + (r.val + 256 - 255) % 256 + 1 = 256 * t.val + r.val + 2
    omega

/-- The row over it, the previous tile's last row above the first. -/
theorem up_at (r : Fin 256) (j : Fin 512) :
    (if r.val = 0 then (if t.val = 0 then (0 : EReal) else iblk m c 14 t (ix2 7 j))
      else iblk m c 13 t (ix2 ⟨(r.val + 256 - 1) % 256, Nat.mod_lt _ (by omega)⟩ j)) = TailSpec.tap (kargs m c) (row t r).val j := by
  have ht := lt_t t
  by_cases h : r.val = 0
  · rw [if_pos h]
    by_cases h' : t.val = 0
    · rw [if_pos h']
      unfold TailSpec.tap row
      rw [dif_neg (by simp only []; omega)]
    · rw [if_neg h', b14 m c t j h']
      congr 1
      show 256 * t.val = 256 * t.val + r.val
      omega
  · rw [if_neg h, b13]
    congr 1
    show 256 * t.val + (r.val + 256 - 1) % 256 + 1 = 256 * t.val + r.val
    omega

theorem dt_at (r : Fin 256) (j : Fin 512) : dtT m c t (ix2 r j) = TailSpec.dt (kargs m c) (row t r) j := by
  have ht := lt_t t
  unfold dtT k0_pay4
  pointwise
  rw [coord]
  have e1 := pick (α := EReal) r.val 255 (by omega) (by omega)
  have e2 := pick (α := EReal) t.val 63 (by omega) (by omega)
  have e3 := pick (α := EReal) r.val 0 (by omega) (by omega)
  have e4 := pick (α := EReal) t.val 0 (by omega) (by omega)
  unfold Scalar.cmpi
  have k : ∀ x0 d x1 e x2 u y0 d' y1 e' y2 u' : EReal, x0 = y0 → d = d' → x1 = y1 → e = e' → x2 = y2 → u = u' →
      x0 * d + x1 * e + x2 * u = y0 * d' + y1 * e' + y2 * u' := by
    intros; subst_vars; rfl
  refine (k _ _ _ _ _ _ _ _ _ _ _ _ (b17 m c t 0 j) ((e1 _ _).trans ((congrArg (fun z => if r.val = 255 then z else _) (e2 _ _)).trans (down_at m c t r j)))
    (b17 m c t 1 j) (b13 m c t r j) (b17 m c t 2 j)
    ((e3 _ _).trans ((congrArg (fun z => if r.val = 0 then z else _) (e4 _ _)).trans (up_at m c t r j)))).trans ?_
  unfold TailSpec.dt
  rw [add_comm (_ + _), add_comm (_ * _) (_ * TailSpec.tap _ (_ + 1) _), ← add_assoc]

end Cert.Proof.TailRun

end
-- ==== Proof.TailPoint.lean ====
/- The tail call's body at a point, element by element: queries and keys, the projection's gradient, the results. -/
module

public import proofs.«01_k».proof.Proof.TailTileAt

@[expose] public section

set_option maxRecDepth 16384

noncomputable section

namespace Cert.Proof.TailSpec

/-- The gradient at queries and keys, their values before the norm and the norm's weights are finite. -/
structure Finite (A : Args) : Prop where
  dqk : ∀ s j, ∃ a : ℝ, dqk A s j = (a : EReal)
  raw : ∀ i, ∃ a : ℝ, A.raw i = (a : EReal)
  qkw : ∀ j, ∃ a : ℝ, A.qkw (Idealize.ShloMosaic.ix2 0 j) = (a : EReal)

end Cert.Proof.TailSpec

namespace Cert.Proof.TailRun

open Cert.TailIdeal Cert.TailIdeal.Gen
open Idealize.ShloMosaic Idealize.ShloMosaic.TcCoe
open Cert.Proof

/-! ## Sums over a head -/

/-- A block of 256 lanes times the matrix of heads, beside a remainder that is zero. -/
theorem block_sum (f : Fin 1024 → EReal) (hf : ∀ l, f l - f l = 0) (g : Fin 256 → EReal) (o : ℕ) (ho : o + 256 ≤ 1024)
    (h64 : o % 64 = 0) (hg : ∀ x : Fin 256, g x = f ⟨o + x.val, by omega⟩) (b : Vec Ideal S256x256 .bf16)
    (hb : ∀ i k, b (ix2 i k) = heads (ix2 i k)) (j : Fin 1024) (k : Fin 256) (hk : o + k.val = j.val) :
    (∑ x : Fin 256, g x * b (ix2 x k)) + (∑ x : Fin 256, (g x - g x) * b (ix2 x k)) = TailSpec.gsum f j := by
  have e : (∑ x : Fin 256, (g x - g x) * b (ix2 x k)) = 0 :=
    Finset.sum_eq_zero fun x _ => by rw [hg, hf, zero_mul]
  rw [e, add_zero]
  simp only [hb]
  rw [sum_heads]
  unfold TailSpec.gsum
  refine Finset.sum_congr rfl fun d _ => ?_
  rw [hg]
  congr 1
  exact Fin.ext (by show o + (k.val / 64 * 64 + d.val) = j.val / 64 * 64 + d.val; omega)

/-- The four blocks side by side. -/
theorem blocks_sum (f : Fin 1024 → EReal) (hf : ∀ l, f l - f l = 0) (b : Vec Ideal S256x256 .bf16)
    (hb : ∀ i k, b (ix2 i k) = heads (ix2 i k)) (j : Fin 1024) :
    (if h : j.val < 256 then
        (∑ x : Fin 256, f ⟨x.val, by omega⟩ * b (ix2 x ⟨j.val, by omega⟩)) + ∑ x : Fin 256, (f ⟨x.val, by omega⟩ - f ⟨x.val, by omega⟩) * b (ix2 x ⟨j.val, by omega⟩)
      else if h1 : j.val - 256 < 256 then
        (∑ x : Fin 256, f ⟨256 + x.val, by omega⟩ * b (ix2 x ⟨j.val - 256, by omega⟩)) + ∑ x : Fin 256, (f ⟨256 + x.val, by omega⟩ - f ⟨256 + x.val, by omega⟩) * b (ix2 x ⟨j.val - 256, by omega⟩)
      else if h2 : j.val - 256 - 256 < 256 then
        (∑ x : Fin 256, f ⟨512 + x.val, by omega⟩ * b (ix2 x ⟨j.val - 256 - 256, by omega⟩)) + ∑ x : Fin 256, (f ⟨512 + x.val, by omega⟩ - f ⟨512 + x.val, by omega⟩) * b (ix2 x ⟨j.val - 256 - 256, by omega⟩)
      else
        (∑ x : Fin 256, f ⟨768 + x.val, by omega⟩ * b (ix2 x ⟨j.val - 256 - 256 - 256, by omega⟩)) + ∑ x : Fin 256, (f ⟨768 + x.val, by omega⟩ - f ⟨768 + x.val, by omega⟩) * b (ix2 x ⟨j.val - 256 - 256 - 256, by omega⟩))
      = TailSpec.gsum f j := by
  by_cases h : j.val < 256
  · rw [dif_pos h]
    exact block_sum f hf _ 0 (by omega) rfl (fun x => congrArg f (Fin.ext (by show x.val = 0 + x.val; omega))) b hb j _ (by show 0 + j.val = j.val; omega)
  · rw [dif_neg h]
    by_cases h1 : j.val - 256 < 256
    · rw [dif_pos h1]
      exact block_sum f hf _ 256 (by omega) rfl (fun x => rfl) b hb j _ (by show 256 + (j.val - 256) = j.val; omega)
    · rw [dif_neg h1]
      by_cases h2 : j.val - 256 - 256 < 256
      · rw [dif_pos h2]
        exact block_sum f hf _ 512 (by omega) rfl (fun x => rfl) b hb j _ (by show 512 + (j.val - 256 - 256) = j.val; omega)
      · rw [dif_neg h2]
        exact block_sum f hf _ 768 (by omega) rfl (fun x => rfl) b hb j _ (by show 768 + (j.val - 256 - 256 - 256) = j.val; omega)

/-- A real number less itself. -/
theorem sub_self_of_real {x : EReal} (h : ∃ a : ℝ, x = (a : EReal)) : x - x = 0 := by
  obtain ⟨a, rfl⟩ := h
  rw [← EReal.coe_sub, sub_self, EReal.coe_zero]

theorem mul_real {x y : EReal} (hx : ∃ a : ℝ, x = (a : EReal)) (hy : ∃ a : ℝ, y = (a : EReal)) : ∃ a : ℝ, x * y = (a : EReal) := by
  obtain ⟨a, rfl⟩ := hx
  obtain ⟨b, rfl⟩ := hy
  exact ⟨a * b, (EReal.coe_mul a b).symm⟩

variable (m : (ℓ : Loc nD τ sig) → Buf (Elt Ideal) ℓ) (c : Dev nD) (t : Fin cfg0.N)

/-! ## Queries and keys -/

theorem dqT_at (r : Fin 256) (j : Fin 512) : dqT m c t (ix2 r j) = TailSpec.dqk (kargs m c) (row t r) ⟨j.val, by omega⟩ := by
  unfold dqT k0_pay7 TailSpec.dqk
  rw [dif_pos (by show j.val < 512; omega), ← b0, ← b1, ← b2]
  pointwise

theorem dkT_at (r : Fin 256) (j : Fin 512) : dkT m c t (ix2 r j) = TailSpec.dqk (kargs m c) (row t r) ⟨512 + j.val, by omega⟩ := by
  unfold dkT dk2T k0_pay8 k0_pay9 TailSpec.dqk
  rw [dif_neg (by show ¬512 + j.val < 512; omega), ← b3, ← b4, ← b5]
  simp only [Nat.add_sub_cancel_left, Fin.eta]
  pointwise

theorem g_at (r : Fin 256) (j : Fin 1024) : gT m c t (ix2 r j) = TailSpec.g (kargs m c) (row t r) j := by
  unfold TailSpec.g TailSpec.dqk
  simp only [← b0, ← b1, ← b2, ← b3, ← b4, ← b5, ← b10 m c t]
  unfold gT dqT dk2T k0_pay7 k0_pay8 k0_pay10 k0_pay9
  pointwise

theorem raw_at (r : Fin 256) (j : Fin 1024) : rawT m c t (ix2 r j) = (kargs m c).raw (ix2 (row t r) j) := by
  rw [← b9]
  unfold rawT rawB k0_pay11
  pointwise

theorem rawB_at (r : Fin 256) (j : Fin 1024) : rawB m c t (ix2 r j) = (kargs m c).raw (ix2 (row t r) j) := b9 m c t r j

variable (H : TailSpec.Finite (kargs m c))
include H

theorem rr_at (r : Fin 256) (j : Fin 1024) : rrT m c t (ix2 r j) = TailSpec.rr (kargs m c) (row t r) j := by
  unfold rrT k0_pay20 k0_pay15 k0_pay16 k0_pay17 k0_pay18 k0_pay19 k0_pay14 k0_pay13 k0_pay12 k0_pay11
  pointwise
  unfold TailSpec.rr
  simp only [rawB_at]
  rw [blocks_sum (fun l => (kargs m c).raw (ix2 (row t r) l) * (kargs m c).raw (ix2 (row t r) l))
    (fun l => sub_self_of_real (mul_real (H.raw _) (H.raw _))) (bT m c t) (b22 m c t) j]

theorem draw_at (r : Fin 256) (j : Fin 1024) : drawT m c t (ix2 r j) = TailSpec.draw (kargs m c) (row t r) j := by
  unfold drawT k0_pay27 k0_pay24 k0_pay25 k0_pay23 k0_pay22 k0_pay21
  pointwise
  unfold TailSpec.draw TailSpec.gm
  simp only [raw_at, g_at, rr_at m c t H]
  rw [blocks_sum (fun l => TailSpec.g (kargs m c) (row t r) l * (kargs m c).raw (ix2 (row t r) l))
    (fun l => sub_self_of_real (mul_real (mul_real (H.dqk _ _) (H.qkw _)) (H.raw _))) (bT m c t) (b22 m c t) j]

/-! ## The projection's gradient -/

omit H in
theorem projL_cover (y : S256x4096.Idx) : ∃ p ∈ projL m c t, y ∈ p.1.set :=
  View.cover_of_tiledBy (projL m c t) ![256, 512] (by sl_kernel_rfl) y

omit H in
/-- A stretch of columns from its elements. -/
theorem stretch {n : ℕ} (P : (⟨2, ![256, n]⟩ : Shape).Idx → EReal) (o : ℕ) (hn : o + n ≤ 4096)
    (hP : ∀ (r : Fin 256) (j : Fin n), P (ix2 r j) = TailSpec.proj (kargs m c) (row t r) ⟨o + j.val, by omega⟩)
    (x : (⟨2, ![256, n]⟩ : Shape).Idx) (r : Fin 256) (k : Fin 4096) (h0 : r.val = (x 0).val) (h1 : k.val = o + (x 1).val) :
    P x = TailSpec.proj (kargs m c) (row t r) k := by
  have hx : x = ix2 (x 0) (x 1) := funext fun a => match a with
    | ⟨0, _⟩ => rfl
    | ⟨1, _⟩ => rfl
  refine (congrArg P hx).trans ((hP (x 0) (x 1)).trans ?_)
  congr 1
  · congr 1
    exact Fin.ext h0.symm
  · exact Fin.ext h1.symm

omit H in
theorem pay5_at (r : Fin 256) (j : Fin 512) :
    k0_pay5 (dtT m c t) (View.ld (iblk m c 16 t) (Rect.unit ![0, 1024] ![256, 512] inb_S256x2048_S256x512_0_1024)) (ix2 r j)
      = TailSpec.proj (kargs m c) (row t r) ⟨0 + j.val, by omega⟩ := by
  unfold TailSpec.proj
  rw [dif_pos (by show 0 + j.val < 512; omega), ← b16]
  simp only [Nat.zero_add, Fin.eta]
  rw [← dt_at]
  unfold k0_pay5
  pointwise

omit H in
theorem pay6_at (r : Fin 256) (j : Fin 512) :
    k0_pay6 (dtT m c t) (View.ld (iblk m c 16 t) (Rect.unit ![0, 0] ![256, 512] inb_S256x2048_S256x512_0_0)) (ix2 r j)
      = TailSpec.proj (kargs m c) (row t r) ⟨1024 + j.val, by omega⟩ := by
  unfold TailSpec.proj
  rw [dif_neg (by show ¬1024 + j.val < 512; omega), dif_neg (by show ¬1024 + j.val < 1024; omega), dif_pos (by show 1024 + j.val < 1536; omega), ← b16]
  simp only [Nat.add_sub_cancel_left, Fin.eta]
  rw [← dt_at]
  unfold k0_pay6
  pointwise

omit H in
theorem gb1_at (r : Fin 256) (j : Fin 512) :
    View.ld (iblk m c 12 t) (Rect.unit ![0, 0] ![256, 512] inb_S256x1024_S256x512_0_0) (ix2 r j)
      = TailSpec.proj (kargs m c) (row t r) ⟨512 + j.val, by omega⟩ := by
  unfold TailSpec.proj
  rw [dif_neg (by show ¬512 + j.val < 512; omega), dif_pos (by show 512 + j.val < 1024; omega), ← b12]
  simp only [Nat.add_sub_cancel_left]
  pointwise

omit H in
theorem gb2_at (r : Fin 256) (j : Fin 512) :
    View.ld (iblk m c 12 t) (Rect.unit ![0, 512] ![256, 512] inb_S256x1024_S256x512_0_512) (ix2 r j)
      = TailSpec.proj (kargs m c) (row t r) ⟨1536 + j.val, by omega⟩ := by
  unfold TailSpec.proj
  rw [dif_neg (by show ¬1536 + j.val < 512; omega), dif_neg (by show ¬1536 + j.val < 1024; omega), dif_neg (by show ¬1536 + j.val < 1536; omega),
    dif_pos (by show 1536 + j.val < 2048; omega), ← b12]
  simp only [show ∀ n, 1536 + n - 1024 = 512 + n from fun n => by omega]
  pointwise

theorem draws_at (r : Fin 256) (j : Fin 1024) :
    drawT m c t (ix2 r j) = TailSpec.proj (kargs m c) (row t r) ⟨2048 + j.val, by omega⟩ := by
  rw [draw_at m c t H]
  unfold TailSpec.proj
  rw [dif_neg (by show ¬2048 + j.val < 512; omega), dif_neg (by show ¬2048 + j.val < 1024; omega), dif_neg (by show ¬2048 + j.val < 1536; omega),
    dif_neg (by show ¬2048 + j.val < 2048; omega), dif_pos (by show 2048 + j.val < 3072; omega)]
  simp only [Nat.add_sub_cancel_left]

omit H in
theorem vals_at (r : Fin 256) (j : Fin 512) :
    k0_pay28 (iblk m c 6 t) (iblk m c 7 t) (iblk m c 8 t) (ix2 r j)
      = TailSpec.proj (kargs m c) (row t r) ⟨3072 + j.val, by omega⟩ := by
  unfold TailSpec.proj
  rw [dif_neg (by show ¬3072 + j.val < 512; omega), dif_neg (by show ¬3072 + j.val < 1024; omega), dif_neg (by show ¬3072 + j.val < 1536; omega),
    dif_neg (by show ¬3072 + j.val < 2048; omega), dif_neg (by show ¬3072 + j.val < 3072; omega), dif_pos (by show 3072 + j.val < 3584; omega), ← b6, ← b7, ← b8]
  simp only [Nat.add_sub_cancel_left, Fin.eta]
  unfold k0_pay28
  pointwise

omit H in
theorem gate_at (r : Fin 256) (j : Fin 512) :
    iblk m c 11 t (ix2 r j) = TailSpec.proj (kargs m c) (row t r) ⟨3584 + j.val, by omega⟩ := by
  unfold TailSpec.proj
  rw [dif_neg (by show ¬3584 + j.val < 512; omega), dif_neg (by show ¬3584 + j.val < 1024; omega), dif_neg (by show ¬3584 + j.val < 1536; omega),
    dif_neg (by show ¬3584 + j.val < 2048; omega), dif_neg (by show ¬3584 + j.val < 3072; omega), dif_neg (by show ¬3584 + j.val < 3584; omega), b11]
  simp only [Nat.add_sub_cancel_left, Fin.eta]

theorem projL_at (r : Fin 256) (k : Fin 4096) :
    View.canon (projL m c t) (ix2 r k) = TailSpec.proj (kargs m c) (row t r) k := by
  have hc := projL_cover m c t
  unfold projL at hc ⊢
  canon_tiles x h using hc _
  · exact stretch m c t (n := 512) _ 3584 (by omega) (gate_at m c t) x r k h0 h1
  · exact stretch m c t (n := 512) _ 3072 (by omega) (vals_at m c t) x r k h0 h1
  · exact stretch m c t (n := 1024) _ 2048 (by omega) (draws_at m c t H) x r k h0 h1
  · exact stretch m c t (n := 512) _ 1536 (by omega) (gb2_at m c t) x r k h0 h1
  · exact stretch m c t (n := 512) _ 1024 (by omega) (pay6_at m c t) x r k h0 h1
  · exact stretch m c t (n := 512) _ 512 (by omega) (gb1_at m c t) x r k h0 h1
  · exact stretch m c t (n := 512) _ 0 (by omega) (pay5_at m c t) x r k h0 (h1.trans (Nat.zero_add _).symm)

/-! ## The four products -/

/-- The gradient read back through a box of columns. -/
theorem projR_at (o : ℕ) (ho : o + 1024 ≤ 4096) (inb : ∀ a, (![0, o] : Fin 2 → ℕ) a + (![256, 1024] : Fin 2 → ℕ) a ≤ S256x4096.size a)
    (r : Fin 256) (k : Fin 1024) :
    projR m c t (Rect.unit ![0, o] ![256, 1024] inb) (ix2 r k) = TailSpec.proj (kargs m c) (row t r) ⟨o + k.val, by omega⟩ := by
  unfold projR
  rw [View.readCov_eq_canon', ← projL_at m c t H]
  refine congrArg (View.canon (projL m c t)) (funext fun a => Fin.ext ?_)
  refine (Rect.idx_unit_val _ _ _ _ a).trans ?_
  match a with
  | ⟨0, _⟩ => exact Nat.zero_add _
  | ⟨1, _⟩ => rfl

omit H in
theorem w0_at (d x : Fin 1024) : w0 m c t (ix3 0 d x) = (kargs m c).w (ix3 0 d x) := by
  rw [← b18 m c t]
  unfold w0
  pointwise
omit H in
theorem w1_at (d x : Fin 1024) : w1 m c t (ix3 0 d x) = (kargs m c).w (ix3 1 d x) := by
  rw [← b18 m c t]
  unfold w1
  pointwise
omit H in
theorem w2_at (d x : Fin 1024) : w2 m c t (ix3 0 d x) = (kargs m c).w (ix3 2 d x) := by
  rw [← b18 m c t]
  unfold w2
  pointwise
omit H in
theorem w3_at (d x : Fin 1024) : w3 m c t (ix3 0 d x) = (kargs m c).w (ix3 3 d x) := by
  rw [← b18 m c t]
  unfold w3
  pointwise

theorem dh_at (r : Fin 256) (d : Fin 1024) :
    k0_pay30 (dh3T m c t) (proj3 m c t) (w3 m c t) (ix2 r d) = TailSpec.dh (kargs m c) (row t r) d := by
  unfold dh3T k0_pay29 k0_pay30
  pointwise
  unfold TailSpec.dh
  rw [Fin.sum_univ_four]
  simp only [w0_at, w1_at, w2_at, w3_at]
  have k : ∀ (P Q W : Fin 1024 → EReal), (∀ x, P x = Q x) → (∑ x, P x * W x) = ∑ x, Q x * W x :=
    fun P Q W h => Finset.sum_congr rfl fun x _ => by rw [h]
  exact congrArg₂ (· + ·) (congrArg₂ (· + ·) (congrArg₂ (· + ·)
    (k _ _ _ fun x => projR_at m c t H 0 (by omega) _ r x) (k _ _ _ fun x => projR_at m c t H 1024 (by omega) _ r x))
    (k _ _ _ fun x => projR_at m c t H 2048 (by omega) _ r x)) (k _ _ _ fun x => projR_at m c t H 3072 (by omega) _ r x)

/-! ## The results -/

theorem gx_at (r : Fin 256) (d : Fin 1024) : gxT m c t (ix2 r d) = TailSpec.gx (kargs m c) (row t r) d := by
  unfold TailSpec.gx TailSpec.r TailSpec.mg TailSpec.gh
  simp only [← dh_at m c t H, ← b19, ← b20 m c t, ← b21]
  unfold gxT k0_pay1 k0_pay34 k0_pay35 k0_pay36 k0_pay31 k0_pay32
  pointwise

theorem dnw_at (a : Vec Ideal S1x1024 .f32) (d : Fin 1024) :
    dnwT m c t a (ix2 0 d) = a (ix2 0 d) + ∑ r : Fin 256, TailSpec.dh (kargs m c) (row t r) d * (kargs m c).x (ix2 (row t r) d) * TailSpec.r (kargs m c) (row t r) := by
  unfold TailSpec.r
  simp only [← dh_at m c t H, ← b19]
  unfold dnwT k0_pay33 k0_pay31
  pointwise

theorem dqkw_at (a : Vec Ideal S1x1024 .f32) (j : Fin 1024) :
    dqkwT m c t a (ix2 0 j) = a (ix2 0 j) + ∑ r : Fin 256, TailSpec.dqk (kargs m c) (row t r) j * (kargs m c).raw (ix2 (row t r) j) * TailSpec.rr (kargs m c) (row t r) j := by
  unfold dqkwT k0_pay26
  pointwise
  refine congrArg (a (ix2 0 j) + ·) (Finset.sum_congr rfl fun r _ => ?_)
  rw [raw_at, rr_at m c t H]
  refine congrArg (· * _ * _) ?_
  by_cases h : j.val < 512
  · rw [dif_pos h, dqT_at]
  · rw [dif_neg h, dkT_at]
    congr 1
    exact Fin.ext (by show 512 + (j.val - 512) = j.val; omega)

end Cert.Proof.TailRun

end
-- ==== Proof.TailValue.lean ====
/- What the tail call leaves in its results: the points' blocks and sums put together. -/
module

public import proofs.«01_k».proof.Proof.TailPoint

@[expose] public section

set_option maxRecDepth 16384

noncomputable section

namespace Cert.Proof.TailRun

open Cert.TailIdeal Cert.TailIdeal.Gen
open Idealize.ShloMosaic Idealize.ShloMosaic.TcCoe Idealize.SL.Sem
open Cert.Proof

variable (m : (ℓ : Loc nD τ sig) → Buf (Elt Ideal) ℓ) (c : Dev nD)

/-- The last point. -/
def tLast : Fin cfg0.N := ⟨63, by decide⟩

theorem zero2 (i) : k0_pay2 (F := Ideal) i = 0 := by
  unfold k0_pay2
  pointwise

theorem zero3 (i) : k0_pay3 (F := Ideal) i = 0 := by
  unfold k0_pay3
  pointwise

/-- A sum over the points of a sum over a tile's rows is the sum over the sequence. -/
theorem sum_rows (g : Fin 16384 → EReal) : ∑ t : Fin cfg0.N, ∑ r : Fin 256, g (row t r) = ∑ s : Fin 16384, g s := by
  refine Fin.sum_mul_add_congr (S := 64) (n := 256) (F := fun t r => g (row t r)) (f := g) fun t r hl => congrArg g (Fin.ext ?_)
  show 256 * t.val + r.val = t.val * 256 + r.val
  omega

theorem gx_out (t : Fin cfg0.N) : (outsAt m c t.val t.isLt).1 = gxT m c t := by
  by_cases h : t.val % 64 = 0
  · rw [outsAt_A m c t h, gx_A]
  · rw [outsAt_B m c t h, gx_B]

variable (H : TailSpec.Finite (kargs m c))
include H

theorem dnw_last (d : Fin 1024) : (outsAt m c tLast.val tLast.isLt).2.2.1 (ix2 0 d) = TailSpec.dnw (kargs m c) d := by
  refine (Pipeline.eq_sum_fin_of_reset_step_apply_last (fun n h (d : Fin 1024) => (outsAt m c n h).2.2.1 (ix2 0 d)) 64
    (fun _ => (0 : EReal))
    (fun t d => ∑ r : Fin 256, TailSpec.dh (kargs m c) (row t r) d * (kargs m c).x (ix2 (row t r) d) * TailSpec.r (kargs m c) (row t r))
    (fun t h d => ?_) (fun t h d => ?_) (by decide) tLast rfl d).trans ?_
  · rw [outsAt_A m c t h, dnw_A, dnw_at m c t H, zero2]
  · rw [outsAt_B m c t h, dnw_B, dnw_at m c t H]
  · rw [zero_add]
    exact sum_rows fun s => TailSpec.dh (kargs m c) s d * (kargs m c).x (ix2 s d) * TailSpec.r (kargs m c) s

theorem dqkw_last (j : Fin 1024) : (outsAt m c tLast.val tLast.isLt).2.2.2 (ix2 0 j) = TailSpec.dqkw (kargs m c) j := by
  refine (Pipeline.eq_sum_fin_of_reset_step_apply_last (fun n h (j : Fin 1024) => (outsAt m c n h).2.2.2 (ix2 0 j)) 64
    (fun _ => (0 : EReal))
    (fun t j => ∑ r : Fin 256, TailSpec.dqk (kargs m c) (row t r) j * (kargs m c).raw (ix2 (row t r) j) * TailSpec.rr (kargs m c) (row t r) j)
    (fun t h j => ?_) (fun t h j => ?_) (by decide) tLast rfl j).trans ?_
  · rw [outsAt_A m c t h, dqkw_A, dqkw_at m c t H, zero3]
  · rw [outsAt_B m c t h, dqkw_B, dqkw_at m c t H]
  · rw [zero_add]
    exact sum_rows fun s => TailSpec.dqk (kargs m c) s j * (kargs m c).raw (ix2 s j) * TailSpec.rr (kargs m c) s j

/-! ## The arrays after the run -/

omit H in
theorem idxOut : ∀ t : Fin cfg0.N, win0_23.index t = ![t.val, 0] := by decide +kernel

theorem final_gx : (dats m 0 c).arrAt 23 cfg0.N = fun i => TailSpec.gx (kargs m c) (i 0) (i 1) := by
  refine (dats m 0 c).arrAt_eq_of_covers 23 _ (by decide +kernel) fun t _ y => ?_
  blk_simp
  rw [after0_23, gx_out]
  idx_vars y
  rw [gx_at m c t H]
  refine congrArg₂ (TailSpec.gx (kargs m c)) (Fin.ext ?_) (Fin.ext ?_)
  · show 256 * t.val + y0.val = _
    blk_simp [idxOut t]
    omega
  · show y1.val = _
    blk_simp [idxOut t]

theorem final_dnw : (dats m 0 c).arrAt 25 cfg0.N = fun i => TailSpec.dnw (kargs m c) (i 1) := by
  refine (dats m 0 c).arrAt_eq_of_after_last 25 tLast (by decide +kernel) _ fun j => ?_
  idx_vars j
  blk_simp [after0_25]
  obtain rfl : j0 = 0 := Subsingleton.elim _ _
  exact dnw_last m c H j1

theorem final_dqkw : (dats m 0 c).arrAt 26 cfg0.N = fun i => TailSpec.dqkw (kargs m c) (i 1) := by
  refine (dats m 0 c).arrAt_eq_of_after_last 26 tLast (by decide +kernel) _ fun j => ?_
  idx_vars j
  blk_simp [after0_26]
  obtain rfl : j0 = 0 := Subsingleton.elim _ _
  exact dqkw_last m c H j1

omit H in
/-- The call leaves the three gradients in its results, and its arguments as they were. -/
theorem run (ρ : Dev nD → PrngReg) (H : ∀ c, TailSpec.Finite (kargs m c)) :
    θ_run defs (onTc (τ := τ) (main (F := Ideal))) ⟨m, fun _ => 0, ρ⟩ (fun r => ∀ c : Dev nD,
      r.2.mem ((c.tc : Thread nD τ).loc main_v8_0) = (fun i => TailSpec.gx (kargs m c) (i 0) (i 1))
      ∧ r.2.mem ((c.tc : Thread nD τ).loc main_v8_2) = (fun i => TailSpec.dnw (kargs m c) (i 1))
      ∧ r.2.mem ((c.tc : Thread nD τ).loc main_v8_3) = (fun i => TailSpec.dqkw (kargs m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  refine (θ_run defs _ _).mono (fun r h c => ⟨?_, ?_, ?_, h.1 c⟩) (θ_run_and (unchanged m ρ) (run_main m ρ))
  · exact ((h.2 c).1 23).trans (final_gx m c (H c))
  · exact ((h.2 c).1 25).trans (final_dnw m c (H c))
  · exact ((h.2 c).1 26).trans (final_dqkw m c (H c))

end Cert.Proof.TailRun

end
-- ==== Proof.TailRef.lean ====
/- The reference's arrays of the tail of the backward pass, stage by stage. -/
module

public import proofs.«01_k».proof.Proof.Gen.TailReferenceIdeal.Run
public import proofs.«01_k».proof.Proof.TailSpec

@[expose] public section

set_option maxRecDepth 16384

noncomputable section

namespace Cert.Proof.TailRef

open Cert.TailReferenceIdeal Cert.TailReferenceIdeal.Gen Cert.TailReferenceIdeal.Value
open Cert.Proof
open Idealize.ShloMosaic Idealize.ShloMosaic.TcCoe Idealize.SL.Sem

abbrev Mem := (ℓ : Loc nD τ sig) → Buf (Elt Ideal) ℓ
abbrev V2 := FVec Ideal S16384x512 .f32
abbrev V3 := FVec Ideal S16384x16x64 .f32
abbrev W2 := FVec Ideal S16384x1024 .f32

variable (m : Mem) (c : Dev nD)

/-- The reference's arguments as matrices. -/
def args : TailSpec.Args where
  dq1 := m ((c.tc : Thread nD τ).loc main_arg0)
  dq4 := m ((c.tc : Thread nD τ).loc main_arg1)
  dq16 := m ((c.tc : Thread nD τ).loc main_arg2)
  dk1 := m ((c.tc : Thread nD τ).loc main_arg3)
  dk4 := m ((c.tc : Thread nD τ).loc main_arg4)
  dk16 := m ((c.tc : Thread nD τ).loc main_arg5)
  dv1 := m ((c.tc : Thread nD τ).loc main_arg6)
  dv4 := m ((c.tc : Thread nD τ).loc main_arg7)
  dv16 := m ((c.tc : Thread nD τ).loc main_arg8)
  raw := m ((c.tc : Thread nD τ).loc main_arg9)
  qkw := m ((c.tc : Thread nD τ).loc main_arg10)
  dza := m ((c.tc : Thread nD τ).loc main_arg11)
  dgbz := m ((c.tc : Thread nD τ).loc main_arg12)
  dzc := m ((c.tc : Thread nD τ).loc main_arg13)
  cg := m ((c.tc : Thread nD τ).loc main_arg14)
  cw := m ((c.tc : Thread nD τ).loc main_arg15)
  w := m ((c.tc : Thread nD τ).loc main_arg16)
  x := m ((c.tc : Thread nD τ).loc main_arg17)
  nw := m ((c.tc : Thread nD τ).loc main_arg18)
  dout := m ((c.tc : Thread nD τ).loc main_arg19)

variable (A : TailSpec.Args)

/-! ## The convolution -/

def ext2 (x : FVec Ideal S16384x512 .bf16) : V2 := extf .f32 x bitsLt_bf16_f32
def cgV : FVec Ideal S16384x2048 .f32 := extf .f32 (show FVec Ideal S16384x2048 .bf16 from A.cg) bitsLt_bf16_f32
def dgbzV : W2 := extf .f32 (show FVec Ideal S16384x1024 .bf16 from A.dgbz) bitsLt_bf16_f32
def zz : FVec Ideal S_ .f32 := constant S_ .f32 0x00000000#32
def dzcV : V2 := shapeCast S16384x512 (show V2 from A.dzc) shapeCasts_S16384x512_S16384x512
def row0V : V2 := mulf (broadcastInDim S16384x512 ![0, 1] bcast_S1x512_S16384x512_0_1 (extractStridedSlice S1x512 ![0, 0] (show FVec Ideal S8x512 .f32 from A.cw) slices_S8x512_S1x512_0_0)) (dzcV A)
def row1V : V2 := mulf (broadcastInDim S16384x512 ![0, 1] bcast_S1x512_S16384x512_0_1 (extractStridedSlice S1x512 ![1, 0] (show FVec Ideal S8x512 .f32 from A.cw) slices_S8x512_S1x512_1_0)) (dzcV A)
def row2V : V2 := mulf (broadcastInDim S16384x512 ![0, 1] bcast_S1x512_S16384x512_0_1 (extractStridedSlice S1x512 ![2, 0] (show FVec Ideal S8x512 .f32 from A.cw) slices_S8x512_S1x512_2_0)) (dzcV A)
def pad2V : FVec Ideal S16386x512 .f32 := pad S16386x512 ![2, 0] ![0, 0] ![0, 0] (row2V A) zz pads_S16384x512_S16386x512_200_000 h_S_
def pad1V : FVec Ideal S16386x512 .f32 := pad S16386x512 ![1, 0] ![1, 0] ![0, 0] (row1V A) zz pads_S16384x512_S16386x512_110_000 h_S_
def pad0V : FVec Ideal S16386x512 .f32 := pad S16386x512 ![0, 0] ![2, 0] ![0, 0] (row0V A) zz pads_S16384x512_S16386x512_020_000 h_S_
def dtV : V2 := extractStridedSlice S16384x512 ![1, 0] (addf (addf (pad2V A) (pad1V A)) (pad0V A)) slices_S16386x512_S16384x512_1_0

/-! ## The heads -/

def dqV : V2 :=
  mulf (addf (addf (ext2 A.dq1) (ext2 A.dq4)) (ext2 A.dq16)) (broadcastInDim S16384x512 ![] bcast_S_S16384x512 (constant S_ .f32 0x3E000000#32))
def dqkV : W2 :=
  concatenate S16384x1024 1 [⟨S16384x512, dqV A⟩, ⟨S16384x512, addf (addf (show V2 from A.dk1) (show V2 from A.dk4)) (show V2 from A.dk16)⟩]
    concatenates_S16384x512_S16384x512_S16384x1024_d1
def heads (x : W2) : V3 := shapeCast S16384x16x64 x shapeCasts_S16384x1024_S16384x16x64
def rawV : V3 := heads (extf .f32 (show FVec Ideal S16384x1024 .bf16 from A.raw) bitsLt_bf16_f32)
def qkwV : V3 :=
  broadcastInDim S16384x16x64 ![0, 1, 2] bcast_S1x16x64_S16384x16x64_0_1_2 (broadcastInDim S1x16x64 ![1, 2] bcast_S16x64_S1x16x64_1_2
    (shapeCast S16x64 (show FVec Ideal S1x1024 .f32 from A.qkw) shapeCasts_S1x1024_S16x64))
def gV : V3 := mulf (heads (dqkV A)) (qkwV A)
def n64 : FVec Ideal S16384x16x1 .f32 := broadcastInDim S16384x16x1 ![] bcast_S_S16384x16x1 (constant S_ .f32 0x42800000#32)
def msV : FVec Ideal S16384x16x1 .f32 :=
  addf (Host.divf (broadcastInDim S16384x16x1 ![0, 1] bcast_S16384x16_S16384x16x1_0_1
      (Host.reduceAdd (mulf (rawV A) (rawV A)) zz reducesTo_S16384x16x64_S16384x16_d2 h_S_)) n64)
    (broadcastInDim S16384x16x1 ![] bcast_S_S16384x16x1 (constant S_ .f32 0x358637BD#32))
def rrV : FVec Ideal S16384x16x1 .f32 := Host.rsqrt (msV A)
def rrW : V3 := broadcastInDim S16384x16x64 ![0, 1, 2] bcast_S16384x16x1_S16384x16x64_0_1_2 (rrV A)
def sumG : FVec Ideal S16384x16x1 .f32 :=
  shapeCast S16384x16x1 (Host.reduceAdd (mulf (rawV A) (gV A)) zz reducesTo_S16384x16x64_S16384x16_d2 h_S_) shapeCasts_S16384x16_S16384x16x1
def slopeV : FVec Ideal S16384x16x1 .f32 :=
  Host.divf (mulf (sumG A) (mulf (broadcastInDim S16384x16x1 ![] bcast_S_S16384x16x1 (constant S_ .f32 0xBF000000#32)) (Host.divf (rrV A) (msV A)))) n64
def slopeW : V3 :=
  broadcastInDim S16384x16x64 ![0, 1] bcast_S16384x16_S16384x16x64_0_1 (Host.reduceAdd (slopeV A) zz reducesTo_S16384x16x1_S16384x16_d2 h_S_)
def drawV : V3 := addf (addf (mulf (gV A) (rrW A)) (mulf (rawV A) (slopeW A))) (mulf (slopeW A) (rawV A))

/-! ## The input projection -/

def projV : FVec Ideal S16384x4096 .f32 :=
  concatenate S16384x4096 1 [⟨S16384x512, mulf (extractStridedSlice S16384x512 ![0, 1024] (cgV A) slices_S16384x2048_S16384x512_0_1024) (dtV A)⟩,
    ⟨S16384x512, extractStridedSlice S16384x512 ![0, 0] (dgbzV A) slices_S16384x1024_S16384x512_0_0⟩,
    ⟨S16384x512, mulf (dtV A) (extractStridedSlice S16384x512 ![0, 0] (cgV A) slices_S16384x2048_S16384x512_0_0)⟩,
    ⟨S16384x512, extractStridedSlice S16384x512 ![0, 512] (dgbzV A) slices_S16384x1024_S16384x512_0_512⟩,
    ⟨S16384x1024, shapeCast S16384x1024 (drawV A) shapeCasts_S16384x16x64_S16384x1024⟩,
    ⟨S16384x512, addf (addf (show V2 from A.dv1) (show V2 from A.dv4)) (show V2 from A.dv16)⟩,
    ⟨S16384x512, ext2 A.dza⟩]
    concatenates_S16384x512_S16384x512_S16384x512_S16384x512_S16384x1024_S16384x512_S16384x512_S16384x4096_d1
def w4 : FVec Ideal S4x1024x1024 .bf16 := A.w
def wV : FVec Ideal S1024x4096 .bf16 :=
  concatenate S1024x4096 1 [⟨S1024x1024, shapeCast S1024x1024 (extractStridedSlice S1x1024x1024 ![0, 0, 0] (w4 A) slices_S4x1024x1024_S1x1024x1024_0_0_0) shapeCasts_S1x1024x1024_S1024x1024⟩,
    ⟨S1024x1024, shapeCast S1024x1024 (extractStridedSlice S1x1024x1024 ![1, 0, 0] (w4 A) slices_S4x1024x1024_S1x1024x1024_1_0_0) shapeCasts_S1x1024x1024_S1024x1024⟩,
    ⟨S1024x1024, shapeCast S1024x1024 (extractStridedSlice S1x1024x1024 ![2, 0, 0] (w4 A) slices_S4x1024x1024_S1x1024x1024_2_0_0) shapeCasts_S1x1024x1024_S1024x1024⟩,
    ⟨S1024x1024, shapeCast S1024x1024 (extractStridedSlice S1x1024x1024 ![3, 0, 0] (w4 A) slices_S4x1024x1024_S1x1024x1024_3_0_0) shapeCasts_S1x1024x1024_S1024x1024⟩]
    concatenates_S1024x1024_S1024x1024_S1024x1024_S1024x1024_S1024x4096_d1
def dhV : W2 :=
  Host.dotGeneral dot_S16384x4096_S1024x4096_S16384x1024_1_1_0_0_n_n none
    (extf .f32 (truncf .bf16 (projV A) bitsLt_bf16_f32) bitsLt_bf16_f32) (extf .f32 (wV A) bitsLt_bf16_f32)

/-! ## The input norm -/

def xV : W2 := A.x
def ghV : W2 := mulf (dhV A) (broadcastInDim S16384x1024 ![0, 1] bcast_S1x1024_S16384x1024_0_1 (show FVec Ideal S1x1024 .f32 from A.nw))
def n1024 : FVec Ideal S16384x1 .f32 := broadcastInDim S16384x1 ![] bcast_S_S16384x1 (constant S_ .f32 0x44800000#32)
def ms1V : FVec Ideal S16384x1 .f32 :=
  addf (Host.divf (broadcastInDim S16384x1 ![0] bcast_S16384_S16384x1_0
      (Host.reduceAdd (mulf (xV A) (xV A)) zz reducesTo_S16384x1024_S16384_d1 h_S_)) n1024)
    (broadcastInDim S16384x1 ![] bcast_S_S16384x1 (constant S_ .f32 0x358637BD#32))
def rV : FVec Ideal S16384x1 .f32 := Host.rsqrt (ms1V A)
def rW : W2 := broadcastInDim S16384x1024 ![0, 1] bcast_S16384x1_S16384x1024_0_1 (rV A)
def sum1 : FVec Ideal S16384x1 .f32 :=
  shapeCast S16384x1 (Host.reduceAdd (mulf (xV A) (ghV A)) zz reducesTo_S16384x1024_S16384_d1 h_S_) shapeCasts_S16384_S16384x1
def slope1V : FVec Ideal S16384x1 .f32 :=
  Host.divf (mulf (sum1 A) (mulf (broadcastInDim S16384x1 ![] bcast_S_S16384x1 (constant S_ .f32 0xBF000000#32)) (Host.divf (rV A) (ms1V A)))) n1024
def slope1W : W2 :=
  broadcastInDim S16384x1024 ![0] bcast_S16384_S16384x1024_0 (Host.reduceAdd (slope1V A) zz reducesTo_S16384x1_S16384_d1 h_S_)
def gxV : W2 := addf (show W2 from A.dout) (addf (addf (mulf (ghV A) (rW A)) (mulf (xV A) (slope1W A))) (mulf (slope1W A) (xV A)))
def dnwV : FVec Ideal S1x1024 .f32 :=
  shapeCast S1x1024 (Host.reduceAdd (mulf (mulf (xV A) (rW A)) (dhV A)) zz reducesTo_S16384x1024_S1024_d0 h_S_) shapeCasts_S1024_S1x1024
def dqkwV : FVec Ideal S1x1024 .f32 :=
  shapeCast S1x1024 (Host.reduceAdd (shapeCast S1x16x64 (Host.reduceAdd (mulf (mulf (rawV A) (rrW A)) (heads (dqkV A))) zz
    reducesTo_S16384x16x64_S16x64_d0 h_S_) shapeCasts_S16x64_S1x16x64) zz reducesTo_S1x16x64_S16x64_d0 h_S_) shapeCasts_S16x64_S1x1024

/-! ## What the reference returns, in those terms -/

theorem res_gx : res_out0 (F := Ideal) m c = gxV (args m c) := rfl
theorem res_dnw : res_out1 (F := Ideal) m c = dnwV (args m c) := rfl

end Cert.Proof.TailRef

end
-- ==== Proof.TailRefAt.lean ====
/- The reference's arrays of the tail of the backward pass, element by element. -/
module

public import proofs.«01_k».proof.Proof.TailRef
public import Idealize.ShloMosaic.Lib.Pipeline.ValueKit

@[expose] public section

set_option maxRecDepth 16384

noncomputable section

namespace Cert.Proof.TailRef

open Cert.TailReferenceIdeal Cert.TailReferenceIdeal.Gen
open Cert.Proof
open Idealize.ShloMosaic

variable (A : TailSpec.Args)

theorem zero_int : ((((0#32 : BitVec 32).toInt : ℤ) : ℝ) : EReal) = 0 := by simp

theorem pad2V_at (p : Fin 16386) (j : Fin 512) (hp : 0 < p.val) :
    pad2V A (ix2 p j) = A.cw (ix2 2 j) * TailSpec.tap A (p.val - 1) j := by
  unfold TailSpec.tap
  pointwise [pad2V, row2V, dzcV, zz]
  by_cases h : 2 ≤ p.val
  · rw [dif_pos (by omega), dif_pos (by omega)]
    rfl
  · rw [dif_neg (by omega), dif_neg (by omega), mul_zero]

theorem pad1V_at (p : Fin 16386) (j : Fin 512) : pad1V A (ix2 p j) = A.cw (ix2 1 j) * TailSpec.tap A p.val j := by
  unfold TailSpec.tap
  pointwise [pad1V, row1V, dzcV, zz]
  by_cases h : 1 ≤ p.val ∧ p.val ≤ 16384
  · rw [dif_pos (by omega), dif_pos (by omega)]
  · rw [dif_neg (by omega), dif_neg (by omega), mul_zero]

theorem pad0V_at (p : Fin 16386) (j : Fin 512) : pad0V A (ix2 p j) = A.cw (ix2 0 j) * TailSpec.tap A (p.val + 1) j := by
  unfold TailSpec.tap
  pointwise [pad0V, row0V, dzcV, zz]
  by_cases h : p.val < 16384
  · rw [dif_pos (by omega), dif_pos (by omega)]
    rfl
  · rw [dif_neg (by omega), dif_neg (by omega), mul_zero]

theorem dtV_at (s : Fin 16384) (j : Fin 512) : dtV A (ix2 s j) = TailSpec.dt A s j := by
  unfold dtV TailSpec.dt
  pointwise
  rw [pad2V_at _ _ _ (by show 0 < 1 + s.val; omega), pad1V_at, pad0V_at]
  simp only [Nat.add_comm 1 s.val, Nat.add_sub_cancel]

theorem dqkV_at (s : Fin 16384) (j : Fin 1024) : dqkV A (ix2 s j) = TailSpec.dqk A s j := by
  pointwise [dqkV, dqV, ext2, TailSpec.dqk]

/-- The lane of head `h` at place `d`. -/
def lane (h : Fin 16) (d : Fin 64) : Fin 1024 := ⟨h.val * 64 + d.val, by omega⟩

theorem heads_at (x : W2) (s : Fin 16384) (h : Fin 16) (d : Fin 64) : heads x (ix3 s h d) = x (ix2 s (lane h d)) := by
  unfold lane
  pointwise [heads]

theorem rawV_at (s : Fin 16384) (h : Fin 16) (d : Fin 64) : rawV A (ix3 s h d) = A.raw (ix2 s (lane h d)) := by
  unfold rawV
  rw [heads_at]
  pointwise

theorem gV_at (s : Fin 16384) (h : Fin 16) (d : Fin 64) : gV A (ix3 s h d) = TailSpec.g A s (lane h d) := by
  unfold gV TailSpec.g
  pointwise [heads_at, dqkV_at, qkwV, lane]

theorem gsum_lane (f : Fin 1024 → EReal) (h : Fin 16) (d : Fin 64) :
    TailSpec.gsum f (lane h d) = ∑ e : Fin 64, f (lane h e) := by
  unfold TailSpec.gsum lane
  refine Finset.sum_congr rfl fun e _ => congrArg f (Fin.ext ?_)
  show (h.val * 64 + d.val) / 64 * 64 + e.val = h.val * 64 + e.val
  omega

theorem msV_at (s : Fin 16384) (h : Fin 16) (z : Fin 1) :
    msV A (ix3 s h z) = Ideal.div (∑ e : Fin 64, A.raw (ix2 s (lane h e)) * A.raw (ix2 s (lane h e))) (Ideal.ofBits .f32 0x42800000#32) + TailSpec.eps := by
  pointwise [msV, n64, zz, rawV_at]

theorem rrV_at (s : Fin 16384) (h : Fin 16) (z : Fin 1) (d : Fin 64) : rrV A (ix3 s h z) = TailSpec.rr A s (lane h d) := by
  unfold TailSpec.rr
  rw [gsum_lane, ← TailSpec.div64]
  pointwise [rrV, msV_at]

theorem sumG_at (s : Fin 16384) (h : Fin 16) (z : Fin 1) :
    sumG A (ix3 s h z) = ∑ e : Fin 64, TailSpec.g A s (lane h e) * A.raw (ix2 s (lane h e)) := by
  obtain rfl : z = 0 := Subsingleton.elim _ _
  pointwise [sumG, zz, rawV_at, gV_at]
  simp only [mul_comm]

theorem slopeW_at (s : Fin 16384) (h : Fin 16) (d : Fin 64) :
    slopeW A (ix3 s h d) = Ideal.div ((∑ e : Fin 64, TailSpec.g A s (lane h e) * A.raw (ix2 s (lane h e)))
      * (Ideal.ofBits .f32 0xBF000000#32 * Ideal.div (rrV A (ix3 s h 0)) (msV A (ix3 s h 0)))) (Ideal.ofBits .f32 0x42800000#32) := by
  pointwise [slopeW, slopeV, n64, zz, sumG_at]
  rw [Fin.sum_univ_one]

theorem ms_pos (s : Fin 16384) (h : Fin 16) : 0 < msV A (ix3 s h 0) := by
  rw [msV_at, TailSpec.n64_eq]
  exact TailSpec.mean_pos _ _ (Finset.sum_nonneg fun _ _ => TailSpec.sq_nonneg' _) (by norm_num)

theorem drawV_at (s : Fin 16384) (h : Fin 16) (d : Fin 64) : drawV A (ix3 s h d) = TailSpec.draw A s (lane h d) := by
  have e := TailSpec.chain (A.raw (ix2 s (lane h d))) (∑ e : Fin 64, TailSpec.g A s (lane h e) * A.raw (ix2 s (lane h e)))
    (msV A (ix3 s h 0)) 64 (by norm_num) (ms_pos A s h)
  have hr : Ideal.rsqrt (msV A (ix3 s h 0)) = TailSpec.rr A s (lane h d) := rrV_at A s h 0 d
  unfold TailSpec.draw TailSpec.gm
  rw [gsum_lane, ← TailSpec.div64]
  unfold drawV rrW
  pointwise [gV_at, rawV_at, slopeW_at]
  rw [rrV_at A s h 0 d]
  rw [hr, ← TailSpec.n64_eq] at e
  rw [add_assoc, e, mul_comm (TailSpec.g A s _), ← sub_eq_add_neg]

theorem projV_at (s : Fin 16384) (k : Fin 4096) : projV A (ix2 s k) = TailSpec.proj A s k := by
  unfold projV
  pointwise [dtV_at, cgV, dgbzV, ext2, TailSpec.proj]
  simp only [Nat.sub_sub, Nat.reduceAdd]
  refine dite_congr rfl (fun _ => mul_comm _ _) fun _ => ?_
  refine dite_congr (propext (by omega)) (fun _ => rfl) fun _ => ?_
  refine dite_congr (propext (by omega)) (fun _ => rfl) fun _ => ?_
  refine dite_congr (propext (by omega)) (fun _ => ?_) fun _ => ?_
  · exact congrArg (fun k => A.dgbz (ix2 s k)) (Fin.ext (by show 512 + (k.val - 1536) = k.val - 1024; omega))
  refine dite_congr (propext (by omega)) (fun _ => ?_) fun _ => ?_
  · rw [drawV_at]
    exact congrArg (TailSpec.draw A s) (Fin.ext (by show (k.val - 2048) / 64 * 64 + (k.val - 2048) % 64 = k.val - 2048; omega))
  exact dite_congr (propext (by omega)) (fun _ => rfl) fun _ => rfl

theorem wV_at (d : Fin 1024) (b : Fin 4) (k : Fin 1024) : wV A (ix2 d ⟨b.val * 1024 + k.val, by omega⟩) = A.w (ix3 b d k) := by
  unfold wV
  pointwise [w4]
  have hb : b = 0 ∨ b = 1 ∨ b = 2 ∨ b = 3 := by omega
  rcases hb with rfl | rfl | rfl | rfl
  · rw [dif_pos (by simp)]
    exact congrArg (fun k => A.w (ix3 0 d k)) (Fin.ext (by simp))
  · rw [dif_neg (by simp), dif_pos (by simp)]
    exact congrArg (fun k => A.w (ix3 1 d k)) (Fin.ext (by simp))
  · rw [dif_neg (by simp; omega), dif_neg (by simp; omega), dif_pos (by simp; omega)]
    exact congrArg (fun k => A.w (ix3 2 d k)) (Fin.ext (by simp; omega))
  · rw [dif_neg (by simp; omega), dif_neg (by simp; omega), dif_neg (by simp; omega)]
    exact congrArg (fun k => A.w (ix3 3 d k)) (Fin.ext (by simp; omega))

theorem dhV_at (s : Fin 16384) (d : Fin 1024) : dhV A (ix2 s d) = TailSpec.dh A s d := by
  unfold TailSpec.dh
  pointwise [dhV, projV_at]
  refine (Fin.sum_mul_add_congr (S := 4) (n := 1024) (F := fun b k => TailSpec.proj A s ⟨b.val * 1024 + k.val, by omega⟩ * A.w (ix3 b d k))
    (f := fun k => TailSpec.proj A s k * wV A (ix2 d k)) fun b k hl => ?_).symm
  rw [wV_at]

theorem ghV_at (s : Fin 16384) (d : Fin 1024) : ghV A (ix2 s d) = TailSpec.gh A s d := by
  unfold TailSpec.gh
  pointwise [ghV, dhV_at]

theorem ms1V_at (s : Fin 16384) (z : Fin 1) :
    ms1V A (ix2 s z) = Ideal.div (∑ d : Fin 1024, A.x (ix2 s d) * A.x (ix2 s d)) (Ideal.ofBits .f32 0x44800000#32) + TailSpec.eps := by
  pointwise [ms1V, n1024, zz, xV]

theorem rV_at (s : Fin 16384) (z : Fin 1) : rV A (ix2 s z) = TailSpec.r A s := by
  unfold TailSpec.r
  pointwise [rV, ms1V_at]

theorem sum1_at (s : Fin 16384) (z : Fin 1) : sum1 A (ix2 s z) = ∑ d : Fin 1024, TailSpec.gh A s d * A.x (ix2 s d) := by
  obtain rfl : z = 0 := Subsingleton.elim _ _
  pointwise [sum1, zz, xV, ghV_at]
  simp only [mul_comm]

theorem slope1W_at (s : Fin 16384) (d : Fin 1024) :
    slope1W A (ix2 s d) = Ideal.div ((∑ d : Fin 1024, TailSpec.gh A s d * A.x (ix2 s d))
      * (Ideal.ofBits .f32 0xBF000000#32 * Ideal.div (rV A (ix2 s 0)) (ms1V A (ix2 s 0)))) (Ideal.ofBits .f32 0x44800000#32) := by
  pointwise [slope1W, slope1V, n1024, zz, sum1_at]
  rw [Fin.sum_univ_one]

theorem ms1_pos (s : Fin 16384) : 0 < ms1V A (ix2 s 0) := by
  rw [ms1V_at, TailSpec.n1024_eq]
  exact TailSpec.mean_pos _ _ (Finset.sum_nonneg fun _ _ => TailSpec.sq_nonneg' _) (by norm_num)

theorem gxV_at (s : Fin 16384) (d : Fin 1024) : gxV A (ix2 s d) = TailSpec.gx A s d := by
  have e := TailSpec.chain (A.x (ix2 s d)) (∑ d : Fin 1024, TailSpec.gh A s d * A.x (ix2 s d))
    (ms1V A (ix2 s 0)) 1024 (by norm_num) (ms1_pos A s)
  have hr : Ideal.rsqrt (ms1V A (ix2 s 0)) = TailSpec.r A s := rV_at A s 0
  unfold TailSpec.gx TailSpec.mg
  unfold gxV rW
  pointwise [ghV_at, xV, slope1W_at]
  rw [rV_at A s 0]
  rw [hr, ← TailSpec.n1024_eq] at e
  rw [add_assoc (TailSpec.gh A s d * _), e, mul_comm (TailSpec.gh A s d), ← add_assoc, ← sub_eq_add_neg]

theorem dnwV_at (d : Fin 1024) : dnwV A (ix2 0 d) = TailSpec.dnw A d := by
  unfold TailSpec.dnw
  pointwise [dnwV, rW, zz, xV, dhV_at, rV_at]
  refine Finset.sum_congr rfl fun s _ => ?_
  ac_rfl

theorem dqkwV_at (j : Fin 1024) : dqkwV A (ix2 0 j) = TailSpec.dqkw A j := by
  have hj : j = lane ⟨j.val / 64, by omega⟩ ⟨j.val % 64, by omega⟩ := Fin.ext (by show j.val = j.val / 64 * 64 + j.val % 64; omega)
  unfold TailSpec.dqkw
  pointwise [dqkwV, rrW, zz, rawV_at, heads_at, dqkV_at]
  rw [Fin.sum_univ_one, ← hj]
  refine Finset.sum_congr rfl fun s _ => ?_
  rw [rrV_at A s _ 0 ⟨j.val % 64, by omega⟩, ← hj]
  ac_rfl

end Cert.Proof.TailRef

end
-- ==== Proof.TailClaims.lean ====
/- The tail of the backward pass: the three frames, `preserves`, and the value claim. -/
module

public import proofs.«01_k».proof.Defs
public import proofs.«01_k».proof.Proof.Gen.Tail
public import proofs.«01_k».proof.Proof.TailValue
public import proofs.«01_k».proof.Proof.TailRefAt
public import Idealize.ShloMosaic.Lib.Claim

@[expose] public section

noncomputable section

namespace Cert.Proof.TailClaims

open Idealize.ShloMosaic Idealize.SL.Sem

/-- What the precondition's printed function needs of its shapes. -/
theorem pre_facts : Cert.Pre_finite_heads.Facts :=
  ⟨by decide, by decide, by decide, by decide, by decide⟩

instance : Cert.Pre_finite_heads.Facts := pre_facts

set_option maxHeartbeats 16000000 in
/-- The two prints of the kernel have the same body table: they agree label by label, and there is one label. -/
theorem defs_eq : Cert.Tail.defs (F := Bits) = Cert.TailIdeal.defs (F := Bits) := by
  refine congrArg (Pipeline.defs Cert.TailIdeal.pcfgs) ?_
  funext p l a
  cases p
  · match l, a with
    | ⟨0, _⟩, _ => rfl
  all_goals rfl

set_option maxHeartbeats 16000000 in
/-- The kernel at the machine's floats: one frame serves both instances. -/
theorem frame_kernel : Cert.quiescent_Tail := fun m ρ _ => by
  have h := TailRun.frame (F := Bits) m ρ
  rw [← defs_eq] at h
  exact h

/-- The kernel at the extended reals. -/
theorem frame_ideal : Cert.quiescent_TailIdeal := fun m ρ _ => TailRun.frame m ρ

theorem frame_ideal_pre : Cert.quiescent_TailIdeal_pre_finite_heads := fun m ρ _ => TailRun.frame m ρ

/-- The reference declares no semaphore, and its run leaves its arguments as they were. -/
theorem frame_reference : Cert.quiescent_TailReferenceIdeal := fun m ρ _ =>
  (θ_run Cert.TailReferenceIdeal.defs _ _).mono (fun r h => ⟨fun c => (h c).2.2.2,
      Idealize.ShloMosaic.sem_eq_zero_of_no_sems (by decide) r.2⟩)
    (Cert.TailReferenceIdeal.Value.run (F := Ideal) m ρ)

theorem frame_reference_pre : Cert.quiescent_TailReferenceIdeal_pre_finite_heads := fun m ρ _ => frame_reference m ρ trivial

/-- Nothing was rewritten between the kernel and its idealization. -/
theorem preserves : Cert.preserves_Tail_TailIdeal := trivial

/-- A number whose absolute value is below `+∞` is real. -/
theorem real_of_abs (x : EReal) (h : max x (-x) < Ideal.ofBits .f32 0x7F800000#32) : ∃ a : ℝ, x = ↑a := by
  have hb : Ideal.ofBits .f32 0x7F800000#32 = ⊤ := by simp [Ideal.ofBits, Ideal.ieee]
  rw [hb] at h
  induction x with
  | bot => simp at h
  | top => simp at h
  | coe a => exact ⟨a, rfl⟩

theorem real_mul {x : EReal} (k : EReal) (hk : ∃ b : ℝ, k = (b : EReal)) (hx : ∃ a : ℝ, x = (a : EReal)) : ∃ a : ℝ, x * k = (a : EReal) :=
  TailRun.mul_real hx hk

theorem scale_real : ∃ b : ℝ, Ideal.ofBits .f32 0x3E000000#32 = (b : EReal) :=
  ⟨1 / 8, by simp [Ideal.ofBits, Ideal.ieee, -EReal.coe_mul]; norm_num⟩

theorem and_ofBool (p q r : Bool) (h : IntOp.andi (IntOp.andi (BitVec.ofBool p) (BitVec.ofBool q)) (BitVec.ofBool r) = 1#1) :
    p = true ∧ q = true ∧ r = true := by
  revert h
  cases p <;> cases q <;> cases r <;> decide

/-- The precondition makes the three arrays real. -/
theorem finite (m : (ℓ : Loc Cert.TailIdeal.nD Cert.TailIdeal.τ Cert.TailIdeal.sig) → Buf (Elt Ideal) ℓ)
    (h : Cert.Pre_TailIdeal_finite_heads m) (c : Dev Cert.TailIdeal.nD) : TailSpec.Finite (TailRun.kargs m c) := by
  have key : ∀ (s : Fin 16384) (j : Fin 1024), (∃ a : ℝ, TailSpec.dqk (TailRun.kargs m c) s j = (a : EReal))
      ∧ (∃ a : ℝ, (TailRun.kargs m c).raw (ix2 s j) = (a : EReal)) ∧ ∃ a : ℝ, (TailRun.kargs m c).qkw (ix2 0 j) = (a : EReal) := by
    intro s j
    have e := congrFun (h c) (ix2 s j)
    unfold Cert.Pre_finite_heads.fn at e
    pointwise at e
    obtain ⟨e1, e2, e3⟩ := and_ofBool _ _ _ e
    have f1 := real_of_abs _ (of_decide_eq_true e1)
    have f2 := real_of_abs _ (of_decide_eq_true e2)
    have f3 := real_of_abs _ (of_decide_eq_true e3)
    refine ⟨?_, f2, f3⟩
    unfold TailSpec.dqk
    by_cases hj : j.val < 512
    · rw [dif_pos hj] at f1 ⊢
      exact real_mul _ scale_real f1
    · rw [dif_neg hj] at f1 ⊢
      exact f1
  refine ⟨fun s j => (key s j).1, fun i => ?_, fun j => (key 0 j).2.2⟩
  idx_vars i
  exact (key i0 i1).2.1

/-- The kernel's gradients are the reference's. -/
theorem algebraic : Cert.algebraic_TailIdeal_TailReferenceIdeal_pre_finite_heads := by
  intro m ρ m' ρ' hpre hagree
  refine ⟨_, _, _, TailRun.run m ρ (finite m hpre), ?_⟩
  refine (θ_run Cert.TailReferenceIdeal.defs _ _).mono (fun r h c => ?_)
    (Cert.TailReferenceIdeal.Value.run (F := Ideal) m' ρ')
  obtain ⟨h0, h1, h2, h3⟩ := h c
  have hA : TailRef.args m' c = TailRun.kargs m c := by
    obtain ⟨a0, a1, a2, a3, a4, a5, a6, a7, a8, a9, a10, a11, a12, a13, a14, a15, a16, a17, a18, a19⟩ := hagree c
    unfold TailRef.args TailRun.kargs
    rw [a0, a1, a2, a3, a4, a5, a6, a7, a8, a9, a10, a11, a12, a13, a14, a15, a16, a17, a18, a19]
  have h2' : _ = TailRef.dqkwV (TailRef.args m' c) := h2.trans rfl
  refine ⟨(h0.trans (TailRef.res_gx m' c)).trans ?_, (h1.trans (TailRef.res_dnw m' c)).trans ?_, h2'.trans ?_, h3⟩
  · rw [hA]
    funext i
    idx_vars i
    exact TailRef.gxV_at _ i0 i1
  · rw [hA]
    funext i
    idx_vars i
    obtain rfl : i0 = 0 := Subsingleton.elim _ _
    exact TailRef.dnwV_at _ i1
  · rw [hA]
    funext i
    idx_vars i
    obtain rfl : i0 = 0 := Subsingleton.elim _ _
    exact TailRef.dqkwV_at _ i1

end Cert.Proof.TailClaims

end
-- ==== Proof.BiasSpec.lean ====
/- A sum over the skewed diagonals of a block is the sum over the block's band: the arithmetic of the position bias's gradient. -/
module

public import Idealize.ShloMosaic.Lib.Pointwise

@[expose] public section

noncomputable section

namespace Cert.Proof.BiasSpec

/-- Key position less query position, at row `q` and column `c` of a block whose keys start `off` before its queries. -/
def rel (off : Nat) (q : Fin 128) (c : Fin 256) : Int := (c.val : Int) - off - q.val

/-- The position a diagonal's number `c` stands for. -/
def diagRel (off : Nat) (c : Fin 256) : Int := ((c.val : Int) - off + 128) % 256 - 128

/-- A column moved right by a row's number, around the block. -/
def skew (c : Fin 256) (q : Fin 128) : Fin 256 := ⟨(c.val + q.val) % 256, Nat.mod_lt _ (by decide)⟩

theorem skew_eq (c : Fin 256) (q : Fin 128) : skew c q = Equiv.addRight (⟨q.val, by omega⟩ : Fin 256) c := by
  apply Fin.ext
  simp [skew, Fin.val_add]

theorem diagRel_of_band (off : Nat) (ho : off ≤ 128) (q : Fin 128) (c : Fin 256) (h1 : -64 ≤ rel off q (skew c q))
    (h2 : rel off q (skew c q) ≤ 64) : diagRel off c = rel off q (skew c q) := by
  unfold diagRel rel skew at *
  simp only at *
  omega

/-- The diagonals' sums, each counted where its position is in the band and hit, are the sums of the band's entries at the hit positions. -/
theorem sum_diagonals (D : Fin 128 → Fin 256 → EReal) (off : Nat) (ho : off ≤ 128) (hit : Int → Prop) [DecidablePred hit]
    (hD : ∀ q c, ¬ (-64 ≤ rel off q c ∧ rel off q c ≤ 64) → D q c = 0) :
    ∑ c : Fin 256, (∑ q : Fin 128, D q (skew c q))
        * (if hit (diagRel off c) ∧ -64 ≤ diagRel off c ∧ diagRel off c ≤ 64 then (1 : EReal) else 0)
      = ∑ q : Fin 128, ∑ c : Fin 256,
          if hit (rel off q c) ∧ -64 ≤ rel off q c ∧ rel off q c ≤ 64 then D q c else 0 := by
  have h : ∀ c : Fin 256, (∑ q : Fin 128, D q (skew c q))
        * (if hit (diagRel off c) ∧ -64 ≤ diagRel off c ∧ diagRel off c ≤ 64 then (1 : EReal) else 0)
      = ∑ q : Fin 128, if hit (diagRel off c) ∧ -64 ≤ diagRel off c ∧ diagRel off c ≤ 64 then D q (skew c q) else 0 := by
    intro c
    split
    · rw [mul_one]
    · rw [mul_zero, Finset.sum_const_zero]
  rw [Finset.sum_congr rfl fun c _ => h c, Finset.sum_comm]
  refine Finset.sum_congr rfl fun q _ => ?_
  refine Fintype.sum_equiv (Equiv.addRight (⟨q.val, by omega⟩ : Fin 256)) _ _ fun c => ?_
  rw [← skew_eq]
  by_cases hb : -64 ≤ rel off q (skew c q) ∧ rel off q (skew c q) ≤ 64
  · rw [diagRel_of_band off ho q c hb.1 hb.2]
  · rw [hD q _ hb, ite_self, ite_self]

end Cert.Proof.BiasSpec

end
-- ==== Proof.BiasPoint.lean ====
/- What one point of the position bias's kernel adds to its result: each row of a pair's logit gradients is turned left by its number, so that the columns hold
   the diagonals; the diagonals' sums of the eight heads are multiplied by the point's table. -/
module

public import proofs.«01_k».proof.Proof.Gen.BiasIdeal.Value
public import proofs.«01_k».proof.Proof.BiasSpec
public import Idealize.ShloMosaic.Lib.Claim
public import Idealize.ShloMosaic.Lib.Pointwise
public import Idealize.ShloMosaic.Lib.ValueIdx
public import Idealize.ShloMosaic.Lib.KernelVsHost
public import Idealize.ShloMosaic.Lib.Pipeline.ValueKit
public import Idealize.ShloMosaic.Lib.Pipeline.ReadBack

@[expose] public section

set_option maxRecDepth 16384

noncomputable section

namespace Cert.Proof.BiasPoint

open Idealize.ShloMosaic Idealize.ShloMosaic.TcCoe Idealize.SL.Sem
open Cert.BiasIdeal Cert.BiasIdeal.Gen Cert.BiasIdeal.Value

/-- A block of a pair's two heads, one above the other. -/
abbrev Pair := FVec Ideal S256x256 .f32

/-- A row's number within its head. -/
def rowNo : IVec S256x256 32 := andi (iota .tc S256x256 32 [0] iota_S256x256_d0_w32) (broadcast S256x256 127#32)

/-- One step of the turning: the rows whose number has the bit `b` turn, by `256 - s`. -/
def turn (b s : BitVec 32) (y : Pair) : Pair :=
  select (cmpi .ne (andi rowNo (broadcast S256x256 b)) (broadcast S256x256 0#32)) (dynamicRotate 1 s none y rotates_S256x256_d1) y

/-- The block with each row turned left by its number modulo `n`. -/
def turned (n : ℕ) (x : Pair) : Pair := fun i => x (ix2 (i 0) ⟨((i 1).val + (i 0).val % n) % 256, Nat.mod_lt _ (by decide)⟩)

theorem turned_at (n : ℕ) (x : Pair) (r c : Fin 256) :
    turned n x (ix2 r c) = x (ix2 r ⟨(c.val + r.val % n) % 256, Nat.mod_lt _ (by decide)⟩) := rfl

theorem turned_one (x : Pair) : turned 1 x = x := by
  funext i
  idx_vars i
  rw [turned_at]
  refine congrArg x (congrArg (ix2 i0) (Fin.ext ?_))
  show (i1.val + i0.val % 1) % 256 = i1.val
  omega

/-- A step of the turning at a power of two. -/
theorem turn_turned (n : ℕ) (b s : BitVec 32) (x : Pair) (hn : 0 < n ∧ n < 256) (hs : s.toNat = 256 - n)
    (hb : ∀ r : Fin 256, IntOp.cmpi .ne (IntOp.andi (IntOp.andi (BitVec.ofNat 32 r.val) 127#32) b) 0#32
      = if r.val % (2 * n) = r.val % n then 0#1 else 1#1)
    (hm : ∀ r : Fin 256, r.val % (2 * n) = r.val % n ∨ r.val % (2 * n) = r.val % n + n) :
    turn b s (turned n x) = turned (2 * n) x := by
  funext i
  idx_vars i
  have h1 : turn b s (turned n x) (ix2 i0 i1)
      = if (if i0.val % (2 * n) = i0.val % n then 0#1 else 1#1) = 1#1
        then dynamicRotate 1 s none (turned n x) rotates_S256x256_d1 (ix2 i0 i1) else turned n x (ix2 i0 i1) := by
    rw [← hb i0]
    unfold turn rowNo
    pointwise
    try rfl
  rw [h1, turned_at]
  by_cases h : i0.val % (2 * n) = i0.val % n
  · rw [if_pos h, if_neg (by decide), turned_at, h]
  · rw [if_neg h, if_pos rfl, dynamicRotate_apply 1 s _ _ (ix2 i0 i1) (ix2 i0 ⟨(i1.val + n) % 256, Nat.mod_lt _ (by decide)⟩)
      (by
        intro a
        match a with
        | ⟨0, _⟩ => rfl
        | ⟨1, _⟩ =>
          show (i1.val + n) % 256 = (i1.val + 256 - s.toNat % 256) % 256
          rw [hs]
          omega), turned_at]
    refine congrArg x (congrArg (ix2 i0) (Fin.ext ?_))
    show ((i1.val + n) % 256 + i0.val % n) % 256 = (i1.val + i0.val % (2 * n)) % 256
    have := hm i0
    omega

/-- The seven steps. -/
def skewed (x : Pair) : Pair :=
  turn 64#32 192#32 (turn 32#32 224#32 (turn 16#32 240#32 (turn 8#32 248#32 (turn 4#32 252#32 (turn 2#32 254#32 (turn 1#32 255#32 x))))))

theorem skewed_eq (x : Pair) : skewed x = turned 128 x := by
  unfold skewed
  conv_lhs => rw [← turned_one x]
  rw [turn_turned 1 1#32 255#32 x (by decide) (by decide) (by decide) (by decide),
    turn_turned 2 2#32 254#32 x (by decide) (by decide) (by decide) (by decide),
    turn_turned 4 4#32 252#32 x (by decide) (by decide) (by decide) (by decide),
    turn_turned 8 8#32 248#32 x (by decide) (by decide) (by decide) (by decide),
    turn_turned 16 16#32 240#32 x (by decide) (by decide) (by decide) (by decide),
    turn_turned 32 32#32 224#32 x (by decide) (by decide) (by decide) (by decide),
    turn_turned 64 64#32 192#32 x (by decide) (by decide) (by decide) (by decide)]

/-- The diagonals' sums of one head. -/
def rowSum (y : FVec Ideal S128x256 .f32) : FVec Ideal S1x256 .f32 :=
  shapeCast S1x256 (multiReduction .add [0] S256 y 0x00000000#32 reduces_S128x256_S256 (.inl rfl) rfl) shapeCasts_S256_S1x256

/-- A row of sums put in a head's place. -/
def put (k : BitVec 32) (y : FVec Ideal S1x256 .f32) (g : FVec Ideal S8x256 .f32) : FVec Ideal S8x256 .f32 :=
  select (cmpi .eq (iota .tc S8x256 32 [0] iota_S8x256_d0_w32) (broadcast S8x256 k))
    (broadcastTo S8x256 (shapeCast S1x256 y shapeCasts_S1x256_S1x256) broadcasts_S1x256_S8x256) g

theorem rowSum_at (y : FVec Ideal S128x256 .f32) (c : Fin 256) : rowSum y (ix2 0 c) = ∑ q : Fin 128, y (ix2 q c) := by
  unfold rowSum
  pointwise

theorem put_at (k : Fin 8) (w : BitVec 32) (hw : w = BitVec.ofNat 32 k.val) (y : FVec Ideal S1x256 .f32) (g : FVec Ideal S8x256 .f32) (h : Fin 8) (c : Fin 256) :
    put w y g (ix2 h c) = if h = k then y (ix2 0 c) else g (ix2 h c) := by
  subst hw
  have h1 : put (BitVec.ofNat 32 k.val) y g (ix2 h c)
      = if IntOp.cmpi .eq (BitVec.ofNat 32 h.val) (BitVec.ofNat 32 k.val) = 1#1 then y (ix2 0 c) else g (ix2 h c) := by
    unfold put
    pointwise
    try rfl
  rw [h1]
  revert h k
  intro k _ h
  have : ∀ h k : Fin 8, (IntOp.cmpi .eq (BitVec.ofNat 32 h.val) (BitVec.ofNat 32 k.val) = 1#1) = (h = k) := by decide
  simp only [this]

/-- The upper and the lower head of a pair. -/
def upper (y : Pair) : FVec Ideal S128x256 .f32 := extractStridedSlice S128x256 ![0, 0] y slices_S256x256_o0_0_S128x256
def lower (y : Pair) : FVec Ideal S128x256 .f32 := extractStridedSlice S128x256 ![128, 0] y slices_S256x256_o128_0_S128x256

theorem upper_at (y : Pair) (q : Fin 128) (c : Fin 256) : upper y (ix2 q c) = y (ix2 ⟨q.val, by omega⟩ c) := by
  unfold upper
  pointwise
theorem lower_at (y : Pair) (q : Fin 128) (c : Fin 256) : lower y (ix2 q c) = y (ix2 ⟨128 + q.val, by omega⟩ c) := by
  unfold lower
  pointwise

/-- The two heads of a pair put in their places. -/
def putPair (k l : BitVec 32) (y : Pair) (g : FVec Ideal S8x256 .f32) : FVec Ideal S8x256 .f32 :=
  put l (rowSum (lower (skewed y))) (put k (rowSum (upper (skewed y))) g)

/-- A pair's block without its axes of one. -/
def flat (x : Vec Ideal S1x1x1x256x256 .f32) : Pair := shapeCast S256x256 x shapeCasts_S1x1x1x256x256_S256x256

theorem flat_at (x : Vec Ideal S1x1x1x256x256 .f32) (r c : Fin 256) : flat x (ix2 r c) = x (ix5 0 0 0 r c) := by
  unfold flat
  pointwise

/-- The diagonals' sums of the eight heads. -/
def diag (x0 x1 x2 x3 : Vec Ideal S1x1x1x256x256 .f32) : FVec Ideal S8x256 .f32 :=
  putPair 6#32 7#32 (flat x3) (putPair 4#32 5#32 (flat x2) (putPair 2#32 3#32 (flat x1) (putPair 0#32 1#32 (flat x0) (k0_pay4 (F := Ideal)))))

/-- A head's place. -/
def pairOf (x0 x1 x2 x3 : Vec Ideal S1x1x1x256x256 .f32) (h : Fin 8) : Vec Ideal S1x1x1x256x256 .f32 :=
  ![x0, x0, x1, x1, x2, x2, x3, x3] h

theorem upper_skewed (x : Vec Ideal S1x1x1x256x256 .f32) (c : Fin 256) :
    rowSum (upper (skewed (flat x))) (ix2 0 c) = ∑ q : Fin 128, x (ix5 0 0 0 ⟨q.val, by omega⟩ (BiasSpec.skew c q)) := by
  rw [rowSum_at, skewed_eq]
  refine Finset.sum_congr rfl fun q _ => ?_
  rw [upper_at, turned_at, flat_at]
  refine congrArg x (congrArg (ix5 0 0 0 _) (Fin.ext ?_))
  show (c.val + q.val % 128) % 256 = (c.val + q.val) % 256
  omega

theorem lower_skewed (x : Vec Ideal S1x1x1x256x256 .f32) (c : Fin 256) :
    rowSum (lower (skewed (flat x))) (ix2 0 c) = ∑ q : Fin 128, x (ix5 0 0 0 ⟨128 + q.val, by omega⟩ (BiasSpec.skew c q)) := by
  rw [rowSum_at, skewed_eq]
  refine Finset.sum_congr rfl fun q _ => ?_
  rw [lower_at, turned_at, flat_at]
  refine congrArg x (congrArg (ix5 0 0 0 _) (Fin.ext ?_))
  show (c.val + (128 + q.val) % 128) % 256 = (c.val + q.val) % 256
  omega

theorem diag_at (x0 x1 x2 x3 : Vec Ideal S1x1x1x256x256 .f32) (h : Fin 8) (c : Fin 256) :
    diag x0 x1 x2 x3 (ix2 h c)
      = ∑ q : Fin 128, pairOf x0 x1 x2 x3 h (ix5 0 0 0 ⟨h.val % 2 * 128 + q.val, by omega⟩ (BiasSpec.skew c q)) := by
  unfold diag putPair
  rw [put_at 7 7#32 rfl, put_at 6 6#32 rfl, put_at 5 5#32 rfl, put_at 4 4#32 rfl, put_at 3 3#32 rfl, put_at 2 2#32 rfl,
    put_at 1 1#32 rfl, put_at 0 0#32 rfl]
  simp only [upper_skewed, lower_skewed]
  fin_cases h <;> simp [pairOf] <;> rfl

/-- The result with the product of the diagonals' sums and the table added. -/
def step (acc : Vec Ideal S8x128 .f32) (g : FVec Ideal S8x256 .f32) (oh : Vec Ideal S1x1x256x128 .f32) : FVec Ideal S8x128 .f32 :=
  addf (shapeCast S8x128 acc shapeCasts_S8x128_S8x128) (matmul dot_S8x256_S256x128_S8x128_1_0_0_1_n_n (some .fp32) g
    (shapeCast S256x128 oh shapeCasts_S1x1x256x128_S256x128 : FVec Ideal S256x128 .f32) (constant S8x128 .f32 0x00000000#32))

theorem step_at (acc : Vec Ideal S8x128 .f32) (g : FVec Ideal S8x256 .f32) (oh : Vec Ideal S1x1x256x128 .f32) (h : Fin 8) (b : Fin 128) :
    step acc g oh (ix2 h b) = acc (ix2 h b) + ∑ c : Fin 256, g (ix2 h c) * oh (ix4 0 0 c b) := by
  unfold step
  pointwise

/-- What the body stores is such a step. -/
theorem payload_eq (x0 x1 x2 x3 : Vec Ideal S1x1x1x256x256 .f32) (acc : Vec Ideal S8x128 .f32) (oh : Vec Ideal S1x1x256x128 .f32) :
    k0_pay1 (iota Kind.tc S8x256 32 [0] iota_S8x256_d0_w32)
      (k0_pay18 k0_pay3 (iota Kind.tc S8x256 32 [0] iota_S8x256_d0_w32)
        (k0_pay14 (iota Kind.tc S8x256 32 [0] iota_S8x256_d0_w32)
          (k0_pay8 k0_pay3 (iota Kind.tc S8x256 32 [0] iota_S8x256_d0_w32) k0_pay4 (k0_pay5 x0) k0_pay6 (k0_pay7 x0))
          (k0_pay12 k0_pay3 (k0_pay9 x1) (k0_pay10 k0_pay3) k0_pay11)
          (k0_pay13 k0_pay3 (k0_pay9 x1) (k0_pay10 k0_pay3) k0_pay11))
        (k0_pay15 k0_pay3 x2) (k0_pay16 k0_pay3) (k0_pay17 k0_pay3 x2))
      (k0_pay22 k0_pay3 (k0_pay19 x3) (k0_pay20 k0_pay3) k0_pay21)
      (k0_pay23 k0_pay3 (k0_pay19 x3) (k0_pay20 k0_pay3) k0_pay21) acc oh
    = step acc (diag x0 x1 x2 x3) oh := rfl

theorem pay2_at (i : S8x128.Idx) : k0_pay2 (F := Ideal) i = 0 := by
  unfold k0_pay2
  pointwise

section point

variable (m : (ℓ : Loc nD τ sig) → Buf (Elt Ideal) ℓ) (c : Dev nD)

/-- The logit gradients, one dilation after the other. -/
def dS : FVec Ideal S3x4x3x256x256 .f32 := m ((c : Thread nD τ).loc main_arg0)
/-- The tables. -/
def oH : FVec Ideal S3x3x256x128 .f32 := m ((c : Thread nD τ).loc main_arg1)
/-- The blocks a point reads. -/
def dT (t : Fin cfg0.N) : Vec Ideal S1x4x1x256x256 .f32 := iblk m c 0 t
def oT (t : Fin cfg0.N) : Vec Ideal S1x1x256x128 .f32 := iblk m c 1 t

theorem idxIn : ∀ t : Fin cfg0.N, win0_0.index t = ![t.val / 3, 0, t.val % 3, 0, 0] ∧ win0_1.index t = ![t.val / 3, t.val % 3, 0, 0] := by
  decide +kernel

theorem dT_at (t : Fin cfg0.N) (p : Fin 4) (r d : Fin 256) :
    dT m c t (ix5 0 p 0 r d) = dS m c (ix5 ⟨t.val / 3, by have : t.val < 9 := t.isLt; omega⟩ p ⟨t.val % 3, by omega⟩ r d) := by
  unfold dT dS
  blk_point [iblk, V, idxIn t]

theorem oT_at (t : Fin cfg0.N) (d : Fin 256) (b : Fin 128) :
    oT m c t (ix4 0 0 d b) = oH m c (ix4 ⟨t.val / 3, by have : t.val < 9 := t.isLt; omega⟩ ⟨t.val % 3, by omega⟩ d b) := by
  unfold oT oH
  blk_point [iblk, V, idxIn t]

/-- What point `t` adds to the result. -/
def part (t : Fin cfg0.N) (p : Fin 8 × Fin 128) : EReal :=
  ∑ d : Fin 256, (∑ q : Fin 128, dT m c t (ix5 0 ⟨p.1.val / 2, by omega⟩ 0 ⟨p.1.val % 2 * 128 + q.val, by omega⟩ (BiasSpec.skew d q)))
    * oT m c t (ix4 0 0 d p.2)

/-- A pair's part of a block of four pairs. -/
def lane (x : Vec Ideal S1x4x1x256x256 .f32) (p : Fin 4) : Vec Ideal S1x1x1x256x256 .f32 :=
  fun i => x (ix5 0 p 0 (i 3) (i 4))

theorem pairOf_lane (x : Vec Ideal S1x4x1x256x256 .f32) (h : Fin 8) :
    pairOf (lane x 0) (lane x 1) (lane x 2) (lane x 3) h = lane x ⟨h.val / 2, by omega⟩ := by
  unfold pairOf
  fin_cases h <;> rfl

theorem ld0 (x : Vec Ideal S1x4x1x256x256 .f32) :
    View.ld x (Rect.unit ![0, 0, 0, 0, 0] ![1, 1, 1, 256, 256] inb_S1x4x1x256x256_S1x1x1x256x256_0_0_0_0_0) = lane x 0 := by
  funext i
  idx_vars i
  rw [Subsingleton.elim i0 0, Subsingleton.elim i1 0, Subsingleton.elim i2 0]
  unfold lane
  pointwise

theorem ld1 (x : Vec Ideal S1x4x1x256x256 .f32) :
    View.ld x (Rect.unit ![0, 1, 0, 0, 0] ![1, 1, 1, 256, 256] inb_S1x4x1x256x256_S1x1x1x256x256_0_1_0_0_0) = lane x 1 := by
  funext i
  idx_vars i
  rw [Subsingleton.elim i0 0, Subsingleton.elim i1 0, Subsingleton.elim i2 0]
  unfold lane
  pointwise

theorem ld2 (x : Vec Ideal S1x4x1x256x256 .f32) :
    View.ld x (Rect.unit ![0, 2, 0, 0, 0] ![1, 1, 1, 256, 256] inb_S1x4x1x256x256_S1x1x1x256x256_0_2_0_0_0) = lane x 2 := by
  funext i
  idx_vars i
  rw [Subsingleton.elim i0 0, Subsingleton.elim i1 0, Subsingleton.elim i2 0]
  unfold lane
  pointwise

theorem ld3 (x : Vec Ideal S1x4x1x256x256 .f32) :
    View.ld x (Rect.unit ![0, 3, 0, 0, 0] ![1, 1, 1, 256, 256] inb_S1x4x1x256x256_S1x1x1x256x256_0_3_0_0_0) = lane x 3 := by
  funext i
  idx_vars i
  rw [Subsingleton.elim i0 0, Subsingleton.elim i1 0, Subsingleton.elim i2 0]
  unfold lane
  pointwise

/-- What the body stores at a point. -/
theorem stored_at (t : Fin cfg0.N) (acc : Vec Ideal S8x128 .f32) (p : Fin 8 × Fin 128) :
    step acc (diag (lane (iblk m c 0 t) 0) (lane (iblk m c 0 t) 1) (lane (iblk m c 0 t) 2) (lane (iblk m c 0 t) 3)) (iblk m c 1 t) (ix2 p.1 p.2)
      = acc (ix2 p.1 p.2) + part m c t p := by
  rw [step_at]
  refine congrArg (acc (ix2 p.1 p.2) + ·) (Finset.sum_congr rfl fun d _ => ?_)
  rw [diag_at]
  refine congrArg (· * _) (Finset.sum_congr rfl fun q _ => ?_)
  rw [pairOf_lane]
  rfl

/-- The result after the last point. -/
theorem acc_last (t : Fin cfg0.N) (ht : t.val % 9 = 8) (h : Fin 8) (b : Fin 128) :
    outsAt0 m c t.val t.isLt (ix2 h b)
      = ∑ s : Fin 9, part m c ⟨9 * (t.val / 9) + s.val, Pipeline.run_point_lt_of_flush t ht s⟩ (h, b) := by
  refine (Pipeline.eq_sum_fin_of_reset_step_apply_of_flush
    (fun n h (p : Fin 8 × Fin 128) => (outsAt0 m c n h) (ix2 p.1 p.2)) 9
    (fun _ => (0 : EReal)) (fun t p => part m c t p) (fun t h p => ?_) (fun t h p => ?_) t ht (h, b)).trans (zero_add _)
  · rw [outsAt0_A m c t h]
    frame_out
    rw [ld0, ld1, ld2, ld3, payload_eq, stored_at, pay2_at]
  · rw [outsAt0_B m c t h]
    frame_out
    rw [ld0, ld1, ld2, ld3, payload_eq, stored_at]

end point

end Cert.Proof.BiasPoint

end
-- ==== Proof.BiasScatter.lean ====
/- A sum scattered to the rows of a table, read at an entry: the sum of the updates whose index is that row. -/
module

public import proofs.«01_k».proof.Proof.Gen.BiasReferenceIdeal.Run
public import Idealize.ShloMosaic.Lib.Claim
public import Idealize.ShloMosaic.Lib.Pointwise
public import Idealize.ShloMosaic.Lib.ValueIdx

@[expose] public section

set_option maxRecDepth 16384

noncomputable section

namespace Cert.Proof.BiasScatter

open Idealize.ShloMosaic
open Cert.BiasReferenceIdeal Cert.BiasReferenceIdeal.Gen

/-- The scatter of the reference. -/
abbrev scat : ScatterDims S32x8 S3x128x256x1 S3x128x256x8 := scatter_S32x8_S3x128x256x1_S3x128x256x8_3_0_0_3

variable (idx : IVec S3x128x256x1 32) (v : Fin 3) (q : Fin 128) (c : Fin 256) (h : Fin 8)

theorem start_row : scat.start (ix4 v q c h) idx 0 = (idx (ix4 v q c 0)).toInt := by
  unfold ScatterDims.start
  rw [dif_pos (by decide)]
  refine congrArg (fun w : BitVec 32 => w.toInt) (congrArg idx (funext fun a => Fin.ext ?_))
  match a with
  | ⟨0, _⟩ => rfl
  | ⟨1, _⟩ => rfl
  | ⟨2, _⟩ => rfl
  | ⟨3, _⟩ => rfl

theorem start_col : scat.start (ix4 v q c h) idx 1 = 0 := by
  unfold ScatterDims.start
  rw [dif_neg (by decide)]

theorem window_row : scat.window (ix4 v q c h) 0 = 0 := by
  unfold ScatterDims.window
  rw [dif_neg (by decide)]

theorem window_col : scat.window (ix4 v q c h) 1 = h.val := by
  unfold ScatterDims.window
  rw [dif_pos (by decide)]
  rfl

/-- Where an update lands. -/
theorem lands (b : Fin 32) (g : Fin 8) :
    scat.resultIdx? (ix4 v q c h) idx = some (ix2 b g) ↔ (idx (ix4 v q c 0)).toInt = (b.val : Int) ∧ h = g := by
  have hb := b.isLt
  have hh := h.isLt
  unfold ScatterDims.resultIdx?
  by_cases hin : ∀ a, 0 ≤ scat.start (ix4 v q c h) idx a + scat.window (ix4 v q c h) a
      ∧ scat.start (ix4 v q c h) idx a + scat.window (ix4 v q c h) a < S32x8.size a
  · rw [dif_pos hin]
    have h0 := (hin 0).1
    rw [start_row, window_row] at h0
    constructor
    · intro e
      have e' := Option.some.inj e
      have e0 : (scat.start (ix4 v q c h) idx 0 + scat.window (ix4 v q c h) 0).toNat = b.val := congrArg Fin.val (congrFun e' 0)
      have e1 : (scat.start (ix4 v q c h) idx 1 + scat.window (ix4 v q c h) 1).toNat = g.val := congrArg Fin.val (congrFun e' 1)
      rw [start_row, window_row] at e0
      rw [start_col, window_col] at e1
      exact ⟨by omega, Fin.ext (by omega)⟩
    · rintro ⟨e, rfl⟩
      refine congrArg some (funext fun a => Fin.ext ?_)
      match a with
      | ⟨0, _⟩ =>
        show (scat.start (ix4 v q c h) idx 0 + scat.window (ix4 v q c h) 0).toNat = b.val
        rw [start_row, window_row]
        omega
      | ⟨1, _⟩ =>
        show (scat.start (ix4 v q c h) idx 1 + scat.window (ix4 v q c h) 1).toNat = h.val
        rw [start_col, window_col]
        omega
  · rw [dif_neg hin]
    refine ⟨fun e => (nomatch e), fun e => (hin fun a => ?_).elim⟩
    match a with
    | ⟨0, _⟩ =>
      show 0 ≤ scat.start (ix4 v q c h) idx 0 + scat.window (ix4 v q c h) 0
        ∧ scat.start (ix4 v q c h) idx 0 + scat.window (ix4 v q c h) 0 < (32 : Int)
      rw [start_row, window_row, e.1]
      omega
    | ⟨1, _⟩ =>
      show 0 ≤ scat.start (ix4 v q c h) idx 1 + scat.window (ix4 v q c h) 1
        ∧ scat.start (ix4 v q c h) idx 1 + scat.window (ix4 v q c h) 1 < (8 : Int)
      rw [start_col, window_col]
      omega

/-- The scattered sum at an entry. -/
theorem scatter_at (x : FVec Ideal S32x8 .f32) (u : FVec Ideal S3x128x256x8 .f32) (b : Fin 32) :
    Host.scatterAdd scat x idx u (ix2 b h)
      = x (ix2 b h) + ∑ v : Fin 3, ∑ q : Fin 128, ∑ c : Fin 256,
          if (idx (ix4 v q c 0)).toInt = (b.val : Int) then u (ix4 v q c h) else 0 := by
  show Ideal.hostScatterAdd scat x idx u (ix2 b h) = _
  unfold Ideal.hostScatterAdd
  rw [Finset.sum_filter]
  refine congrArg (x (ix2 b h) + ·) ?_
  rw [sum_idx4]
  refine Finset.sum_congr rfl fun v _ => Finset.sum_congr rfl fun q _ => Finset.sum_congr rfl fun c _ => ?_
  simp only [lands]
  by_cases e : (idx (ix4 v q c 0)).toInt = (b.val : Int)
  · simp [e]
  · simp [e]

end Cert.Proof.BiasScatter

end
-- ==== Proof.BiasBucket.lean ====
/- The bucket of a token distance, and that it is one of the 32. -/
module

public import Idealize.ShloMosaic.Lib.Claim
public import Idealize.ShloMosaic.Lib.Pointwise
public import Idealize.ShloMosaic.Lib.ValueIdx
public import Idealize.ShloMosaic.Lib.StableHlo
public import Idealize.ShloMosaic.PureOps

@[expose] public section

noncomputable section

namespace Cert.Proof.BiasBucket

open Idealize.ShloMosaic

/-- The buckets of an array of token distances: sixteen more for a positive distance; the distance itself below eight; from eight on, by its logarithm. -/
def buckets (s : Shape) (x : IVec s 32) : IVec s 32 :=
  addi (select (cmpi .sgt x (constantI s 32 0#32)) (constantI s 32 16#32) (constantI s 32 0#32))
    (select (cmpi .slt (absi x) (constantI s 32 8#32)) (absi x)
      (minsi (addi (constantI s 32 8#32) (fptosi 32 (mulf (Host.divf (Host.log (Host.divf (sitofp .f32 (maxsi (absi x) (constantI s 32 1#32)))
        (constant (F := Ideal) s .f32 0x41000000#32))) (constant (F := Ideal) s .f32 0x409B43D5#32))
        (constant (F := Ideal) s .f32 0x41000000#32)))) (constantI s 32 15#32)))

/-- The bucket of one distance. -/
def bucket (x : BitVec 32) : BitVec 32 := buckets ⟨0, ![]⟩ (fun _ => x) (fun a => a.elim0)

theorem buckets_at (s : Shape) (x : IVec s 32) (i : s.Idx) : buckets s x i = bucket (x i) := rfl

/-- The logarithmic part, before it is cut off. -/
def steps (n : BitVec 32) : BitVec 32 :=
  Ideal.fptosi 32 (Ideal.div (Ideal.log (Ideal.div ((((IntOp.maxsi n 1#32).toInt : ℝ)) : EReal) (Ideal.ofBits .f32 0x41000000#32)))
    (Ideal.ofBits .f32 0x409B43D5#32) * Ideal.ofBits .f32 0x41000000#32)

theorem bucket_eq (x : BitVec 32) :
    bucket x = (if IntOp.cmpi .sgt x 0#32 = 1#1 then 16#32 else 0#32)
      + (if IntOp.cmpi .slt (IntOp.absi x) 8#32 = 1#1 then IntOp.absi x else IntOp.minsi (8#32 + steps (IntOp.absi x)) 15#32) := rfl

theorem eight : Ideal.ofBits .f32 0x41000000#32 = ((8 : ℝ) : EReal) := by
  simp [Ideal.ofBits, Ideal.ieee, -EReal.coe_mul]; norm_num

theorem span : Ideal.ofBits .f32 0x409B43D5#32 = ((10175445 / 2097152 : ℝ) : EReal) := by
  simp [Ideal.ofBits, Ideal.ieee, -EReal.coe_mul]; norm_num

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem steps_bounds (n : BitVec 32) (h8 : 8 ≤ n.toInt) (hN : n.toInt ≤ 1024) :
    ∃ k : ℤ, 0 ≤ k ∧ k ≤ 4096 ∧ steps n = BitVec.ofInt 32 k := by
  have hm : (IntOp.maxsi n 1#32).toInt = n.toInt := by
    unfold IntOp.maxsi
    rw [if_pos]
    rw [BitVec.slt_iff_toInt_lt]
    have : (1#32 : BitVec 32).toInt = 1 := by decide
    omega
  have h8r : (8 : ℝ) ≤ (n.toInt : ℝ) := by exact_mod_cast h8
  have hNr : (n.toInt : ℝ) ≤ 1024 := by exact_mod_cast hN
  have hq : (1 : ℝ) ≤ (n.toInt : ℝ) / 8 := by linarith
  have hl0 : 0 ≤ Real.log ((n.toInt : ℝ) / 8) := Real.log_nonneg hq
  have hl1 : Real.log ((n.toInt : ℝ) / 8) ≤ 128 := by
    have := Real.log_le_sub_one_of_pos (show (0 : ℝ) < (n.toInt : ℝ) / 8 by linarith)
    linarith
  have hv : Ideal.div (Ideal.log (Ideal.div ((((IntOp.maxsi n 1#32).toInt : ℝ)) : EReal) (Ideal.ofBits .f32 0x41000000#32)))
      (Ideal.ofBits .f32 0x409B43D5#32) * Ideal.ofBits .f32 0x41000000#32
      = ((Real.log ((n.toInt : ℝ) / 8) / (10175445 / 2097152) * 8 : ℝ) : EReal) := by
    rw [hm, eight, span, div_real _ _ (by norm_num)]
    have : Ideal.log (((n.toInt : ℝ) / 8 : ℝ) : EReal) = ((Real.log ((n.toInt : ℝ) / 8) : ℝ) : EReal) := by
      show (if (n.toInt : ℝ) / 8 ≤ 0 then (⊥ : EReal) else _) = _
      rw [if_neg (by linarith)]
    rw [this, div_real _ _ (by norm_num), ← EReal.coe_mul]
  have hr0 : 0 ≤ Real.log ((n.toInt : ℝ) / 8) / (10175445 / 2097152) * 8 := by positivity
  have hr1 : Real.log ((n.toInt : ℝ) / 8) / (10175445 / 2097152) * 8 ≤ 1024 := by
    have : Real.log ((n.toInt : ℝ) / 8) / (10175445 / 2097152) ≤ Real.log ((n.toInt : ℝ) / 8) := div_le_self hl0 (by norm_num)
    linarith
  unfold steps Ideal.fptosi
  rw [hv]
  generalize Real.log ((n.toInt : ℝ) / 8) / (10175445 / 2097152) * 8 = r at hr0 hr1
  refine ⟨_, ?_, ?_, rfl⟩
  · show (0 : ℤ) ≤ max _ (min _ (if 0 ≤ r then ⌊r⌋ else ⌈r⌉))
    rw [if_pos hr0]
    have : 0 ≤ ⌊r⌋ := Int.floor_nonneg.mpr hr0
    exact le_max_of_le_right (le_min (by norm_num) this)
  · show max _ (min _ (if 0 ≤ r then ⌊r⌋ else ⌈r⌉)) ≤ (4096 : ℤ)
    rw [if_pos hr0]
    have : ⌊r⌋ ≤ 1024 := by
      have h := (Int.floor_le r).trans hr1
      exact_mod_cast h
    exact max_le (by norm_num) ((min_le_right _ _).trans (by omega))

/-- Distances up to 1024 have buckets 0 to 31. -/
theorem bucket_lt (x : BitVec 32) (h0 : -1024 ≤ x.toInt) (h1 : x.toInt ≤ 1024) : (bucket x).toNat < 32 := by
  have habs : 0 ≤ (IntOp.absi x).toInt ∧ (IntOp.absi x).toInt ≤ 1024 := by
    unfold IntOp.absi
    rw [BitVec.msb_eq_toInt]
    by_cases hx : x.toInt < 0
    · rw [if_pos (by simpa using hx), BitVec.toInt_neg, Int.bmod_eq_of_le (by omega) (by omega)]
      omega
    · rw [if_neg (by simpa using hx)]
      omega
  have hlow : (if IntOp.cmpi .slt (IntOp.absi x) 8#32 = 1#1 then IntOp.absi x else IntOp.minsi (8#32 + steps (IntOp.absi x)) 15#32).toNat < 16 := by
    by_cases h : IntOp.cmpi .slt (IntOp.absi x) 8#32 = 1#1
    · rw [if_pos h]
      have h' : (IntOp.absi x).slt 8#32 = true := by
        change BitVec.ofBool ((IntOp.absi x).slt 8#32) = 1#1 at h
        cases hb : (IntOp.absi x).slt 8#32
        · rw [hb] at h
          exact absurd h (by decide)
        · rfl
      rw [BitVec.slt_iff_toInt_lt] at h'
      have h8 : (8#32 : BitVec 32).toInt = 8 := by decide
      rw [BitVec.toInt_eq_toNat_of_msb (by rw [BitVec.msb_eq_toInt]; simpa using habs.1)] at h'
      omega
    · rw [if_neg h]
      have h' : ¬ (IntOp.absi x).slt 8#32 = true := by
        intro hc
        apply h
        simp [IntOp.cmpi, hc]
      rw [BitVec.slt_iff_toInt_lt] at h'
      have h8 : (8#32 : BitVec 32).toInt = 8 := by decide
      obtain ⟨k, hk0, hk1, hk⟩ := steps_bounds (IntOp.absi x) (by omega) habs.2
      rw [hk]
      unfold IntOp.minsi
      split
      · rename_i hs
        rw [BitVec.slt_iff_toInt_lt] at hs
        have h15 : (15#32 : BitVec 32).toInt = 15 := by decide
        have hv : (8#32 + BitVec.ofInt 32 k).toNat = 8 + k.toNat := by
          rw [BitVec.toNat_add, BitVec.toNat_ofInt]
          have : (8#32 : BitVec 32).toNat = 8 := by decide
          omega
        rw [BitVec.toInt_eq_toNat_cond, hv] at hs
        rw [hv]
        split at hs <;> omega
      · decide
  have hhigh : (if IntOp.cmpi .sgt x 0#32 = 1#1 then 16#32 else 0#32 : BitVec 32).toNat ≤ 16 := by
    split <;> decide
  rw [bucket_eq, BitVec.toNat_add]
  omega

end Cert.Proof.BiasBucket

end
-- ==== Proof.BiasPre.lean ====
/- The precondition of the position bias's kernel, read entry by entry: its tables are the 0/1 tables of the buckets of the diagonals in the band, and the
   logit gradients are zero outside the band. -/
module

public import proofs.«01_k».proof.Pre_bucket_tables
public import proofs.«01_k».proof.Proof.Gen.Pre_bucket_tables
public import proofs.«01_k».proof.Proof.BiasSpec
public import proofs.«01_k».proof.Proof.BiasBucket
public import Idealize.ShloMosaic.Lib.Claim
public import Idealize.ShloMosaic.Lib.Pointwise
public import Idealize.ShloMosaic.Lib.ValueIdx

@[expose] public section

set_option maxRecDepth 16384

noncomputable section

namespace Cert.Proof.BiasPre

open Idealize.ShloMosaic
open Cert.Pre_bucket_tables Cert.Proof.BiasBucket Cert.Proof.BiasSpec

/-- The three dilations. -/
def dil (g : Fin 3) : BitVec 32 := ![1#32, 4#32, 16#32] g

/-- A distance held within the band's half width, in tokens. -/
def tokens (d r : BitVec 32) : BitVec 32 := IntOp.muli (IntOp.minsi 64#32 (IntOp.maxsi 4294967232#32 r)) d

/-- Whether a distance is in the band. -/
def inBand (r : BitVec 32) : BitVec 1 := IntOp.cmpi .sle (IntOp.absi r) 64#32

/-- The distance that diagonal `c` holds at place `v`. -/
def diagWord (v : Fin 3) (c : Fin 256) : BitVec 32 :=
  IntOp.subi (IntOp.andi (IntOp.addi (IntOp.subi (BitVec.ofNat 32 c.val) (IntOp.muli 64#32 (BitVec.ofNat 32 v.val))) 128#32) 255#32) 128#32

/-- Key position less query position at place `v`. -/
def relWord (v : Fin 3) (q : Fin 128) (c : Fin 256) : BitVec 32 :=
  IntOp.subi (IntOp.subi (BitVec.ofNat 32 c.val) (IntOp.muli 64#32 (BitVec.ofNat 32 v.val))) (BitVec.ofNat 32 q.val)

theorem diagWord_toInt : ∀ (v : Fin 3) (c : Fin 256), (diagWord v c).toInt = diagRel (64 * v.val) c := by
  decide +kernel

theorem toInt_small (n : ℕ) (h : n < 1024) : (BitVec.ofNat 32 n).toInt = (n : Int) := by
  rw [BitVec.toInt_eq_toNat_cond, BitVec.toNat_ofNat, Nat.mod_eq_of_lt (by omega), if_pos (by omega)]

theorem relWord_toInt (v : Fin 3) (q : Fin 128) (c : Fin 256) : (relWord v q c).toInt = rel (64 * v.val) q c := by
  have hm : IntOp.muli 64#32 (BitVec.ofNat 32 v.val) = BitVec.ofNat 32 (64 * v.val) := by
    revert v
    decide
  unfold relWord rel
  rw [hm]
  unfold IntOp.subi
  have := v.isLt
  have := q.isLt
  have := c.isLt
  rw [BitVec.toInt_sub, BitVec.toInt_sub, toInt_small _ (by omega), toInt_small _ (by omega), toInt_small _ (by omega),
    Int.bmod_eq_of_le (n := (c.val : Int) - ((64 * v.val : ℕ) : Int)) (by omega) (by omega), Int.bmod_eq_of_le (by omega) (by omega)]

theorem inBand_iff (r : BitVec 32) (h0 : -1024 ≤ r.toInt) (h1 : r.toInt ≤ 1024) : inBand r = 1#1 ↔ -64 ≤ r.toInt ∧ r.toInt ≤ 64 := by
  have habs : (IntOp.absi r).toInt = if r.toInt < 0 then -r.toInt else r.toInt := by
    unfold IntOp.absi
    rw [BitVec.msb_eq_toInt]
    by_cases hx : r.toInt < 0
    · rw [if_pos (by simpa using hx), if_pos hx, BitVec.toInt_neg, Int.bmod_eq_of_le (by omega) (by omega)]
    · rw [if_neg (by simpa using hx), if_neg hx]
  have h64 : (64#32 : BitVec 32).toInt = 64 := by decide
  have hs : inBand r = 1#1 ↔ (IntOp.absi r).sle 64#32 = true := by
    unfold inBand
    change BitVec.ofBool ((IntOp.absi r).sle 64#32) = 1#1 ↔ _
    cases (IntOp.absi r).sle 64#32 <;> decide
  rw [hs, BitVec.sle_iff_toInt_le, habs, h64]
  split <;> omega

/-- The tokens of a distance are few enough for a bucket. -/
theorem tokens_bounds (g : Fin 3) (r : BitVec 32) : -1024 ≤ (tokens (dil g) r).toInt ∧ (tokens (dil g) r).toInt ≤ 1024 := by
  have hc : -64 ≤ (IntOp.minsi 64#32 (IntOp.maxsi 4294967232#32 r)).toInt ∧ (IntOp.minsi 64#32 (IntOp.maxsi 4294967232#32 r)).toInt ≤ 64 := by
    have h64 : (64#32 : BitVec 32).toInt = 64 := by decide
    have hn64 : (4294967232#32 : BitVec 32).toInt = -64 := by decide
    unfold IntOp.minsi IntOp.maxsi
    simp only [BitVec.slt_iff_toInt_lt]
    split <;> split at * <;> omega
  unfold tokens
  generalize IntOp.minsi 64#32 (IntOp.maxsi 4294967232#32 r) = z at hc
  unfold IntOp.muli
  rw [BitVec.toInt_mul]
  have hd : (dil g).toInt = 1 ∨ (dil g).toInt = 4 ∨ (dil g).toInt = 16 := by
    revert g
    decide
  rcases hd with hd | hd | hd <;> rw [hd, Int.bmod_eq_of_le (by omega) (by omega)] <;> omega

theorem bucket_tokens_lt (g : Fin 3) (r : BitVec 32) : (bucket (tokens (dil g) r)).toNat < 32 :=
  bucket_lt _ (tokens_bounds g r).1 (tokens_bounds g r).2

variable [Facts]
open Facts

/-- The diagonals' distances. -/
def diagV : IVec S3x256 32 :=
  subi (andi (addi (subi (broadcastInDim S3x256 ![0, 1] bcast_S1x256_S3x256_0_1 (broadcastInDim S1x256 ![1] bcast_S256_S1x256_1 (iotaInDim S256 32 0)))
      (broadcastInDim S3x256 ![0, 1] bcast_S3x1_S3x256_0_1 (muli (broadcastInDim S3x1 ![] bcast_S_S3x1 (constantI S_ 32 64#32))
        (broadcastInDim S3x1 ![0] bcast_S3_S3x1_0 (iotaInDim S3 32 0)))))
      (broadcastInDim S3x256 ![] bcast_S_S3x256 (constantI S_ 32 128#32))) (broadcastInDim S3x256 ![] bcast_S_S3x256 (constantI S_ 32 255#32)))
    (broadcastInDim S3x256 ![] bcast_S_S3x256 (constantI S_ 32 128#32))

/-- Their tokens at the three dilations. -/
def tokV : IVec S3x3x256 32 :=
  muli (broadcastInDim S3x3x256 ![0, 1, 2] bcast_S1x3x256_S3x3x256_0_1_2 (broadcastInDim S1x3x256 ![1, 2] bcast_S3x256_S1x3x256_1_2
      (minsi (broadcastInDim S3x256 ![] bcast_S_S3x256 (constantI S_ 32 64#32))
        (maxsi (broadcastInDim S3x256 ![] bcast_S_S3x256 (constantI S_ 32 4294967232#32)) diagV))))
    (broadcastInDim S3x3x256 ![0, 1, 2] bcast_S3x1x1_S3x3x256_0_1_2 (broadcastInDim S3x1x1 ![0] bcast_S3_S3x1x1_0 (fun i => lit0 (S3.rowMajor i))))

/-- The tables as bits. -/
def hits : IVec S3x3x256x128 1 :=
  andi (broadcastInDim S3x3x256x128 ![0, 1, 2, 3] bcast_S1x3x256x1_S3x3x256x128_0_1_2_3 (broadcastInDim S1x3x256x1 ![1, 2, 3] bcast_S3x256x1_S1x3x256x1_1_2_3
      (broadcastInDim S3x256x1 ![0, 1] bcast_S3x256_S3x256x1_0_1 (cmpi .sle (absi diagV) (broadcastInDim S3x256 ![] bcast_S_S3x256 (constantI S_ 32 64#32))))))
    (cmpi .eq (broadcastInDim S3x3x256x128 ![0, 1, 2, 3] bcast_S3x3x256x1_S3x3x256x128_0_1_2_3
        (broadcastInDim S3x3x256x1 ![0, 1, 2] bcast_S3x3x256_S3x3x256x1_0_1_2 (buckets S3x3x256 tokV)))
      (broadcastInDim S3x3x256x128 ![0, 1, 2, 3] bcast_S1x1x1x128_S3x3x256x128_0_1_2_3 (broadcastInDim S1x1x1x128 ![3] bcast_S128_S1x1x1x128_3 (iotaInDim S128 32 0))))

/-- Key position less query position. -/
def relV : IVec S3x128x256 32 :=
  subi (broadcastInDim S3x128x256 ![0, 1, 2] bcast_S3x1x256_S3x128x256_0_1_2
      (subi (broadcastInDim S3x1x256 ![0, 1, 2] bcast_S1x1x256_S3x1x256_0_1_2 (broadcastInDim S1x1x256 ![2] bcast_S256_S1x1x256_2 (iotaInDim S256 32 0)))
        (broadcastInDim S3x1x256 ![0, 1, 2] bcast_S3x1x1_S3x1x256_0_1_2 (muli (broadcastInDim S3x1x1 ![] bcast_S_S3x1x1 (constantI S_ 32 64#32))
          (broadcastInDim S3x1x1 ![0] bcast_S3_S3x1x1_0 (iotaInDim S3 32 0))))))
    (broadcastInDim S3x128x256 ![0, 1, 2] bcast_S1x128x1_S3x128x256_0_1_2 (broadcastInDim S1x128x1 ![1] bcast_S128_S1x128x1_1 (iotaInDim S128 32 0)))

/-- The positions outside the band. -/
def outV : IVec S3x128x256 1 := cmpi .sgt (absi relV) (broadcastInDim S3x128x256 ![] bcast_S_S3x128x256 (constantI S_ 32 64#32))

theorem fn_eq (D : FVec Ideal S3x4x3x256x256 .f32) (O : FVec Ideal S3x3x256x128 .f32) :
    fn (F := Ideal) D O = (cmpf .oeq O (uitofp .f32 hits),
      select (broadcastInDim S3x4x3x256x256 ![2, 3, 4] bcast_S3x256x256_S3x4x3x256x256_2_3_4
          (concatenate S3x256x256 1 [⟨S3x128x256, outV⟩, ⟨S3x128x256, outV⟩] concatenates_S3x128x256_S3x128x256_S3x256x256_d1))
        (cmpf .oeq D (broadcastInDim S3x4x3x256x256 ![] bcast_S_S3x4x3x256x256 (constant S_ .f32 0x00000000#32)))
        (broadcastInDim S3x4x3x256x256 ![] bcast_S_S3x4x3x256x256 (constantI S_ 1 1#1))) := rfl

theorem diagV_at (v : Fin 3) (c : Fin 256) : diagV (ix2 v c) = diagWord v c := by
  unfold diagV diagWord
  pointwise
  try rfl

theorem relV_at (v : Fin 3) (q : Fin 128) (c : Fin 256) : relV (ix3 v q c) = relWord v q c := by
  unfold relV relWord
  pointwise
  try rfl

theorem lit0_at (g : Fin 3) : lit0 (S3.rowMajor (ix1 g)) = dil g := by
  fin_cases g <;> rfl

theorem tokV_at (g v : Fin 3) (c : Fin 256) : tokV (ix3 g v c) = tokens (dil g) (diagWord v c) := by
  rw [← diagV_at, ← lit0_at]
  unfold tokV tokens
  pointwise
  try rfl

theorem hits_at (g v : Fin 3) (c : Fin 256) (b : Fin 128) :
    hits (ix4 g v c b) = IntOp.andi (inBand (diagWord v c)) (IntOp.cmpi .eq (bucket (tokens (dil g) (diagWord v c))) (BitVec.ofNat 32 b.val)) := by
  rw [← tokV_at, ← buckets_at, ← diagV_at]
  unfold hits inBand
  pointwise
  try rfl

theorem outV_at (v : Fin 3) (q : Fin 128) (c : Fin 256) : outV (ix3 v q c) = IntOp.cmpi .sgt (IntOp.absi (relWord v q c)) 64#32 := by
  rw [← relV_at]
  unfold outV
  pointwise

/-- A head's row in its pair. -/
def row (s : Fin 2) (q : Fin 128) : Fin 256 := ⟨s.val * 128 + q.val, by omega⟩

theorem both_at (v : Fin 3) (s : Fin 2) (q : Fin 128) (c : Fin 256) :
    concatenate S3x256x256 1 [⟨S3x128x256, outV⟩, ⟨S3x128x256, outV⟩] concatenates_S3x128x256_S3x128x256_S3x256x256_d1 (ix3 v (row s q) c)
      = outV (ix3 v q c) := by
  generalize outV = o
  have hq := q.isLt
  by_cases hs : s.val = 0
  · have hv : (row s q).val = q.val := by
      show s.val * 128 + q.val = q.val
      omega
    pointwise
    rw [dif_pos (by omega)]
    exact congrArg (fun a => o (ix3 v a c)) (Fin.ext hv)
  · have hv : (row s q).val = 128 + q.val := by
      show s.val * 128 + q.val = 128 + q.val
      omega
    pointwise
    rw [dif_neg (by omega)]
    refine congrArg (fun a => o (ix3 v a c)) (Fin.ext ?_)
    show (row s q).val - 128 = q.val
    omega

/-- A band's word and its opposite. -/
theorem not_inBand (r : BitVec 32) (h : inBand r ≠ 1#1) : IntOp.cmpi .sgt (IntOp.absi r) 64#32 = 1#1 := by
  unfold inBand at h
  change BitVec.ofBool ((IntOp.absi r).sle 64#32) ≠ 1#1 at h
  change BitVec.ofBool ((64#32 : BitVec 32).slt (IntOp.absi r)) = 1#1
  have : (IntOp.absi r).sle 64#32 = !(64#32 : BitVec 32).slt (IntOp.absi r) := by
    show decide _ = !decide _
    rw [← decide_not]
    exact decide_eq_decide.mpr Int.not_lt.symm
  rw [this] at h
  cases hs : (64#32 : BitVec 32).slt (IntOp.absi r)
  · rw [hs] at h
    exact absurd rfl h
  · rfl

/-- Outside the band the logit gradients are zero. -/
theorem zero_of (D : FVec Ideal S3x4x3x256x256 .f32) (O : FVec Ideal S3x3x256x128 .f32) (hp : (fn (F := Ideal) D O).2 = fun _ => 1#1)
    (g : Fin 3) (p : Fin 4) (v : Fin 3) (s : Fin 2) (q : Fin 128) (c : Fin 256) (h : inBand (relWord v q c) ≠ 1#1) :
    D (ix5 g p v (row s q) c) = 0 := by
  have e := congrFun hp (ix5 g p v (row s q) c)
  rw [fn_eq] at e
  have ho := (both_at v s q c).trans ((outV_at v q c).trans (not_inBand _ h))
  revert ho e
  generalize concatenate S3x256x256 1 [⟨S3x128x256, outV⟩, ⟨S3x128x256, outV⟩] concatenates_S3x128x256_S3x128x256_S3x256x256_d1 = o
  intro e ho
  have e' : Scalar.select (o (ix3 v (row s q) c)) (BitVec.ofBool (decide (D (ix5 g p v (row s q) c) = 0))) 1#1 = 1#1 := by
    refine Eq.trans ?_ e
    pointwise
  rw [ho] at e'
  change BitVec.ofBool (decide _) = 1#1 at e'
  by_contra hne
  rw [decide_eq_false hne] at e'
  exact absurd e' (by decide)

/-- The tables' entries. -/
theorem tables_of (D : FVec Ideal S3x4x3x256x256 .f32) (O : FVec Ideal S3x3x256x128 .f32) (hp : (fn (F := Ideal) D O).1 = fun _ => 1#1)
    (g v : Fin 3) (c : Fin 256) (b : Fin 128) :
    O (ix4 g v c b) = if (bucket (tokens (dil g) (diagWord v c))).toNat = b.val ∧ inBand (diagWord v c) = 1#1 then 1 else 0 := by
  have e := congrFun hp (ix4 g v c b)
  rw [fn_eq] at e
  have e' : BitVec.ofBool (decide (O (ix4 g v c b) = (((hits (ix4 g v c b)).toNat : ℝ) : EReal))) = 1#1 := by
    refine Eq.trans ?_ e
    pointwise
    rfl
  have hO : O (ix4 g v c b) = (((hits (ix4 g v c b)).toNat : ℝ) : EReal) := by
    by_contra hne
    rw [decide_eq_false hne] at e'
    exact absurd e' (by decide)
  rw [hO, hits_at]
  have hw : IntOp.cmpi .eq (bucket (tokens (dil g) (diagWord v c))) (BitVec.ofNat 32 b.val)
      = if (bucket (tokens (dil g) (diagWord v c))).toNat = b.val then 1#1 else 0#1 := by
    generalize bucket (tokens (dil g) (diagWord v c)) = w
    change BitVec.ofBool (w == BitVec.ofNat 32 b.val) = _
    have : (w == BitVec.ofNat 32 b.val) = decide (w.toNat = b.val) := by
      rw [Bool.eq_iff_iff]
      simp only [beq_iff_eq, decide_eq_true_eq]
      constructor
      · rintro rfl
        rw [BitVec.toNat_ofNat]
        omega
      · intro h
        apply BitVec.eq_of_toNat_eq
        rw [h, BitVec.toNat_ofNat]
        omega
    rw [this]
    by_cases h : w.toNat = b.val <;> simp [h]
  rw [hw]
  generalize inBand (diagWord v c) = k
  by_cases h : (bucket (tokens (dil g) (diagWord v c))).toNat = b.val
  · by_cases hk : k = 1#1
    · rw [if_pos h, if_pos ⟨h, hk⟩, hk]
      simp [IntOp.andi]
    · have h0 : k = 0#1 := by
        revert hk
        revert k
        decide
      rw [if_pos h, if_neg (fun a => hk a.2), h0]
      simp [IntOp.andi]
  · rw [if_neg h, if_neg (fun a => h a.1)]
    simp [IntOp.andi]

end Cert.Proof.BiasPre

end
-- ==== Proof.BiasSum.lean ====
/- One block of the position bias's gradient: the sums over its skewed diagonals, weighted by the tables, are the sums over its band. -/
module

public import proofs.«01_k».proof.Proof.BiasPre

@[expose] public section

set_option maxRecDepth 16384

noncomputable section

namespace Cert.Proof.BiasSum

open Idealize.ShloMosaic
open Cert.Pre_bucket_tables Cert.Proof.BiasBucket Cert.Proof.BiasSpec Cert.Proof.BiasPre

variable [Facts]

/-- A position in the band whose bucket is `b`. -/
def hit (g : Fin 3) (b : ℕ) (z : Int) : Prop := (bucket (tokens (dil g) (BitVec.ofInt 32 z))).toNat = b

instance (g : Fin 3) (b : ℕ) : DecidablePred (hit g b) := fun _ => Nat.decEq _ _

theorem rel_bounds (v : Fin 3) (q : Fin 128) (c : Fin 256) : -1024 ≤ rel (64 * v.val) q c ∧ rel (64 * v.val) q c ≤ 1024 := by
  unfold rel
  omega

theorem diagRel_bounds (v : Fin 3) (c : Fin 256) : -1024 ≤ diagRel (64 * v.val) c ∧ diagRel (64 * v.val) c ≤ 1024 := by
  unfold diagRel
  omega

theorem rel_iff (v : Fin 3) (q : Fin 128) (c : Fin 256) :
    inBand (relWord v q c) = 1#1 ↔ -64 ≤ rel (64 * v.val) q c ∧ rel (64 * v.val) q c ≤ 64 := by
  have h := rel_bounds v q c
  rw [← relWord_toInt] at h ⊢
  exact inBand_iff _ h.1 h.2

theorem diag_iff (v : Fin 3) (c : Fin 256) :
    inBand (diagWord v c) = 1#1 ↔ -64 ≤ diagRel (64 * v.val) c ∧ diagRel (64 * v.val) c ≤ 64 := by
  have h := diagRel_bounds v c
  rw [← diagWord_toInt] at h ⊢
  exact inBand_iff _ h.1 h.2

theorem rel_hit (g v : Fin 3) (q : Fin 128) (c : Fin 256) (b : ℕ) :
    (bucket (tokens (dil g) (relWord v q c))).toNat = b ↔ hit g b (rel (64 * v.val) q c) := by
  unfold hit
  rw [← relWord_toInt, BitVec.ofInt_toInt]

theorem diag_hit (g v : Fin 3) (c : Fin 256) (b : ℕ) :
    (bucket (tokens (dil g) (diagWord v c))).toNat = b ↔ hit g b (diagRel (64 * v.val) c) := by
  unfold hit
  rw [← diagWord_toInt, BitVec.ofInt_toInt]

variable (D : FVec Ideal S3x4x3x256x256 .f32) (O : FVec Ideal S3x3x256x128 .f32) (g : Fin 3) (p : Fin 4) (s : Fin 2)

/-- The sum of a head's logit gradients over the band's entries at place `v` whose bucket is `b`. -/
def place (v : Fin 3) (b : ℕ) : EReal :=
  ∑ q : Fin 128, ∑ c : Fin 256,
    if (bucket (tokens (dil g) (relWord v q c))).toNat = b ∧ inBand (relWord v q c) = 1#1 then D (ix5 g p v (row s q) c) else 0

theorem block_sum (h1 : (fn (F := Ideal) D O).1 = fun _ => 1#1) (h2 : (fn (F := Ideal) D O).2 = fun _ => 1#1) (v : Fin 3) (b : Fin 128) :
    ∑ d : Fin 256, (∑ q : Fin 128, D (ix5 g p v (row s q) (skew d q))) * O (ix4 g v d b) = place D g p s v b.val := by
  have hz : ∀ q c, ¬(-64 ≤ rel (64 * v.val) q c ∧ rel (64 * v.val) q c ≤ 64) → D (ix5 g p v (row s q) c) = 0 :=
    fun q c h => zero_of D O h2 g p v s q c fun hb => h ((rel_iff v q c).mp hb)
  have key := sum_diagonals (fun q c => D (ix5 g p v (row s q) c)) (64 * v.val) (by omega) (hit g b.val) hz
  refine Eq.trans ?_ (key.trans ?_)
  · refine Finset.sum_congr rfl fun d _ => congrArg _ ?_
    rw [tables_of D O h1 g v d b]
    exact if_congr (and_congr (diag_hit g v d b.val) (diag_iff v d)) rfl rfl
  · unfold place
    refine Finset.sum_congr rfl fun q _ => Finset.sum_congr rfl fun c _ => ?_
    exact (if_congr (and_congr (rel_hit g v q c b.val) (rel_iff v q c)) rfl rfl).symm

/-- No bucket is 32 or more. -/
theorem place_of_le (v : Fin 3) (b : ℕ) (hb : 32 ≤ b) : place D g p s v b = 0 := by
  unfold place
  refine Finset.sum_eq_zero fun q _ => Finset.sum_eq_zero fun c _ => if_neg fun h => ?_
  have := bucket_tokens_lt g (relWord v q c)
  omega

end Cert.Proof.BiasSum

end
-- ==== Proof.BiasRef.lean ====
/- The reference of the position bias's gradient, read entry by entry: for each bucket and head, the sum over the three dilations of the band's logit gradients
   whose position falls in that bucket. -/
module

public import proofs.«01_k».proof.Proof.BiasScatter
public import proofs.«01_k».proof.Proof.BiasSum
public import Idealize.ShloMosaic.Lib.KernelVsHost

@[expose] public section

set_option maxRecDepth 16384

noncomputable section

namespace Cert.Proof.BiasRef

open Idealize.ShloMosaic
open Cert.BiasReferenceIdeal Cert.BiasReferenceIdeal.Gen Cert.BiasReferenceIdeal.Value
open Cert.Proof.BiasBucket Cert.Proof.BiasPre Cert.Proof.BiasSum Cert.Proof.BiasScatter

instance : Cert.Pre_bucket_tables.Facts := Cert.Pre_bucket_tables.Gen.facts

variable (V : Valuation τ sig (Elt Ideal))

/-- A head's pair, and its place in the pair. -/
def pair (h : Fin 8) : Fin 4 := ⟨h.val / 2, by omega⟩
def side (h : Fin 8) : Fin 2 := ⟨h.val % 2, by omega⟩

theorem rel_at (v : Fin 3) (q : Fin 128) (c : Fin 256) : res_main_v13 V (ix3 v q c) = relWord v q c := by
  unfold res_main_v13
  pointwise
  rfl

theorem band_at (v : Fin 3) (q : Fin 128) (c : Fin 256) : res_main_v16 V (ix3 v q c) = inBand (relWord v q c) := by
  rw [← rel_at V]
  unfold res_main_v16
  pointwise
  rfl

theorem tok0_at (v : Fin 3) (q : Fin 128) (c : Fin 256) : res_main_v20 V (ix3 v q c) = tokens (dil 0) (relWord v q c) := by
  rw [← rel_at V]
  rfl

theorem tok1_at (v : Fin 3) (q : Fin 128) (c : Fin 256) : res_main_v56 V (ix3 v q c) = tokens (dil 1) (relWord v q c) := by
  rw [← rel_at V]
  rfl

theorem tok2_at (v : Fin 3) (q : Fin 128) (c : Fin 256) : res_main_v92 V (ix3 v q c) = tokens (dil 2) (relWord v q c) := by
  rw [← rel_at V]
  rfl

theorem buck0 : res_main_v44 V = buckets S3x128x256 (res_main_v20 V) := by
  unfold res_main_v44 res_main_v24 buckets
  generalize res_main_v20 V = x
  rfl

theorem buck1 : res_main_v80 V = buckets S3x128x256 (res_main_v56 V) := by
  unfold res_main_v80 res_main_v60 buckets
  generalize res_main_v56 V = x
  rfl

theorem buck2 : res_main_v116 V = buckets S3x128x256 (res_main_v92 V) := by
  unfold res_main_v116 res_main_v96 buckets
  generalize res_main_v92 V = x
  rfl

/-- A bucket is the table's row of its own number. -/
theorem wrap (w : BitVec 32) (h : w.toNat < 32) : (Scalar.select (IntOp.cmpi .slt w 0#32) (IntOp.addi w 32#32) w).toInt = (w.toNat : Int) := by
  have h0 : IntOp.cmpi .slt w 0#32 = 0#1 := by
    change BitVec.ofBool (w.slt 0#32) = 0#1
    have : w.slt 0#32 = false := by
      rw [Bool.eq_false_iff]
      intro hs
      rw [BitVec.slt_iff_toInt_lt, BitVec.toInt_eq_toNat_cond, if_pos (by omega)] at hs
      have : (0#32 : BitVec 32).toInt = 0 := by decide
      omega
    rw [this]
    rfl
  rw [h0]
  show w.toInt = _
  rw [BitVec.toInt_eq_toNat_cond, if_pos (by omega)]

theorem row0_at (v : Fin 3) (q : Fin 128) (c : Fin 256) :
    (res_main_v51 V (ix4 v q c 0)).toInt = ((bucket (tokens (dil 0) (relWord v q c))).toNat : Int) := by
  have e : res_main_v51 V (ix4 v q c 0) = Scalar.select (IntOp.cmpi .slt (res_main_v44 V (ix3 v q c)) 0#32) (IntOp.addi (res_main_v44 V (ix3 v q c)) 32#32)
      (res_main_v44 V (ix3 v q c)) := by
    unfold res_main_v51
    pointwise
  rw [e, buck0, buckets_at, tok0_at, wrap _ (bucket_tokens_lt 0 _)]

theorem row1_at (v : Fin 3) (q : Fin 128) (c : Fin 256) :
    (res_main_v87 V (ix4 v q c 0)).toInt = ((bucket (tokens (dil 1) (relWord v q c))).toNat : Int) := by
  have e : res_main_v87 V (ix4 v q c 0) = Scalar.select (IntOp.cmpi .slt (res_main_v80 V (ix3 v q c)) 0#32) (IntOp.addi (res_main_v80 V (ix3 v q c)) 32#32)
      (res_main_v80 V (ix3 v q c)) := by
    unfold res_main_v87
    pointwise
  rw [e, buck1, buckets_at, tok1_at, wrap _ (bucket_tokens_lt 1 _)]

theorem row2_at (v : Fin 3) (q : Fin 128) (c : Fin 256) :
    (res_main_v123 V (ix4 v q c 0)).toInt = ((bucket (tokens (dil 2) (relWord v q c))).toNat : Int) := by
  have e : res_main_v123 V (ix4 v q c 0) = Scalar.select (IntOp.cmpi .slt (res_main_v116 V (ix3 v q c)) 0#32) (IntOp.addi (res_main_v116 V (ix3 v q c)) 32#32)
      (res_main_v116 V (ix3 v q c)) := by
    unfold res_main_v123
    pointwise
  rw [e, buck2, buckets_at, tok2_at, wrap _ (bucket_tokens_lt 2 _)]

theorem mask0_at (v : Fin 3) (q : Fin 128) (c : Fin 256) (h : Fin 8) : res_main_v53_1 V (ix4 v q c h) = inBand (relWord v q c) := by
  rw [← band_at V]
  unfold res_main_v53_1
  pointwise

theorem mask1_at (v : Fin 3) (q : Fin 128) (c : Fin 256) (h : Fin 8) : res_main_v89_1 V (ix4 v q c h) = inBand (relWord v q c) := by
  rw [← band_at V]
  unfold res_main_v89_1
  pointwise

theorem mask2_at (v : Fin 3) (q : Fin 128) (c : Fin 256) (h : Fin 8) : res_main_v125_1 V (ix4 v q c h) = inBand (relWord v q c) := by
  rw [← band_at V]
  unfold res_main_v125_1
  pointwise

/-- A dilation's updates: the logit gradients of its heads, the heads last. -/
abbrev heads (X : FVec Ideal S1x4x3x256x256 .f32) : FVec Ideal S3x128x256x8 .f32 :=
  shapeCast _ (transpose S3x128x256x4x2 [1, 3, 4, 0, 2] (shapeCast _ (shapeCast _ X shapeCasts_S1x4x3x256x256_S4x3x256x256)
    shapeCasts_S4x3x256x256_S4x3x2x128x256) transposes_S4x3x2x128x256_S3x128x256x4x2_1_3_4_0_2) shapeCasts_S3x128x256x4x2_S3x128x256x8

theorem heads_at (X : FVec Ideal S1x4x3x256x256 .f32) (v : Fin 3) (q : Fin 128) (c : Fin 256) (h : Fin 8) :
    heads X (ix4 v q c h) = X (ix5 0 (pair h) v (row (side h) q) c) := by
  unfold heads
  pointwise
  rfl

/-- One dilation's scattered sums, at an entry. -/
theorem dilation_at (D : FVec Ideal S3x4x3x256x256 .f32) (g : Fin 3) (idx : IVec S3x128x256x1 32) (mask : IVec S3x128x256x8 1)
    (X : FVec Ideal S1x4x3x256x256 .f32) (h : Fin 8) (b : Fin 32)
    (hi : ∀ v q c, (idx (ix4 v q c 0)).toInt = ((bucket (tokens (dil g) (relWord v q c))).toNat : Int))
    (hm : ∀ v q c, mask (ix4 v q c h) = inBand (relWord v q c))
    (hX : ∀ p v r c, X (ix5 0 p v r c) = D (ix5 g p v r c)) :
    Host.scatterAdd scat (broadcastInDim S32x8 ![] bcast_S_S32x8 (constant (F := Ideal) S_ .f32 0x00000000#32)) idx
        (select mask (heads X) (broadcastInDim S3x128x256x8 ![] bcast_S_S3x128x256x8 (constant (F := Ideal) S_ .f32 0x00000000#32))) (ix2 b h)
      = ∑ v : Fin 3, place D g (pair h) (side h) v b.val := by
  rw [scatter_at]
  have h0 : broadcastInDim S32x8 ![] bcast_S_S32x8 (constant (F := Ideal) S_ .f32 0x00000000#32) (ix2 b h) = 0 := by
    pointwise
  rw [h0, zero_add]
  refine Finset.sum_congr rfl fun v _ => ?_
  unfold place
  refine Finset.sum_congr rfl fun q _ => Finset.sum_congr rfl fun c _ => ?_
  have hs : select mask (heads X) (broadcastInDim S3x128x256x8 ![] bcast_S_S3x128x256x8 (constant (F := Ideal) S_ .f32 0x00000000#32)) (ix4 v q c h)
      = if inBand (relWord v q c) = 1#1 then D (ix5 g (pair h) v (row (side h) q) c) else 0 := by
    rw [← hX, ← heads_at X v q c h, ← hm]
    generalize heads X = Y
    pointwise
    rfl
  rw [hs, hi]
  by_cases hb : (bucket (tokens (dil g) (relWord v q c))).toNat = b.val
  · rw [if_pos (by rw [hb])]
    exact if_congr (by simp [hb]) rfl rfl
  · rw [if_neg (by exact_mod_cast hb), if_neg (fun a => hb a.1)]

/-- The reference's result, from the stacked logit gradients and the arrays it makes of the positions. -/
abbrev resultV (V : Valuation τ sig (Elt Ideal)) : FVec Ideal S8x128 .f32 :=
  pad S8x128 ![0, 0] ![0, 96] ![0, 0] (transpose S8x32 [1, 0] (addf (addf
    (Host.scatterAdd scat (broadcastInDim S32x8 ![] bcast_S_S32x8 (constant S_ .f32 0x00000000#32)) (res_main_v123 V) (select (res_main_v125_1 V)
      (heads (extractStridedSlice S1x4x3x256x256 ![2, 0, 0, 0, 0] (V (Proc.devRef .tc main_arg0)) slices_S3x4x3x256x256_S1x4x3x256x256_2_0_0_0_0))
      (broadcastInDim S3x128x256x8 ![] bcast_S_S3x128x256x8 (constant S_ .f32 0x00000000#32))))
    (Host.scatterAdd scat (broadcastInDim S32x8 ![] bcast_S_S32x8 (constant S_ .f32 0x00000000#32)) (res_main_v87 V) (select (res_main_v89_1 V)
      (heads (extractStridedSlice S1x4x3x256x256 ![1, 0, 0, 0, 0] (V (Proc.devRef .tc main_arg0)) slices_S3x4x3x256x256_S1x4x3x256x256_1_0_0_0_0))
      (broadcastInDim S3x128x256x8 ![] bcast_S_S3x128x256x8 (constant S_ .f32 0x00000000#32)))))
    (Host.scatterAdd scat (broadcastInDim S32x8 ![] bcast_S_S32x8 (constant S_ .f32 0x00000000#32)) (res_main_v51 V) (select (res_main_v53_1 V)
      (heads (extractStridedSlice S1x4x3x256x256 ![0, 0, 0, 0, 0] (V (Proc.devRef .tc main_arg0)) slices_S3x4x3x256x256_S1x4x3x256x256_0_0_0_0_0))
      (broadcastInDim S3x128x256x8 ![] bcast_S_S3x128x256x8 (constant S_ .f32 0x00000000#32)))))
    transposes_S32x8_S8x32_1_0) (sitofp .f32 (constantI S_ 32 0#32)) pads_S8x32_S8x128_000_0960 h_S_

theorem result_at (D : FVec Ideal S3x4x3x256x256 .f32) (hD : V (Proc.devRef .tc main_arg0) = D) (h : Fin 8) (b : Fin 128) :
    resultV V (ix2 h b) = ∑ g : Fin 3, ∑ v : Fin 3, place D g (pair h) (side h) v b.val := by
  by_cases hb : b.val < 32
  · have e2 := dilation_at D 2 (res_main_v123 V) (res_main_v125_1 V)
      (extractStridedSlice S1x4x3x256x256 ![2, 0, 0, 0, 0] (V (Proc.devRef .tc main_arg0)) slices_S3x4x3x256x256_S1x4x3x256x256_2_0_0_0_0) h ⟨b.val, hb⟩
      (row2_at V) (fun v q c => mask2_at V v q c h) (fun p v r c => by rw [hD]; pointwise)
    have e1 := dilation_at D 1 (res_main_v87 V) (res_main_v89_1 V)
      (extractStridedSlice S1x4x3x256x256 ![1, 0, 0, 0, 0] (V (Proc.devRef .tc main_arg0)) slices_S3x4x3x256x256_S1x4x3x256x256_1_0_0_0_0) h ⟨b.val, hb⟩
      (row1_at V) (fun v q c => mask1_at V v q c h) (fun p v r c => by rw [hD]; pointwise)
    have e0 := dilation_at D 0 (res_main_v51 V) (res_main_v53_1 V)
      (extractStridedSlice S1x4x3x256x256 ![0, 0, 0, 0, 0] (V (Proc.devRef .tc main_arg0)) slices_S3x4x3x256x256_S1x4x3x256x256_0_0_0_0_0) h ⟨b.val, hb⟩
      (row0_at V) (fun v q c => mask0_at V v q c h) (fun p v r c => by rw [hD]; pointwise)
    refine (pad_apply_of_inside _ _ _ _ _ _ _ (ix2 h b) (ix2 h (⟨b.val, hb⟩ : Fin 32)) (fun a => ?_)).trans ?_
    · match a with
      | ⟨0, _⟩ => show h.val = 0 + h.val * 1; omega
      | ⟨1, _⟩ => show b.val = 0 + b.val * 1; omega
    · rw [transpose_apply _ _ _ _ (ix2 (⟨b.val, hb⟩ : Fin 32) h) (fun a => by fin_cases a <;> rfl)]
      refine (congrArg₂ (fun x y : EReal => x + y) (congrArg₂ (fun x y : EReal => x + y) e2 e1) e0).trans ?_
      rw [Fin.sum_univ_three (fun g : Fin 3 => ∑ v : Fin 3, place D g (pair h) (side h) v b.val)]
      show (_ + _) + _ = _
      rw [add_comm, add_comm (∑ v : Fin 3, place D 2 _ _ v _), ← add_assoc]
  · refine (pad_apply_of_not_inside _ _ _ _ _ _ _ (ix2 h b) 1 (fun hn => hb ?_)).trans ?_
    · have := hn.2.2
      change (b.val - 0) / 1 < 32 at this
      omega
    · rw [Finset.sum_eq_zero fun g _ => Finset.sum_eq_zero fun v _ => place_of_le D g (pair h) (side h) v b.val (by omega)]
      show (((0#32 : BitVec 32).toInt : ℝ) : EReal) = 0
      simp

end Cert.Proof.BiasRef

end
-- ==== Proof.BiasClaims.lean ====
/- The gradient of the position bias's table: the frames, `preserves`, and the value claim. -/
module

public import proofs.«01_k».proof.Defs
public import proofs.«01_k».proof.Proof.Gen.Bias
public import proofs.«01_k».proof.Proof.BiasPoint
public import proofs.«01_k».proof.Proof.BiasRef
public import Idealize.ShloMosaic.Lib.Claim

@[expose] public section

set_option maxRecDepth 16384

noncomputable section

namespace Cert.Proof.BiasClaims

open Idealize.ShloMosaic Idealize.ShloMosaic.TcCoe Idealize.SL.Sem

theorem defs_eq : Cert.Bias.defs (F := Bits) = Cert.BiasIdeal.defs (F := Bits) := by
  refine congrArg (Pipeline.defs Cert.BiasIdeal.pcfgs) ?_
  funext p l a
  cases p
  · match l, a with
    | ⟨0, _⟩, _ => rfl
  all_goals rfl

/-- The kernel at the machine's floats: one frame serves both instances. -/
theorem frame_kernel : Cert.quiescent_Bias := fun m ρ _ => by
  have h := Cert.BiasIdeal.Gen.frame (F := Bits) m ρ
  rw [← defs_eq] at h
  exact h

/-- The kernel at the extended reals. -/
theorem frame_ideal : Cert.quiescent_BiasIdeal := fun m ρ _ => Cert.BiasIdeal.Gen.frame m ρ

theorem frame_ideal_pre : Cert.quiescent_BiasIdeal_pre_bucket_tables := fun m ρ _ => Cert.BiasIdeal.Gen.frame m ρ

/-- The reference declares no semaphore, and its run leaves its arguments as they were. -/
theorem frame_reference : Cert.quiescent_BiasReferenceIdeal := fun m ρ _ =>
  (θ_run Cert.BiasReferenceIdeal.defs _ _).mono (fun r h => ⟨fun c => (h c).2,
      Idealize.ShloMosaic.sem_eq_zero_of_no_sems (by decide) r.2⟩)
    (Cert.BiasReferenceIdeal.Value.run (F := Ideal) m ρ)

theorem frame_reference_pre : Cert.quiescent_BiasReferenceIdeal_pre_bucket_tables := fun m ρ _ => frame_reference m ρ trivial

/-- Nothing was rewritten between the kernel and its idealization. -/
theorem preserves : Cert.preserves_Bias_BiasIdeal := trivial

section value

open Cert.BiasIdeal Cert.BiasIdeal.Gen Cert.BiasIdeal.Value Cert.Proof.BiasPoint Cert.Proof.BiasSum

variable (m : (ℓ : Loc nD τ sig) → Buf (Elt Ideal) ℓ) (c : Dev nD)
variable (h1 : (Cert.Pre_bucket_tables.fn (F := Ideal) (dS m c) (oH m c)).1 = fun _ => 1#1)
variable (h2 : (Cert.Pre_bucket_tables.fn (F := Ideal) (dS m c) (oH m c)).2 = fun _ => 1#1)

/-- The last point. -/
def tLast : Fin cfg0.N := ⟨8, by decide⟩

include h1 h2 in
/-- What one point adds: its dilation's and place's sum over the band. -/
theorem part_eq (t : Fin cfg0.N) (h : Fin 8) (b : Fin 128) :
    part m c t (h, b) = place (dS m c) ⟨t.val / 3, by have : t.val < 9 := t.isLt; omega⟩ (BiasRef.pair h) (BiasRef.side h)
      ⟨t.val % 3, by omega⟩ b.val := by
  rw [← block_sum (dS m c) (oH m c) _ _ _ h1 h2]
  unfold part
  refine Finset.sum_congr rfl fun d _ => ?_
  rw [oT_at m c t d b]
  refine congrArg (· * _) (Finset.sum_congr rfl fun q _ => ?_)
  exact dT_at m c t _ _ _

/-- Nine points are three dilations by three places. -/
theorem sum_nine (f : Fin 3 → Fin 3 → EReal) :
    ∑ s : Fin 9, f ⟨s.val / 3, by omega⟩ ⟨s.val % 3, by omega⟩ = ∑ g : Fin 3, ∑ v : Fin 3, f g v := by
  rw [← Fintype.sum_prod_type']
  exact (finProdFinEquiv (m := 3) (n := 3)).symm.sum_comp (fun p : Fin 3 × Fin 3 => f p.1 p.2)

include h1 h2 in
theorem last_at (h : Fin 8) (b : Fin 128) : outsAt0 m c tLast.val tLast.isLt (ix2 h b)
    = ∑ g : Fin 3, ∑ v : Fin 3, place (dS m c) g (BiasRef.pair h) (BiasRef.side h) v b.val := by
  rw [acc_last m c tLast rfl h b, ← sum_nine]
  refine Finset.sum_congr rfl fun s _ => ?_
  rw [part_eq m c h1 h2]
  refine congrArg₂ (fun g v => place (dS m c) g (BiasRef.pair h) (BiasRef.side h) v b.val) (Fin.ext ?_) (Fin.ext ?_)
  · show (9 * (8 / 9) + s.val) / 3 = s.val / 3
    omega
  · show (9 * (8 / 9) + s.val) % 3 = s.val % 3
    omega

include h1 h2 in
theorem final : (dats m 0 c).arrAt 2 cfg0.N
    = fun i => ∑ g : Fin 3, ∑ v : Fin 3, place (dS m c) g (BiasRef.pair (i 0)) (BiasRef.side (i 0)) v (i 1).val := by
  refine (dats m 0 c).arrAt_eq_of_after_last 2 tLast (by decide +kernel) _ fun j => ?_
  idx_vars j
  blk_simp [after0_2]
  exact last_at m c h1 h2 j0 j1

end value

/-- The kernel's gradient is the reference's. -/
theorem algebraic : Cert.algebraic_BiasIdeal_BiasReferenceIdeal_pre_bucket_tables := by
  intro m ρ m' ρ' hpre hagree
  refine ⟨_, Cert.BiasIdeal.Value.run_blocks (F := Ideal) m ρ, ?_⟩
  refine (θ_run Cert.BiasReferenceIdeal.defs _ _).mono (fun r h c => ?_)
    (Cert.BiasReferenceIdeal.Value.run (F := Ideal) m' ρ')
  obtain ⟨h0, hk⟩ := h c
  obtain ⟨a0, a1⟩ := hagree c
  have h0' : _ = BiasRef.resultV (StableHlo.launchContents m' c) := h0.trans rfl
  refine ⟨h0'.trans ?_, hk⟩
  rw [final m c (hpre c).1 (hpre c).2]
  funext i
  idx_vars i
  exact BiasRef.result_at _ (BiasPoint.dS m c) a0 i0 i1

end Cert.Proof.BiasClaims

end
-- ==== Proof.ProjSpec.lean ====
/- The norm of x, the projection and the norms of the heads, as functions of the call's arguments. -/
module

public import proofs.«01_k».proof.Proof.TailPoint

@[expose] public section

noncomputable section

namespace Cert.Proof.ProjSpec

open Idealize.ShloMosaic

/-- The arrays the call reads: the rows of x, the norm's weights, the weights of the projection in four blocks of columns,
    and the weights of the heads' norms. -/
structure Args where
  x : TailSpec.Arr 16384 1024
  nw : TailSpec.Arr 1 1024
  w : (⟨3, ![4, 1024, 1024]⟩ : Shape).Idx → EReal
  qkw : TailSpec.Arr 1 1024

variable (A : Args)

/-- A row of x, normed. -/
def h (s : Fin 16384) (d : Fin 1024) : EReal :=
  A.x (ix2 s d) * Ideal.rsqrt (Ideal.div (∑ e : Fin 1024, A.x (ix2 s e) * A.x (ix2 s e)) (Ideal.ofBits .f32 0x44800000#32) + TailSpec.eps) * A.nw (ix2 0 d)

/-- Block `b` of the projection. -/
def proj (b : Fin 4) (s : Fin 16384) (e : Fin 1024) : EReal := ∑ d : Fin 1024, h A s d * A.w (ix3 b d e)

/-- The convolution's factors and its gate: the first two blocks, side by side. -/
def cg (s : Fin 16384) (e : Fin 2048) : EReal := proj A ⟨e.val / 1024, by omega⟩ s ⟨e.val % 1024, by omega⟩

/-- Queries and keys, normed head by head. -/
def qkn (s : Fin 16384) (j : Fin 1024) : EReal :=
  proj A 2 s j * Ideal.rsqrt (TailSpec.gsum (fun l => proj A 2 s l * proj A 2 s l) j * Ideal.ofBits .f32 0x3C800000#32 + TailSpec.eps) * A.qkw (ix2 0 j)

/-- The queries and keys before their norm are finite. -/
def Finite : Prop := ∀ s j, ∃ a : ℝ, proj A 2 s j = (a : EReal)

end Cert.Proof.ProjSpec

end
-- ==== Proof.ProjPoint.lean ====
/- The projection's call, element by element: what a tile leaves in each result, and the results after the run. -/
module

public import proofs.«01_k».proof.Proof.Gen.ProjIdeal.Value
public import proofs.«01_k».proof.Proof.ProjSpec
public import Idealize.ShloMosaic.Lib.Claim
public import Idealize.ShloMosaic.Lib.Pointwise
public import Idealize.ShloMosaic.Lib.ValueIdx
public import Idealize.ShloMosaic.Lib.KernelVsHost
public import Idealize.ShloMosaic.Lib.Pipeline.ValueKit

@[expose] public section

set_option maxRecDepth 16384

noncomputable section

namespace Cert.Proof.ProjPoint

open Cert.ProjIdeal Cert.ProjIdeal.Gen Cert.ProjIdeal.Value
open Idealize.ShloMosaic Idealize.ShloMosaic.TcCoe Idealize.SL.Sem
open Cert.Proof

variable (m : (ℓ : Loc nD τ sig) → Buf (Elt Ideal) ℓ) (c : Dev nD) (t : Fin cfg0.N)

/-- The call's arguments, as the specification reads them. -/
def kargs : ProjSpec.Args where
  x := m ((c : Thread nD τ).loc main_arg0)
  nw := m ((c : Thread nD τ).loc main_arg1)
  w := m ((c : Thread nD τ).loc main_arg2)
  qkw := m ((c : Thread nD τ).loc main_arg3)

theorem idxIn : ∀ t : Fin cfg0.N, win0_0.index t = ![t.val, 0] ∧ win0_1.index t = ![0, 0] ∧ win0_2.index t = ![0, 0, 0] ∧
    win0_3.index t = ![0, 0] ∧ win0_4.index t = ![0, 0] := by
  decide +kernel

theorem idxOut : ∀ t : Fin cfg0.N, win0_5.index t = ![t.val, 0] ∧ win0_6.index t = ![t.val, 0] ∧ win0_7.index t = ![t.val, 0] ∧
    win0_8.index t = ![t.val, 0] ∧ win0_9.index t = ![t.val, 0] := by
  decide +kernel

theorem lt_t : t.val < 64 := t.isLt

/-- The sequence's row under the tile's row `r`. -/
def row (r : Fin 256) : Fin 16384 := ⟨256 * t.val + r.val, by have := lt_t t; omega⟩

theorem V_heads : V m c main_v7 = TailRun.heads := by
  unfold V
  simp only [hostOps0, hostOps0_1, hostOps0_2, List.flatten_cons, List.flatten_nil, List.append_nil, List.cons_append, List.nil_append]
  after_results
  rfl

abbrev xT : Vec Ideal S256x1024 .f32 := iblk m c 0 t
abbrev nT : Vec Ideal S1x1024 .f32 := iblk m c 1 t
abbrev wT : Vec Ideal S4x1024x1024 .bf16 := iblk m c 2 t
abbrev qT : Vec Ideal S1x1024 .f32 := iblk m c 3 t
abbrev bT : Vec Ideal S256x256 .bf16 := iblk m c 4 t

theorem b0 (r : Fin 256) (j : Fin 1024) : xT m c t (ix2 r j) = (kargs m c).x (ix2 (row t r) j) := by
  unfold row kargs; blk_point [iblk, V_main_arg0 m c, idxIn t]
theorem b1 (j : Fin 1024) : nT m c t (ix2 0 j) = (kargs m c).nw (ix2 0 j) := by
  unfold kargs; blk_point [iblk, V_main_arg1 m c, idxIn t]
theorem b2 (b : Fin 4) (i j : Fin 1024) : wT m c t (ix3 b i j) = (kargs m c).w (ix3 b i j) := by
  unfold kargs; blk_point [iblk, V_main_arg2 m c, idxIn t]
theorem b3 (j : Fin 1024) : qT m c t (ix2 0 j) = (kargs m c).qkw (ix2 0 j) := by
  unfold kargs; blk_point [iblk, V_main_arg3 m c, idxIn t]
theorem b4_of (X : Vec Ideal S256x256 .bf16) (hX : V m c main_v7 = X) (i j : Fin 256) : bT m c t (ix2 i j) = X (ix2 i j) := by
  blk_point [iblk, hX, idxIn t]
theorem b4 (i j : Fin 256) : bT m c t (ix2 i j) = TailRun.heads (ix2 i j) := b4_of m c t TailRun.heads (V_heads m c) i j

theorem h_at (r : Fin 256) (d : Fin 1024) : k0_pay3 (xT m c t) (nT m c t) (ix2 r d) = ProjSpec.h (kargs m c) (row t r) d := by
  unfold ProjSpec.h
  simp only [← b0, ← b1 m c t]
  generalize xT m c t = x
  generalize nT m c t = n
  unfold k0_pay3
  pointwise

theorem p0_at (r : Fin 256) (e : Fin 1024) : k0_pay4 (xT m c t) (nT m c t) (View.ld (wT m c t) r0_2) (ix2 r e) = ProjSpec.proj (kargs m c) 0 (row t r) e := by
  unfold ProjSpec.proj
  simp only [← h_at, ← b2 m c t]
  unfold k0_pay4
  generalize k0_pay3 (xT m c t) (nT m c t) = y
  pointwise

theorem p1_at (r : Fin 256) (e : Fin 1024) : k0_pay5 (xT m c t) (nT m c t) (View.ld (wT m c t) r0_4) (ix2 r e) = ProjSpec.proj (kargs m c) 1 (row t r) e := by
  unfold ProjSpec.proj
  simp only [← h_at, ← b2 m c t]
  unfold k0_pay5
  generalize k0_pay3 (xT m c t) (nT m c t) = y
  pointwise

theorem p2_at (r : Fin 256) (e : Fin 1024) : k0_pay6 (xT m c t) (nT m c t) (View.ld (wT m c t) r0_6) (ix2 r e) = ProjSpec.proj (kargs m c) 2 (row t r) e := by
  unfold ProjSpec.proj
  simp only [← h_at, ← b2 m c t]
  unfold k0_pay6
  generalize k0_pay3 (xT m c t) (nT m c t) = y
  pointwise

theorem p3_at (r : Fin 256) (e : Fin 1024) : k0_pay2 (k0_pay3 (xT m c t) (nT m c t)) (View.ld (wT m c t) r0_8) (ix2 r e) = ProjSpec.proj (kargs m c) 3 (row t r) e := by
  unfold ProjSpec.proj
  simp only [← h_at, ← b2 m c t]
  unfold k0_pay2
  generalize k0_pay3 (xT m c t) (nT m c t) = y
  pointwise

theorem ldx : View.ld (xT m c t) r0_0 = xT m c t := by
  funext i; idx_vars i; pointwise
theorem ldn : View.ld (nT m c t) r0_1 = nT m c t := by
  funext i; idx_vars i
  obtain rfl : i0 = 0 := Subsingleton.elim _ _
  pointwise

theorem out5_at (r : Fin 256) (d : Fin 1024) :
    out0_5 (xT m c t) (nT m c t) (wT m c t) (qT m c t) (bT m c t) (ix2 r d) = ProjSpec.h (kargs m c) (row t r) d := by
  frame_out
  exact h_at m c t r d

theorem out7_at (r : Fin 256) (d : Fin 1024) :
    out0_7 (xT m c t) (nT m c t) (wT m c t) (qT m c t) (bT m c t) (ix2 r d) = ProjSpec.proj (kargs m c) 2 (row t r) d := by
  frame_out
  exact p2_at m c t r d

theorem out9_at (r : Fin 256) (d : Fin 1024) :
    out0_9 (xT m c t) (nT m c t) (wT m c t) (qT m c t) (bT m c t) (ix2 r d) = ProjSpec.proj (kargs m c) 3 (row t r) d := by
  frame_out
  exact p3_at m c t r d

theorem norm_at (y : Vec Ideal S256x1024 .f32) (b : Vec Ideal S256x256 .bf16) (q : Vec Ideal S1x1024 .f32)
    (hy : ∀ r l, ∃ a : ℝ, y (ix2 r l) = (a : EReal)) (hb : ∀ i k, b (ix2 i k) = TailRun.heads (ix2 i k)) (r : Fin 256) (j : Fin 1024) :
    k0_pay1 y (k0_pay10 y) (k0_pay11 y b b) (k0_pay12 y b b) (k0_pay13 y b b) (k0_pay14 y b) b q (ix2 r j) =
      y (ix2 r j) * Ideal.rsqrt (TailSpec.gsum (fun l => y (ix2 r l) * y (ix2 r l)) j * Ideal.ofBits .f32 0x3C800000#32 + TailSpec.eps) * q (ix2 0 j) := by
  rw [← TailRun.blocks_sum (fun l => y (ix2 r l) * y (ix2 r l))
    (fun l => TailRun.sub_self_of_real (TailRun.mul_real (hy _ _) (hy _ _))) b hb j]
  unfold k0_pay1 k0_pay11 k0_pay12 k0_pay13 k0_pay14 k0_pay10 k0_pay9 k0_pay8 TailSpec.eps
  pointwise

theorem out8_at (H : ProjSpec.Finite (kargs m c)) (r : Fin 256) (j : Fin 1024) :
    out0_8 (xT m c t) (nT m c t) (wT m c t) (qT m c t) (bT m c t) (ix2 r j) = ProjSpec.qkn (kargs m c) (row t r) j := by
  unfold ProjSpec.qkn
  frame_out
  unfold k0_pay15
  rw [ldx, ldn]
  refine (norm_at _ _ _ (fun r l => ?_) (b4 m c t) r j).trans ?_
  · rw [p2_at]; exact H _ _
  · simp only [p2_at, b3]

/-! ## The convolution's factors and the gate: two stretches of columns -/

theorem half (P : Vec Ideal S256x1024 .bf16) (b : Fin 4) (hb : b.val < 2)
    (hP : ∀ r e, P (ix2 r e) = ProjSpec.proj (kargs m c) b (row t r) e) (x : S256x1024.Idx) (r : Fin 256) (k : Fin 2048)
    (h0 : r.val = (x 0).val) (h1 : k.val = 1024 * b.val + (x 1).val) : P x = ProjSpec.cg (kargs m c) (row t r) k := by
  obtain ⟨x0, x1, rfl⟩ : ∃ (x0 : Fin 256) (x1 : Fin 1024), x = ix2 x0 x1 := ⟨x 0, x 1, funext fun a => match a with
    | ⟨0, _⟩ => rfl
    | ⟨1, _⟩ => rfl⟩
  obtain rfl : r = x0 := Fin.ext h0
  have h1' : k.val = 1024 * b.val + x1.val := h1
  have hx := x1.isLt
  unfold ProjSpec.cg
  rw [hP]
  congr 1
  · exact Fin.ext (by show b.val = k.val / 1024; omega)
  · exact Fin.ext (by show x1.val = k.val % 1024; omega)

theorem out6_at (r : Fin 256) (k : Fin 2048) :
    out0_6 (xT m c t) (nT m c t) (wT m c t) (qT m c t) (bT m c t) (ix2 r k) = ProjSpec.cg (kargs m c) (row t r) k := by
  unfold out0_6
  rw [ldx, ldn]
  have hc : ∀ y : S256x2048.Idx, ∃ p ∈ ([⟨r0_5, k0_pay5 (xT m c t) (nT m c t) (View.ld (wT m c t) r0_4)⟩,
      ⟨r0_3, k0_pay4 (xT m c t) (nT m c t) (View.ld (wT m c t) r0_2)⟩] : List (View.Piece (Elt Ideal) S256x2048 .bf16)), y ∈ p.1.set :=
    fun y => View.cover_of_tiledBy _ ![256, 1024] (by sl_kernel_rfl) y
  canon_tiles x h using hc _
  · exact half m c t _ 1 (by decide) (p1_at m c t) x r k h0 h1
  · exact half m c t _ 0 (by decide) (p0_at m c t) x r k h0 (h1.trans (Nat.zero_add _).symm)

/-! ## The results after the run -/

theorem final_h : (dats m 0 c).arrAt 5 cfg0.N = fun i => ProjSpec.h (kargs m c) (i 0) (i 1) := by
  refine (dats m 0 c).arrAt_eq_of_covers 5 _ (by decide +kernel) fun t _ y => ?_
  blk_simp
  rw [after0_5]
  idx_vars y
  rw [out5_at m c t]
  refine congrArg₂ (ProjSpec.h (kargs m c)) (Fin.ext ?_) (Fin.ext ?_)
  · show 256 * t.val + y0.val = _
    blk_simp [idxOut t]
    omega
  · show y1.val = _
    blk_simp [idxOut t]

theorem final_cg : (dats m 0 c).arrAt 6 cfg0.N = fun i => ProjSpec.cg (kargs m c) (i 0) (i 1) := by
  refine (dats m 0 c).arrAt_eq_of_covers 6 _ (by decide +kernel) fun t _ y => ?_
  blk_simp
  rw [after0_6]
  idx_vars y
  rw [out6_at m c t]
  refine congrArg₂ (ProjSpec.cg (kargs m c)) (Fin.ext ?_) (Fin.ext ?_)
  · show 256 * t.val + y0.val = _
    blk_simp [idxOut t]
    omega
  · show y1.val = _
    blk_simp [idxOut t]

theorem final_raw : (dats m 0 c).arrAt 7 cfg0.N = fun i => ProjSpec.proj (kargs m c) 2 (i 0) (i 1) := by
  refine (dats m 0 c).arrAt_eq_of_covers 7 _ (by decide +kernel) fun t _ y => ?_
  blk_simp
  rw [after0_7]
  idx_vars y
  rw [out7_at m c t]
  refine congrArg₂ (ProjSpec.proj (kargs m c) 2) (Fin.ext ?_) (Fin.ext ?_)
  · show 256 * t.val + y0.val = _
    blk_simp [idxOut t]
    omega
  · show y1.val = _
    blk_simp [idxOut t]

theorem final_qkn (H : ProjSpec.Finite (kargs m c)) : (dats m 0 c).arrAt 8 cfg0.N = fun i => ProjSpec.qkn (kargs m c) (i 0) (i 1) := by
  refine (dats m 0 c).arrAt_eq_of_covers 8 _ (by decide +kernel) fun t _ y => ?_
  blk_simp
  rw [after0_8]
  idx_vars y
  rw [out8_at m c t H]
  refine congrArg₂ (ProjSpec.qkn (kargs m c)) (Fin.ext ?_) (Fin.ext ?_)
  · show 256 * t.val + y0.val = _
    blk_simp [idxOut t]
    omega
  · show y1.val = _
    blk_simp [idxOut t]

theorem final_vz : (dats m 0 c).arrAt 9 cfg0.N = fun i => ProjSpec.proj (kargs m c) 3 (i 0) (i 1) := by
  refine (dats m 0 c).arrAt_eq_of_covers 9 _ (by decide +kernel) fun t _ y => ?_
  blk_simp
  rw [after0_9]
  idx_vars y
  rw [out9_at m c t]
  refine congrArg₂ (ProjSpec.proj (kargs m c) 3) (Fin.ext ?_) (Fin.ext ?_)
  · show 256 * t.val + y0.val = _
    blk_simp [idxOut t]
    omega
  · show y1.val = _
    blk_simp [idxOut t]

end Cert.Proof.ProjPoint

end
-- ==== Proof.ProjRef.lean ====
/- The reference's norm, projection and head norms, element by element. -/
module

public import proofs.«01_k».proof.Proof.Gen.ProjReferenceIdeal.Run
public import proofs.«01_k».proof.Proof.ProjSpec
public import proofs.«01_k».proof.Proof.TailRefAt

@[expose] public section

set_option maxRecDepth 16384

noncomputable section

namespace Cert.Proof.ProjRef

open Cert.ProjReferenceIdeal Cert.ProjReferenceIdeal.Gen
open Cert.Proof
open Idealize.ShloMosaic Idealize.ShloMosaic.TcCoe

variable (A : ProjSpec.Args)

/-- Zero, where a sum starts. -/
abbrev z0 : FVec Ideal S_ .f32 := constant S_ .f32 0x00000000#32

/-- The reference's normed rows. -/
def hV : FVec Ideal S16384x1024 .bf16 :=
  truncf .bf16 (mulf (mulf (show FVec Ideal S16384x1024 .f32 from A.x) (broadcastInDim S16384x1024 ![0, 1] bcast_S16384x1_S16384x1024_0_1
    (Host.rsqrt (addf (Host.divf (broadcastInDim S16384x1 ![0] bcast_S16384_S16384x1_0
        (Host.reduceAdd (mulf (show FVec Ideal S16384x1024 .f32 from A.x) (show FVec Ideal S16384x1024 .f32 from A.x)) z0 reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (show FVec Ideal S1x1024 .f32 from A.nw))) bitsLt_bf16_f32

/-- The weights' four blocks. -/
def w4 : FVec Ideal S4x1024x1024 .bf16 := A.w

/-- The weights, side by side. -/
def wV : FVec Ideal S1024x4096 .bf16 :=
  concatenate S1024x4096 1 [
    ⟨S1024x1024, shapeCast S1024x1024 (extractStridedSlice S1x1024x1024 ![0, 0, 0] (w4 A) slices_S4x1024x1024_S1x1024x1024_0_0_0) shapeCasts_S1x1024x1024_S1024x1024⟩,
    ⟨S1024x1024, shapeCast S1024x1024 (extractStridedSlice S1x1024x1024 ![1, 0, 0] (w4 A) slices_S4x1024x1024_S1x1024x1024_1_0_0) shapeCasts_S1x1024x1024_S1024x1024⟩,
    ⟨S1024x1024, shapeCast S1024x1024 (extractStridedSlice S1x1024x1024 ![2, 0, 0] (w4 A) slices_S4x1024x1024_S1x1024x1024_2_0_0) shapeCasts_S1x1024x1024_S1024x1024⟩,
    ⟨S1024x1024, shapeCast S1024x1024 (extractStridedSlice S1x1024x1024 ![3, 0, 0] (w4 A) slices_S4x1024x1024_S1x1024x1024_3_0_0) shapeCasts_S1x1024x1024_S1024x1024⟩]
    concatenates_S1024x1024_S1024x1024_S1024x1024_S1024x1024_S1024x4096_d1

/-- The projection. -/
def projV : FVec Ideal S16384x4096 .f32 :=
  Host.dotGeneral dot_S16384x1024_S1024x4096_S16384x4096_1_0_0_1_n_n none (hV A) (wV A)

def cgV : FVec Ideal S16384x2048 .bf16 :=
  truncf .bf16 (extractStridedSlice S16384x2048 ![0, 0] (projV A) slices_S16384x4096_S16384x2048_0_0) bitsLt_bf16_f32

/-- Queries and keys before their norm. -/
def rawV : FVec Ideal S16384x1024 .f32 := extractStridedSlice S16384x1024 ![0, 2048] (projV A) slices_S16384x4096_S16384x1024_0_2048

def qkrV : FVec Ideal S16384x1024 .bf16 := truncf .bf16 (rawV A) bitsLt_bf16_f32

def vzV : FVec Ideal S16384x1024 .bf16 :=
  truncf .bf16 (extractStridedSlice S16384x1024 ![0, 3072] (projV A) slices_S16384x4096_S16384x1024_0_3072) bitsLt_bf16_f32

/-- The same, head by head. -/
def heads (x : FVec Ideal S16384x1024 .f32) : FVec Ideal S16384x16x64 .f32 := shapeCast S16384x16x64 x shapeCasts_S16384x1024_S16384x16x64

/-- The heads' norms' reciprocals. -/
def rV (x : FVec Ideal S16384x16x64 .f32) : FVec Ideal S16384x16x1 .f32 :=
  Host.rsqrt (addf (Host.divf (broadcastInDim S16384x16x1 ![0, 1] bcast_S16384x16_S16384x16x1_0_1
      (Host.reduceAdd (mulf x x) z0 reducesTo_S16384x16x64_S16384x16_d2 h_S_))
    (broadcastInDim S16384x16x1 ![] bcast_S_S16384x16x1 (constant S_ .f32 0x42800000#32)))
    (broadcastInDim S16384x16x1 ![] bcast_S_S16384x16x1 (constant S_ .f32 0x358637BD#32)))

/-- Queries and keys, normed. -/
def qknV : FVec Ideal S16384x1024 .bf16 :=
  truncf .bf16 (shapeCast S16384x1024 (mulf (mulf (heads (rawV A))
      (broadcastInDim S16384x16x64 ![0, 1, 2] bcast_S16384x16x1_S16384x16x64_0_1_2 (rV (heads (rawV A)))))
    (broadcastInDim S16384x16x64 ![0, 1, 2] bcast_S1x16x64_S16384x16x64_0_1_2 (broadcastInDim S1x16x64 ![1, 2] bcast_S16x64_S1x16x64_1_2
      (shapeCast S16x64 (show FVec Ideal S1x1024 .f32 from A.qkw) shapeCasts_S1x1024_S16x64))))
    shapeCasts_S16384x16x64_S16384x1024) bitsLt_bf16_f32

theorem hV_at (s : Fin 16384) (d : Fin 1024) : hV A (ix2 s d) = ProjSpec.h A s d := by
  unfold ProjSpec.h TailSpec.eps
  pointwise [hV]

theorem wV_at (d : Fin 1024) (b : Fin 4) (k : Fin 1024) (e : Fin 4096) (he : e.val = b.val * 1024 + k.val) :
    wV A (ix2 d e) = A.w (ix3 b d k) := by
  obtain ⟨e, hlt⟩ := e
  obtain rfl : e = b.val * 1024 + k.val := he
  unfold wV
  pointwise [w4]
  have hb : b = 0 ∨ b = 1 ∨ b = 2 ∨ b = 3 := by omega
  rcases hb with rfl | rfl | rfl | rfl
  · rw [dif_pos (by simp)]
    exact congrArg (fun k => A.w (ix3 0 d k)) (Fin.ext (by simp))
  · rw [dif_neg (by simp), dif_pos (by simp)]
    exact congrArg (fun k => A.w (ix3 1 d k)) (Fin.ext (by simp))
  · rw [dif_neg (by simp; omega), dif_neg (by simp; omega), dif_pos (by simp; omega)]
    exact congrArg (fun k => A.w (ix3 2 d k)) (Fin.ext (by simp; omega))
  · rw [dif_neg (by simp; omega), dif_neg (by simp; omega), dif_neg (by simp; omega)]
    exact congrArg (fun k => A.w (ix3 3 d k)) (Fin.ext (by simp; omega))

theorem projV_at (s : Fin 16384) (b : Fin 4) (k : Fin 1024) (e : Fin 4096) (he : e.val = b.val * 1024 + k.val) :
    projV A (ix2 s e) = ProjSpec.proj A b s k := by
  unfold ProjSpec.proj
  pointwise [projV, hV_at]
  exact Finset.sum_congr rfl fun d _ => congrArg (_ * ·) (wV_at A d b k e he)

theorem cgV_at (s : Fin 16384) (e : Fin 2048) : cgV A (ix2 s e) = ProjSpec.cg A s e := by
  unfold ProjSpec.cg
  pointwise [cgV]
  exact projV_at A s _ _ _ (by show e.val = e.val / 1024 * 1024 + e.val % 1024; omega)

theorem rawV_at (s : Fin 16384) (j : Fin 1024) : rawV A (ix2 s j) = ProjSpec.proj A 2 s j := by
  pointwise [rawV]
  exact projV_at A s _ _ _ rfl

theorem qkrV_at (s : Fin 16384) (j : Fin 1024) : qkrV A (ix2 s j) = ProjSpec.proj A 2 s j := by
  pointwise [qkrV, rawV_at]

theorem vzV_at (s : Fin 16384) (j : Fin 1024) : vzV A (ix2 s j) = ProjSpec.proj A 3 s j := by
  pointwise [vzV]
  exact projV_at A s _ _ _ rfl

theorem heads_at (x : FVec Ideal S16384x1024 .f32) (s : Fin 16384) (h : Fin 16) (d : Fin 64) :
    heads x (ix3 s h d) = x (ix2 s (TailRef.lane h d)) := by
  unfold TailRef.lane
  pointwise [heads]

theorem rV_at (x : FVec Ideal S16384x1024 .f32) (s : Fin 16384) (h : Fin 16) (d : Fin 64) :
    rV (heads x) (ix3 s h 0) = Ideal.rsqrt (TailSpec.gsum (fun l => x (ix2 s l) * x (ix2 s l)) (TailRef.lane h d)
      * Ideal.ofBits .f32 0x3C800000#32 + TailSpec.eps) := by
  rw [TailRef.gsum_lane, ← TailSpec.div64]
  unfold TailSpec.eps
  pointwise [rV, heads_at]

theorem qknV_at (s : Fin 16384) (j : Fin 1024) : qknV A (ix2 s j) = ProjSpec.qkn A s j := by
  have hj : j = TailRef.lane ⟨j.val / 64, by omega⟩ ⟨j.val % 64, by omega⟩ :=
    Fin.ext (by show j.val = j.val / 64 * 64 + j.val % 64; omega)
  unfold ProjSpec.qkn
  pointwise [qknV, heads_at]
  rw [rV_at (rawV A) s _ ⟨j.val % 64, by omega⟩, ← hj]
  simp only [rawV_at]

/-- The arguments, as the specification reads them. -/
def args (m : (ℓ : Loc nD τ sig) → Buf (Elt Ideal) ℓ) (c : Dev nD) : ProjSpec.Args where
  x := m ((c.tc : Thread nD τ).loc main_arg0)
  nw := m ((c.tc : Thread nD τ).loc main_arg1)
  w := m ((c.tc : Thread nD τ).loc main_arg2)
  qkw := m ((c.tc : Thread nD τ).loc main_arg3)

theorem res_qkn (m : (ℓ : Loc nD τ sig) → Buf (Elt Ideal) ℓ) (c : Dev nD) : Value.res_out3 m c = qknV (args m c) := by
  unfold Value.res_out3 Value.res_main_v43
  rfl

end Cert.Proof.ProjRef

end
-- ==== Proof.ProjClaims.lean ====
/- The norm of x, the projection and the head norms: the frames, `preserves`, and the value claim. -/
module

public import proofs.«01_k».proof.Defs
public import proofs.«01_k».proof.Proof.Gen.Proj
public import proofs.«01_k».proof.Proof.Gen.Pre_finite_raw
public import proofs.«01_k».proof.Proof.ProjPoint
public import proofs.«01_k».proof.Proof.ProjRef
public import proofs.«01_k».proof.Proof.TailClaims
public import Idealize.ShloMosaic.Lib.Claim

@[expose] public section

set_option maxRecDepth 16384

noncomputable section

namespace Cert.Proof.ProjClaims

open Idealize.ShloMosaic Idealize.ShloMosaic.TcCoe Idealize.SL.Sem

theorem defs_eq : Cert.Proj.defs (F := Bits) = Cert.ProjIdeal.defs (F := Bits) := by
  refine congrArg (Pipeline.defs Cert.ProjIdeal.pcfgs) ?_
  funext p l a
  cases p
  · match l, a with
    | ⟨0, _⟩, _ => rfl
  all_goals rfl

/-- The kernel at the machine's floats: one frame serves both instances. -/
theorem frame_kernel : Cert.quiescent_Proj := fun m ρ _ => by
  have h := Cert.ProjIdeal.Gen.frame (F := Bits) m ρ
  rw [← defs_eq] at h
  exact h

/-- The kernel at the extended reals. -/
theorem frame_ideal : Cert.quiescent_ProjIdeal := fun m ρ _ => Cert.ProjIdeal.Gen.frame m ρ

theorem frame_ideal_pre : Cert.quiescent_ProjIdeal_pre_finite_raw := fun m ρ _ => Cert.ProjIdeal.Gen.frame m ρ

/-- The reference declares no semaphore, and its run leaves its arguments as they were. -/
theorem frame_reference : Cert.quiescent_ProjReferenceIdeal := fun m ρ _ =>
  (θ_run Cert.ProjReferenceIdeal.defs _ _).mono (fun r h => ⟨fun c => (h c).2.2.2.2.2,
      Idealize.ShloMosaic.sem_eq_zero_of_no_sems (by decide) r.2⟩)
    (Cert.ProjReferenceIdeal.Value.run (F := Ideal) m ρ)

theorem frame_reference_pre : Cert.quiescent_ProjReferenceIdeal_pre_finite_raw := fun m ρ _ => frame_reference m ρ trivial

/-- Nothing was rewritten between the kernel and its idealization. -/
theorem preserves : Cert.preserves_Proj_ProjIdeal := trivial

theorem true_of_bit (p : Bool) (h : BitVec.ofBool p = 1#1) : p = true := by
  revert h
  cases p <;> decide

/-- The precondition's queries and keys, an element. -/
theorem pre_at (A : ProjSpec.Args) (h : Cert.Pre_finite_raw.fn (F := Ideal) A.x A.nw A.w A.qkw = fun _ => 1#1) : ProjSpec.Finite A := by
  intro s j
  have e := congrFun h (ix2 s j)
  unfold Cert.Pre_finite_raw.fn at e
  pointwise at e
  unfold ProjSpec.proj ProjSpec.h TailSpec.eps
  exact TailClaims.real_of_abs _ (of_decide_eq_true (true_of_bit _ e))

/-- The precondition makes the queries and keys real. -/
theorem finite (m : (ℓ : Loc Cert.ProjIdeal.nD Cert.ProjIdeal.τ Cert.ProjIdeal.sig) → Buf (Elt Ideal) ℓ)
    (h : Cert.Pre_ProjIdeal_finite_raw m) (c : Dev Cert.ProjIdeal.nD) : ProjSpec.Finite (ProjPoint.kargs m c) :=
  pre_at _ (h c)

/-- The kernel's five results are the reference's. -/
theorem algebraic : Cert.algebraic_ProjIdeal_ProjReferenceIdeal_pre_finite_raw := by
  intro m ρ m' ρ' hpre hagree
  refine ⟨_, _, _, _, _, Cert.ProjIdeal.Value.run_blocks (F := Ideal) m ρ, ?_⟩
  refine (θ_run Cert.ProjReferenceIdeal.defs _ _).mono (fun r h c => ?_)
    (Cert.ProjReferenceIdeal.Value.run (F := Ideal) m' ρ')
  obtain ⟨h0, h1, h2, h3, h4, hk⟩ := h c
  have hA : ProjRef.args m' c = ProjPoint.kargs m c := by
    obtain ⟨a0, a1, a2, a3⟩ := hagree c
    unfold ProjRef.args ProjPoint.kargs
    rw [a0, a1, a2, a3]
  have h0' : _ = ProjRef.hV (ProjRef.args m' c) := h0.trans rfl
  have h1' : _ = ProjRef.cgV (ProjRef.args m' c) := h1.trans rfl
  have h2' : _ = ProjRef.qkrV (ProjRef.args m' c) := h2.trans rfl
  have h3' : _ = ProjRef.qknV (ProjRef.args m' c) := h3.trans (ProjRef.res_qkn m' c)
  have h4' : _ = ProjRef.vzV (ProjRef.args m' c) := h4.trans rfl
  rw [hA] at h0' h1' h2' h3' h4'
  refine ⟨h0'.trans ?_, h1'.trans ?_, h2'.trans ?_, h3'.trans ?_, h4'.trans ?_, hk⟩
  · rw [ProjPoint.final_h m c]
    funext i
    idx_vars i
    exact ProjRef.hV_at _ i0 i1
  · rw [ProjPoint.final_cg m c]
    funext i
    idx_vars i
    exact ProjRef.cgV_at _ i0 i1
  · rw [ProjPoint.final_raw m c]
    funext i
    idx_vars i
    exact ProjRef.qkrV_at _ i0 i1
  · rw [ProjPoint.final_qkn m c (finite m hpre c)]
    funext i
    idx_vars i
    exact ProjRef.qknV_at _ i0 i1
  · rw [ProjPoint.final_vz m c]
    funext i
    idx_vars i
    exact ProjRef.vzV_at _ i0 i1

end Cert.Proof.ProjClaims

end
-- ==== Proof.AttnSpec.lean ====
/- Banded attention over a sequence, as functions of the call's arguments. -/
module

public import proofs.«01_k».proof.Proof.TailPoint

@[expose] public section

noncomputable section

namespace Cert.Proof.AttnSpec

open Idealize.ShloMosaic

/-- A single value, as an array. -/
abbrev One : Shape := ⟨0, ![]⟩

variable {s : Shape} (hb : One.BroadcastsInDim s (![] : Fin 0 → Fin s.rank))

/-- A literal at every place. -/
abbrev lit (k : BitVec 32) : IVec s 32 := broadcastInDim s ![] hb (constantI One 32 k)

/-- A real literal at every place. -/
abbrev flit (k : BitVec 32) : FVec Ideal s .f32 := broadcastInDim s ![] hb (constant One .f32 k)

/-- The bucket of a relative position: its side, and its distance, linear up to 8 and logarithmic beyond. -/
def side (x : IVec s 32) : IVec s 32 :=
  addi (id (select (cmpi .sgt x (lit hb 0#32)) (lit hb 16#32) (lit hb 0#32)))
    (select (cmpi .slt (absi x) (lit hb 8#32)) (absi x)
      (minsi (addi (lit hb 8#32) (fptosi 32 (mulf (Host.divf (Host.log (Host.divf (sitofp .f32 (maxsi (absi x) (lit hb 1#32))) (flit hb 0x41000000#32)))
        (flit hb 0x409B43D5#32)) (flit hb 0x41000000#32)))) (lit hb 15#32)))

/-- The bucket, a negative one counted from the end. -/
def buck (x : IVec s 32) : IVec s 32 :=
  select (cmpi .slt (side hb x) (lit hb 0#32)) (addi (side hb x) (lit hb 32#32)) (side hb x)

/-- A relative position, no further than 64 on either side. -/
def clip (x : IVec s 32) : IVec s 32 :=
  minsi (lit hb 64#32) (maxsi (lit hb 4294967232#32) x)

theorem one_bcast : One.BroadcastsInDim One (![] : Fin 0 → Fin One.rank) := by decide

/-- The bucket of one relative position. -/
def word (w : BitVec 32) : BitVec 32 := buck one_bcast (clip one_bcast fun _ => w) (fun a => a.elim0)

theorem buck_at (x : IVec s 32) (i : s.Idx) : buck hb (clip hb x) i = word (x i) := rfl

/-- The arrays the call reads: queries and keys side by side, values, the tables of logits' offsets, and the offset of each
    bucket and head. -/
structure Args where
  qk : (⟨3, ![1, 16384, 1024]⟩ : Shape).Idx → EReal
  v : (⟨3, ![1, 16384, 512]⟩ : Shape).Idx → EReal
  tab : (⟨4, ![3, 4, 256, 256]⟩ : Shape).Idx → EReal
  rb : TailSpec.Arr 32 8

variable (A : Args)

/-- The relative position of key `j` from query `i`. -/
def rel (i j : Fin 16384) : BitVec 32 := BitVec.ofNat 32 j.val - BitVec.ofNat 32 i.val

/-- The offset of a relative position for a head. -/
def bias (w : BitVec 32) (h : Fin 8) : EReal := A.rb (ix2 ⟨min (word w).toInt.toNat 31, by omega⟩ h)

/-- The keys within 64 of the query. -/
def near (i j : Fin 16384) : Prop := j.val ≤ i.val + 64 ∧ i.val ≤ j.val + 64

instance (i j : Fin 16384) : Decidable (near i j) := by unfold near; infer_instance

/-- Column `d` of head `h`. -/
def lane (h : Fin 8) (d : Fin 64) : Fin 512 := ⟨h.val * 64 + d.val, by omega⟩

def qcol (h : Fin 8) (d : Fin 64) : Fin 1024 := ⟨h.val * 64 + d.val, by omega⟩

def kcol (h : Fin 8) (d : Fin 64) : Fin 1024 := ⟨512 + (h.val * 64 + d.val), by omega⟩

theorem toInt_nat (a : Nat) (ha : a < 1000000) : (BitVec.ofNat 32 a).toInt = a := by
  have h : (BitVec.ofNat 32 a).toNat = a := by rw [BitVec.toNat_ofNat]; omega
  rw [BitVec.toInt_eq_toNat_of_lt (by rw [h]; omega), h]

theorem toInt_sub_nat (a b : Nat) (ha : a < 1000000) (hb : b < 1000000) : (BitVec.ofNat 32 b - BitVec.ofNat 32 a).toInt = (b : Int) - a := by
  rw [BitVec.toInt_sub, toInt_nat a ha, toInt_nat b hb]
  exact Int.bmod_eq_of_le (by omega) (by omega)

theorem near_iff (i j : Fin 16384) : IntOp.cmpi .sle (IntOp.absi (rel i j)) 64#32 = 1#1 ↔ near i j := by
  have hi := i.isLt
  have hj := j.isLt
  have h : (rel i j).toInt = (j.val : Int) - i.val := toInt_sub_nat _ _ (by omega) (by omega)
  have ha : (IntOp.absi (rel i j)).toInt = |(j.val : Int) - i.val| := by
    unfold IntOp.absi
    rw [BitVec.msb_eq_toInt, h]
    by_cases hs : (j.val : Int) - i.val < 0
    · rw [if_pos (decide_eq_true hs), BitVec.toInt_neg, h, abs_of_neg hs]
      exact Int.bmod_eq_of_le (by omega) (by omega)
    · rw [if_neg (by simpa using hs), h, abs_of_nonneg (by omega)]
  have hc : (64#32 : BitVec 32).toInt = 64 := by decide
  have hb : ∀ b : Bool, BitVec.ofBool b = 1#1 ↔ b = true := by decide
  unfold near
  refine (hb _).trans ?_
  rw [BitVec.sle_iff_toInt_le, ha, hc, abs_le]
  omega

theorem word_ring (s x c q : BitVec 32) : s + x - (s + c + q) = x - c - q := by bv_omega

/-- The relative position in a window that starts `64 v` keys before its queries. -/
theorem rel_window (st n v x q : Nat) (i j : Fin 16384) (hn : st + 64 * v = n) (hi : i.val = n + q) (hj : j.val = st + x) :
    rel i j = BitVec.ofNat 32 x - 64#32 * BitVec.ofNat 32 v - BitVec.ofNat 32 q := by
  unfold rel
  rw [hi, hj, ← hn, BitVec.ofNat_add, BitVec.ofNat_add, BitVec.ofNat_add, BitVec.ofNat_mul]
  exact word_ring _ _ _ _

/-- The logit of a key, −∞ away from the query. -/
def logit (h : Fin 8) (i j : Fin 16384) : EReal :=
  if near i j then (∑ d : Fin 64, A.qk (ix3 0 i (qcol h d)) * A.qk (ix3 0 j (kcol h d))) + bias A (rel i j) h else ⊥

/-- A row's largest value. -/
def top {n : Nat} (f : Fin n → EReal) : EReal := Finset.univ.fold max ⊥ f

/-- A row's weights. -/
def wt {n : Nat} (f : Fin n → EReal) (j : Fin n) : EReal := Ideal.exp (f j - top f)

/-- A row's weighted mean. -/
def mean {n : Nat} (f x : Fin n → EReal) : EReal := Ideal.div (∑ j, wt f j * x j) (∑ j, wt f j)

/-- A row's log-sum-exp. -/
def lse {n : Nat} (f : Fin n → EReal) : EReal := top f + Ideal.log (∑ j, wt f j)

/-- The attention's rows. -/
def out (h : Fin 8) (d : Fin 64) (i : Fin 16384) : EReal := mean (logit A h i) fun j => A.v (ix3 0 j (lane h d))

/-- Its rows' log-sum-exps. -/
def outl (h : Fin 8) (i : Fin 16384) : EReal := lse (logit A h i)

/-! ## A row that is −∞ outside a window -/

section Window

variable {n w : Nat} (g : Fin w → Fin n) (hg : Function.Injective g) (f : Fin n → EReal) (hf : ∀ j, (∀ x, g x ≠ j) → f j = ⊥)
include hg hf

theorem top_window : top f = top fun x => f (g x) := by
  unfold top
  refine le_antisymm (Finset.fold_max_le _ |>.2 ⟨bot_le, fun j _ => ?_⟩) (Finset.fold_max_le _ |>.2 ⟨bot_le, fun x _ => ?_⟩)
  · by_cases h : ∃ x, g x = j
    · obtain ⟨x, rfl⟩ := h
      exact (Finset.le_fold_max _).2 (Or.inr ⟨x, Finset.mem_univ _, le_rfl⟩)
    · rw [hf j fun x e => h ⟨x, e⟩]
      exact bot_le
  · exact (Finset.le_fold_max _).2 (Or.inr ⟨g x, Finset.mem_univ _, le_rfl⟩)

theorem wt_away (j : Fin n) (h : ∀ x, g x ≠ j) : wt f j = 0 := by
  unfold wt
  rw [hf j h, EReal.bot_sub]
  rfl

theorem sum_window (y : Fin n → EReal) : ∑ j, wt f j * y j = ∑ x, wt (fun x => f (g x)) x * y (g x) := by
  rw [← Finset.sum_subset (Finset.subset_univ (Finset.univ.map ⟨g, hg⟩)), Finset.sum_map]
  · refine Finset.sum_congr rfl fun x _ => ?_
    unfold wt
    rw [top_window g hg f hf]
    rfl
  · intro j _ hj
    rw [wt_away g hg f hf j fun x e => hj (Finset.mem_map.2 ⟨x, Finset.mem_univ _, e⟩), zero_mul]

theorem wt_window : ∑ j, wt f j = ∑ x, wt (fun x => f (g x)) x := by
  simpa using sum_window g hg f hf fun _ => 1

theorem mean_window (y : Fin n → EReal) : mean f y = mean (fun x => f (g x)) fun x => y (g x) := by
  unfold mean
  rw [sum_window g hg f hf, wt_window g hg f hf]

theorem lse_window : lse f = lse fun x => f (g x) := by
  unfold lse
  rw [top_window g hg f hf, wt_window g hg f hf]

end Window

end Cert.Proof.AttnSpec
-- ==== Proof.AttnPoint.lean ====
/- The attention's call, element by element: what a point leaves in each result, and the results after the run. -/
module

public import proofs.«01_k».proof.Proof.Gen.Attn1Ideal.Value
public import proofs.«01_k».proof.Proof.AttnSpec
public import Idealize.ShloMosaic.Lib.Claim
public import Idealize.ShloMosaic.Lib.Pointwise
public import Idealize.ShloMosaic.Lib.ValueIdx
public import Idealize.ShloMosaic.Lib.WholeRead
public import Idealize.ShloMosaic.Lib.KernelVsHost
public import Idealize.ShloMosaic.Lib.Pipeline.ValueKit

@[expose] public section

set_option maxRecDepth 16384

noncomputable section

namespace Cert.Proof.AttnPoint

open Cert.Attn1Ideal Cert.Attn1Ideal.Gen Cert.Attn1Ideal.Value
open Idealize.ShloMosaic Idealize.ShloMosaic.TcCoe Idealize.SL.Sem
open Cert.Proof

/-! ## One trip: 128 queries, two heads side by side -/

section Trip

variable (qw : Vec Ideal S1x128x128 .bf16) (kw vw : Vec Ideal S1x256x128 .bf16) (tw : Vec Ideal S1x1x256x256 .f32)

/-- A head's row of logits in the window: `sd` is the head's half of the lanes. -/
def row (sd : Fin 2) (q : Fin 128) (x : Fin 256) : EReal :=
  (∑ d : Fin 64, qw (ix3 0 q ⟨sd.val * 64 + d.val, by omega⟩) * kw (ix3 0 x ⟨sd.val * 64 + d.val, by omega⟩))
    + tw (ix4 0 0 ⟨sd.val * 128 + q.val, by omega⟩ x)

theorem low : ∀ b : Fin 128, k0_pay1 (ix2 0 b) = if b.val < 64 then 1#1 else 0#1 := by
  intro b
  have h : k0_pay1 (ix2 0 b) = IntOp.cmpi .slt (BitVec.ofNat 32 b.val) 64#32 := by pointwise [k0_pay1]
  rw [h]
  revert b
  decide +kernel

theorem mask_at (a b : Fin 128) : k0_pay1 (ix2 a b) = if b.val < 64 then 1#1 else 0#1 := by
  rw [← low b]
  pointwise [k0_pay1]

theorem select_low {α : Type} (a b : Fin 128) (x y : α) : Scalar.select (k0_pay1 (ix2 a b)) x y = if b.val < 64 then x else y := by
  rw [mask_at]
  by_cases h : b.val < 64
  · rw [if_pos h, if_pos h]; rfl
  · rw [if_neg h, if_neg h]; rfl

theorem sum_halves (f : Fin 128 → EReal) : ∑ x, f x = (∑ d : Fin 64, f ⟨0 * 64 + d.val, by omega⟩) + ∑ d : Fin 64, f ⟨1 * 64 + d.val, by omega⟩ := by
  refine (Fin.sum_univ_add (a := 64) (b := 64) f).trans (congrArg₂ (· + ·) (Finset.sum_congr rfl fun d _ => congrArg f (Fin.ext ?_))
    (Finset.sum_congr rfl fun d _ => congrArg f (Fin.ext ?_)))
  · show d.val = 0 * 64 + d.val
    omega
  · show 64 + d.val = 1 * 64 + d.val
    omega

theorem logits_at (sd : Fin 2) (q : Fin 128) (r : Fin 256) (hr : r.val = sd.val * 128 + q.val) (x : Fin 256) :
    k0_pay6 k0_pay1 qw kw tw (ix2 r x) = row qw kw tw sd q x := by
  obtain ⟨r, hlt⟩ := r
  obtain rfl : r = sd.val * 128 + q.val := hr
  unfold row
  pointwise [k0_pay6]
  congr 1
  rw [sum_halves]
  have hs : sd = 0 ∨ sd = 1 := by omega
  rcases hs with rfl | rfl
  · refine (congrArg₂ (· + ·) (Finset.sum_congr rfl fun d _ => ?_) (Finset.sum_eq_zero fun d _ => ?_)).trans (add_zero _)
    · rw [dif_pos (show (0 : Fin 2).val * 128 + q.val < 128 by have : (0 : Fin 2).val = 0 := rfl; omega), select_low,
        if_pos (show 0 * 64 + d.val < 64 by omega)]
      exact congrArg₂ (fun a b => qw (ix3 0 a b) * kw (ix3 0 x b)) (Fin.ext (by show 0 * 128 + q.val = q.val; omega)) rfl
    · rw [dif_pos (show (0 : Fin 2).val * 128 + q.val < 128 by have : (0 : Fin 2).val = 0 := rfl; omega), select_low,
        if_neg (show ¬ 1 * 64 + d.val < 64 by omega), zero_mul]
  · refine (congrArg₂ (· + ·) (Finset.sum_eq_zero fun d _ => ?_) (Finset.sum_congr rfl fun d _ => ?_)).trans (zero_add _)
    · rw [dif_neg (show ¬ (1 : Fin 2).val * 128 + q.val < 128 by have : (1 : Fin 2).val = 1 := rfl; omega), select_low,
        if_pos (show 0 * 64 + d.val < 64 by omega), zero_mul]
    · rw [dif_neg (show ¬ (1 : Fin 2).val * 128 + q.val < 128 by have : (1 : Fin 2).val = 1 := rfl; omega), select_low,
        if_neg (show ¬ 1 * 64 + d.val < 64 by omega)]
      exact congrArg₂ (fun a b => qw (ix3 0 a b) * kw (ix3 0 x b)) (Fin.ext (by show 1 * 128 + q.val - 128 = q.val; omega)) rfl

theorem top_at (sd : Fin 2) (q : Fin 128) (r : Fin 256) (hr : r.val = sd.val * 128 + q.val) :
    k0_pay7 k0_pay1 qw kw tw (ix2 r 0) = AttnSpec.top (row qw kw tw sd q) := by
  have hf : Ideal.ofBits .f32 4286578688#32 = (⊥ : EReal) := by simp [Ideal.ofBits, Ideal.ieee]
  unfold AttnSpec.top
  rw [← hf]
  pointwise [k0_pay7, logits_at qw kw tw sd q r hr]

theorem wt_at (sd : Fin 2) (q : Fin 128) (r : Fin 256) (hr : r.val = sd.val * 128 + q.val) (x : Fin 256) :
    k0_pay8 k0_pay1 qw kw tw (ix2 r x) = AttnSpec.wt (row qw kw tw sd q) x := by
  unfold AttnSpec.wt
  pointwise [k0_pay8, logits_at qw kw tw sd q r hr, top_at qw kw tw sd q r hr]

theorem den_at (sd : Fin 2) (q : Fin 128) (r : Fin 256) (hr : r.val = sd.val * 128 + q.val) :
    k0_pay2 (k0_pay8 k0_pay1 qw kw tw) (ix2 r 0) = ∑ x, AttnSpec.wt (row qw kw tw sd q) x := by
  pointwise [k0_pay2, wt_at qw kw tw sd q r hr]

theorem v_at (x : Fin 256) (b : Fin 128) : k0_pay5 vw (ix2 x b) = vw (ix3 0 x b) := by
  pointwise [k0_pay5]

theorem o_at (sd : Fin 2) (q : Fin 128) (b : Fin 128) (hb : sd.val = b.val / 64) :
    k0_pay3 (k0_pay5 vw) (k0_pay8 k0_pay1 qw kw tw) (ix3 0 q b) = AttnSpec.mean (row qw kw tw sd q) fun x => vw (ix3 0 x b) := by
  have hs : sd = 0 ∨ sd = 1 := by omega
  unfold AttnSpec.mean
  pointwise [k0_pay3]
  rw [select_low]
  simp only [v_at]
  rcases hs with rfl | rfl
  · have hb' : b.val < 64 := by have : (0 : Fin 2).val = 0 := rfl; omega
    rw [if_pos hb', den_at qw kw tw 0 q ⟨q.val, by omega⟩ (by show q.val = 0 * 128 + q.val; omega)]
    simp only [wt_at qw kw tw 0 q ⟨q.val, by omega⟩ (by show q.val = 0 * 128 + q.val; omega)]
  · have hb' : ¬ b.val < 64 := by have : (1 : Fin 2).val = 1 := rfl; omega
    rw [if_neg hb', den_at qw kw tw 1 q ⟨128 + q.val, by omega⟩ (by show 128 + q.val = 1 * 128 + q.val; omega)]
    simp only [wt_at qw kw tw 1 q ⟨128 + q.val, by omega⟩ (by show 128 + q.val = 1 * 128 + q.val; omega)]

theorem l_at (sd : Fin 2) (q : Fin 128) (b : Fin 128) (hb : sd.val = b.val / 64) :
    k0_pay4 (k0_pay7 k0_pay1 qw kw tw) (k0_pay8 k0_pay1 qw kw tw) (ix3 0 q b) = AttnSpec.lse (row qw kw tw sd q) := by
  have hs : sd = 0 ∨ sd = 1 := by omega
  unfold AttnSpec.lse
  pointwise [k0_pay4]
  rw [select_low]
  rcases hs with rfl | rfl
  · have hb' : b.val < 64 := by have : (0 : Fin 2).val = 0 := rfl; omega
    rw [if_pos hb', top_at qw kw tw 0 q ⟨q.val, by omega⟩ (by show q.val = 0 * 128 + q.val; omega),
      den_at qw kw tw 0 q ⟨q.val, by omega⟩ (by show q.val = 0 * 128 + q.val; omega)]
  · have hb' : ¬ b.val < 64 := by have : (1 : Fin 2).val = 1 := rfl; omega
    rw [if_neg hb', top_at qw kw tw 1 q ⟨128 + q.val, by omega⟩ (by show 128 + q.val = 1 * 128 + q.val; omega),
      den_at qw kw tw 1 q ⟨128 + q.val, by omega⟩ (by show 128 + q.val = 1 * 128 + q.val; omega)]

end Trip

/-! ## The trips' places -/

theorem trips_eq : k0_t1_loop.trips = 8 := by decide

theorem coords_at : ∀ t : Fin cfg0.N, (grid0.coords t 0).val = 0 ∧ (grid0.coords t 1).val = t.val / 16 ∧ (grid0.coords t 2).val = t.val % 16 := by
  decide +kernel

/-- The query block of trip `k` at point `t`. -/
def blk (t : Fin cfg0.N) (k : Fin k0_t1_loop.trips) : Nat := t.val % 16 * 8 + k.val

/-- Where its window of keys starts. -/
def start (n : Nat) : Nat := if n = 0 then 0 else if n = 127 then 16128 else n * 128 - 64

/-- Which table it reads. -/
def table (n : Nat) : Nat := if n = 0 then 0 else if n = 127 then 2 else 1

theorem off1_at : ∀ k : Fin k0_t1_loop.trips, k0_off1 k = ![0, 128 * k.val, 0] := by decide +kernel

theorem off2_at : ∀ (t : Fin cfg0.N) (k : Fin k0_t1_loop.trips), k0_off2 (grid0.coords t) k = ![0, start (blk t k), 0] := by decide +kernel

theorem off3_at : ∀ (t : Fin cfg0.N) (k : Fin k0_t1_loop.trips), k0_off3 (grid0.coords t) k = ![table (blk t k), 0, 0, 0] := by decide +kernel

theorem idxIn : ∀ t : Fin cfg0.N, win0_0.index t = ![0, t.val % 16, t.val / 16] ∧ win0_1.index t = ![0, 0, 4 + t.val / 16] ∧
    win0_2.index t = ![0, 0, t.val / 16] ∧ win0_3.index t = ![0, t.val / 16, 0, 0] := by
  decide +kernel

theorem idxOut : ∀ t : Fin cfg0.N, win0_4.index t = ![0, t.val % 16, t.val / 16] ∧ win0_5.index t = ![0, t.val % 16, t.val / 16] := by
  decide +kernel

theorem ld_unread {s : Shape} {e : EltTy} {m : Memref sig .tc .vmem s e} (h : m.IsWhole) (X : Vec Ideal s e) (R : Rect s) :
    View.readAt (Elt Ideal) m.view R.toLoadRect (h.unread X) = View.ld X R :=
  funext fun x => Memref.IsWhole.readAt_unread h X R.toLoadRect x

section Pieces

variable (c : Dev nD) (i : grid0.Coords) (arg3 : Memref sig .tc .vmem S1x1024x128 .bf16) (harg3 : arg3.IsWhole) (arg4 : Memref sig .tc .vmem S1x16384x128 .bf16) (harg4 : arg4.IsWhole)
  (arg5 : Memref sig .tc .vmem S1x16384x128 .bf16) (harg5 : arg5.IsWhole) (arg6 : Memref sig .tc .vmem S3x1x256x256 .f32) (harg6 : arg6.IsWhole)
  (arg7 : Memref sig .tc .vmem S1x1024x128 .bf16) (harg7 : arg7.IsWhole) (arg8 : Memref sig .tc .vmem S1x1024x128 .f32) (harg8 : arg8.IsWhole) (a2 : BitVec 32)
  (x0 : Vec Ideal S1x1024x128 .bf16) (x1 x2 : Vec Ideal S1x16384x128 .bf16) (x3 : Vec Ideal S3x1x256x256 .f32)

theorem piece_o (k : Fin k0_t1_loop.trips) :
    (tripL_k0_t1 (F := Ideal) Variants.none c none i arg3 harg3 arg4 harg4 arg5 harg5 arg6 harg6 arg7 harg7 arg8 harg8 a2
      (harg3.unread x0) (harg4.unread x1) (harg5.unread x2) (harg6.unread x3) k)
      = ([⟨Rect.unit (s := S1x1024x128) (k0_off1 k) S1x128x128.size (k0_off1_inb k),
        k0_pay3 (k0_pay5 (View.ld x2 (Rect.unit (s := S1x16384x128) (k0_off2 i k) S1x256x128.size (k0_off2_inb i k))))
          (k0_pay8 k0_pay1 (View.ld x0 (Rect.unit (s := S1x1024x128) (k0_off1 k) S1x128x128.size (k0_off1_inb k)))
            (View.ld x1 (Rect.unit (s := S1x16384x128) (k0_off2 i k) S1x256x128.size (k0_off2_inb i k)))
            (View.ld x3 (Rect.unit (s := S3x1x256x256) (k0_off3 i k) S1x1x256x256.size (k0_off3_inb i k))))⟩],
        [⟨Rect.unit (s := S1x1024x128) (k0_off1 k) S1x128x128.size (k0_off1_inb k),
        k0_pay4 (k0_pay7 k0_pay1 (View.ld x0 (Rect.unit (s := S1x1024x128) (k0_off1 k) S1x128x128.size (k0_off1_inb k)))
            (View.ld x1 (Rect.unit (s := S1x16384x128) (k0_off2 i k) S1x256x128.size (k0_off2_inb i k)))
            (View.ld x3 (Rect.unit (s := S3x1x256x256) (k0_off3 i k) S1x1x256x256.size (k0_off3_inb i k))))
          (k0_pay8 k0_pay1 (View.ld x0 (Rect.unit (s := S1x1024x128) (k0_off1 k) S1x128x128.size (k0_off1_inb k)))
            (View.ld x1 (Rect.unit (s := S1x16384x128) (k0_off2 i k) S1x256x128.size (k0_off2_inb i k)))
            (View.ld x3 (Rect.unit (s := S3x1x256x256) (k0_off3 i k) S1x1x256x256.size (k0_off3_inb i k))))⟩]) := by
  unfold tripL_k0_t1 trip_k0_t1
  dsimp only
  unfold trip_k0_t1.sl.r trip_k0_t1.sl.r_1 trip_k0_t1.sl.r_2
  rw [ld_unread harg5, ld_unread harg3, ld_unread harg4, ld_unread harg6]

end Pieces

end Cert.Proof.AttnPoint
-- ==== Proof.AttnTable.lean ====
/- What the precondition says of the tables: the offset of each relative position in the band, −∞ outside. -/
module

public import proofs.«01_k».proof.Proof.Gen.Pre_band_tables
public import proofs.«01_k».proof.Proof.AttnSpec
public import proofs.«01_k».proof.Proof.TailClaims

@[expose] public section

set_option maxRecDepth 16384

noncomputable section

namespace Cert.Proof.AttnTable

open Cert.Pre_band_tables Cert.Pre_band_tables.Facts
open Cert.Proof
open Idealize.ShloMosaic

variable (A : AttnSpec.Args)

theorem gather_at (I : IVec S3x128x256x1 32) (v : Fin 3) (q : Fin 128) (x : Fin 256) (h : Fin 8) :
    Host.gather gather_S32x8_S3x128x256x1_S3x128x256x8_3_0_n_n_0_3_18 A.rb I (ix4 v q x h)
      = A.rb (ix2 ⟨min (I (ix4 v q x 0)).toInt.toNat 31, by omega⟩ h) := by
  unfold Host.gather
  refine congrArg A.rb (funext fun a => Fin.ext ?_)
  match a with
  | ⟨0, _⟩ =>
    show GatherDims.start _ _ I 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x8_S3x128x256x1_S3x128x256x8_3_0_n_n_0_3_18.startIndexMap from List.mem_singleton.mpr rfl)]
    have hs : GatherDims.siIdx gather_S32x8_S3x128x256x1_S3x128x256x8_3_0_n_n_0_3_18 (ix4 v q x h) ⟨0, Nat.one_pos⟩ = ix4 v q x 0 := by
      funext b
      refine Fin.ext ?_
      match b with
      | ⟨0, _⟩ => rfl
      | ⟨1, _⟩ => rfl
      | ⟨2, _⟩ => rfl
      | ⟨3, _⟩ => rfl
    exact congrArg (fun i => min (I i).toInt.toNat 31) hs
  | ⟨1, _⟩ =>
    show GatherDims.start _ _ I 1 + GatherDims.batchCoord _ _ 1 + GatherDims.offCoord _ _ 1 = _
    rw [GatherDims.batchCoord_eq_zero _ _ _ List.not_mem_nil]
    unfold GatherDims.start
    rw [dif_neg (by show (1 : Fin 2) ∉ [(0 : Fin 2)]; decide)]
    exact (Nat.zero_add _).trans rfl

/-- The relative positions in a window: of key `x` from query `q`, the window starting `64 v` keys before the queries. -/
def rel : IVec S3x128x256 32 :=
  subi (broadcastInDim S3x128x256 ![0, 1, 2] bcast_S3x1x256_S3x128x256_0_1_2
      (subi (broadcastInDim S3x1x256 ![0, 1, 2] bcast_S1x1x256_S3x1x256_0_1_2 (broadcastInDim S1x1x256 ![2] bcast_S256_S1x1x256_2 (iotaInDim S256 32 0)))
        (broadcastInDim S3x1x256 ![0, 1, 2] bcast_S3x1x1_S3x1x256_0_1_2
          (muli (broadcastInDim S3x1x1 ![] bcast_S_S3x1x1 (constantI S_ 32 64#32)) (broadcastInDim S3x1x1 ![0] bcast_S3_S3x1x1_0 (iotaInDim S3 32 0))))))
    (broadcastInDim S3x128x256 ![0, 1, 2] bcast_S1x128x1_S3x128x256_0_1_2 (broadcastInDim S1x128x1 ![1] bcast_S128_S1x128x1_1 (iotaInDim S128 32 0)))

/-- The tables the precondition names. -/
def want : FVec Ideal S3x4x256x256 .f32 :=
  shapeCast S3x4x256x256 (transpose S3x8x128x256 [0, 3, 1, 2] (select
      (broadcastInDim S3x128x256x8 ![0, 1, 2, 3] bcast_S3x128x256x1_S3x128x256x8_0_1_2_3
        (broadcastInDim S3x128x256x1 ![0, 1, 2] bcast_S3x128x256_S3x128x256x1_0_1_2
          (cmpi .sle (absi rel) (broadcastInDim S3x128x256 ![] bcast_S_S3x128x256 (constantI S_ 32 64#32)))))
      (Host.gather gather_S32x8_S3x128x256x1_S3x128x256x8_3_0_n_n_0_3_18 (show FVec Ideal S32x8 .f32 from A.rb)
        (broadcastInDim S3x128x256x1 ![0, 1, 2] bcast_S3x128x256_S3x128x256x1_0_1_2
          (AttnSpec.buck bcast_S_S3x128x256 (AttnSpec.clip bcast_S_S3x128x256 rel))))
      (broadcastInDim S3x128x256x8 ![] bcast_S_S3x128x256x8 (constant S_ .f32 0xFF800000#32)))
    transposes_S3x128x256x8_S3x8x128x256_0_3_1_2) shapeCasts_S3x8x128x256_S3x4x256x256

theorem fn_eq (q : FVec Ideal S1x16384x1024 .bf16) (v : FVec Ideal S1x16384x512 .bf16) :
    fn (F := Ideal) q v (show FVec Ideal S3x4x256x256 .f32 from A.tab) (show FVec Ideal S32x8 .f32 from A.rb)
      = cmpf .oeq (show FVec Ideal S3x4x256x256 .f32 from A.tab) (want A) := rfl

/-- A relative position in a window. -/
def word (v : Fin 3) (q : Fin 128) (x : Fin 256) : BitVec 32 :=
  BitVec.ofNat 32 x.val - 64#32 * BitVec.ofNat 32 v.val - BitVec.ofNat 32 q.val

theorem rel_at (v : Fin 3) (q : Fin 128) (x : Fin 256) : rel (ix3 v q x) = word v q x := by
  unfold word
  pointwise [rel]
  rfl

theorem want_at (v : Fin 3) (p : Fin 4) (sd : Fin 2) (q : Fin 128) (x : Fin 256) (r : Fin 256) (hr : r.val = sd.val * 128 + q.val) (h : Fin 8)
    (hh : h.val = p.val * 2 + sd.val) :
    want A (ix4 v p r x) = if IntOp.cmpi .sle (IntOp.absi (word v q x)) 64#32 = 1#1 then AttnSpec.bias A (word v q x) h else ⊥ := by
  unfold AttnSpec.bias
  obtain ⟨r, hlt⟩ := r
  obtain rfl : r = sd.val * 128 + q.val := hr
  pointwise [want]
  rw [gather_at]
  pointwise [AttnSpec.buck_at, rel_at]
  have hf : Ideal.ofBits .f32 4286578688#32 = (⊥ : EReal) := by simp [Ideal.ofBits, Ideal.ieee]
  have he : (⟨p.val * 2 + (sd.val * 128 + q.val) / 128, by omega⟩ : Fin 8) = h := Fin.ext (by show p.val * 2 + (sd.val * 128 + q.val) / 128 = h.val; omega)
  rw [he, hf]
  rfl

/-- The table's entry, for a window that starts `st` keys into the sequence and `64 v` before its queries. -/
theorem tab_at (ht : ∀ i, A.tab i = want A i) (st n : Nat) (v : Fin 3) (p : Fin 4) (sd : Fin 2) (q : Fin 128) (x : Fin 256) (r : Fin 256)
    (hr : r.val = sd.val * 128 + q.val) (h : Fin 8) (hh : h.val = p.val * 2 + sd.val) (i j : Fin 16384) (hn : st + 64 * v.val = n)
    (hi : i.val = n + q.val) (hj : j.val = st + x.val) :
    A.tab (ix4 v p r x) = if AttnSpec.near i j then AttnSpec.bias A (AttnSpec.rel i j) h else ⊥ := by
  have hw : word v q x = AttnSpec.rel i j := (AttnSpec.rel_window st n v.val x.val q.val i j hn hi hj).symm
  rw [ht, want_at A v p sd q x r hr h hh, hw]
  exact if_congr (AttnSpec.near_iff i j) rfl rfl

end Cert.Proof.AttnTable
-- ==== Proof.AttnRun.lean ====
/- The attention's call: the loop's pieces against the specification, and the two results after the run. -/
module

public import proofs.«01_k».proof.Proof.AttnPoint
public import proofs.«01_k».proof.Proof.AttnTable

@[expose] public section

set_option maxRecDepth 16384

noncomputable section

namespace Cert.Proof.AttnRun

open Cert.Attn1Ideal Cert.Attn1Ideal.Gen Cert.Attn1Ideal.Value
open Idealize.ShloMosaic Idealize.ShloMosaic.TcCoe Idealize.SL.Sem
open Cert.Proof Cert.Proof.AttnPoint

variable (m : (ℓ : Loc nD τ sig) → Buf (Elt Ideal) ℓ) (c : Dev nD) (t : Fin cfg0.N)

/-- The call's arguments, as the specification reads them. -/
def kargs : AttnSpec.Args where
  qk := m ((c : Thread nD τ).loc main_arg0)
  v := m ((c : Thread nD τ).loc main_arg1)
  tab := m ((c : Thread nD τ).loc main_arg2)
  rb := m ((c : Thread nD τ).loc main_arg3)

theorem lt_t : t.val < 64 := t.isLt

theorem lt_k (k : Fin k0_t1_loop.trips) : k.val < 8 := lt_of_lt_of_eq k.isLt trips_eq

theorem blk_lt (k : Fin k0_t1_loop.trips) : blk t k < 128 := by
  have := lt_k k
  unfold blk
  omega

abbrev qT : Vec Ideal S1x1024x128 .bf16 := iblk m c 0 t
abbrev kT : Vec Ideal S1x16384x128 .bf16 := iblk m c 1 t
abbrev vT : Vec Ideal S1x16384x128 .bf16 := iblk m c 2 t
abbrev tT : Vec Ideal S3x1x256x256 .f32 := iblk m c 3 t

theorem b0 (r : Fin 1024) (l : Fin 128) : qT m c t (ix3 0 r l) =
    (kargs m c).qk (ix3 0 ⟨1024 * (t.val % 16) + r.val, by omega⟩ ⟨128 * (t.val / 16) + l.val, by have := lt_t t; omega⟩) := by
  unfold kargs; blk_point [iblk, V_main_arg0 m c, idxIn t]
theorem b1 (j : Fin 16384) (l : Fin 128) : kT m c t (ix3 0 j l) =
    (kargs m c).qk (ix3 0 j ⟨128 * (4 + t.val / 16) + l.val, by have := lt_t t; omega⟩) := by
  unfold kargs; blk_point [iblk, V_main_arg0 m c, idxIn t]
theorem b2 (j : Fin 16384) (l : Fin 128) : vT m c t (ix3 0 j l) =
    (kargs m c).v (ix3 0 j ⟨128 * (t.val / 16) + l.val, by have := lt_t t; omega⟩) := by
  unfold kargs; blk_point [iblk, V_main_arg1 m c, idxIn t]
theorem b3 (v : Fin 3) (r x : Fin 256) : tT m c t (ix4 v 0 r x) =
    (kargs m c).tab (ix4 v ⟨t.val / 16, by have := lt_t t; omega⟩ r x) := by
  unfold kargs; blk_point [iblk, V_main_arg2 m c, idxIn t]

/-! ## What a trip reads -/

section Loads

variable (k : Fin k0_t1_loop.trips)

theorem start_lt (n : Nat) (hn : n < 128) (x : Fin 256) : start n + x.val < 16384 := by
  unfold start
  split_ifs <;> omega

theorem table_lt (n : Nat) : table n < 3 := by
  unfold table
  split_ifs <;> omega

theorem start_table (n : Nat) (hn : n < 128) : start n + 64 * table n = 128 * n := by
  unfold start table
  split_ifs <;> omega

/-- A key of the window, as a position of the sequence. -/
def g (x : Fin 256) : Fin 16384 := ⟨start (blk t k) + x.val, start_lt _ (blk_lt t k) x⟩

theorem g_inj : Function.Injective (g t k) := fun x y h => Fin.ext (by
  have h' : start (blk t k) + x.val = start (blk t k) + y.val := congrArg Fin.val h
  omega)

abbrev qL (x0 : Vec Ideal S1x1024x128 .bf16) : Vec Ideal S1x128x128 .bf16 :=
  View.ld x0 (Rect.unit (s := S1x1024x128) (k0_off1 k) S1x128x128.size (k0_off1_inb k))
abbrev kL (x1 : Vec Ideal S1x16384x128 .bf16) : Vec Ideal S1x256x128 .bf16 :=
  View.ld x1 (Rect.unit (s := S1x16384x128) (k0_off2 (grid0.coords t) k) S1x256x128.size (k0_off2_inb (grid0.coords t) k))
abbrev tL (x3 : Vec Ideal S3x1x256x256 .f32) : Vec Ideal S1x1x256x256 .f32 :=
  View.ld x3 (Rect.unit (s := S3x1x256x256) (k0_off3 (grid0.coords t) k) S1x1x256x256.size (k0_off3_inb (grid0.coords t) k))

theorem qL_at (x0 : Vec Ideal S1x1024x128 .bf16) (q l : Fin 128) :
    qL k x0 (ix3 0 q l) = x0 (ix3 0 ⟨128 * k.val + q.val, by have := lt_k k; omega⟩ l) := by
  refine congrArg x0 (funext fun a => Fin.ext ?_)
  match a with
  | ⟨0, _⟩ => show k0_off1 k 0 + 1 * 0 = 0; rw [off1_at]; rfl
  | ⟨1, _⟩ => show k0_off1 k 1 + 1 * q.val = 128 * k.val + q.val; rw [off1_at, Nat.one_mul]; rfl
  | ⟨2, _⟩ => show k0_off1 k 2 + 1 * l.val = l.val; rw [off1_at, Nat.one_mul]; exact Nat.zero_add _

theorem kL_at (x1 : Vec Ideal S1x16384x128 .bf16) (x : Fin 256) (l : Fin 128) :
    kL t k x1 (ix3 0 x l) = x1 (ix3 0 (g t k x) l) := by
  refine congrArg x1 (funext fun a => Fin.ext ?_)
  match a with
  | ⟨0, _⟩ => show k0_off2 (grid0.coords t) k 0 + 1 * 0 = 0; rw [off2_at]; rfl
  | ⟨1, _⟩ => show k0_off2 (grid0.coords t) k 1 + 1 * x.val = start (blk t k) + x.val; rw [off2_at, Nat.one_mul]; rfl
  | ⟨2, _⟩ => show k0_off2 (grid0.coords t) k 2 + 1 * l.val = l.val; rw [off2_at, Nat.one_mul]; exact Nat.zero_add _

theorem tL_at (x3 : Vec Ideal S3x1x256x256 .f32) (r x : Fin 256) :
    tL t k x3 (ix4 0 0 r x) = x3 (ix4 ⟨table (blk t k), table_lt _⟩ 0 r x) := by
  refine congrArg x3 (funext fun a => Fin.ext ?_)
  match a with
  | ⟨0, _⟩ => show k0_off3 (grid0.coords t) k 0 + 1 * 0 = table (blk t k); rw [off3_at]; rfl
  | ⟨1, _⟩ => show k0_off3 (grid0.coords t) k 1 + 1 * 0 = 0; rw [off3_at]; rfl
  | ⟨2, _⟩ => show k0_off3 (grid0.coords t) k 2 + 1 * r.val = r.val; rw [off3_at, Nat.one_mul]; exact Nat.zero_add _
  | ⟨3, _⟩ => show k0_off3 (grid0.coords t) k 3 + 1 * x.val = x.val; rw [off3_at, Nat.one_mul]; exact Nat.zero_add _

/-- The head of a half of the lanes, and the query of a row of the trip. -/
def hd (sd : Fin 2) : Fin 8 := ⟨t.val / 16 * 2 + sd.val, by have := lt_t t; omega⟩

def qy (q : Fin 128) : Fin 16384 := ⟨128 * blk t k + q.val, by have := blk_lt t k; omega⟩

variable (ht : ∀ i, (kargs m c).tab i = AttnTable.want (kargs m c) i)
include ht

theorem row_at (sd : Fin 2) (q : Fin 128) (x : Fin 256) :
    row (qL k (qT m c t)) (kL t k (kT m c t)) (tL t k (tT m c t)) sd q x = AttnSpec.logit (kargs m c) (hd t sd) (qy t k q) (g t k x) := by
  have htt := lt_t t
  unfold row AttnSpec.logit
  rw [tL_at, b3, AttnTable.tab_at (kargs m c) ht (start (blk t k)) (128 * blk t k) ⟨table (blk t k), table_lt _⟩ ⟨t.val / 16, by omega⟩ sd q x
    ⟨sd.val * 128 + q.val, by omega⟩ rfl (hd t sd) rfl (qy t k q) (g t k x) (start_table _ (blk_lt t k)) rfl rfl]
  by_cases hn : AttnSpec.near (qy t k q) (g t k x)
  · rw [if_pos hn, if_pos hn]
    refine congrArg (· + _) (Finset.sum_congr rfl fun d _ => ?_)
    rw [qL_at, kL_at, b0, b1]
    refine congrArg₂ (fun a b => (kargs m c).qk a * (kargs m c).qk b) ?_ ?_
    · refine congrArg₂ (ix3 0) (Fin.ext ?_) (Fin.ext ?_)
      · show 1024 * (t.val % 16) + (128 * k.val + q.val) = 128 * (t.val % 16 * 8 + k.val) + q.val
        omega
      · show 128 * (t.val / 16) + (sd.val * 64 + d.val) = (t.val / 16 * 2 + sd.val) * 64 + d.val
        omega
    · refine congrArg (ix3 0 (g t k x)) (Fin.ext ?_)
      show 128 * (4 + t.val / 16) + (sd.val * 64 + d.val) = 512 + ((t.val / 16 * 2 + sd.val) * 64 + d.val)
      omega
  · rw [if_neg hn, if_neg hn, EReal.add_bot]

theorem away (h : Fin 8) (q : Fin 128) (j : Fin 16384) (hj : ∀ x, g t k x ≠ j) : AttnSpec.logit (kargs m c) h (qy t k q) j = ⊥ := by
  refine if_neg fun hn => ?_
  have hb := blk_lt t k
  have hn1 : j.val ≤ (128 * blk t k + q.val) + 64 := hn.1
  have hn2 : 128 * blk t k + q.val ≤ j.val + 64 := hn.2
  have hs : start (blk t k) ≤ j.val ∧ j.val < start (blk t k) + 256 := by
    have := j.isLt
    unfold start
    split_ifs <;> omega
  exact hj ⟨j.val - start (blk t k), by omega⟩ (Fin.ext (by show start (blk t k) + (j.val - start (blk t k)) = j.val; omega))

theorem trip_o (sd : Fin 2) (q b : Fin 128) (hb : sd.val = b.val / 64) :
    k0_pay3 (k0_pay5 (kL t k (vT m c t))) (k0_pay8 k0_pay1 (qL k (qT m c t)) (kL t k (kT m c t)) (tL t k (tT m c t))) (ix3 0 q b) =
      AttnSpec.out (kargs m c) (hd t sd) ⟨b.val % 64, by omega⟩ (qy t k q) := by
  rw [o_at _ _ _ _ sd q b hb, funext fun x => row_at m c t k ht sd q x]
  unfold AttnSpec.out
  rw [AttnSpec.mean_window (g t k) (g_inj t k) _ (away m c t k ht (hd t sd) q)]
  refine congrArg (AttnSpec.mean _) (funext fun x => ?_)
  rw [kL_at, b2]
  refine congrArg (fun a => (kargs m c).v (ix3 0 (g t k x) a)) (Fin.ext ?_)
  show 128 * (t.val / 16) + b.val = (t.val / 16 * 2 + sd.val) * 64 + b.val % 64
  omega

theorem trip_l (sd : Fin 2) (q b : Fin 128) (hb : sd.val = b.val / 64) :
    k0_pay4 (k0_pay7 k0_pay1 (qL k (qT m c t)) (kL t k (kT m c t)) (tL t k (tT m c t)))
      (k0_pay8 k0_pay1 (qL k (qT m c t)) (kL t k (kT m c t)) (tL t k (tT m c t))) (ix3 0 q b) =
      AttnSpec.outl (kargs m c) (hd t sd) (qy t k q) := by
  rw [l_at _ _ _ sd q b hb, funext fun x => row_at m c t k ht sd q x]
  unfold AttnSpec.outl
  rw [AttnSpec.lse_window (g t k) (g_inj t k) _ (away m c t k ht (hd t sd) q)]

end Loads

/-! ## What a point leaves -/

/-- A head's half of the lanes, and its column. -/
def side (b : Fin 128) : Fin 2 := ⟨b.val / 64, by omega⟩

def G4 (y : S1x1024x128.Idx) : EReal :=
  AttnSpec.out (kargs m c) (hd t (side (y 2))) ⟨(y 2).val % 64, Nat.mod_lt _ (by decide)⟩ ⟨1024 * (t.val % 16) + (y 1).val, by
    have h : (y 1).val < 1024 := (y 1).isLt
    omega⟩

def G5 (y : S1x1024x128.Idx) : EReal :=
  AttnSpec.outl (kargs m c) (hd t (side (y 2))) ⟨1024 * (t.val % 16) + (y 1).val, by
    have h : (y 1).val < 1024 := (y 1).isLt
    omega⟩

theorem emb_at (k : Fin k0_t1_loop.trips) (q b : Fin 128) :
    (Rect.unit (s := S1x1024x128) (k0_off1 k) S1x128x128.size (k0_off1_inb k)).emb (ix3 0 q b) =
      ix3 0 ⟨128 * k.val + q.val, by have := lt_k k; omega⟩ b := by
  refine funext fun a => Fin.ext ?_
  match a with
  | ⟨0, _⟩ => show k0_off1 k 0 + 1 * 0 = 0; rw [off1_at]; rfl
  | ⟨1, _⟩ => show k0_off1 k 1 + 1 * q.val = 128 * k.val + q.val; rw [off1_at, Nat.one_mul]; rfl
  | ⟨2, _⟩ => show k0_off1 k 2 + 1 * b.val = b.val; rw [off1_at, Nat.one_mul]; exact Nat.zero_add _

theorem qy_eq (k : Fin k0_t1_loop.trips) (q : Fin 128) (h : 1024 * (t.val % 16) + (128 * k.val + q.val) < 16384) :
    qy t k q = ⟨1024 * (t.val % 16) + (128 * k.val + q.val), h⟩ :=
  Fin.ext (by
    show 128 * (t.val % 16 * 8 + k.val) + q.val = 1024 * (t.val % 16) + (128 * k.val + q.val)
    omega)

section Pieces

variable (arg3 : Memref sig .tc .vmem S1x1024x128 .bf16) (harg3 : arg3.IsWhole) (arg4 : Memref sig .tc .vmem S1x16384x128 .bf16) (harg4 : arg4.IsWhole)
  (arg5 : Memref sig .tc .vmem S1x16384x128 .bf16) (harg5 : arg5.IsWhole) (arg6 : Memref sig .tc .vmem S3x1x256x256 .f32) (harg6 : arg6.IsWhole)
  (arg7 : Memref sig .tc .vmem S1x1024x128 .bf16) (harg7 : arg7.IsWhole) (arg8 : Memref sig .tc .vmem S1x1024x128 .f32) (harg8 : arg8.IsWhole) (a2 : BitVec 32)
  (ht : ∀ i, (kargs m c).tab i = AttnTable.want (kargs m c) i)
include ht

theorem pieces_at (n : Nat) (hn : n ≤ k0_t1_loop.trips) :
    (∀ p ∈ (pb_k0_t1 (F := Ideal) Variants.none c none (grid0.coords t) arg3 harg3 arg4 harg4 arg5 harg5 arg6 harg6 arg7 harg7 arg8 harg8 a2
      (harg3.unread (qT m c t)) (harg4.unread (kT m c t)) (harg5.unread (vT m c t)) (harg6.unread (tT m c t)) n).1, ∀ x, p.2 x = G4 m c t (p.1.emb x)) ∧
    (∀ p ∈ (pb_k0_t1 (F := Ideal) Variants.none c none (grid0.coords t) arg3 harg3 arg4 harg4 arg5 harg5 arg6 harg6 arg7 harg7 arg8 harg8 a2
      (harg3.unread (qT m c t)) (harg4.unread (kT m c t)) (harg5.unread (vT m c t)) (harg6.unread (tT m c t)) n).2, ∀ x, p.2 x = G5 m c t (p.1.emb x)) := by
  induction n with
  | zero =>
    rw [pb_k0_t1.eq_1]
    exact ⟨fun p hp => absurd hp List.not_mem_nil, fun p hp => absurd hp List.not_mem_nil⟩
  | succ n ih =>
    obtain ⟨i1, i2⟩ := ih (by omega)
    rw [pb_k0_t1_succ (F := Ideal) Variants.none c none (grid0.coords t) arg3 harg3 arg4 harg4 arg5 harg5 arg6 harg6 arg7 harg7 arg8 harg8 a2
      (harg3.unread (qT m c t)) (harg4.unread (kT m c t)) (harg5.unread (vT m c t)) (harg6.unread (tT m c t)) ⟨n, hn⟩, piece_o]
    constructor
    · intro p hp x
      rcases List.mem_append.1 hp with hp | hp
      · obtain rfl := List.mem_singleton.1 hp
        change S1x128x128.Idx at x
        idx_vars x
        obtain rfl : x0 = 0 := Subsingleton.elim _ _
        refine (trip_o m c t ⟨n, hn⟩ ht (side x2) x1 x2 rfl).trans ?_
        rw [emb_at, qy_eq t ⟨n, hn⟩ x1 (by have := lt_k ⟨n, hn⟩; omega)]
        rfl
      · exact i1 p hp x
    · intro p hp x
      rcases List.mem_append.1 hp with hp | hp
      · obtain rfl := List.mem_singleton.1 hp
        change S1x128x128.Idx at x
        idx_vars x
        obtain rfl : x0 = 0 := Subsingleton.elim _ _
        refine (trip_l m c t ⟨n, hn⟩ ht (side x2) x1 x2 rfl).trans ?_
        rw [emb_at, qy_eq t ⟨n, hn⟩ x1 (by have := lt_k ⟨n, hn⟩; omega)]
        rfl
      · exact i2 p hp x

theorem out4_at (y : S1x1024x128.Idx) :
    out0_A_4 c (grid0.coords t) arg3 harg3 arg4 harg4 arg5 harg5 arg6 harg6 arg7 harg7 arg8 harg8 (qT m c t) (kT m c t) (vT m c t) (tT m c t) y = G4 m c t y := by
  unfold out0_A_4
  refine View.read_writes_apply_of_pieces _ _ (G4 m c t) _ ?_ y
    (cover0_A_4 c (grid0.coords t) arg3 harg3 arg4 harg4 arg5 harg5 arg6 harg6 arg7 harg7 arg8 harg8 (qT m c t) (kT m c t) (vT m c t) (tT m c t) y)
  unfold kernelRun0_A
  dsimp only
  exact (pieces_at m c t arg3 harg3 arg4 harg4 arg5 harg5 arg6 harg6 arg7 harg7 arg8 harg8 _ ht _ le_rfl).1

theorem out5_at (y : S1x1024x128.Idx) :
    out0_A_5 c (grid0.coords t) arg3 harg3 arg4 harg4 arg5 harg5 arg6 harg6 arg7 harg7 arg8 harg8 (qT m c t) (kT m c t) (vT m c t) (tT m c t) y = G5 m c t y := by
  unfold out0_A_5
  refine View.read_writes_apply_of_pieces _ _ (G5 m c t) _ ?_ y
    (cover0_A_5 c (grid0.coords t) arg3 harg3 arg4 harg4 arg5 harg5 arg6 harg6 arg7 harg7 arg8 harg8 (qT m c t) (kT m c t) (vT m c t) (tT m c t) y)
  unfold kernelRun0_A
  dsimp only
  exact (pieces_at m c t arg3 harg3 arg4 harg4 arg5 harg5 arg6 harg6 arg7 harg7 arg8 harg8 _ ht _ le_rfl).2

end Pieces

/-! ## The results after the run -/

variable (ht : ∀ i, (kargs m c).tab i = AttnTable.want (kargs m c) i)
include ht

theorem final_o : (dats m 0 c).arrAt 4 cfg0.N = fun i => AttnSpec.out (kargs m c) ⟨(i 2).val / 64, by
    have h : (i 2).val < 512 := (i 2).isLt
    omega⟩ ⟨(i 2).val % 64, Nat.mod_lt _ (by decide)⟩ (i 1) := by
  refine (dats m 0 c).arrAt_eq_of_covers 4 _ (by decide +kernel) fun t _ y => ?_
  blk_simp
  rw [after0_4]
  refine (out4_at m c t _ _ _ _ _ _ _ _ _ _ _ _ ht y).trans ?_
  have htt := lt_t t
  idx_vars y
  unfold G4
  have h2 : win0_4.index t 2 = t.val / 16 := by rw [(idxOut t).1]; rfl
  refine congr (congrArg₂ (AttnSpec.out (kargs m c)) (Fin.ext ?_) (Fin.ext ?_)) (Fin.ext ?_)
  · show t.val / 16 * 2 + y2.val / 64 = (win0_4.index t 2 * 128 + y2.val) / 64
    rw [h2]
    omega
  · show y2.val % 64 = (win0_4.index t 2 * 128 + y2.val) % 64
    rw [h2]
    omega
  · show 1024 * (t.val % 16) + y1.val = _
    blk_simp [idxOut t]
    omega

theorem final_l : (dats m 0 c).arrAt 5 cfg0.N = fun i => AttnSpec.outl (kargs m c) ⟨(i 2).val / 64, by
    have h : (i 2).val < 512 := (i 2).isLt
    omega⟩ (i 1) := by
  refine (dats m 0 c).arrAt_eq_of_covers 5 _ (by decide +kernel) fun t _ y => ?_
  blk_simp
  rw [after0_5]
  refine (out5_at m c t _ _ _ _ _ _ _ _ _ _ _ _ ht y).trans ?_
  have htt := lt_t t
  idx_vars y
  unfold G5
  have h2 : win0_5.index t 2 = t.val / 16 := by rw [(idxOut t).2]; rfl
  refine congrArg₂ (AttnSpec.outl (kargs m c)) (Fin.ext ?_) (Fin.ext ?_)
  · show t.val / 16 * 2 + y2.val / 64 = (win0_5.index t 2 * 128 + y2.val) / 64
    rw [h2]
    omega
  · show 1024 * (t.val % 16) + y1.val = _
    blk_simp [idxOut t]
    omega

end Cert.Proof.AttnRun

end
-- ==== Proof.AttnRef.lean ====
/- The reference's attention, element by element. -/
module

public import proofs.«01_k».proof.Proof.Gen.Attn1ReferenceIdeal.Run
public import proofs.«01_k».proof.Proof.AttnSpec

@[expose] public section

set_option maxRecDepth 16384

noncomputable section

namespace Cert.Proof.AttnRef

open Cert.Attn1ReferenceIdeal Cert.Attn1ReferenceIdeal.Gen
open Cert.Proof
open Idealize.ShloMosaic Idealize.ShloMosaic.TcCoe

variable (A : AttnSpec.Args)

theorem gather_at (I : IVec S16384x16384x1 32) (i j : Fin 16384) (h : Fin 8) :
    Host.gather gather_S32x8_S16384x16384x1_S16384x16384x8_2_0_n_n_0_2_18 A.rb I (ix3 i j h)
      = A.rb (ix2 ⟨min (I (ix3 i j 0)).toInt.toNat 31, by omega⟩ h) := by
  unfold Host.gather
  refine congrArg A.rb (funext fun a => Fin.ext ?_)
  match a with
  | ⟨0, _⟩ =>
    show GatherDims.start _ _ I 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x8_S16384x16384x1_S16384x16384x8_2_0_n_n_0_2_18.startIndexMap from List.mem_singleton.mpr rfl)]
    have hs : GatherDims.siIdx gather_S32x8_S16384x16384x1_S16384x16384x8_2_0_n_n_0_2_18 (ix3 i j h) ⟨0, Nat.one_pos⟩ = ix3 i j 0 := by
      funext b
      refine Fin.ext ?_
      match b with
      | ⟨0, _⟩ => rfl
      | ⟨1, _⟩ => rfl
      | ⟨2, _⟩ => rfl
    exact congrArg (fun i => min (I i).toInt.toNat 31) hs
  | ⟨1, _⟩ =>
    show GatherDims.start _ _ I 1 + GatherDims.batchCoord _ _ 1 + GatherDims.offCoord _ _ 1 = _
    rw [GatherDims.batchCoord_eq_zero _ _ _ List.not_mem_nil]
    unfold GatherDims.start
    rw [dif_neg (by show (1 : Fin 2) ∉ [(0 : Fin 2)]; decide)]
    exact (Nat.zero_add _).trans rfl

/-- The relative positions. -/
def rel : IVec S16384x16384 32 :=
  subi (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The relative positions, clipped, times the dilation, which is one. -/
def cl : IVec S16384x16384 32 :=
  muli (AttnSpec.clip bcast_S_S16384x16384 rel) (broadcastInDim S16384x16384 ![] bcast_S_S16384x16384 (constantI S_ 32 1#32))

/-- Half of the queries and keys, head by head. -/
def qV : FVec Ideal S1x8x16384x64 .bf16 :=
  transpose S1x8x16384x64 [0, 2, 1, 3] (shapeCast S1x16384x8x64 (extractStridedSlice S1x16384x512 ![0, 0, 0] (show FVec Ideal S1x16384x1024 .bf16 from A.qk)
    slices_S1x16384x1024_S1x16384x512_0_0_0) shapeCasts_S1x16384x512_S1x16384x8x64) transposes_S1x16384x8x64_S1x8x16384x64_0_2_1_3

def kV : FVec Ideal S1x8x16384x64 .bf16 :=
  transpose S1x8x16384x64 [0, 2, 1, 3] (shapeCast S1x16384x8x64 (extractStridedSlice S1x16384x512 ![0, 0, 512] (show FVec Ideal S1x16384x1024 .bf16 from A.qk)
    slices_S1x16384x1024_S1x16384x512_0_0_512) shapeCasts_S1x16384x512_S1x16384x8x64) transposes_S1x16384x8x64_S1x8x16384x64_0_2_1_3

def vV : FVec Ideal S1x8x16384x64 .f32 :=
  extf .f32 (transpose S1x8x16384x64 [0, 2, 1, 3] (shapeCast S1x16384x8x64 (show FVec Ideal S1x16384x512 .bf16 from A.v) shapeCasts_S1x16384x512_S1x16384x8x64)
    transposes_S1x16384x8x64_S1x8x16384x64_0_2_1_3) bitsLt_bf16_f32

/-- The buckets of the relative positions. -/
def idxV : IVec S16384x16384x1 32 :=
  broadcastInDim S16384x16384x1 ![0, 1] bcast_S16384x16384_S16384x16384x1_0_1 (AttnSpec.buck bcast_S_S16384x16384 cl)

/-- Their offsets. -/
def gV : FVec Ideal S16384x16384x8 .f32 :=
  Host.gather gather_S32x8_S16384x16384x1_S16384x16384x8_2_0_n_n_0_2_18 (show FVec Ideal S32x8 .f32 from A.rb) idxV

/-- The offsets of the logits. -/
def biasV : FVec Ideal S8x16384x16384 .f32 :=
  transpose S8x16384x16384 [2, 0, 1] (gV A) transposes_S16384x16384x8_S8x16384x16384_2_0_1

/-- The logits. -/
def lV : FVec Ideal S1x8x16384x16384 .f32 :=
  select (broadcastInDim S1x8x16384x16384 ![0, 1, 2, 3] bcast_S1x1x16384x16384_S1x8x16384x16384_0_1_2_3 (broadcastInDim S1x1x16384x16384 ![2, 3]
      bcast_S16384x16384_S1x1x16384x16384_2_3 (cmpi .sle (absi rel) (broadcastInDim S16384x16384 ![] bcast_S_S16384x16384 (constantI S_ 32 64#32)))))
    (addf (Host.dotGeneral dot_S1x8x16384x64_S1x8x16384x64_S1x8x16384x16384_3_3_2_2_01_01 none (qV A) (kV A))
      (broadcastInDim S1x8x16384x16384 ![1, 2, 3] bcast_S8x16384x16384_S1x8x16384x16384_1_2_3 (biasV A)))
    (broadcastInDim S1x8x16384x16384 ![] bcast_S_S1x8x16384x16384 (id (constant S_ .f32 0xFF800000#32)))

/-- The rows' largest logits. -/
def mV : FVec Ideal S1x8x16384x1 .f32 :=
  broadcastInDim S1x8x16384x1 ![0, 1, 2] bcast_S1x8x16384_S1x8x16384x1_0_1_2
    (Host.reduce FloatOps.maximumf (lV A) (constant S_ .f32 0xFF800000#32) reducesTo_S1x8x16384x16384_S1x8x16384_d3 h_S_)

/-- The weights. -/
def pV : FVec Ideal S1x8x16384x16384 .f32 :=
  Host.exp (subf (lV A) (broadcastInDim S1x8x16384x16384 ![0, 1, 2, 3] bcast_S1x8x16384x1_S1x8x16384x16384_0_1_2_3 (mV A)))

/-- Their sums. -/
def dV : FVec Ideal S1x8x16384x1 .f32 :=
  broadcastInDim S1x8x16384x1 ![0, 1, 2] bcast_S1x8x16384_S1x8x16384x1_0_1_2
    (Host.reduceAdd (pV A) (constant S_ .f32 0x00000000#32) reducesTo_S1x8x16384x16384_S1x8x16384_d3 h_S_)

/-- The attention's rows. -/
def oV : FVec Ideal S1x16384x512 .bf16 :=
  truncf .bf16 (shapeCast S1x16384x512 (transpose S1x16384x8x64 [0, 2, 1, 3]
    (Host.divf (Host.dotGeneral dot_S1x8x16384x16384_S1x8x16384x64_S1x8x16384x64_3_2_2_3_01_01 none (pV A) (vV A))
      (broadcastInDim S1x8x16384x64 ![0, 1, 2, 3] bcast_S1x8x16384x1_S1x8x16384x64_0_1_2_3 (dV A)))
    transposes_S1x8x16384x64_S1x16384x8x64_0_2_1_3) shapeCasts_S1x16384x8x64_S1x16384x512) bitsLt_bf16_f32

/-- Heads' rows with one value each, spread over the heads' columns. -/
def spread (y : FVec Ideal S1x8x16384x1 .f32) : FVec Ideal S1x16384x512 .f32 :=
  shapeCast S1x16384x512 (transpose S1x16384x8x64 [0, 2, 1, 3]
    (broadcastInDim S1x8x16384x64 ![0, 1, 2, 3] bcast_S1x8x16384x1_S1x8x16384x64_0_1_2_3 y)
    transposes_S1x8x16384x64_S1x16384x8x64_0_2_1_3) shapeCasts_S1x16384x8x64_S1x16384x512

/-- Their log-sum-exps. -/
def eV : FVec Ideal S1x16384x512 .f32 := spread (addf (mV A) (Host.log (dV A)))

theorem rel_at (i j : Fin 16384) : rel (ix2 i j) = AttnSpec.rel i j := by
  unfold AttnSpec.rel
  pointwise [rel]
  rfl

theorem cl_eq : cl = AttnSpec.clip bcast_S_S16384x16384 rel := by
  funext y
  exact BitVec.mul_one _

theorem idxV_at (i j : Fin 16384) : idxV (ix3 i j 0) = AttnSpec.word (AttnSpec.rel i j) := by
  have h : idxV (ix3 i j 0) = AttnSpec.buck bcast_S_S16384x16384 cl (ix2 i j) := by
    pointwise [idxV]
  rw [h, cl_eq, AttnSpec.buck_at, rel_at]

theorem gV_at (h : Fin 8) (i j : Fin 16384) : gV A (ix3 i j h) = AttnSpec.bias A (AttnSpec.rel i j) h := by
  refine (gather_at A idxV i j h).trans ?_
  exact congrArg (fun w : BitVec 32 => A.rb (ix2 ⟨min w.toInt.toNat 31, by omega⟩ h)) (idxV_at i j)

theorem biasV_at (h : Fin 8) (i j : Fin 16384) : biasV A (ix3 h i j) = AttnSpec.bias A (AttnSpec.rel i j) h := by
  pointwise [biasV, gV_at]

theorem qV_at (h : Fin 8) (i : Fin 16384) (d : Fin 64) : qV A (ix4 0 h i d) = A.qk (ix3 0 i (AttnSpec.qcol h d)) := by
  unfold AttnSpec.qcol
  pointwise [qV]
theorem kV_at (h : Fin 8) (i : Fin 16384) (d : Fin 64) : kV A (ix4 0 h i d) = A.qk (ix3 0 i (AttnSpec.kcol h d)) := by
  unfold AttnSpec.kcol
  pointwise [kV]
theorem vV_at (h : Fin 8) (i : Fin 16384) (d : Fin 64) : vV A (ix4 0 h i d) = A.v (ix3 0 i (AttnSpec.lane h d)) := by
  unfold AttnSpec.lane
  pointwise [vV]

theorem neg_inf : Ideal.ofBits .f32 4286578688#32 = (⊥ : EReal) := by
  simp [Ideal.ofBits, Ideal.ieee]

theorem select_if (b : BitVec 1) (P : Prop) [Decidable P] (h : b = 1#1 ↔ P) (x y : EReal) : Scalar.select b x y = if P then x else y := by
  unfold Scalar.select
  by_cases hP : P
  · exact (if_pos (h.2 hP)).trans (if_pos hP).symm
  · exact (if_neg fun e => hP (h.1 e)).trans (if_neg hP).symm

theorem lV_at (h : Fin 8) (i j : Fin 16384) : lV A (ix4 0 h i j) = AttnSpec.logit A h i j := by
  unfold AttnSpec.logit
  pointwise [lV, qV_at, kV_at, biasV_at, rel_at]
  exact (select_if _ _ (AttnSpec.near_iff i j) _ _).trans (congrArg _ neg_inf)

theorem mV_at (h : Fin 8) (i : Fin 16384) : mV A (ix4 0 h i 0) = AttnSpec.top (AttnSpec.logit A h i) := by
  unfold AttnSpec.top
  rw [← neg_inf]
  pointwise [mV, lV_at]

theorem pV_at (h : Fin 8) (i j : Fin 16384) : pV A (ix4 0 h i j) = AttnSpec.wt (AttnSpec.logit A h i) j := by
  unfold AttnSpec.wt
  pointwise [pV, lV_at, mV_at]

theorem dV_at (h : Fin 8) (i : Fin 16384) : dV A (ix4 0 h i 0) = ∑ j, AttnSpec.wt (AttnSpec.logit A h i) j := by
  pointwise [dV, pV_at]

theorem oV_at (i : Fin 16384) (e : Fin 512) (h : Fin 8) (d : Fin 64) (he : e.val = h.val * 64 + d.val) : oV A (ix3 0 i e) = AttnSpec.out A h d i := by
  obtain ⟨e, hlt⟩ := e
  obtain rfl : e = h.val * 64 + d.val := he
  unfold AttnSpec.out AttnSpec.mean
  pointwise [oV, pV_at, vV_at, dV_at]

theorem add_log_at (x y : FVec Ideal S1x8x16384x1 .f32) (i : S1x8x16384x1.Idx) : addf x (Host.log y) i = x i + Ideal.log (y i) := by
  pointwise

theorem le_at (h : Fin 8) (i : Fin 16384) : addf (mV A) (Host.log (dV A)) (ix4 0 h i 0) = AttnSpec.outl A h i := by
  rw [add_log_at, mV_at, dV_at]
  exact Eq.refl (AttnSpec.lse (AttnSpec.logit A h i))

theorem spread_at (y : FVec Ideal S1x8x16384x1 .f32) (i : Fin 16384) (e : Fin 512) (h : Fin 8) (d : Fin 64) (he : e.val = h.val * 64 + d.val) :
    spread y (ix3 0 i e) = y (ix4 0 h i 0) := by
  obtain ⟨e, hlt⟩ := e
  obtain rfl : e = h.val * 64 + d.val := he
  pointwise [spread]

theorem eV_at (i : Fin 16384) (e : Fin 512) (h : Fin 8) (d : Fin 64) (he : e.val = h.val * 64 + d.val) : eV A (ix3 0 i e) = AttnSpec.outl A h i :=
  (spread_at _ i e h d he).trans (le_at A h i)

end Cert.Proof.AttnRef
-- ==== Proof.Attn1Claims.lean ====
/- The attention without dilation: the frames, `preserves`, and the value claim. -/
module

public import proofs.«01_k».proof.Defs
public import proofs.«01_k».proof.Proof.Gen.Attn1
public import proofs.«01_k».proof.Proof.Gen.Pre_band_tables
public import proofs.«01_k».proof.Proof.AttnRun
public import proofs.«01_k».proof.Proof.AttnRef
public import proofs.«01_k».proof.Proof.Gen.Attn1ReferenceIdeal.Run
public import Idealize.ShloMosaic.Lib.Claim

@[expose] public section

set_option maxRecDepth 16384

noncomputable section

namespace Cert.Proof.Attn1Claims

open Idealize.ShloMosaic Idealize.ShloMosaic.TcCoe Idealize.SL.Sem

theorem defs_eq : Cert.Attn1.defs (F := Bits) = Cert.Attn1Ideal.defs (F := Bits) := by
  refine congrArg (Pipeline.defs Cert.Attn1Ideal.pcfgs) ?_
  funext p l a
  cases p
  · match l, a with
    | ⟨0, _⟩, _ => rfl
  all_goals rfl

/-- The kernel at the machine's floats. -/
theorem frame_kernel : Cert.quiescent_Attn1 := fun m ρ _ => by
  have h := Cert.Attn1Ideal.Gen.frame (F := Bits) m ρ
  rw [← defs_eq] at h
  exact h

/-- The kernel at the extended reals. -/
theorem frame_ideal : Cert.quiescent_Attn1Ideal := fun m ρ _ => Cert.Attn1Ideal.Gen.frame m ρ

theorem frame_ideal_pre : Cert.quiescent_Attn1Ideal_pre_band_tables := fun m ρ _ => Cert.Attn1Ideal.Gen.frame m ρ

/-- The reference declares no semaphore, and its run leaves its arguments as they were. -/
theorem frame_reference : Cert.quiescent_Attn1ReferenceIdeal := fun m ρ _ =>
  (θ_run Cert.Attn1ReferenceIdeal.defs _ _).mono (fun r h => ⟨fun c => (h c).2.2,
      Idealize.ShloMosaic.sem_eq_zero_of_no_sems (by decide) r.2⟩)
    (Cert.Attn1ReferenceIdeal.Value.run (F := Ideal) m ρ)

theorem frame_reference_pre : Cert.quiescent_Attn1ReferenceIdeal_pre_band_tables := fun m ρ _ => frame_reference m ρ trivial

/-- Nothing was rewritten between the kernel and its idealization. -/
theorem preserves : Cert.preserves_Attn1_Attn1Ideal := trivial

theorem true_of_bit (p : Bool) (h : BitVec.ofBool p = 1#1) : p = true := by
  revert h
  cases p <;> decide

/-- The precondition at an element: the table there is the one the band names. -/
theorem pre_at (A : AttnSpec.Args) (h : Cert.Pre_band_tables.fn (F := Ideal) A.qk A.v A.tab A.rb = fun _ => 1#1) (i : (⟨4, ![3, 4, 256, 256]⟩ : Shape).Idx) :
    A.tab i = AttnTable.want A i := by
  have e := congrFun ((AttnTable.fn_eq A A.qk A.v).symm.trans h) i
  exact of_decide_eq_true (true_of_bit _ e)

theorem tables (m : (ℓ : Loc Cert.Attn1Ideal.nD Cert.Attn1Ideal.τ Cert.Attn1Ideal.sig) → Buf (Elt Ideal) ℓ)
    (h : Cert.Pre_Attn1Ideal_band_tables m) (c : Dev Cert.Attn1Ideal.nD) :
    ∀ i, (AttnRun.kargs m c).tab i = AttnTable.want (AttnRun.kargs m c) i :=
  pre_at (AttnRun.kargs m c) (h c)

/-- The reference's arguments, as the specification reads them. -/
def args (m : (ℓ : Loc Cert.Attn1ReferenceIdeal.nD Cert.Attn1ReferenceIdeal.τ Cert.Attn1ReferenceIdeal.sig) → Buf (Elt Ideal) ℓ)
    (c : Dev Cert.Attn1ReferenceIdeal.nD) : AttnSpec.Args where
  qk := m (c.tc.loc Cert.Attn1ReferenceIdeal.main_arg0)
  v := m (c.tc.loc Cert.Attn1ReferenceIdeal.main_arg1)
  tab := m (c.tc.loc Cert.Attn1ReferenceIdeal.main_arg2)
  rb := m (c.tc.loc Cert.Attn1ReferenceIdeal.main_arg3)

/-- The kernel's two results are the reference's. -/
theorem algebraic : Cert.algebraic_Attn1Ideal_Attn1ReferenceIdeal_pre_band_tables := by
  intro m ρ m' ρ' hpre hagree
  refine ⟨_, _, Cert.Attn1Ideal.Value.run_blocks (F := Ideal) m ρ, ?_⟩
  refine (θ_run Cert.Attn1ReferenceIdeal.defs _ _).mono (fun r h c => ?_)
    (Cert.Attn1ReferenceIdeal.Value.run (F := Ideal) m' ρ')
  obtain ⟨h0, h1, hk⟩ := h c
  have hA : args m' c = AttnRun.kargs m c := by
    obtain ⟨a0, a1, a2, a3⟩ := hagree c
    unfold args AttnRun.kargs
    rw [a0, a1, a2, a3]
  have h0' : _ = AttnRef.oV (args m' c) := h0.trans rfl
  have h1' : _ = AttnRef.eV (args m' c) := h1.trans rfl
  rw [hA] at h0' h1'
  have ht := tables m hpre c
  refine ⟨h0'.trans ?_, h1'.trans ?_, hk⟩
  · rw [AttnRun.final_o m c ht]
    funext i
    idx_vars i
    obtain rfl : i0 = 0 := Subsingleton.elim _ _
    exact AttnRef.oV_at _ i1 i2 ⟨i2.val / 64, by omega⟩ ⟨i2.val % 64, Nat.mod_lt _ (by decide)⟩ (Nat.div_add_mod' _ _).symm
  · rw [AttnRun.final_l m c ht]
    funext i
    idx_vars i
    obtain rfl : i0 = 0 := Subsingleton.elim _ _
    exact AttnRef.eV_at _ i1 i2 ⟨i2.val / 64, by omega⟩ ⟨i2.val % 64, Nat.mod_lt _ (by decide)⟩ (Nat.div_add_mod' _ _).symm

end Cert.Proof.Attn1Claims

end
-- ==== Proof.AttnClass.lean ====
/- Banded attention over the residue classes of a dilation, as functions of the call's arguments. -/
module

public import proofs.«01_k».proof.Proof.AttnSpec

@[expose] public section

noncomputable section

namespace Cert.Proof.AttnClass

open Idealize.ShloMosaic

section Word

variable {s : Shape} (hb : AttnSpec.One.BroadcastsInDim s (![] : Fin 0 → Fin s.rank)) (D : BitVec 32)

/-- A relative position in a class, no further than 64 on either side, as a distance in the sequence. -/
def dist (x : IVec s 32) : IVec s 32 := muli (AttnSpec.clip hb x) (AttnSpec.lit hb D)

/-- The bucket of one relative position of a class. -/
def word (w : BitVec 32) : BitVec 32 := AttnSpec.buck AttnSpec.one_bcast (dist AttnSpec.one_bcast D fun _ => w) (fun a => a.elim0)

theorem buck_at (x : IVec s 32) (i : s.Idx) : AttnSpec.buck hb (dist hb D x) i = word D (x i) := rfl

end Word

/-- The arrays the call reads, for `R` classes of length `L` and dilation `D`: queries and keys side by side, values, the
    tables of logits' offsets, and the offset of each bucket and head. -/
structure Args (R L : Nat) (D : BitVec 32) where
  qk : (⟨3, ![R, L, 1024]⟩ : Shape).Idx → EReal
  v : (⟨3, ![R, L, 512]⟩ : Shape).Idx → EReal
  tab : (⟨4, ![3, 4, 256, 256]⟩ : Shape).Idx → EReal
  rb : TailSpec.Arr 32 8

variable {R L : Nat} {D : BitVec 32} (A : Args R L D)

/-- The relative position of key `j` from query `i`. -/
def rel (i j : Fin L) : BitVec 32 := BitVec.ofNat 32 j.val - BitVec.ofNat 32 i.val

/-- The offset of a relative position for a head. -/
def bias (w : BitVec 32) (h : Fin 8) : EReal := A.rb (ix2 ⟨min (word D w).toInt.toNat 31, by omega⟩ h)

/-- The keys within 64 of the query. -/
def near (i j : Fin L) : Prop := j.val ≤ i.val + 64 ∧ i.val ≤ j.val + 64

instance (i j : Fin L) : Decidable (near i j) := by unfold near; infer_instance

theorem near_iff (hL : L ≤ 16384) (i j : Fin L) : IntOp.cmpi .sle (IntOp.absi (rel i j)) 64#32 = 1#1 ↔ near i j := by
  have hi := i.isLt
  have hj := j.isLt
  exact AttnSpec.near_iff ⟨i.val, by omega⟩ ⟨j.val, by omega⟩

/-- The relative position in a window that starts `64 v` keys before its queries. -/
theorem rel_window (st n v x q : Nat) (i j : Fin L) (hn : st + 64 * v = n) (hi : i.val = n + q) (hj : j.val = st + x) :
    rel i j = BitVec.ofNat 32 x - 64#32 * BitVec.ofNat 32 v - BitVec.ofNat 32 q := by
  unfold rel
  rw [hi, hj, ← hn, BitVec.ofNat_add, BitVec.ofNat_add, BitVec.ofNat_add, BitVec.ofNat_mul]
  exact AttnSpec.word_ring _ _ _ _

/-- The logit of a class's key, −∞ away from the query. -/
def logit (c : Fin R) (h : Fin 8) (i j : Fin L) : EReal :=
  if near i j then (∑ d : Fin 64, A.qk (ix3 c i (AttnSpec.qcol h d)) * A.qk (ix3 c j (AttnSpec.kcol h d))) + bias A (rel i j) h else ⊥

/-- A class's rows of the attention. -/
def out (c : Fin R) (h : Fin 8) (d : Fin 64) (i : Fin L) : EReal :=
  AttnSpec.mean (logit A c h i) fun j => A.v (ix3 c j (AttnSpec.lane h d))

/-- Its rows' log-sum-exps. -/
def outl (c : Fin R) (h : Fin 8) (i : Fin L) : EReal := AttnSpec.lse (logit A c h i)

end Cert.Proof.AttnClass

end
-- ==== Proof.Attn4Point.lean ====
/- The attention's call of dilation 4: a trip of its loop, and the trips' places. -/
module

public import proofs.«01_k».proof.Proof.Gen.Attn4Ideal.Value
public import proofs.«01_k».proof.Proof.AttnClass
public import proofs.«01_k».proof.Proof.AttnPoint
public import Idealize.ShloMosaic.Lib.Claim
public import Idealize.ShloMosaic.Lib.Pointwise
public import Idealize.ShloMosaic.Lib.ValueIdx
public import Idealize.ShloMosaic.Lib.WholeRead
public import Idealize.ShloMosaic.Lib.KernelVsHost
public import Idealize.ShloMosaic.Lib.Pipeline.ValueKit

@[expose] public section

set_option maxRecDepth 16384

noncomputable section

namespace Cert.Proof.Attn4Point

open Cert.Attn4Ideal Cert.Attn4Ideal.Gen Cert.Attn4Ideal.Value
open Idealize.ShloMosaic Idealize.ShloMosaic.TcCoe Idealize.SL.Sem
open Cert.Proof

/-! ## One trip: the same computation as without dilation -/

section Trip

variable (qw : Vec Ideal S1x128x128 .bf16) (kw vw : Vec Ideal S1x256x128 .bf16) (tw : Vec Ideal S1x1x256x256 .f32)

theorem o_at (sd : Fin 2) (q : Fin 128) (b : Fin 128) (hb : sd.val = b.val / 64) :
    k0_pay3 (k0_pay5 vw) (k0_pay8 k0_pay1 qw kw tw) (ix3 0 q b) = AttnSpec.mean (AttnPoint.row qw kw tw sd q) fun x => vw (ix3 0 x b) :=
  AttnPoint.o_at qw kw vw tw sd q b hb

theorem l_at (sd : Fin 2) (q : Fin 128) (b : Fin 128) (hb : sd.val = b.val / 64) :
    k0_pay4 (k0_pay7 k0_pay1 qw kw tw) (k0_pay8 k0_pay1 qw kw tw) (ix3 0 q b) = AttnSpec.lse (AttnPoint.row qw kw tw sd q) :=
  AttnPoint.l_at qw kw tw sd q b hb

end Trip

/-! ## The trips' places -/

theorem trips_eq : k0_t1_loop.trips = 8 := by decide

/-- The query block of trip `k` at point `t`. -/
def blk (t : Fin cfg0.N) (k : Fin k0_t1_loop.trips) : Nat := t.val % 4 * 8 + k.val

/-- Where its window of keys starts. -/
def start (n : Nat) : Nat := if n = 0 then 0 else if n = 31 then 3840 else n * 128 - 64

/-- Which table it reads. -/
def table (n : Nat) : Nat := if n = 0 then 0 else if n = 31 then 2 else 1

theorem off1_at : ∀ k : Fin k0_t1_loop.trips, k0_off1 k = ![0, 128 * k.val, 0] := by decide +kernel

theorem off2_at : ∀ (t : Fin cfg0.N) (k : Fin k0_t1_loop.trips), k0_off2 (grid0.coords t) k = ![0, start (blk t k), 0] := by decide +kernel

theorem off3_at : ∀ (t : Fin cfg0.N) (k : Fin k0_t1_loop.trips), k0_off3 (grid0.coords t) k = ![table (blk t k), 0, 0, 0] := by decide +kernel

theorem idxIn : ∀ t : Fin cfg0.N, win0_0.index t = ![t.val / 16, t.val % 4, t.val / 4 % 4] ∧ win0_1.index t = ![t.val / 16, 0, 4 + t.val / 4 % 4] ∧
    win0_2.index t = ![t.val / 16, 0, t.val / 4 % 4] ∧ win0_3.index t = ![0, t.val / 4 % 4, 0, 0] := by
  decide +kernel

theorem idxOut : ∀ t : Fin cfg0.N, win0_4.index t = ![t.val / 16, t.val % 4, t.val / 4 % 4] ∧ win0_5.index t = ![t.val / 16, t.val % 4, t.val / 4 % 4] := by
  decide +kernel

theorem ld_unread {s : Shape} {e : EltTy} {m : Memref sig .tc .vmem s e} (h : m.IsWhole) (X : Vec Ideal s e) (R : Rect s) :
    View.readAt (Elt Ideal) m.view R.toLoadRect (h.unread X) = View.ld X R :=
  funext fun x => Memref.IsWhole.readAt_unread h X R.toLoadRect x

section Pieces

variable (c : Dev nD) (i : grid0.Coords) (arg3 : Memref sig .tc .vmem S1x1024x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S3x1x256x256 .f32) (harg6 : arg6.IsWhole)
  (arg7 : Memref sig .tc .vmem S1x1024x128 .bf16) (harg7 : arg7.IsWhole) (arg8 : Memref sig .tc .vmem S1x1024x128 .f32) (harg8 : arg8.IsWhole) (a2 : BitVec 32)
  (x0 : Vec Ideal S1x1024x128 .bf16) (x1 x2 : Vec Ideal S1x4096x128 .bf16) (x3 : Vec Ideal S3x1x256x256 .f32)

theorem piece_o (k : Fin k0_t1_loop.trips) :
    (tripL_k0_t1 (F := Ideal) Variants.none c none i arg3 harg3 arg4 harg4 arg5 harg5 arg6 harg6 arg7 harg7 arg8 harg8 a2
      (harg3.unread x0) (harg4.unread x1) (harg5.unread x2) (harg6.unread x3) k)
      = ([⟨Rect.unit (s := S1x1024x128) (k0_off1 k) S1x128x128.size (k0_off1_inb k),
        k0_pay3 (k0_pay5 (View.ld x2 (Rect.unit (s := S1x4096x128) (k0_off2 i k) S1x256x128.size (k0_off2_inb i k))))
          (k0_pay8 k0_pay1 (View.ld x0 (Rect.unit (s := S1x1024x128) (k0_off1 k) S1x128x128.size (k0_off1_inb k)))
            (View.ld x1 (Rect.unit (s := S1x4096x128) (k0_off2 i k) S1x256x128.size (k0_off2_inb i k)))
            (View.ld x3 (Rect.unit (s := S3x1x256x256) (k0_off3 i k) S1x1x256x256.size (k0_off3_inb i k))))⟩],
        [⟨Rect.unit (s := S1x1024x128) (k0_off1 k) S1x128x128.size (k0_off1_inb k),
        k0_pay4 (k0_pay7 k0_pay1 (View.ld x0 (Rect.unit (s := S1x1024x128) (k0_off1 k) S1x128x128.size (k0_off1_inb k)))
            (View.ld x1 (Rect.unit (s := S1x4096x128) (k0_off2 i k) S1x256x128.size (k0_off2_inb i k)))
            (View.ld x3 (Rect.unit (s := S3x1x256x256) (k0_off3 i k) S1x1x256x256.size (k0_off3_inb i k))))
          (k0_pay8 k0_pay1 (View.ld x0 (Rect.unit (s := S1x1024x128) (k0_off1 k) S1x128x128.size (k0_off1_inb k)))
            (View.ld x1 (Rect.unit (s := S1x4096x128) (k0_off2 i k) S1x256x128.size (k0_off2_inb i k)))
            (View.ld x3 (Rect.unit (s := S3x1x256x256) (k0_off3 i k) S1x1x256x256.size (k0_off3_inb i k))))⟩]) := by
  unfold tripL_k0_t1 trip_k0_t1
  dsimp only
  unfold trip_k0_t1.sl.r trip_k0_t1.sl.r_1 trip_k0_t1.sl.r_2
  rw [ld_unread harg5, ld_unread harg3, ld_unread harg4, ld_unread harg6]

end Pieces

end Cert.Proof.Attn4Point
-- ==== Proof.Attn4Table.lean ====
/- What the precondition says of the tables of dilation 4: the offset of each relative position in the band, −∞ outside. -/
module

public import proofs.«01_k».proof.Proof.Gen.Pre_band_tables_d4
public import proofs.«01_k».proof.Proof.AttnClass
public import proofs.«01_k».proof.Proof.TailClaims

@[expose] public section

set_option maxRecDepth 16384

noncomputable section

namespace Cert.Proof.Attn4Table

open Cert.Pre_band_tables_d4 Cert.Pre_band_tables_d4.Facts
open Cert.Proof
open Idealize.ShloMosaic

variable (A : AttnClass.Args 4 4096 4#32)

theorem gather_at (I : IVec S3x128x256x1 32) (v : Fin 3) (q : Fin 128) (x : Fin 256) (h : Fin 8) :
    Host.gather gather_S32x8_S3x128x256x1_S3x128x256x8_3_0_n_n_0_3_18 A.rb I (ix4 v q x h)
      = A.rb (ix2 ⟨min (I (ix4 v q x 0)).toInt.toNat 31, by omega⟩ h) := by
  unfold Host.gather
  refine congrArg A.rb (funext fun a => Fin.ext ?_)
  match a with
  | ⟨0, _⟩ =>
    show GatherDims.start _ _ I 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x8_S3x128x256x1_S3x128x256x8_3_0_n_n_0_3_18.startIndexMap from List.mem_singleton.mpr rfl)]
    have hs : GatherDims.siIdx gather_S32x8_S3x128x256x1_S3x128x256x8_3_0_n_n_0_3_18 (ix4 v q x h) ⟨0, Nat.one_pos⟩ = ix4 v q x 0 := by
      funext b
      refine Fin.ext ?_
      match b with
      | ⟨0, _⟩ => rfl
      | ⟨1, _⟩ => rfl
      | ⟨2, _⟩ => rfl
      | ⟨3, _⟩ => rfl
    exact congrArg (fun i => min (I i).toInt.toNat 31) hs
  | ⟨1, _⟩ =>
    show GatherDims.start _ _ I 1 + GatherDims.batchCoord _ _ 1 + GatherDims.offCoord _ _ 1 = _
    rw [GatherDims.batchCoord_eq_zero _ _ _ List.not_mem_nil]
    unfold GatherDims.start
    rw [dif_neg (by show (1 : Fin 2) ∉ [(0 : Fin 2)]; decide)]
    exact (Nat.zero_add _).trans rfl

/-- The relative positions in a window: of key `x` from query `q`, the window starting `64 v` keys before the queries. -/
def rel : IVec S3x128x256 32 :=
  subi (broadcastInDim S3x128x256 ![0, 1, 2] bcast_S3x1x256_S3x128x256_0_1_2
      (subi (broadcastInDim S3x1x256 ![0, 1, 2] bcast_S1x1x256_S3x1x256_0_1_2 (broadcastInDim S1x1x256 ![2] bcast_S256_S1x1x256_2 (iotaInDim S256 32 0)))
        (broadcastInDim S3x1x256 ![0, 1, 2] bcast_S3x1x1_S3x1x256_0_1_2
          (muli (broadcastInDim S3x1x1 ![] bcast_S_S3x1x1 (constantI S_ 32 64#32)) (broadcastInDim S3x1x1 ![0] bcast_S3_S3x1x1_0 (iotaInDim S3 32 0))))))
    (broadcastInDim S3x128x256 ![0, 1, 2] bcast_S1x128x1_S3x128x256_0_1_2 (broadcastInDim S1x128x1 ![1] bcast_S128_S1x128x1_1 (iotaInDim S128 32 0)))

/-- The tables the precondition names. -/
def want : FVec Ideal S3x4x256x256 .f32 :=
  shapeCast S3x4x256x256 (transpose S3x8x128x256 [0, 3, 1, 2] (select
      (broadcastInDim S3x128x256x8 ![0, 1, 2, 3] bcast_S3x128x256x1_S3x128x256x8_0_1_2_3
        (broadcastInDim S3x128x256x1 ![0, 1, 2] bcast_S3x128x256_S3x128x256x1_0_1_2
          (cmpi .sle (absi rel) (broadcastInDim S3x128x256 ![] bcast_S_S3x128x256 (constantI S_ 32 64#32)))))
      (Host.gather gather_S32x8_S3x128x256x1_S3x128x256x8_3_0_n_n_0_3_18 (show FVec Ideal S32x8 .f32 from A.rb)
        (broadcastInDim S3x128x256x1 ![0, 1, 2] bcast_S3x128x256_S3x128x256x1_0_1_2
          (AttnSpec.buck bcast_S_S3x128x256 (AttnClass.dist bcast_S_S3x128x256 4#32 rel))))
      (broadcastInDim S3x128x256x8 ![] bcast_S_S3x128x256x8 (constant S_ .f32 0xFF800000#32)))
    transposes_S3x128x256x8_S3x8x128x256_0_3_1_2) shapeCasts_S3x8x128x256_S3x4x256x256

theorem fn_eq (q : FVec Ideal S4x4096x1024 .bf16) (v : FVec Ideal S4x4096x512 .bf16) :
    fn (F := Ideal) q v (show FVec Ideal S3x4x256x256 .f32 from A.tab) (show FVec Ideal S32x8 .f32 from A.rb)
      = cmpf .oeq (show FVec Ideal S3x4x256x256 .f32 from A.tab) (want A) := rfl

/-- A relative position in a window. -/
def word (v : Fin 3) (q : Fin 128) (x : Fin 256) : BitVec 32 :=
  BitVec.ofNat 32 x.val - 64#32 * BitVec.ofNat 32 v.val - BitVec.ofNat 32 q.val

theorem rel_at (v : Fin 3) (q : Fin 128) (x : Fin 256) : rel (ix3 v q x) = word v q x := by
  unfold word
  pointwise [rel]
  rfl

theorem want_at (v : Fin 3) (p : Fin 4) (sd : Fin 2) (q : Fin 128) (x : Fin 256) (r : Fin 256) (hr : r.val = sd.val * 128 + q.val) (h : Fin 8)
    (hh : h.val = p.val * 2 + sd.val) :
    want A (ix4 v p r x) = if IntOp.cmpi .sle (IntOp.absi (word v q x)) 64#32 = 1#1 then AttnClass.bias A (word v q x) h else ⊥ := by
  unfold AttnClass.bias
  obtain ⟨r, hlt⟩ := r
  obtain rfl : r = sd.val * 128 + q.val := hr
  pointwise [want]
  rw [gather_at]
  pointwise [AttnClass.buck_at, rel_at]
  have hf : Ideal.ofBits .f32 4286578688#32 = (⊥ : EReal) := by simp [Ideal.ofBits, Ideal.ieee]
  have he : (⟨p.val * 2 + (sd.val * 128 + q.val) / 128, by omega⟩ : Fin 8) = h := Fin.ext (by show p.val * 2 + (sd.val * 128 + q.val) / 128 = h.val; omega)
  rw [he, hf]
  rfl

/-- The table's entry, for a window that starts `st` keys into the sequence and `64 v` before its queries. -/
theorem tab_at (ht : ∀ i, A.tab i = want A i) (st n : Nat) (v : Fin 3) (p : Fin 4) (sd : Fin 2) (q : Fin 128) (x : Fin 256) (r : Fin 256)
    (hr : r.val = sd.val * 128 + q.val) (h : Fin 8) (hh : h.val = p.val * 2 + sd.val) (i j : Fin 4096) (hn : st + 64 * v.val = n)
    (hi : i.val = n + q.val) (hj : j.val = st + x.val) :
    A.tab (ix4 v p r x) = if AttnClass.near i j then AttnClass.bias A (AttnClass.rel i j) h else ⊥ := by
  have hw : word v q x = AttnClass.rel i j := (AttnClass.rel_window st n v.val x.val q.val i j hn hi hj).symm
  rw [ht, want_at A v p sd q x r hr h hh, hw]
  exact if_congr (AttnClass.near_iff (by decide) i j) rfl rfl

end Cert.Proof.Attn4Table
-- ==== Proof.Attn4Run.lean ====
/- The attention's call of dilation 4: the loop's pieces against the specification, and the two results after the run. -/
module

public import proofs.«01_k».proof.Proof.Attn4Point
public import proofs.«01_k».proof.Proof.Attn4Table

@[expose] public section

set_option maxRecDepth 16384

noncomputable section

namespace Cert.Proof.Attn4Run

open Cert.Attn4Ideal Cert.Attn4Ideal.Gen Cert.Attn4Ideal.Value
open Idealize.ShloMosaic Idealize.ShloMosaic.TcCoe Idealize.SL.Sem
open Cert.Proof Cert.Proof.Attn4Point

variable (m : (ℓ : Loc nD τ sig) → Buf (Elt Ideal) ℓ) (c : Dev nD) (t : Fin cfg0.N)

/-- The call's arguments, as the specification reads them. -/
def kargs : AttnClass.Args 4 4096 4#32 where
  qk := m ((c : Thread nD τ).loc main_arg0)
  v := m ((c : Thread nD τ).loc main_arg1)
  tab := m ((c : Thread nD τ).loc main_arg2)
  rb := m ((c : Thread nD τ).loc main_arg3)

theorem lt_t : t.val < 64 := t.isLt

/-- A point's class. -/
def cl : Fin 4 := ⟨t.val / 16, by have := lt_t t; omega⟩

theorem lt_k (k : Fin k0_t1_loop.trips) : k.val < 8 := lt_of_lt_of_eq k.isLt trips_eq

theorem blk_lt (k : Fin k0_t1_loop.trips) : blk t k < 32 := by
  have := lt_k k
  unfold blk
  omega

abbrev qT : Vec Ideal S1x1024x128 .bf16 := iblk m c 0 t
abbrev kT : Vec Ideal S1x4096x128 .bf16 := iblk m c 1 t
abbrev vT : Vec Ideal S1x4096x128 .bf16 := iblk m c 2 t
abbrev tT : Vec Ideal S3x1x256x256 .f32 := iblk m c 3 t

theorem b0 (r : Fin 1024) (l : Fin 128) : qT m c t (ix3 0 r l) =
    (kargs m c).qk (ix3 (cl t) ⟨1024 * (t.val % 4) + r.val, by omega⟩ ⟨128 * (t.val / 4 % 4) + l.val, by have := lt_t t; omega⟩) := by
  unfold kargs cl; blk_point [iblk, V_main_arg0 m c, idxIn t]
theorem b1 (j : Fin 4096) (l : Fin 128) : kT m c t (ix3 0 j l) =
    (kargs m c).qk (ix3 (cl t) j ⟨128 * (4 + t.val / 4 % 4) + l.val, by have := lt_t t; omega⟩) := by
  unfold kargs cl; blk_point [iblk, V_main_arg0 m c, idxIn t]
theorem b2 (j : Fin 4096) (l : Fin 128) : vT m c t (ix3 0 j l) =
    (kargs m c).v (ix3 (cl t) j ⟨128 * (t.val / 4 % 4) + l.val, by have := lt_t t; omega⟩) := by
  unfold kargs cl; blk_point [iblk, V_main_arg1 m c, idxIn t]
theorem b3 (v : Fin 3) (r x : Fin 256) : tT m c t (ix4 v 0 r x) =
    (kargs m c).tab (ix4 v ⟨t.val / 4 % 4, by have := lt_t t; omega⟩ r x) := by
  unfold kargs; blk_point [iblk, V_main_arg2 m c, idxIn t]

/-! ## What a trip reads -/

section Loads

variable (k : Fin k0_t1_loop.trips)

theorem start_lt (n : Nat) (hn : n < 32) (x : Fin 256) : start n + x.val < 4096 := by
  unfold start
  split_ifs <;> omega

theorem table_lt (n : Nat) : table n < 3 := by
  unfold table
  split_ifs <;> omega

theorem start_table (n : Nat) (hn : n < 32) : start n + 64 * table n = 128 * n := by
  unfold start table
  split_ifs <;> omega

/-- A key of the window, as a position of the sequence. -/
def g (x : Fin 256) : Fin 4096 := ⟨start (blk t k) + x.val, start_lt _ (blk_lt t k) x⟩

theorem g_inj : Function.Injective (g t k) := fun x y h => Fin.ext (by
  have h' : start (blk t k) + x.val = start (blk t k) + y.val := congrArg Fin.val h
  omega)

abbrev qL (x0 : Vec Ideal S1x1024x128 .bf16) : Vec Ideal S1x128x128 .bf16 :=
  View.ld x0 (Rect.unit (s := S1x1024x128) (k0_off1 k) S1x128x128.size (k0_off1_inb k))
abbrev kL (x1 : Vec Ideal S1x4096x128 .bf16) : Vec Ideal S1x256x128 .bf16 :=
  View.ld x1 (Rect.unit (s := S1x4096x128) (k0_off2 (grid0.coords t) k) S1x256x128.size (k0_off2_inb (grid0.coords t) k))
abbrev tL (x3 : Vec Ideal S3x1x256x256 .f32) : Vec Ideal S1x1x256x256 .f32 :=
  View.ld x3 (Rect.unit (s := S3x1x256x256) (k0_off3 (grid0.coords t) k) S1x1x256x256.size (k0_off3_inb (grid0.coords t) k))

theorem qL_at (x0 : Vec Ideal S1x1024x128 .bf16) (q l : Fin 128) :
    qL k x0 (ix3 0 q l) = x0 (ix3 0 ⟨128 * k.val + q.val, by have := lt_k k; omega⟩ l) := by
  refine congrArg x0 (funext fun a => Fin.ext ?_)
  match a with
  | ⟨0, _⟩ => show k0_off1 k 0 + 1 * 0 = 0; rw [off1_at]; rfl
  | ⟨1, _⟩ => show k0_off1 k 1 + 1 * q.val = 128 * k.val + q.val; rw [off1_at, Nat.one_mul]; rfl
  | ⟨2, _⟩ => show k0_off1 k 2 + 1 * l.val = l.val; rw [off1_at, Nat.one_mul]; exact Nat.zero_add _

theorem kL_at (x1 : Vec Ideal S1x4096x128 .bf16) (x : Fin 256) (l : Fin 128) :
    kL t k x1 (ix3 0 x l) = x1 (ix3 0 (g t k x) l) := by
  refine congrArg x1 (funext fun a => Fin.ext ?_)
  match a with
  | ⟨0, _⟩ => show k0_off2 (grid0.coords t) k 0 + 1 * 0 = 0; rw [off2_at]; rfl
  | ⟨1, _⟩ => show k0_off2 (grid0.coords t) k 1 + 1 * x.val = start (blk t k) + x.val; rw [off2_at, Nat.one_mul]; rfl
  | ⟨2, _⟩ => show k0_off2 (grid0.coords t) k 2 + 1 * l.val = l.val; rw [off2_at, Nat.one_mul]; exact Nat.zero_add _

theorem tL_at (x3 : Vec Ideal S3x1x256x256 .f32) (r x : Fin 256) :
    tL t k x3 (ix4 0 0 r x) = x3 (ix4 ⟨table (blk t k), table_lt _⟩ 0 r x) := by
  refine congrArg x3 (funext fun a => Fin.ext ?_)
  match a with
  | ⟨0, _⟩ => show k0_off3 (grid0.coords t) k 0 + 1 * 0 = table (blk t k); rw [off3_at]; rfl
  | ⟨1, _⟩ => show k0_off3 (grid0.coords t) k 1 + 1 * 0 = 0; rw [off3_at]; rfl
  | ⟨2, _⟩ => show k0_off3 (grid0.coords t) k 2 + 1 * r.val = r.val; rw [off3_at, Nat.one_mul]; exact Nat.zero_add _
  | ⟨3, _⟩ => show k0_off3 (grid0.coords t) k 3 + 1 * x.val = x.val; rw [off3_at, Nat.one_mul]; exact Nat.zero_add _

/-- The head of a half of the lanes, and the query of a row of the trip. -/
def hd (sd : Fin 2) : Fin 8 := ⟨t.val / 4 % 4 * 2 + sd.val, by have := lt_t t; omega⟩

def qy (q : Fin 128) : Fin 4096 := ⟨128 * blk t k + q.val, by have := blk_lt t k; omega⟩

variable (ht : ∀ i, (kargs m c).tab i = Attn4Table.want (kargs m c) i)
include ht

theorem row_at (sd : Fin 2) (q : Fin 128) (x : Fin 256) :
    AttnPoint.row (qL k (qT m c t)) (kL t k (kT m c t)) (tL t k (tT m c t)) sd q x = AttnClass.logit (kargs m c) (cl t) (hd t sd) (qy t k q) (g t k x) := by
  have htt := lt_t t
  unfold AttnPoint.row AttnClass.logit
  rw [tL_at, b3, Attn4Table.tab_at (kargs m c) ht (start (blk t k)) (128 * blk t k) ⟨table (blk t k), table_lt _⟩ ⟨t.val / 4 % 4, by omega⟩ sd q x
    ⟨sd.val * 128 + q.val, by omega⟩ rfl (hd t sd) rfl (qy t k q) (g t k x) (start_table _ (blk_lt t k)) rfl rfl]
  by_cases hn : AttnClass.near (qy t k q) (g t k x)
  · rw [if_pos hn, if_pos hn]
    refine congrArg (· + _) (Finset.sum_congr rfl fun d _ => ?_)
    rw [qL_at, kL_at, b0, b1]
    refine congrArg₂ (fun a b => (kargs m c).qk a * (kargs m c).qk b) ?_ ?_
    · refine congrArg₂ (ix3 (cl t)) (Fin.ext ?_) (Fin.ext ?_)
      · show 1024 * (t.val % 4) + (128 * k.val + q.val) = 128 * ((t.val % 4) * 8 + k.val) + q.val
        omega
      · show 128 * (t.val / 4 % 4) + (sd.val * 64 + d.val) = (t.val / 4 % 4 * 2 + sd.val) * 64 + d.val
        omega
    · refine congrArg (ix3 (cl t) (g t k x)) (Fin.ext ?_)
      show 128 * (4 + t.val / 4 % 4) + (sd.val * 64 + d.val) = 512 + ((t.val / 4 % 4 * 2 + sd.val) * 64 + d.val)
      omega
  · rw [if_neg hn, if_neg hn, EReal.add_bot]

theorem away (h : Fin 8) (q : Fin 128) (j : Fin 4096) (hj : ∀ x, g t k x ≠ j) : AttnClass.logit (kargs m c) (cl t) h (qy t k q) j = ⊥ := by
  refine if_neg fun hn => ?_
  have hb := blk_lt t k
  have hn1 : j.val ≤ (128 * blk t k + q.val) + 64 := hn.1
  have hn2 : 128 * blk t k + q.val ≤ j.val + 64 := hn.2
  have hs : start (blk t k) ≤ j.val ∧ j.val < start (blk t k) + 256 := by
    have := j.isLt
    unfold start
    split_ifs <;> omega
  exact hj ⟨j.val - start (blk t k), by omega⟩ (Fin.ext (by show start (blk t k) + (j.val - start (blk t k)) = j.val; omega))

theorem trip_o (sd : Fin 2) (q b : Fin 128) (hb : sd.val = b.val / 64) :
    k0_pay3 (k0_pay5 (kL t k (vT m c t))) (k0_pay8 k0_pay1 (qL k (qT m c t)) (kL t k (kT m c t)) (tL t k (tT m c t))) (ix3 0 q b) =
      AttnClass.out (kargs m c) (cl t) (hd t sd) ⟨b.val % 64, by omega⟩ (qy t k q) := by
  rw [o_at _ _ _ _ sd q b hb, funext fun x => row_at m c t k ht sd q x]
  unfold AttnClass.out
  rw [AttnSpec.mean_window (g t k) (g_inj t k) _ (away m c t k ht (hd t sd) q)]
  refine congrArg (AttnSpec.mean _) (funext fun x => ?_)
  rw [kL_at, b2]
  refine congrArg (fun a => (kargs m c).v (ix3 (cl t) (g t k x) a)) (Fin.ext ?_)
  show 128 * (t.val / 4 % 4) + b.val = (t.val / 4 % 4 * 2 + sd.val) * 64 + b.val % 64
  omega

theorem trip_l (sd : Fin 2) (q b : Fin 128) (hb : sd.val = b.val / 64) :
    k0_pay4 (k0_pay7 k0_pay1 (qL k (qT m c t)) (kL t k (kT m c t)) (tL t k (tT m c t)))
      (k0_pay8 k0_pay1 (qL k (qT m c t)) (kL t k (kT m c t)) (tL t k (tT m c t))) (ix3 0 q b) =
      AttnClass.outl (kargs m c) (cl t) (hd t sd) (qy t k q) := by
  rw [l_at _ _ _ sd q b hb, funext fun x => row_at m c t k ht sd q x]
  unfold AttnClass.outl
  rw [AttnSpec.lse_window (g t k) (g_inj t k) _ (away m c t k ht (hd t sd) q)]

end Loads

/-! ## What a point leaves -/

/-- A head's half of the lanes, and its column. -/
def side (b : Fin 128) : Fin 2 := ⟨b.val / 64, by omega⟩

def G4 (y : S1x1024x128.Idx) : EReal :=
  AttnClass.out (kargs m c) (cl t) (hd t (side (y 2))) ⟨(y 2).val % 64, Nat.mod_lt _ (by decide)⟩ ⟨1024 * (t.val % 4) + (y 1).val, by
    have h : (y 1).val < 1024 := (y 1).isLt
    omega⟩

def G5 (y : S1x1024x128.Idx) : EReal :=
  AttnClass.outl (kargs m c) (cl t) (hd t (side (y 2))) ⟨1024 * (t.val % 4) + (y 1).val, by
    have h : (y 1).val < 1024 := (y 1).isLt
    omega⟩

theorem emb_at (k : Fin k0_t1_loop.trips) (q b : Fin 128) :
    (Rect.unit (s := S1x1024x128) (k0_off1 k) S1x128x128.size (k0_off1_inb k)).emb (ix3 0 q b) =
      ix3 0 ⟨128 * k.val + q.val, by have := lt_k k; omega⟩ b := by
  refine funext fun a => Fin.ext ?_
  match a with
  | ⟨0, _⟩ => show k0_off1 k 0 + 1 * 0 = 0; rw [off1_at]; rfl
  | ⟨1, _⟩ => show k0_off1 k 1 + 1 * q.val = 128 * k.val + q.val; rw [off1_at, Nat.one_mul]; rfl
  | ⟨2, _⟩ => show k0_off1 k 2 + 1 * b.val = b.val; rw [off1_at, Nat.one_mul]; exact Nat.zero_add _

theorem qy_eq (k : Fin k0_t1_loop.trips) (q : Fin 128) (h : 1024 * (t.val % 4) + (128 * k.val + q.val) < 4096) :
    qy t k q = ⟨1024 * (t.val % 4) + (128 * k.val + q.val), h⟩ :=
  Fin.ext (by
    show 128 * ((t.val % 4) * 8 + k.val) + q.val = 1024 * (t.val % 4) + (128 * k.val + q.val)
    omega)

section Pieces

variable (arg3 : Memref sig .tc .vmem S1x1024x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S3x1x256x256 .f32) (harg6 : arg6.IsWhole)
  (arg7 : Memref sig .tc .vmem S1x1024x128 .bf16) (harg7 : arg7.IsWhole) (arg8 : Memref sig .tc .vmem S1x1024x128 .f32) (harg8 : arg8.IsWhole) (a2 : BitVec 32)
  (ht : ∀ i, (kargs m c).tab i = Attn4Table.want (kargs m c) i)
include ht

theorem pieces_at (n : Nat) (hn : n ≤ k0_t1_loop.trips) :
    (∀ p ∈ (pb_k0_t1 (F := Ideal) Variants.none c none (grid0.coords t) arg3 harg3 arg4 harg4 arg5 harg5 arg6 harg6 arg7 harg7 arg8 harg8 a2
      (harg3.unread (qT m c t)) (harg4.unread (kT m c t)) (harg5.unread (vT m c t)) (harg6.unread (tT m c t)) n).1, ∀ x, p.2 x = G4 m c t (p.1.emb x)) ∧
    (∀ p ∈ (pb_k0_t1 (F := Ideal) Variants.none c none (grid0.coords t) arg3 harg3 arg4 harg4 arg5 harg5 arg6 harg6 arg7 harg7 arg8 harg8 a2
      (harg3.unread (qT m c t)) (harg4.unread (kT m c t)) (harg5.unread (vT m c t)) (harg6.unread (tT m c t)) n).2, ∀ x, p.2 x = G5 m c t (p.1.emb x)) := by
  induction n with
  | zero =>
    rw [pb_k0_t1.eq_1]
    exact ⟨fun p hp => absurd hp List.not_mem_nil, fun p hp => absurd hp List.not_mem_nil⟩
  | succ n ih =>
    obtain ⟨i1, i2⟩ := ih (by omega)
    rw [pb_k0_t1_succ (F := Ideal) Variants.none c none (grid0.coords t) arg3 harg3 arg4 harg4 arg5 harg5 arg6 harg6 arg7 harg7 arg8 harg8 a2
      (harg3.unread (qT m c t)) (harg4.unread (kT m c t)) (harg5.unread (vT m c t)) (harg6.unread (tT m c t)) ⟨n, hn⟩, piece_o]
    constructor
    · intro p hp x
      rcases List.mem_append.1 hp with hp | hp
      · obtain rfl := List.mem_singleton.1 hp
        change S1x128x128.Idx at x
        idx_vars x
        obtain rfl : x0 = 0 := Subsingleton.elim _ _
        refine (trip_o m c t ⟨n, hn⟩ ht (side x2) x1 x2 rfl).trans ?_
        rw [emb_at, qy_eq t ⟨n, hn⟩ x1 (by have := lt_k ⟨n, hn⟩; omega)]
        rfl
      · exact i1 p hp x
    · intro p hp x
      rcases List.mem_append.1 hp with hp | hp
      · obtain rfl := List.mem_singleton.1 hp
        change S1x128x128.Idx at x
        idx_vars x
        obtain rfl : x0 = 0 := Subsingleton.elim _ _
        refine (trip_l m c t ⟨n, hn⟩ ht (side x2) x1 x2 rfl).trans ?_
        rw [emb_at, qy_eq t ⟨n, hn⟩ x1 (by have := lt_k ⟨n, hn⟩; omega)]
        rfl
      · exact i2 p hp x

theorem out4_at (y : S1x1024x128.Idx) :
    out0_A_4 c (grid0.coords t) arg3 harg3 arg4 harg4 arg5 harg5 arg6 harg6 arg7 harg7 arg8 harg8 (qT m c t) (kT m c t) (vT m c t) (tT m c t) y = G4 m c t y := by
  unfold out0_A_4
  refine View.read_writes_apply_of_pieces _ _ (G4 m c t) _ ?_ y
    (cover0_A_4 c (grid0.coords t) arg3 harg3 arg4 harg4 arg5 harg5 arg6 harg6 arg7 harg7 arg8 harg8 (qT m c t) (kT m c t) (vT m c t) (tT m c t) y)
  unfold kernelRun0_A
  dsimp only
  exact (pieces_at m c t arg3 harg3 arg4 harg4 arg5 harg5 arg6 harg6 arg7 harg7 arg8 harg8 _ ht _ le_rfl).1

theorem out5_at (y : S1x1024x128.Idx) :
    out0_A_5 c (grid0.coords t) arg3 harg3 arg4 harg4 arg5 harg5 arg6 harg6 arg7 harg7 arg8 harg8 (qT m c t) (kT m c t) (vT m c t) (tT m c t) y = G5 m c t y := by
  unfold out0_A_5
  refine View.read_writes_apply_of_pieces _ _ (G5 m c t) _ ?_ y
    (cover0_A_5 c (grid0.coords t) arg3 harg3 arg4 harg4 arg5 harg5 arg6 harg6 arg7 harg7 arg8 harg8 (qT m c t) (kT m c t) (vT m c t) (tT m c t) y)
  unfold kernelRun0_A
  dsimp only
  exact (pieces_at m c t arg3 harg3 arg4 harg4 arg5 harg5 arg6 harg6 arg7 harg7 arg8 harg8 _ ht _ le_rfl).2

end Pieces

/-! ## The results after the run -/

variable (ht : ∀ i, (kargs m c).tab i = Attn4Table.want (kargs m c) i)
include ht

theorem final_o : (dats m 0 c).arrAt 4 cfg0.N = fun i => AttnClass.out (kargs m c) (i 0) ⟨(i 2).val / 64, by
    have h : (i 2).val < 512 := (i 2).isLt
    omega⟩ ⟨(i 2).val % 64, Nat.mod_lt _ (by decide)⟩ (i 1) := by
  refine (dats m 0 c).arrAt_eq_of_covers 4 _ (by decide +kernel) fun t _ y => ?_
  blk_simp
  rw [after0_4]
  refine (out4_at m c t _ _ _ _ _ _ _ _ _ _ _ _ ht y).trans ?_
  have htt := lt_t t
  idx_vars y
  unfold G4
  have h2 : win0_4.index t 2 = t.val / 4 % 4 := by rw [(idxOut t).1]; rfl
  refine congr (congr (congrArg₂ (AttnClass.out (kargs m c)) (Fin.ext ?_) (Fin.ext ?_)) (Fin.ext ?_)) (Fin.ext ?_)
  · show t.val / 16 = _
    blk_simp [idxOut t]
    try omega
  · show t.val / 4 % 4 * 2 + y2.val / 64 = (win0_4.index t 2 * 128 + y2.val) / 64
    rw [h2]
    omega
  · show y2.val % 64 = (win0_4.index t 2 * 128 + y2.val) % 64
    rw [h2]
    omega
  · show 1024 * (t.val % 4) + y1.val = _
    blk_simp [idxOut t]
    omega

theorem final_l : (dats m 0 c).arrAt 5 cfg0.N = fun i => AttnClass.outl (kargs m c) (i 0) ⟨(i 2).val / 64, by
    have h : (i 2).val < 512 := (i 2).isLt
    omega⟩ (i 1) := by
  refine (dats m 0 c).arrAt_eq_of_covers 5 _ (by decide +kernel) fun t _ y => ?_
  blk_simp
  rw [after0_5]
  refine (out5_at m c t _ _ _ _ _ _ _ _ _ _ _ _ ht y).trans ?_
  have htt := lt_t t
  idx_vars y
  unfold G5
  have h2 : win0_5.index t 2 = t.val / 4 % 4 := by rw [(idxOut t).2]; rfl
  refine congr (congrArg₂ (AttnClass.outl (kargs m c)) (Fin.ext ?_) (Fin.ext ?_)) (Fin.ext ?_)
  · show t.val / 16 = _
    blk_simp [idxOut t]
    try omega
  · show t.val / 4 % 4 * 2 + y2.val / 64 = (win0_5.index t 2 * 128 + y2.val) / 64
    rw [h2]
    omega
  · show 1024 * (t.val % 4) + y1.val = _
    blk_simp [idxOut t]
    omega

end Cert.Proof.Attn4Run

end
-- ==== Proof.Attn4Ref.lean ====
/- The reference's attention of dilation 4, element by element. -/
module

public import proofs.«01_k».proof.Proof.Gen.Attn4ReferenceIdeal.Run
public import proofs.«01_k».proof.Proof.AttnClass

@[expose] public section

set_option maxRecDepth 16384

noncomputable section

namespace Cert.Proof.Attn4Ref

open Cert.Attn4ReferenceIdeal Cert.Attn4ReferenceIdeal.Gen
open Cert.Proof
open Idealize.ShloMosaic Idealize.ShloMosaic.TcCoe

variable (A : AttnClass.Args 4 4096 4#32)

theorem gather_at (I : IVec S4096x4096x1 32) (i j : Fin 4096) (h : Fin 8) :
    Host.gather gather_S32x8_S4096x4096x1_S4096x4096x8_2_0_n_n_0_2_18 A.rb I (ix3 i j h)
      = A.rb (ix2 ⟨min (I (ix3 i j 0)).toInt.toNat 31, by omega⟩ h) := by
  unfold Host.gather
  refine congrArg A.rb (funext fun a => Fin.ext ?_)
  match a with
  | ⟨0, _⟩ =>
    show GatherDims.start _ _ I 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x8_S4096x4096x1_S4096x4096x8_2_0_n_n_0_2_18.startIndexMap from List.mem_singleton.mpr rfl)]
    have hs : GatherDims.siIdx gather_S32x8_S4096x4096x1_S4096x4096x8_2_0_n_n_0_2_18 (ix3 i j h) ⟨0, Nat.one_pos⟩ = ix3 i j 0 := by
      funext b
      refine Fin.ext ?_
      match b with
      | ⟨0, _⟩ => rfl
      | ⟨1, _⟩ => rfl
      | ⟨2, _⟩ => rfl
    exact congrArg (fun i => min (I i).toInt.toNat 31) hs
  | ⟨1, _⟩ =>
    show GatherDims.start _ _ I 1 + GatherDims.batchCoord _ _ 1 + GatherDims.offCoord _ _ 1 = _
    rw [GatherDims.batchCoord_eq_zero _ _ _ List.not_mem_nil]
    unfold GatherDims.start
    rw [dif_neg (by show (1 : Fin 2) ∉ [(0 : Fin 2)]; decide)]
    exact (Nat.zero_add _).trans rfl

/-- The relative positions. -/
def rel : IVec S4096x4096 32 :=
  subi (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The relative positions, clipped, as distances in the sequence. -/
def cl : IVec S4096x4096 32 := AttnClass.dist bcast_S_S4096x4096 4#32 rel

/-- Half of the queries and keys, head by head. -/
def qV : FVec Ideal S4x8x4096x64 .bf16 :=
  transpose S4x8x4096x64 [0, 2, 1, 3] (shapeCast S4x4096x8x64 (extractStridedSlice S4x4096x512 ![0, 0, 0] (show FVec Ideal S4x4096x1024 .bf16 from A.qk)
    slices_S4x4096x1024_S4x4096x512_0_0_0) shapeCasts_S4x4096x512_S4x4096x8x64) transposes_S4x4096x8x64_S4x8x4096x64_0_2_1_3

def kV : FVec Ideal S4x8x4096x64 .bf16 :=
  transpose S4x8x4096x64 [0, 2, 1, 3] (shapeCast S4x4096x8x64 (extractStridedSlice S4x4096x512 ![0, 0, 512] (show FVec Ideal S4x4096x1024 .bf16 from A.qk)
    slices_S4x4096x1024_S4x4096x512_0_0_512) shapeCasts_S4x4096x512_S4x4096x8x64) transposes_S4x4096x8x64_S4x8x4096x64_0_2_1_3

def vV : FVec Ideal S4x8x4096x64 .f32 :=
  extf .f32 (transpose S4x8x4096x64 [0, 2, 1, 3] (shapeCast S4x4096x8x64 (show FVec Ideal S4x4096x512 .bf16 from A.v) shapeCasts_S4x4096x512_S4x4096x8x64)
    transposes_S4x4096x8x64_S4x8x4096x64_0_2_1_3) bitsLt_bf16_f32

/-- The buckets of the relative positions. -/
def idxV : IVec S4096x4096x1 32 :=
  broadcastInDim S4096x4096x1 ![0, 1] bcast_S4096x4096_S4096x4096x1_0_1 (AttnSpec.buck bcast_S_S4096x4096 cl)

/-- Their offsets. -/
def gV : FVec Ideal S4096x4096x8 .f32 :=
  Host.gather gather_S32x8_S4096x4096x1_S4096x4096x8_2_0_n_n_0_2_18 (show FVec Ideal S32x8 .f32 from A.rb) idxV

/-- The offsets of the logits. -/
def biasV : FVec Ideal S8x4096x4096 .f32 :=
  transpose S8x4096x4096 [2, 0, 1] (gV A) transposes_S4096x4096x8_S8x4096x4096_2_0_1

/-- The logits. -/
def lV : FVec Ideal S4x8x4096x4096 .f32 :=
  select (broadcastInDim S4x8x4096x4096 ![0, 1, 2, 3] bcast_S1x1x4096x4096_S4x8x4096x4096_0_1_2_3 (broadcastInDim S1x1x4096x4096 ![2, 3]
      bcast_S4096x4096_S1x1x4096x4096_2_3 (cmpi .sle (absi rel) (broadcastInDim S4096x4096 ![] bcast_S_S4096x4096 (constantI S_ 32 64#32)))))
    (addf (Host.dotGeneral dot_S4x8x4096x64_S4x8x4096x64_S4x8x4096x4096_3_3_2_2_01_01 none (qV A) (kV A))
      (broadcastInDim S4x8x4096x4096 ![0, 1, 2, 3] bcast_S1x8x4096x4096_S4x8x4096x4096_0_1_2_3
        (broadcastInDim S1x8x4096x4096 ![1, 2, 3] bcast_S8x4096x4096_S1x8x4096x4096_1_2_3 (biasV A))))
    (broadcastInDim S4x8x4096x4096 ![] bcast_S_S4x8x4096x4096 (id (constant S_ .f32 0xFF800000#32)))

/-- The rows' largest logits. -/
def mV : FVec Ideal S4x8x4096x1 .f32 :=
  broadcastInDim S4x8x4096x1 ![0, 1, 2] bcast_S4x8x4096_S4x8x4096x1_0_1_2
    (Host.reduce FloatOps.maximumf (lV A) (constant S_ .f32 0xFF800000#32) reducesTo_S4x8x4096x4096_S4x8x4096_d3 h_S_)

/-- The weights. -/
def pV : FVec Ideal S4x8x4096x4096 .f32 :=
  Host.exp (subf (lV A) (broadcastInDim S4x8x4096x4096 ![0, 1, 2, 3] bcast_S4x8x4096x1_S4x8x4096x4096_0_1_2_3 (mV A)))

/-- Their sums. -/
def dV : FVec Ideal S4x8x4096x1 .f32 :=
  broadcastInDim S4x8x4096x1 ![0, 1, 2] bcast_S4x8x4096_S4x8x4096x1_0_1_2
    (Host.reduceAdd (pV A) (constant S_ .f32 0x00000000#32) reducesTo_S4x8x4096x4096_S4x8x4096_d3 h_S_)

/-- The attention's rows. -/
def oV : FVec Ideal S4x4096x512 .bf16 :=
  truncf .bf16 (shapeCast S4x4096x512 (transpose S4x4096x8x64 [0, 2, 1, 3]
    (Host.divf (Host.dotGeneral dot_S4x8x4096x4096_S4x8x4096x64_S4x8x4096x64_3_2_2_3_01_01 none (pV A) (vV A))
      (broadcastInDim S4x8x4096x64 ![0, 1, 2, 3] bcast_S4x8x4096x1_S4x8x4096x64_0_1_2_3 (dV A)))
    transposes_S4x8x4096x64_S4x4096x8x64_0_2_1_3) shapeCasts_S4x4096x8x64_S4x4096x512) bitsLt_bf16_f32

/-- Heads' rows with one value each, spread over the heads' columns. -/
def spread (y : FVec Ideal S4x8x4096x1 .f32) : FVec Ideal S4x4096x512 .f32 :=
  shapeCast S4x4096x512 (transpose S4x4096x8x64 [0, 2, 1, 3]
    (broadcastInDim S4x8x4096x64 ![0, 1, 2, 3] bcast_S4x8x4096x1_S4x8x4096x64_0_1_2_3 y)
    transposes_S4x8x4096x64_S4x4096x8x64_0_2_1_3) shapeCasts_S4x4096x8x64_S4x4096x512

/-- Their log-sum-exps. -/
def eV : FVec Ideal S4x4096x512 .f32 := spread (addf (mV A) (Host.log (dV A)))

theorem rel_at (i j : Fin 4096) : rel (ix2 i j) = AttnClass.rel i j := by
  unfold AttnClass.rel
  pointwise [rel]
  rfl

theorem idxV_at (i j : Fin 4096) : idxV (ix3 i j 0) = AttnClass.word 4#32 (AttnClass.rel i j) := by
  have h : idxV (ix3 i j 0) = AttnSpec.buck bcast_S_S4096x4096 cl (ix2 i j) := by
    pointwise [idxV]
  rw [h]
  unfold cl
  rw [AttnClass.buck_at, rel_at]

theorem gV_at (h : Fin 8) (i j : Fin 4096) : gV A (ix3 i j h) = AttnClass.bias A (AttnClass.rel i j) h := by
  refine (gather_at A idxV i j h).trans ?_
  exact congrArg (fun w : BitVec 32 => A.rb (ix2 ⟨min w.toInt.toNat 31, by omega⟩ h)) (idxV_at i j)

theorem biasV_at (h : Fin 8) (i j : Fin 4096) : biasV A (ix3 h i j) = AttnClass.bias A (AttnClass.rel i j) h := by
  pointwise [biasV, gV_at]

theorem qV_at (r : Fin 4) (h : Fin 8) (i : Fin 4096) (d : Fin 64) : qV A (ix4 r h i d) = A.qk (ix3 r i (AttnSpec.qcol h d)) := by
  unfold AttnSpec.qcol
  pointwise [qV]
theorem kV_at (r : Fin 4) (h : Fin 8) (i : Fin 4096) (d : Fin 64) : kV A (ix4 r h i d) = A.qk (ix3 r i (AttnSpec.kcol h d)) := by
  unfold AttnSpec.kcol
  pointwise [kV]
theorem vV_at (r : Fin 4) (h : Fin 8) (i : Fin 4096) (d : Fin 64) : vV A (ix4 r h i d) = A.v (ix3 r i (AttnSpec.lane h d)) := by
  unfold AttnSpec.lane
  pointwise [vV]

theorem neg_inf : Ideal.ofBits .f32 4286578688#32 = (⊥ : EReal) := by
  simp [Ideal.ofBits, Ideal.ieee]

theorem select_if (b : BitVec 1) (P : Prop) [Decidable P] (h : b = 1#1 ↔ P) (x y : EReal) : Scalar.select b x y = if P then x else y := by
  unfold Scalar.select
  by_cases hP : P
  · exact (if_pos (h.2 hP)).trans (if_pos hP).symm
  · exact (if_neg fun e => hP (h.1 e)).trans (if_neg hP).symm

theorem lV_at (r : Fin 4) (h : Fin 8) (i j : Fin 4096) : lV A (ix4 r h i j) = AttnClass.logit A r h i j := by
  unfold AttnClass.logit
  pointwise [lV, qV_at, kV_at, biasV_at, rel_at]
  exact (select_if _ _ (AttnClass.near_iff (by decide) i j) _ _).trans (congrArg _ neg_inf)

theorem mV_at (r : Fin 4) (h : Fin 8) (i : Fin 4096) : mV A (ix4 r h i 0) = AttnSpec.top (AttnClass.logit A r h i) := by
  unfold AttnSpec.top
  rw [← neg_inf]
  pointwise [mV, lV_at]

theorem pV_at (r : Fin 4) (h : Fin 8) (i j : Fin 4096) : pV A (ix4 r h i j) = AttnSpec.wt (AttnClass.logit A r h i) j := by
  unfold AttnSpec.wt
  pointwise [pV, lV_at, mV_at]

theorem dV_at (r : Fin 4) (h : Fin 8) (i : Fin 4096) : dV A (ix4 r h i 0) = ∑ j, AttnSpec.wt (AttnClass.logit A r h i) j := by
  pointwise [dV, pV_at]

theorem oV_at (r : Fin 4) (i : Fin 4096) (e : Fin 512) (h : Fin 8) (d : Fin 64) (he : e.val = h.val * 64 + d.val) : oV A (ix3 r i e) = AttnClass.out A r h d i := by
  obtain ⟨e, hlt⟩ := e
  obtain rfl : e = h.val * 64 + d.val := he
  unfold AttnClass.out AttnSpec.mean
  pointwise [oV, pV_at, vV_at, dV_at]

theorem add_log_at (x y : FVec Ideal S4x8x4096x1 .f32) (i : S4x8x4096x1.Idx) : addf x (Host.log y) i = x i + Ideal.log (y i) := by
  pointwise

theorem le_at (r : Fin 4) (h : Fin 8) (i : Fin 4096) : addf (mV A) (Host.log (dV A)) (ix4 r h i 0) = AttnClass.outl A r h i := by
  rw [add_log_at, mV_at, dV_at]
  exact Eq.refl (AttnSpec.lse (AttnClass.logit A r h i))

theorem spread_at (r : Fin 4) (y : FVec Ideal S4x8x4096x1 .f32) (i : Fin 4096) (e : Fin 512) (h : Fin 8) (d : Fin 64) (he : e.val = h.val * 64 + d.val) :
    spread y (ix3 r i e) = y (ix4 r h i 0) := by
  obtain ⟨e, hlt⟩ := e
  obtain rfl : e = h.val * 64 + d.val := he
  pointwise [spread]

theorem eV_at (r : Fin 4) (i : Fin 4096) (e : Fin 512) (h : Fin 8) (d : Fin 64) (he : e.val = h.val * 64 + d.val) : eV A (ix3 r i e) = AttnClass.outl A r h i :=
  (spread_at r _ i e h d he).trans (le_at A r h i)

end Cert.Proof.Attn4Ref
-- ==== Proof.Attn4Claims.lean ====
/- The attention of dilation 4: the frames, `preserves`, and the value claim. -/
module

public import proofs.«01_k».proof.Defs
public import proofs.«01_k».proof.Proof.Gen.Attn4
public import proofs.«01_k».proof.Proof.Gen.Pre_band_tables_d4
public import proofs.«01_k».proof.Proof.Attn4Run
public import proofs.«01_k».proof.Proof.Attn4Ref
public import proofs.«01_k».proof.Proof.Gen.Attn4ReferenceIdeal.Run
public import Idealize.ShloMosaic.Lib.Claim

@[expose] public section

set_option maxRecDepth 16384

noncomputable section

namespace Cert.Proof.Attn4Claims

open Idealize.ShloMosaic Idealize.ShloMosaic.TcCoe Idealize.SL.Sem

theorem defs_eq : Cert.Attn4.defs (F := Bits) = Cert.Attn4Ideal.defs (F := Bits) := by
  refine congrArg (Pipeline.defs Cert.Attn4Ideal.pcfgs) ?_
  funext p l a
  cases p
  · match l, a with
    | ⟨0, _⟩, _ => rfl
  all_goals rfl

/-- The kernel at the machine's floats. -/
theorem frame_kernel : Cert.quiescent_Attn4 := fun m ρ _ => by
  have h := Cert.Attn4Ideal.Gen.frame (F := Bits) m ρ
  rw [← defs_eq] at h
  exact h

/-- The kernel at the extended reals. -/
theorem frame_ideal : Cert.quiescent_Attn4Ideal := fun m ρ _ => Cert.Attn4Ideal.Gen.frame m ρ

theorem frame_ideal_pre : Cert.quiescent_Attn4Ideal_pre_band_tables_d4 := fun m ρ _ => Cert.Attn4Ideal.Gen.frame m ρ

/-- The reference declares no semaphore, and its run leaves its arguments as they were. -/
theorem frame_reference : Cert.quiescent_Attn4ReferenceIdeal := fun m ρ _ =>
  (θ_run Cert.Attn4ReferenceIdeal.defs _ _).mono (fun r h => ⟨fun c => (h c).2.2,
      Idealize.ShloMosaic.sem_eq_zero_of_no_sems (by decide) r.2⟩)
    (Cert.Attn4ReferenceIdeal.Value.run (F := Ideal) m ρ)

theorem frame_reference_pre : Cert.quiescent_Attn4ReferenceIdeal_pre_band_tables_d4 := fun m ρ _ => frame_reference m ρ trivial

/-- Nothing was rewritten between the kernel and its idealization. -/
theorem preserves : Cert.preserves_Attn4_Attn4Ideal := trivial

theorem true_of_bit (p : Bool) (h : BitVec.ofBool p = 1#1) : p = true := by
  revert h
  cases p <;> decide

/-- The precondition at an element: the table there is the one the band names. -/
theorem pre_at (A : AttnClass.Args 4 4096 4#32) (h : Cert.Pre_band_tables_d4.fn (F := Ideal) A.qk A.v A.tab A.rb = fun _ => 1#1) (i : (⟨4, ![3, 4, 256, 256]⟩ : Shape).Idx) :
    A.tab i = Attn4Table.want A i := by
  have e := congrFun ((Attn4Table.fn_eq A A.qk A.v).symm.trans h) i
  exact of_decide_eq_true (true_of_bit _ e)

theorem tables (m : (ℓ : Loc Cert.Attn4Ideal.nD Cert.Attn4Ideal.τ Cert.Attn4Ideal.sig) → Buf (Elt Ideal) ℓ)
    (h : Cert.Pre_Attn4Ideal_band_tables_d4 m) (c : Dev Cert.Attn4Ideal.nD) :
    ∀ i, (Attn4Run.kargs m c).tab i = Attn4Table.want (Attn4Run.kargs m c) i :=
  pre_at (Attn4Run.kargs m c) (h c)

/-- The reference's arguments, as the specification reads them. -/
def args (m : (ℓ : Loc Cert.Attn4ReferenceIdeal.nD Cert.Attn4ReferenceIdeal.τ Cert.Attn4ReferenceIdeal.sig) → Buf (Elt Ideal) ℓ)
    (c : Dev Cert.Attn4ReferenceIdeal.nD) : AttnClass.Args 4 4096 4#32 where
  qk := m (c.tc.loc Cert.Attn4ReferenceIdeal.main_arg0)
  v := m (c.tc.loc Cert.Attn4ReferenceIdeal.main_arg1)
  tab := m (c.tc.loc Cert.Attn4ReferenceIdeal.main_arg2)
  rb := m (c.tc.loc Cert.Attn4ReferenceIdeal.main_arg3)

/-- The kernel's two results are the reference's. -/
theorem algebraic : Cert.algebraic_Attn4Ideal_Attn4ReferenceIdeal_pre_band_tables_d4 := by
  intro m ρ m' ρ' hpre hagree
  refine ⟨_, _, Cert.Attn4Ideal.Value.run_blocks (F := Ideal) m ρ, ?_⟩
  refine (θ_run Cert.Attn4ReferenceIdeal.defs _ _).mono (fun r h c => ?_)
    (Cert.Attn4ReferenceIdeal.Value.run (F := Ideal) m' ρ')
  obtain ⟨h0, h1, hk⟩ := h c
  have hA : args m' c = Attn4Run.kargs m c := by
    obtain ⟨a0, a1, a2, a3⟩ := hagree c
    unfold args Attn4Run.kargs
    rw [a0, a1, a2, a3]
  have h0' : _ = Attn4Ref.oV (args m' c) := h0.trans rfl
  have h1' : _ = Attn4Ref.eV (args m' c) := h1.trans rfl
  rw [hA] at h0' h1'
  have ht := tables m hpre c
  refine ⟨h0'.trans ?_, h1'.trans ?_, hk⟩
  · rw [Attn4Run.final_o m c ht]
    funext i
    idx_vars i
    exact Attn4Ref.oV_at _ i0 i1 i2 ⟨i2.val / 64, by omega⟩ ⟨i2.val % 64, Nat.mod_lt _ (by decide)⟩ (Nat.div_add_mod' _ _).symm
  · rw [Attn4Run.final_l m c ht]
    funext i
    idx_vars i
    exact Attn4Ref.eV_at _ i0 i1 i2 ⟨i2.val / 64, by omega⟩ ⟨i2.val % 64, Nat.mod_lt _ (by decide)⟩ (Nat.div_add_mod' _ _).symm

end Cert.Proof.Attn4Claims

end
-- ==== Proof.Attn16Point.lean ====
/- The attention's call of dilation 16: a trip of its loop, and the trips' places. -/
module

public import proofs.«01_k».proof.Proof.Gen.Attn16Ideal.Value
public import proofs.«01_k».proof.Proof.AttnClass
public import proofs.«01_k».proof.Proof.AttnPoint
public import Idealize.ShloMosaic.Lib.Claim
public import Idealize.ShloMosaic.Lib.Pointwise
public import Idealize.ShloMosaic.Lib.ValueIdx
public import Idealize.ShloMosaic.Lib.WholeRead
public import Idealize.ShloMosaic.Lib.KernelVsHost
public import Idealize.ShloMosaic.Lib.Pipeline.ValueKit

@[expose] public section

set_option maxRecDepth 16384

noncomputable section

namespace Cert.Proof.Attn16Point

open Cert.Attn16Ideal Cert.Attn16Ideal.Gen Cert.Attn16Ideal.Value
open Idealize.ShloMosaic Idealize.ShloMosaic.TcCoe Idealize.SL.Sem
open Cert.Proof

/-! ## One trip: the same computation as without dilation -/

section Trip

variable (qw : Vec Ideal S1x128x128 .bf16) (kw vw : Vec Ideal S1x256x128 .bf16) (tw : Vec Ideal S1x1x256x256 .f32)

theorem o_at (sd : Fin 2) (q : Fin 128) (b : Fin 128) (hb : sd.val = b.val / 64) :
    k0_pay3 (k0_pay5 vw) (k0_pay8 k0_pay1 qw kw tw) (ix3 0 q b) = AttnSpec.mean (AttnPoint.row qw kw tw sd q) fun x => vw (ix3 0 x b) :=
  AttnPoint.o_at qw kw vw tw sd q b hb

theorem l_at (sd : Fin 2) (q : Fin 128) (b : Fin 128) (hb : sd.val = b.val / 64) :
    k0_pay4 (k0_pay7 k0_pay1 qw kw tw) (k0_pay8 k0_pay1 qw kw tw) (ix3 0 q b) = AttnSpec.lse (AttnPoint.row qw kw tw sd q) :=
  AttnPoint.l_at qw kw tw sd q b hb

end Trip

/-! ## The trips' places -/

theorem trips_eq : k0_t1_loop.trips = 8 := by decide

/-- The query block of trip `k` at point `t`. -/
def blk (t : Fin cfg0.N) (k : Fin k0_t1_loop.trips) : Nat := 0 * 8 + k.val

/-- Where its window of keys starts. -/
def start (n : Nat) : Nat := if n = 0 then 0 else if n = 7 then 768 else n * 128 - 64

/-- Which table it reads. -/
def table (n : Nat) : Nat := if n = 0 then 0 else if n = 7 then 2 else 1

theorem off1_at : ∀ k : Fin k0_t1_loop.trips, k0_off1 k = ![0, 128 * k.val, 0] := by decide +kernel

theorem off2_at : ∀ (t : Fin cfg0.N) (k : Fin k0_t1_loop.trips), k0_off2 (grid0.coords t) k = ![0, start (blk t k), 0] := by decide +kernel

theorem off3_at : ∀ (t : Fin cfg0.N) (k : Fin k0_t1_loop.trips), k0_off3 (grid0.coords t) k = ![table (blk t k), 0, 0, 0] := by decide +kernel

theorem idxIn : ∀ t : Fin cfg0.N, win0_0.index t = ![t.val / 4, 0, t.val % 4] ∧ win0_1.index t = ![t.val / 4, 0, 4 + t.val % 4] ∧
    win0_2.index t = ![t.val / 4, 0, t.val % 4] ∧ win0_3.index t = ![0, t.val % 4, 0, 0] := by
  decide +kernel

theorem idxOut : ∀ t : Fin cfg0.N, win0_4.index t = ![t.val / 4, 0, t.val % 4] ∧ win0_5.index t = ![t.val / 4, 0, t.val % 4] := by
  decide +kernel

theorem ld_unread {s : Shape} {e : EltTy} {m : Memref sig .tc .vmem s e} (h : m.IsWhole) (X : Vec Ideal s e) (R : Rect s) :
    View.readAt (Elt Ideal) m.view R.toLoadRect (h.unread X) = View.ld X R :=
  funext fun x => Memref.IsWhole.readAt_unread h X R.toLoadRect x

section Pieces

variable (c : Dev nD) (i : grid0.Coords) (arg3 : Memref sig .tc .vmem S1x1024x128 .bf16) (harg3 : arg3.IsWhole) (arg4 : Memref sig .tc .vmem S1x1024x128 .bf16) (harg4 : arg4.IsWhole)
  (arg5 : Memref sig .tc .vmem S1x1024x128 .bf16) (harg5 : arg5.IsWhole) (arg6 : Memref sig .tc .vmem S3x1x256x256 .f32) (harg6 : arg6.IsWhole)
  (arg7 : Memref sig .tc .vmem S1x1024x128 .bf16) (harg7 : arg7.IsWhole) (arg8 : Memref sig .tc .vmem S1x1024x128 .f32) (harg8 : arg8.IsWhole) (a2 : BitVec 32)
  (x0 : Vec Ideal S1x1024x128 .bf16) (x1 x2 : Vec Ideal S1x1024x128 .bf16) (x3 : Vec Ideal S3x1x256x256 .f32)

theorem piece_o (k : Fin k0_t1_loop.trips) :
    (tripL_k0_t1 (F := Ideal) Variants.none c none i arg3 harg3 arg4 harg4 arg5 harg5 arg6 harg6 arg7 harg7 arg8 harg8 a2
      (harg3.unread x0) (harg4.unread x1) (harg5.unread x2) (harg6.unread x3) k)
      = ([⟨Rect.unit (s := S1x1024x128) (k0_off1 k) S1x128x128.size (k0_off1_inb k),
        k0_pay3 (k0_pay5 (View.ld x2 (Rect.unit (s := S1x1024x128) (k0_off2 i k) S1x256x128.size (k0_off2_inb i k))))
          (k0_pay8 k0_pay1 (View.ld x0 (Rect.unit (s := S1x1024x128) (k0_off1 k) S1x128x128.size (k0_off1_inb k)))
            (View.ld x1 (Rect.unit (s := S1x1024x128) (k0_off2 i k) S1x256x128.size (k0_off2_inb i k)))
            (View.ld x3 (Rect.unit (s := S3x1x256x256) (k0_off3 i k) S1x1x256x256.size (k0_off3_inb i k))))⟩],
        [⟨Rect.unit (s := S1x1024x128) (k0_off1 k) S1x128x128.size (k0_off1_inb k),
        k0_pay4 (k0_pay7 k0_pay1 (View.ld x0 (Rect.unit (s := S1x1024x128) (k0_off1 k) S1x128x128.size (k0_off1_inb k)))
            (View.ld x1 (Rect.unit (s := S1x1024x128) (k0_off2 i k) S1x256x128.size (k0_off2_inb i k)))
            (View.ld x3 (Rect.unit (s := S3x1x256x256) (k0_off3 i k) S1x1x256x256.size (k0_off3_inb i k))))
          (k0_pay8 k0_pay1 (View.ld x0 (Rect.unit (s := S1x1024x128) (k0_off1 k) S1x128x128.size (k0_off1_inb k)))
            (View.ld x1 (Rect.unit (s := S1x1024x128) (k0_off2 i k) S1x256x128.size (k0_off2_inb i k)))
            (View.ld x3 (Rect.unit (s := S3x1x256x256) (k0_off3 i k) S1x1x256x256.size (k0_off3_inb i k))))⟩]) := by
  unfold tripL_k0_t1 trip_k0_t1
  dsimp only
  unfold trip_k0_t1.sl.r trip_k0_t1.sl.r_1 trip_k0_t1.sl.r_2
  rw [ld_unread harg5, ld_unread harg3, ld_unread harg4, ld_unread harg6]

end Pieces

end Cert.Proof.Attn16Point
-- ==== Proof.Attn16Table.lean ====
/- What the precondition says of the tables of dilation 16: the offset of each relative position in the band, −∞ outside. -/
module

public import proofs.«01_k».proof.Proof.Gen.Pre_band_tables_d16
public import proofs.«01_k».proof.Proof.AttnClass
public import proofs.«01_k».proof.Proof.TailClaims

@[expose] public section

set_option maxRecDepth 16384

noncomputable section

namespace Cert.Proof.Attn16Table

open Cert.Pre_band_tables_d16 Cert.Pre_band_tables_d16.Facts
open Cert.Proof
open Idealize.ShloMosaic

variable (A : AttnClass.Args 16 1024 16#32)

theorem gather_at (I : IVec S3x128x256x1 32) (v : Fin 3) (q : Fin 128) (x : Fin 256) (h : Fin 8) :
    Host.gather gather_S32x8_S3x128x256x1_S3x128x256x8_3_0_n_n_0_3_18 A.rb I (ix4 v q x h)
      = A.rb (ix2 ⟨min (I (ix4 v q x 0)).toInt.toNat 31, by omega⟩ h) := by
  unfold Host.gather
  refine congrArg A.rb (funext fun a => Fin.ext ?_)
  match a with
  | ⟨0, _⟩ =>
    show GatherDims.start _ _ I 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x8_S3x128x256x1_S3x128x256x8_3_0_n_n_0_3_18.startIndexMap from List.mem_singleton.mpr rfl)]
    have hs : GatherDims.siIdx gather_S32x8_S3x128x256x1_S3x128x256x8_3_0_n_n_0_3_18 (ix4 v q x h) ⟨0, Nat.one_pos⟩ = ix4 v q x 0 := by
      funext b
      refine Fin.ext ?_
      match b with
      | ⟨0, _⟩ => rfl
      | ⟨1, _⟩ => rfl
      | ⟨2, _⟩ => rfl
      | ⟨3, _⟩ => rfl
    exact congrArg (fun i => min (I i).toInt.toNat 31) hs
  | ⟨1, _⟩ =>
    show GatherDims.start _ _ I 1 + GatherDims.batchCoord _ _ 1 + GatherDims.offCoord _ _ 1 = _
    rw [GatherDims.batchCoord_eq_zero _ _ _ List.not_mem_nil]
    unfold GatherDims.start
    rw [dif_neg (by show (1 : Fin 2) ∉ [(0 : Fin 2)]; decide)]
    exact (Nat.zero_add _).trans rfl

/-- The relative positions in a window: of key `x` from query `q`, the window starting `64 v` keys before the queries. -/
def rel : IVec S3x128x256 32 :=
  subi (broadcastInDim S3x128x256 ![0, 1, 2] bcast_S3x1x256_S3x128x256_0_1_2
      (subi (broadcastInDim S3x1x256 ![0, 1, 2] bcast_S1x1x256_S3x1x256_0_1_2 (broadcastInDim S1x1x256 ![2] bcast_S256_S1x1x256_2 (iotaInDim S256 32 0)))
        (broadcastInDim S3x1x256 ![0, 1, 2] bcast_S3x1x1_S3x1x256_0_1_2
          (muli (broadcastInDim S3x1x1 ![] bcast_S_S3x1x1 (constantI S_ 32 64#32)) (broadcastInDim S3x1x1 ![0] bcast_S3_S3x1x1_0 (iotaInDim S3 32 0))))))
    (broadcastInDim S3x128x256 ![0, 1, 2] bcast_S1x128x1_S3x128x256_0_1_2 (broadcastInDim S1x128x1 ![1] bcast_S128_S1x128x1_1 (iotaInDim S128 32 0)))

/-- The tables the precondition names. -/
def want : FVec Ideal S3x4x256x256 .f32 :=
  shapeCast S3x4x256x256 (transpose S3x8x128x256 [0, 3, 1, 2] (select
      (broadcastInDim S3x128x256x8 ![0, 1, 2, 3] bcast_S3x128x256x1_S3x128x256x8_0_1_2_3
        (broadcastInDim S3x128x256x1 ![0, 1, 2] bcast_S3x128x256_S3x128x256x1_0_1_2
          (cmpi .sle (absi rel) (broadcastInDim S3x128x256 ![] bcast_S_S3x128x256 (constantI S_ 32 64#32)))))
      (Host.gather gather_S32x8_S3x128x256x1_S3x128x256x8_3_0_n_n_0_3_18 (show FVec Ideal S32x8 .f32 from A.rb)
        (broadcastInDim S3x128x256x1 ![0, 1, 2] bcast_S3x128x256_S3x128x256x1_0_1_2
          (AttnSpec.buck bcast_S_S3x128x256 (AttnClass.dist bcast_S_S3x128x256 16#32 rel))))
      (broadcastInDim S3x128x256x8 ![] bcast_S_S3x128x256x8 (constant S_ .f32 0xFF800000#32)))
    transposes_S3x128x256x8_S3x8x128x256_0_3_1_2) shapeCasts_S3x8x128x256_S3x4x256x256

theorem fn_eq (q : FVec Ideal S16x1024x1024 .bf16) (v : FVec Ideal S16x1024x512 .bf16) :
    fn (F := Ideal) q v (show FVec Ideal S3x4x256x256 .f32 from A.tab) (show FVec Ideal S32x8 .f32 from A.rb)
      = cmpf .oeq (show FVec Ideal S3x4x256x256 .f32 from A.tab) (want A) := rfl

/-- A relative position in a window. -/
def word (v : Fin 3) (q : Fin 128) (x : Fin 256) : BitVec 32 :=
  BitVec.ofNat 32 x.val - 64#32 * BitVec.ofNat 32 v.val - BitVec.ofNat 32 q.val

theorem rel_at (v : Fin 3) (q : Fin 128) (x : Fin 256) : rel (ix3 v q x) = word v q x := by
  unfold word
  pointwise [rel]
  rfl

theorem want_at (v : Fin 3) (p : Fin 4) (sd : Fin 2) (q : Fin 128) (x : Fin 256) (r : Fin 256) (hr : r.val = sd.val * 128 + q.val) (h : Fin 8)
    (hh : h.val = p.val * 2 + sd.val) :
    want A (ix4 v p r x) = if IntOp.cmpi .sle (IntOp.absi (word v q x)) 64#32 = 1#1 then AttnClass.bias A (word v q x) h else ⊥ := by
  unfold AttnClass.bias
  obtain ⟨r, hlt⟩ := r
  obtain rfl : r = sd.val * 128 + q.val := hr
  pointwise [want]
  rw [gather_at]
  pointwise [AttnClass.buck_at, rel_at]
  have hf : Ideal.ofBits .f32 4286578688#32 = (⊥ : EReal) := by simp [Ideal.ofBits, Ideal.ieee]
  have he : (⟨p.val * 2 + (sd.val * 128 + q.val) / 128, by omega⟩ : Fin 8) = h := Fin.ext (by show p.val * 2 + (sd.val * 128 + q.val) / 128 = h.val; omega)
  rw [he, hf]
  rfl

/-- The table's entry, for a window that starts `st` keys into the sequence and `64 v` before its queries. -/
theorem tab_at (ht : ∀ i, A.tab i = want A i) (st n : Nat) (v : Fin 3) (p : Fin 4) (sd : Fin 2) (q : Fin 128) (x : Fin 256) (r : Fin 256)
    (hr : r.val = sd.val * 128 + q.val) (h : Fin 8) (hh : h.val = p.val * 2 + sd.val) (i j : Fin 1024) (hn : st + 64 * v.val = n)
    (hi : i.val = n + q.val) (hj : j.val = st + x.val) :
    A.tab (ix4 v p r x) = if AttnClass.near i j then AttnClass.bias A (AttnClass.rel i j) h else ⊥ := by
  have hw : word v q x = AttnClass.rel i j := (AttnClass.rel_window st n v.val x.val q.val i j hn hi hj).symm
  rw [ht, want_at A v p sd q x r hr h hh, hw]
  exact if_congr (AttnClass.near_iff (by decide) i j) rfl rfl

end Cert.Proof.Attn16Table
-- ==== Proof.Attn16Run.lean ====
/- The attention's call of dilation 16: the loop's pieces against the specification, and the two results after the run. -/
module

public import proofs.«01_k».proof.Proof.Attn16Point
public import proofs.«01_k».proof.Proof.Attn16Table

@[expose] public section

set_option maxRecDepth 16384

noncomputable section

namespace Cert.Proof.Attn16Run

open Cert.Attn16Ideal Cert.Attn16Ideal.Gen Cert.Attn16Ideal.Value
open Idealize.ShloMosaic Idealize.ShloMosaic.TcCoe Idealize.SL.Sem
open Cert.Proof Cert.Proof.Attn16Point

variable (m : (ℓ : Loc nD τ sig) → Buf (Elt Ideal) ℓ) (c : Dev nD) (t : Fin cfg0.N)

/-- The call's arguments, as the specification reads them. -/
def kargs : AttnClass.Args 16 1024 16#32 where
  qk := m ((c : Thread nD τ).loc main_arg0)
  v := m ((c : Thread nD τ).loc main_arg1)
  tab := m ((c : Thread nD τ).loc main_arg2)
  rb := m ((c : Thread nD τ).loc main_arg3)

theorem lt_t : t.val < 64 := t.isLt

/-- A point's class. -/
def cl : Fin 16 := ⟨t.val / 4, by have := lt_t t; omega⟩

theorem lt_k (k : Fin k0_t1_loop.trips) : k.val < 8 := lt_of_lt_of_eq k.isLt trips_eq

theorem blk_lt (k : Fin k0_t1_loop.trips) : blk t k < 8 := by
  have := lt_k k
  unfold blk
  omega

abbrev qT : Vec Ideal S1x1024x128 .bf16 := iblk m c 0 t
abbrev kT : Vec Ideal S1x1024x128 .bf16 := iblk m c 1 t
abbrev vT : Vec Ideal S1x1024x128 .bf16 := iblk m c 2 t
abbrev tT : Vec Ideal S3x1x256x256 .f32 := iblk m c 3 t

theorem b0 (r : Fin 1024) (l : Fin 128) : qT m c t (ix3 0 r l) =
    (kargs m c).qk (ix3 (cl t) ⟨1024 * 0 + r.val, by omega⟩ ⟨128 * (t.val % 4) + l.val, by have := lt_t t; omega⟩) := by
  unfold kargs cl; blk_point [iblk, V_main_arg0 m c, idxIn t]
theorem b1 (j : Fin 1024) (l : Fin 128) : kT m c t (ix3 0 j l) =
    (kargs m c).qk (ix3 (cl t) j ⟨128 * (4 + t.val % 4) + l.val, by have := lt_t t; omega⟩) := by
  unfold kargs cl; blk_point [iblk, V_main_arg0 m c, idxIn t]
theorem b2 (j : Fin 1024) (l : Fin 128) : vT m c t (ix3 0 j l) =
    (kargs m c).v (ix3 (cl t) j ⟨128 * (t.val % 4) + l.val, by have := lt_t t; omega⟩) := by
  unfold kargs cl; blk_point [iblk, V_main_arg1 m c, idxIn t]
theorem b3 (v : Fin 3) (r x : Fin 256) : tT m c t (ix4 v 0 r x) =
    (kargs m c).tab (ix4 v ⟨t.val % 4, by have := lt_t t; omega⟩ r x) := by
  unfold kargs; blk_point [iblk, V_main_arg2 m c, idxIn t]

/-! ## What a trip reads -/

section Loads

variable (k : Fin k0_t1_loop.trips)

theorem start_lt (n : Nat) (hn : n < 8) (x : Fin 256) : start n + x.val < 1024 := by
  unfold start
  split_ifs <;> omega

theorem table_lt (n : Nat) : table n < 3 := by
  unfold table
  split_ifs <;> omega

theorem start_table (n : Nat) (hn : n < 8) : start n + 64 * table n = 128 * n := by
  unfold start table
  split_ifs <;> omega

/-- A key of the window, as a position of the sequence. -/
def g (x : Fin 256) : Fin 1024 := ⟨start (blk t k) + x.val, start_lt _ (blk_lt t k) x⟩

theorem g_inj : Function.Injective (g t k) := fun x y h => Fin.ext (by
  have h' : start (blk t k) + x.val = start (blk t k) + y.val := congrArg Fin.val h
  omega)

abbrev qL (x0 : Vec Ideal S1x1024x128 .bf16) : Vec Ideal S1x128x128 .bf16 :=
  View.ld x0 (Rect.unit (s := S1x1024x128) (k0_off1 k) S1x128x128.size (k0_off1_inb k))
abbrev kL (x1 : Vec Ideal S1x1024x128 .bf16) : Vec Ideal S1x256x128 .bf16 :=
  View.ld x1 (Rect.unit (s := S1x1024x128) (k0_off2 (grid0.coords t) k) S1x256x128.size (k0_off2_inb (grid0.coords t) k))
abbrev tL (x3 : Vec Ideal S3x1x256x256 .f32) : Vec Ideal S1x1x256x256 .f32 :=
  View.ld x3 (Rect.unit (s := S3x1x256x256) (k0_off3 (grid0.coords t) k) S1x1x256x256.size (k0_off3_inb (grid0.coords t) k))

theorem qL_at (x0 : Vec Ideal S1x1024x128 .bf16) (q l : Fin 128) :
    qL k x0 (ix3 0 q l) = x0 (ix3 0 ⟨128 * k.val + q.val, by have := lt_k k; omega⟩ l) := by
  refine congrArg x0 (funext fun a => Fin.ext ?_)
  match a with
  | ⟨0, _⟩ => show k0_off1 k 0 + 1 * 0 = 0; rw [off1_at]; rfl
  | ⟨1, _⟩ => show k0_off1 k 1 + 1 * q.val = 128 * k.val + q.val; rw [off1_at, Nat.one_mul]; rfl
  | ⟨2, _⟩ => show k0_off1 k 2 + 1 * l.val = l.val; rw [off1_at, Nat.one_mul]; exact Nat.zero_add _

theorem kL_at (x1 : Vec Ideal S1x1024x128 .bf16) (x : Fin 256) (l : Fin 128) :
    kL t k x1 (ix3 0 x l) = x1 (ix3 0 (g t k x) l) := by
  refine congrArg x1 (funext fun a => Fin.ext ?_)
  match a with
  | ⟨0, _⟩ => show k0_off2 (grid0.coords t) k 0 + 1 * 0 = 0; rw [off2_at]; rfl
  | ⟨1, _⟩ => show k0_off2 (grid0.coords t) k 1 + 1 * x.val = start (blk t k) + x.val; rw [off2_at, Nat.one_mul]; rfl
  | ⟨2, _⟩ => show k0_off2 (grid0.coords t) k 2 + 1 * l.val = l.val; rw [off2_at, Nat.one_mul]; exact Nat.zero_add _

theorem tL_at (x3 : Vec Ideal S3x1x256x256 .f32) (r x : Fin 256) :
    tL t k x3 (ix4 0 0 r x) = x3 (ix4 ⟨table (blk t k), table_lt _⟩ 0 r x) := by
  refine congrArg x3 (funext fun a => Fin.ext ?_)
  match a with
  | ⟨0, _⟩ => show k0_off3 (grid0.coords t) k 0 + 1 * 0 = table (blk t k); rw [off3_at]; rfl
  | ⟨1, _⟩ => show k0_off3 (grid0.coords t) k 1 + 1 * 0 = 0; rw [off3_at]; rfl
  | ⟨2, _⟩ => show k0_off3 (grid0.coords t) k 2 + 1 * r.val = r.val; rw [off3_at, Nat.one_mul]; exact Nat.zero_add _
  | ⟨3, _⟩ => show k0_off3 (grid0.coords t) k 3 + 1 * x.val = x.val; rw [off3_at, Nat.one_mul]; exact Nat.zero_add _

/-- The head of a half of the lanes, and the query of a row of the trip. -/
def hd (sd : Fin 2) : Fin 8 := ⟨t.val % 4 * 2 + sd.val, by have := lt_t t; omega⟩

def qy (q : Fin 128) : Fin 1024 := ⟨128 * blk t k + q.val, by have := blk_lt t k; omega⟩

variable (ht : ∀ i, (kargs m c).tab i = Attn16Table.want (kargs m c) i)
include ht

theorem row_at (sd : Fin 2) (q : Fin 128) (x : Fin 256) :
    AttnPoint.row (qL k (qT m c t)) (kL t k (kT m c t)) (tL t k (tT m c t)) sd q x = AttnClass.logit (kargs m c) (cl t) (hd t sd) (qy t k q) (g t k x) := by
  have htt := lt_t t
  unfold AttnPoint.row AttnClass.logit
  rw [tL_at, b3, Attn16Table.tab_at (kargs m c) ht (start (blk t k)) (128 * blk t k) ⟨table (blk t k), table_lt _⟩ ⟨t.val % 4, by omega⟩ sd q x
    ⟨sd.val * 128 + q.val, by omega⟩ rfl (hd t sd) rfl (qy t k q) (g t k x) (start_table _ (blk_lt t k)) rfl rfl]
  by_cases hn : AttnClass.near (qy t k q) (g t k x)
  · rw [if_pos hn, if_pos hn]
    refine congrArg (· + _) (Finset.sum_congr rfl fun d _ => ?_)
    rw [qL_at, kL_at, b0, b1]
    refine congrArg₂ (fun a b => (kargs m c).qk a * (kargs m c).qk b) ?_ ?_
    · refine congrArg₂ (ix3 (cl t)) (Fin.ext ?_) (Fin.ext ?_)
      · show 1024 * 0 + (128 * k.val + q.val) = 128 * (0 * 8 + k.val) + q.val
        omega
      · show 128 * (t.val % 4) + (sd.val * 64 + d.val) = (t.val % 4 * 2 + sd.val) * 64 + d.val
        omega
    · refine congrArg (ix3 (cl t) (g t k x)) (Fin.ext ?_)
      show 128 * (4 + t.val % 4) + (sd.val * 64 + d.val) = 512 + ((t.val % 4 * 2 + sd.val) * 64 + d.val)
      omega
  · rw [if_neg hn, if_neg hn, EReal.add_bot]

theorem away (h : Fin 8) (q : Fin 128) (j : Fin 1024) (hj : ∀ x, g t k x ≠ j) : AttnClass.logit (kargs m c) (cl t) h (qy t k q) j = ⊥ := by
  refine if_neg fun hn => ?_
  have hb := blk_lt t k
  have hn1 : j.val ≤ (128 * blk t k + q.val) + 64 := hn.1
  have hn2 : 128 * blk t k + q.val ≤ j.val + 64 := hn.2
  have hs : start (blk t k) ≤ j.val ∧ j.val < start (blk t k) + 256 := by
    have := j.isLt
    unfold start
    split_ifs <;> omega
  exact hj ⟨j.val - start (blk t k), by omega⟩ (Fin.ext (by show start (blk t k) + (j.val - start (blk t k)) = j.val; omega))

theorem trip_o (sd : Fin 2) (q b : Fin 128) (hb : sd.val = b.val / 64) :
    k0_pay3 (k0_pay5 (kL t k (vT m c t))) (k0_pay8 k0_pay1 (qL k (qT m c t)) (kL t k (kT m c t)) (tL t k (tT m c t))) (ix3 0 q b) =
      AttnClass.out (kargs m c) (cl t) (hd t sd) ⟨b.val % 64, by omega⟩ (qy t k q) := by
  rw [o_at _ _ _ _ sd q b hb, funext fun x => row_at m c t k ht sd q x]
  unfold AttnClass.out
  rw [AttnSpec.mean_window (g t k) (g_inj t k) _ (away m c t k ht (hd t sd) q)]
  refine congrArg (AttnSpec.mean _) (funext fun x => ?_)
  rw [kL_at, b2]
  refine congrArg (fun a => (kargs m c).v (ix3 (cl t) (g t k x) a)) (Fin.ext ?_)
  show 128 * (t.val % 4) + b.val = (t.val % 4 * 2 + sd.val) * 64 + b.val % 64
  omega

theorem trip_l (sd : Fin 2) (q b : Fin 128) (hb : sd.val = b.val / 64) :
    k0_pay4 (k0_pay7 k0_pay1 (qL k (qT m c t)) (kL t k (kT m c t)) (tL t k (tT m c t)))
      (k0_pay8 k0_pay1 (qL k (qT m c t)) (kL t k (kT m c t)) (tL t k (tT m c t))) (ix3 0 q b) =
      AttnClass.outl (kargs m c) (cl t) (hd t sd) (qy t k q) := by
  rw [l_at _ _ _ sd q b hb, funext fun x => row_at m c t k ht sd q x]
  unfold AttnClass.outl
  rw [AttnSpec.lse_window (g t k) (g_inj t k) _ (away m c t k ht (hd t sd) q)]

end Loads

/-! ## What a point leaves -/

/-- A head's half of the lanes, and its column. -/
def side (b : Fin 128) : Fin 2 := ⟨b.val / 64, by omega⟩

def G4 (y : S1x1024x128.Idx) : EReal :=
  AttnClass.out (kargs m c) (cl t) (hd t (side (y 2))) ⟨(y 2).val % 64, Nat.mod_lt _ (by decide)⟩ ⟨1024 * 0 + (y 1).val, by
    have h : (y 1).val < 1024 := (y 1).isLt
    omega⟩

def G5 (y : S1x1024x128.Idx) : EReal :=
  AttnClass.outl (kargs m c) (cl t) (hd t (side (y 2))) ⟨1024 * 0 + (y 1).val, by
    have h : (y 1).val < 1024 := (y 1).isLt
    omega⟩

theorem emb_at (k : Fin k0_t1_loop.trips) (q b : Fin 128) :
    (Rect.unit (s := S1x1024x128) (k0_off1 k) S1x128x128.size (k0_off1_inb k)).emb (ix3 0 q b) =
      ix3 0 ⟨128 * k.val + q.val, by have := lt_k k; omega⟩ b := by
  refine funext fun a => Fin.ext ?_
  match a with
  | ⟨0, _⟩ => show k0_off1 k 0 + 1 * 0 = 0; rw [off1_at]; rfl
  | ⟨1, _⟩ => show k0_off1 k 1 + 1 * q.val = 128 * k.val + q.val; rw [off1_at, Nat.one_mul]; rfl
  | ⟨2, _⟩ => show k0_off1 k 2 + 1 * b.val = b.val; rw [off1_at, Nat.one_mul]; exact Nat.zero_add _

theorem qy_eq (k : Fin k0_t1_loop.trips) (q : Fin 128) (h : 1024 * 0 + (128 * k.val + q.val) < 1024) :
    qy t k q = ⟨1024 * 0 + (128 * k.val + q.val), h⟩ :=
  Fin.ext (by
    show 128 * (0 * 8 + k.val) + q.val = 1024 * 0 + (128 * k.val + q.val)
    omega)

section Pieces

variable (arg3 : Memref sig .tc .vmem S1x1024x128 .bf16) (harg3 : arg3.IsWhole) (arg4 : Memref sig .tc .vmem S1x1024x128 .bf16) (harg4 : arg4.IsWhole)
  (arg5 : Memref sig .tc .vmem S1x1024x128 .bf16) (harg5 : arg5.IsWhole) (arg6 : Memref sig .tc .vmem S3x1x256x256 .f32) (harg6 : arg6.IsWhole)
  (arg7 : Memref sig .tc .vmem S1x1024x128 .bf16) (harg7 : arg7.IsWhole) (arg8 : Memref sig .tc .vmem S1x1024x128 .f32) (harg8 : arg8.IsWhole) (a2 : BitVec 32)
  (ht : ∀ i, (kargs m c).tab i = Attn16Table.want (kargs m c) i)
include ht

theorem pieces_at (n : Nat) (hn : n ≤ k0_t1_loop.trips) :
    (∀ p ∈ (pb_k0_t1 (F := Ideal) Variants.none c none (grid0.coords t) arg3 harg3 arg4 harg4 arg5 harg5 arg6 harg6 arg7 harg7 arg8 harg8 a2
      (harg3.unread (qT m c t)) (harg4.unread (kT m c t)) (harg5.unread (vT m c t)) (harg6.unread (tT m c t)) n).1, ∀ x, p.2 x = G4 m c t (p.1.emb x)) ∧
    (∀ p ∈ (pb_k0_t1 (F := Ideal) Variants.none c none (grid0.coords t) arg3 harg3 arg4 harg4 arg5 harg5 arg6 harg6 arg7 harg7 arg8 harg8 a2
      (harg3.unread (qT m c t)) (harg4.unread (kT m c t)) (harg5.unread (vT m c t)) (harg6.unread (tT m c t)) n).2, ∀ x, p.2 x = G5 m c t (p.1.emb x)) := by
  induction n with
  | zero =>
    rw [pb_k0_t1.eq_1]
    exact ⟨fun p hp => absurd hp List.not_mem_nil, fun p hp => absurd hp List.not_mem_nil⟩
  | succ n ih =>
    obtain ⟨i1, i2⟩ := ih (by omega)
    rw [pb_k0_t1_succ (F := Ideal) Variants.none c none (grid0.coords t) arg3 harg3 arg4 harg4 arg5 harg5 arg6 harg6 arg7 harg7 arg8 harg8 a2
      (harg3.unread (qT m c t)) (harg4.unread (kT m c t)) (harg5.unread (vT m c t)) (harg6.unread (tT m c t)) ⟨n, hn⟩, piece_o]
    constructor
    · intro p hp x
      rcases List.mem_append.1 hp with hp | hp
      · obtain rfl := List.mem_singleton.1 hp
        change S1x128x128.Idx at x
        idx_vars x
        obtain rfl : x0 = 0 := Subsingleton.elim _ _
        refine (trip_o m c t ⟨n, hn⟩ ht (side x2) x1 x2 rfl).trans ?_
        rw [emb_at, qy_eq t ⟨n, hn⟩ x1 (by have := lt_k ⟨n, hn⟩; omega)]
        rfl
      · exact i1 p hp x
    · intro p hp x
      rcases List.mem_append.1 hp with hp | hp
      · obtain rfl := List.mem_singleton.1 hp
        change S1x128x128.Idx at x
        idx_vars x
        obtain rfl : x0 = 0 := Subsingleton.elim _ _
        refine (trip_l m c t ⟨n, hn⟩ ht (side x2) x1 x2 rfl).trans ?_
        rw [emb_at, qy_eq t ⟨n, hn⟩ x1 (by have := lt_k ⟨n, hn⟩; omega)]
        rfl
      · exact i2 p hp x

theorem out4_at (y : S1x1024x128.Idx) :
    out0_A_4 c (grid0.coords t) arg3 harg3 arg4 harg4 arg5 harg5 arg6 harg6 arg7 harg7 arg8 harg8 (qT m c t) (kT m c t) (vT m c t) (tT m c t) y = G4 m c t y := by
  unfold out0_A_4
  refine View.read_writes_apply_of_pieces _ _ (G4 m c t) _ ?_ y
    (cover0_A_4 c (grid0.coords t) arg3 harg3 arg4 harg4 arg5 harg5 arg6 harg6 arg7 harg7 arg8 harg8 (qT m c t) (kT m c t) (vT m c t) (tT m c t) y)
  unfold kernelRun0_A
  dsimp only
  exact (pieces_at m c t arg3 harg3 arg4 harg4 arg5 harg5 arg6 harg6 arg7 harg7 arg8 harg8 _ ht _ le_rfl).1

theorem out5_at (y : S1x1024x128.Idx) :
    out0_A_5 c (grid0.coords t) arg3 harg3 arg4 harg4 arg5 harg5 arg6 harg6 arg7 harg7 arg8 harg8 (qT m c t) (kT m c t) (vT m c t) (tT m c t) y = G5 m c t y := by
  unfold out0_A_5
  refine View.read_writes_apply_of_pieces _ _ (G5 m c t) _ ?_ y
    (cover0_A_5 c (grid0.coords t) arg3 harg3 arg4 harg4 arg5 harg5 arg6 harg6 arg7 harg7 arg8 harg8 (qT m c t) (kT m c t) (vT m c t) (tT m c t) y)
  unfold kernelRun0_A
  dsimp only
  exact (pieces_at m c t arg3 harg3 arg4 harg4 arg5 harg5 arg6 harg6 arg7 harg7 arg8 harg8 _ ht _ le_rfl).2

end Pieces

/-! ## The results after the run -/

variable (ht : ∀ i, (kargs m c).tab i = Attn16Table.want (kargs m c) i)
include ht

theorem final_o : (dats m 0 c).arrAt 4 cfg0.N = fun i => AttnClass.out (kargs m c) (i 0) ⟨(i 2).val / 64, by
    have h : (i 2).val < 512 := (i 2).isLt
    omega⟩ ⟨(i 2).val % 64, Nat.mod_lt _ (by decide)⟩ (i 1) := by
  refine (dats m 0 c).arrAt_eq_of_covers 4 _ (by decide +kernel) fun t _ y => ?_
  blk_simp
  rw [after0_4]
  refine (out4_at m c t _ _ _ _ _ _ _ _ _ _ _ _ ht y).trans ?_
  have htt := lt_t t
  idx_vars y
  unfold G4
  have h2 : win0_4.index t 2 = t.val % 4 := by rw [(idxOut t).1]; rfl
  refine congr (congr (congrArg₂ (AttnClass.out (kargs m c)) (Fin.ext ?_) (Fin.ext ?_)) (Fin.ext ?_)) (Fin.ext ?_)
  · show t.val / 4 = _
    blk_simp [idxOut t]
    try omega
  · show t.val % 4 * 2 + y2.val / 64 = (win0_4.index t 2 * 128 + y2.val) / 64
    rw [h2]
    omega
  · show y2.val % 64 = (win0_4.index t 2 * 128 + y2.val) % 64
    rw [h2]
    omega
  · show 1024 * 0 + y1.val = _
    blk_simp [idxOut t]
    omega

theorem final_l : (dats m 0 c).arrAt 5 cfg0.N = fun i => AttnClass.outl (kargs m c) (i 0) ⟨(i 2).val / 64, by
    have h : (i 2).val < 512 := (i 2).isLt
    omega⟩ (i 1) := by
  refine (dats m 0 c).arrAt_eq_of_covers 5 _ (by decide +kernel) fun t _ y => ?_
  blk_simp
  rw [after0_5]
  refine (out5_at m c t _ _ _ _ _ _ _ _ _ _ _ _ ht y).trans ?_
  have htt := lt_t t
  idx_vars y
  unfold G5
  have h2 : win0_5.index t 2 = t.val % 4 := by rw [(idxOut t).2]; rfl
  refine congr (congrArg₂ (AttnClass.outl (kargs m c)) (Fin.ext ?_) (Fin.ext ?_)) (Fin.ext ?_)
  · show t.val / 4 = _
    blk_simp [idxOut t]
    try omega
  · show t.val % 4 * 2 + y2.val / 64 = (win0_5.index t 2 * 128 + y2.val) / 64
    rw [h2]
    omega
  · show 1024 * 0 + y1.val = _
    blk_simp [idxOut t]
    omega

end Cert.Proof.Attn16Run

end
-- ==== Proof.Attn16Ref.lean ====
/- The reference's attention of dilation 16, element by element. -/
module

public import proofs.«01_k».proof.Proof.Gen.Attn16ReferenceIdeal.Run
public import proofs.«01_k».proof.Proof.AttnClass

@[expose] public section

set_option maxRecDepth 16384

noncomputable section

namespace Cert.Proof.Attn16Ref

open Cert.Attn16ReferenceIdeal Cert.Attn16ReferenceIdeal.Gen
open Cert.Proof
open Idealize.ShloMosaic Idealize.ShloMosaic.TcCoe

variable (A : AttnClass.Args 16 1024 16#32)

theorem gather_at (I : IVec S1024x1024x1 32) (i j : Fin 1024) (h : Fin 8) :
    Host.gather gather_S32x8_S1024x1024x1_S1024x1024x8_2_0_n_n_0_2_18 A.rb I (ix3 i j h)
      = A.rb (ix2 ⟨min (I (ix3 i j 0)).toInt.toNat 31, by omega⟩ h) := by
  unfold Host.gather
  refine congrArg A.rb (funext fun a => Fin.ext ?_)
  match a with
  | ⟨0, _⟩ =>
    show GatherDims.start _ _ I 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x8_S1024x1024x1_S1024x1024x8_2_0_n_n_0_2_18.startIndexMap from List.mem_singleton.mpr rfl)]
    have hs : GatherDims.siIdx gather_S32x8_S1024x1024x1_S1024x1024x8_2_0_n_n_0_2_18 (ix3 i j h) ⟨0, Nat.one_pos⟩ = ix3 i j 0 := by
      funext b
      refine Fin.ext ?_
      match b with
      | ⟨0, _⟩ => rfl
      | ⟨1, _⟩ => rfl
      | ⟨2, _⟩ => rfl
    exact congrArg (fun i => min (I i).toInt.toNat 31) hs
  | ⟨1, _⟩ =>
    show GatherDims.start _ _ I 1 + GatherDims.batchCoord _ _ 1 + GatherDims.offCoord _ _ 1 = _
    rw [GatherDims.batchCoord_eq_zero _ _ _ List.not_mem_nil]
    unfold GatherDims.start
    rw [dif_neg (by show (1 : Fin 2) ∉ [(0 : Fin 2)]; decide)]
    exact (Nat.zero_add _).trans rfl

/-- The relative positions. -/
def rel : IVec S1024x1024 32 :=
  subi (broadcastInDim S1024x1024 ![0, 1] bcast_S1x1024_S1024x1024_0_1 (broadcastInDim S1x1024 ![1] bcast_S1024_S1x1024_1 (iotaInDim S1024 32 0)))
    (broadcastInDim S1024x1024 ![0, 1] bcast_S1024x1_S1024x1024_0_1 (broadcastInDim S1024x1 ![0] bcast_S1024_S1024x1_0 (iotaInDim S1024 32 0)))

/-- The relative positions, clipped, as distances in the sequence. -/
def cl : IVec S1024x1024 32 := AttnClass.dist bcast_S_S1024x1024 16#32 rel

/-- Half of the queries and keys, head by head. -/
def qV : FVec Ideal S16x8x1024x64 .bf16 :=
  transpose S16x8x1024x64 [0, 2, 1, 3] (shapeCast S16x1024x8x64 (extractStridedSlice S16x1024x512 ![0, 0, 0] (show FVec Ideal S16x1024x1024 .bf16 from A.qk)
    slices_S16x1024x1024_S16x1024x512_0_0_0) shapeCasts_S16x1024x512_S16x1024x8x64) transposes_S16x1024x8x64_S16x8x1024x64_0_2_1_3

def kV : FVec Ideal S16x8x1024x64 .bf16 :=
  transpose S16x8x1024x64 [0, 2, 1, 3] (shapeCast S16x1024x8x64 (extractStridedSlice S16x1024x512 ![0, 0, 512] (show FVec Ideal S16x1024x1024 .bf16 from A.qk)
    slices_S16x1024x1024_S16x1024x512_0_0_512) shapeCasts_S16x1024x512_S16x1024x8x64) transposes_S16x1024x8x64_S16x8x1024x64_0_2_1_3

def vV : FVec Ideal S16x8x1024x64 .f32 :=
  extf .f32 (transpose S16x8x1024x64 [0, 2, 1, 3] (shapeCast S16x1024x8x64 (show FVec Ideal S16x1024x512 .bf16 from A.v) shapeCasts_S16x1024x512_S16x1024x8x64)
    transposes_S16x1024x8x64_S16x8x1024x64_0_2_1_3) bitsLt_bf16_f32

/-- The buckets of the relative positions. -/
def idxV : IVec S1024x1024x1 32 :=
  broadcastInDim S1024x1024x1 ![0, 1] bcast_S1024x1024_S1024x1024x1_0_1 (AttnSpec.buck bcast_S_S1024x1024 cl)

/-- Their offsets. -/
def gV : FVec Ideal S1024x1024x8 .f32 :=
  Host.gather gather_S32x8_S1024x1024x1_S1024x1024x8_2_0_n_n_0_2_18 (show FVec Ideal S32x8 .f32 from A.rb) idxV

/-- The offsets of the logits. -/
def biasV : FVec Ideal S8x1024x1024 .f32 :=
  transpose S8x1024x1024 [2, 0, 1] (gV A) transposes_S1024x1024x8_S8x1024x1024_2_0_1

/-- The logits. -/
def lV : FVec Ideal S16x8x1024x1024 .f32 :=
  select (broadcastInDim S16x8x1024x1024 ![0, 1, 2, 3] bcast_S1x1x1024x1024_S16x8x1024x1024_0_1_2_3 (broadcastInDim S1x1x1024x1024 ![2, 3]
      bcast_S1024x1024_S1x1x1024x1024_2_3 (cmpi .sle (absi rel) (broadcastInDim S1024x1024 ![] bcast_S_S1024x1024 (constantI S_ 32 64#32)))))
    (addf (Host.dotGeneral dot_S16x8x1024x64_S16x8x1024x64_S16x8x1024x1024_3_3_2_2_01_01 none (qV A) (kV A))
      (broadcastInDim S16x8x1024x1024 ![0, 1, 2, 3] bcast_S1x8x1024x1024_S16x8x1024x1024_0_1_2_3
        (broadcastInDim S1x8x1024x1024 ![1, 2, 3] bcast_S8x1024x1024_S1x8x1024x1024_1_2_3 (biasV A))))
    (broadcastInDim S16x8x1024x1024 ![] bcast_S_S16x8x1024x1024 (id (constant S_ .f32 0xFF800000#32)))

/-- The rows' largest logits. -/
def mV : FVec Ideal S16x8x1024x1 .f32 :=
  broadcastInDim S16x8x1024x1 ![0, 1, 2] bcast_S16x8x1024_S16x8x1024x1_0_1_2
    (Host.reduce FloatOps.maximumf (lV A) (constant S_ .f32 0xFF800000#32) reducesTo_S16x8x1024x1024_S16x8x1024_d3 h_S_)

/-- The weights. -/
def pV : FVec Ideal S16x8x1024x1024 .f32 :=
  Host.exp (subf (lV A) (broadcastInDim S16x8x1024x1024 ![0, 1, 2, 3] bcast_S16x8x1024x1_S16x8x1024x1024_0_1_2_3 (mV A)))

/-- Their sums. -/
def dV : FVec Ideal S16x8x1024x1 .f32 :=
  broadcastInDim S16x8x1024x1 ![0, 1, 2] bcast_S16x8x1024_S16x8x1024x1_0_1_2
    (Host.reduceAdd (pV A) (constant S_ .f32 0x00000000#32) reducesTo_S16x8x1024x1024_S16x8x1024_d3 h_S_)

/-- The attention's rows. -/
def oV : FVec Ideal S16x1024x512 .bf16 :=
  truncf .bf16 (shapeCast S16x1024x512 (transpose S16x1024x8x64 [0, 2, 1, 3]
    (Host.divf (Host.dotGeneral dot_S16x8x1024x1024_S16x8x1024x64_S16x8x1024x64_3_2_2_3_01_01 none (pV A) (vV A))
      (broadcastInDim S16x8x1024x64 ![0, 1, 2, 3] bcast_S16x8x1024x1_S16x8x1024x64_0_1_2_3 (dV A)))
    transposes_S16x8x1024x64_S16x1024x8x64_0_2_1_3) shapeCasts_S16x1024x8x64_S16x1024x512) bitsLt_bf16_f32

/-- Heads' rows with one value each, spread over the heads' columns. -/
def spread (y : FVec Ideal S16x8x1024x1 .f32) : FVec Ideal S16x1024x512 .f32 :=
  shapeCast S16x1024x512 (transpose S16x1024x8x64 [0, 2, 1, 3]
    (broadcastInDim S16x8x1024x64 ![0, 1, 2, 3] bcast_S16x8x1024x1_S16x8x1024x64_0_1_2_3 y)
    transposes_S16x8x1024x64_S16x1024x8x64_0_2_1_3) shapeCasts_S16x1024x8x64_S16x1024x512

/-- Their log-sum-exps. -/
def eV : FVec Ideal S16x1024x512 .f32 := spread (addf (mV A) (Host.log (dV A)))

theorem rel_at (i j : Fin 1024) : rel (ix2 i j) = AttnClass.rel i j := by
  unfold AttnClass.rel
  pointwise [rel]
  rfl

theorem idxV_at (i j : Fin 1024) : idxV (ix3 i j 0) = AttnClass.word 16#32 (AttnClass.rel i j) := by
  have h : idxV (ix3 i j 0) = AttnSpec.buck bcast_S_S1024x1024 cl (ix2 i j) := by
    pointwise [idxV]
  rw [h]
  unfold cl
  rw [AttnClass.buck_at, rel_at]

theorem gV_at (h : Fin 8) (i j : Fin 1024) : gV A (ix3 i j h) = AttnClass.bias A (AttnClass.rel i j) h := by
  refine (gather_at A idxV i j h).trans ?_
  exact congrArg (fun w : BitVec 32 => A.rb (ix2 ⟨min w.toInt.toNat 31, by omega⟩ h)) (idxV_at i j)

theorem biasV_at (h : Fin 8) (i j : Fin 1024) : biasV A (ix3 h i j) = AttnClass.bias A (AttnClass.rel i j) h := by
  pointwise [biasV, gV_at]

theorem qV_at (r : Fin 16) (h : Fin 8) (i : Fin 1024) (d : Fin 64) : qV A (ix4 r h i d) = A.qk (ix3 r i (AttnSpec.qcol h d)) := by
  unfold AttnSpec.qcol
  pointwise [qV]
theorem kV_at (r : Fin 16) (h : Fin 8) (i : Fin 1024) (d : Fin 64) : kV A (ix4 r h i d) = A.qk (ix3 r i (AttnSpec.kcol h d)) := by
  unfold AttnSpec.kcol
  pointwise [kV]
theorem vV_at (r : Fin 16) (h : Fin 8) (i : Fin 1024) (d : Fin 64) : vV A (ix4 r h i d) = A.v (ix3 r i (AttnSpec.lane h d)) := by
  unfold AttnSpec.lane
  pointwise [vV]

theorem neg_inf : Ideal.ofBits .f32 4286578688#32 = (⊥ : EReal) := by
  simp [Ideal.ofBits, Ideal.ieee]

theorem select_if (b : BitVec 1) (P : Prop) [Decidable P] (h : b = 1#1 ↔ P) (x y : EReal) : Scalar.select b x y = if P then x else y := by
  unfold Scalar.select
  by_cases hP : P
  · exact (if_pos (h.2 hP)).trans (if_pos hP).symm
  · exact (if_neg fun e => hP (h.1 e)).trans (if_neg hP).symm

theorem lV_at (r : Fin 16) (h : Fin 8) (i j : Fin 1024) : lV A (ix4 r h i j) = AttnClass.logit A r h i j := by
  unfold AttnClass.logit
  pointwise [lV, qV_at, kV_at, biasV_at, rel_at]
  exact (select_if _ _ (AttnClass.near_iff (by decide) i j) _ _).trans (congrArg _ neg_inf)

theorem mV_at (r : Fin 16) (h : Fin 8) (i : Fin 1024) : mV A (ix4 r h i 0) = AttnSpec.top (AttnClass.logit A r h i) := by
  unfold AttnSpec.top
  rw [← neg_inf]
  pointwise [mV, lV_at]

theorem pV_at (r : Fin 16) (h : Fin 8) (i j : Fin 1024) : pV A (ix4 r h i j) = AttnSpec.wt (AttnClass.logit A r h i) j := by
  unfold AttnSpec.wt
  pointwise [pV, lV_at, mV_at]

theorem dV_at (r : Fin 16) (h : Fin 8) (i : Fin 1024) : dV A (ix4 r h i 0) = ∑ j, AttnSpec.wt (AttnClass.logit A r h i) j := by
  pointwise [dV, pV_at]

theorem oV_at (r : Fin 16) (i : Fin 1024) (e : Fin 512) (h : Fin 8) (d : Fin 64) (he : e.val = h.val * 64 + d.val) : oV A (ix3 r i e) = AttnClass.out A r h d i := by
  obtain ⟨e, hlt⟩ := e
  obtain rfl : e = h.val * 64 + d.val := he
  unfold AttnClass.out AttnSpec.mean
  pointwise [oV, pV_at, vV_at, dV_at]

theorem add_log_at (x y : FVec Ideal S16x8x1024x1 .f32) (i : S16x8x1024x1.Idx) : addf x (Host.log y) i = x i + Ideal.log (y i) := by
  pointwise

theorem le_at (r : Fin 16) (h : Fin 8) (i : Fin 1024) : addf (mV A) (Host.log (dV A)) (ix4 r h i 0) = AttnClass.outl A r h i := by
  rw [add_log_at, mV_at, dV_at]
  exact Eq.refl (AttnSpec.lse (AttnClass.logit A r h i))

theorem spread_at (r : Fin 16) (y : FVec Ideal S16x8x1024x1 .f32) (i : Fin 1024) (e : Fin 512) (h : Fin 8) (d : Fin 64) (he : e.val = h.val * 64 + d.val) :
    spread y (ix3 r i e) = y (ix4 r h i 0) := by
  obtain ⟨e, hlt⟩ := e
  obtain rfl : e = h.val * 64 + d.val := he
  pointwise [spread]

theorem eV_at (r : Fin 16) (i : Fin 1024) (e : Fin 512) (h : Fin 8) (d : Fin 64) (he : e.val = h.val * 64 + d.val) : eV A (ix3 r i e) = AttnClass.outl A r h i :=
  (spread_at r _ i e h d he).trans (le_at A r h i)

end Cert.Proof.Attn16Ref
-- ==== Proof.Attn16Claims.lean ====
/- The attention of dilation 16: the frames, `preserves`, and the value claim. -/
module

public import proofs.«01_k».proof.Defs
public import proofs.«01_k».proof.Proof.Gen.Attn16
public import proofs.«01_k».proof.Proof.Gen.Pre_band_tables_d16
public import proofs.«01_k».proof.Proof.Attn16Run
public import proofs.«01_k».proof.Proof.Attn16Ref
public import proofs.«01_k».proof.Proof.Gen.Attn16ReferenceIdeal.Run
public import Idealize.ShloMosaic.Lib.Claim

@[expose] public section

set_option maxRecDepth 16384

noncomputable section

namespace Cert.Proof.Attn16Claims

open Idealize.ShloMosaic Idealize.ShloMosaic.TcCoe Idealize.SL.Sem

theorem defs_eq : Cert.Attn16.defs (F := Bits) = Cert.Attn16Ideal.defs (F := Bits) := by
  refine congrArg (Pipeline.defs Cert.Attn16Ideal.pcfgs) ?_
  funext p l a
  cases p
  · match l, a with
    | ⟨0, _⟩, _ => rfl
  all_goals rfl

/-- The kernel at the machine's floats. -/
theorem frame_kernel : Cert.quiescent_Attn16 := fun m ρ _ => by
  have h := Cert.Attn16Ideal.Gen.frame (F := Bits) m ρ
  rw [← defs_eq] at h
  exact h

/-- The kernel at the extended reals. -/
theorem frame_ideal : Cert.quiescent_Attn16Ideal := fun m ρ _ => Cert.Attn16Ideal.Gen.frame m ρ

theorem frame_ideal_pre : Cert.quiescent_Attn16Ideal_pre_band_tables_d16 := fun m ρ _ => Cert.Attn16Ideal.Gen.frame m ρ

/-- The reference declares no semaphore, and its run leaves its arguments as they were. -/
theorem frame_reference : Cert.quiescent_Attn16ReferenceIdeal := fun m ρ _ =>
  (θ_run Cert.Attn16ReferenceIdeal.defs _ _).mono (fun r h => ⟨fun c => (h c).2.2,
      Idealize.ShloMosaic.sem_eq_zero_of_no_sems (by decide) r.2⟩)
    (Cert.Attn16ReferenceIdeal.Value.run (F := Ideal) m ρ)

theorem frame_reference_pre : Cert.quiescent_Attn16ReferenceIdeal_pre_band_tables_d16 := fun m ρ _ => frame_reference m ρ trivial

/-- Nothing was rewritten between the kernel and its idealization. -/
theorem preserves : Cert.preserves_Attn16_Attn16Ideal := trivial

theorem true_of_bit (p : Bool) (h : BitVec.ofBool p = 1#1) : p = true := by
  revert h
  cases p <;> decide

/-- The precondition at an element: the table there is the one the band names. -/
theorem pre_at (A : AttnClass.Args 16 1024 16#32) (h : Cert.Pre_band_tables_d16.fn (F := Ideal) A.qk A.v A.tab A.rb = fun _ => 1#1) (i : (⟨4, ![3, 4, 256, 256]⟩ : Shape).Idx) :
    A.tab i = Attn16Table.want A i := by
  have e := congrFun ((Attn16Table.fn_eq A A.qk A.v).symm.trans h) i
  exact of_decide_eq_true (true_of_bit _ e)

theorem tables (m : (ℓ : Loc Cert.Attn16Ideal.nD Cert.Attn16Ideal.τ Cert.Attn16Ideal.sig) → Buf (Elt Ideal) ℓ)
    (h : Cert.Pre_Attn16Ideal_band_tables_d16 m) (c : Dev Cert.Attn16Ideal.nD) :
    ∀ i, (Attn16Run.kargs m c).tab i = Attn16Table.want (Attn16Run.kargs m c) i :=
  pre_at (Attn16Run.kargs m c) (h c)

/-- The reference's arguments, as the specification reads them. -/
def args (m : (ℓ : Loc Cert.Attn16ReferenceIdeal.nD Cert.Attn16ReferenceIdeal.τ Cert.Attn16ReferenceIdeal.sig) → Buf (Elt Ideal) ℓ)
    (c : Dev Cert.Attn16ReferenceIdeal.nD) : AttnClass.Args 16 1024 16#32 where
  qk := m (c.tc.loc Cert.Attn16ReferenceIdeal.main_arg0)
  v := m (c.tc.loc Cert.Attn16ReferenceIdeal.main_arg1)
  tab := m (c.tc.loc Cert.Attn16ReferenceIdeal.main_arg2)
  rb := m (c.tc.loc Cert.Attn16ReferenceIdeal.main_arg3)

/-- The kernel's two results are the reference's. -/
theorem algebraic : Cert.algebraic_Attn16Ideal_Attn16ReferenceIdeal_pre_band_tables_d16 := by
  intro m ρ m' ρ' hpre hagree
  refine ⟨_, _, Cert.Attn16Ideal.Value.run_blocks (F := Ideal) m ρ, ?_⟩
  refine (θ_run Cert.Attn16ReferenceIdeal.defs _ _).mono (fun r h c => ?_)
    (Cert.Attn16ReferenceIdeal.Value.run (F := Ideal) m' ρ')
  obtain ⟨h0, h1, hk⟩ := h c
  have hA : args m' c = Attn16Run.kargs m c := by
    obtain ⟨a0, a1, a2, a3⟩ := hagree c
    unfold args Attn16Run.kargs
    rw [a0, a1, a2, a3]
  have h0' : _ = Attn16Ref.oV (args m' c) := h0.trans rfl
  have h1' : _ = Attn16Ref.eV (args m' c) := h1.trans rfl
  rw [hA] at h0' h1'
  have ht := tables m hpre c
  refine ⟨h0'.trans ?_, h1'.trans ?_, hk⟩
  · rw [Attn16Run.final_o m c ht]
    funext i
    idx_vars i
    exact Attn16Ref.oV_at _ i0 i1 i2 ⟨i2.val / 64, by omega⟩ ⟨i2.val % 64, Nat.mod_lt _ (by decide)⟩ (Nat.div_add_mod' _ _).symm
  · rw [Attn16Run.final_l m c ht]
    funext i
    idx_vars i
    exact Attn16Ref.eV_at _ i0 i1 i2 ⟨i2.val / 64, by omega⟩ ⟨i2.val % 64, Nat.mod_lt _ (by decide)⟩ (Nat.div_add_mod' _ _).symm

end Cert.Proof.Attn16Claims

end
-- ==== Proof.lean ====
/-
  The certificate: the optimizer's calls, the folding of the norm weights' gradients, one sequence's combining call, the
  loss's all-reduce, the two weight-gradient products, the tail of the backward pass, the gradient of the position bias,
  the projection and the attention of the three dilations, each against its reference.
-/
module

public import proofs.«01_k».proof.Defs
public import proofs.«01_k».proof.Proof.StepIn
public import proofs.«01_k».proof.Proof.StepOut
public import proofs.«01_k».proof.Proof.StepSmall
public import proofs.«01_k».proof.Proof.FoldHeads
public import proofs.«01_k».proof.Proof.CombineClaims
public import proofs.«01_k».proof.Proof.TotalLoss
public import proofs.«01_k».proof.Proof.WgradIn
public import proofs.«01_k».proof.Proof.WgradOut
public import proofs.«01_k».proof.Proof.TailClaims
public import proofs.«01_k».proof.Proof.BiasClaims
public import proofs.«01_k».proof.Proof.ProjClaims
public import proofs.«01_k».proof.Proof.Attn1Claims
public import proofs.«01_k».proof.Proof.Attn4Claims
public import proofs.«01_k».proof.Proof.Attn16Claims
public import proofs.«01_k».proof.Proof.Gen.Pre_finite_lse
public import proofs.«01_k».proof.Proof.Gen.Pre_finite_heads
public import proofs.«01_k».proof.Proof.Gen.Pre_bucket_tables
public import proofs.«01_k».proof.Proof.Gen.Pre_finite_raw
public import proofs.«01_k».proof.Proof.Gen.Pre_band_tables
public import proofs.«01_k».proof.Proof.Gen.Pre_band_tables_d4
public import proofs.«01_k».proof.Proof.Gen.Pre_band_tables_d16
public import Idealize.ShloMosaic.Adequacy
public import Idealize.ShloMosaic.Init

@[expose] public section

noncomputable section

namespace Cert.Proof

open Idealize.ShloMosaic Idealize.SL.Sem

theorem claim : Cert.Claim :=
  ⟨Cert.StepIn.Gen.facts,
    Cert.StepInIdeal.Gen.facts,
    Cert.StepInReferenceIdeal.Gen.facts,
    Cert.StepOut.Gen.facts,
    Cert.StepOutIdeal.Gen.facts,
    Cert.StepOutReferenceIdeal.Gen.facts,
    Cert.StepSmall.Gen.facts,
    Cert.StepSmallIdeal.Gen.facts,
    Cert.StepSmallReferenceIdeal.Gen.facts,
    Cert.FoldHeads.Gen.facts,
    Cert.FoldHeadsIdeal.Gen.facts,
    Cert.FoldHeadsReferenceIdeal.Gen.facts,
    Cert.Combine.Gen.facts,
    Cert.CombineIdeal.Gen.facts,
    Cert.CombineReferenceIdeal.Gen.facts,
    Cert.TotalLoss.Gen.facts,
    Cert.TotalLossIdeal.Gen.facts,
    Cert.TotalLossReferenceIdeal.Gen.facts,
    Cert.WgradIn.Gen.facts,
    Cert.WgradInIdeal.Gen.facts,
    Cert.WgradInReferenceIdeal.Gen.facts,
    Cert.WgradOut.Gen.facts,
    Cert.WgradOutIdeal.Gen.facts,
    Cert.WgradOutReferenceIdeal.Gen.facts,
    Cert.Tail.Gen.facts,
    Cert.TailIdeal.Gen.facts,
    Cert.TailReferenceIdeal.Gen.facts,
    Cert.Bias.Gen.facts,
    Cert.BiasIdeal.Gen.facts,
    Cert.BiasReferenceIdeal.Gen.facts,
    Cert.Proj.Gen.facts,
    Cert.ProjIdeal.Gen.facts,
    Cert.ProjReferenceIdeal.Gen.facts,
    Cert.Attn1.Gen.facts,
    Cert.Attn1Ideal.Gen.facts,
    Cert.Attn1ReferenceIdeal.Gen.facts,
    Cert.Attn4.Gen.facts,
    Cert.Attn4Ideal.Gen.facts,
    Cert.Attn4ReferenceIdeal.Gen.facts,
    Cert.Attn16.Gen.facts,
    Cert.Attn16Ideal.Gen.facts,
    Cert.Attn16ReferenceIdeal.Gen.facts,
    Cert.Pre_finite_lse.Gen.facts,
    Cert.Pre_finite_heads.Gen.facts,
    Cert.Pre_bucket_tables.Gen.facts,
    Cert.Pre_finite_raw.Gen.facts,
    Cert.Pre_band_tables.Gen.facts,
    Cert.Pre_band_tables_d4.Gen.facts,
    Cert.Pre_band_tables_d16.Gen.facts,
    StepInClaims.frame_kernel,
    StepInClaims.frame_ideal,
    StepInClaims.frame_reference,
    StepOutClaims.frame_kernel,
    StepOutClaims.frame_ideal,
    StepOutClaims.frame_reference,
    StepSmallClaims.frame_kernel,
    StepSmallClaims.frame_ideal,
    StepSmallClaims.frame_reference,
    FoldHeadsClaims.frame_kernel,
    FoldHeadsClaims.frame_ideal,
    FoldHeadsClaims.frame_reference,
    CombineClaims.frame_kernel,
    CombineClaims.frame_ideal,
    CombineClaims.frame_ideal_pre,
    CombineClaims.frame_reference,
    CombineClaims.frame_reference_pre,
    TotalLossClaims.frame_kernel,
    TotalLossClaims.frame_ideal,
    TotalLossClaims.frame_reference,
    WgradInClaims.frame_kernel,
    WgradInClaims.frame_ideal,
    WgradInClaims.frame_reference,
    WgradOutClaims.frame_kernel,
    WgradOutClaims.frame_ideal,
    WgradOutClaims.frame_reference,
    TailClaims.frame_kernel,
    TailClaims.frame_ideal,
    TailClaims.frame_ideal_pre,
    TailClaims.frame_reference,
    TailClaims.frame_reference_pre,
    BiasClaims.frame_kernel,
    BiasClaims.frame_ideal,
    BiasClaims.frame_ideal_pre,
    BiasClaims.frame_reference,
    BiasClaims.frame_reference_pre,
    ProjClaims.frame_kernel,
    ProjClaims.frame_ideal,
    ProjClaims.frame_ideal_pre,
    ProjClaims.frame_reference,
    ProjClaims.frame_reference_pre,
    Attn1Claims.frame_kernel,
    Attn1Claims.frame_ideal,
    Attn1Claims.frame_ideal_pre,
    Attn1Claims.frame_reference,
    Attn1Claims.frame_reference_pre,
    Attn4Claims.frame_kernel,
    Attn4Claims.frame_ideal,
    Attn4Claims.frame_ideal_pre,
    Attn4Claims.frame_reference,
    Attn4Claims.frame_reference_pre,
    Attn16Claims.frame_kernel,
    Attn16Claims.frame_ideal,
    Attn16Claims.frame_ideal_pre,
    Attn16Claims.frame_reference,
    Attn16Claims.frame_reference_pre,
    StepInClaims.preserves,
    StepInClaims.algebraic,
    StepOutClaims.preserves,
    StepOutClaims.algebraic,
    StepSmallClaims.preserves,
    StepSmallClaims.algebraic,
    FoldHeadsClaims.preserves,
    FoldHeadsClaims.algebraic,
    CombineClaims.preserves,
    CombineClaims.algebraic,
    TotalLossClaims.preserves,
    TotalLossClaims.algebraic,
    WgradInClaims.preserves,
    WgradInClaims.algebraic,
    WgradOutClaims.preserves,
    WgradOutClaims.algebraic,
    TailClaims.preserves,
    TailClaims.algebraic,
    BiasClaims.preserves,
    BiasClaims.algebraic,
    ProjClaims.preserves,
    ProjClaims.algebraic,
    Attn1Claims.preserves,
    Attn1Claims.algebraic,
    Attn4Claims.preserves,
    Attn4Claims.algebraic,
    Attn16Claims.preserves,
    Attn16Claims.algebraic⟩

end Cert.Proof

end
